-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_ForgetBwd (m : (ℓ : Loc Cert.ForgetBwd.nD Cert.ForgetBwd.τ Cert.ForgetBwd.sig) → Buf (Elt Bits) ℓ) : Prop :=
  True

def Pre_ForgetBwdIdeal (m : (ℓ : Loc Cert.ForgetBwdIdeal.nD Cert.ForgetBwdIdeal.τ Cert.ForgetBwdIdeal.sig) → Buf (Elt Ideal) ℓ) : Prop :=
  True

def Pre_ForgetBwdIdeal_forget_finite [hPre_forget_finite : Cert.Pre_forget_finite.Facts] (m : (ℓ : Loc Cert.ForgetBwdIdeal.nD Cert.ForgetBwdIdeal.τ Cert.ForgetBwdIdeal.sig) → Buf (Elt Ideal) ℓ) : Prop :=
  ∀ c : Dev Cert.ForgetBwdIdeal.nD,
    (Cert.Pre_forget_finite.fn (F := Ideal) (m ((c.tc : Thread Cert.ForgetBwdIdeal.nD Cert.ForgetBwdIdeal.τ).loc Cert.ForgetBwdIdeal.main_arg0)) (m ((c.tc : Thread Cert.ForgetBwdIdeal.nD Cert.ForgetBwdIdeal.τ).loc Cert.ForgetBwdIdeal.main_arg1)) (m ((c.tc : Thread Cert.ForgetBwdIdeal.nD Cert.ForgetBwdIdeal.τ).loc Cert.ForgetBwdIdeal.main_arg2)) (m ((c.tc : Thread Cert.ForgetBwdIdeal.nD Cert.ForgetBwdIdeal.τ).loc Cert.ForgetBwdIdeal.main_arg3))).1 = (fun _ => 1#1)
    ∧ (Cert.Pre_forget_finite.fn (F := Ideal) (m ((c.tc : Thread Cert.ForgetBwdIdeal.nD Cert.ForgetBwdIdeal.τ).loc Cert.ForgetBwdIdeal.main_arg0)) (m ((c.tc : Thread Cert.ForgetBwdIdeal.nD Cert.ForgetBwdIdeal.τ).loc Cert.ForgetBwdIdeal.main_arg1)) (m ((c.tc : Thread Cert.ForgetBwdIdeal.nD Cert.ForgetBwdIdeal.τ).loc Cert.ForgetBwdIdeal.main_arg2)) (m ((c.tc : Thread Cert.ForgetBwdIdeal.nD Cert.ForgetBwdIdeal.τ).loc Cert.ForgetBwdIdeal.main_arg3))).2 = (fun _ => 1#1)

def Pre_ForgetBwdRefIdeal (m : (ℓ : Loc Cert.ForgetBwdRefIdeal.nD Cert.ForgetBwdRefIdeal.τ Cert.ForgetBwdRefIdeal.sig) → Buf (Elt Ideal) ℓ) : Prop :=
  True

def Pre_ForgetBwdRefIdeal_forget_finite [hPre_forget_finite : Cert.Pre_forget_finite.Facts] (m : (ℓ : Loc Cert.ForgetBwdRefIdeal.nD Cert.ForgetBwdRefIdeal.τ Cert.ForgetBwdRefIdeal.sig) → Buf (Elt Ideal) ℓ) : Prop :=
  ∀ c : Dev Cert.ForgetBwdRefIdeal.nD,
    (Cert.Pre_forget_finite.fn (F := Ideal) (m ((c.tc : Thread Cert.ForgetBwdRefIdeal.nD Cert.ForgetBwdRefIdeal.τ).loc Cert.ForgetBwdRefIdeal.main_arg0)) (m ((c.tc : Thread Cert.ForgetBwdRefIdeal.nD Cert.ForgetBwdRefIdeal.τ).loc Cert.ForgetBwdRefIdeal.main_arg1)) (m ((c.tc : Thread Cert.ForgetBwdRefIdeal.nD Cert.ForgetBwdRefIdeal.τ).loc Cert.ForgetBwdRefIdeal.main_arg2)) (m ((c.tc : Thread Cert.ForgetBwdRefIdeal.nD Cert.ForgetBwdRefIdeal.τ).loc Cert.ForgetBwdRefIdeal.main_arg3))).1 = (fun _ => 1#1)
    ∧ (Cert.Pre_forget_finite.fn (F := Ideal) (m ((c.tc : Thread Cert.ForgetBwdRefIdeal.nD Cert.ForgetBwdRefIdeal.τ).loc Cert.ForgetBwdRefIdeal.main_arg0)) (m ((c.tc : Thread Cert.ForgetBwdRefIdeal.nD Cert.ForgetBwdRefIdeal.τ).loc Cert.ForgetBwdRefIdeal.main_arg1)) (m ((c.tc : Thread Cert.ForgetBwdRefIdeal.nD Cert.ForgetBwdRefIdeal.τ).loc Cert.ForgetBwdRefIdeal.main_arg2)) (m ((c.tc : Thread Cert.ForgetBwdRefIdeal.nD Cert.ForgetBwdRefIdeal.τ).loc Cert.ForgetBwdRefIdeal.main_arg3))).2 = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_act_finite [hPre_act_finite : Cert.Pre_act_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_act_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2))).1 = (fun _ => 1#1)
    ∧ (Cert.Pre_act_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2))).2.1 = (fun _ => 1#1)
    ∧ (Cert.Pre_act_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2))).2.2 = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_act_finite [hPre_act_finite : Cert.Pre_act_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_act_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2))).1 = (fun _ => 1#1)
    ∧ (Cert.Pre_act_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2))).2.1 = (fun _ => 1#1)
    ∧ (Cert.Pre_act_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2))).2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).2.2.2 = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_mix_out_finite [hPre_mix_out_finite : Cert.Pre_mix_out_finite.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6))).1 = (fun _ => 1#1)
    ∧ (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6))).2.1 = (fun _ => 1#1)
    ∧ (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6))).2.2.1 = (fun _ => 1#1)
    ∧ (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6))).2.2.2.1 = (fun _ => 1#1)
    ∧ (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6))).2.2.2.2.1 = (fun _ => 1#1)
    ∧ (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6))).2.2.2.2.2.1 = (fun _ => 1#1)
    ∧ (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6))).2.2.2.2.2.2 = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_mix_out_finite [hPre_mix_out_finite : Cert.Pre_mix_out_finite.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6))).1 = (fun _ => 1#1)
    ∧ (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6))).2.1 = (fun _ => 1#1)
    ∧ (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6))).2.2.1 = (fun _ => 1#1)
    ∧ (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6))).2.2.2.1 = (fun _ => 1#1)
    ∧ (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6))).2.2.2.2.1 = (fun _ => 1#1)
    ∧ (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6))).2.2.2.2.2.1 = (fun _ => 1#1)
    ∧ (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6))).2.2.2.2.2.2 = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_mix_in_finite [hPre_mix_in_finite : Cert.Pre_mix_in_finite.Facts] (m : (ℓ : Loc Cert.MixInIdeal.nD Cert.MixInIdeal.τ Cert.MixInIdeal.sig) → Buf (Elt Ideal) ℓ) : Prop :=
  ∀ c : Dev Cert.MixInIdeal.nD,
    (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))).1 = (fun _ => 1#1)
    ∧ (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))).2.1 = (fun _ => 1#1)
    ∧ (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))).2.2.1 = (fun _ => 1#1)
    ∧ (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))).2.2.2 = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_mix_in_finite [hPre_mix_in_finite : Cert.Pre_mix_in_finite.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))).1 = (fun _ => 1#1)
    ∧ (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))).2.1 = (fun _ => 1#1)
    ∧ (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))).2.2.1 = (fun _ => 1#1)
    ∧ (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))).2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.2 = (fun _ => 1#1)

def Pre_ForgetSum (m : (ℓ : Loc Cert.ForgetSum.nD Cert.ForgetSum.τ Cert.ForgetSum.sig) → Buf (Elt Bits) ℓ) : Prop :=
  True

def Pre_ForgetSumIdeal (m : (ℓ : Loc Cert.ForgetSumIdeal.nD Cert.ForgetSumIdeal.τ Cert.ForgetSumIdeal.sig) → Buf (Elt Ideal) ℓ) : Prop :=
  True

def Pre_ForgetSumRefIdeal (m : (ℓ : Loc Cert.ForgetSumRefIdeal.nD Cert.ForgetSumRefIdeal.τ Cert.ForgetSumRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_fwd_finite [hPre_mix_fwd_finite : Cert.Pre_mix_fwd_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_fwd_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7))).1 = (fun _ => 1#1)
    ∧ (Cert.Pre_mix_fwd_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7))).2.1 = (fun _ => 1#1)
    ∧ (Cert.Pre_mix_fwd_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7))).2.2 = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_mix_fwd_finite [hPre_mix_fwd_finite : Cert.Pre_mix_fwd_finite.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_mix_fwd_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7))).1 = (fun _ => 1#1)
    ∧ (Cert.Pre_mix_fwd_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7))).2.1 = (fun _ => 1#1)
    ∧ (Cert.Pre_mix_fwd_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7))).2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_ForgetBwd [hForgetBwd : Cert.ForgetBwd.Facts] : Prop :=
  ∀ (m : (ℓ : Loc Cert.ForgetBwd.nD Cert.ForgetBwd.τ Cert.ForgetBwd.sig) → Buf (Elt Bits) ℓ) (g : Dev Cert.ForgetBwd.nD → PrngReg), Pre_ForgetBwd m →
    θ_run (Cert.ForgetBwd.defs (F := Bits)) (onTc (τ := Cert.ForgetBwd.τ) (Cert.ForgetBwd.main (F := Bits))) ⟨m, fun _ => 0, g⟩ (fun r => (∀ c : Dev Cert.ForgetBwd.nD,
      r.2.mem ((c.tc : Thread Cert.ForgetBwd.nD Cert.ForgetBwd.τ).loc Cert.ForgetBwd.main_arg0) = m ((c.tc : Thread Cert.ForgetBwd.nD Cert.ForgetBwd.τ).loc Cert.ForgetBwd.main_arg0)
      ∧ r.2.mem ((c.tc : Thread Cert.ForgetBwd.nD Cert.ForgetBwd.τ).loc Cert.ForgetBwd.main_arg1) = m ((c.tc : Thread Cert.ForgetBwd.nD Cert.ForgetBwd.τ).loc Cert.ForgetBwd.main_arg1)
      ∧ r.2.mem ((c.tc : Thread Cert.ForgetBwd.nD Cert.ForgetBwd.τ).loc Cert.ForgetBwd.main_arg2) = m ((c.tc : Thread Cert.ForgetBwd.nD Cert.ForgetBwd.τ).loc Cert.ForgetBwd.main_arg2)
      ∧ r.2.mem ((c.tc : Thread Cert.ForgetBwd.nD Cert.ForgetBwd.τ).loc Cert.ForgetBwd.main_arg3) = m ((c.tc : Thread Cert.ForgetBwd.nD Cert.ForgetBwd.τ).loc Cert.ForgetBwd.main_arg3))
      ∧ r.2.sem = fun _ => 0)

def quiescent_ForgetBwdIdeal [hForgetBwdIdeal : Cert.ForgetBwdIdeal.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg), Pre_ForgetBwdIdeal m →
    θ_run (Cert.ForgetBwdIdeal.defs (F := Ideal)) (onTc (τ := Cert.ForgetBwdIdeal.τ) (Cert.ForgetBwdIdeal.main (F := Ideal))) ⟨m, fun _ => 0, g⟩ (fun r => (∀ c : Dev Cert.ForgetBwdIdeal.nD,
      r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
      ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
      ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
      ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3))
      ∧ r.2.sem = fun _ => 0)

def quiescent_ForgetBwdIdeal_pre_forget_finite [hForgetBwdIdeal : Cert.ForgetBwdIdeal.Facts] [hPre_forget_finite : Cert.Pre_forget_finite.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg), Pre_ForgetBwdIdeal_forget_finite m →
    θ_run (Cert.ForgetBwdIdeal.defs (F := Ideal)) (onTc (τ := Cert.ForgetBwdIdeal.τ) (Cert.ForgetBwdIdeal.main (F := Ideal))) ⟨m, fun _ => 0, g⟩ (fun r => (∀ c : Dev Cert.ForgetBwdIdeal.nD,
      r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
      ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
      ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
      ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3))
      ∧ r.2.sem = fun _ => 0)

def quiescent_ForgetBwdRefIdeal [hForgetBwdRefIdeal : Cert.ForgetBwdRefIdeal.Facts] : Prop :=
  ∀ (m : (ℓ : Loc Cert.ForgetBwdRefIdeal.nD Cert.ForgetBwdRefIdeal.τ Cert.ForgetBwdRefIdeal.sig) → Buf (Elt Ideal) ℓ) (g : Dev Cert.ForgetBwdRefIdeal.nD → PrngReg), Pre_ForgetBwdRefIdeal m →
    θ_run (Cert.ForgetBwdRefIdeal.defs (F := Ideal)) (onTc (τ := Cert.ForgetBwdRefIdeal.τ) (Cert.ForgetBwdRefIdeal.main (F := Ideal))) ⟨m, fun _ => 0, g⟩ (fun r => (∀ c : Dev Cert.ForgetBwdRefIdeal.nD,
      r.2.mem ((c.tc : Thread Cert.ForgetBwdRefIdeal.nD Cert.ForgetBwdRefIdeal.τ).loc Cert.ForgetBwdRefIdeal.main_arg0) = m ((c.tc : Thread Cert.ForgetBwdRefIdeal.nD Cert.ForgetBwdRefIdeal.τ).loc Cert.ForgetBwdRefIdeal.main_arg0)
      ∧ r.2.mem ((c.tc : Thread Cert.ForgetBwdRefIdeal.nD Cert.ForgetBwdRefIdeal.τ).loc Cert.ForgetBwdRefIdeal.main_arg1) = m ((c.tc : Thread Cert.ForgetBwdRefIdeal.nD Cert.ForgetBwdRefIdeal.τ).loc Cert.ForgetBwdRefIdeal.main_arg1)
      ∧ r.2.mem ((c.tc : Thread Cert.ForgetBwdRefIdeal.nD Cert.ForgetBwdRefIdeal.τ).loc Cert.ForgetBwdRefIdeal.main_arg2) = m ((c.tc : Thread Cert.ForgetBwdRefIdeal.nD Cert.ForgetBwdRefIdeal.τ).loc Cert.ForgetBwdRefIdeal.main_arg2)
      ∧ r.2.mem ((c.tc : Thread Cert.ForgetBwdRefIdeal.nD Cert.ForgetBwdRefIdeal.τ).loc Cert.ForgetBwdRefIdeal.main_arg3) = m ((c.tc : Thread Cert.ForgetBwdRefIdeal.nD Cert.ForgetBwdRefIdeal.τ).loc Cert.ForgetBwdRefIdeal.main_arg3))
      ∧ r.2.sem = fun _ => 0)

def quiescent_ForgetBwdRefIdeal_pre_forget_finite [hForgetBwdRefIdeal : Cert.ForgetBwdRefIdeal.Facts] [hPre_forget_finite : Cert.Pre_forget_finite.Facts] : Prop :=
  ∀ (m : (ℓ : Loc Cert.ForgetBwdRefIdeal.nD Cert.ForgetBwdRefIdeal.τ Cert.ForgetBwdRefIdeal.sig) → Buf (Elt Ideal) ℓ) (g : Dev Cert.ForgetBwdRefIdeal.nD → PrngReg), Pre_ForgetBwdRefIdeal_forget_finite m →
    θ_run (Cert.ForgetBwdRefIdeal.defs (F := Ideal)) (onTc (τ := Cert.ForgetBwdRefIdeal.τ) (Cert.ForgetBwdRefIdeal.main (F := Ideal))) ⟨m, fun _ => 0, g⟩ (fun r => (∀ c : Dev Cert.ForgetBwdRefIdeal.nD,
      r.2.mem ((c.tc : Thread Cert.ForgetBwdRefIdeal.nD Cert.ForgetBwdRefIdeal.τ).loc Cert.ForgetBwdRefIdeal.main_arg0) = m ((c.tc : Thread Cert.ForgetBwdRefIdeal.nD Cert.ForgetBwdRefIdeal.τ).loc Cert.ForgetBwdRefIdeal.main_arg0)
      ∧ r.2.mem ((c.tc : Thread Cert.ForgetBwdRefIdeal.nD Cert.ForgetBwdRefIdeal.τ).loc Cert.ForgetBwdRefIdeal.main_arg1) = m ((c.tc : Thread Cert.ForgetBwdRefIdeal.nD Cert.ForgetBwdRefIdeal.τ).loc Cert.ForgetBwdRefIdeal.main_arg1)
      ∧ r.2.mem ((c.tc : Thread Cert.ForgetBwdRefIdeal.nD Cert.ForgetBwdRefIdeal.τ).loc Cert.ForgetBwdRefIdeal.main_arg2) = m ((c.tc : Thread Cert.ForgetBwdRefIdeal.nD Cert.ForgetBwdRefIdeal.τ).loc Cert.ForgetBwdRefIdeal.main_arg2)
      ∧ r.2.mem ((c.tc : Thread Cert.ForgetBwdRefIdeal.nD Cert.ForgetBwdRefIdeal.τ).loc Cert.ForgetBwdRefIdeal.main_arg3) = m ((c.tc : Thread Cert.ForgetBwdRefIdeal.nD Cert.ForgetBwdRefIdeal.τ).loc Cert.ForgetBwdRefIdeal.main_arg3))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActIdeal_pre_act_finite [hFfnActIdeal : Cert.FfnActIdeal.Facts] [hPre_act_finite : Cert.Pre_act_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_act_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_FfnActRefIdeal_pre_act_finite [hFfnActRefIdeal : Cert.FfnActRefIdeal.Facts] [hPre_act_finite : Cert.Pre_act_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_act_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutIdeal_pre_mix_out_finite [hMixOutIdeal : Cert.MixOutIdeal.Facts] [hPre_mix_out_finite : Cert.Pre_mix_out_finite.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_mix_out_finite m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_MixOutRefIdeal_pre_mix_out_finite [hMixOutRefIdeal : Cert.MixOutRefIdeal.Facts] [hPre_mix_out_finite : Cert.Pre_mix_out_finite.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_mix_out_finite m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInIdeal_pre_mix_in_finite [hMixInIdeal : Cert.MixInIdeal.Facts] [hPre_mix_in_finite : Cert.Pre_mix_in_finite.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_mix_in_finite m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixInRefIdeal_pre_mix_in_finite [hMixInRefIdeal : Cert.MixInRefIdeal.Facts] [hPre_mix_in_finite : Cert.Pre_mix_in_finite.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_mix_in_finite m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_ForgetSum [hForgetSum : Cert.ForgetSum.Facts] : Prop :=
  ∀ (m : (ℓ : Loc Cert.ForgetSum.nD Cert.ForgetSum.τ Cert.ForgetSum.sig) → Buf (Elt Bits) ℓ) (g : Dev Cert.ForgetSum.nD → PrngReg), Pre_ForgetSum m →
    θ_run (Cert.ForgetSum.defs (F := Bits)) (onTc (τ := Cert.ForgetSum.τ) (Cert.ForgetSum.main (F := Bits))) ⟨m, fun _ => 0, g⟩ (fun r => (∀ c : Dev Cert.ForgetSum.nD,
      r.2.mem ((c.tc : Thread Cert.ForgetSum.nD Cert.ForgetSum.τ).loc Cert.ForgetSum.main_arg0) = m ((c.tc : Thread Cert.ForgetSum.nD Cert.ForgetSum.τ).loc Cert.ForgetSum.main_arg0)
      ∧ r.2.mem ((c.tc : Thread Cert.ForgetSum.nD Cert.ForgetSum.τ).loc Cert.ForgetSum.main_arg1) = m ((c.tc : Thread Cert.ForgetSum.nD Cert.ForgetSum.τ).loc Cert.ForgetSum.main_arg1))
      ∧ r.2.sem = fun _ => 0)

def quiescent_ForgetSumIdeal [hForgetSumIdeal : Cert.ForgetSumIdeal.Facts] : Prop :=
  ∀ (m : (ℓ : Loc Cert.ForgetSumIdeal.nD Cert.ForgetSumIdeal.τ Cert.ForgetSumIdeal.sig) → Buf (Elt Ideal) ℓ) (g : Dev Cert.ForgetSumIdeal.nD → PrngReg), Pre_ForgetSumIdeal m →
    θ_run (Cert.ForgetSumIdeal.defs (F := Ideal)) (onTc (τ := Cert.ForgetSumIdeal.τ) (Cert.ForgetSumIdeal.main (F := Ideal))) ⟨m, fun _ => 0, g⟩ (fun r => (∀ c : Dev Cert.ForgetSumIdeal.nD,
      r.2.mem ((c.tc : Thread Cert.ForgetSumIdeal.nD Cert.ForgetSumIdeal.τ).loc Cert.ForgetSumIdeal.main_arg0) = m ((c.tc : Thread Cert.ForgetSumIdeal.nD Cert.ForgetSumIdeal.τ).loc Cert.ForgetSumIdeal.main_arg0)
      ∧ r.2.mem ((c.tc : Thread Cert.ForgetSumIdeal.nD Cert.ForgetSumIdeal.τ).loc Cert.ForgetSumIdeal.main_arg1) = m ((c.tc : Thread Cert.ForgetSumIdeal.nD Cert.ForgetSumIdeal.τ).loc Cert.ForgetSumIdeal.main_arg1))
      ∧ r.2.sem = fun _ => 0)

def quiescent_ForgetSumRefIdeal [hForgetSumRefIdeal : Cert.ForgetSumRefIdeal.Facts] : Prop :=
  ∀ (m : (ℓ : Loc Cert.ForgetSumRefIdeal.nD Cert.ForgetSumRefIdeal.τ Cert.ForgetSumRefIdeal.sig) → Buf (Elt Ideal) ℓ) (g : Dev Cert.ForgetSumRefIdeal.nD → PrngReg), Pre_ForgetSumRefIdeal m →
    θ_run (Cert.ForgetSumRefIdeal.defs (F := Ideal)) (onTc (τ := Cert.ForgetSumRefIdeal.τ) (Cert.ForgetSumRefIdeal.main (F := Ideal))) ⟨m, fun _ => 0, g⟩ (fun r => (∀ c : Dev Cert.ForgetSumRefIdeal.nD,
      r.2.mem ((c.tc : Thread Cert.ForgetSumRefIdeal.nD Cert.ForgetSumRefIdeal.τ).loc Cert.ForgetSumRefIdeal.main_arg0) = m ((c.tc : Thread Cert.ForgetSumRefIdeal.nD Cert.ForgetSumRefIdeal.τ).loc Cert.ForgetSumRefIdeal.main_arg0)
      ∧ r.2.mem ((c.tc : Thread Cert.ForgetSumRefIdeal.nD Cert.ForgetSumRefIdeal.τ).loc Cert.ForgetSumRefIdeal.main_arg1) = m ((c.tc : Thread Cert.ForgetSumRefIdeal.nD Cert.ForgetSumRefIdeal.τ).loc Cert.ForgetSumRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ r.2.sem = fun _ => 0)

def quiescent_MixFwdIdeal_pre_mix_fwd_finite [hMixFwdIdeal : Cert.MixFwdIdeal.Facts] [hPre_mix_fwd_finite : Cert.Pre_mix_fwd_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_fwd_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7))
      ∧ r.2.sem = fun _ => 0)

def quiescent_MixFwdRefIdeal_pre_mix_fwd_finite [hMixFwdRefIdeal : Cert.MixFwdRefIdeal.Facts] [hPre_mix_fwd_finite : Cert.Pre_mix_fwd_finite.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_mix_fwd_finite m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v5)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v5) = v0 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v45) = v0 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_ForgetBwd_ForgetBwdIdeal : Prop :=
  True

def algebraic_ForgetBwdIdeal_ForgetBwdRefIdeal_pre_forget_finite [hForgetBwdIdeal : Cert.ForgetBwdIdeal.Facts] [hForgetBwdRefIdeal : Cert.ForgetBwdRefIdeal.Facts] [hPre_forget_finite : Cert.Pre_forget_finite.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg)
    (m' : (ℓ : Loc Cert.ForgetBwdRefIdeal.nD Cert.ForgetBwdRefIdeal.τ Cert.ForgetBwdRefIdeal.sig) → Buf (Elt Ideal) ℓ) (g' : Dev Cert.ForgetBwdRefIdeal.nD → PrngReg), Pre_ForgetBwdIdeal_forget_finite m →
    (∀ c : Dev Cert.ForgetBwdIdeal.nD,
      m' ((c.tc : Thread Cert.ForgetBwdRefIdeal.nD Cert.ForgetBwdRefIdeal.τ).loc Cert.ForgetBwdRefIdeal.main_arg0) = m ((c.tc : Thread Cert.ForgetBwdIdeal.nD Cert.ForgetBwdIdeal.τ).loc Cert.ForgetBwdIdeal.main_arg0)
      ∧ m' ((c.tc : Thread Cert.ForgetBwdRefIdeal.nD Cert.ForgetBwdRefIdeal.τ).loc Cert.ForgetBwdRefIdeal.main_arg1) = m ((c.tc : Thread Cert.ForgetBwdIdeal.nD Cert.ForgetBwdIdeal.τ).loc Cert.ForgetBwdIdeal.main_arg1)
      ∧ m' ((c.tc : Thread Cert.ForgetBwdRefIdeal.nD Cert.ForgetBwdRefIdeal.τ).loc Cert.ForgetBwdRefIdeal.main_arg2) = m ((c.tc : Thread Cert.ForgetBwdIdeal.nD Cert.ForgetBwdIdeal.τ).loc Cert.ForgetBwdIdeal.main_arg2)
      ∧ m' ((c.tc : Thread Cert.ForgetBwdRefIdeal.nD Cert.ForgetBwdRefIdeal.τ).loc Cert.ForgetBwdRefIdeal.main_arg3) = m ((c.tc : Thread Cert.ForgetBwdIdeal.nD Cert.ForgetBwdIdeal.τ).loc Cert.ForgetBwdIdeal.main_arg3)) →
    ∃ (v0 : (c : Dev Cert.ForgetBwdIdeal.nD) → Buf (Elt Ideal) ((c.tc : Thread Cert.ForgetBwdIdeal.nD Cert.ForgetBwdIdeal.τ).loc Cert.ForgetBwdIdeal.main_v4_0)) (v1 : (c : Dev Cert.ForgetBwdIdeal.nD) → Buf (Elt Ideal) ((c.tc : Thread Cert.ForgetBwdIdeal.nD Cert.ForgetBwdIdeal.τ).loc Cert.ForgetBwdIdeal.main_v4_1)),
      θ_run (Cert.ForgetBwdIdeal.defs (F := Ideal)) (onTc (τ := Cert.ForgetBwdIdeal.τ) (Cert.ForgetBwdIdeal.main (F := Ideal))) ⟨m, fun _ => 0, g⟩ (fun r => ∀ c : Dev Cert.ForgetBwdIdeal.nD,
          r.2.mem ((c.tc : Thread Cert.ForgetBwdIdeal.nD Cert.ForgetBwdIdeal.τ).loc Cert.ForgetBwdIdeal.main_v4_0) = v0 c
          ∧ r.2.mem ((c.tc : Thread Cert.ForgetBwdIdeal.nD Cert.ForgetBwdIdeal.τ).loc Cert.ForgetBwdIdeal.main_v4_1) = v1 c
          ∧ r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
          ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
          ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
          ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3))
      ∧ θ_run (Cert.ForgetBwdRefIdeal.defs (F := Ideal)) (onTc (τ := Cert.ForgetBwdRefIdeal.τ) (Cert.ForgetBwdRefIdeal.main (F := Ideal))) ⟨m', fun _ => 0, g'⟩ (fun r => ∀ c : Dev Cert.ForgetBwdRefIdeal.nD,
          r.2.mem ((c.tc : Thread Cert.ForgetBwdRefIdeal.nD Cert.ForgetBwdRefIdeal.τ).loc Cert.ForgetBwdRefIdeal.main_v16) = v0 c
          ∧ r.2.mem ((c.tc : Thread Cert.ForgetBwdRefIdeal.nD Cert.ForgetBwdRefIdeal.τ).loc Cert.ForgetBwdRefIdeal.main_v17) = v1 c
          ∧ r.2.mem ((c.tc : Thread Cert.ForgetBwdRefIdeal.nD Cert.ForgetBwdRefIdeal.τ).loc Cert.ForgetBwdRefIdeal.main_arg0) = m' ((c.tc : Thread Cert.ForgetBwdRefIdeal.nD Cert.ForgetBwdRefIdeal.τ).loc Cert.ForgetBwdRefIdeal.main_arg0)
          ∧ r.2.mem ((c.tc : Thread Cert.ForgetBwdRefIdeal.nD Cert.ForgetBwdRefIdeal.τ).loc Cert.ForgetBwdRefIdeal.main_arg1) = m' ((c.tc : Thread Cert.ForgetBwdRefIdeal.nD Cert.ForgetBwdRefIdeal.τ).loc Cert.ForgetBwdRefIdeal.main_arg1)
          ∧ r.2.mem ((c.tc : Thread Cert.ForgetBwdRefIdeal.nD Cert.ForgetBwdRefIdeal.τ).loc Cert.ForgetBwdRefIdeal.main_arg2) = m' ((c.tc : Thread Cert.ForgetBwdRefIdeal.nD Cert.ForgetBwdRefIdeal.τ).loc Cert.ForgetBwdRefIdeal.main_arg2)
          ∧ r.2.mem ((c.tc : Thread Cert.ForgetBwdRefIdeal.nD Cert.ForgetBwdRefIdeal.τ).loc Cert.ForgetBwdRefIdeal.main_arg3) = m' ((c.tc : Thread Cert.ForgetBwdRefIdeal.nD Cert.ForgetBwdRefIdeal.τ).loc Cert.ForgetBwdRefIdeal.main_arg3))

def preserves_FfnAct_FfnActIdeal : Prop :=
  True

def algebraic_FfnActIdeal_FfnActRefIdeal_pre_act_finite [hFfnActIdeal : Cert.FfnActIdeal.Facts] [hFfnActRefIdeal : Cert.FfnActRefIdeal.Facts] [hPre_act_finite : Cert.Pre_act_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_act_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v5_0)) (v1 : (c : Dev Cert.FfnActIdeal.nD) → Buf (Elt Ideal) ((c.tc : Thread Cert.FfnActIdeal.nD Cert.FfnActIdeal.τ).loc Cert.FfnActIdeal.main_v5_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v5_0) = v0 c
          ∧ r.2.mem ((c.tc : Thread Cert.FfnActIdeal.nD Cert.FfnActIdeal.τ).loc Cert.FfnActIdeal.main_v5_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v17) = v0 c
          ∧ r.2.mem ((c.tc : Thread Cert.FfnActRefIdeal.nD Cert.FfnActRefIdeal.τ).loc Cert.FfnActRefIdeal.main_v6) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v6_0)) (v1 : (c : Dev Cert.FfnInIdeal.nD) → Buf (Elt Ideal) ((c.tc : Thread Cert.FfnInIdeal.nD Cert.FfnInIdeal.τ).loc Cert.FfnInIdeal.main_v6_1)) (v2 : (c : Dev Cert.FfnInIdeal.nD) → Buf (Elt Ideal) ((c.tc : Thread Cert.FfnInIdeal.nD Cert.FfnInIdeal.τ).loc Cert.FfnInIdeal.main_v6_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v6_0) = v0 c
          ∧ r.2.mem ((c.tc : Thread Cert.FfnInIdeal.nD Cert.FfnInIdeal.τ).loc Cert.FfnInIdeal.main_v6_1) = v1 c
          ∧ r.2.mem ((c.tc : Thread Cert.FfnInIdeal.nD Cert.FfnInIdeal.τ).loc Cert.FfnInIdeal.main_v6_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v39) = v0 c
          ∧ r.2.mem ((c.tc : Thread Cert.FfnInRefIdeal.nD Cert.FfnInRefIdeal.τ).loc Cert.FfnInRefIdeal.main_v41) = v1 c
          ∧ r.2.mem ((c.tc : Thread Cert.FfnInRefIdeal.nD Cert.FfnInRefIdeal.τ).loc Cert.FfnInRefIdeal.main_v40) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_MixOut_MixOutIdeal : Prop :=
  True

def algebraic_MixOutIdeal_MixOutRefIdeal_pre_mix_out_finite [hMixOutIdeal : Cert.MixOutIdeal.Facts] [hMixOutRefIdeal : Cert.MixOutRefIdeal.Facts] [hPre_mix_out_finite : Cert.Pre_mix_out_finite.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_mix_out_finite m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v16_0)) (v1 : (c : Dev Cert.MixOutIdeal.nD) → Buf (Elt Ideal) ((c.tc : Thread Cert.MixOutIdeal.nD Cert.MixOutIdeal.τ).loc Cert.MixOutIdeal.main_v16_1)) (v2 : (c : Dev Cert.MixOutIdeal.nD) → Buf (Elt Ideal) ((c.tc : Thread Cert.MixOutIdeal.nD Cert.MixOutIdeal.τ).loc Cert.MixOutIdeal.main_v16_2)) (v3 : (c : Dev Cert.MixOutIdeal.nD) → Buf (Elt Ideal) ((c.tc : Thread Cert.MixOutIdeal.nD Cert.MixOutIdeal.τ).loc Cert.MixOutIdeal.main_v16_3)) (v4 : (c : Dev Cert.MixOutIdeal.nD) → Buf (Elt Ideal) ((c.tc : Thread Cert.MixOutIdeal.nD Cert.MixOutIdeal.τ).loc Cert.MixOutIdeal.main_v16_4)) (v5 : (c : Dev Cert.MixOutIdeal.nD) → Buf (Elt Ideal) ((c.tc : Thread Cert.MixOutIdeal.nD Cert.MixOutIdeal.τ).loc Cert.MixOutIdeal.main_v16_5)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v16_0) = v0 c
          ∧ r.2.mem ((c.tc : Thread Cert.MixOutIdeal.nD Cert.MixOutIdeal.τ).loc Cert.MixOutIdeal.main_v16_1) = v1 c
          ∧ r.2.mem ((c.tc : Thread Cert.MixOutIdeal.nD Cert.MixOutIdeal.τ).loc Cert.MixOutIdeal.main_v16_2) = v2 c
          ∧ r.2.mem ((c.tc : Thread Cert.MixOutIdeal.nD Cert.MixOutIdeal.τ).loc Cert.MixOutIdeal.main_v16_3) = v3 c
          ∧ r.2.mem ((c.tc : Thread Cert.MixOutIdeal.nD Cert.MixOutIdeal.τ).loc Cert.MixOutIdeal.main_v16_4) = v4 c
          ∧ r.2.mem ((c.tc : Thread Cert.MixOutIdeal.nD Cert.MixOutIdeal.τ).loc Cert.MixOutIdeal.main_v16_5) = v5 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v140) = v0 c
          ∧ r.2.mem ((c.tc : Thread Cert.MixOutRefIdeal.nD Cert.MixOutRefIdeal.τ).loc Cert.MixOutRefIdeal.main_v141) = v1 c
          ∧ r.2.mem ((c.tc : Thread Cert.MixOutRefIdeal.nD Cert.MixOutRefIdeal.τ).loc Cert.MixOutRefIdeal.main_v142) = v2 c
          ∧ r.2.mem ((c.tc : Thread Cert.MixOutRefIdeal.nD Cert.MixOutRefIdeal.τ).loc Cert.MixOutRefIdeal.main_v119) = v3 c
          ∧ r.2.mem ((c.tc : Thread Cert.MixOutRefIdeal.nD Cert.MixOutRefIdeal.τ).loc Cert.MixOutRefIdeal.main_v118) = v4 c
          ∧ r.2.mem ((c.tc : Thread Cert.MixOutRefIdeal.nD Cert.MixOutRefIdeal.τ).loc Cert.MixOutRefIdeal.main_v143) = v5 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_MixIn_MixInIdeal : Prop :=
  True

def algebraic_MixInIdeal_MixInRefIdeal_pre_mix_in_finite [hMixInIdeal : Cert.MixInIdeal.Facts] [hMixInRefIdeal : Cert.MixInRefIdeal.Facts] [hPre_mix_in_finite : Cert.Pre_mix_in_finite.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_mix_in_finite m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v19_0)) (v1 : (c : Dev Cert.MixInIdeal.nD) → Buf (Elt Ideal) ((c.tc : Thread Cert.MixInIdeal.nD Cert.MixInIdeal.τ).loc Cert.MixInIdeal.main_v19_1)) (v2 : (c : Dev Cert.MixInIdeal.nD) → Buf (Elt Ideal) ((c.tc : Thread Cert.MixInIdeal.nD Cert.MixInIdeal.τ).loc Cert.MixInIdeal.main_v19_2)) (v3 : (c : Dev Cert.MixInIdeal.nD) → Buf (Elt Ideal) ((c.tc : Thread Cert.MixInIdeal.nD Cert.MixInIdeal.τ).loc Cert.MixInIdeal.main_v19_3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v19_0) = v0 c
          ∧ r.2.mem ((c.tc : Thread Cert.MixInIdeal.nD Cert.MixInIdeal.τ).loc Cert.MixInIdeal.main_v19_1) = v1 c
          ∧ r.2.mem ((c.tc : Thread Cert.MixInIdeal.nD Cert.MixInIdeal.τ).loc Cert.MixInIdeal.main_v19_2) = v2 c
          ∧ r.2.mem ((c.tc : Thread Cert.MixInIdeal.nD Cert.MixInIdeal.τ).loc Cert.MixInIdeal.main_v19_3) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v40) = v0 c
          ∧ r.2.mem ((c.tc : Thread Cert.MixInRefIdeal.nD Cert.MixInRefIdeal.τ).loc Cert.MixInRefIdeal.main_v44) = v1 c
          ∧ r.2.mem ((c.tc : Thread Cert.MixInRefIdeal.nD Cert.MixInRefIdeal.τ).loc Cert.MixInRefIdeal.main_v41) = v2 c
          ∧ r.2.mem ((c.tc : Thread Cert.MixInRefIdeal.nD Cert.MixInRefIdeal.τ).loc Cert.MixInRefIdeal.main_v46) = v3 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_AttnBwd_AttnBwdIdeal : Prop :=
  IdealRules.named_const.Statement Cert.AttnBwdIdeal.κ "mask" .f32 0xF149F2CA#32 ⊥

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v46_0)) (v1 : (c : Dev Cert.AttnBwdIdeal.nD) → Buf (Elt Ideal) ((c.tc : Thread Cert.AttnBwdIdeal.nD Cert.AttnBwdIdeal.τ).loc Cert.AttnBwdIdeal.main_v46_1)) (v2 : (c : Dev Cert.AttnBwdIdeal.nD) → Buf (Elt Ideal) ((c.tc : Thread Cert.AttnBwdIdeal.nD Cert.AttnBwdIdeal.τ).loc Cert.AttnBwdIdeal.main_v46_2)) (v3 : (c : Dev Cert.AttnBwdIdeal.nD) → Buf (Elt Ideal) ((c.tc : Thread Cert.AttnBwdIdeal.nD Cert.AttnBwdIdeal.τ).loc Cert.AttnBwdIdeal.main_v46_3)) (v4 : (c : Dev Cert.AttnBwdIdeal.nD) → Buf (Elt Ideal) ((c.tc : Thread Cert.AttnBwdIdeal.nD Cert.AttnBwdIdeal.τ).loc Cert.AttnBwdIdeal.main_v46_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v46_0) = v0 c
          ∧ r.2.mem ((c.tc : Thread Cert.AttnBwdIdeal.nD Cert.AttnBwdIdeal.τ).loc Cert.AttnBwdIdeal.main_v46_1) = v1 c
          ∧ r.2.mem ((c.tc : Thread Cert.AttnBwdIdeal.nD Cert.AttnBwdIdeal.τ).loc Cert.AttnBwdIdeal.main_v46_2) = v2 c
          ∧ r.2.mem ((c.tc : Thread Cert.AttnBwdIdeal.nD Cert.AttnBwdIdeal.τ).loc Cert.AttnBwdIdeal.main_v46_3) = v3 c
          ∧ r.2.mem ((c.tc : Thread Cert.AttnBwdIdeal.nD Cert.AttnBwdIdeal.τ).loc Cert.AttnBwdIdeal.main_v46_4) = v4 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v86) = v0 c
          ∧ r.2.mem ((c.tc : Thread Cert.AttnBwdRefIdeal.nD Cert.AttnBwdRefIdeal.τ).loc Cert.AttnBwdRefIdeal.main_v89) = v1 c
          ∧ r.2.mem ((c.tc : Thread Cert.AttnBwdRefIdeal.nD Cert.AttnBwdRefIdeal.τ).loc Cert.AttnBwdRefIdeal.main_v92) = v2 c
          ∧ r.2.mem ((c.tc : Thread Cert.AttnBwdRefIdeal.nD Cert.AttnBwdRefIdeal.τ).loc Cert.AttnBwdRefIdeal.main_v95) = v3 c
          ∧ r.2.mem ((c.tc : Thread Cert.AttnBwdRefIdeal.nD Cert.AttnBwdRefIdeal.τ).loc Cert.AttnBwdRefIdeal.main_v97) = v4 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_ForgetSum_ForgetSumIdeal : Prop :=
  True

def algebraic_ForgetSumIdeal_ForgetSumRefIdeal [hForgetSumIdeal : Cert.ForgetSumIdeal.Facts] [hForgetSumRefIdeal : Cert.ForgetSumRefIdeal.Facts] : Prop :=
  ∀ (m : (ℓ : Loc Cert.ForgetSumIdeal.nD Cert.ForgetSumIdeal.τ Cert.ForgetSumIdeal.sig) → Buf (Elt Ideal) ℓ) (g : Dev Cert.ForgetSumIdeal.nD → PrngReg)
    (m' : (ℓ : Loc Cert.ForgetSumRefIdeal.nD Cert.ForgetSumRefIdeal.τ Cert.ForgetSumRefIdeal.sig) → Buf (Elt Ideal) ℓ) (g' : Dev Cert.ForgetSumRefIdeal.nD → PrngReg), Pre_ForgetSumIdeal m →
    (∀ c : Dev Cert.ForgetSumIdeal.nD,
      m' ((c.tc : Thread Cert.ForgetSumRefIdeal.nD Cert.ForgetSumRefIdeal.τ).loc Cert.ForgetSumRefIdeal.main_arg0) = m ((c.tc : Thread Cert.ForgetSumIdeal.nD Cert.ForgetSumIdeal.τ).loc Cert.ForgetSumIdeal.main_arg0)
      ∧ m' ((c.tc : Thread Cert.ForgetSumRefIdeal.nD Cert.ForgetSumRefIdeal.τ).loc Cert.ForgetSumRefIdeal.main_arg1) = m ((c.tc : Thread Cert.ForgetSumIdeal.nD Cert.ForgetSumIdeal.τ).loc Cert.ForgetSumIdeal.main_arg1)) →
    ∃ (v0 : (c : Dev Cert.ForgetSumIdeal.nD) → Buf (Elt Ideal) ((c.tc : Thread Cert.ForgetSumIdeal.nD Cert.ForgetSumIdeal.τ).loc Cert.ForgetSumIdeal.main_v2)),
      θ_run (Cert.ForgetSumIdeal.defs (F := Ideal)) (onTc (τ := Cert.ForgetSumIdeal.τ) (Cert.ForgetSumIdeal.main (F := Ideal))) ⟨m, fun _ => 0, g⟩ (fun r => ∀ c : Dev Cert.ForgetSumIdeal.nD,
          r.2.mem ((c.tc : Thread Cert.ForgetSumIdeal.nD Cert.ForgetSumIdeal.τ).loc Cert.ForgetSumIdeal.main_v2) = v0 c
          ∧ r.2.mem ((c.tc : Thread Cert.ForgetSumIdeal.nD Cert.ForgetSumIdeal.τ).loc Cert.ForgetSumIdeal.main_arg0) = m ((c.tc : Thread Cert.ForgetSumIdeal.nD Cert.ForgetSumIdeal.τ).loc Cert.ForgetSumIdeal.main_arg0)
          ∧ r.2.mem ((c.tc : Thread Cert.ForgetSumIdeal.nD Cert.ForgetSumIdeal.τ).loc Cert.ForgetSumIdeal.main_arg1) = m ((c.tc : Thread Cert.ForgetSumIdeal.nD Cert.ForgetSumIdeal.τ).loc Cert.ForgetSumIdeal.main_arg1))
      ∧ θ_run (Cert.ForgetSumRefIdeal.defs (F := Ideal)) (onTc (τ := Cert.ForgetSumRefIdeal.τ) (Cert.ForgetSumRefIdeal.main (F := Ideal))) ⟨m', fun _ => 0, g'⟩ (fun r => ∀ c : Dev Cert.ForgetSumRefIdeal.nD,
          r.2.mem ((c.tc : Thread Cert.ForgetSumRefIdeal.nD Cert.ForgetSumRefIdeal.τ).loc Cert.ForgetSumRefIdeal.main_v7) = v0 c
          ∧ r.2.mem ((c.tc : Thread Cert.ForgetSumRefIdeal.nD Cert.ForgetSumRefIdeal.τ).loc Cert.ForgetSumRefIdeal.main_arg0) = m' ((c.tc : Thread Cert.ForgetSumRefIdeal.nD Cert.ForgetSumRefIdeal.τ).loc Cert.ForgetSumRefIdeal.main_arg0)
          ∧ r.2.mem ((c.tc : Thread Cert.ForgetSumRefIdeal.nD Cert.ForgetSumRefIdeal.τ).loc Cert.ForgetSumRefIdeal.main_arg1) = m' ((c.tc : Thread Cert.ForgetSumRefIdeal.nD Cert.ForgetSumRefIdeal.τ).loc Cert.ForgetSumRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v4_0)) (v1 : (c : Dev Cert.AdamWIdeal.nD) → Buf (Elt Ideal) ((c.tc : Thread Cert.AdamWIdeal.nD Cert.AdamWIdeal.τ).loc Cert.AdamWIdeal.main_v4_1)) (v2 : (c : Dev Cert.AdamWIdeal.nD) → Buf (Elt Ideal) ((c.tc : Thread Cert.AdamWIdeal.nD Cert.AdamWIdeal.τ).loc Cert.AdamWIdeal.main_v4_2)) (v3 : (c : Dev Cert.AdamWIdeal.nD) → Buf (Elt Ideal) ((c.tc : Thread Cert.AdamWIdeal.nD Cert.AdamWIdeal.τ).loc Cert.AdamWIdeal.main_v4_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v4_0) = v0 c
          ∧ r.2.mem ((c.tc : Thread Cert.AdamWIdeal.nD Cert.AdamWIdeal.τ).loc Cert.AdamWIdeal.main_v4_1) = v1 c
          ∧ r.2.mem ((c.tc : Thread Cert.AdamWIdeal.nD Cert.AdamWIdeal.τ).loc Cert.AdamWIdeal.main_v4_2) = v2 c
          ∧ r.2.mem ((c.tc : Thread Cert.AdamWIdeal.nD Cert.AdamWIdeal.τ).loc Cert.AdamWIdeal.main_v4_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v1) = v0 c
          ∧ r.2.mem ((c.tc : Thread Cert.AdamWRefIdeal.nD Cert.AdamWRefIdeal.τ).loc Cert.AdamWRefIdeal.main_v27) = v1 c
          ∧ r.2.mem ((c.tc : Thread Cert.AdamWRefIdeal.nD Cert.AdamWRefIdeal.τ).loc Cert.AdamWRefIdeal.main_v8) = v2 c
          ∧ r.2.mem ((c.tc : Thread Cert.AdamWRefIdeal.nD Cert.AdamWRefIdeal.τ).loc Cert.AdamWRefIdeal.main_v14) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_MixFwd_MixFwdIdeal : Prop :=
  True

def algebraic_MixFwdIdeal_MixFwdRefIdeal_pre_mix_fwd_finite [hMixFwdIdeal : Cert.MixFwdIdeal.Facts] [hMixFwdRefIdeal : Cert.MixFwdRefIdeal.Facts] [hPre_mix_fwd_finite : Cert.Pre_mix_fwd_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_mix_fwd_finite m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)) →
    ∃ (v0 : (c : Dev Cert.MixFwdIdeal.nD) → Buf (Elt Ideal) ((c.tc : Thread Cert.MixFwdIdeal.nD Cert.MixFwdIdeal.τ).loc Cert.MixFwdIdeal.main_v15_0)) (v1 : (c : Dev Cert.MixFwdIdeal.nD) → Buf (Elt Ideal) ((c.tc : Thread Cert.MixFwdIdeal.nD Cert.MixFwdIdeal.τ).loc Cert.MixFwdIdeal.main_v15_1)) (v2 : (c : Dev Cert.MixFwdIdeal.nD) → Buf (Elt Ideal) ((c.tc : Thread Cert.MixFwdIdeal.nD Cert.MixFwdIdeal.τ).loc Cert.MixFwdIdeal.main_v15_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v15_0) = v0 c
          ∧ r.2.mem ((c.tc : Thread Cert.MixFwdIdeal.nD Cert.MixFwdIdeal.τ).loc Cert.MixFwdIdeal.main_v15_1) = v1 c
          ∧ r.2.mem ((c.tc : Thread Cert.MixFwdIdeal.nD Cert.MixFwdIdeal.τ).loc Cert.MixFwdIdeal.main_v15_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v63) = v0 c
          ∧ r.2.mem ((c.tc : Thread Cert.MixFwdRefIdeal.nD Cert.MixFwdRefIdeal.τ).loc Cert.MixFwdRefIdeal.main_v64) = v1 c
          ∧ r.2.mem ((c.tc : Thread Cert.MixFwdRefIdeal.nD Cert.MixFwdRefIdeal.τ).loc Cert.MixFwdRefIdeal.main_v79) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v7)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v7) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v5) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def Claim : Prop :=
  ∃ (hConvBwd : Cert.ConvBwd.Facts) (hConvBwdIdeal : Cert.ConvBwdIdeal.Facts) (hConvBwdRefIdeal : Cert.ConvBwdRefIdeal.Facts) (hForgetBwd : Cert.ForgetBwd.Facts) (hForgetBwdIdeal : Cert.ForgetBwdIdeal.Facts) (hForgetBwdRefIdeal : Cert.ForgetBwdRefIdeal.Facts) (hFfnAct : Cert.FfnAct.Facts) (hFfnActIdeal : Cert.FfnActIdeal.Facts) (hFfnActRefIdeal : Cert.FfnActRefIdeal.Facts) (hFfnIn : Cert.FfnIn.Facts) (hFfnInIdeal : Cert.FfnInIdeal.Facts) (hFfnInRefIdeal : Cert.FfnInRefIdeal.Facts) (hMixOut : Cert.MixOut.Facts) (hMixOutIdeal : Cert.MixOutIdeal.Facts) (hMixOutRefIdeal : Cert.MixOutRefIdeal.Facts) (hMixIn : Cert.MixIn.Facts) (hMixInIdeal : Cert.MixInIdeal.Facts) (hMixInRefIdeal : Cert.MixInRefIdeal.Facts) (hAttnBwd : Cert.AttnBwd.Facts) (hAttnBwdIdeal : Cert.AttnBwdIdeal.Facts) (hAttnBwdRefIdeal : Cert.AttnBwdRefIdeal.Facts) (hForgetSum : Cert.ForgetSum.Facts) (hForgetSumIdeal : Cert.ForgetSumIdeal.Facts) (hForgetSumRefIdeal : Cert.ForgetSumRefIdeal.Facts) (hAdamW : Cert.AdamW.Facts) (hAdamWIdeal : Cert.AdamWIdeal.Facts) (hAdamWRefIdeal : Cert.AdamWRefIdeal.Facts) (hMixFwd : Cert.MixFwd.Facts) (hMixFwdIdeal : Cert.MixFwdIdeal.Facts) (hMixFwdRefIdeal : Cert.MixFwdRefIdeal.Facts) (hFfnUp : Cert.FfnUp.Facts) (hFfnUpIdeal : Cert.FfnUpIdeal.Facts) (hFfnUpRefIdeal : Cert.FfnUpRefIdeal.Facts) (hDwUp : Cert.DwUp.Facts) (hDwUpIdeal : Cert.DwUpIdeal.Facts) (hDwUpRefIdeal : Cert.DwUpRefIdeal.Facts) (hPre_forget_finite : Cert.Pre_forget_finite.Facts) (hPre_act_finite : Cert.Pre_act_finite.Facts) (hPre_ffn_in_finite : Cert.Pre_ffn_in_finite.Facts) (hPre_mix_out_finite : Cert.Pre_mix_out_finite.Facts) (hPre_mix_in_finite : Cert.Pre_mix_in_finite.Facts) (hPre_attn_finite : Cert.Pre_attn_finite.Facts) (hPre_mix_fwd_finite : Cert.Pre_mix_fwd_finite.Facts),
    quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_ForgetBwd (hForgetBwd := hForgetBwd)
    ∧ quiescent_ForgetBwdIdeal (hForgetBwdIdeal := hForgetBwdIdeal)
    ∧ quiescent_ForgetBwdIdeal_pre_forget_finite (hForgetBwdIdeal := hForgetBwdIdeal) (hPre_forget_finite := hPre_forget_finite)
    ∧ quiescent_ForgetBwdRefIdeal (hForgetBwdRefIdeal := hForgetBwdRefIdeal)
    ∧ quiescent_ForgetBwdRefIdeal_pre_forget_finite (hForgetBwdRefIdeal := hForgetBwdRefIdeal) (hPre_forget_finite := hPre_forget_finite)
    ∧ quiescent_FfnAct (hFfnAct := hFfnAct)
    ∧ quiescent_FfnActIdeal (hFfnActIdeal := hFfnActIdeal)
    ∧ quiescent_FfnActIdeal_pre_act_finite (hFfnActIdeal := hFfnActIdeal) (hPre_act_finite := hPre_act_finite)
    ∧ quiescent_FfnActRefIdeal (hFfnActRefIdeal := hFfnActRefIdeal)
    ∧ quiescent_FfnActRefIdeal_pre_act_finite (hFfnActRefIdeal := hFfnActRefIdeal) (hPre_act_finite := hPre_act_finite)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_MixOut (hMixOut := hMixOut)
    ∧ quiescent_MixOutIdeal (hMixOutIdeal := hMixOutIdeal)
    ∧ quiescent_MixOutIdeal_pre_mix_out_finite (hMixOutIdeal := hMixOutIdeal) (hPre_mix_out_finite := hPre_mix_out_finite)
    ∧ quiescent_MixOutRefIdeal (hMixOutRefIdeal := hMixOutRefIdeal)
    ∧ quiescent_MixOutRefIdeal_pre_mix_out_finite (hMixOutRefIdeal := hMixOutRefIdeal) (hPre_mix_out_finite := hPre_mix_out_finite)
    ∧ quiescent_MixIn (hMixIn := hMixIn)
    ∧ quiescent_MixInIdeal (hMixInIdeal := hMixInIdeal)
    ∧ quiescent_MixInIdeal_pre_mix_in_finite (hMixInIdeal := hMixInIdeal) (hPre_mix_in_finite := hPre_mix_in_finite)
    ∧ quiescent_MixInRefIdeal (hMixInRefIdeal := hMixInRefIdeal)
    ∧ quiescent_MixInRefIdeal_pre_mix_in_finite (hMixInRefIdeal := hMixInRefIdeal) (hPre_mix_in_finite := hPre_mix_in_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_ForgetSum (hForgetSum := hForgetSum)
    ∧ quiescent_ForgetSumIdeal (hForgetSumIdeal := hForgetSumIdeal)
    ∧ quiescent_ForgetSumRefIdeal (hForgetSumRefIdeal := hForgetSumRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_MixFwd (hMixFwd := hMixFwd)
    ∧ quiescent_MixFwdIdeal (hMixFwdIdeal := hMixFwdIdeal)
    ∧ quiescent_MixFwdIdeal_pre_mix_fwd_finite (hMixFwdIdeal := hMixFwdIdeal) (hPre_mix_fwd_finite := hPre_mix_fwd_finite)
    ∧ quiescent_MixFwdRefIdeal (hMixFwdRefIdeal := hMixFwdRefIdeal)
    ∧ quiescent_MixFwdRefIdeal_pre_mix_fwd_finite (hMixFwdRefIdeal := hMixFwdRefIdeal) (hPre_mix_fwd_finite := hPre_mix_fwd_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_ForgetBwd_ForgetBwdIdeal
    ∧ algebraic_ForgetBwdIdeal_ForgetBwdRefIdeal_pre_forget_finite (hForgetBwdIdeal := hForgetBwdIdeal) (hForgetBwdRefIdeal := hForgetBwdRefIdeal) (hPre_forget_finite := hPre_forget_finite)
    ∧ preserves_FfnAct_FfnActIdeal
    ∧ algebraic_FfnActIdeal_FfnActRefIdeal_pre_act_finite (hFfnActIdeal := hFfnActIdeal) (hFfnActRefIdeal := hFfnActRefIdeal) (hPre_act_finite := hPre_act_finite)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_MixOut_MixOutIdeal
    ∧ algebraic_MixOutIdeal_MixOutRefIdeal_pre_mix_out_finite (hMixOutIdeal := hMixOutIdeal) (hMixOutRefIdeal := hMixOutRefIdeal) (hPre_mix_out_finite := hPre_mix_out_finite)
    ∧ preserves_MixIn_MixInIdeal
    ∧ algebraic_MixInIdeal_MixInRefIdeal_pre_mix_in_finite (hMixInIdeal := hMixInIdeal) (hMixInRefIdeal := hMixInRefIdeal) (hPre_mix_in_finite := hPre_mix_in_finite)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_ForgetSum_ForgetSumIdeal
    ∧ algebraic_ForgetSumIdeal_ForgetSumRefIdeal (hForgetSumIdeal := hForgetSumIdeal) (hForgetSumRefIdeal := hForgetSumRefIdeal)
    ∧ preserves_AdamW_AdamWIdeal
    ∧ algebraic_AdamWIdeal_AdamWRefIdeal (hAdamWIdeal := hAdamWIdeal) (hAdamWRefIdeal := hAdamWRefIdeal)
    ∧ preserves_MixFwd_MixFwdIdeal
    ∧ algebraic_MixFwdIdeal_MixFwdRefIdeal_pre_mix_fwd_finite (hMixFwdIdeal := hMixFwdIdeal) (hMixFwdRefIdeal := hMixFwdRefIdeal) (hPre_mix_fwd_finite := hPre_mix_fwd_finite)
    ∧ preserves_FfnUp_FfnUpIdeal
    ∧ algebraic_FfnUpIdeal_FfnUpRefIdeal (hFfnUpIdeal := hFfnUpIdeal) (hFfnUpRefIdeal := hFfnUpRefIdeal)
    ∧ preserves_DwUp_DwUpIdeal
    ∧ algebraic_DwUpIdeal_DwUpRefIdeal (hDwUpIdeal := hDwUpIdeal) (hDwUpRefIdeal := hDwUpRefIdeal)
-- ==== Pre_act_finite.lean ====
abbrev S8256x5632 : Shape := ⟨2, ![8256, 5632]⟩
abbrev S2816x1024 : Shape := ⟨2, ![2816, 1024]⟩
abbrev S8256x1024 : Shape := ⟨2, ![8256, 1024]⟩
abbrev S_ : Shape := ⟨0, ![]⟩

class Facts : Prop where
  bcast_S_S8256x5632 : S_.BroadcastsInDim S8256x5632 (![] : Fin 0 → Fin S8256x5632.rank)
  bcast_S_S2816x1024 : S_.BroadcastsInDim S2816x1024 (![] : Fin 0 → Fin S2816x1024.rank)
  bcast_S_S8256x1024 : S_.BroadcastsInDim S8256x1024 (![] : Fin 0 → Fin S8256x1024.rank)

variable [Facts]

def fn {F : FTy → Type} [FloatOps F] (main_arg0 : FVec F S8256x5632 .f32) (main_arg1 : FVec F S2816x1024 .f32) (main_arg2 : FVec F S8256x1024 .f32) : IVec S8256x5632 1 × IVec S2816x1024 1 × IVec S8256x1024 1 :=
  let main_v0 : FVec F S8256x5632 .f32 := Host.absf main_arg0
  let main_cst : FVec F S_ .f32 := constant S_ .f32 0x7F800000#32
  let main_v1 : FVec F S8256x5632 .f32 := broadcastInDim S8256x5632 ![] bcast_S_S8256x5632 main_cst
  let main_v2 : IVec S8256x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8256x1024 .f32 := Host.absf main_arg2
  let main_cst_1 : FVec F S_ .f32 := constant S_ .f32 0x7F800000#32
  let main_v7 : FVec F S8256x1024 .f32 := broadcastInDim S8256x1024 ![] bcast_S_S8256x1024 main_cst_1
  let main_v8 : IVec S8256x1024 1 := cmpf .olt main_v6 main_v7
  (main_v2, main_v5, main_v8)
-- ==== Pre_attn_finite.lean ====
abbrev S4x2064x3080 : Shape := ⟨3, ![4, 2064, 3080]⟩
abbrev S4x2064x8 : Shape := ⟨3, ![4, 2064, 8]⟩
abbrev S4x2064x512 : Shape := ⟨3, ![4, 2064, 512]⟩
abbrev S_ : Shape := ⟨0, ![]⟩

class Facts : Prop where
  bcast_S_S4x2064x3080 : S_.BroadcastsInDim S4x2064x3080 (![] : Fin 0 → Fin S4x2064x3080.rank)
  bcast_S_S4x2064x8 : S_.BroadcastsInDim S4x2064x8 (![] : Fin 0 → Fin S4x2064x8.rank)
  bcast_S_S4x2064x512 : S_.BroadcastsInDim S4x2064x512 (![] : Fin 0 → Fin S4x2064x512.rank)

variable [Facts]

def fn {F : FTy → Type} [FloatOps F] (main_arg0 : FVec F S4x2064x3080 .f32) (main_arg1 : FVec F S4x2064x8 .f32) (main_arg2 : FVec F S4x2064x512 .f32) : IVec S4x2064x3080 1 × IVec S4x2064x8 1 × IVec S4x2064x512 1 :=
  let main_v0 : FVec F S4x2064x3080 .f32 := Host.absf main_arg0
  let main_cst : FVec F S_ .f32 := constant S_ .f32 0x7F800000#32
  let main_v1 : FVec F S4x2064x3080 .f32 := broadcastInDim S4x2064x3080 ![] bcast_S_S4x2064x3080 main_cst
  let main_v2 : IVec S4x2064x3080 1 := cmpf .olt main_v0 main_v1
  let main_v3 : FVec F S4x2064x8 .f32 := Host.absf main_arg1
  let main_cst_0 : FVec F S_ .f32 := constant S_ .f32 0x7F800000#32
  let main_v4 : FVec F S4x2064x8 .f32 := broadcastInDim S4x2064x8 ![] bcast_S_S4x2064x8 main_cst_0
  let main_v5 : IVec S4x2064x8 1 := cmpf .olt main_v3 main_v4
  let main_v6 : FVec F S4x2064x512 .f32 := Host.absf main_arg2
  let main_cst_1 : FVec F S_ .f32 := constant S_ .f32 0x7F800000#32
  let main_v7 : FVec F S4x2064x512 .f32 := broadcastInDim S4x2064x512 ![] bcast_S_S4x2064x512 main_cst_1
  let main_v8 : IVec S4x2064x512 1 := cmpf .olt main_v6 main_v7
  (main_v2, main_v5, main_v8)
-- ==== Pre_ffn_in_finite.lean ====
abbrev S8256x1024 : Shape := ⟨2, ![8256, 1024]⟩
abbrev S1x1024 : Shape := ⟨2, ![1, 1024]⟩
abbrev S1024x5632 : Shape := ⟨2, ![1024, 5632]⟩
abbrev S8256x5632 : Shape := ⟨2, ![8256, 5632]⟩
abbrev S_ : Shape := ⟨0, ![]⟩

class Facts : Prop where
  bcast_S_S8256x1024 : S_.BroadcastsInDim S8256x1024 (![] : Fin 0 → Fin S8256x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S8256x5632 : S_.BroadcastsInDim S8256x5632 (![] : Fin 0 → Fin S8256x5632.rank)

variable [Facts]

def fn {F : FTy → Type} [FloatOps F] (main_arg0 : FVec F S8256x1024 .f32) (main_arg1 : FVec F S1x1024 .f32) (main_arg2 : FVec F S1024x5632 .f32) (main_arg3 : FVec F S8256x1024 .f32) (main_arg4 : FVec F S8256x5632 .f32) : IVec S8256x1024 1 × IVec S1x1024 1 × IVec S1024x5632 1 × IVec S8256x5632 1 :=
  let main_v0 : FVec F S8256x1024 .f32 := Host.absf main_arg0
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S8256x5632 .f32 := Host.absf main_arg4
  let main_cst_2 : FVec F S_ .f32 := constant S_ .f32 0x7F800000#32
  let main_v10 : FVec F S8256x5632 .f32 := broadcastInDim S8256x5632 ![] bcast_S_S8256x5632 main_cst_2
  let main_v11 : IVec S8256x5632 1 := cmpf .olt main_v9 main_v10
  (main_v2, main_v5, main_v8, main_v11)
-- ==== Pre_forget_finite.lean ====
abbrev S4x2064x8 : Shape := ⟨3, ![4, 2064, 8]⟩
abbrev S1x8 : Shape := ⟨2, ![1, 8]⟩
abbrev S_ : Shape := ⟨0, ![]⟩

class Facts : Prop where
  bcast_S_S4x2064x8 : S_.BroadcastsInDim S4x2064x8 (![] : Fin 0 → Fin S4x2064x8.rank)

variable [Facts]

def fn {F : FTy → Type} [FloatOps F] (main_arg0 : FVec F S4x2064x8 .f32) (main_arg1 : FVec F S1x8 .f32) (main_arg2 : FVec F S4x2064x8 .f32) (main_arg3 : FVec F S4x2064x8 .f32) : IVec S4x2064x8 1 × IVec S4x2064x8 1 :=
  let main_v0 : FVec F S4x2064x8 .f32 := Host.absf main_arg2
  let main_cst : FVec F S_ .f32 := constant S_ .f32 0x7F800000#32
  let main_v1 : FVec F S4x2064x8 .f32 := broadcastInDim S4x2064x8 ![] bcast_S_S4x2064x8 main_cst
  let main_v2 : IVec S4x2064x8 1 := cmpf .olt main_v0 main_v1
  let main_v3 : FVec F S4x2064x8 .f32 := Host.absf main_arg3
  let main_cst_0 : FVec F S_ .f32 := constant S_ .f32 0x7F800000#32
  let main_v4 : FVec F S4x2064x8 .f32 := broadcastInDim S4x2064x8 ![] bcast_S_S4x2064x8 main_cst_0
  let main_v5 : IVec S4x2064x8 1 := cmpf .olt main_v3 main_v4
  (main_v2, main_v5)
-- ==== Pre_mix_fwd_finite.lean ====
abbrev S4x2064x3080 : Shape := ⟨3, ![4, 2064, 3080]⟩
abbrev S4x2064x512 : Shape := ⟨3, ![4, 2064, 512]⟩
abbrev S1x3x512 : Shape := ⟨3, ![1, 3, 512]⟩
abbrev S1x512 : Shape := ⟨2, ![1, 512]⟩
abbrev S1x1024x1024 : Shape := ⟨3, ![1, 1024, 1024]⟩
abbrev S4x2064x1024 : Shape := ⟨3, ![4, 2064, 1024]⟩
abbrev S1x1024 : Shape := ⟨2, ![1, 1024]⟩
abbrev S4x2064x1536 : Shape := ⟨3, ![4, 2064, 1536]⟩
abbrev S_ : Shape := ⟨0, ![]⟩

class Facts : Prop where
  slices_S4x2064x3080_S4x2064x1536_0_0_0 : S4x2064x3080.Slices ![0, 0, 0] S4x2064x1536
  bcast_S_S4x2064x1536 : S_.BroadcastsInDim S4x2064x1536 (![] : Fin 0 → Fin S4x2064x1536.rank)
  bcast_S_S4x2064x512 : S_.BroadcastsInDim S4x2064x512 (![] : Fin 0 → Fin S4x2064x512.rank)
  bcast_S_S1x3x512 : S_.BroadcastsInDim S1x3x512 (![] : Fin 0 → Fin S1x3x512.rank)

variable [Facts]

def fn {F : FTy → Type} [FloatOps F] (main_arg0 : FVec F S4x2064x3080 .f32) (main_arg1 : FVec F S4x2064x512 .f32) (main_arg2 : FVec F S1x3x512 .f32) (main_arg3 : FVec F S1x512 .f32) (main_arg4 : FVec F S1x512 .f32) (main_arg5 : FVec F S1x1024x1024 .f32) (main_arg6 : FVec F S4x2064x1024 .f32) (main_arg7 : FVec F S1x1024 .f32) : IVec S4x2064x1536 1 × IVec S4x2064x512 1 × IVec S1x3x512 1 :=
  let main_v0 : FVec F S4x2064x1536 .f32 := (extractStridedSlice S4x2064x1536 ![0, 0, 0] · slices_S4x2064x3080_S4x2064x1536_0_0_0) main_arg0
  let main_v1 : FVec F S4x2064x1536 .f32 := Host.absf main_v0
  let main_cst : FVec F S_ .f32 := constant S_ .f32 0x7F800000#32
  let main_v2 : FVec F S4x2064x1536 .f32 := broadcastInDim S4x2064x1536 ![] bcast_S_S4x2064x1536 main_cst
  let main_v3 : IVec S4x2064x1536 1 := cmpf .olt main_v1 main_v2
  let main_v4 : FVec F S4x2064x512 .f32 := Host.absf main_arg1
  let main_cst_0 : FVec F S_ .f32 := constant S_ .f32 0x7F800000#32
  let main_v5 : FVec F S4x2064x512 .f32 := broadcastInDim S4x2064x512 ![] bcast_S_S4x2064x512 main_cst_0
  let main_v6 : IVec S4x2064x512 1 := cmpf .olt main_v4 main_v5
  let main_v7 : FVec F S1x3x512 .f32 := Host.absf main_arg2
  let main_cst_1 : FVec F S_ .f32 := constant S_ .f32 0x7F800000#32
  let main_v8 : FVec F S1x3x512 .f32 := broadcastInDim S1x3x512 ![] bcast_S_S1x3x512 main_cst_1
  let main_v9 : IVec S1x3x512 1 := cmpf .olt main_v7 main_v8
  (main_v3, main_v6, main_v9)
-- ==== Pre_mix_in_finite.lean ====
abbrev S8256x1024 : Shape := ⟨2, ![8256, 1024]⟩
abbrev S1x1024 : Shape := ⟨2, ![1, 1024]⟩
abbrev S1x1024x3080 : Shape := ⟨3, ![1, 1024, 3080]⟩
abbrev S8256x3080 : Shape := ⟨2, ![8256, 3080]⟩
abbrev S_ : Shape := ⟨0, ![]⟩

class Facts : Prop where
  bcast_S_S8256x1024 : S_.BroadcastsInDim S8256x1024 (![] : Fin 0 → Fin S8256x1024.rank)
  bcast_S_S1x1024 : S_.BroadcastsInDim S1x1024 (![] : Fin 0 → Fin S1x1024.rank)
  bcast_S_S1x1024x3080 : S_.BroadcastsInDim S1x1024x3080 (![] : Fin 0 → Fin S1x1024x3080.rank)
  bcast_S_S8256x3080 : S_.BroadcastsInDim S8256x3080 (![] : Fin 0 → Fin S8256x3080.rank)

variable [Facts]

def fn {F : FTy → Type} [FloatOps F] (main_arg0 : FVec F S8256x1024 .f32) (main_arg1 : FVec F S1x1024 .f32) (main_arg2 : FVec F S1x1024x3080 .f32) (main_arg3 : FVec F S8256x1024 .f32) (main_arg4 : FVec F S8256x3080 .f32) : IVec S8256x1024 1 × IVec S1x1024 1 × IVec S1x1024x3080 1 × IVec S8256x3080 1 :=
  let main_v0 : FVec F S8256x1024 .f32 := Host.absf main_arg0
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3080 .f32 := Host.absf main_arg2
  let main_cst_1 : FVec F S_ .f32 := constant S_ .f32 0x7F800000#32
  let main_v7 : FVec F S1x1024x3080 .f32 := broadcastInDim S1x1024x3080 ![] bcast_S_S1x1024x3080 main_cst_1
  let main_v8 : IVec S1x1024x3080 1 := cmpf .olt main_v6 main_v7
  let main_v9 : FVec F S8256x3080 .f32 := Host.absf main_arg4
  let main_cst_2 : FVec F S_ .f32 := constant S_ .f32 0x7F800000#32
  let main_v10 : FVec F S8256x3080 .f32 := broadcastInDim S8256x3080 ![] bcast_S_S8256x3080 main_cst_2
  let main_v11 : IVec S8256x3080 1 := cmpf .olt main_v9 main_v10
  (main_v2, main_v5, main_v8, main_v11)
-- ==== Pre_mix_out_finite.lean ====
abbrev S4x2064x3080 : Shape := ⟨3, ![4, 2064, 3080]⟩
abbrev S4x2064x512 : Shape := ⟨3, ![4, 2064, 512]⟩
abbrev S1x3x512 : Shape := ⟨3, ![1, 3, 512]⟩
abbrev S1x512 : Shape := ⟨2, ![1, 512]⟩
abbrev S1x1024x1024 : Shape := ⟨3, ![1, 1024, 1024]⟩
abbrev S4x2064x1024 : Shape := ⟨3, ![4, 2064, 1024]⟩
abbrev S4x2064x1536 : Shape := ⟨3, ![4, 2064, 1536]⟩
abbrev S_ : Shape := ⟨0, ![]⟩

class Facts : Prop where
  slices_S4x2064x3080_S4x2064x1536_0_0_0 : S4x2064x3080.Slices ![0, 0, 0] S4x2064x1536
  bcast_S_S4x2064x1536 : S_.BroadcastsInDim S4x2064x1536 (![] : Fin 0 → Fin S4x2064x1536.rank)
  bcast_S_S4x2064x512 : S_.BroadcastsInDim S4x2064x512 (![] : Fin 0 → Fin S4x2064x512.rank)
  bcast_S_S1x3x512 : S_.BroadcastsInDim S1x3x512 (![] : Fin 0 → Fin S1x3x512.rank)
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S4x2064x1024 : S_.BroadcastsInDim S4x2064x1024 (![] : Fin 0 → Fin S4x2064x1024.rank)

variable [Facts]

def fn_part1 {F : FTy → Type} [FloatOps F] (main_arg6 : FVec F S4x2064x1024 .f32) (main_v3 : IVec S4x2064x1536 1) (main_v6 : IVec S4x2064x512 1) (main_v9 : IVec S1x3x512 1) (main_v12 : IVec S1x512 1) (main_v15 : IVec S1x512 1) (main_v16 : FVec F S1x1024x1024 .f32) (main_v17 : FVec F S1x1024x1024 .f32) : IVec S4x2064x1536 1 × IVec S4x2064x512 1 × IVec S1x3x512 1 × IVec S1x512 1 × IVec S1x512 1 × IVec S1x1024x1024 1 × IVec S4x2064x1024 1 :=
  let main_v18 : IVec S1x1024x1024 1 := cmpf .olt main_v16 main_v17
  let main_v19 : FVec F S4x2064x1024 .f32 := Host.absf main_arg6
  let main_cst_5 : FVec F S_ .f32 := constant S_ .f32 0x7F800000#32
  let main_v20 : FVec F S4x2064x1024 .f32 := broadcastInDim S4x2064x1024 ![] bcast_S_S4x2064x1024 main_cst_5
  let main_v21 : IVec S4x2064x1024 1 := cmpf .olt main_v19 main_v20
  (main_v3, main_v6, main_v9, main_v12, main_v15, main_v18, main_v21)

def fn {F : FTy → Type} [FloatOps F] (main_arg0 : FVec F S4x2064x3080 .f32) (main_arg1 : FVec F S4x2064x512 .f32) (main_arg2 : FVec F S1x3x512 .f32) (main_arg3 : FVec F S1x512 .f32) (main_arg4 : FVec F S1x512 .f32) (main_arg5 : FVec F S1x1024x1024 .f32) (main_arg6 : FVec F S4x2064x1024 .f32) : IVec S4x2064x1536 1 × IVec S4x2064x512 1 × IVec S1x3x512 1 × IVec S1x512 1 × IVec S1x512 1 × IVec S1x1024x1024 1 × IVec S4x2064x1024 1 :=
  let main_v0 : FVec F S4x2064x1536 .f32 := (extractStridedSlice S4x2064x1536 ![0, 0, 0] · slices_S4x2064x3080_S4x2064x1536_0_0_0) main_arg0
  let main_v1 : FVec F S4x2064x1536 .f32 := Host.absf main_v0
  let main_cst : FVec F S_ .f32 := constant S_ .f32 0x7F800000#32
  let main_v2 : FVec F S4x2064x1536 .f32 := broadcastInDim S4x2064x1536 ![] bcast_S_S4x2064x1536 main_cst
  let main_v3 : IVec S4x2064x1536 1 := cmpf .olt main_v1 main_v2
  let main_v4 : FVec F S4x2064x512 .f32 := Host.absf main_arg1
  let main_cst_0 : FVec F S_ .f32 := constant S_ .f32 0x7F800000#32
  let main_v5 : FVec F S4x2064x512 .f32 := broadcastInDim S4x2064x512 ![] bcast_S_S4x2064x512 main_cst_0
  let main_v6 : IVec S4x2064x512 1 := cmpf .olt main_v4 main_v5
  let main_v7 : FVec F S1x3x512 .f32 := Host.absf main_arg2
  let main_cst_1 : FVec F S_ .f32 := constant S_ .f32 0x7F800000#32
  let main_v8 : FVec F S1x3x512 .f32 := broadcastInDim S1x3x512 ![] bcast_S_S1x3x512 main_cst_1
  let main_v9 : IVec S1x3x512 1 := cmpf .olt main_v7 main_v8
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_v13 : FVec F S1x512 .f32 := Host.absf main_arg4
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  let main_v16 : FVec F S1x1024x1024 .f32 := Host.absf main_arg5
  let main_cst_4 : FVec F S_ .f32 := constant S_ .f32 0x7F800000#32
  let main_v17 : FVec F S1x1024x1024 .f32 := broadcastInDim S1x1024x1024 ![] bcast_S_S1x1024x1024 main_cst_4
  fn_part1 (F := F) main_arg6 main_v3 main_v6 main_v9 main_v12 main_v15 main_v16 main_v17
-- ==== ConvBwd.lean ====
abbrev S4x2064x3080 : Shape := ⟨3, ![4, 2064, 3080]⟩
abbrev S1x3x512 : Shape := ⟨3, ![1, 3, 512]⟩
abbrev S4x2064x512 : Shape := ⟨3, ![4, 2064, 512]⟩
abbrev S4x2064x3072 : Shape := ⟨3, ![4, 2064, 3072]⟩
abbrev S3x512 : Shape := ⟨2, ![3, 512]⟩
abbrev S_ : Shape := ⟨0, ![]⟩
abbrev S8x512 : Shape := ⟨2, ![8, 512]⟩
abbrev S4x2064x1024 : Shape := ⟨3, ![4, 2064, 1024]⟩
abbrev S1x688x512 : Shape := ⟨3, ![1, 688, 512]⟩
abbrev S1x16x512 : Shape := ⟨3, ![1, 16, 512]⟩
abbrev S1x688x1024 : Shape := ⟨3, ![1, 688, 1024]⟩
abbrev S688x512 : Shape := ⟨2, ![688, 512]⟩
abbrev S16x512 : Shape := ⟨2, ![16, 512]⟩
abbrev S512 : Shape := ⟨1, ![512]⟩
abbrev S1x512 : Shape := ⟨2, ![1, 512]⟩

abbrev nBuf : Space → Nat
  | .hbm => 11
  | .vmem => 11
  | .smem => 0
  | _ => 0

abbrev bufTy : (tb : Table) → Fin (tcTables nBuf tb) → BufTy
  | .hbm, ⟨0, _⟩ => ⟨S4x2064x3080, .f32⟩
  | .hbm, ⟨1, _⟩ => ⟨S1x3x512, .f32⟩
  | .hbm, ⟨2, _⟩ => ⟨S4x2064x512, .f32⟩
  | .hbm, ⟨3, _⟩ => ⟨S4x2064x3072, .f32⟩
  | .hbm, ⟨4, _⟩ => ⟨S4x2064x3072, .bf16⟩
  | .hbm, ⟨5, _⟩ => ⟨S3x512, .f32⟩
  | .hbm, ⟨6, _⟩ => ⟨S_, .i32⟩
  | .hbm, ⟨7, _⟩ => ⟨S_, .f32⟩
  | .hbm, ⟨8, _⟩ => ⟨S8x512, .f32⟩
  | .hbm, ⟨9, _⟩ => ⟨S4x2064x512, .bf16⟩
  | .hbm, ⟨10, _⟩ => ⟨S4x2064x1024, .bf16⟩
  | .local _ .vmem, ⟨0, _⟩ => ⟨S1x688x512, .bf16⟩
  | .local _ .vmem, ⟨1, _⟩ => ⟨S1x688x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x688x512, .bf16⟩
  | .local _ .vmem, ⟨5, _⟩ => ⟨S1x688x512, .bf16⟩
  | .local _ .vmem, ⟨6, _⟩ => ⟨S1x688x512, .bf16⟩
  | .local _ .vmem, ⟨7, _⟩ => ⟨S1x688x512, .bf16⟩
  | .local _ .vmem, ⟨8, _⟩ => ⟨S8x512, .f32⟩
  | .local _ .vmem, ⟨9, _⟩ => ⟨S1x688x1024, .bf16⟩
  | .local _ .vmem, ⟨10, _⟩ => ⟨S1x688x1024, .bf16⟩
  | _, _ => ⟨S4x2064x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c43_i32 : BitVec 32 := 43#32
  let v1 : BitVec 32 := Scalar.muli v0 c43_i32
  let c128_i32 : BitVec 32 := 128#32
  let v2 : BitVec 32 := Scalar.minsi v1 c128_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x688x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvBwdRefIdeal.lean ====
abbrev S4x2064x3080 : Shape := ⟨3, ![4, 2064, 3080]⟩
abbrev S1x3x512 : Shape := ⟨3, ![1, 3, 512]⟩
abbrev S4x2064x512 : Shape := ⟨3, ![4, 2064, 512]⟩
abbrev S3x512 : Shape := ⟨2, ![3, 512]⟩
abbrev S_ : Shape := ⟨0, ![]⟩
abbrev S4x2x512 : Shape := ⟨3, ![4, 2, 512]⟩
abbrev S4x2066x512 : Shape := ⟨3, ![4, 2066, 512]⟩
abbrev S1x512 : Shape := ⟨2, ![1, 512]⟩
abbrev S512 : Shape := ⟨1, ![512]⟩
abbrev S1x1x512 : Shape := ⟨3, ![1, 1, 512]⟩
abbrev S4x2064x1024 : Shape := ⟨3, ![4, 2064, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x2064x3080, .f32⟩
  | .hbm, ⟨1, _⟩ => ⟨S1x3x512, .f32⟩
  | .hbm, ⟨2, _⟩ => ⟨S4x2064x512, .f32⟩
  | .hbm, ⟨3, _⟩ => ⟨S4x2064x512, .f32⟩
  | .hbm, ⟨4, _⟩ => ⟨S4x2064x512, .f32⟩
  | .hbm, ⟨5, _⟩ => ⟨S3x512, .f32⟩
  | .hbm, ⟨6, _⟩ => ⟨S4x2064x512, .f32⟩
  | .hbm, ⟨7, _⟩ => ⟨S_, .f32⟩
  | .hbm, ⟨8, _⟩ => ⟨S4x2x512, .f32⟩
  | .hbm, ⟨9, _⟩ => ⟨S4x2066x512, .f32⟩
  | .hbm, ⟨10, _⟩ => ⟨S_, .f32⟩
  | .hbm, ⟨11, _⟩ => ⟨S4x2x512, .f32⟩
  | .hbm, ⟨12, _⟩ => ⟨S1x512, .f32⟩
  | .hbm, ⟨13, _⟩ => ⟨S512, .f32⟩
  | .hbm, ⟨14, _⟩ => ⟨S4x2064x512, .f32⟩
  | .hbm, ⟨15, _⟩ => ⟨S1x1x512, .f32⟩
  | .hbm, ⟨16, _⟩ => ⟨S4x2064x512, .f32⟩
  | .hbm, ⟨17, _⟩ => ⟨S4x2064x512, .f32⟩
  | .hbm, ⟨18, _⟩ => ⟨S1x512, .f32⟩
  | .hbm, ⟨19, _⟩ => ⟨S512, .f32⟩
  | .hbm, ⟨20, _⟩ => ⟨S4x2064x512, .f32⟩
  | .hbm, ⟨21, _⟩ => ⟨S1x1x512, .f32⟩
  | .hbm, ⟨22, _⟩ => ⟨S4x2064x512, .f32⟩
  | .hbm, ⟨23, _⟩ => ⟨S4x2064x512, .f32⟩
  | .hbm, ⟨24, _⟩ => ⟨S4x2064x512, .f32⟩
  | .hbm, ⟨25, _⟩ => ⟨S1x512, .f32⟩
  | .hbm, ⟨26, _⟩ => ⟨S512, .f32⟩
  | .hbm, ⟨27, _⟩ => ⟨S4x2064x512, .f32⟩
  | .hbm, ⟨28, _⟩ => ⟨S1x1x512, .f32⟩
  | .hbm, ⟨29, _⟩ => ⟨S4x2064x512, .f32⟩
  | .hbm, ⟨30, _⟩ => ⟨S4x2064x512, .f32⟩
  | .hbm, ⟨31, _⟩ => ⟨S4x2064x512, .f32⟩
  | .hbm, ⟨32, _⟩ => ⟨S4x2064x512, .f32⟩
  | .hbm, ⟨33, _⟩ => ⟨S4x2064x512, .f32⟩
  | .hbm, ⟨34, _⟩ => ⟨S4x2064x512, .f32⟩
  | .hbm, ⟨35, _⟩ => ⟨S4x2064x512, .f32⟩
  | .hbm, ⟨36, _⟩ => ⟨S_, .f32⟩
  | .hbm, ⟨37, _⟩ => ⟨S4x2066x512, .f32⟩
  | .hbm, ⟨38, _⟩ => ⟨S4x2064x512, .f32⟩
  | .hbm, ⟨39, _⟩ => ⟨S4x2064x512, .f32⟩
  | .hbm, ⟨40, _⟩ => ⟨S_, .f32⟩
  | .hbm, ⟨41, _⟩ => ⟨S4x2066x512, .f32⟩
  | .hbm, ⟨42, _⟩ => ⟨S4x2066x512, .f32⟩
  | .hbm, ⟨43, _⟩ => ⟨S4x2064x512, .f32⟩
  | .hbm, ⟨44, _⟩ => ⟨S4x2064x512, .f32⟩
  | .hbm, ⟨45, _⟩ => ⟨S_, .f32⟩
  | .hbm, ⟨46, _⟩ => ⟨S4x2066x512, .f32⟩
  | .hbm, ⟨47, _⟩ => ⟨S4x2066x512, .f32⟩
  | .hbm, ⟨48, _⟩ => ⟨S4x2x512, .f32⟩
  | .hbm, ⟨49, _⟩ => ⟨S4x2064x512, .f32⟩
  | .hbm, ⟨50, _⟩ => ⟨S4x2064x512, .f32⟩
  | .hbm, ⟨51, _⟩ => ⟨S4x2064x512, .f32⟩
  | .hbm, ⟨52, _⟩ => ⟨S4x2064x1024, .f32⟩
  | .hbm, ⟨53, _⟩ => ⟨S4x2064x1024, .bf16⟩
  | _, _ => ⟨S4x2064x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== ForgetBwd.lean ====
abbrev S4x2064x8 : Shape := ⟨3, ![4, 2064, 8]⟩
abbrev S1x8 : Shape := ⟨2, ![1, 8]⟩
abbrev S_ : Shape := ⟨0, ![]⟩
abbrev S1x128 : Shape := ⟨2, ![1, 128]⟩
abbrev S4x2064x128 : Shape := ⟨3, ![4, 2064, 128]⟩
abbrev S1x2064x128 : Shape := ⟨3, ![1, 2064, 128]⟩
abbrev S688x688 : Shape := ⟨2, ![688, 688]⟩
abbrev S1x688x128 : Shape := ⟨3, ![1, 688, 128]⟩
abbrev S688x128 : Shape := ⟨2, ![688, 128]⟩
abbrev S128 : Shape := ⟨1, ![128]⟩

abbrev nBuf : Space → Nat
  | .hbm => 18
  | .vmem => 10
  | .smem => 0
  | _ => 0

abbrev bufTy : (tb : Table) → Fin (tcTables nBuf tb) → BufTy
  | .hbm, ⟨0, _⟩ => ⟨S4x2064x8, .f32⟩
  | .hbm, ⟨1, _⟩ => ⟨S1x8, .f32⟩
  | .hbm, ⟨2, _⟩ => ⟨S4x2064x8, .f32⟩
  | .hbm, ⟨3, _⟩ => ⟨S4x2064x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S4x2064x128, .f32⟩
  | .hbm, ⟨10, _⟩ => ⟨S_, .i32⟩
  | .hbm, ⟨11, _⟩ => ⟨S_, .f32⟩
  | .hbm, ⟨12, _⟩ => ⟨S4x2064x128, .f32⟩
  | .hbm, ⟨13, _⟩ => ⟨S_, .i32⟩
  | .hbm, ⟨14, _⟩ => ⟨S_, .f32⟩
  | .hbm, ⟨15, _⟩ => ⟨S4x2064x128, .f32⟩
  | .hbm, ⟨16, _⟩ => ⟨S4x2064x128, .bf16⟩
  | .hbm, ⟨17, _⟩ => ⟨S1x128, .f32⟩
  | .local _ .vmem, ⟨0, _⟩ => ⟨S1x2064x128, .f32⟩
  | .local _ .vmem, ⟨1, _⟩ => ⟨S1x2064x128, .f32⟩
  | .local _ .vmem, ⟨2, _⟩ => ⟨S1x2064x128, .f32⟩
  | .local _ .vmem, ⟨3, _⟩ => ⟨S1x2064x128, .f32⟩
  | .local _ .vmem, ⟨4, _⟩ => ⟨S1x2064x128, .f32⟩
  | .local _ .vmem, ⟨5, _⟩ => ⟨S1x2064x128, .f32⟩
  | .local _ .vmem, ⟨6, _⟩ => ⟨S1x128, .f32⟩
  | .local _ .vmem, ⟨7, _⟩ => ⟨S1x2064x128, .bf16⟩
  | .local _ .vmem, ⟨8, _⟩ => ⟨S1x2064x128, .bf16⟩
  | .local _ .vmem, ⟨9, _⟩ => ⟨S1x128, .f32⟩
  | _, _ => ⟨S4x2064x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2064x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2064x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ForgetBwdRefIdeal.lean ====
abbrev S4x2064x8 : Shape := ⟨3, ![4, 2064, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S4x2064x128 : Shape := ⟨3, ![4, 2064, 128]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4x2064x8, .f32⟩
  | .hbm, ⟨1, _⟩ => ⟨S1x8, .f32⟩
  | .hbm, ⟨2, _⟩ => ⟨S4x2064x8, .f32⟩
  | .hbm, ⟨3, _⟩ => ⟨S4x2064x8, .f32⟩
  | .hbm, ⟨4, _⟩ => ⟨S8, .f32⟩
  | .hbm, ⟨5, _⟩ => ⟨S1x1x8, .f32⟩
  | .hbm, ⟨6, _⟩ => ⟨S4x2064x8, .f32⟩
  | .hbm, ⟨7, _⟩ => ⟨S4x2064x8, .f32⟩
  | .hbm, ⟨8, _⟩ => ⟨S4x2064x8, .f32⟩
  | .hbm, ⟨9, _⟩ => ⟨S_, .f32⟩
  | .hbm, ⟨10, _⟩ => ⟨S4x2064x8, .f32⟩
  | .hbm, ⟨11, _⟩ => ⟨S4x2064x8, .f32⟩
  | .hbm, ⟨12, _⟩ => ⟨S4x2064x8, .f32⟩
  | .hbm, ⟨13, _⟩ => ⟨S4x2064x8, .f32⟩
  | .hbm, ⟨14, _⟩ => ⟨S4x2064x8, .i1⟩
  | .hbm, ⟨15, _⟩ => ⟨S4x2064x8, .f32⟩
  | .hbm, ⟨16, _⟩ => ⟨S4x2064x8, .f32⟩
  | .hbm, ⟨17, _⟩ => ⟨S4x2064x8, .f32⟩
  | .hbm, ⟨18, _⟩ => ⟨S4x2064x8, .f32⟩
  | .hbm, ⟨19, _⟩ => ⟨S4x2064x8, .f32⟩
  | .hbm, ⟨20, _⟩ => ⟨S4x2064x8, .f32⟩
  | .hbm, ⟨21, _⟩ => ⟨S4x2064x8, .f32⟩
  | .hbm, ⟨22, _⟩ => ⟨S4x2064x8, .f32⟩
  | .hbm, ⟨23, _⟩ => ⟨S_, .f32⟩
  | .hbm, ⟨24, _⟩ => ⟨S4x2064x8, .f32⟩
  | .hbm, ⟨25, _⟩ => ⟨S4x2064x8, .i1⟩
  | .hbm, ⟨26, _⟩ => ⟨S_, .f32⟩
  | .hbm, ⟨27, _⟩ => ⟨S4x2064x8, .f32⟩
  | .hbm, ⟨28, _⟩ => ⟨S4x2064x8, .f32⟩
  | .hbm, ⟨29, _⟩ => ⟨S_, .f32⟩
  | .hbm, ⟨30, _⟩ => ⟨S4x2064x8, .f32⟩
  | .hbm, ⟨31, _⟩ => ⟨S4x2064x8, .i1⟩
  | .hbm, ⟨32, _⟩ => ⟨S_, .f32⟩
  | .hbm, ⟨33, _⟩ => ⟨S4x2064x8, .f32⟩
  | .hbm, ⟨34, _⟩ => ⟨S4x2064x8, .f32⟩
  | .hbm, ⟨35, _⟩ => ⟨S4x2064x8, .f32⟩
  | .hbm, ⟨36, _⟩ => ⟨S4x2064x8, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x2064x8, .f32⟩
  | .hbm, ⟨45, _⟩ => ⟨S4x2064x8, .i1⟩
  | .hbm, ⟨46, _⟩ => ⟨S_, .f32⟩
  | .hbm, ⟨47, _⟩ => ⟨S4x2064x8, .f32⟩
  | .hbm, ⟨48, _⟩ => ⟨S4x2064x8, .f32⟩
  | .hbm, ⟨49, _⟩ => ⟨S4x2064x8, .f32⟩
  | .hbm, ⟨50, _⟩ => ⟨S4x2064x8, .f32⟩
  | .hbm, ⟨51, _⟩ => ⟨S4x2064x8, .f32⟩
  | .hbm, ⟨52, _⟩ => ⟨S_, .f32⟩
  | .hbm, ⟨53, _⟩ => ⟨S4x2064x8, .f32⟩
  | .hbm, ⟨54, _⟩ => ⟨S4x2064x8, .f32⟩
  | .hbm, ⟨55, _⟩ => ⟨S4x2064x8, .f32⟩
  | .hbm, ⟨56, _⟩ => ⟨S_, .f32⟩
  | .hbm, ⟨57, _⟩ => ⟨S_, .f32⟩
  | .hbm, ⟨58, _⟩ => ⟨S4x2064x8, .f32⟩
  | .hbm, ⟨59, _⟩ => ⟨S4x2064x8, .f32⟩
  | .hbm, ⟨60, _⟩ => ⟨S4x2064x8, .f32⟩
  | .hbm, ⟨61, _⟩ => ⟨S4x2064x8, .f32⟩
  | .hbm, ⟨62, _⟩ => ⟨S_, .f32⟩
  | .hbm, ⟨63, _⟩ => ⟨S_, .f32⟩
  | .hbm, ⟨64, _⟩ => ⟨S4x2064x8, .f32⟩
  | .hbm, ⟨65, _⟩ => ⟨S4x2064x8, .f32⟩
  | .hbm, ⟨66, _⟩ => ⟨S4x2064x8, .f32⟩
  | .hbm, ⟨67, _⟩ => ⟨S4x2064x8, .f32⟩
  | .hbm, ⟨68, _⟩ => ⟨S_, .f32⟩
  | .hbm, ⟨69, _⟩ => ⟨S8, .f32⟩
  | .hbm, ⟨70, _⟩ => ⟨S1x1x8, .f32⟩
  | .hbm, ⟨71, _⟩ => ⟨S_, .f32⟩
  | .hbm, ⟨72, _⟩ => ⟨S8, .f32⟩
  | .hbm, ⟨73, _⟩ => ⟨S1x8, .f32⟩
  | .hbm, ⟨74, _⟩ => ⟨S_, .i32⟩
  | .hbm, ⟨75, _⟩ => ⟨S_, .f32⟩
  | .hbm, ⟨76, _⟩ => ⟨S4x2064x128, .f32⟩
  | .hbm, ⟨77, _⟩ => ⟨S4x2064x128, .bf16⟩
  | .hbm, ⟨78, _⟩ => ⟨S_, .i32⟩
  | .hbm, ⟨79, _⟩ => ⟨S_, .f32⟩
  | .hbm, ⟨80, _⟩ => ⟨S1x128, .f32⟩
  | _, _ => ⟨S4x2064x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_call2_call0_cst : Ref sig .tc := ⟨.hbm, 62, rfl⟩
abbrev main_call2_call0_v0 : Ref sig .tc := ⟨.hbm, 63, rfl⟩
abbrev main_v9 : Ref sig .tc := ⟨.hbm, 64, rfl⟩
abbrev main_call3_v0 : Ref sig .tc := ⟨.hbm, 65, rfl⟩
abbrev main_call3_v1 : Ref sig .tc := ⟨.hbm, 66, rfl⟩
abbrev main_v10 : Ref sig .tc := ⟨.hbm, 67, rfl⟩
abbrev main_cst : Ref sig .tc := ⟨.hbm, 68, rfl⟩
abbrev main_v11 : Ref sig .tc := ⟨.hbm, 69, rfl⟩
abbrev main_v12 : Ref sig .tc := ⟨.hbm, 70, rfl⟩
abbrev main_cst_0 : Ref sig .tc := ⟨.hbm, 71, rfl⟩
abbrev main_v13 : Ref sig .tc := ⟨.hbm, 72, rfl⟩
abbrev main_v14 : Ref sig .tc := ⟨.hbm, 73, rfl⟩
abbrev main_c : Ref sig .tc := ⟨.hbm, 74, rfl⟩
abbrev main_call4_v0 : Ref sig .tc := ⟨.hbm, 75, rfl⟩
abbrev main_v15 : Ref sig .tc := ⟨.hbm, 76, rfl⟩
abbrev main_v16 : Ref sig .tc := ⟨.hbm, 77, rfl⟩
abbrev main_c_1 : Ref sig .tc := ⟨.hbm, 78, rfl⟩
abbrev main_call5_v0 : Ref sig .tc := ⟨.hbm, 79, rfl⟩
abbrev main_v17 : Ref sig .tc := ⟨.hbm, 80, rfl⟩

abbrev nD : Nat := 1
abbrev τ : Topo := Topo.v7x

variable {F : FTy → Type} [FloatOps F]
-- ==== FfnAct.lean ====
abbrev S8256x5632 : Shape := ⟨2, ![8256, 5632]⟩
abbrev S2816x1024 : Shape := ⟨2, ![2816, 1024]⟩
abbrev S8256x1024 : Shape := ⟨2, ![8256, 1024]⟩
abbrev S8256x2x2816 : Shape := ⟨3, ![8256, 2, 2816]⟩
abbrev S2x8256x2816 : Shape := ⟨3, ![2, 8256, 2816]⟩
abbrev S688x1024 : Shape := ⟨2, ![688, 1024]⟩
abbrev S1x688x1408 : Shape := ⟨3, ![1, 688, 1408]⟩
abbrev S1408x1024 : Shape := ⟨2, ![1408, 1024]⟩
abbrev S2x688x1408 : Shape := ⟨3, ![2, 688, 1408]⟩
abbrev S768x1024 : Shape := ⟨2, ![768, 1024]⟩
abbrev S688x768 : Shape := ⟨2, ![688, 768]⟩
abbrev S640x1024 : Shape := ⟨2, ![640, 1024]⟩
abbrev S688x640 : Shape := ⟨2, ![688, 640]⟩
abbrev S1x688x768 : Shape := ⟨3, ![1, 688, 768]⟩
abbrev S1x688x640 : Shape := ⟨3, ![1, 688, 640]⟩

abbrev nBuf : Space → Nat
  | .hbm => 10
  | .vmem => 12
  | .smem => 0
  | _ => 0

abbrev bufTy : (tb : Table) → Fin (tcTables nBuf tb) → BufTy
  | .hbm, ⟨0, _⟩ => ⟨S8256x5632, .f32⟩
  | .hbm, ⟨1, _⟩ => ⟨S2816x1024, .f32⟩
  | .hbm, ⟨2, _⟩ => ⟨S8256x1024, .f32⟩
  | .hbm, ⟨3, _⟩ => ⟨S8256x2x2816, .f32⟩
  | .hbm, ⟨4, _⟩ => ⟨S2x8256x2816, .f32⟩
  | .hbm, ⟨5, _⟩ => ⟨S2x8256x2816, .bf16⟩
  | .hbm, ⟨6, _⟩ => ⟨S8256x1024, .bf16⟩
  | .hbm, ⟨7, _⟩ => ⟨S2816x1024, .bf16⟩
  | .hbm, ⟨8, _⟩ => ⟨S2x8256x2816, .bf16⟩
  | .hbm, ⟨9, _⟩ => ⟨S2816x1024, .f32⟩
  | .local _ .vmem, ⟨0, _⟩ => ⟨S688x1024, .bf16⟩
  | .local _ .vmem, ⟨1, _⟩ => ⟨S688x1024, .bf16⟩
  | .local _ .vmem, ⟨2, _⟩ => ⟨S1x688x1408, .bf16⟩
  | .local _ .vmem, ⟨3, _⟩ => ⟨S1x688x1408, .bf16⟩
  | .local _ .vmem, ⟨4, _⟩ => ⟨S1x688x1408, .bf16⟩
  | .local _ .vmem, ⟨5, _⟩ => ⟨S1x688x1408, .bf16⟩
  | .local _ .vmem, ⟨6, _⟩ => ⟨S1408x1024, .bf16⟩
  | .local _ .vmem, ⟨7, _⟩ => ⟨S1408x1024, .bf16⟩
  | .local _ .vmem, ⟨8, _⟩ => ⟨S2x688x1408, .bf16⟩
  | .local _ .vmem, ⟨9, _⟩ => ⟨S2x688x1408, .bf16⟩
  | .local _ .vmem, ⟨10, _⟩ => ⟨S1408x1024, .f32⟩
  | .local _ .vmem, ⟨11, _⟩ => ⟨S1408x1024, .f32⟩
  | _, _ => ⟨S8256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x688x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x688x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnActRefIdeal.lean ====
abbrev S8256x5632 : Shape := ⟨2, ![8256, 5632]⟩
abbrev S2816x1024 : Shape := ⟨2, ![2816, 1024]⟩
abbrev S8256x1024 : Shape := ⟨2, ![8256, 1024]⟩
abbrev S8256x2816 : Shape := ⟨2, ![8256, 2816]⟩
abbrev S_ : Shape := ⟨0, ![]⟩
abbrev S1024x2816 : Shape := ⟨2, ![1024, 2816]⟩
abbrev S1x8256x2816 : Shape := ⟨3, ![1, 8256, 2816]⟩
abbrev S2x8256x2816 : Shape := ⟨3, ![2, 8256, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8256x5632, .f32⟩
  | .hbm, ⟨1, _⟩ => ⟨S2816x1024, .f32⟩
  | .hbm, ⟨2, _⟩ => ⟨S8256x1024, .f32⟩
  | .hbm, ⟨3, _⟩ => ⟨S8256x2816, .f32⟩
  | .hbm, ⟨4, _⟩ => ⟨S8256x2816, .f32⟩
  | .hbm, ⟨5, _⟩ => ⟨S8256x2816, .f32⟩
  | .hbm, ⟨6, _⟩ => ⟨S8256x2816, .f32⟩
  | .hbm, ⟨7, _⟩ => ⟨S_, .f32⟩
  | .hbm, ⟨8, _⟩ => ⟨S8256x2816, .f32⟩
  | .hbm, ⟨9, _⟩ => ⟨S8256x2816, .f32⟩
  | .hbm, ⟨10, _⟩ => ⟨S_, .f32⟩
  | .hbm, ⟨11, _⟩ => ⟨S8256x2816, .f32⟩
  | .hbm, ⟨12, _⟩ => ⟨S8256x2816, .f32⟩
  | .hbm, ⟨13, _⟩ => ⟨S_, .f32⟩
  | .hbm, ⟨14, _⟩ => ⟨S8256x2816, .f32⟩
  | .hbm, ⟨15, _⟩ => ⟨S8256x2816, .f32⟩
  | .hbm, ⟨16, _⟩ => ⟨S8256x2816, .f32⟩
  | .hbm, ⟨17, _⟩ => ⟨S8256x2816, .f32⟩
  | .hbm, ⟨18, _⟩ => ⟨S8256x2816, .f32⟩
  | .hbm, ⟨19, _⟩ => ⟨S8256x1024, .f32⟩
  | .hbm, ⟨20, _⟩ => ⟨S1024x2816, .f32⟩
  | .hbm, ⟨21, _⟩ => ⟨S2816x1024, .f32⟩
  | .hbm, ⟨22, _⟩ => ⟨S8256x2816, .f32⟩
  | .hbm, ⟨23, _⟩ => ⟨S8256x2816, .f32⟩
  | .hbm, ⟨24, _⟩ => ⟨S8256x2816, .f32⟩
  | .hbm, ⟨25, _⟩ => ⟨S8256x2816, .f32⟩
  | .hbm, ⟨26, _⟩ => ⟨S8256x2816, .f32⟩
  | .hbm, ⟨27, _⟩ => ⟨S8256x2816, .f32⟩
  | .hbm, ⟨28, _⟩ => ⟨S8256x2816, .f32⟩
  | .hbm, ⟨29, _⟩ => ⟨S8256x5632, .f32⟩
  | .hbm, ⟨30, _⟩ => ⟨S8256x2816, .f32⟩
  | .hbm, ⟨31, _⟩ => ⟨S8256x2816, .f32⟩
  | .hbm, ⟨32, _⟩ => ⟨S1x8256x2816, .f32⟩
  | .hbm, ⟨33, _⟩ => ⟨S1x8256x2816, .f32⟩
  | .hbm, ⟨34, _⟩ => ⟨S2x8256x2816, .f32⟩
  | .hbm, ⟨35, _⟩ => ⟨S2x8256x2816, .bf16⟩
  | _, _ => ⟨S8256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== FfnIn.lean ====
abbrev S8256x1024 : Shape := ⟨2, ![8256, 1024]⟩
abbrev S1x1024 : Shape := ⟨2, ![1, 1024]⟩
abbrev S1024x5632 : Shape := ⟨2, ![1024, 5632]⟩
abbrev S8256x5632 : Shape := ⟨2, ![8256, 5632]⟩
abbrev S8256x2x2816 : Shape := ⟨3, ![8256, 2, 2816]⟩
abbrev S2x8256x2816 : Shape := ⟨3, ![2, 8256, 2816]⟩
abbrev S1024x4x1408 : Shape := ⟨3, ![1024, 4, 1408]⟩
abbrev S4x1024x1408 : Shape := ⟨3, ![4, 1024, 1408]⟩
abbrev S2x688x1408 : Shape := ⟨3, ![2, 688, 1408]⟩
abbrev S688x1024 : Shape := ⟨2, ![688, 1024]⟩
abbrev S_ : Shape := ⟨0, ![]⟩
abbrev S1x688x1408 : Shape := ⟨3, ![1, 688, 1408]⟩
abbrev S688x1408 : Shape := ⟨2, ![688, 1408]⟩
abbrev S1x1024x1408 : Shape := ⟨3, ![1, 1024, 1408]⟩
abbrev S1024x1408 : Shape := ⟨2, ![1024, 1408]⟩
abbrev S1x352x1408 : Shape := ⟨3, ![1, 352, 1408]⟩
abbrev S352x1408 : Shape := ⟨2, ![352, 1408]⟩
abbrev S352x1024 : Shape := ⟨2, ![352, 1024]⟩
abbrev S1x336x1408 : Shape := ⟨3, ![1, 336, 1408]⟩
abbrev S336x1408 : Shape := ⟨2, ![336, 1408]⟩
abbrev S336x1024 : Shape := ⟨2, ![336, 1024]⟩
abbrev S352 : Shape := ⟨1, ![352]⟩
abbrev S352x1 : Shape := ⟨2, ![352, 1]⟩
abbrev S1024 : Shape := ⟨1, ![1024]⟩
abbrev S336 : Shape := ⟨1, ![336]⟩
abbrev S336x1 : Shape := ⟨2, ![336, 1]⟩

abbrev nBuf : Space → Nat
  | .hbm => 14
  | .vmem => 14
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x5632, .f32⟩
  | .hbm, ⟨3, _⟩ => ⟨S8256x1024, .f32⟩
  | .hbm, ⟨4, _⟩ => ⟨S8256x5632, .f32⟩
  | .hbm, ⟨5, _⟩ => ⟨S8256x2x2816, .f32⟩
  | .hbm, ⟨6, _⟩ => ⟨S2x8256x2816, .f32⟩
  | .hbm, ⟨7, _⟩ => ⟨S2x8256x2816, .bf16⟩
  | .hbm, ⟨8, _⟩ => ⟨S1024x5632, .bf16⟩
  | .hbm, ⟨9, _⟩ => ⟨S1024x4x1408, .bf16⟩
  | .hbm, ⟨10, _⟩ => ⟨S4x1024x1408, .bf16⟩
  | .hbm, ⟨11, _⟩ => ⟨S8256x1024, .f32⟩
  | .hbm, ⟨12, _⟩ => ⟨S8256x1024, .bf16⟩
  | .hbm, ⟨13, _⟩ => ⟨S1x1024, .f32⟩
  | .local _ .vmem, ⟨0, _⟩ => ⟨S2x688x1408, .bf16⟩
  | .local _ .vmem, ⟨1, _⟩ => ⟨S2x688x1408, .bf16⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .bf16⟩
  | .local _ .vmem, ⟨10, _⟩ => ⟨S688x1024, .bf16⟩
  | .local _ .vmem, ⟨11, _⟩ => ⟨S1x1024, .f32⟩
  | .local _ .vmem, ⟨12, _⟩ => ⟨S4x1024x1408, .bf16⟩
  | .local _ .vmem, ⟨13, _⟩ => ⟨S688x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![12, 2], ![false, false]⟩

def k0_cond2 (i : grid0.Coords) : BitVec 1 :=
  let arg1 : BitVec 32 := BitVec.ofNat 32 (i 1).val
  let c1_i32 : BitVec 32 := 1#32
  let v5 : BitVec 1 := Scalar.cmpi .slt arg1 c1_i32
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg1 : BitVec 32 := BitVec.ofNat 32 (i 1).val
  let v13 : Index := Scalar.indexCast arg1
  let c0_7 : Index := 0#32
  let c0_8 : Index := 0#32
  ![v13.toNat, 0, 0]
def k0_off2 (i : grid0.Coords) : Fin 3 → Nat :=
  let c2_i32 : BitVec 32 := 2#32
  let arg1 : BitVec 32 := BitVec.ofNat 32 (i 1).val
  let v19 : BitVec 32 := Scalar.addi c2_i32 arg1
  let v20 : Index := Scalar.indexCast v19
  let c0_11 : Index := 0#32
  let c0_12 : Index := 0#32
  ![v20.toNat, 0, 0]
def k0_cond5 (i : grid0.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def k0_off3 (i : grid0.Coords) : Fin 3 → Nat :=
  let arg1 : BitVec 32 := BitVec.ofNat 32 (i 1).val
  let v13 : Index := Scalar.indexCast arg1
  let c0_7 : Index := 0#32
  let c0_8 : Index := 0#32
  ![v13.toNat, 0, 0]
def k0_off4 (i : grid0.Coords) : Fin 3 → Nat :=
  let c2_i32 : BitVec 32 := 2#32
  let arg1 : BitVec 32 := BitVec.ofNat 32 (i 1).val
  let v19 : BitVec 32 := Scalar.addi c2_i32 arg1
  let v20 : Index := Scalar.indexCast v19
  let c0_11 : Index := 0#32
  let c0_12 : Index := 0#32
  ![v20.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== FfnInRefIdeal.lean ====
abbrev S8256x1024 : Shape := ⟨2, ![8256, 1024]⟩
abbrev S1x1024 : Shape := ⟨2, ![1, 1024]⟩
abbrev S1024x5632 : Shape := ⟨2, ![1024, 5632]⟩
abbrev S8256x5632 : Shape := ⟨2, ![8256, 5632]⟩
abbrev S1024 : Shape := ⟨1, ![1024]⟩
abbrev S_ : Shape := ⟨0, ![]⟩
abbrev S8256 : Shape := ⟨1, ![8256]⟩
abbrev S8256x1 : Shape := ⟨2, ![8256, 1]⟩

abbrev nBuf : Space → Nat
  | .hbm => 56
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x5632, .f32⟩
  | .hbm, ⟨3, _⟩ => ⟨S8256x1024, .f32⟩
  | .hbm, ⟨4, _⟩ => ⟨S8256x5632, .f32⟩
  | .hbm, ⟨5, _⟩ => ⟨S1024, .f32⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S_, .f32⟩
  | .hbm, ⟨19, _⟩ => ⟨S8256x1, .f32⟩
  | .hbm, ⟨20, _⟩ => ⟨S8256x1, .f32⟩
  | .hbm, ⟨21, _⟩ => ⟨S8256x1024, .f32⟩
  | .hbm, ⟨22, _⟩ => ⟨S8256x1024, .f32⟩
  | .hbm, ⟨23, _⟩ => ⟨S1x1024, .f32⟩
  | .hbm, ⟨24, _⟩ => ⟨S8256x1024, .f32⟩
  | .hbm, ⟨25, _⟩ => ⟨S8256x1024, .f32⟩
  | .hbm, ⟨26, _⟩ => ⟨S8256x5632, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8256x1024, .f32⟩
  | .hbm, ⟨33, _⟩ => ⟨S8256x1024, .f32⟩
  | .hbm, ⟨34, _⟩ => ⟨S_, .f32⟩
  | .hbm, ⟨35, _⟩ => ⟨S1024, .f32⟩
  | .hbm, ⟨36, _⟩ => ⟨S8256x1024, .f32⟩
  | .hbm, ⟨37, _⟩ => ⟨S_, .f32⟩
  | .hbm, ⟨38, _⟩ => ⟨S8256, .f32⟩
  | .hbm, ⟨39, _⟩ => ⟨S8256x1, .f32⟩
  | .hbm, ⟨40, _⟩ => ⟨S8256x1024, .f32⟩
  | .hbm, ⟨41, _⟩ => ⟨S8256x1024, .f32⟩
  | .hbm, ⟨42, _⟩ => ⟨S8256x1024, .f32⟩
  | .hbm, ⟨43, _⟩ => ⟨S8256x1, .f32⟩
  | .hbm, ⟨44, _⟩ => ⟨S_, .f32⟩
  | .hbm, ⟨45, _⟩ => ⟨S8256x1, .f32⟩
  | .hbm, ⟨46, _⟩ => ⟨S8256x1, .f32⟩
  | .hbm, ⟨47, _⟩ => ⟨S_, .f32⟩
  | .hbm, ⟨48, _⟩ => ⟨S8256, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x1024, .f32⟩
  | .hbm, ⟨53, _⟩ => ⟨S8256x1024, .f32⟩
  | .hbm, ⟨54, _⟩ => ⟨S1x1024, .f32⟩
  | .hbm, ⟨55, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MixOut.lean ====
abbrev S4x2064x3080 : Shape := ⟨3, ![4, 2064, 3080]⟩
abbrev S4x2064x512 : Shape := ⟨3, ![4, 2064, 512]⟩
abbrev S1x3x512 : Shape := ⟨3, ![1, 3, 512]⟩
abbrev S1x512 : Shape := ⟨2, ![1, 512]⟩
abbrev S1x1024x1024 : Shape := ⟨3, ![1, 1024, 1024]⟩
abbrev S4x2064x1024 : Shape := ⟨3, ![4, 2064, 1024]⟩
abbrev S4x2064x3072 : Shape := ⟨3, ![4, 2064, 3072]⟩
abbrev S3x512 : Shape := ⟨2, ![3, 512]⟩
abbrev S_ : Shape := ⟨0, ![]⟩
abbrev S8x512 : Shape := ⟨2, ![8, 512]⟩
abbrev S512 : Shape := ⟨1, ![512]⟩
abbrev S512x1 : Shape := ⟨2, ![512, 1]⟩
abbrev S512x512 : Shape := ⟨2, ![512, 512]⟩
abbrev S1024x1024 : Shape := ⟨2, ![1024, 1024]⟩
abbrev S1x688x1024 : Shape := ⟨3, ![1, 688, 1024]⟩
abbrev S1x688x512 : Shape := ⟨3, ![1, 688, 512]⟩
abbrev S1x16x512 : Shape := ⟨3, ![1, 16, 512]⟩
abbrev S688x512 : Shape := ⟨2, ![688, 512]⟩
abbrev S16x512 : Shape := ⟨2, ![16, 512]⟩
abbrev S688x1024 : Shape := ⟨2, ![688, 1024]⟩
abbrev S512x1024 : Shape := ⟨2, ![512, 1024]⟩

abbrev nBuf : Space → Nat
  | .hbm => 52
  | .vmem => 28
  | .smem => 0
  | _ => 0

abbrev bufTy : (tb : Table) → Fin (tcTables nBuf tb) → BufTy
  | .hbm, ⟨0, _⟩ => ⟨S4x2064x3080, .f32⟩
  | .hbm, ⟨1, _⟩ => ⟨S4x2064x512, .f32⟩
  | .hbm, ⟨2, _⟩ => ⟨S1x3x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S4x2064x1024, .f32⟩
  | .hbm, ⟨7, _⟩ => ⟨S4x2064x3072, .f32⟩
  | .hbm, ⟨8, _⟩ => ⟨S4x2064x3072, .bf16⟩
  | .hbm, ⟨9, _⟩ => ⟨S3x512, .f32⟩
  | .hbm, ⟨10, _⟩ => ⟨S_, .i32⟩
  | .hbm, ⟨11, _⟩ => ⟨S_, .f32⟩
  | .hbm, ⟨12, _⟩ => ⟨S8x512, .f32⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S1x512, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S_, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .bf16⟩
  | .hbm, ⟨43, _⟩ => ⟨S4x2064x1024, .bf16⟩
  | .hbm, ⟨44, _⟩ => ⟨S1024x1024, .f32⟩
  | .hbm, ⟨45, _⟩ => ⟨S1024x1024, .bf16⟩
  | .hbm, ⟨46, _⟩ => ⟨S4x2064x512, .bf16⟩
  | .hbm, ⟨47, _⟩ => ⟨S4x2064x512, .bf16⟩
  | .hbm, ⟨48, _⟩ => ⟨S4x2064x512, .bf16⟩
  | .hbm, ⟨49, _⟩ => ⟨S1x512, .f32⟩
  | .hbm, ⟨50, _⟩ => ⟨S1x512, .f32⟩
  | .hbm, ⟨51, _⟩ => ⟨S8x512, .f32⟩
  | .local _ .vmem, ⟨0, _⟩ => ⟨S1x688x1024, .bf16⟩
  | .local _ .vmem, ⟨1, _⟩ => ⟨S1x688x1024, .bf16⟩
  | .local _ .vmem, ⟨2, _⟩ => ⟨S1x688x512, .bf16⟩
  | .local _ .vmem, ⟨3, _⟩ => ⟨S1x688x512, .bf16⟩
  | .local _ .vmem, ⟨4, _⟩ => ⟨S1x688x512, .bf16⟩
  | .local _ .vmem, ⟨5, _⟩ => ⟨S1x688x512, .bf16⟩
  | .local _ .vmem, ⟨6, _⟩ => ⟨S1x688x512, .bf16⟩
  | .local _ .vmem, ⟨7, _⟩ => ⟨S1x688x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x688x512, .f32⟩
  | .local _ .vmem, ⟨13, _⟩ => ⟨S1x688x512, .f32⟩
  | .local _ .vmem, ⟨14, _⟩ => ⟨S8x512, .f32⟩
  | .local _ .vmem, ⟨15, _⟩ => ⟨S512x512, .bf16⟩
  | .local _ .vmem, ⟨16, _⟩ => ⟨S1x512, .f32⟩
  | .local _ .vmem, ⟨17, _⟩ => ⟨S1x512, .f32⟩
  | .local _ .vmem, ⟨18, _⟩ => ⟨S1024x1024, .bf16⟩
  | .local _ .vmem, ⟨19, _⟩ => ⟨S1x688x512, .bf16⟩
  | .local _ .vmem, ⟨20, _⟩ => ⟨S1x688x512, .bf16⟩
  | .local _ .vmem, ⟨21, _⟩ => ⟨S1x688x512, .bf16⟩
  | .local _ .vmem, ⟨22, _⟩ => ⟨S1x688x512, .bf16⟩
  | .local _ .vmem, ⟨23, _⟩ => ⟨S1x688x512, .bf16⟩
  | .local _ .vmem, ⟨24, _⟩ => ⟨S1x688x512, .bf16⟩
  | .local _ .vmem, ⟨25, _⟩ => ⟨S1x512, .f32⟩
  | .local _ .vmem, ⟨26, _⟩ => ⟨S1x512, .f32⟩
  | .local _ .vmem, ⟨27, _⟩ => ⟨S8x512, .f32⟩
  | _, _ => ⟨S4x2064x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_cst_1 : Ref sig .tc := ⟨.hbm, 38, rfl⟩
abbrev main_call2_v0 : Ref sig .tc := ⟨.hbm, 39, rfl⟩
abbrev main_call2_v1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16_0 : Ref sig .tc := ⟨.hbm, 46, rfl⟩
abbrev main_v16_1 : Ref sig .tc := ⟨.hbm, 47, rfl⟩
abbrev main_v16_2 : Ref sig .tc := ⟨.hbm, 48, rfl⟩
abbrev main_v16_3 : Ref sig .tc := ⟨.hbm, 49, rfl⟩
abbrev main_v16_4 : Ref sig .tc := ⟨.hbm, 50, rfl⟩
abbrev main_v16_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg1 c43_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_5 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg1 c43_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x688x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x688x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x688x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x688x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x688x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== MixOutRefIdeal.lean ====
abbrev S4x2064x3080 : Shape := ⟨3, ![4, 2064, 3080]⟩
abbrev S4x2064x512 : Shape := ⟨3, ![4, 2064, 512]⟩
abbrev S1x3x512 : Shape := ⟨3, ![1, 3, 512]⟩
abbrev S1x512 : Shape := ⟨2, ![1, 512]⟩
abbrev S1x1024x1024 : Shape := ⟨3, ![1, 1024, 1024]⟩
abbrev S4x2064x1024 : Shape := ⟨3, ![4, 2064, 1024]⟩
abbrev S3x512 : Shape := ⟨2, ![3, 512]⟩
abbrev S_ : Shape := ⟨0, ![]⟩
abbrev S4x2x512 : Shape := ⟨3, ![4, 2, 512]⟩
abbrev S4x2066x512 : Shape := ⟨3, ![4, 2066, 512]⟩
abbrev S512 : Shape := ⟨1, ![512]⟩
abbrev S1x1x512 : Shape := ⟨3, ![1, 1, 512]⟩
abbrev S1024x1024 : Shape := ⟨2, ![1024, 1024]⟩
abbrev S4x2064x8x64 : Shape := ⟨4, ![4, 2064, 8, 64]⟩
abbrev S4x2064x8 : Shape := ⟨3, ![4, 2064, 8]⟩
abbrev S4x2064x8x1 : Shape := ⟨4, ![4, 2064, 8, 1]⟩
abbrev S8x512 : Shape := ⟨2, ![8, 512]⟩

abbrev nBuf : Space → Nat
  | .hbm => 181
  | .vmem => 0
  | .smem => 0
  | _ => 0

abbrev hbmTy0_0 (i : Nat) : BufTy := match i % 128 with
  | 0 => ⟨S4x2064x3080, .f32⟩
  | 1 => ⟨S4x2064x512, .f32⟩
  | 2 => ⟨S1x3x512, .f32⟩
  | 3 => ⟨S1x512, .f32⟩
  | 4 => ⟨S1x512, .f32⟩
  | 5 => ⟨S1x1024x1024, .f32⟩
  | 6 => ⟨S4x2064x1024, .f32⟩
  | 7 => ⟨S4x2064x512, .f32⟩
  | 8 => ⟨S4x2064x512, .f32⟩
  | 9 => ⟨S4x2064x512, .f32⟩
  | 10 => ⟨S3x512, .f32⟩
  | 11 => ⟨S4x2064x512, .f32⟩
  | 12 => ⟨S_, .f32⟩
  | 13 => ⟨S4x2x512, .f32⟩
  | 14 => ⟨S4x2066x512, .f32⟩
  | 15 => ⟨S1x512, .f32⟩
  | 16 => ⟨S512, .f32⟩
  | 17 => ⟨S4x2064x512, .f32⟩
  | 18 => ⟨S1x1x512, .f32⟩
  | 19 => ⟨S4x2064x512, .f32⟩
  | 20 => ⟨S4x2064x512, .f32⟩
  | 21 => ⟨S1x512, .f32⟩
  | 22 => ⟨S512, .f32⟩
  | 23 => ⟨S4x2064x512, .f32⟩
  | 24 => ⟨S1x1x512, .f32⟩
  | 25 => ⟨S4x2064x512, .f32⟩
  | 26 => ⟨S4x2064x512, .f32⟩
  | 27 => ⟨S4x2064x512, .f32⟩
  | 28 => ⟨S1x512, .f32⟩
  | 29 => ⟨S512, .f32⟩
  | 30 => ⟨S4x2064x512, .f32⟩
  | 31 => ⟨S1x1x512, .f32⟩
  | 32 => ⟨S4x2064x512, .f32⟩
  | 33 => ⟨S4x2064x512, .f32⟩
  | 34 => ⟨S4x2064x512, .f32⟩
  | 35 => ⟨S512, .f32⟩
  | 36 => ⟨S512, .f32⟩
  | 37 => ⟨S1024x1024, .f32⟩
  | 38 => ⟨S4x2064x512, .f32⟩
  | 39 => ⟨S4x2064x8x64, .f32⟩
  | 40 => ⟨S4x2064x8x64, .f32⟩
  | 41 => ⟨S_, .f32⟩
  | 42 => ⟨S4x2064x8, .f32⟩
  | 43 => ⟨S4x2064x8x1, .f32⟩
  | 44 => ⟨S_, .f32⟩
  | 45 => ⟨S4x2064x8x1, .f32⟩
  | 46 => ⟨S4x2064x8x1, .f32⟩
  | 47 => ⟨S_, .f32⟩
  | 48 => ⟨S4x2064x8x1, .f32⟩
  | 49 => ⟨S4x2064x8x1, .f32⟩
  | 50 => ⟨S4x2064x8x1, .f32⟩
  | 51 => ⟨S4x2064x8x1, .f32⟩
  | 52 => ⟨S_, .f32⟩
  | 53 => ⟨S4x2064x8x1, .f32⟩
  | 54 => ⟨S4x2064x8x1, .f32⟩
  | 55 => ⟨S4x2064x8x64, .f32⟩
  | 56 => ⟨S4x2064x8x64, .f32⟩
  | 57 => ⟨S4x2064x512, .f32⟩
  | 58 => ⟨S1x1x512, .f32⟩
  | 59 => ⟨S4x2064x512, .f32⟩
  | 60 => ⟨S4x2064x512, .f32⟩
  | 61 => ⟨S4x2064x8x64, .f32⟩
  | 62 => ⟨S4x2064x8x64, .f32⟩
  | 63 => ⟨S_, .f32⟩
  | 64 => ⟨S4x2064x8, .f32⟩
  | 65 => ⟨S4x2064x8x1, .f32⟩
  | 66 => ⟨S_, .f32⟩
  | 67 => ⟨S4x2064x8x1, .f32⟩
  | 68 => ⟨S4x2064x8x1, .f32⟩
  | 69 => ⟨S_, .f32⟩
  | 70 => ⟨S4x2064x8x1, .f32⟩
  | 71 => ⟨S4x2064x8x1, .f32⟩
  | 72 => ⟨S4x2064x8x1, .f32⟩
  | 73 => ⟨S4x2064x8x1, .f32⟩
  | 74 => ⟨S_, .f32⟩
  | 75 => ⟨S4x2064x8x1, .f32⟩
  | 76 => ⟨S4x2064x8x1, .f32⟩
  | 77 => ⟨S4x2064x8x64, .f32⟩
  | 78 => ⟨S4x2064x8x64, .f32⟩
  | 79 => ⟨S4x2064x512, .f32⟩
  | 80 => ⟨S1x1x512, .f32⟩
  | 81 => ⟨S4x2064x512, .f32⟩
  | 82 => ⟨S4x2064x512, .f32⟩
  | 83 => ⟨S4x2064x1024, .f32⟩
  | 84 => ⟨S4x2064x1024, .f32⟩
  | 85 => ⟨S4x2064x1024, .f32⟩
  | 86 => ⟨S4x2064x512, .f32⟩
  | 87 => ⟨S4x2064x512, .f32⟩
  | 88 => ⟨S4x2064x512, .f32⟩
  | 89 => ⟨S_, .f32⟩
  | 90 => ⟨S512, .f32⟩
  | 91 => ⟨S1x1x512, .f32⟩
  | 92 => ⟨S4x2064x512, .f32⟩
  | 93 => ⟨S4x2064x512, .f32⟩
  | 94 => ⟨S_, .f32⟩
  | 95 => ⟨S512, .f32⟩
  | 96 => ⟨S4x2064x8x64, .f32⟩
  | 97 => ⟨S4x2064x8x64, .f32⟩
  | 98 => ⟨S_, .f32⟩
  | 99 => ⟨S4x2064x8, .f32⟩
  | 100 => ⟨S4x2064x8x1, .f32⟩
  | 101 => ⟨S4x2064x8x64, .f32⟩
  | 102 => ⟨S4x2064x8x64, .f32⟩
  | 103 => ⟨S4x2064x8x1, .f32⟩
  | 104 => ⟨S_, .f32⟩
  | 105 => ⟨S4x2064x8x1, .f32⟩
  | 106 => ⟨S4x2064x8x1, .f32⟩
  | 107 => ⟨S_, .f32⟩
  | 108 => ⟨S4x2064x8, .f32⟩
  | 109 => ⟨S4x2064x8x64, .f32⟩
  | 110 => ⟨S4x2064x8x64, .f32⟩
  | 111 => ⟨S4x2064x8x64, .f32⟩
  | 112 => ⟨S4x2064x8x64, .f32⟩
  | 113 => ⟨S4x2064x8x64, .f32⟩
  | 114 => ⟨S4x2064x512, .f32⟩
  | 115 => ⟨S4x2064x512, .f32⟩
  | 116 => ⟨S_, .f32⟩
  | 117 => ⟨S512, .f32⟩
  | 118 => ⟨S1x1x512, .f32⟩
  | 119 => ⟨S4x2064x512, .f32⟩
  | 120 => ⟨S4x2064x512, .f32⟩
  | 121 => ⟨S_, .f32⟩
  | 122 => ⟨S512, .f32⟩
  | 123 => ⟨S4x2064x8x64, .f32⟩
  | 124 => ⟨S4x2064x8x64, .f32⟩
  | 125 => ⟨S_, .f32⟩
  | 126 => ⟨S4x2064x8, .f32⟩
  | 127 => ⟨S4x2064x8x1, .f32⟩
  | _ => ⟨S4x2064x3080, .f32⟩

abbrev hbmTy0_1 (i : Nat) : BufTy := match i % 128 with
  | 0 => ⟨S4x2064x8x64, .f32⟩
  | 1 => ⟨S4x2064x8x64, .f32⟩
  | 2 => ⟨S4x2064x8x1, .f32⟩
  | 3 => ⟨S_, .f32⟩
  | 4 => ⟨S4x2064x8x1, .f32⟩
  | 5 => ⟨S4x2064x8x1, .f32⟩
  | 6 => ⟨S_, .f32⟩
  | 7 => ⟨S4x2064x8, .f32⟩
  | 8 => ⟨S4x2064x8x64, .f32⟩
  | 9 => ⟨S4x2064x8x64, .f32⟩
  | 10 => ⟨S4x2064x8x64, .f32⟩
  | 11 => ⟨S4x2064x8x64, .f32⟩
  | 12 => ⟨S4x2064x8x64, .f32⟩
  | 13 => ⟨S4x2064x512, .f32⟩
  | 14 => ⟨S4x2064x512, .f32⟩
  | 15 => ⟨S4x2064x512, .f32⟩
  | 16 => ⟨S1x512, .f32⟩
  | 17 => ⟨S1x512, .f32⟩
  | 18 => ⟨S4x2064x512, .f32⟩
  | 19 => ⟨S_, .f32⟩
  | 20 => ⟨S512, .f32⟩
  | 21 => ⟨S1x1x512, .f32⟩
  | 22 => ⟨S_, .f32⟩
  | 23 => ⟨S512, .f32⟩
  | 24 => ⟨S1x512, .f32⟩
  | 25 => ⟨S_, .f32⟩
  | 26 => ⟨S3x512, .f32⟩
  | 27 => ⟨S4x2064x512, .f32⟩
  | 28 => ⟨S_, .f32⟩
  | 29 => ⟨S512, .f32⟩
  | 30 => ⟨S1x1x512, .f32⟩
  | 31 => ⟨S_, .f32⟩
  | 32 => ⟨S512, .f32⟩
  | 33 => ⟨S1x512, .f32⟩
  | 34 => ⟨S_, .f32⟩
  | 35 => ⟨S3x512, .f32⟩
  | 36 => ⟨S3x512, .f32⟩
  | 37 => ⟨S4x2064x512, .f32⟩
  | 38 => ⟨S_, .f32⟩
  | 39 => ⟨S512, .f32⟩
  | 40 => ⟨S1x1x512, .f32⟩
  | 41 => ⟨S_, .f32⟩
  | 42 => ⟨S512, .f32⟩
  | 43 => ⟨S1x512, .f32⟩
  | 44 => ⟨S_, .f32⟩
  | 45 => ⟨S3x512, .f32⟩
  | 46 => ⟨S3x512, .f32⟩
  | 47 => ⟨S4x2064x512, .bf16⟩
  | 48 => ⟨S4x2064x512, .bf16⟩
  | 49 => ⟨S4x2064x512, .bf16⟩
  | 50 => ⟨S_, .i32⟩
  | 51 => ⟨S_, .f32⟩
  | 52 => ⟨S8x512, .f32⟩
  | _ => ⟨S4x2064x3080, .f32⟩

abbrev hbmTy (i : Nat) : BufTy := match i / 128 with
  | 0 => hbmTy0_0 i
  | 1 => hbmTy0_1 i
  | _ => ⟨S4x2064x3080, .f32⟩

abbrev bufTy : (tb : Table) → Fin (tcTables nBuf tb) → BufTy
  | .hbm, ⟨i, _⟩ => hbmTy i
  | _, _ => ⟨S4x2064x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_10 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_11 : Ref sig .tc := ⟨.hbm, 104, rfl⟩
abbrev main_v85 : Ref sig .tc := ⟨.hbm, 105, rfl⟩
abbrev main_v86 : Ref sig .tc := ⟨.hbm, 106, rfl⟩
abbrev main_cst_12 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_13 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_14 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_15 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_16 : Ref sig .tc := ⟨.hbm, 131, rfl⟩
abbrev main_v107 : Ref sig .tc := ⟨.hbm, 132, rfl⟩
abbrev main_v108 : Ref sig .tc := ⟨.hbm, 133, rfl⟩
abbrev main_cst_17 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_18 : Ref sig .tc := ⟨.hbm, 147, rfl⟩
abbrev main_v121 : Ref sig .tc := ⟨.hbm, 148, rfl⟩
abbrev main_v122 : Ref sig .tc := ⟨.hbm, 149, rfl⟩
abbrev main_cst_19 : Ref sig .tc := ⟨.hbm, 150, rfl⟩
abbrev main_v123 : Ref sig .tc := ⟨.hbm, 151, rfl⟩
abbrev main_v124 : Ref sig .tc := ⟨.hbm, 152, rfl⟩
abbrev main_cst_20 : Ref sig .tc := ⟨.hbm, 153, rfl⟩
abbrev main_v125 : Ref sig .tc := ⟨.hbm, 154, rfl⟩
abbrev main_v126 : Ref sig .tc := ⟨.hbm, 155, rfl⟩
abbrev main_cst_21 : Ref sig .tc := ⟨.hbm, 156, rfl⟩
abbrev main_v127 : Ref sig .tc := ⟨.hbm, 157, rfl⟩
abbrev main_v128 : Ref sig .tc := ⟨.hbm, 158, rfl⟩
abbrev main_cst_22 : Ref sig .tc := ⟨.hbm, 159, rfl⟩
abbrev main_v129 : Ref sig .tc := ⟨.hbm, 160, rfl⟩
abbrev main_v130 : Ref sig .tc := ⟨.hbm, 161, rfl⟩
abbrev main_cst_23 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_24 : Ref sig .tc := ⟨.hbm, 166, rfl⟩
abbrev main_v134 : Ref sig .tc := ⟨.hbm, 167, rfl⟩
abbrev main_v135 : Ref sig .tc := ⟨.hbm, 168, rfl⟩
abbrev main_cst_25 : Ref sig .tc := ⟨.hbm, 169, rfl⟩
abbrev main_v136 : Ref sig .tc := ⟨.hbm, 170, rfl⟩
abbrev main_v137 : Ref sig .tc := ⟨.hbm, 171, rfl⟩
abbrev main_cst_26 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_c : Ref sig .tc := ⟨.hbm, 178, rfl⟩
abbrev main_call0_v0 : Ref sig .tc := ⟨.hbm, 179, rfl⟩
abbrev main_v143 : Ref sig .tc := ⟨.hbm, 180, rfl⟩

abbrev nD : Nat := 1
abbrev τ : Topo := Topo.v7x

variable {F : FTy → Type} [FloatOps F]
-- ==== MixIn.lean ====
abbrev S8256x1024 : Shape := ⟨2, ![8256, 1024]⟩
abbrev S1x1024 : Shape := ⟨2, ![1, 1024]⟩
abbrev S1x1024x3080 : Shape := ⟨3, ![1, 1024, 3080]⟩
abbrev S8256x3080 : Shape := ⟨2, ![8256, 3080]⟩
abbrev S1x1024x3072 : Shape := ⟨3, ![1, 1024, 3072]⟩
abbrev S1024x3072 : Shape := ⟨2, ![1024, 3072]⟩
abbrev S1x1024x8 : Shape := ⟨3, ![1, 1024, 8]⟩
abbrev S1024x8 : Shape := ⟨2, ![1024, 8]⟩
abbrev S_ : Shape := ⟨0, ![]⟩
abbrev S1024x128 : Shape := ⟨2, ![1024, 128]⟩
abbrev S8256x512 : Shape := ⟨2, ![8256, 512]⟩
abbrev S8256x8 : Shape := ⟨2, ![8256, 8]⟩
abbrev S8256x128 : Shape := ⟨2, ![8256, 128]⟩
abbrev S8256x3200 : Shape := ⟨2, ![8256, 3200]⟩
abbrev S688x512 : Shape := ⟨2, ![688, 512]⟩
abbrev S688x1024 : Shape := ⟨2, ![688, 1024]⟩
abbrev S688x128 : Shape := ⟨2, ![688, 128]⟩
abbrev S688x3200 : Shape := ⟨2, ![688, 3200]⟩
abbrev S352x3072 : Shape := ⟨2, ![352, 3072]⟩
abbrev S352x1024 : Shape := ⟨2, ![352, 1024]⟩
abbrev S352x128 : Shape := ⟨2, ![352, 128]⟩
abbrev S336x3072 : Shape := ⟨2, ![336, 3072]⟩
abbrev S336x1024 : Shape := ⟨2, ![336, 1024]⟩
abbrev S336x128 : Shape := ⟨2, ![336, 128]⟩
abbrev S352 : Shape := ⟨1, ![352]⟩
abbrev S352x1 : Shape := ⟨2, ![352, 1]⟩
abbrev S1024 : Shape := ⟨1, ![1024]⟩
abbrev S336 : Shape := ⟨1, ![336]⟩
abbrev S336x1 : Shape := ⟨2, ![336, 1]⟩

abbrev nBuf : Space → Nat
  | .hbm => 32
  | .vmem => 26
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1x1024x3080, .f32⟩
  | .hbm, ⟨3, _⟩ => ⟨S8256x1024, .f32⟩
  | .hbm, ⟨4, _⟩ => ⟨S8256x3080, .f32⟩
  | .hbm, ⟨5, _⟩ => ⟨S1x1024x3072, .f32⟩
  | .hbm, ⟨6, _⟩ => ⟨S1024x3072, .f32⟩
  | .hbm, ⟨7, _⟩ => ⟨S1024x3072, .bf16⟩
  | .hbm, ⟨8, _⟩ => ⟨S1x1024x8, .f32⟩
  | .hbm, ⟨9, _⟩ => ⟨S1024x8, .f32⟩
  | .hbm, ⟨10, _⟩ => ⟨S1024x8, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S8256x512, .f32⟩
  | .hbm, ⟨15, _⟩ => ⟨S8256x512, .bf16⟩
  | .hbm, ⟨16, _⟩ => ⟨S8256x1024, .f32⟩
  | .hbm, ⟨17, _⟩ => ⟨S8256x1024, .bf16⟩
  | .hbm, ⟨18, _⟩ => ⟨S8256x512, .f32⟩
  | .hbm, ⟨19, _⟩ => ⟨S8256x512, .f32⟩
  | .hbm, ⟨20, _⟩ => ⟨S8256x512, .bf16⟩
  | .hbm, ⟨21, _⟩ => ⟨S8256x512, .f32⟩
  | .hbm, ⟨22, _⟩ => ⟨S8256x512, .bf16⟩
  | .hbm, ⟨23, _⟩ => ⟨S8256x8, .f32⟩
  | .hbm, ⟨24, _⟩ => ⟨S_, .i32⟩
  | .hbm, ⟨25, _⟩ => ⟨S_, .f32⟩
  | .hbm, ⟨26, _⟩ => ⟨S8256x128, .f32⟩
  | .hbm, ⟨27, _⟩ => ⟨S8256x128, .bf16⟩
  | .hbm, ⟨28, _⟩ => ⟨S8256x1024, .f32⟩
  | .hbm, ⟨29, _⟩ => ⟨S8256x1024, .bf16⟩
  | .hbm, ⟨30, _⟩ => ⟨S1x1024, .f32⟩
  | .hbm, ⟨31, _⟩ => ⟨S8256x3200, .bf16⟩
  | .local _ .vmem, ⟨0, _⟩ => ⟨S688x512, .bf16⟩
  | .local _ .vmem, ⟨1, _⟩ => ⟨S688x512, .bf16⟩
  | .local _ .vmem, ⟨2, _⟩ => ⟨S688x1024, .bf16⟩
  | .local _ .vmem, ⟨3, _⟩ => ⟨S688x1024, .bf16⟩
  | .local _ .vmem, ⟨4, _⟩ => ⟨S688x512, .f32⟩
  | .local _ .vmem, ⟨5, _⟩ => ⟨S688x512, .f32⟩
  | .local _ .vmem, ⟨6, _⟩ => ⟨S688x512, .bf16⟩
  | .local _ .vmem, ⟨7, _⟩ => ⟨S688x512, .bf16⟩
  | .local _ .vmem, ⟨8, _⟩ => ⟨S688x512, .bf16⟩
  | .local _ .vmem, ⟨9, _⟩ => ⟨S688x512, .bf16⟩
  | .local _ .vmem, ⟨10, _⟩ => ⟨S688x128, .bf16⟩
  | .local _ .vmem, ⟨11, _⟩ => ⟨S688x128, .bf16⟩
  | .local _ .vmem, ⟨12, _⟩ => ⟨S1024x3072, .bf16⟩
  | .local _ .vmem, ⟨13, _⟩ => ⟨S1024x128, .bf16⟩
  | .local _ .vmem, ⟨14, _⟩ => ⟨S688x1024, .f32⟩
  | .local _ .vmem, ⟨15, _⟩ => ⟨S688x1024, .f32⟩
  | .local _ .vmem, ⟨16, _⟩ => ⟨S1x1024, .f32⟩
  | .local _ .vmem, ⟨17, _⟩ => ⟨S688x1024, .f32⟩
  | .local _ .vmem, ⟨18, _⟩ => ⟨S688x1024, .f32⟩
  | .local _ .vmem, ⟨19, _⟩ => ⟨S688x1024, .f32⟩
  | .local _ .vmem, ⟨20, _⟩ => ⟨S688x1024, .f32⟩
  | .local _ .vmem, ⟨21, _⟩ => ⟨S688x1024, .bf16⟩
  | .local _ .vmem, ⟨22, _⟩ => ⟨S688x1024, .bf16⟩
  | .local _ .vmem, ⟨23, _⟩ => ⟨S1x1024, .f32⟩
  | .local _ .vmem, ⟨24, _⟩ => ⟨S688x3200, .bf16⟩
  | .local _ .vmem, ⟨25, _⟩ => ⟨S688x3200, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S688x3200 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixInRefIdeal.lean ====
abbrev S8256x1024 : Shape := ⟨2, ![8256, 1024]⟩
abbrev S1x1024 : Shape := ⟨2, ![1, 1024]⟩
abbrev S1x1024x3080 : Shape := ⟨3, ![1, 1024, 3080]⟩
abbrev S8256x3080 : Shape := ⟨2, ![8256, 3080]⟩
abbrev S1024 : Shape := ⟨1, ![1024]⟩
abbrev S_ : Shape := ⟨0, ![]⟩
abbrev S8256 : Shape := ⟨1, ![8256]⟩
abbrev S8256x1 : Shape := ⟨2, ![8256, 1]⟩
abbrev S1024x3080 : Shape := ⟨2, ![1024, 3080]⟩
abbrev S8256x3200 : Shape := ⟨2, ![8256, 3200]⟩

abbrev nBuf : Space → Nat
  | .hbm => 64
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1x1024x3080, .f32⟩
  | .hbm, ⟨3, _⟩ => ⟨S8256x1024, .f32⟩
  | .hbm, ⟨4, _⟩ => ⟨S8256x3080, .f32⟩
  | .hbm, ⟨5, _⟩ => ⟨S1024, .f32⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S_, .f32⟩
  | .hbm, ⟨19, _⟩ => ⟨S8256x1, .f32⟩
  | .hbm, ⟨20, _⟩ => ⟨S8256x1, .f32⟩
  | .hbm, ⟨21, _⟩ => ⟨S8256x1024, .f32⟩
  | .hbm, ⟨22, _⟩ => ⟨S8256x1024, .f32⟩
  | .hbm, ⟨23, _⟩ => ⟨S1x1024, .f32⟩
  | .hbm, ⟨24, _⟩ => ⟨S8256x1024, .f32⟩
  | .hbm, ⟨25, _⟩ => ⟨S8256x1024, .f32⟩
  | .hbm, ⟨26, _⟩ => ⟨S1024x3080, .f32⟩
  | .hbm, ⟨27, _⟩ => ⟨S8256x3080, .f32⟩
  | .hbm, ⟨28, _⟩ => ⟨S8256x1024, .f32⟩
  | .hbm, ⟨29, _⟩ => ⟨S8256x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8256x1024, .f32⟩
  | .hbm, ⟨34, _⟩ => ⟨S8256x1024, .f32⟩
  | .hbm, ⟨35, _⟩ => ⟨S_, .f32⟩
  | .hbm, ⟨36, _⟩ => ⟨S1024, .f32⟩
  | .hbm, ⟨37, _⟩ => ⟨S8256x1024, .f32⟩
  | .hbm, ⟨38, _⟩ => ⟨S_, .f32⟩
  | .hbm, ⟨39, _⟩ => ⟨S8256, .f32⟩
  | .hbm, ⟨40, _⟩ => ⟨S8256x1, .f32⟩
  | .hbm, ⟨41, _⟩ => ⟨S8256x1024, .f32⟩
  | .hbm, ⟨42, _⟩ => ⟨S8256x1024, .f32⟩
  | .hbm, ⟨43, _⟩ => ⟨S8256x1024, .f32⟩
  | .hbm, ⟨44, _⟩ => ⟨S8256x1, .f32⟩
  | .hbm, ⟨45, _⟩ => ⟨S_, .f32⟩
  | .hbm, ⟨46, _⟩ => ⟨S8256x1, .f32⟩
  | .hbm, ⟨47, _⟩ => ⟨S8256x1, .f32⟩
  | .hbm, ⟨48, _⟩ => ⟨S_, .f32⟩
  | .hbm, ⟨49, _⟩ => ⟨S8256, .f32⟩
  | .hbm, ⟨50, _⟩ => ⟨S8256x1024, .f32⟩
  | .hbm, ⟨51, _⟩ => ⟨S8256x1024, .f32⟩
  | .hbm, ⟨52, _⟩ => ⟨S8256x1024, .f32⟩
  | .hbm, ⟨53, _⟩ => ⟨S8256x1024, .f32⟩
  | .hbm, ⟨54, _⟩ => ⟨S8256x1024, .f32⟩
  | .hbm, ⟨55, _⟩ => ⟨S1x1024, .f32⟩
  | .hbm, ⟨56, _⟩ => ⟨S_, .f32⟩
  | .hbm, ⟨57, _⟩ => ⟨S8256x1024, .f32⟩
  | .hbm, ⟨58, _⟩ => ⟨S8256x1024, .f32⟩
  | .hbm, ⟨59, _⟩ => ⟨S8256x1024, .bf16⟩
  | .hbm, ⟨60, _⟩ => ⟨S_, .i32⟩
  | .hbm, ⟨61, _⟩ => ⟨S_, .f32⟩
  | .hbm, ⟨62, _⟩ => ⟨S8256x3200, .f32⟩
  | .hbm, ⟨63, _⟩ => ⟨S8256x3200, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== AttnBwd.lean ====
abbrev S4x2064x3080 : Shape := ⟨3, ![4, 2064, 3080]⟩
abbrev S4x2064x8 : Shape := ⟨3, ![4, 2064, 8]⟩
abbrev S4x2064x512 : Shape := ⟨3, ![4, 2064, 512]⟩
abbrev S4x2064x3072 : Shape := ⟨3, ![4, 2064, 3072]⟩
abbrev S4x3x688x8 : Shape := ⟨4, ![4, 3, 688, 8]⟩
abbrev S4x3x8x688 : Shape := ⟨4, ![4, 3, 8, 688]⟩
abbrev S4x2064x1536 : Shape := ⟨3, ![4, 2064, 1536]⟩
abbrev S4x2064x8x64 : Shape := ⟨4, ![4, 2064, 8, 64]⟩
abbrev S4x8x2064x64 : Shape := ⟨4, ![4, 8, 2064, 64]⟩
abbrev S2064 : Shape := ⟨1, ![2064]⟩
abbrev S4x8x2064x2064 : Shape := ⟨4, ![4, 8, 2064, 2064]⟩
abbrev S_ : Shape := ⟨0, ![]⟩
abbrev S4x8x2064 : Shape := ⟨3, ![4, 8, 2064]⟩
abbrev S4x8x1x2064 : Shape := ⟨4, ![4, 8, 1, 2064]⟩
abbrev S1x2064 : Shape := ⟨2, ![1, 2064]⟩
abbrev S2064x1 : Shape := ⟨2, ![2064, 1]⟩
abbrev S2064x2064 : Shape := ⟨2, ![2064, 2064]⟩
abbrev S4x8x2064x1 : Shape := ⟨4, ![4, 8, 2064, 1]⟩
abbrev S4x2064x128 : Shape := ⟨3, ![4, 2064, 128]⟩
abbrev S1x688x512 : Shape := ⟨3, ![1, 688, 512]⟩
abbrev S1x688x128 : Shape := ⟨3, ![1, 688, 128]⟩
abbrev S1x1x8x688 : Shape := ⟨4, ![1, 1, 8, 688]⟩
abbrev S1x2064x512 : Shape := ⟨3, ![1, 2064, 512]⟩
abbrev S1x2064x128 : Shape := ⟨3, ![1, 2064, 128]⟩
abbrev S2064x1024 : Shape := ⟨2, ![2064, 1024]⟩
abbrev S688x1024 : Shape := ⟨2, ![688, 1024]⟩
abbrev S688x512 : Shape := ⟨2, ![688, 512]⟩
abbrev S688x128 : Shape := ⟨2, ![688, 128]⟩
abbrev S688x688 : Shape := ⟨2, ![688, 688]⟩
abbrev S1x1x1x688 : Shape := ⟨4, ![1, 1, 1, 688]⟩
abbrev S1x688 : Shape := ⟨2, ![1, 688]⟩
abbrev S688x1 : Shape := ⟨2, ![688, 1]⟩
abbrev S688 : Shape := ⟨1, ![688]⟩
abbrev S352x352 : Shape := ⟨2, ![352, 352]⟩
abbrev S1x352x128 : Shape := ⟨3, ![1, 352, 128]⟩
abbrev S352x128 : Shape := ⟨2, ![352, 128]⟩
abbrev S1x1x1x352 : Shape := ⟨4, ![1, 1, 1, 352]⟩
abbrev S1x352 : Shape := ⟨2, ![1, 352]⟩
abbrev S352x1 : Shape := ⟨2, ![352, 1]⟩
abbrev S352 : Shape := ⟨1, ![352]⟩
abbrev S336x688 : Shape := ⟨2, ![336, 688]⟩
abbrev S1x336x128 : Shape := ⟨3, ![1, 336, 128]⟩
abbrev S336x128 : Shape := ⟨2, ![336, 128]⟩
abbrev S336x1 : Shape := ⟨2, ![336, 1]⟩
abbrev S336 : Shape := ⟨1, ![336]⟩

abbrev nBuf : Space → Nat
  | .hbm => 63
  | .vmem => 27
  | .smem => 0
  | _ => 0

abbrev bufTy : (tb : Table) → Fin (tcTables nBuf tb) → BufTy
  | .hbm, ⟨0, _⟩ => ⟨S4x2064x3080, .f32⟩
  | .hbm, ⟨1, _⟩ => ⟨S4x2064x8, .f32⟩
  | .hbm, ⟨2, _⟩ => ⟨S4x2064x512, .f32⟩
  | .hbm, ⟨3, _⟩ => ⟨S4x2064x3072, .f32⟩
  | .hbm, ⟨4, _⟩ => ⟨S4x2064x3072, .bf16⟩
  | .hbm, ⟨5, _⟩ => ⟨S4x3x688x8, .f32⟩
  | .hbm, ⟨6, _⟩ => ⟨S4x3x8x688, .f32⟩
  | .hbm, ⟨7, _⟩ => ⟨S4x2064x1536, .f32⟩
  | .hbm, ⟨8, _⟩ => ⟨S4x2064x512, .f32⟩
  | .hbm, ⟨9, _⟩ => ⟨S4x2064x512, .f32⟩
  | .hbm, ⟨10, _⟩ => ⟨S4x2064x512, .f32⟩
  | .hbm, ⟨11, _⟩ => ⟨S4x2064x8x64, .f32⟩
  | .hbm, ⟨12, _⟩ => ⟨S4x8x2064x64, .f32⟩
  | .hbm, ⟨13, _⟩ => ⟨S4x2064x8x64, .f32⟩
  | .hbm, ⟨14, _⟩ => ⟨S4x8x2064x64, .f32⟩
  | .hbm, ⟨15, _⟩ => ⟨S4x2064x8x64, .f32⟩
  | .hbm, ⟨16, _⟩ => ⟨S4x8x2064x64, .f32⟩
  | .hbm, ⟨17, _⟩ => ⟨S2064, .i32⟩
  | .hbm, ⟨18, _⟩ => ⟨S4x8x2064x2064, .f32⟩
  | .hbm, ⟨19, _⟩ => ⟨S_, .f32⟩
  | .hbm, ⟨20, _⟩ => ⟨S4x8x2064x2064, .f32⟩
  | .hbm, ⟨21, _⟩ => ⟨S4x8x2064x2064, .f32⟩
  | .hbm, ⟨22, _⟩ => ⟨S4x8x2064, .f32⟩
  | .hbm, ⟨23, _⟩ => ⟨S4x8x1x2064, .f32⟩
  | .hbm, ⟨24, _⟩ => ⟨S4x8x2064x2064, .f32⟩
  | .hbm, ⟨25, _⟩ => ⟨S4x8x2064x2064, .f32⟩
  | .hbm, ⟨26, _⟩ => ⟨S1x2064, .i32⟩
  | .hbm, ⟨27, _⟩ => ⟨S2064x1, .i32⟩
  | .hbm, ⟨28, _⟩ => ⟨S2064x2064, .i32⟩
  | .hbm, ⟨29, _⟩ => ⟨S2064x2064, .i32⟩
  | .hbm, ⟨30, _⟩ => ⟨S2064x2064, .i1⟩
  | .hbm, ⟨31, _⟩ => ⟨S_, .f32⟩
  | .hbm, ⟨32, _⟩ => ⟨S_, .f32⟩
  | .hbm, ⟨33, _⟩ => ⟨S4x8x2064x2064, .i1⟩
  | .hbm, ⟨34, _⟩ => ⟨S4x8x2064x2064, .f32⟩
  | .hbm, ⟨35, _⟩ => ⟨S4x8x2064x2064, .f32⟩
  | .hbm, ⟨36, _⟩ => ⟨S_, .f32⟩
  | .hbm, ⟨37, _⟩ => ⟨S4x8x2064, .f32⟩
  | .hbm, ⟨38, _⟩ => ⟨S4x8x2064x1, .f32⟩
  | .hbm, ⟨39, _⟩ => ⟨S4x8x2064x2064, .f32⟩
  | .hbm, ⟨40, _⟩ => ⟨S4x8x2064x2064, .f32⟩
  | .hbm, ⟨41, _⟩ => ⟨S4x8x2064x2064, .f32⟩
  | .hbm, ⟨42, _⟩ => ⟨S_, .f32⟩
  | .hbm, ⟨43, _⟩ => ⟨S4x8x2064, .f32⟩
  | .hbm, ⟨44, _⟩ => ⟨S4x8x2064x1, .f32⟩
  | .hbm, ⟨45, _⟩ => ⟨S4x8x2064x64, .f32⟩
  | .hbm, ⟨46, _⟩ => ⟨S4x8x2064x64, .f32⟩
  | .hbm, ⟨47, _⟩ => ⟨S4x8x2064x64, .f32⟩
  | .hbm, ⟨48, _⟩ => ⟨S4x2064x8x64, .f32⟩
  | .hbm, ⟨49, _⟩ => ⟨S4x2064x512, .f32⟩
  | .hbm, ⟨50, _⟩ => ⟨S4x8x2064x1, .f32⟩
  | .hbm, ⟨51, _⟩ => ⟨S4x8x2064x1, .f32⟩
  | .hbm, ⟨52, _⟩ => ⟨S4x8x2064, .f32⟩
  | .hbm, ⟨53, _⟩ => ⟨S4x2064x8, .f32⟩
  | .hbm, ⟨54, _⟩ => ⟨S_, .i32⟩
  | .hbm, ⟨55, _⟩ => ⟨S_, .f32⟩
  | .hbm, ⟨56, _⟩ => ⟨S4x2064x128, .f32⟩
  | .hbm, ⟨57, _⟩ => ⟨S4x2064x512, .bf16⟩
  | .hbm, ⟨58, _⟩ => ⟨S4x2064x512, .f32⟩
  | .hbm, ⟨59, _⟩ => ⟨S4x2064x512, .bf16⟩
  | .hbm, ⟨60, _⟩ => ⟨S4x2064x512, .bf16⟩
  | .hbm, ⟨61, _⟩ => ⟨S4x2064x128, .f32⟩
  | .hbm, ⟨62, _⟩ => ⟨S4x2064x128, .f32⟩
  | .local _ .vmem, ⟨0, _⟩ => ⟨S1x688x512, .bf16⟩
  | .local _ .vmem, ⟨1, _⟩ => ⟨S1x688x512, .bf16⟩
  | .local _ .vmem, ⟨2, _⟩ => ⟨S1x688x512, .bf16⟩
  | .local _ .vmem, ⟨3, _⟩ => ⟨S1x688x512, .bf16⟩
  | .local _ .vmem, ⟨4, _⟩ => ⟨S1x688x512, .bf16⟩
  | .local _ .vmem, ⟨5, _⟩ => ⟨S1x688x512, .bf16⟩
  | .local _ .vmem, ⟨6, _⟩ => ⟨S1x688x512, .f32⟩
  | .local _ .vmem, ⟨7, _⟩ => ⟨S1x688x512, .f32⟩
  | .local _ .vmem, ⟨8, _⟩ => ⟨S1x688x512, .bf16⟩
  | .local _ .vmem, ⟨9, _⟩ => ⟨S1x688x512, .bf16⟩
  | .local _ .vmem, ⟨10, _⟩ => ⟨S1x688x128, .f32⟩
  | .local _ .vmem, ⟨11, _⟩ => ⟨S1x688x128, .f32⟩
  | .local _ .vmem, ⟨12, _⟩ => ⟨S1x1x8x688, .f32⟩
  | .local _ .vmem, ⟨13, _⟩ => ⟨S1x1x8x688, .f32⟩
  | .local _ .vmem, ⟨14, _⟩ => ⟨S1x2064x512, .f32⟩
  | .local _ .vmem, ⟨15, _⟩ => ⟨S1x2064x512, .f32⟩
  | .local _ .vmem, ⟨16, _⟩ => ⟨S1x688x512, .bf16⟩
  | .local _ .vmem, ⟨17, _⟩ => ⟨S1x688x512, .bf16⟩
  | .local _ .vmem, ⟨18, _⟩ => ⟨S1x688x512, .bf16⟩
  | .local _ .vmem, ⟨19, _⟩ => ⟨S1x688x512, .bf16⟩
  | .local _ .vmem, ⟨20, _⟩ => ⟨S1x688x128, .f32⟩
  | .local _ .vmem, ⟨21, _⟩ => ⟨S1x688x128, .f32⟩
  | .local _ .vmem, ⟨22, _⟩ => ⟨S1x2064x128, .f32⟩
  | .local _ .vmem, ⟨23, _⟩ => ⟨S1x2064x128, .f32⟩
  | .local _ .vmem, ⟨24, _⟩ => ⟨S2064x1024, .f32⟩
  | .local _ .vmem, ⟨25, _⟩ => ⟨S688x1024, .f32⟩
  | .local _ .vmem, ⟨26, _⟩ => ⟨S688x512, .f32⟩
  | _, _ => ⟨S4x2064x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c : Ref sig .tc := ⟨.hbm, 54, rfl⟩
abbrev main_call1_v0 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev main_v46_3 : Ref sig .tc := ⟨.hbm, 61, rfl⟩
abbrev main_v46_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 3, 3], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_3 : BitVec 32 := 0#32
  let v10 : BitVec 1 := Scalar.cmpi .ne v9 c0_i32_3
  v10

def k0_mult1 (i : grid0.Coords) : BitVec 32 :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  v20
def k0_off1 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v103 : Index := Scalar.indexCast v21
  let c0_65 : Index := 0#32
  ![v103.toNat, 0]
def k0_off2 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v178 : Index := Scalar.indexCast v21
  let c128_108 : Index := 128#32
  ![v178.toNat, 128]
def k0_off3 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v261 : Index := Scalar.indexCast v21
  let c256_157 : Index := 256#32
  ![v261.toNat, 256]
def k0_off4 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v336 : Index := Scalar.indexCast v21
  let c384_200 : Index := 384#32
  ![v336.toNat, 384]
def k0_off5 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v419 : Index := Scalar.indexCast v21
  let c512_249 : Index := 512#32
  ![v419.toNat, 512]
def k0_off6 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v494 : Index := Scalar.indexCast v21
  let c640_292 : Index := 640#32
  ![v494.toNat, 640]
def k0_off7 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v577 : Index := Scalar.indexCast v21
  let c768_341 : Index := 768#32
  ![v577.toNat, 768]
def k0_off8 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v630 : Index := Scalar.indexCast v21
  let c896_365 : Index := 896#32
  ![v630.toNat, 896]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_4 : BitVec 32 := 0#32
  let v13 : BitVec 1 := Scalar.cmpi .ne v12 c0_i32_4
  v13

def k0_mult2 (i : grid0.Coords) : BitVec 32 :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  v20
def k0_off9 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v110 : Index := Scalar.indexCast v21
  let c0_67 : Index := 0#32
  ![v110.toNat, 0]
def k0_off10 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v187 : Index := Scalar.indexCast v21
  let c128_111 : Index := 128#32
  ![v187.toNat, 128]
def k0_off11 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v272 : Index := Scalar.indexCast v21
  let c256_161 : Index := 256#32
  ![v272.toNat, 256]
def k0_off12 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v349 : Index := Scalar.indexCast v21
  let c384_205 : Index := 384#32
  ![v349.toNat, 384]
def k0_off13 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v434 : Index := Scalar.indexCast v21
  let c512_255 : Index := 512#32
  ![v434.toNat, 512]
def k0_off14 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v511 : Index := Scalar.indexCast v21
  let c640_299 : Index := 640#32
  ![v511.toNat, 640]
def k0_off15 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v596 : Index := Scalar.indexCast v21
  let c768_349 : Index := 768#32
  ![v596.toNat, 768]
def k0_off16 (i : grid0.Coords) : Fin 2 → Nat :=
  let arg2 : BitVec 32 := BitVec.ofNat 32 (i 2).val
  let c688_i32 : BitVec 32 := 688#32
  let v19 : BitVec 32 := Scalar.muli arg2 c688_i32
  let c0_i32_8 : BitVec 32 := 0#32
  let v20 : BitVec 32 := Scalar.addi v19 c0_i32_8
  let v21 : BitVec 32 := v20
  let v651 : Index := Scalar.indexCast v21
  let c896_374 : Index := 896#32
  ![v651.toNat, 896]
def k0_mult3 (i : grid0.Coords) : BitVec 32 :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  v676
def k0_off17 (i : grid0.Coords) : Fin 2 → Nat :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  let v677 : BitVec 32 := v676
  let v766 : Index := Scalar.indexCast v677
  let c0_446 : Index := 0#32
  ![v766.toNat, 0]
def k0_off18 (i : grid0.Coords) : Fin 2 → Nat :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  let v677 : BitVec 32 := v676
  let v843 : Index := Scalar.indexCast v677
  let c128_492 : Index := 128#32
  ![v843.toNat, 128]
def k0_off19 (i : grid0.Coords) : Fin 2 → Nat :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  let v677 : BitVec 32 := v676
  let v928 : Index := Scalar.indexCast v677
  let c256_544 : Index := 256#32
  ![v928.toNat, 256]
def k0_off20 (i : grid0.Coords) : Fin 2 → Nat :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  let v677 : BitVec 32 := v676
  let v1005 : Index := Scalar.indexCast v677
  let c384_590 : Index := 384#32
  ![v1005.toNat, 384]
def k0_off21 (i : grid0.Coords) : Fin 2 → Nat :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  let v677 : BitVec 32 := v676
  let v1090 : Index := Scalar.indexCast v677
  let c512_642 : Index := 512#32
  ![v1090.toNat, 512]
def k0_off22 (i : grid0.Coords) : Fin 2 → Nat :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  let v677 : BitVec 32 := v676
  let v1167 : Index := Scalar.indexCast v677
  let c640_688 : Index := 640#32
  ![v1167.toNat, 640]
def k0_off23 (i : grid0.Coords) : Fin 2 → Nat :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  let v677 : BitVec 32 := v676
  let v1252 : Index := Scalar.indexCast v677
  let c768_740 : Index := 768#32
  ![v1252.toNat, 768]
def k0_off24 (i : grid0.Coords) : Fin 2 → Nat :=
  let arg2 : BitVec 32 := BitVec.ofNat 32 (i 2).val
  let c688_i32_386 : BitVec 32 := 688#32
  let v675 : BitVec 32 := Scalar.muli arg2 c688_i32_386
  let c352_i32 : BitVec 32 := 352#32
  let v676 : BitVec 32 := Scalar.addi v675 c352_i32
  let v677 : BitVec 32 := v676
  let v1307 : Index := Scalar.indexCast v677
  let c896_767 : Index := 896#32
  ![v1307.toNat, 896]
def k0_mult4 (i : grid0.Coords) : BitVec 32 :=
  let arg2 : BitVec 32 := BitVec.ofNat 32 (i 2).val
  let c688_i32_779 : BitVec 32 := 688#32
  let v1331 : BitVec 32 := Scalar.muli arg2 c688_i32_779
  v1331
def k0_off25 (i : grid0.Coords) : Fin 2 → Nat :=
  let arg2 : BitVec 32 := BitVec.ofNat 32 (i 2).val
  let c688_i32_779 : BitVec 32 := 688#32
  let v1331 : BitVec 32 := Scalar.muli arg2 c688_i32_779
  let v1332 : BitVec 32 := v1331
  let v1333 : Index := Scalar.indexCast v1332
  let c0_780 : Index := 0#32
  ![v1333.toNat, 0]
def k0_off26 (i : grid0.Coords) : Fin 3 → Nat :=
  let c0_789 : Index := 0#32
  let arg2 : BitVec 32 := BitVec.ofNat 32 (i 2).val
  let c688_i32_779 : BitVec 32 := 688#32
  let v1331 : BitVec 32 := Scalar.muli arg2 c688_i32_779
  let v1332 : BitVec 32 := v1331
  let v1408 : Index := Scalar.indexCast v1332
  let c0_790 : Index := 0#32
  ![0, v1408.toNat, 0]
def k0_off27 (i : grid0.Coords) : Fin 3 → Nat :=
  let c0_791 : Index := 0#32
  let arg2 : BitVec 32 := BitVec.ofNat 32 (i 2).val
  let c688_i32_779 : BitVec 32 := 688#32
  let v1331 : BitVec 32 := Scalar.muli arg2 c688_i32_779
  let v1332 : BitVec 32 := v1331
  let v1412 : Index := Scalar.indexCast v1332
  let c128_792 : Index := 128#32
  ![0, v1412.toNat, 128]
def k0_off28 (i : grid0.Coords) : Fin 3 → Nat :=
  let c0_793 : Index := 0#32
  let arg2 : BitVec 32 := BitVec.ofNat 32 (i 2).val
  let c688_i32_779 : BitVec 32 := 688#32
  let v1331 : BitVec 32 := Scalar.muli arg2 c688_i32_779
  let v1332 : BitVec 32 := v1331
  let v1416 : Index := Scalar.indexCast v1332
  let c256_794 : Index := 256#32
  ![0, v1416.toNat, 256]
def k0_off29 (i : grid0.Coords) : Fin 3 → Nat :=
  let c0_795 : Index := 0#32
  let arg2 : BitVec 32 := BitVec.ofNat 32 (i 2).val
  let c688_i32_779 : BitVec 32 := 688#32
  let v1331 : BitVec 32 := Scalar.muli arg2 c688_i32_779
  let v1332 : BitVec 32 := v1331
  let v1420 : Index := Scalar.indexCast v1332
  let c384_796 : Index := 384#32
  ![0, v1420.toNat, 384]
def k0_off30 (i : grid0.Coords) : Fin 3 → Nat :=
  let c0_797 : Index := 0#32
  let arg2 : BitVec 32 := BitVec.ofNat 32 (i 2).val
  let c688_i32_779 : BitVec 32 := 688#32
  let v1331 : BitVec 32 := Scalar.muli arg2 c688_i32_779
  let v1332 : BitVec 32 := v1331
  let v1424 : Index := Scalar.indexCast v1332
  let c0_798 : Index := 0#32
  ![0, v1424.toNat, 0]
def k0_cond5 (i : grid0.Coords) : BitVec 1 :=
  let arg2 : BitVec 32 := BitVec.ofNat 32 (i 2).val
  let c2_i32 : BitVec 32 := 2#32
  let v14 : BitVec 1 := Scalar.cmpi .eq arg2 c2_i32
  let v15 : BitVec 32 := Scalar.extui v14
  let c0_i32_5 : BitVec 32 := 0#32
  let v16 : BitVec 1 := Scalar.cmpi .ne v15 c0_i32_5
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c3_i32 : BitVec 32 := 3#32
  let c0_i32 : BitVec 32 := 0#32
  ![arg0.toNat, v0.toNat, c3_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x688x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x688x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x8x688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2064x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x688x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x688x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x2064x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== AttnBwdIdeal.lean ====
variable {F : FTy → Type} [FloatOps F] [Named F]
def κ : String → Option EReal := fun
  | "mask" => some ⊥
  | _ => none
-- ==== AttnBwdRefIdeal.lean ====
abbrev S4x2064x3080 : Shape := ⟨3, ![4, 2064, 3080]⟩
abbrev S4x2064x8 : Shape := ⟨3, ![4, 2064, 8]⟩
abbrev S4x2064x512 : Shape := ⟨3, ![4, 2064, 512]⟩
abbrev S4x2064x1536 : Shape := ⟨3, ![4, 2064, 1536]⟩
abbrev S4x2064x8x64 : Shape := ⟨4, ![4, 2064, 8, 64]⟩
abbrev S4x8x2064x64 : Shape := ⟨4, ![4, 8, 2064, 64]⟩
abbrev S4x8x2064 : Shape := ⟨3, ![4, 8, 2064]⟩
abbrev S2064 : Shape := ⟨1, ![2064]⟩
abbrev S4x8x2064x2064 : Shape := ⟨4, ![4, 8, 2064, 2064]⟩
abbrev S_ : Shape := ⟨0, ![]⟩
abbrev S4x8x2064x1 : Shape := ⟨4, ![4, 8, 2064, 1]⟩
abbrev S4x8x1x2064 : Shape := ⟨4, ![4, 8, 1, 2064]⟩
abbrev S1x2064 : Shape := ⟨2, ![1, 2064]⟩
abbrev S2064x1 : Shape := ⟨2, ![2064, 1]⟩
abbrev S2064x2064 : Shape := ⟨2, ![2064, 2064]⟩
abbrev S4x8x64x2064 : Shape := ⟨4, ![4, 8, 64, 2064]⟩
abbrev S4x2064x128 : Shape := ⟨3, ![4, 2064, 128]⟩

abbrev nBuf : Space → Nat
  | .hbm => 131
  | .vmem => 0
  | .smem => 0
  | _ => 0

abbrev hbmTy0_0 (i : Nat) : BufTy := match i % 128 with
  | 0 => ⟨S4x2064x3080, .f32⟩
  | 1 => ⟨S4x2064x8, .f32⟩
  | 2 => ⟨S4x2064x512, .f32⟩
  | 3 => ⟨S4x2064x1536, .f32⟩
  | 4 => ⟨S4x2064x512, .f32⟩
  | 5 => ⟨S4x2064x512, .f32⟩
  | 6 => ⟨S4x2064x512, .f32⟩
  | 7 => ⟨S4x2064x8x64, .f32⟩
  | 8 => ⟨S4x8x2064x64, .f32⟩
  | 9 => ⟨S4x2064x8x64, .f32⟩
  | 10 => ⟨S4x8x2064x64, .f32⟩
  | 11 => ⟨S4x2064x8x64, .f32⟩
  | 12 => ⟨S4x8x2064x64, .f32⟩
  | 13 => ⟨S4x8x2064, .f32⟩
  | 14 => ⟨S2064, .i32⟩
  | 15 => ⟨S4x8x2064x2064, .f32⟩
  | 16 => ⟨S_, .f32⟩
  | 17 => ⟨S4x8x2064x2064, .f32⟩
  | 18 => ⟨S4x8x2064x2064, .f32⟩
  | 19 => ⟨S4x8x2064x1, .f32⟩
  | 20 => ⟨S4x8x2064x2064, .f32⟩
  | 21 => ⟨S4x8x2064x2064, .f32⟩
  | 22 => ⟨S4x8x1x2064, .f32⟩
  | 23 => ⟨S4x8x2064x2064, .f32⟩
  | 24 => ⟨S4x8x2064x2064, .f32⟩
  | 25 => ⟨S1x2064, .i32⟩
  | 26 => ⟨S2064x1, .i32⟩
  | 27 => ⟨S2064x2064, .i32⟩
  | 28 => ⟨S2064x2064, .i32⟩
  | 29 => ⟨S2064x2064, .i1⟩
  | 30 => ⟨S_, .f32⟩
  | 31 => ⟨S_, .f32⟩
  | 32 => ⟨S4x8x2064x2064, .i1⟩
  | 33 => ⟨S4x8x2064x2064, .f32⟩
  | 34 => ⟨S4x8x2064x2064, .f32⟩
  | 35 => ⟨S_, .f32⟩
  | 36 => ⟨S4x8x2064x2064, .f32⟩
  | 37 => ⟨S_, .f32⟩
  | 38 => ⟨S4x8x2064, .f32⟩
  | 39 => ⟨S4x8x2064x1, .f32⟩
  | 40 => ⟨S4x8x2064x2064, .f32⟩
  | 41 => ⟨S4x8x2064x2064, .i1⟩
  | 42 => ⟨S4x8x2064x2064, .f32⟩
  | 43 => ⟨S_, .f32⟩
  | 44 => ⟨S4x8x2064, .f32⟩
  | 45 => ⟨S_, .f32⟩
  | 46 => ⟨S4x8x2064, .f32⟩
  | 47 => ⟨S4x8x2064, .f32⟩
  | 48 => ⟨S_, .f32⟩
  | 49 => ⟨S4x8x2064, .f32⟩
  | 50 => ⟨S4x8x2064, .i1⟩
  | 51 => ⟨S_, .f32⟩
  | 52 => ⟨S4x8x2064, .f32⟩
  | 53 => ⟨S4x8x2064, .i1⟩
  | 54 => ⟨S_, .f32⟩
  | 55 => ⟨S4x8x2064, .f32⟩
  | 56 => ⟨S_, .f32⟩
  | 57 => ⟨S4x8x2064, .f32⟩
  | 58 => ⟨S_, .f32⟩
  | 59 => ⟨S4x8x2064, .f32⟩
  | 60 => ⟨S4x8x2064, .f32⟩
  | 61 => ⟨S4x8x2064, .f32⟩
  | 62 => ⟨S4x8x2064x1, .f32⟩
  | 63 => ⟨S4x8x2064x2064, .f32⟩
  | 64 => ⟨S4x8x2064x2064, .f32⟩
  | 65 => ⟨S4x8x2064x2064, .f32⟩
  | 66 => ⟨S_, .f32⟩
  | 67 => ⟨S4x8x2064, .f32⟩
  | 68 => ⟨S4x8x2064x1, .f32⟩
  | 69 => ⟨S4x8x2064x2064, .f32⟩
  | 70 => ⟨S4x8x2064x2064, .f32⟩
  | 71 => ⟨S4x8x2064x1, .f32⟩
  | 72 => ⟨S_, .f32⟩
  | 73 => ⟨S4x8x2064x1, .f32⟩
  | 74 => ⟨S4x8x2064x1, .f32⟩
  | 75 => ⟨S4x8x2064x64, .f32⟩
  | 76 => ⟨S4x2064x8x64, .f32⟩
  | 77 => ⟨S4x8x2064x64, .f32⟩
  | 78 => ⟨S4x8x64x2064, .f32⟩
  | 79 => ⟨S4x8x2064x64, .f32⟩
  | 80 => ⟨S4x8x2064x2064, .f32⟩
  | 81 => ⟨S4x8x2064x2064, .f32⟩
  | 82 => ⟨S4x8x2064x2064, .f32⟩
  | 83 => ⟨S4x8x2064x2064, .f32⟩
  | 84 => ⟨S_, .f32⟩
  | 85 => ⟨S4x8x2064, .f32⟩
  | 86 => ⟨S4x8x2064x1, .f32⟩
  | 87 => ⟨S4x8x2064x1, .f32⟩
  | 88 => ⟨S4x8x2064x2064, .f32⟩
  | 89 => ⟨S4x8x2064x2064, .f32⟩
  | 90 => ⟨S_, .f32⟩
  | 91 => ⟨S4x8x2064, .f32⟩
  | 92 => ⟨S4x8x2064x2064, .f32⟩
  | 93 => ⟨S4x8x2064x2064, .f32⟩
  | 94 => ⟨S4x8x2064x2064, .f32⟩
  | 95 => ⟨S_, .f32⟩
  | 96 => ⟨S4x8x2064x2064, .f32⟩
  | 97 => ⟨S4x8x2064x2064, .f32⟩
  | 98 => ⟨S4x8x2064x2064, .f32⟩
  | 99 => ⟨S_, .f32⟩
  | 100 => ⟨S4x8x2064, .f32⟩
  | 101 => ⟨S4x8x1x2064, .f32⟩
  | 102 => ⟨S_, .f32⟩
  | 103 => ⟨S4x8x2064, .f32⟩
  | 104 => ⟨S_, .f32⟩
  | 105 => ⟨S4x8x2064, .f32⟩
  | 106 => ⟨S4x8x2064x1, .f32⟩
  | 107 => ⟨S_, .f32⟩
  | 108 => ⟨S4x8x2064, .f32⟩
  | 109 => ⟨S_, .f32⟩
  | 110 => ⟨S4x8x2064x2064, .f32⟩
  | 111 => ⟨S4x8x2064x2064, .f32⟩
  | 112 => ⟨S4x8x2064x64, .f32⟩
  | 113 => ⟨S4x8x2064x64, .f32⟩
  | 114 => ⟨S4x2064x8x64, .f32⟩
  | 115 => ⟨S4x2064x512, .f32⟩
  | 116 => ⟨S4x2064x8x64, .f32⟩
  | 117 => ⟨S4x2064x512, .f32⟩
  | 118 => ⟨S4x2064x512, .bf16⟩
  | 119 => ⟨S4x2064x8x64, .f32⟩
  | 120 => ⟨S4x2064x512, .f32⟩
  | 121 => ⟨S4x2064x512, .bf16⟩
  | 122 => ⟨S4x8x2064, .f32⟩
  | 123 => ⟨S4x2064x8, .f32⟩
  | 124 => ⟨S_, .i32⟩
  | 125 => ⟨S_, .f32⟩
  | 126 => ⟨S4x2064x128, .f32⟩
  | 127 => ⟨S4x2064x8, .f32⟩
  | _ => ⟨S4x2064x3080, .f32⟩

abbrev hbmTy0_1 (i : Nat) : BufTy := match i % 128 with
  | 0 => ⟨S_, .i32⟩
  | 1 => ⟨S_, .f32⟩
  | 2 => ⟨S4x2064x128, .f32⟩
  | _ => ⟨S4x2064x3080, .f32⟩

abbrev hbmTy (i : Nat) : BufTy := match i / 128 with
  | 0 => hbmTy0_0 i
  | 1 => hbmTy0_1 i
  | _ => ⟨S4x2064x3080, .f32⟩

abbrev bufTy : (tb : Table) → Fin (tcTables nBuf tb) → BufTy
  | .hbm, ⟨i, _⟩ => hbmTy i
  | _, _ => ⟨S4x2064x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c : Ref sig .tc := ⟨.hbm, 124, rfl⟩
abbrev main_call2_v0 : Ref sig .tc := ⟨.hbm, 125, rfl⟩
abbrev main_v95 : Ref sig .tc := ⟨.hbm, 126, rfl⟩
abbrev main_v96 : Ref sig .tc := ⟨.hbm, 127, rfl⟩
abbrev main_c_18 : Ref sig .tc := ⟨.hbm, 128, rfl⟩
abbrev main_call3_v0 : Ref sig .tc := ⟨.hbm, 129, rfl⟩
abbrev main_v97 : Ref sig .tc := ⟨.hbm, 130, rfl⟩

abbrev nD : Nat := 1
abbrev τ : Topo := Topo.v7x

variable {F : FTy → Type} [FloatOps F]
-- ==== ForgetSum.lean ====
abbrev S4x2064x8 : Shape := ⟨3, ![4, 2064, 8]⟩
abbrev S1x8 : Shape := ⟨2, ![1, 8]⟩
abbrev S_ : Shape := ⟨0, ![]⟩
abbrev S4x2064x128 : Shape := ⟨3, ![4, 2064, 128]⟩
abbrev S1x128 : Shape := ⟨2, ![1, 128]⟩
abbrev S1x2064x128 : Shape := ⟨3, ![1, 2064, 128]⟩
abbrev S688x688 : Shape := ⟨2, ![688, 688]⟩
abbrev S1x688x128 : Shape := ⟨3, ![1, 688, 128]⟩
abbrev S688x128 : Shape := ⟨2, ![688, 128]⟩
abbrev S128 : Shape := ⟨1, ![128]⟩

abbrev nBuf : Space → Nat
  | .hbm => 9
  | .vmem => 5
  | .smem => 0
  | _ => 0

abbrev bufTy : (tb : Table) → Fin (tcTables nBuf tb) → BufTy
  | .hbm, ⟨0, _⟩ => ⟨S4x2064x8, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S4x2064x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S4x2064x128, .f32⟩
  | .local _ .vmem, ⟨0, _⟩ => ⟨S1x2064x128, .f32⟩
  | .local _ .vmem, ⟨1, _⟩ => ⟨S1x2064x128, .f32⟩
  | .local _ .vmem, ⟨2, _⟩ => ⟨S1x128, .f32⟩
  | .local _ .vmem, ⟨3, _⟩ => ⟨S1x2064x128, .f32⟩
  | .local _ .vmem, ⟨4, _⟩ => ⟨S1x2064x128, .f32⟩
  | _, _ => ⟨S4x2064x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ForgetSumRefIdeal.lean ====
abbrev S4x2064x8 : Shape := ⟨3, ![4, 2064, 8]⟩
abbrev S1x8 : Shape := ⟨2, ![1, 8]⟩
abbrev S_ : Shape := ⟨0, ![]⟩
abbrev S4x2064x128 : Shape := ⟨3, ![4, 2064, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S4x2064x8, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S4x2064x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S128, .f32⟩
  | .hbm, ⟨9, _⟩ => ⟨S1x1x128, .f32⟩
  | .hbm, ⟨10, _⟩ => ⟨S4x2064x128, .f32⟩
  | .hbm, ⟨11, _⟩ => ⟨S4x2064x128, .f32⟩
  | .hbm, ⟨12, _⟩ => ⟨S4x2064x128, .f32⟩
  | .hbm, ⟨13, _⟩ => ⟨S_, .f32⟩
  | .hbm, ⟨14, _⟩ => ⟨S4x2064x128, .f32⟩
  | .hbm, ⟨15, _⟩ => ⟨S4x2064x128, .f32⟩
  | .hbm, ⟨16, _⟩ => ⟨S4x2064x128, .f32⟩
  | .hbm, ⟨17, _⟩ => ⟨S4x2064x128, .f32⟩
  | .hbm, ⟨18, _⟩ => ⟨S4x2064x128, .i1⟩
  | .hbm, ⟨19, _⟩ => ⟨S4x2064x128, .f32⟩
  | .hbm, ⟨20, _⟩ => ⟨S4x2064x128, .f32⟩
  | .hbm, ⟨21, _⟩ => ⟨S4x2064x128, .f32⟩
  | .hbm, ⟨22, _⟩ => ⟨S4x2064x128, .f32⟩
  | .hbm, ⟨23, _⟩ => ⟨S4x2064x128, .f32⟩
  | .hbm, ⟨24, _⟩ => ⟨S4x2064x128, .f32⟩
  | .hbm, ⟨25, _⟩ => ⟨S4x2064x128, .f32⟩
  | .hbm, ⟨26, _⟩ => ⟨S4x2064x128, .f32⟩
  | .hbm, ⟨27, _⟩ => ⟨S4x2064x128, .f32⟩
  | .hbm, ⟨28, _⟩ => ⟨S_, .f32⟩
  | .hbm, ⟨29, _⟩ => ⟨S_, .f32⟩
  | .hbm, ⟨30, _⟩ => ⟨S4x2064x128, .f32⟩
  | _, _ => ⟨S4x2064x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call2_v0 : Ref sig .tc := ⟨.hbm, 12, rfl⟩
abbrev main_call2_call0_cst : Ref sig .tc := ⟨.hbm, 13, rfl⟩
abbrev main_call2_call0_v0 : Ref sig .tc := ⟨.hbm, 14, rfl⟩
abbrev main_call2_call0_v1 : Ref sig .tc := ⟨.hbm, 15, rfl⟩
abbrev main_call2_call0_v2 : Ref sig .tc := ⟨.hbm, 16, rfl⟩
abbrev main_call2_call0_v3 : Ref sig .tc := ⟨.hbm, 17, rfl⟩
abbrev main_call2_call0_v4 : Ref sig .tc := ⟨.hbm, 18, rfl⟩
abbrev main_call2_call0_v5 : Ref sig .tc := ⟨.hbm, 19, rfl⟩
abbrev main_call2_call0_v6 : Ref sig .tc := ⟨.hbm, 20, rfl⟩
abbrev main_call2_call0_v7 : Ref sig .tc := ⟨.hbm, 21, rfl⟩
abbrev main_call2_call0_v8 : Ref sig .tc := ⟨.hbm, 22, rfl⟩
abbrev main_call2_call0_v9 : Ref sig .tc := ⟨.hbm, 23, rfl⟩
abbrev main_call2_call0_v10 : Ref sig .tc := ⟨.hbm, 24, rfl⟩
abbrev main_call2_call0_v11 : Ref sig .tc := ⟨.hbm, 25, rfl⟩
abbrev main_call2_v1 : Ref sig .tc := ⟨.hbm, 26, rfl⟩
abbrev main_v6 : Ref sig .tc := ⟨.hbm, 27, rfl⟩
abbrev main_call3_call0_cst : Ref sig .tc := ⟨.hbm, 28, rfl⟩
abbrev main_call3_call0_v0 : Ref sig .tc := ⟨.hbm, 29, rfl⟩
abbrev main_v7 : Ref sig .tc := ⟨.hbm, 30, rfl⟩

abbrev nD : Nat := 1
abbrev τ : Topo := Topo.v7x

variable {F : FTy → Type} [FloatOps F]
-- ==== AdamW.lean ====
abbrev S1x1024x1408 : Shape := ⟨3, ![1, 1024, 1408]⟩
abbrev S1024x1408 : Shape := ⟨2, ![1024, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S_, .f32⟩
  | .hbm, ⟨39, _⟩ => ⟨S1024x1408, .f32⟩
  | .hbm, ⟨40, _⟩ => ⟨S1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== MixFwd.lean ====
abbrev S4x2064x3080 : Shape := ⟨3, ![4, 2064, 3080]⟩
abbrev S4x2064x512 : Shape := ⟨3, ![4, 2064, 512]⟩
abbrev S1x3x512 : Shape := ⟨3, ![1, 3, 512]⟩
abbrev S1x512 : Shape := ⟨2, ![1, 512]⟩
abbrev S1x1024x1024 : Shape := ⟨3, ![1, 1024, 1024]⟩
abbrev S4x2064x1024 : Shape := ⟨3, ![4, 2064, 1024]⟩
abbrev S1x1024 : Shape := ⟨2, ![1, 1024]⟩
abbrev S4x2064x3072 : Shape := ⟨3, ![4, 2064, 3072]⟩
abbrev S3x512 : Shape := ⟨2, ![3, 512]⟩
abbrev S_ : Shape := ⟨0, ![]⟩
abbrev S8x512 : Shape := ⟨2, ![8, 512]⟩
abbrev S512 : Shape := ⟨1, ![512]⟩
abbrev S512x1 : Shape := ⟨2, ![512, 1]⟩
abbrev S512x512 : Shape := ⟨2, ![512, 512]⟩
abbrev S1024x1024 : Shape := ⟨2, ![1024, 1024]⟩
abbrev S1x688x512 : Shape := ⟨3, ![1, 688, 512]⟩
abbrev S1x16x512 : Shape := ⟨3, ![1, 16, 512]⟩
abbrev S1x688x1024 : Shape := ⟨3, ![1, 688, 1024]⟩
abbrev S688x512 : Shape := ⟨2, ![688, 512]⟩
abbrev S16x512 : Shape := ⟨2, ![16, 512]⟩
abbrev S688x1024 : Shape := ⟨2, ![688, 1024]⟩
abbrev S512x1024 : Shape := ⟨2, ![512, 1024]⟩
abbrev S688 : Shape := ⟨1, ![688]⟩
abbrev S688x1 : Shape := ⟨2, ![688, 1]⟩

abbrev nBuf : Space → Nat
  | .hbm => 49
  | .vmem => 26
  | .smem => 0
  | _ => 0

abbrev bufTy : (tb : Table) → Fin (tcTables nBuf tb) → BufTy
  | .hbm, ⟨0, _⟩ => ⟨S4x2064x3080, .f32⟩
  | .hbm, ⟨1, _⟩ => ⟨S4x2064x512, .f32⟩
  | .hbm, ⟨2, _⟩ => ⟨S1x3x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S4x2064x1024, .f32⟩
  | .hbm, ⟨7, _⟩ => ⟨S1x1024, .f32⟩
  | .hbm, ⟨8, _⟩ => ⟨S4x2064x3072, .f32⟩
  | .hbm, ⟨9, _⟩ => ⟨S4x2064x3072, .bf16⟩
  | .hbm, ⟨10, _⟩ => ⟨S3x512, .f32⟩
  | .hbm, ⟨11, _⟩ => ⟨S_, .i32⟩
  | .hbm, ⟨12, _⟩ => ⟨S_, .f32⟩
  | .hbm, ⟨13, _⟩ => ⟨S8x512, .f32⟩
  | .hbm, ⟨14, _⟩ => ⟨S512, .i32⟩
  | .hbm, ⟨15, _⟩ => ⟨S_, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S1x512, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S_, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .bf16⟩
  | .hbm, ⟨44, _⟩ => ⟨S1024x1024, .f32⟩
  | .hbm, ⟨45, _⟩ => ⟨S1024x1024, .bf16⟩
  | .hbm, ⟨46, _⟩ => ⟨S4x2064x1024, .f32⟩
  | .hbm, ⟨47, _⟩ => ⟨S4x2064x1024, .bf16⟩
  | .hbm, ⟨48, _⟩ => ⟨S4x2064x1024, .bf16⟩
  | .local _ .vmem, ⟨0, _⟩ => ⟨S1x688x512, .bf16⟩
  | .local _ .vmem, ⟨1, _⟩ => ⟨S1x688x512, .bf16⟩
  | .local _ .vmem, ⟨2, _⟩ => ⟨S1x688x512, .bf16⟩
  | .local _ .vmem, ⟨3, _⟩ => ⟨S1x688x512, .bf16⟩
  | .local _ .vmem, ⟨4, _⟩ => ⟨S1x688x512, .bf16⟩
  | .local _ .vmem, ⟨5, _⟩ => ⟨S1x688x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x688x512, .f32⟩
  | .local _ .vmem, ⟨11, _⟩ => ⟨S1x688x512, .f32⟩
  | .local _ .vmem, ⟨12, _⟩ => ⟨S8x512, .f32⟩
  | .local _ .vmem, ⟨13, _⟩ => ⟨S512x512, .bf16⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S1x688x1024, .f32⟩
  | .local _ .vmem, ⟨18, _⟩ => ⟨S1x688x1024, .f32⟩
  | .local _ .vmem, ⟨19, _⟩ => ⟨S1x1024, .f32⟩
  | .local _ .vmem, ⟨20, _⟩ => ⟨S1x688x1024, .f32⟩
  | .local _ .vmem, ⟨21, _⟩ => ⟨S1x688x1024, .f32⟩
  | .local _ .vmem, ⟨22, _⟩ => ⟨S1x688x1024, .bf16⟩
  | .local _ .vmem, ⟨23, _⟩ => ⟨S1x688x1024, .bf16⟩
  | .local _ .vmem, ⟨24, _⟩ => ⟨S1x688x1024, .bf16⟩
  | .local _ .vmem, ⟨25, _⟩ => ⟨S1x688x1024, .bf16⟩
  | _, _ => ⟨S4x2064x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_cst_1 : Ref sig .tc := ⟨.hbm, 39, rfl⟩
abbrev main_call2_v0 : Ref sig .tc := ⟨.hbm, 40, rfl⟩
abbrev main_call2_v1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15_0 : Ref sig .tc := ⟨.hbm, 46, rfl⟩
abbrev main_v15_1 : Ref sig .tc := ⟨.hbm, 47, rfl⟩
abbrev main_v15_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg1 c43_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg1 c43_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x688x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x688x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x688x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x688x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixFwdRefIdeal.lean ====
abbrev S4x2064x3080 : Shape := ⟨3, ![4, 2064, 3080]⟩
abbrev S4x2064x512 : Shape := ⟨3, ![4, 2064, 512]⟩
abbrev S1x3x512 : Shape := ⟨3, ![1, 3, 512]⟩
abbrev S1x512 : Shape := ⟨2, ![1, 512]⟩
abbrev S1x1024x1024 : Shape := ⟨3, ![1, 1024, 1024]⟩
abbrev S4x2064x1024 : Shape := ⟨3, ![4, 2064, 1024]⟩
abbrev S1x1024 : Shape := ⟨2, ![1, 1024]⟩
abbrev S3x512 : Shape := ⟨2, ![3, 512]⟩
abbrev S_ : Shape := ⟨0, ![]⟩
abbrev S4x2x512 : Shape := ⟨3, ![4, 2, 512]⟩
abbrev S4x2066x512 : Shape := ⟨3, ![4, 2066, 512]⟩
abbrev S512 : Shape := ⟨1, ![512]⟩
abbrev S1x1x512 : Shape := ⟨3, ![1, 1, 512]⟩
abbrev S4x2064x8x64 : Shape := ⟨4, ![4, 2064, 8, 64]⟩
abbrev S4x2064x8 : Shape := ⟨3, ![4, 2064, 8]⟩
abbrev S4x2064x8x1 : Shape := ⟨4, ![4, 2064, 8, 1]⟩
abbrev S1024x1024 : Shape := ⟨2, ![1024, 1024]⟩
abbrev S1024 : Shape := ⟨1, ![1024]⟩
abbrev S4x2064 : Shape := ⟨2, ![4, 2064]⟩
abbrev S4x2064x1 : Shape := ⟨3, ![4, 2064, 1]⟩
abbrev S1x1x1024 : Shape := ⟨3, ![1, 1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4x2064x3080, .f32⟩
  | .hbm, ⟨1, _⟩ => ⟨S4x2064x512, .f32⟩
  | .hbm, ⟨2, _⟩ => ⟨S1x3x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S4x2064x1024, .f32⟩
  | .hbm, ⟨7, _⟩ => ⟨S1x1024, .f32⟩
  | .hbm, ⟨8, _⟩ => ⟨S4x2064x512, .f32⟩
  | .hbm, ⟨9, _⟩ => ⟨S4x2064x512, .f32⟩
  | .hbm, ⟨10, _⟩ => ⟨S4x2064x512, .f32⟩
  | .hbm, ⟨11, _⟩ => ⟨S4x2064x512, .f32⟩
  | .hbm, ⟨12, _⟩ => ⟨S3x512, .f32⟩
  | .hbm, ⟨13, _⟩ => ⟨S_, .f32⟩
  | .hbm, ⟨14, _⟩ => ⟨S4x2x512, .f32⟩
  | .hbm, ⟨15, _⟩ => ⟨S4x2066x512, .f32⟩
  | .hbm, ⟨16, _⟩ => ⟨S1x512, .f32⟩
  | .hbm, ⟨17, _⟩ => ⟨S512, .f32⟩
  | .hbm, ⟨18, _⟩ => ⟨S4x2064x512, .f32⟩
  | .hbm, ⟨19, _⟩ => ⟨S1x1x512, .f32⟩
  | .hbm, ⟨20, _⟩ => ⟨S4x2064x512, .f32⟩
  | .hbm, ⟨21, _⟩ => ⟨S4x2064x512, .f32⟩
  | .hbm, ⟨22, _⟩ => ⟨S1x512, .f32⟩
  | .hbm, ⟨23, _⟩ => ⟨S512, .f32⟩
  | .hbm, ⟨24, _⟩ => ⟨S4x2064x512, .f32⟩
  | .hbm, ⟨25, _⟩ => ⟨S1x1x512, .f32⟩
  | .hbm, ⟨26, _⟩ => ⟨S4x2064x512, .f32⟩
  | .hbm, ⟨27, _⟩ => ⟨S4x2064x512, .f32⟩
  | .hbm, ⟨28, _⟩ => ⟨S4x2064x512, .f32⟩
  | .hbm, ⟨29, _⟩ => ⟨S1x512, .f32⟩
  | .hbm, ⟨30, _⟩ => ⟨S512, .f32⟩
  | .hbm, ⟨31, _⟩ => ⟨S4x2064x512, .f32⟩
  | .hbm, ⟨32, _⟩ => ⟨S1x1x512, .f32⟩
  | .hbm, ⟨33, _⟩ => ⟨S4x2064x512, .f32⟩
  | .hbm, ⟨34, _⟩ => ⟨S4x2064x512, .f32⟩
  | .hbm, ⟨35, _⟩ => ⟨S4x2064x512, .f32⟩
  | .hbm, ⟨36, _⟩ => ⟨S4x2064x512, .f32⟩
  | .hbm, ⟨37, _⟩ => ⟨S512, .f32⟩
  | .hbm, ⟨38, _⟩ => ⟨S4x2064x8x64, .f32⟩
  | .hbm, ⟨39, _⟩ => ⟨S4x2064x8x64, .f32⟩
  | .hbm, ⟨40, _⟩ => ⟨S_, .f32⟩
  | .hbm, ⟨41, _⟩ => ⟨S4x2064x8, .f32⟩
  | .hbm, ⟨42, _⟩ => ⟨S4x2064x8x1, .f32⟩
  | .hbm, ⟨43, _⟩ => ⟨S_, .f32⟩
  | .hbm, ⟨44, _⟩ => ⟨S4x2064x8x1, .f32⟩
  | .hbm, ⟨45, _⟩ => ⟨S4x2064x8x1, .f32⟩
  | .hbm, ⟨46, _⟩ => ⟨S_, .f32⟩
  | .hbm, ⟨47, _⟩ => ⟨S4x2064x8x1, .f32⟩
  | .hbm, ⟨48, _⟩ => ⟨S4x2064x8x1, .f32⟩
  | .hbm, ⟨49, _⟩ => ⟨S4x2064x8x1, .f32⟩
  | .hbm, ⟨50, _⟩ => ⟨S4x2064x8x64, .f32⟩
  | .hbm, ⟨51, _⟩ => ⟨S4x2064x8x64, .f32⟩
  | .hbm, ⟨52, _⟩ => ⟨S4x2064x512, .f32⟩
  | .hbm, ⟨53, _⟩ => ⟨S1x1x512, .f32⟩
  | .hbm, ⟨54, _⟩ => ⟨S4x2064x512, .f32⟩
  | .hbm, ⟨55, _⟩ => ⟨S4x2064x512, .f32⟩
  | .hbm, ⟨56, _⟩ => ⟨S512, .f32⟩
  | .hbm, ⟨57, _⟩ => ⟨S4x2064x8x64, .f32⟩
  | .hbm, ⟨58, _⟩ => ⟨S4x2064x8x64, .f32⟩
  | .hbm, ⟨59, _⟩ => ⟨S_, .f32⟩
  | .hbm, ⟨60, _⟩ => ⟨S4x2064x8, .f32⟩
  | .hbm, ⟨61, _⟩ => ⟨S4x2064x8x1, .f32⟩
  | .hbm, ⟨62, _⟩ => ⟨S_, .f32⟩
  | .hbm, ⟨63, _⟩ => ⟨S4x2064x8x1, .f32⟩
  | .hbm, ⟨64, _⟩ => ⟨S4x2064x8x1, .f32⟩
  | .hbm, ⟨65, _⟩ => ⟨S_, .f32⟩
  | .hbm, ⟨66, _⟩ => ⟨S4x2064x8x1, .f32⟩
  | .hbm, ⟨67, _⟩ => ⟨S4x2064x8x1, .f32⟩
  | .hbm, ⟨68, _⟩ => ⟨S4x2064x8x1, .f32⟩
  | .hbm, ⟨69, _⟩ => ⟨S4x2064x8x64, .f32⟩
  | .hbm, ⟨70, _⟩ => ⟨S4x2064x8x64, .f32⟩
  | .hbm, ⟨71, _⟩ => ⟨S4x2064x512, .f32⟩
  | .hbm, ⟨72, _⟩ => ⟨S1x1x512, .f32⟩
  | .hbm, ⟨73, _⟩ => ⟨S4x2064x512, .f32⟩
  | .hbm, ⟨74, _⟩ => ⟨S4x2064x512, .f32⟩
  | .hbm, ⟨75, _⟩ => ⟨S4x2064x1024, .f32⟩
  | .hbm, ⟨76, _⟩ => ⟨S1024x1024, .f32⟩
  | .hbm, ⟨77, _⟩ => ⟨S4x2064x1024, .f32⟩
  | .hbm, ⟨78, _⟩ => ⟨S4x2064x1024, .f32⟩
  | .hbm, ⟨79, _⟩ => ⟨S4x2064x1024, .bf16⟩
  | .hbm, ⟨80, _⟩ => ⟨S1024, .f32⟩
  | .hbm, ⟨81, _⟩ => ⟨S4x2064x1024, .f32⟩
  | .hbm, ⟨82, _⟩ => ⟨S_, .f32⟩
  | .hbm, ⟨83, _⟩ => ⟨S4x2064, .f32⟩
  | .hbm, ⟨84, _⟩ => ⟨S4x2064x1, .f32⟩
  | .hbm, ⟨85, _⟩ => ⟨S_, .f32⟩
  | .hbm, ⟨86, _⟩ => ⟨S4x2064x1, .f32⟩
  | .hbm, ⟨87, _⟩ => ⟨S4x2064x1, .f32⟩
  | .hbm, ⟨88, _⟩ => ⟨S_, .f32⟩
  | .hbm, ⟨89, _⟩ => ⟨S4x2064x1, .f32⟩
  | .hbm, ⟨90, _⟩ => ⟨S4x2064x1, .f32⟩
  | .hbm, ⟨91, _⟩ => ⟨S4x2064x1, .f32⟩
  | .hbm, ⟨92, _⟩ => ⟨S4x2064x1024, .f32⟩
  | .hbm, ⟨93, _⟩ => ⟨S4x2064x1024, .f32⟩
  | .hbm, ⟨94, _⟩ => ⟨S1x1x1024, .f32⟩
  | .hbm, ⟨95, _⟩ => ⟨S4x2064x1024, .f32⟩
  | .hbm, ⟨96, _⟩ => ⟨S4x2064x1024, .f32⟩
  | .hbm, ⟨97, _⟩ => ⟨S4x2064x1024, .bf16⟩
  | _, _ => ⟨S4x2064x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== FfnUp.lean ====
abbrev S8256x1024 : Shape := ⟨2, ![8256, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x8256x2816 : Shape := ⟨3, ![2, 8256, 2816]⟩
abbrev S1376x1024 : Shape := ⟨2, ![1376, 1024]⟩
abbrev S1x1024x1408 : Shape := ⟨3, ![1, 1024, 1408]⟩
abbrev S1x1376x1408 : Shape := ⟨3, ![1, 1376, 1408]⟩
abbrev S1024x1408 : Shape := ⟨2, ![1024, 1408]⟩
abbrev S1376x1408 : Shape := ⟨2, ![1376, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8256x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S8256x1024, .bf16⟩
  | .hbm, ⟨6, _⟩ => ⟨S2x8256x2816, .bf16⟩
  | .local _ .vmem, ⟨0, _⟩ => ⟨S1376x1024, .bf16⟩
  | .local _ .vmem, ⟨1, _⟩ => ⟨S1376x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1376x1408, .bf16⟩
  | .local _ .vmem, ⟨5, _⟩ => ⟨S1x1376x1408, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1376x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpRefIdeal.lean ====
abbrev S8256x1024 : Shape := ⟨2, ![8256, 1024]⟩
abbrev S1024x5632 : Shape := ⟨2, ![1024, 5632]⟩
abbrev S8256x5632 : Shape := ⟨2, ![8256, 5632]⟩
abbrev S8256x2816 : Shape := ⟨2, ![8256, 2816]⟩
abbrev S1x8256x2816 : Shape := ⟨3, ![1, 8256, 2816]⟩
abbrev S2x8256x2816 : Shape := ⟨3, ![2, 8256, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024x5632, .f32⟩
  | .hbm, ⟨2, _⟩ => ⟨S8256x5632, .f32⟩
  | .hbm, ⟨3, _⟩ => ⟨S8256x2816, .f32⟩
  | .hbm, ⟨4, _⟩ => ⟨S8256x2816, .f32⟩
  | .hbm, ⟨5, _⟩ => ⟨S1x8256x2816, .f32⟩
  | .hbm, ⟨6, _⟩ => ⟨S1x8256x2816, .f32⟩
  | .hbm, ⟨7, _⟩ => ⟨S2x8256x2816, .f32⟩
  | .hbm, ⟨8, _⟩ => ⟨S2x8256x2816, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DwUp.lean ====
abbrev S8256x1024 : Shape := ⟨2, ![8256, 1024]⟩
abbrev S8256x5632 : Shape := ⟨2, ![8256, 5632]⟩
abbrev S8256x2816 : Shape := ⟨2, ![8256, 2816]⟩
abbrev S1x8256x2816 : Shape := ⟨3, ![1, 8256, 2816]⟩
abbrev S2x8256x2816 : Shape := ⟨3, ![2, 8256, 2816]⟩
abbrev S4x1024x1408 : Shape := ⟨3, ![4, 1024, 1408]⟩
abbrev S2064x1024 : Shape := ⟨2, ![2064, 1024]⟩
abbrev S1x2064x1408 : Shape := ⟨3, ![1, 2064, 1408]⟩
abbrev S1x1024x1408 : Shape := ⟨3, ![1, 1024, 1408]⟩
abbrev S1024x1408 : Shape := ⟨2, ![1024, 1408]⟩
abbrev S2064x1408 : Shape := ⟨2, ![2064, 1408]⟩
abbrev S2064x512 : Shape := ⟨2, ![2064, 512]⟩
abbrev S512x1408 : Shape := ⟨2, ![512, 1408]⟩
abbrev S1x512x1408 : Shape := ⟨3, ![1, 512, 1408]⟩

abbrev nBuf : Space → Nat
  | .hbm => 10
  | .vmem => 6
  | .smem => 0
  | _ => 0

abbrev bufTy : (tb : Table) → Fin (tcTables nBuf tb) → BufTy
  | .hbm, ⟨0, _⟩ => ⟨S8256x1024, .f32⟩
  | .hbm, ⟨1, _⟩ => ⟨S8256x5632, .f32⟩
  | .hbm, ⟨2, _⟩ => ⟨S8256x2816, .f32⟩
  | .hbm, ⟨3, _⟩ => ⟨S8256x2816, .f32⟩
  | .hbm, ⟨4, _⟩ => ⟨S1x8256x2816, .f32⟩
  | .hbm, ⟨5, _⟩ => ⟨S1x8256x2816, .f32⟩
  | .hbm, ⟨6, _⟩ => ⟨S2x8256x2816, .f32⟩
  | .hbm, ⟨7, _⟩ => ⟨S2x8256x2816, .bf16⟩
  | .hbm, ⟨8, _⟩ => ⟨S8256x1024, .bf16⟩
  | .hbm, ⟨9, _⟩ => ⟨S4x1024x1408, .f32⟩
  | .local _ .vmem, ⟨0, _⟩ => ⟨S2064x1024, .bf16⟩
  | .local _ .vmem, ⟨1, _⟩ => ⟨S2064x1024, .bf16⟩
  | .local _ .vmem, ⟨2, _⟩ => ⟨S1x2064x1408, .bf16⟩
  | .local _ .vmem, ⟨3, _⟩ => ⟨S1x2064x1408, .bf16⟩
  | .local _ .vmem, ⟨4, _⟩ => ⟨S1x1024x1408, .f32⟩
  | .local _ .vmem, ⟨5, _⟩ => ⟨S1x1024x1408, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2064x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S8256x1024 : Shape := ⟨2, ![8256, 1024]⟩
abbrev S8256x5632 : Shape := ⟨2, ![8256, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x5632, .f32⟩
  | .hbm, ⟨2, _⟩ => ⟨S_, .f32⟩
  | .hbm, ⟨3, _⟩ => ⟨S1024x5632, .f32⟩
  | .hbm, ⟨4, _⟩ => ⟨S8256x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Common.lean ====
module

public import Idealize.ShloMosaic.Lib.Pipeline.ValueKit
public import Idealize.ShloMosaic.Lib.Pointwise
public import Idealize.ShloMosaic.Lib.Tactic
public import Idealize.ShloMosaic.Lib.WordCmp

@[expose] public section

noncomputable section

namespace Cert
export List (flatten_cons flatten_nil append_nil cons_append nil_append)
export Idealize.ShloMosaic.View (readAt_eq_ld)
export Idealize.ShloMosaic.Memref.IsWhole (read_unread)
end Cert

namespace Cert.Common

open Idealize.ShloMosaic WordCmp Pointwise

theorem add2 {a b c d : EReal} (h : a = c) (k : b = d) : a + b = c + d := congrArg₂ _ h k

theorem ix2_ext {a b : ℕ} {i j : Fin a} {k l : Fin b} (h : i.val = j.val) (g : k.val = l.val) : ix2 i k = ix2 j l := congrArg₂ ix2 (Fin.ext h) (Fin.ext g)

/-! ## Selections by a comparison of two counts -/

theorem sel_eq {α : Type} {n k : ℕ} (hn : n < 2 ^ 32) (hk : k < 2 ^ 32) (a b : α) :
    Scalar.select (IntOp.cmpi .eq (BitVec.ofNat 32 n) (BitVec.ofNat 32 k)) a b = if n = k then a else b := by
  by_cases h : n = k
  · rw [if_pos h, select_of_eq_one ((cmpi_eq_ofNat_eq_one_iff hn hk).mpr h)]
  · rw [if_neg h, select_of_eq_zero ((cmpi_eq_ofNat_eq_zero_iff hn hk).mpr h)]

theorem sel_lt {α : Type} {n k : ℕ} (hn : n < 2 ^ 31) (hk : k < 2 ^ 31) (a b : α) :
    Scalar.select (IntOp.cmpi .slt (BitVec.ofNat 32 n) (BitVec.ofNat 32 k)) a b = if n < k then a else b := by
  by_cases h : n < k
  · rw [if_pos h, select_of_eq_one ((cmpi_slt_ofNat_eq_one_iff hn hk).mpr h)]
  · rw [if_neg h, select_of_eq_zero ((cmpi_slt_ofNat_eq_zero_iff hn hk).mpr (by omega))]

theorem sel_ge {α : Type} {n k : ℕ} (hn : n < 2 ^ 31) (hk : k < 2 ^ 31) (a b : α) :
    Scalar.select (IntOp.cmpi .sge (BitVec.ofNat 32 n) (BitVec.ofNat 32 k)) a b = if k ≤ n then a else b := by
  by_cases h : k ≤ n
  · rw [if_pos h, select_of_eq_one ((cmpi_sge_ofNat_eq_one_iff hn hk).mpr h)]
  · rw [if_neg h, select_of_eq_zero ((cmpi_sge_ofNat_eq_zero_iff hn hk).mpr (by omega))]

theorem sel_le {α : Type} {n k : ℕ} (hn : n < 2 ^ 31) (hk : k < 2 ^ 31) (a b : α) :
    Scalar.select (IntOp.cmpi .sle (BitVec.ofNat 32 n) (BitVec.ofNat 32 k)) a b = if n ≤ k then a else b := by
  by_cases h : n ≤ k
  · rw [if_pos h, select_of_eq_one ((cmpi_sle_ofNat_eq_one_iff hn hk).mpr h)]
  · rw [if_neg h, select_of_eq_zero ((cmpi_sle_ofNat_eq_zero_iff hn hk).mpr (by omega))]

/-! ## The infinities -/

theorem word_top : Ideal.ofBits .f32 2139095040#32 = ⊤ := by simp [Ideal.ofBits, Ideal.ieee]

/-- An array whose entries are finite holds reals. -/
theorem real_of_finite {S : Shape} (y : S.Idx → EReal) (h : ∀ i, y i ≠ ⊤ ∧ y i ≠ ⊥) : y = fun i => (((y i).toReal : ℝ) : EReal) :=
  funext fun i => (EReal.coe_toReal (h i).1 (h i).2).symm

/-- What a test `|x| < inf` says of `x`. -/
theorem finite_of_test {x : EReal} (h : FloatOps.cmpf (F := Ideal) (φ := .f32) .olt (FloatOps.absf (F := Ideal) (φ := .f32) x) (Ideal.ofBits .f32 2139095040#32) = 1#1) :
    x ≠ ⊤ ∧ x ≠ ⊥ := by
  rw [word_top] at h
  have h' : max x (-x) < ⊤ := by
    by_contra hn
    have : Ideal.cmp .olt (max x (-x)) ⊤ = 1#1 := h
    simp [Ideal.cmp, hn] at this
  constructor
  · rintro rfl; simp at h'
  · rintro rfl; simp at h'

theorem sub_self_of {x : EReal} (h : x ≠ ⊤ ∧ x ≠ ⊥) : x - x = 0 := EReal.sub_self h.1 h.2

/-- The derivative of the log of the logistic, as the reference's rule spells it, is a logistic value. -/
theorem exp_sub_softplus (x : EReal) :
    Ideal.exp ((if x = ⊤ then 0 else x) -
      if (if x ≠ x then x else max x 0 + Ideal.log1p (Ideal.exp (-max x (-x)))) = ⊤ then 0
      else if x ≠ x then x else max x 0 + Ideal.log1p (Ideal.exp (-max x (-x)))) = Ideal.logistic x := by
  simp only [ne_eq, not_true_eq_false, if_false]
  induction x with
  | bot => simp [Ideal.log1p]
  | top => simp [Ideal.log1p, -EReal.coe_one]; rw [← EReal.coe_one, Ideal.log_coe]; simp; rw [← EReal.coe_zero, Ideal.exp_coe]; simp
  | coe r =>
    have hp : (0 : ℝ) < 1 + Real.exp (-(max r (-r))) := by positivity
    have e : max (r : EReal) 0 + Ideal.log1p (Ideal.exp (-max (r : EReal) (-(r : EReal)))) = ((max r 0 + Real.log (1 + Real.exp (-(max r (-r)))) : ℝ) : EReal) := by
      have e1 : max (r : EReal) (-(r : EReal)) = ((max r (-r) : ℝ) : EReal) := by rw [← EReal.coe_neg, EReal.coe_strictMono.monotone.map_max]
      have e2 : max (r : EReal) 0 = ((max r 0 : ℝ) : EReal) := by rw [EReal.coe_strictMono.monotone.map_max]; rfl
      rw [e1, e2, ← EReal.coe_neg, Ideal.exp_coe, Ideal.log1p, ← EReal.coe_one, ← EReal.coe_add, Ideal.log_coe, if_neg (not_le.mpr hp), ← EReal.coe_add]
    rw [e, if_neg (EReal.coe_ne_top _), if_neg (EReal.coe_ne_top _), ← EReal.coe_sub, Ideal.exp_coe, Ideal.logistic_coe]
    congr 1
    rw [Real.exp_sub, Real.exp_add, Real.exp_log hp]
    rcases le_total 0 r with h | h
    · rw [max_eq_left h, max_eq_left (by linarith)]
      have := Real.exp_pos r
      field_simp
    · rw [max_eq_right h, max_eq_right (by linarith), Real.exp_zero, neg_neg, Real.exp_neg]
      have := Real.exp_pos r
      field_simp
      try ring

/-! ## A running sum on the host -/

theorem foldl_add_finRange {n : ℕ} (f : Fin n → EReal) (v : EReal) : (List.finRange n).foldl (fun r k => r + f k) v = v + ∑ k, f k := by
  rw [← List.foldl_map (f := f) (g := fun r x => r + x), Fin.sum_univ_def]
  generalize (List.finRange n).map f = l
  induction l generalizing v with
  | nil => simp
  | cons a l ih => rw [List.foldl_cons, ih, List.sum_cons, add_assoc]

/-- The sum of the entries from row `r` on, as the host's window sum over the middle axis spells it. -/
theorem window_sum {A N C M : ℕ} (x : (⟨3, ![A, N, C]⟩ : Shape).Idx → EReal) (init : (⟨0, ![]⟩ : Shape).Idx → EReal) (h : (⟨3, ![A, N, C]⟩ : Shape).ReduceWindows ![1, N, 1] ![1, 1, 1] ![0, 0, 0] ![0, M, 0] ⟨3, ![A, N, C]⟩)
    (hu : 0 < (⟨0, ![]⟩ : Shape).numel) (h0 : ∀ i, init i = 0) (b : Fin A) (r : Fin N) (l : Fin C) :
    Host.reduceWindowAdd (F := Ideal) (φ := .f32) (s := ⟨3, ![A, N, C]⟩) (t := ⟨3, ![A, N, C]⟩) ![1, N, 1] ![1, 1, 1] ![0, 0, 0] ![0, M, 0] x init h hu (ix3 b r l) =
      ∑ k : Fin N, if hk : r.val + k.val < N then x (ix3 b ⟨r.val + k.val, hk⟩ l) else 0 := by
  unfold Host.reduceWindowAdd
  rw [Ideal.hostReduceWindowAdd_def]
  unfold Ideal.hostReduceWindowAdd Host.reduceWindow
  rw [foldl_add_finRange, h0, zero_add]
  refine ((Equiv.sum_comp (⟨3, ![1, N, 1]⟩ : Shape).rowMajor _).symm).trans ?_
  rw [sum_idx3, Fin.sum_univ_one]
  refine Finset.sum_congr rfl fun k _ => ?_
  rw [Fin.sum_univ_one]
  have e (a : Fin 3) : ((⟨3, ![1, N, 1]⟩ : Shape).rowMajor.symm ((⟨3, ![1, N, 1]⟩ : Shape).rowMajor (ix3 0 k 0)) a) = (ix3 (0 : Fin 1) k (0 : Fin 1) : (⟨3, ![1, N, 1]⟩ : Shape).Idx) a := by
    rw [Equiv.symm_apply_apply]
  by_cases hk : r.val + k.val < N
  · rw [dif_pos hk]
    refine (dif_pos ?hin).trans ?_
    case hin =>
      intro a
      dsimp only
      erw [e a]
      fin_cases a <;> simp [ix3, hk]
    · congr 1
      funext a
      refine Fin.ext ?_
      dsimp only
      erw [e a]
      fin_cases a <;> simp [ix3]
  · rw [dif_neg hk, dif_neg (fun hh => hk ?_)]
    have := (hh 1).2
    dsimp only at this
    erw [e 1] at this
    simp only [Matrix.cons_val_one, Matrix.cons_val_zero, mul_one, Nat.sub_zero] at this
    exact this

/-- The host's sum over the two leading axes of three. -/
@[pointwise] theorem host_sum_lead2 {n0 n1 n2 : ℕ} (h : (⟨3, ![n0, n1, n2]⟩ : Shape).ReducesTo [0, 1] ⟨1, ![n2]⟩) (v : (⟨3, ![n0, n1, n2]⟩ : Shape).Idx → EReal) (init : EReal)
    (j : (⟨1, ![n2]⟩ : Shape).Idx) : Ideal.hostReduceAdd h v init j = init + ∑ a : Fin n0, ∑ b : Fin n1, v (ix3 a b (j 0)) := by
  have key (i : (⟨3, ![n0, n1, n2]⟩ : Shape).Idx) : h.drop i = j ↔ ∃ k : Fin n0 × Fin n1, ix3 k.1 k.2 (j 0) = i := by
    constructor
    · intro e
      refine ⟨(i 0, i 1), ?_⟩
      funext a
      fin_cases a
      · rfl
      · rfl
      · exact Fin.ext (congrArg Fin.val (congrFun e 0)).symm
    · rintro ⟨k, rfl⟩
      funext a
      fin_cases a
      rfl
  unfold Ideal.hostReduceAdd
  classical
  have e := Finset.sum_filter_eq_sum_of_fiber (fun i => h.drop i = j) (fun k : Fin n0 × Fin n1 => (ix3 k.1 k.2 (j 0) : (⟨3, ![n0, n1, n2]⟩ : Shape).Idx)) (fun _ _ e => Prod.ext (congrFun e 0) (congrFun e 1)) key v
  simp only [Fintype.sum_prod_type] at e
  refine congrArg (init + ·) (Eq.trans ?_ e)
  congr

/-- A masked sum that keeps one term. -/
theorem sum_one {n : ℕ} (k : Fin n) (hn : n < 2 ^ 32) (f : Fin n → EReal) :
    ∑ x : Fin n, Scalar.select (IntOp.cmpi .eq (BitVec.ofNat 32 x.val) (BitVec.ofNat 32 k.val)) (f x) 0 = f k := by
  rw [Finset.sum_eq_single k]
  · rw [sel_eq (by omega) (by omega), if_pos rfl]
  · intro x _ hx
    rw [sel_eq (by omega) (by omega), if_neg fun h => hx (Fin.ext h)]
  · intro h; exact absurd (Finset.mem_univ _) h

end Cert.Common

end
-- ==== Proof.ConvValue.lean ====
module

public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Common

@[expose] public section

set_option maxRecDepth 16384

noncomputable section

open Idealize.ShloMosaic TcCoe Idealize.SL.Sem
open Idealize.ShloMosaic.Pipeline (Dat)

namespace Cert.ConvBwdIdeal.Hand

open Cert.ConvBwdIdeal Cert.ConvBwdIdeal.Gen

variable (m : (ℓ : Loc nD τ sig) → Buf (Elt Ideal) ℓ) (ρ : Dev nD → PrngReg)

theorem idx : ∀ t : Fin cfg0.N, win0_0.index t = ![t.val / 3, t.val % 3, 0] ∧ win0_1.index t = ![t.val / 3, min ((t.val % 3 + 1) * 43) 128, 0]
   ∧ win0_2.index t = ![t.val / 3, t.val % 3, 1] ∧ win0_3.index t = ![t.val / 3, t.val % 3, 2] ∧ win0_4.index t = ![0, 0]
   ∧ win0_5.index t = ![t.val / 3, t.val % 3, 0] ∧ ((grid0.coords t) 1).val = t.val % 3 :=
  (by decide +kernel)

/-- A cotangent column with zeros below its end. -/
def below (C : S4x2064x512.Idx → EReal) (b : Fin 4) (l : Fin 512) (r : ℕ) : EReal := if h : r < 2064 then C (ix3 b ⟨r, h⟩ l) else 0

/-- The cotangent of the product that the short convolution reads: row `r` feeds the three rows from `r` on. -/
def back (W : S1x3x512.Idx → EReal) (C : S4x2064x512.Idx → EReal) (b : Fin 4) (l : Fin 512) (r : ℕ) : EReal :=
  W (ix3 0 2 l) * below C b l r + W (ix3 0 1 l) * below C b l (r + 1) + W (ix3 0 0 l) * below C b l (r + 2)

/-- What one entry of the result is, over the three argument arrays. -/
def entry (X : S4x2064x3080.Idx → EReal) (W : S1x3x512.Idx → EReal) (C : S4x2064x512.Idx → EReal) (b : Fin 4) (r : Fin 2064) (l : Fin 1024) : EReal :=
  if h : l.val < 512 then back W C b ⟨l.val, h⟩ r.val * X (ix3 b r ⟨1024 + l.val, by omega⟩)
  else back W C b ⟨l.val - 512, by omega⟩ r.val * X (ix3 b r ⟨512 + (l.val - 512), by omega⟩)

theorem tlt (t : Fin cfg0.N) : t.val < 12 := by have := t.isLt; have h : cfg0.N = 12 := N_0; omega

theorem blk0 (c : Dev nD) (t : Fin cfg0.N) (r : Fin 688) (l : Fin 512) :
    iblk m c 0 t (ix3 0 r l) = below (m (c.tc.loc main_arg2)) ⟨t.val / 3, by have := tlt t; omega⟩ l (t.val % 3 * 688 + r.val) := by
  have := tlt t
  rw [below, dif_pos (by omega)]
  blk_ext [iblk, V, idx t]

theorem blk1 (c : Dev nD) (t : Fin cfg0.N) (r : Fin 16) (l : Fin 512) (h : t.val % 3 < 2) :
    iblk m c 1 t (ix3 0 r l) = below (m (c.tc.loc main_arg2)) ⟨t.val / 3, by have := tlt t; omega⟩ l (t.val % 3 * 688 + 688 + r.val) := by
  have := tlt t
  rw [below, dif_pos (by omega)]
  blk_ext [iblk, V, idx t]

theorem blk2 (c : Dev nD) (t : Fin cfg0.N) (r : Fin 688) (l : Fin 512) :
    iblk m c 2 t (ix3 0 r l) = m (c.tc.loc main_arg0) (ix3 ⟨t.val / 3, by have := tlt t; omega⟩ ⟨t.val % 3 * 688 + r.val, by omega⟩ ⟨512 + l.val, by omega⟩) := by
  have := tlt t
  blk_simp [iblk, idx t]
  simp only [V, hostOps0, hostOps0_1, hostOps0_2, flatten_cons, flatten_nil, append_nil, cons_append, nil_append]
  entry_read; pointwise; blk_ext [idx t]

theorem blk3 (c : Dev nD) (t : Fin cfg0.N) (r : Fin 688) (l : Fin 512) :
    iblk m c 3 t (ix3 0 r l) = m (c.tc.loc main_arg0) (ix3 ⟨t.val / 3, by have := tlt t; omega⟩ ⟨t.val % 3 * 688 + r.val, by omega⟩ ⟨1024 + l.val, by omega⟩) := by
  have := tlt t
  blk_simp [iblk, idx t]
  simp only [V, hostOps0, hostOps0_1, hostOps0_2, flatten_cons, flatten_nil, append_nil, cons_append, nil_append]
  entry_read; pointwise; blk_ext [idx t]

theorem blk4 (c : Dev nD) (t : Fin cfg0.N) (r : Fin 8) (l : Fin 512) (hr : r.val < 3) :
    iblk m c 4 t (ix2 r l) = m (c.tc.loc main_arg1) (ix3 0 ⟨r.val, hr⟩ l) := by
  have := tlt t
  blk_simp [iblk, idx t]
  simp only [V, hostOps0, hostOps0_1, hostOps0_2, flatten_cons, flatten_nil, append_nil, cons_append, nil_append]
  entry_read; simp -implicitDefEqProofs only [StableHlo.TRef.toBuf, StableHlo.TRef.ofBuf, cast_eq]; pointwise
  refine (dif_pos (by blk_simp [idx t]; exact hr)).trans ?_
  blk_ext [idx t]

theorem ref (X : S4x2064x3080.Idx → EReal) (W : S1x3x512.Idx → EReal) (C : S4x2064x512.Idx → EReal) (i : S4x2064x1024.Idx) :
   Cert.ConvBwdRefIdeal.Read.val_main_v45 (F := Ideal) X W C i = entry X W C (i 0) (i 1) (i 2) := by
  idx_vars i
  open Cert.ConvBwdRefIdeal.Read in
  pointwise [val_main_v0,val_main_v1,val_main_v2,val_main_v3,val_main_cst,val_main_v4,val_main_v5,val_main_cst_0,val_main_v6,val_main_v7,val_main_v8,val_main_v9,val_main_v10,val_main_v11,val_main_v12,val_main_v13,val_main_v14,val_main_v15,val_main_v16,val_main_v17,val_main_v18,val_main_v19,val_main_v20,val_main_v21,val_main_v22,val_main_v23,val_main_v24,val_main_v25,val_main_v26,val_main_v27,val_main_v28,val_main_v29,val_main_v30,val_main_cst_1,val_main_v31,val_main_v32,val_main_v33,val_main_cst_2,val_main_v34,val_main_v35,val_main_v36,val_main_v37,val_main_cst_3,val_main_v38,val_main_v39,val_main_v40,val_main_v41,val_main_v42,val_main_v43,val_main_v44,val_main_v45]
  unfold entry back below
  have hs (k : ℕ) : 2 + k - 1 = k + 1 := by omega
  have ha (k : ℕ) : 2 + k = k + 2 := by omega
  have h1 (k : ℕ) : 1 ≤ k + 2 := by omega
  have hk (k : ℕ) : k + 2 - 1 = k + 1 := by omega
  have hl : i2.val - 512 < 512 := by omega
  by_cases h0 : i2.val < 512
  · simp only [h0, i1.isLt, hs, ha, h1, hk, true_and, and_true, dite_true, mul_dite, mul_zero]
  · simp only [h0, hl, i1.isLt, hs, ha, h1, hk, true_and, and_true, dite_true, dite_false, mul_dite, mul_zero]
    exact mul_comm _ _

/-- The result array. -/
def whole (X : S4x2064x3080.Idx → EReal) (W : S1x3x512.Idx → EReal) (C : S4x2064x512.Idx → EReal) : S4x2064x1024.Idx → EReal :=
  fun i => entry X W C (i 0) (i 1) (i 2)

theorem whole_at (X : S4x2064x3080.Idx → EReal) (W : S1x3x512.Idx → EReal) (C : S4x2064x512.Idx → EReal) (i : S4x2064x1024.Idx) (b : Fin 4) (r : Fin 2064) (l : Fin 1024)
    (hb : (i 0).val = b.val) (hr : (i 1).val = r.val) (hl : (i 2).val = l.val) : whole X W C i = entry X W C b r l := by
  have e0 : i 0 = b := Fin.ext hb
  have e1 : i 1 = r := Fin.ext hr
  have e2 : i 2 = l := Fin.ext hl
  rw [whole, e0, e1, e2]

theorem pay (c : Dev nD) (t : Fin cfg0.N) (r : Fin 688) (l : Fin 512) :
    k0_pay1 (k0_pay4 (iblk m c 0 t)) (k0_pay7 (grid0.coords t) (iblk m c 0 t) (iblk m c 1 t)) k0_pay8 (k0_pay9 (grid0.coords t) (iblk m c 0 t) (iblk m c 1 t))
      (k0_pay10 (grid0.coords t) (iblk m c 1 t)) (iblk m c 4 t) (ix2 r l)
    = back (m (c.tc.loc main_arg1)) (m (c.tc.loc main_arg2)) ⟨t.val / 3, by have := tlt t; omega⟩ l (t.val % 3 * 688 + r.val) := by
  have ht := tlt t
  have eg : (grid0.coords t 1).val = t.val % 3 := (idx t).2.2.2.2.2.2
  have hh0 := blk0 m c t; have hh1 := blk1 m c t
  have hh4 := blk4 m c t
  generalize iblk m c 0 t = x0 at *
  generalize iblk m c 1 t = x1 at *
  generalize iblk m c 4 t = x4 at *
  pointwise [k0_pay1,k0_pay4,k0_pay5,k0_pay6,k0_pay7,k0_pay8,k0_pay9,k0_pay10]
  rw [eg]
  have s0 := Cert.Common.sum_one (n := 16) 0 (by decide)
  have s1 := Cert.Common.sum_one (n := 16) 1 (by decide)
  simp only [Fin.val_zero, Fin.val_one] at s0 s1
  simp only [s0, s1, Scalar.cmpi]
  simp (disch := omega) only [Common.sel_eq]
  rw [hh4 2 l (by decide), hh4 1 l (by decide), hh4 0 l (by decide), hh0, hh0, hh0, back]
  have z (k : ℕ) (hk : 2064 ≤ k) : below (m (c.tc.loc main_arg2)) ⟨t.val / 3, by omega⟩ l k = 0 := by rw [below, dif_neg (by omega)]
  congr 1
  · congr 1
    refine congrArg₂ _ rfl ?_
    · split_ifs with ha hb
      · rw [z _ (by omega)]
      · rw [hh1 _ _ (by omega)]; congr 1; show _ + 688 + 0 = _; omega
      · congr 1; dsimp only; omega
  · refine congrArg₂ _ rfl ?_
    split_ifs with ha hb hc hd
    · rw [z _ (by omega)]
    · rw [hh1 _ _ (by omega)]; congr 1; show _ + 688 + 0 = _; omega
    · rw [z _ (by omega)]
    · rw [hh1 _ _ (by omega)]; congr 1; show _ + 688 + 1 = _; omega
    · congr 1; dsimp only; omega

theorem final (c : Dev nD) : (dats m 0 c).arrAt 5 cfg0.N = whole (m (c.tc.loc main_arg0)) (m (c.tc.loc main_arg1)) (m (c.tc.loc main_arg2)) := by
  refine (dats m 0 c).arrAt_eq_of_covers 5 _ (by decide +kernel) fun t hf y => ?_
  blk_simp [idx]
  rw [after0_5]
  have ht := tlt t
  have e0 : (((View.whole main_v5).slice (win0_5.rect t)).emb y 0).val = t.val / 3 + (y 0).val := by blk_simp [idx]; try omega
  have e1 : (((View.whole main_v5).slice (win0_5.rect t)).emb y 1).val = t.val % 3 * 688 + (y 1).val := by blk_simp [idx]; try omega
  have e2 : (((View.whole main_v5).slice (win0_5.rect t)).emb y 2).val = (y 2).val := by blk_simp [idx]; try omega
  have hp := pay m c t
  unfold_out out0_5
  simp (disch := decide) only [View.ld_unit_lit]
  canon_tiles x h
  · have hx1 : (x 1).val < 688 := x1_lt
    have hx2 : (x 2).val < 512 := x2_lt
    refine Eq.trans ?_ (whole_at _ _ _ _ ⟨t.val / 3, by omega⟩ ⟨t.val % 3 * 688 + (x 1).val, by omega⟩ ⟨512 + (x 2).val, by omega⟩ (by rw [e0]; dsimp only; omega) (by rw [e1]; dsimp only; omega) (by rw [e2]; dsimp only; omega)).symm
    idx_vars x
    pointwise [k0_pay3]
    rw [hp, blk2, entry, dif_neg (by dsimp only; omega)]
    congr 2
    · congr 1; apply Fin.ext; dsimp only; omega
    · congr 1; apply Fin.ext; dsimp only; omega
  · have hx1 : (x 1).val < 688 := x1_lt
    have hx2 : (x 2).val < 512 := x2_lt
    refine Eq.trans ?_ (whole_at _ _ _ _ ⟨t.val / 3, by omega⟩ ⟨t.val % 3 * 688 + (x 1).val, by omega⟩ ⟨(x 2).val, by omega⟩ (by rw [e0]; dsimp only; omega) (by rw [e1]; dsimp only; omega) (by rw [e2]; dsimp only; omega)).symm
    idx_vars x
    pointwise [k0_pay2]
    rw [hp, blk3, entry, dif_pos (by dsimp only; omega)]

end Cert.ConvBwdIdeal.Hand
-- ==== Proof.ConvClaims.lean ====
module

public import proofs.«01_k».proof.Defs
public import proofs.«01_k».proof.Proof.Gen.ConvBwd
public import proofs.«01_k».proof.Proof.Gen.ConvBwd.Frame
public import proofs.«01_k».proof.Proof.Gen.ConvBwdIdeal
public import proofs.«01_k».proof.Proof.Gen.ConvBwdRefIdeal
public import proofs.«01_k».proof.Proof.ConvValue
public import Idealize.ShloMosaic.Lib.Claim

@[expose] public section

set_option maxRecDepth 16384

noncomputable section

namespace Cert.Proof

open Idealize.ShloMosaic Idealize.SL.Sem

theorem conv_frame : Cert.quiescent_ConvBwd := fun m ρ _ => Cert.ConvBwd.Gen.frame m ρ
theorem conv_frame_ideal : Cert.quiescent_ConvBwdIdeal := fun m ρ _ => Cert.ConvBwdIdeal.Gen.frame m ρ
theorem conv_frame_ref : Cert.quiescent_ConvBwdRefIdeal := by
  intro m ρ _
  hlo_run
  · exact fun _ => ⟨trivial, trivial, trivial⟩
  · exact sem_eq_zero_of_no_sems (sig := Cert.ConvBwdRefIdeal.sig) (by decide) _
theorem conv_value : Cert.algebraic_ConvBwdIdeal_ConvBwdRefIdeal := by
  pair_intro
  · run_from Cert.ConvBwdIdeal.Value.run_blocks m g
  · run_from Cert.ConvBwdRefIdeal.Value.run m' g'
    rw [Cert.ConvBwdRefIdeal.Read.val_main_v45_eq, Cert.ConvBwdIdeal.Hand.final, (hagree c).2.2]
    exact funext fun i => Cert.ConvBwdIdeal.Hand.ref _ _ _ i

end Cert.Proof

end
-- ==== Proof.ForgetValue.lean ====
module

public import proofs.«01_k».proof.Proof.Gen.ForgetBwdIdeal.Value
public import proofs.«01_k».proof.Proof.Gen.ForgetBwdRefIdeal.Run
public import proofs.«01_k».proof.Proof.Gen.ForgetBwdRefIdeal.Read
public import proofs.«01_k».proof.Proof.Common

@[expose] public section

set_option maxRecDepth 16384

noncomputable section

open Idealize.ShloMosaic TcCoe Idealize.SL.Sem
open Idealize.ShloMosaic.Pipeline (Dat)

namespace Cert.ForgetBwdIdeal.Hand

open Cert.ForgetBwdIdeal Cert.ForgetBwdIdeal.Gen

variable (m : (ℓ : Loc nD τ sig) → Buf (Elt Ideal) ℓ) (ρ : Dev nD → PrngReg)

theorem idx : ∀ t : Fin cfg0.N, win0_0.index t = ![t.val, 0, 0] ∧ win0_1.index t = ![t.val, 0, 0]
   ∧ win0_2.index t = ![t.val, 0, 0] ∧ win0_3.index t = ![0, 0] ∧ win0_4.index t = ![t.val, 0, 0]
   ∧ win0_5.index t = ![0, 0] :=
  (by decide +kernel)

theorem tlt (t : Fin cfg0.N) : t.val < 4 := by have := t.isLt; have h : cfg0.N = 4 := N_0; omega

/-- The batch element a grid point works on. -/
def bat (t : Fin cfg0.N) : Fin 4 := ⟨t.val, tlt t⟩

/-- An array with eight lanes, with zeros in the further lanes and below its end. -/
def wide (A : S4x2064x8.Idx → EReal) (b : Fin 4) (l : Fin 128) (r : ℕ) : EReal :=
  if h : r < 2064 ∧ l.val < 8 then A (ix3 b ⟨r, h.1⟩ ⟨l.val, h.2⟩) else 0

/-- The bias row with zeros in the further lanes. -/
def wideRow (B : S1x8.Idx → EReal) (l : Fin 128) : EReal := if h : l.val < 8 then B (ix2 0 ⟨l.val, h⟩) else 0

theorem zero_int : FloatOps.sitofp (F := Ideal) .f32 0#32 = 0 := by
  show (((0#32 : BitVec 32).toInt : ℝ) : EReal) = 0
  simp

theorem blk0 (c : Dev nD) (t : Fin cfg0.N) (r : Fin 2064) (l : Fin 128) :
    iblk m c 0 t (ix3 0 r l) = wide (m (c.tc.loc main_arg2)) (bat t) l r.val := by
  have := tlt t
  blk_simp [iblk, idx t]
  simp only [V, hostOps0, hostOps0_1, hostOps0_2, hostOps0_3, hostOps0_4, hostOps0_5, hostOps0_6, hostOps0_7, flatten_cons, flatten_nil, append_nil, cons_append, nil_append]
  entry_read; simp -implicitDefEqProofs only [StableHlo.TRef.toBuf, StableHlo.TRef.ofBuf, cast_eq]; pointwise
  rw [zero_int]
  unfold wide
  by_cases hl : l.val < 8
  · refine (dif_pos (by blk_simp [idx t]; exact hl)).trans ?_
    rw [dif_pos ⟨r.isLt, hl⟩, bat]
    blk_ext [idx t]
  · rw [dif_neg (show ¬(r.val < 2064 ∧ l.val < 8) from fun h => hl h.2)]
    exact dif_neg (by blk_simp [idx t]; omega)

theorem blk1 (c : Dev nD) (t : Fin cfg0.N) (r : Fin 2064) (l : Fin 128) :
    iblk m c 1 t (ix3 0 r l) = wide (m (c.tc.loc main_arg3)) (bat t) l r.val := by
  have := tlt t
  blk_simp [iblk, idx t]
  simp only [V, hostOps0, hostOps0_1, hostOps0_2, hostOps0_3, hostOps0_4, hostOps0_5, hostOps0_6, hostOps0_7, flatten_cons, flatten_nil, append_nil, cons_append, nil_append]
  entry_read; simp -implicitDefEqProofs only [StableHlo.TRef.toBuf, StableHlo.TRef.ofBuf, cast_eq]; pointwise
  rw [zero_int]
  unfold wide
  by_cases hl : l.val < 8
  · refine (dif_pos (by blk_simp [idx t]; exact hl)).trans ?_
    rw [dif_pos ⟨r.isLt, hl⟩, bat]
    blk_ext [idx t]
  · rw [dif_neg (show ¬(r.val < 2064 ∧ l.val < 8) from fun h => hl h.2)]
    exact dif_neg (by blk_simp [idx t]; omega)

theorem blk2 (c : Dev nD) (t : Fin cfg0.N) (r : Fin 2064) (l : Fin 128) :
    iblk m c 2 t (ix3 0 r l) = wide (m (c.tc.loc main_arg0)) (bat t) l r.val := by
  have := tlt t
  blk_simp [iblk, idx t]
  simp only [V, hostOps0, hostOps0_1, hostOps0_2, hostOps0_3, hostOps0_4, hostOps0_5, hostOps0_6, hostOps0_7, flatten_cons, flatten_nil, append_nil, cons_append, nil_append]
  entry_read; simp -implicitDefEqProofs only [StableHlo.TRef.toBuf, StableHlo.TRef.ofBuf, cast_eq]; pointwise
  rw [zero_int]
  unfold wide
  by_cases hl : l.val < 8
  · refine (dif_pos (by blk_simp [idx t]; exact hl)).trans ?_
    rw [dif_pos ⟨r.isLt, hl⟩, bat]
    blk_ext [idx t]
  · rw [dif_neg (show ¬(r.val < 2064 ∧ l.val < 8) from fun h => hl h.2)]
    exact dif_neg (by blk_simp [idx t]; omega)

theorem blk3 (c : Dev nD) (t : Fin cfg0.N) (l : Fin 128) :
    iblk m c 3 t (ix2 0 l) = wideRow (m (c.tc.loc main_arg1)) l := by
  have := tlt t
  blk_simp [iblk, idx t]
  simp only [V, hostOps0, hostOps0_1, hostOps0_2, hostOps0_3, hostOps0_4, hostOps0_5, hostOps0_6, hostOps0_7, flatten_cons, flatten_nil, append_nil, cons_append, nil_append]
  entry_read; simp -implicitDefEqProofs only [StableHlo.TRef.toBuf, StableHlo.TRef.ofBuf, cast_eq]; pointwise
  rw [zero_int]
  unfold wideRow
  by_cases hl : l.val < 8
  · refine (dif_pos (by blk_simp [idx t]; exact hl)).trans ?_
    rw [dif_pos hl]
    blk_ext [idx t]
  · rw [dif_neg hl]
    exact dif_neg (by blk_simp [idx t]; omega)

/-! ## A running sum taken chunk by chunk -/

theorem chunk_sum (d : ℕ → EReal) (o r : ℕ) : ∑ k : Fin 688, (if r ≤ k.val then d (o + k.val) else 0) = ∑ j ∈ Finset.Ico (o + r) (o + 688), d j := by
  rw [Fin.sum_univ_eq_sum_range (fun k => if r ≤ k then d (o + k) else 0) 688, ← Finset.sum_filter]
  have e : (Finset.range 688).filter (fun k => r ≤ k) = Finset.Ico r 688 := by
    ext k; simp only [Finset.mem_filter, Finset.mem_range, Finset.mem_Ico]; omega
  rw [e, add_comm o r, add_comm o 688, ← Finset.sum_Ico_add']
  exact Finset.sum_congr rfl fun k _ => by rw [add_comm]

theorem chunk_all (d : ℕ → EReal) (o : ℕ) : ∑ k : Fin 688, d (o + k.val) = ∑ j ∈ Finset.Ico o (o + 688), d j := by
  rw [← Nat.add_zero o, ← chunk_sum d o 0]
  simp

/-- The sum of a difference from one row of a chunk on, plus what the later chunks left. -/
theorem pay16 (z : S1x128.Idx → EReal) (x y : S1x688x128.Idx → EReal) (hx : ∀ i, x i - y i ≠ ⊤ ∧ x i - y i ≠ ⊥) (r : Fin 688) (l : Fin 128) :
    k0_pay16 (F := Ideal) k0_pay5 z x y (ix2 r l) = ∑ k : Fin 688, (if r.val ≤ k.val then x (ix3 0 k l) - y (ix3 0 k l) else 0) + z (ix2 0 l) := by
  pointwise [k0_pay16, k0_pay15, k0_pay5]
  simp only [fun i => Common.sub_self_of (hx i), sub_zero]
  simp (disch := omega) only [Common.sel_le, ite_self, Finset.sum_const_zero, add_zero]

theorem pay9 (x y : S1x688x128.Idx → EReal) (hx : ∀ i, x i - y i ≠ ⊤ ∧ x i - y i ≠ ⊥) (r : Fin 688) (l : Fin 128) :
    k0_pay9 (F := Ideal) x y (ix2 r l) = ∑ k : Fin 688, (if r.val ≤ k.val then x (ix3 0 k l) - y (ix3 0 k l) else 0) := by
  refine (pay16 (k0_pay6 (F := Ideal)) x y hx r l).trans ?_
  pointwise [k0_pay6]

theorem pay22 (z : S1x128.Idx → EReal) (x y : S1x688x128.Idx → EReal) (hx : ∀ i, x i - y i ≠ ⊤ ∧ x i - y i ≠ ⊥) (r : Fin 688) (l : Fin 128) :
    k0_pay22 (F := Ideal) k0_pay5 z x y (ix2 r l) = ∑ k : Fin 688, (if r.val ≤ k.val then x (ix3 0 k l) - y (ix3 0 k l) else 0) + z (ix2 0 l) :=
  pay16 z x y hx r l

theorem pay17 (z : S1x128.Idx → EReal) (x y : S1x688x128.Idx → EReal) (l : Fin 128) :
    k0_pay17 (F := Ideal) z x y (ix2 0 l) = z (ix2 0 l) + ∑ k : Fin 688, (x (ix3 0 k l) - y (ix3 0 k l)) := by
  pointwise [k0_pay17, k0_pay15]

theorem pay10 (x y : S1x688x128.Idx → EReal) (l : Fin 128) :
    k0_pay10 (F := Ideal) x y (ix2 0 l) = ∑ k : Fin 688, (x (ix3 0 k l) - y (ix3 0 k l)) := by
  pointwise [k0_pay10, k0_pay8, k0_pay6]
  try rw [zero_add]

open Cert.ForgetBwdRefIdeal.Read in
theorem ref10 (G : S4x2064x8.Idx → EReal) (B : S1x8.Idx → EReal) (Q K : S4x2064x8.Idx → EReal) (b : Fin 4) (r : Fin 2064) (l : Fin 8) :
   val_main_v10 (F := Ideal) G B Q K (ix3 b r l) = val_main_v9 (F := Ideal) Q K (ix3 b r l) * Ideal.logistic (-(G (ix3 b r l) + B (ix2 0 l))) := by
  pointwise [val_main_v10, val_main_call3_v1, val_main_call3_v0, val_main_v4_1, val_main_call0_call0_v21, val_main_call0_call0_v16, val_main_call0_call0_v20, val_main_call0_call0_v14, val_main_call0_call0_v15, val_main_call0_v0,  val_main_call0_call0_v18, val_main_call0_call0_v19, val_main_call0_v1_0, val_main_call0_call0_v13,val_main_call0_call0_v17,val_main_call0_call0_v4,val_main_call0_call0_v6,val_main_call0_call0_v11,val_main_call0_call0_v3,val_main_call0_call0_v5,val_main_call0_call0_v1,val_main_call0_call0_v10,val_main_call0_call0_v0,val_main_call0_call0_v2,val_main_call0_call0_v9,val_main_call0_call0_v8,val_main_call0_call0_v7,val_main_call0_call0_cst,val_main_call0_call0_cst_0,val_main_call0_call0_cst_1,val_main_call0_call0_cst_2,val_main_call0_call0_cst_3,val_main_v3,val_main_v2,val_main_v1,val_main_v0]
  rw [Common.word_top]
  refine Eq.trans ?_ (congrArg (fun z => val_main_v9 (F := Ideal) Q K (ix3 b r l) * z) (Common.exp_sub_softplus (-(G (ix3 b r l) + B (ix2 0 l)))))
  rw [neg_mul, neg_neg]
  rfl

open Cert.ForgetBwdRefIdeal.Read in
theorem ref9 (Q K : S4x2064x8.Idx → EReal) (b : Fin 4) (r : Fin 2064) (l : Fin 8) :
   val_main_v9 (F := Ideal) Q K (ix3 b r l) = ∑ j ∈ Finset.Ico r.val 2064, (wide Q b ⟨l.val, by omega⟩ j - wide K b ⟨l.val, by omega⟩ j) := by
  unfold val_main_v9
  refine (Common.window_sum (A := 4) (N := 2064) (C := 8) _ _ _ _ (fun i => ?_) b r l).trans ?_
  · pointwise [val_main_call2_call0_v0, val_main_call2_call0_cst]
  have hz : ∑ j ∈ Finset.Ico 2064 (r.val + 2064), (wide Q b ⟨l.val, by omega⟩ j - wide K b ⟨l.val, by omega⟩ j) = 0 := by
    refine Finset.sum_eq_zero fun j hj => ?_
    have := (Finset.mem_Ico.mp hj).1
    rw [wide, wide, dif_neg (fun h => by omega), dif_neg (fun h => by omega), sub_zero]
  refine Eq.trans ?_ (add_zero _)
  rw [← hz, Finset.sum_Ico_consecutive _ (by omega) (by omega), Finset.sum_Ico_eq_sum_range _ r.val (r.val + 2064), Nat.add_sub_cancel_left,
    ← Fin.sum_univ_eq_sum_range (fun k => wide Q b ⟨l.val, by omega⟩ (r.val + k) - wide K b ⟨l.val, by omega⟩ (r.val + k))]
  refine Fin.sum_fin_congr fun k => ?_
  by_cases hk : r.val + k.val < 2064
  · rw [dif_pos hk, wide, wide, dif_pos ⟨hk, l.isLt⟩, dif_pos ⟨hk, l.isLt⟩]
    pointwise [val_main_v8, val_main_v7]
    rw [sub_eq_add_neg]
  · rw [dif_neg hk, wide, wide, dif_neg (fun h => hk h.1), dif_neg (fun h => hk h.1), sub_zero, hz]

/-! ## What the programs compute -/

/-- The sum of the cotangent's entries from a row on. -/
def tail (Q K : S4x2064x8.Idx → EReal) (b : Fin 4) (l : Fin 128) (r : ℕ) : EReal := ∑ j ∈ Finset.Ico r 2064, (wide Q b l j - wide K b l j)

/-- One entry of the gate's gradient. -/
def entry (G : S4x2064x8.Idx → EReal) (B : S1x8.Idx → EReal) (Q K : S4x2064x8.Idx → EReal) (b : Fin 4) (l : Fin 128) (r : ℕ) : EReal :=
  tail Q K b l r * Ideal.logistic (-(wide G b l r + wideRow B l))

/-- Every entry is a real number. -/
def AllReal {s : Shape} (A : s.Idx → EReal) : Prop := ∀ i, A i ≠ ⊤ ∧ A i ≠ ⊥

theorem wide_real {A : S4x2064x8.Idx → EReal} (h : AllReal A) (b : Fin 4) (l : Fin 128) (r : ℕ) : ∃ v : ℝ, wide A b l r = (v : EReal) := by
  unfold wide
  split_ifs with hh
  · exact ⟨_, (EReal.coe_toReal (h _).1 (h _).2).symm⟩
  · exact ⟨0, rfl⟩

theorem diff_fin {Q K : S4x2064x8.Idx → EReal} (hq : AllReal Q) (hk : AllReal K) (b : Fin 4) (l : Fin 128) (r : ℕ) :
    wide Q b l r - wide K b l r ≠ ⊤ ∧ wide Q b l r - wide K b l r ≠ ⊥ := by
  obtain ⟨u, hu⟩ := wide_real hq b l r
  obtain ⟨v, hv⟩ := wide_real hk b l r
  rw [hu, hv, ← EReal.coe_sub]
  exact ⟨EReal.coe_ne_top _, EReal.coe_ne_bot _⟩

theorem tail_chunk (Q K : S4x2064x8.Idx → EReal) (b : Fin 4) (l : Fin 128) (o r : ℕ) (hr : r < 688) (ho : o + 688 ≤ 2064) :
    ∑ k : Fin 688, (if r ≤ k.val then wide Q b l (o + k.val) - wide K b l (o + k.val) else 0) + tail Q K b l (o + 688) = tail Q K b l (o + r) := by
  rw [chunk_sum (fun j => wide Q b l j - wide K b l j), tail, tail, Finset.sum_Ico_consecutive _ (by omega) ho]

/-- A block of 688 rows holds the wide array's rows from `o` on. -/
def Holds (x : S1x688x128.Idx → EReal) (A : S4x2064x8.Idx → EReal) (b : Fin 4) (o : ℕ) : Prop := ∀ (r : Fin 688) (l : Fin 128), x (ix3 0 r l) = wide A b l (o + r.val)

section Chunks

variable {G : S4x2064x8.Idx → EReal} {B : S1x8.Idx → EReal} {Q K : S4x2064x8.Idx → EReal} (hq : AllReal Q) (hk : AllReal K) {b : Fin 4}
  {u0 v0 w0 u1 v1 w1 u2 v2 w2 : S1x688x128.Idx → EReal} {x3 : S1x128.Idx → EReal}
  (hu0 : Holds u0 Q b 0) (hv0 : Holds v0 K b 0) (hw0 : Holds w0 G b 0)
  (hu1 : Holds u1 Q b 688) (hv1 : Holds v1 K b 688) (hw1 : Holds w1 G b 688)
  (hu2 : Holds u2 Q b 1376) (hv2 : Holds v2 K b 1376) (hw2 : Holds w2 G b 1376)
  (h3 : ∀ l, x3 (ix2 0 l) = wideRow B l)

include hq hk in
theorem holds_fin {u v : S1x688x128.Idx → EReal} {o : ℕ} (hu : Holds u Q b o) (hv : Holds v K b o) (i : S1x688x128.Idx) : u i - v i ≠ ⊤ ∧ u i - v i ≠ ⊥ := by
  idx_vars i
  obtain rfl : i0 = 0 := Subsingleton.elim _ _
  rw [hu, hv]
  exact diff_fin hq hk b _ _

include hu2 hv2 in
theorem sum2 (l : Fin 128) : k0_pay10 (F := Ideal) u2 v2 (ix2 0 l) = tail Q K b l 1376 := by
  rw [pay10]
  simp only [hu2 _ _, hv2 _ _]
  exact chunk_all (fun j => wide Q b l j - wide K b l j) 1376

include hu1 hv1 hu2 hv2 in
theorem sum1 (l : Fin 128) : k0_pay17 (F := Ideal) (k0_pay10 (F := Ideal) u2 v2) u1 v1 (ix2 0 l) = tail Q K b l 688 := by
  rw [pay17, sum2 hu2 hv2]
  simp only [hu1 _ _, hv1 _ _]
  rw [chunk_all (fun j => wide Q b l j - wide K b l j) 688, add_comm, tail, Finset.sum_Ico_consecutive _ (by omega) (by omega), tail]

include hq hk hu2 hv2 in
theorem run2 (r : Fin 688) (l : Fin 128) : k0_pay9 (F := Ideal) u2 v2 (ix2 r l) = tail Q K b l (1376 + r.val) := by
  rw [pay9 _ _ (holds_fin hq hk hu2 hv2)]
  simp only [hu2 _ _, hv2 _ _]
  exact chunk_sum (fun j => wide Q b l j - wide K b l j) 1376 r.val

include hq hk hu1 hv1 hu2 hv2 in
theorem run1 (r : Fin 688) (l : Fin 128) : k0_pay16 (F := Ideal) k0_pay5 (k0_pay10 (F := Ideal) u2 v2) u1 v1 (ix2 r l) = tail Q K b l (688 + r.val) := by
  rw [pay16 _ _ _ (holds_fin hq hk hu1 hv1), sum2 hu2 hv2]
  simp only [hu1 _ _, hv1 _ _]
  exact tail_chunk Q K b l 688 r.val r.isLt (by decide)

include hq hk hu0 hv0 hu1 hv1 hu2 hv2 in
theorem run0 (r : Fin 688) (l : Fin 128) :
    k0_pay22 (F := Ideal) k0_pay5 (k0_pay17 (F := Ideal) (k0_pay10 (F := Ideal) u2 v2) u1 v1) u0 v0 (ix2 r l) = tail Q K b l (0 + r.val) := by
  rw [pay22 _ _ _ (holds_fin hq hk hu0 hv0), sum1 hu1 hv1 hu2 hv2]
  simp only [hu0 _ _, hv0 _ _]
  exact tail_chunk Q K b l 0 r.val r.isLt (by decide)

include hq hk hu2 hv2 hw2 h3 in
theorem out2 (r : Fin 688) (l : Fin 128) :
    k0_pay12 (F := Ideal) (k0_pay9 (F := Ideal) u2 v2) (k0_pay11 (F := Ideal) w2) x3 (ix2 r l) = entry G B Q K b l (1376 + r.val) := by
  pointwise [k0_pay12, k0_pay11]
  rw [run2 hq hk hu2 hv2, hw2, h3, entry, zero_sub]

include hq hk hu1 hv1 hu2 hv2 hw1 h3 in
theorem out1 (r : Fin 688) (l : Fin 128) :
    k0_pay19 (F := Ideal) (k0_pay16 (F := Ideal) k0_pay5 (k0_pay10 (F := Ideal) u2 v2) u1 v1) (k0_pay18 (F := Ideal) w1) x3 (ix2 r l) = entry G B Q K b l (688 + r.val) := by
  pointwise [k0_pay19, k0_pay18]
  rw [run1 hq hk hu1 hv1 hu2 hv2, hw1, h3, entry, zero_sub]

include hq hk hu0 hv0 hu1 hv1 hu2 hv2 hw0 h3 in
theorem out0 {z : EReal} (hz : z = 0) (r : Fin 688) (l : Fin 128) :
    k0_pay1 (F := Ideal) (k0_pay22 (F := Ideal) k0_pay5 (k0_pay17 (F := Ideal) (k0_pay10 (F := Ideal) u2 v2) u1 v1) u0 v0) (k0_pay23 (F := Ideal) w0 x3)
      z (ix2 r l) = entry G B Q K b l (0 + r.val) := by
  subst hz
  have h := run0 hq hk hu0 hv0 hu1 hv1 hu2 hv2 r l
  rw [entry, ← h, ← h3, ← hw0]
  pointwise [k0_pay1, k0_pay23]
  rw [zero_sub]

include hq hk hu0 hv0 hu1 hv1 hu2 hv2 hw0 hw1 hw2 h3 in
/-- What a batch element adds to the bias gradient. -/
theorem add_all {o : EReal} (ho : o = 0) (z : S1x128.Idx → EReal) (l : Fin 128) :
    k0_pay3 (F := Ideal) (k0_pay21 (F := Ideal) (k0_pay14 (F := Ideal) (k0_pay7 (F := Ideal)) (k0_pay9 (F := Ideal) u2 v2) (k0_pay11 (F := Ideal) w2) x3)
        (k0_pay16 (F := Ideal) k0_pay5 (k0_pay10 (F := Ideal) u2 v2) u1 v1) (k0_pay18 (F := Ideal) w1) x3)
      (k0_pay22 (F := Ideal) k0_pay5 (k0_pay17 (F := Ideal) (k0_pay10 (F := Ideal) u2 v2) u1 v1) u0 v0) (k0_pay23 (F := Ideal) w0 x3) o z (ix2 0 l)
    = z (ix2 0 l) + ∑ r : Fin 2064, entry G B Q K b l r.val := by
  subst ho
  pointwise [k0_pay3, k0_pay21, k0_pay14, k0_pay7]
  simp only [out0 hq hk hu0 hv0 hw0 hu1 hv1 hu2 hv2 h3 rfl, out1 hq hk hu1 hv1 hw1 hu2 hv2 h3, out2 hq hk hu2 hv2 hw2 h3]
  rw [Fin.sum_univ_eq_sum_range (fun r => entry G B Q K b l r), Finset.range_eq_Ico,
    chunk_all (fun r => entry G B Q K b l r) 0, chunk_all (fun r => entry G B Q K b l r) 688, chunk_all (fun r => entry G B Q K b l r) 1376]
  rw [← Finset.sum_Ico_consecutive (fun r => entry G B Q K b l r) (show 0 ≤ 688 by decide) (show 688 ≤ 2064 by decide),
    ← Finset.sum_Ico_consecutive (fun r => entry G B Q K b l r) (show 688 ≤ 1376 by decide) (show 1376 ≤ 2064 by decide)]
  simp only [Nat.reduceAdd]
  abel

end Chunks

theorem zero_word : FloatOps.ofBits (F := Ideal) .f32 0#32 = 0 := by
  show Ideal.ofBits .f32 0#32 = 0
  simp [Ideal.ofBits, Ideal.ieee]

theorem holds_ld0 {x : S1x2064x128.Idx → EReal} {A : S4x2064x8.Idx → EReal} {b : Fin 4} (h : ∀ r l, x (ix3 0 r l) = wide A b l r.val) :
    Holds (View.ld (Val := Elt Ideal) (S := S1x2064x128) (e' := .f32) x (Rect.unit (s := S1x2064x128) ![0, 0, 0] S1x688x128.size inb_S1x2064x128_S1x688x128_0_0_0)) A b 0 := by
  intro r l
  pointwise []
  rw [h]
  try rfl

theorem holds_ld1 {x : S1x2064x128.Idx → EReal} {A : S4x2064x8.Idx → EReal} {b : Fin 4} (h : ∀ r l, x (ix3 0 r l) = wide A b l r.val) :
    Holds (View.ld (Val := Elt Ideal) (S := S1x2064x128) (e' := .f32) x (Rect.unit (s := S1x2064x128) ![0, 688, 0] S1x688x128.size inb_S1x2064x128_S1x688x128_0_688_0)) A b 688 := by
  intro r l
  pointwise []
  rw [h]
  try rfl

theorem holds_ld2 {x : S1x2064x128.Idx → EReal} {A : S4x2064x8.Idx → EReal} {b : Fin 4} (h : ∀ r l, x (ix3 0 r l) = wide A b l r.val) :
    Holds (View.ld (Val := Elt Ideal) (S := S1x2064x128) (e' := .f32) x (Rect.unit (s := S1x2064x128) ![0, 1376, 0] S1x688x128.size inb_S1x2064x128_S1x688x128_0_1376_0)) A b 1376 := by
  intro r l
  pointwise []
  rw [h]
  try rfl

theorem entry_out (G : S4x2064x8.Idx → EReal) (B : S1x8.Idx → EReal) (Q K : S4x2064x8.Idx → EReal) (b : Fin 4) (l : Fin 128) (r : ℕ) (hl : ¬l.val < 8) :
    entry G B Q K b l r = 0 := by
  have h (A : S4x2064x8.Idx → EReal) (j : ℕ) : wide A b l j = 0 := by rw [wide, dif_neg (fun h => hl h.2)]
  rw [entry, tail]
  simp only [h, sub_zero, Finset.sum_const_zero, zero_mul]

/-- The array of the gate's gradients. -/
def whole (G : S4x2064x8.Idx → EReal) (B : S1x8.Idx → EReal) (Q K : S4x2064x8.Idx → EReal) : S4x2064x128.Idx → EReal :=
  fun i => entry G B Q K (i 0) (i 2) (i 1).val

theorem whole_at (G : S4x2064x8.Idx → EReal) (B : S1x8.Idx → EReal) (Q K : S4x2064x8.Idx → EReal) (i : S4x2064x128.Idx) (b : Fin 4) (l : Fin 128) (r : ℕ)
    (h0 : (i 0).val = b.val) (h1 : (i 1).val = r) (h2 : (i 2).val = l.val) : whole G B Q K i = entry G B Q K b l r := by
  have e0 : i 0 = b := Fin.ext h0
  have e2 : i 2 = l := Fin.ext h2
  rw [whole, e0, e2, h1]

section Arrays

variable (hq : ∀ c : Dev nD, AllReal (m (c.tc.loc main_arg2))) (hk : ∀ c : Dev nD, AllReal (m (c.tc.loc main_arg3)))

include hq hk in
theorem final4 (c : Dev nD) : (dats m 0 c).arrAt 4 cfg0.N = whole (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp [idx]
  rw [after0_4]
  have ht := tlt t
  have e0 : (((View.whole main_v4_0).slice (win0_4.rect t)).emb y 0).val = t.val + (y 0).val := by blk_simp [idx]; try omega
  have e1 : (((View.whole main_v4_0).slice (win0_4.rect t)).emb y 1).val = (y 1).val := by blk_simp [idx]; try omega
  have e2 : (((View.whole main_v4_0).slice (win0_4.rect t)).emb y 2).val = (y 2).val := by blk_simp [idx]; try omega
  have b0 := blk0 m c t; have b1 := blk1 m c t; have b2 := blk2 m c t; have b3 := blk3 m c t
  generalize hi0 : iblk m c 0 t = s0 at *
  generalize hi1 : iblk m c 1 t = s1 at *
  generalize hi2 : iblk m c 2 t = s2 at *
  generalize hi3 : iblk m c 3 t = s3 at *
  have hl0 := holds_ld0 b0; have hl1 := holds_ld0 b1; have hl2 := holds_ld0 b2
  have hm0 := holds_ld1 b0; have hm1 := holds_ld1 b1; have hm2 := holds_ld1 b2
  have hh0 := holds_ld2 b0; have hh1 := holds_ld2 b1; have hh2 := holds_ld2 b2
  by_cases hc : t.val % 4 = 0
  · rw [outsAt0_A m c t hc, hi0, hi1, hi2, hi3]
    frame_out
    canon_tiles x h
    · refine Eq.trans ?_ (whole_at _ _ _ _ _ (bat t) ⟨(x 2).val, x2_lt⟩ (0 + (x 1).val) (by rw [e0]; dsimp only [bat]; omega) (by rw [e1]; omega) (by rw [e2]; omega)).symm
      idx_vars x
      refine Eq.trans ?_ (out0 (hq c) (hk c) hl0 hl1 hl2 hm0 hm1 hh0 hh1 b3 zero_word x1 x2)
      pointwise [k0_pay2]
    · refine Eq.trans ?_ (whole_at _ _ _ _ _ (bat t) ⟨(x 2).val, x2_lt⟩ (688 + (x 1).val) (by rw [e0]; dsimp only [bat]; omega) (by rw [e1]; omega) (by rw [e2]; omega)).symm
      idx_vars x
      refine Eq.trans ?_ (out1 (hq c) (hk c) hm0 hm1 hm2 hh0 hh1 b3 x1 x2)
      pointwise [k0_pay20]
    · refine Eq.trans ?_ (whole_at _ _ _ _ _ (bat t) ⟨(x 2).val, x2_lt⟩ (1376 + (x 1).val) (by rw [e0]; dsimp only [bat]; omega) (by rw [e1]; omega) (by rw [e2]; omega)).symm
      idx_vars x
      refine Eq.trans ?_ (out2 (hq c) (hk c) hh0 hh1 hh2 b3 x1 x2)
      pointwise [k0_pay13]
  · rw [outsAt0_B m c t hc, hi0, hi1, hi2, hi3]
    frame_out
    canon_tiles x h
    · refine Eq.trans ?_ (whole_at _ _ _ _ _ (bat t) ⟨(x 2).val, x2_lt⟩ (0 + (x 1).val) (by rw [e0]; dsimp only [bat]; omega) (by rw [e1]; omega) (by rw [e2]; omega)).symm
      idx_vars x
      refine Eq.trans ?_ (out0 (hq c) (hk c) hl0 hl1 hl2 hm0 hm1 hh0 hh1 b3 zero_word x1 x2)
      pointwise [k0_pay2]
    · refine Eq.trans ?_ (whole_at _ _ _ _ _ (bat t) ⟨(x 2).val, x2_lt⟩ (688 + (x 1).val) (by rw [e0]; dsimp only [bat]; omega) (by rw [e1]; omega) (by rw [e2]; omega)).symm
      idx_vars x
      refine Eq.trans ?_ (out1 (hq c) (hk c) hm0 hm1 hm2 hh0 hh1 b3 x1 x2)
      pointwise [k0_pay20]
    · refine Eq.trans ?_ (whole_at _ _ _ _ _ (bat t) ⟨(x 2).val, x2_lt⟩ (1376 + (x 1).val) (by rw [e0]; dsimp only [bat]; omega) (by rw [e1]; omega) (by rw [e2]; omega)).symm
      idx_vars x
      refine Eq.trans ?_ (out2 (hq c) (hk c) hh0 hh1 hh2 b3 x1 x2)
      pointwise [k0_pay13]

/-- The bias gradient: the sums over the batch and the rows. -/
def wholeRow (G : S4x2064x8.Idx → EReal) (B : S1x8.Idx → EReal) (Q K : S4x2064x8.Idx → EReal) : S1x128.Idx → EReal :=
  fun i => ∑ b : Fin 4, ∑ r : Fin 2064, entry G B Q K b (i 1) r.val

include hq hk in
theorem final5 (c : Dev nD) : (dats m 0 c).arrAt 5 cfg0.N = wholeRow (m (c.tc.loc main_arg0)) (m (c.tc.loc main_arg1)) (m (c.tc.loc main_arg2)) (m (c.tc.loc main_arg3)) := by
  refine (dats m 0 c).arrAt_eq_of_after_last 5 t0_3 (by decide +kernel) _ fun j => ?_
  blk_simp
  rw [after0_5]
  rw [Pipeline.eq_sum_fin_of_reset_step_apply_last (fun n h => (outsAt0 m c n h).2) 4 (fun _ => 0) (fun t j => ∑ r : Fin 2064, entry (m (c.tc.loc main_arg0)) (m (c.tc.loc main_arg1)) (m (c.tc.loc main_arg2)) (m (c.tc.loc main_arg3)) (bat t) (j 1) r.val) (fun t h j => ?_) (fun t h j => ?_) (le_of_eq N_0) t0_3 rfl j]
  · exact zero_add (M := EReal) _
  · rw [outsAt0_A m c t h]
    frame_out
    idx_vars j
    obtain rfl : j0 = 0 := Subsingleton.elim _ _
    refine (add_all (hq c) (hk c) (holds_ld0 (blk0 m c t)) (holds_ld0 (blk1 m c t)) (holds_ld0 (blk2 m c t)) (holds_ld1 (blk0 m c t)) (holds_ld1 (blk1 m c t)) (holds_ld1 (blk2 m c t))
      (holds_ld2 (blk0 m c t)) (holds_ld2 (blk1 m c t)) (holds_ld2 (blk2 m c t)) (blk3 m c t) zero_word _ j1).trans ?_
    congr 1
    pointwise [k0_pay4]
  · rw [outsAt0_B m c t h]
    frame_out
    idx_vars j
    obtain rfl : j0 = 0 := Subsingleton.elim _ _
    exact add_all (hq c) (hk c) (holds_ld0 (blk0 m c t)) (holds_ld0 (blk1 m c t)) (holds_ld0 (blk2 m c t)) (holds_ld1 (blk0 m c t)) (holds_ld1 (blk1 m c t)) (holds_ld1 (blk2 m c t))
      (holds_ld2 (blk0 m c t)) (holds_ld2 (blk1 m c t)) (holds_ld2 (blk2 m c t)) (blk3 m c t) zero_word _ j1

end Arrays

open Cert.ForgetBwdRefIdeal.Read in
theorem refWhole (G : S4x2064x8.Idx → EReal) (B : S1x8.Idx → EReal) (Q K : S4x2064x8.Idx → EReal) (i : S4x2064x128.Idx) :
   val_main_v16 (F := Ideal) G B Q K i = whole G B Q K i := by
  idx_vars i
  pointwise [val_main_v16, val_main_v15, val_main_call4_v0, val_main_c]
  rw [zero_int, whole]
  by_cases hl : i2.val < 8
  · rw [dif_pos hl, ref10, ref9]
    show _ = entry G B Q K i0 i2 i1.val
    rw [entry, tail, wide, wideRow, dif_pos ⟨i1.isLt, hl⟩, dif_pos hl]
  · rw [dif_neg hl]
    exact (entry_out G B Q K i0 i2 i1.val hl).symm

open Cert.ForgetBwdRefIdeal.Read in
theorem refRow (G : S4x2064x8.Idx → EReal) (B : S1x8.Idx → EReal) (Q K : S4x2064x8.Idx → EReal) (i : S1x128.Idx) :
   val_main_v17 (F := Ideal) G B Q K i = wholeRow G B Q K i := by
  idx_vars i
  pointwise [val_main_v17, val_main_v14, val_main_v13, val_main_v12, val_main_v11,  val_main_call5_v0, val_main_c_1, val_main_cst, val_main_cst_0]
  rw [zero_int, wholeRow]
  by_cases hl : i1.val < 8
  · rw [dif_pos hl]
    rw [Fin.sum_univ_one, Fin.sum_univ_one]
    refine Finset.sum_congr rfl fun b _ => Finset.sum_congr rfl fun r _ => ?_
    rw [ref10, ref9]
    show _ = entry G B Q K b i1 r.val
    rw [entry, tail, wide, wideRow, dif_pos ⟨r.isLt, hl⟩, dif_pos hl]
  · rw [dif_neg hl]
    exact (Finset.sum_eq_zero fun b _ => Finset.sum_eq_zero fun r _ => entry_out G B Q K b i1 r.val hl).symm

end Cert.ForgetBwdIdeal.Hand
-- ==== Proof.ForgetClaims.lean ====
module

public import proofs.«01_k».proof.Defs
public import proofs.«01_k».proof.Proof.Gen.ForgetBwd
public import proofs.«01_k».proof.Proof.Gen.ForgetBwd.Frame
public import proofs.«01_k».proof.Proof.Gen.ForgetBwdIdeal
public import proofs.«01_k».proof.Proof.Gen.ForgetBwdRefIdeal
public import proofs.«01_k».proof.Proof.ForgetValue
public import Idealize.ShloMosaic.Lib.Claim

@[expose] public section

set_option maxRecDepth 16384

noncomputable section

namespace Cert.Proof

open Idealize.ShloMosaic Idealize.SL.Sem

instance forget_pre_facts : Cert.Pre_forget_finite.Facts := ⟨by decide⟩

theorem forget_frame : Cert.quiescent_ForgetBwd := fun m ρ _ => Cert.ForgetBwd.Gen.frame m ρ
theorem forget_frame_ideal : Cert.quiescent_ForgetBwdIdeal := fun m ρ _ => Cert.ForgetBwdIdeal.Gen.frame m ρ
theorem forget_frame_ideal_pre : Cert.quiescent_ForgetBwdIdeal_pre_forget_finite := fun m ρ _ => Cert.ForgetBwdIdeal.Gen.frame m ρ
theorem forget_frame_ref : Cert.quiescent_ForgetBwdRefIdeal := by
  intro m ρ _
  hlo_run
  · exact fun _ => ⟨trivial, trivial, trivial, trivial⟩
  · exact sem_eq_zero_of_no_sems (sig := Cert.ForgetBwdRefIdeal.sig) (by decide) _
theorem forget_frame_ref_pre : Cert.quiescent_ForgetBwdRefIdeal_pre_forget_finite := fun m ρ _ => forget_frame_ref m ρ trivial

theorem forget_real (x : Cert.Pre_forget_finite.S4x2064x8.Idx → EReal)
    (h : cmpf (F := Ideal) (φ := .f32) .olt (Host.absf x) (broadcastInDim Cert.Pre_forget_finite.S4x2064x8 ![] Cert.Pre_forget_finite.Facts.bcast_S_S4x2064x8 (constant Cert.Pre_forget_finite.S_ .f32 0x7F800000#32)) = fun _ => 1#1) :
    Cert.ForgetBwdIdeal.Hand.AllReal x := fun i => Cert.Common.finite_of_test (congrFun h i)

theorem forget_value : Cert.algebraic_ForgetBwdIdeal_ForgetBwdRefIdeal_pre_forget_finite := by
  pair_intro
  · run_from Cert.ForgetBwdIdeal.Value.run_blocks m g
  · run_from Cert.ForgetBwdRefIdeal.Value.run m' g'
    · rw [Cert.ForgetBwdRefIdeal.Read.val_main_v16_eq, Cert.ForgetBwdIdeal.Hand.final4 m (fun c => forget_real _ (hpre c).1) (fun c => forget_real _ (hpre c).2), (hagree c).1, (hagree c).2.1, (hagree c).2.2.1, (hagree c).2.2.2]
      exact funext fun i => Cert.ForgetBwdIdeal.Hand.refWhole _ _ _ _ i
    · rw [Cert.ForgetBwdRefIdeal.Read.val_main_v17_eq, Cert.ForgetBwdIdeal.Hand.final5 m (fun c => forget_real _ (hpre c).1) (fun c => forget_real _ (hpre c).2), (hagree c).1, (hagree c).2.1, (hagree c).2.2.1, (hagree c).2.2.2]
      exact funext fun i => Cert.ForgetBwdIdeal.Hand.refRow _ _ _ _ i

end Cert.Proof

end
-- ==== Proof.ActValue.lean ====
module

public import proofs.«01_k».proof.Proof.Gen.FfnActIdeal.Value
public import proofs.«01_k».proof.Proof.Gen.FfnActRefIdeal.Run
public import proofs.«01_k».proof.Proof.Gen.FfnActRefIdeal.Read
public import proofs.«01_k».proof.Proof.Common
public import Idealize.ShloMosaic.Lib.Pipeline.ReadBack

@[expose] public section

set_option maxRecDepth 16384

noncomputable section

open Idealize.ShloMosaic TcCoe Idealize.SL.Sem
open Idealize.ShloMosaic.Pipeline (Dat)

namespace Cert.FfnActIdeal.Hand

open Cert.FfnActIdeal Cert.FfnActIdeal.Gen

variable (m : (ℓ : Loc nD τ sig) → Buf (Elt Ideal) ℓ) (ρ : Dev nD → PrngReg)

theorem idx : ∀ t : Fin cfg0.N, win0_0.index t = ![t.val % 12, 0] ∧ win0_1.index t = ![0, t.val % 12, t.val / 12]
   ∧ win0_2.index t = ![1, t.val % 12, t.val / 12] ∧ win0_3.index t = ![t.val / 12, 0] ∧ win0_4.index t = ![0, t.val % 12, t.val / 12]
   ∧ win0_5.index t = ![t.val / 12, 0] :=
  (by decide +kernel)

theorem tlt (t : Fin cfg0.N) : t.val < 24 := by have := t.isLt; have h : cfg0.N = 24 := N_0; omega

/-- The row of the whole array that row `r` of a grid point's block is. -/
def row (t : Fin cfg0.N) (r : Fin 688) : Fin 8256 := ⟨t.val % 12 * 688 + r.val, by omega⟩

/-- The hidden column that column `f` of a grid point's block is. -/
def col (t : Fin cfg0.N) (f : Fin 1408) : Fin 2816 := ⟨t.val / 12 * 1408 + f.val, by have := tlt t; omega⟩

theorem blk0 (c : Dev nD) (t : Fin cfg0.N) (r : Fin 688) (d : Fin 1024) :
    iblk m c 0 t (ix2 r d) = m (c.tc.loc main_arg2) (ix2 (row t r) d) := by
  have := tlt t
  blk_simp [iblk, idx t]
  simp only [V, hostOps0]
  entry_read; pointwise; blk_ext [idx t, row]

theorem blk1 (c : Dev nD) (t : Fin cfg0.N) (r : Fin 688) (f : Fin 1408) :
    iblk m c 1 t (ix3 0 r f) = m (c.tc.loc main_arg0) (ix2 (row t r) ⟨(col t f).val, by omega⟩) := by
  have := tlt t
  blk_simp [iblk, idx t]
  simp only [V, hostOps0]
  entry_read; pointwise; blk_ext [idx t, row, col]

theorem blk2 (c : Dev nD) (t : Fin cfg0.N) (r : Fin 688) (f : Fin 1408) :
    iblk m c 2 t (ix3 0 r f) = m (c.tc.loc main_arg0) (ix2 (row t r) ⟨2816 + (col t f).val, by omega⟩) := by
  have := tlt t
  blk_simp [iblk, idx t]
  simp only [V, hostOps0]
  entry_read; pointwise; blk_ext [idx t, row, col]

theorem blk3 (c : Dev nD) (t : Fin cfg0.N) (f : Fin 1408) (d : Fin 1024) :
    iblk m c 3 t (ix2 f d) = m (c.tc.loc main_arg1) (ix2 (col t f) d) := by
  have := tlt t
  blk_simp [iblk, idx t]
  simp only [V, hostOps0]
  entry_read; pointwise; blk_ext [idx t, col]

/-! ## What the programs compute -/

/-- The cotangent of the product of the gate and the hidden column. -/
def down (W : S2816x1024.Idx → EReal) (C : S8256x1024.Idx → EReal) (r : Fin 8256) (f : Fin 2816) : EReal := ∑ d : Fin 1024, C (ix2 r d) * W (ix2 f d)

/-- The gradient with respect to the gate (first half) and to the hidden column (second half). -/
def grad (G : S8256x5632.Idx → EReal) (W : S2816x1024.Idx → EReal) (C : S8256x1024.Idx → EReal) : S2x8256x2816.Idx → EReal := fun i =>
  if (i 0).val < 1 then
    down W C (i 1) (i 2) * G (ix2 (i 1) ⟨2816 + (i 2).val, by have : (i 2).val < 2816 := (i 2).isLt; omega⟩)
      * (Ideal.logistic (G (ix2 (i 1) ⟨(i 2).val, by have : (i 2).val < 2816 := (i 2).isLt; omega⟩))
        * (1 + G (ix2 (i 1) ⟨(i 2).val, by have : (i 2).val < 2816 := (i 2).isLt; omega⟩)
          * (1 - Ideal.logistic (G (ix2 (i 1) ⟨(i 2).val, by have : (i 2).val < 2816 := (i 2).isLt; omega⟩)))))
  else down W C (i 1) (i 2) * (G (ix2 (i 1) ⟨(i 2).val, by have : (i 2).val < 2816 := (i 2).isLt; omega⟩)
    * Ideal.logistic (G (ix2 (i 1) ⟨(i 2).val, by have : (i 2).val < 2816 := (i 2).isLt; omega⟩)))

/-- The activation that the down projection reads. -/
def hid (G : S8256x5632.Idx → EReal) (r : Fin 8256) (f : Fin 2816) : EReal :=
  G (ix2 r ⟨f.val, by omega⟩) * Ideal.logistic (G (ix2 r ⟨f.val, by omega⟩)) * G (ix2 r ⟨2816 + f.val, by omega⟩)

/-- The gradient with respect to the down projection. -/
def gradW (G : S8256x5632.Idx → EReal) (C : S8256x1024.Idx → EReal) : S2816x1024.Idx → EReal := fun i => ∑ r : Fin 8256, hid G r (i 0) * C (ix2 r (i 1))

theorem grad_at (G : S8256x5632.Idx → EReal) (W : S2816x1024.Idx → EReal) (C : S8256x1024.Idx → EReal) (i : S2x8256x2816.Idx) (a : Fin 2) (r : Fin 8256) (f : Fin 2816)
    (h0 : (i 0).val = a.val) (h1 : (i 1).val = r.val) (h2 : (i 2).val = f.val) : grad G W C i = grad G W C (ix3 a r f) := by
  congr 1
  funext k
  fin_cases k
  · exact Fin.ext h0
  · exact Fin.ext h1
  · exact Fin.ext h2

/-- A product rule over the reals. -/
theorem gate_real (d u g : ℝ) :
    (d : EReal) * u * Ideal.div 1 (1 + Ideal.exp (-(g : EReal))) + g * (d * u) * (Ideal.div 1 (1 + Ideal.exp (-(g : EReal))) * (1 - Ideal.div 1 (1 + Ideal.exp (-(g : EReal)))))
      = (d : EReal) * u * (Ideal.logistic g * (1 + g * (1 - Ideal.logistic g))) := by
  show (d : EReal) * u * Ideal.logistic g + g * (d * u) * (Ideal.logistic g * (1 - Ideal.logistic g)) = _
  rw [Ideal.logistic_coe, ← EReal.coe_one]
  norm_cast
  ring

open Cert.FfnActRefIdeal.Read in
theorem ref17 (g : S8256x5632.Idx → ℝ) (w : S2816x1024.Idx → ℝ) (x : S8256x1024.Idx → ℝ) (i : S2x8256x2816.Idx) :
    val_main_v17 (F := Ideal) (fun i => (g i : EReal)) (fun i => (w i : EReal)) (fun i => (x i : EReal)) i
      = grad (fun i => (g i : EReal)) (fun i => (w i : EReal)) (fun i => (x i : EReal)) i := by
  idx_vars i
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v7, val_main_v8, val_main_v9, val_main_call1_v0, val_main_call1_v1, val_main_call1_v2, val_main_v10, val_main_v11, val_main_v12, val_main_v13, val_main_v14, val_main_v15, val_main_v16, val_main_v17]
  have e : ∑ d : Fin 1024, (x (ix2 i1 d) : EReal) * w (ix2 i2 d) = ((∑ d : Fin 1024, x (ix2 i1 d) * w (ix2 i2 d) : ℝ) : EReal) := by
    norm_cast
  rw [grad]
  dsimp only [ix3, down]
  by_cases h : i0.val < 1
  · rw [dif_pos h]
    refine Eq.trans ?_ (if_pos h).symm
    rw [e]
    exact gate_real _ _ _
  · rw [dif_neg h]
    exact (mul_comm _ _).trans (if_neg h).symm

open Cert.FfnActRefIdeal.Read in
theorem ref6 (G : S8256x5632.Idx → EReal) (C : S8256x1024.Idx → EReal) (i : S2816x1024.Idx) : val_main_v6 (F := Ideal) G C i = gradW G C i := by
  idx_vars i
  pointwise [val_main_v0, val_main_v1, val_main_call0_v0, val_main_call0_v1, val_main_call0_cst, val_main_call0_v2, val_main_call0_v3, val_main_call0_cst_0, val_main_call0_v4, val_main_v2_2, val_main_v2_0, val_main_v3, val_main_v5, val_main_v6]
  exact Finset.sum_congr rfl fun r _ => mul_comm _ _

/-! ## The tiles a point writes -/

theorem cover4 {p1 p2 : S1x688x640.Idx → EReal} {p3 p4 : S1x688x768.Idx → EReal} (y : S2x688x1408.Idx) :
    ∃ p ∈ ([⟨Rect.unit ![1, 0, 768] ![1, 688, 640] inb_S2x688x1408_S1x688x640_1_0_768, p1⟩, ⟨Rect.unit ![0, 0, 768] ![1, 688, 640] inb_S2x688x1408_S1x688x640_0_0_768, p2⟩,
      ⟨Rect.unit ![1, 0, 0] ![1, 688, 768] inb_S2x688x1408_S1x688x768_1_0_0, p3⟩, ⟨Rect.unit ![0, 0, 0] ![1, 688, 768] inb_S2x688x1408_S1x688x768_0_0_0, p4⟩] :
        List (View.Piece (Elt Ideal) S2x688x1408 .bf16)), y ∈ p.1.set :=
  View.cover_of_tiledBy _ ![1, 688, 128] (by sl_kernel_rfl) y

theorem skip_left (v : View sig .tc .vmem S1408x1024 .f32) (p : S768x1024.Idx → EReal) (L : List (View.Piece (Elt Ideal) S1408x1024 .f32)) :
    v.readCov (Val := Elt Ideal) (⟨Rect.unit ![0, 0] ![768, 1024] inb_S1408x1024_S768x1024_0_0, p⟩ :: L) (Rect.unit ![768, 0] ![640, 1024] inb_S1408x1024_S640x1024_768_0).toLoadRect
      = v.readCov (Val := Elt Ideal) L (Rect.unit ![768, 0] ![640, 1024] inb_S1408x1024_S640x1024_768_0).toLoadRect :=
  View.readCov_skip _ _ _ _ _ (by decide)

theorem cover5 {p1 : S640x1024.Idx → EReal} {p2 : S768x1024.Idx → EReal} (y : S1408x1024.Idx) :
    ∃ p ∈ ([⟨Rect.unit ![768, 0] ![640, 1024] inb_S1408x1024_S640x1024_768_0, p1⟩, ⟨Rect.unit ![0, 0] ![768, 1024] inb_S1408x1024_S768x1024_0_0, p2⟩] :
        List (View.Piece (Elt Ideal) S1408x1024 .f32)), y ∈ p.1.set :=
  View.cover_of_tiledBy _ ![128, 1024] (by sl_kernel_rfl) y

/-- Two pieces that cover hide what was written before. -/
theorem canon_two {S : Shape} {e : EltTy} (r1 r2 : Rect S) (p1 : r1.shape.Idx → Elt Ideal e) (p2 : r2.shape.Idx → Elt Ideal e) (L : List (View.Piece (Elt Ideal) S e)) (y : S.Idx)
    (h : ∃ p ∈ ([⟨r1, p1⟩, ⟨r2, p2⟩] : List (View.Piece (Elt Ideal) S e)), y ∈ p.1.set) :
    View.canon (⟨r1, p1⟩ :: ⟨r2, p2⟩ :: L) y = View.canon [⟨r1, p1⟩, ⟨r2, p2⟩] y := by
  by_cases h1 : y ∈ r1.set
  · obtain ⟨x, rfl⟩ := r1.exists_idx_of_mem h1
    exact (View.canon_cons_emb r1 p1 _ x).trans (View.canon_cons_emb r1 p1 _ x).symm
  · rw [View.canon_cons_of_not_mem ⟨r1, p1⟩ _ h1, View.canon_cons_of_not_mem ⟨r1, p1⟩ _ h1]
    by_cases h2 : y ∈ r2.set
    · obtain ⟨x, rfl⟩ := r2.exists_idx_of_mem h2
      exact (View.canon_cons_emb r2 p2 _ x).trans (View.canon_cons_emb r2 p2 _ x).symm
    · obtain ⟨p, hp, hy⟩ := h
      simp only [List.mem_cons, List.not_mem_nil, or_false] at hp
      rcases hp with rfl | rfl
      · exact absurd hy h1
      · exact absurd hy h2

theorem canon5 (p1 : S640x1024.Idx → EReal) (p2 : S768x1024.Idx → EReal) (L : List (View.Piece (Elt Ideal) S1408x1024 .f32)) (y : S1408x1024.Idx) :
    View.canon (Val := Elt Ideal) (⟨Rect.unit ![768, 0] ![640, 1024] inb_S1408x1024_S640x1024_768_0, p1⟩ :: ⟨Rect.unit ![0, 0] ![768, 1024] inb_S1408x1024_S768x1024_0_0, p2⟩ :: L) y
      = View.canon (Val := Elt Ideal) [⟨Rect.unit ![768, 0] ![640, 1024] inb_S1408x1024_S640x1024_768_0, p1⟩, ⟨Rect.unit ![0, 0] ![768, 1024] inb_S1408x1024_S768x1024_0_0, p2⟩] y :=
  canon_two (S := S1408x1024) (e := .f32) (Rect.unit ![768, 0] ![640, 1024] inb_S1408x1024_S640x1024_768_0) (Rect.unit ![0, 0] ![768, 1024] inb_S1408x1024_S768x1024_0_0)
    p1 p2 L y (cover5 (p1 := p1) (p2 := p2) y)

/-- The zeros a point starts from, read back. -/
theorem zeros (v : View sig .tc .vmem S1408x1024 .f32) (B : LoadRect S1408x1024) (j : B.shape.Idx) :
    v.readCov (Val := Elt Ideal) [⟨Rect.unit ![0, 0] ![1408, 1024] inb_S1408x1024_S1408x1024_0_0, k0_pay2 (F := Ideal)⟩] B j = (0 : EReal) := by
  rw [View.readCov_eq_canon', View.canon_cons_unit_lit (S := S1408x1024) _ _ _ (by decide)]
  pointwise [k0_pay2]

/-- What a block of columns adds to one entry of the down projection's gradient. -/
def part (G : S8256x5632.Idx → EReal) (C : S8256x1024.Idx → EReal) (t : Fin cfg0.N) (f : Fin 1408) (d : Fin 1024) : EReal :=
  ∑ r : Fin 688, hid G (row t r) (col t f) * C (ix2 (row t r) d)

theorem ld_right (X : S1408x1024.Idx → EReal) (x0 : Fin 640) (x1 : Fin 1024) (j : S1408x1024.Idx) (h0 : (j 0).val = 768 + x0.val) (h1 : (j 1).val = x1.val) :
    View.ld (Val := Elt Ideal) (S := S1408x1024) (e' := .f32) X (Rect.unit ![768, 0] ![640, 1024] inb_S1408x1024_S640x1024_768_0) (ix2 x0 x1) = X j := by
  refine Eq.trans (b := X (ix2 ⟨768 + x0.val, by omega⟩ x1)) (by pointwise []) (congrArg X (funext fun a => Fin.ext ?_))
  match a with
  | 0 => exact h0.symm
  | 1 => exact h1.symm

theorem ld_left (X : S1408x1024.Idx → EReal) (x0 : Fin 768) (x1 : Fin 1024) (j : S1408x1024.Idx) (h0 : (j 0).val = x0.val) (h1 : (j 1).val = x1.val) :
    View.ld (Val := Elt Ideal) (S := S1408x1024) (e' := .f32) X (Rect.unit ![0, 0] ![768, 1024] inb_S1408x1024_S768x1024_0_0) (ix2 x0 x1) = X j := by
  refine Eq.trans (b := X (ix2 ⟨x0.val, by omega⟩ x1)) (by pointwise []) (congrArg X (funext fun a => Fin.ext ?_))
  match a with
  | 0 => exact h0.symm
  | 1 => exact h1.symm

/-- The twelve row tiles of a column block make up the product over all rows. -/
theorem sum_parts (G : S8256x5632.Idx → EReal) (C : S8256x1024.Idx → EReal) (t : Fin cfg0.N) (j : S1408x1024.Idx) (i : S2816x1024.Idx)
    (e0 : (i 0).val = t.val / 12 * 1408 + (j 0).val) (e1 : (i 1).val = (j 1).val) :
    ∑ s : Fin 12, part G C ⟨12 * (t.val / 12) + s.val, by have := tlt t; change _ < 24; omega⟩ (j 0) (j 1) = gradW G C i := by
  refine Eq.trans ?_ (Fin.sum_mul_add_fin 12 688 (fun r : Fin 8256 => hid G r (i 0) * C (ix2 r (i 1))) (by decide))
  refine Finset.sum_congr rfl fun s _ => Finset.sum_congr rfl fun r _ => ?_
  have hr : row ⟨12 * (t.val / 12) + s.val, by have := tlt t; change _ < 24; omega⟩ r = ⟨s.val * 688 + r.val, by omega⟩ := Fin.ext (by dsimp only [row]; omega)
  have hc : col ⟨12 * (t.val / 12) + s.val, by have := tlt t; change _ < 24; omega⟩ (j 0) = i 0 := Fin.ext (by dsimp only [col]; omega)
  have hd : j 1 = i 1 := Fin.ext e1.symm
  rw [hr, hc, hd]

section Blocks

variable {G : S8256x5632.Idx → EReal} {W : S2816x1024.Idx → EReal} {C : S8256x1024.Idx → EReal} {t : Fin cfg0.N}
  {s0 : S688x1024.Idx → EReal} {s1 s2 : S1x688x1408.Idx → EReal} {s3 : S1408x1024.Idx → EReal}
  (b0 : ∀ r d, s0 (ix2 r d) = C (ix2 (row t r) d)) (b1 : ∀ r f, s1 (ix3 0 r f) = G (ix2 (row t r) ⟨(col t f).val, by omega⟩))
  (b2 : ∀ r f, s2 (ix3 0 r f) = G (ix2 (row t r) ⟨2816 + (col t f).val, by omega⟩)) (b3 : ∀ f d, s3 (ix2 f d) = W (ix2 (col t f) d))

include b0 b1 b2 in
theorem add_left (z : S768x1024.Idx → EReal) (f : Fin 768) (d : Fin 1024) :
    k0_pay13 (F := Ideal) (k0_pay3 (F := Ideal) s0) (k0_pay7 (F := Ideal) (View.ld (Val := Elt Ideal) (S := S1x688x1408) (e' := .bf16) s2 (Rect.unit ![0, 0, 0] ![1, 688, 768] inb_S1x688x1408_S1x688x768_0_0_0)))
      (k0_pay9 (F := Ideal) (View.ld (Val := Elt Ideal) (S := S1x688x1408) (e' := .bf16) s1 (Rect.unit ![0, 0, 0] ![1, 688, 768] inb_S1x688x1408_S1x688x768_0_0_0))) z (ix2 f d)
      = z (ix2 f d) + part G C t ⟨f.val, by omega⟩ d := by
  pointwise [k0_pay3, k0_pay4, k0_pay5, k0_pay6, k0_pay7, k0_pay8, k0_pay9, k0_pay10, k0_pay11, k0_pay12, k0_pay14, k0_pay15, k0_pay16, k0_pay17, k0_pay18, k0_pay19, k0_pay13]
  simp only [b0, b1, b2]
  rfl

include b0 b1 b2 in
theorem add_right (z : S640x1024.Idx → EReal) (f : Fin 640) (d : Fin 1024) :
    k0_pay1 (F := Ideal) (k0_pay3 (F := Ideal) s0) (k0_pay15 (F := Ideal) (View.ld (Val := Elt Ideal) (S := S1x688x1408) (e' := .bf16) s2 (Rect.unit ![0, 0, 768] ![1, 688, 640] inb_S1x688x1408_S1x688x640_0_0_768)))
      (k0_pay17 (F := Ideal) (View.ld (Val := Elt Ideal) (S := S1x688x1408) (e' := .bf16) s1 (Rect.unit ![0, 0, 768] ![1, 688, 640] inb_S1x688x1408_S1x688x640_0_0_768))) z (ix2 f d)
      = z (ix2 f d) + part G C t ⟨768 + f.val, by omega⟩ d := by
  pointwise [k0_pay3, k0_pay4, k0_pay5, k0_pay6, k0_pay7, k0_pay8, k0_pay9, k0_pay10, k0_pay11, k0_pay12, k0_pay14, k0_pay15, k0_pay16, k0_pay17, k0_pay18, k0_pay19, k0_pay1]
  simp only [b0, b1, b2]
  rfl

include b0 b1 b2 b3 in
theorem tiles4 (y : S2x688x1408.Idx) (i : S2x8256x2816.Idx) (e0 : (i 0).val = (y 0).val) (e1 : (i 1).val = t.val % 12 * 688 + (y 1).val) (e2 : (i 2).val = t.val / 12 * 1408 + (y 2).val) :
    View.canon (Val := Elt Ideal) (s := S2x688x1408) (e := .bf16) [⟨Rect.unit ![1, 0, 768] ![1, 688, 640] inb_S2x688x1408_S1x688x640_1_0_768,
        k0_pay19 (F := Ideal) (k0_pay5 (F := Ideal) s0 (View.ld (Val := Elt Ideal) (S := S1408x1024) (e' := .bf16) s3 (Rect.unit ![768, 0] ![640, 1024] inb_S1408x1024_S640x1024_768_0))) (View.ld (Val := Elt Ideal) (S := S1x688x1408) (e' := .bf16) s1 (Rect.unit ![0, 0, 768] ![1, 688, 640] inb_S1x688x1408_S1x688x640_0_0_768))⟩,
      ⟨Rect.unit ![0, 0, 768] ![1, 688, 640] inb_S2x688x1408_S1x688x640_0_0_768,
        k0_pay18 (F := Ideal) (k0_pay5 (F := Ideal) s0 (View.ld (Val := Elt Ideal) (S := S1408x1024) (e' := .bf16) s3 (Rect.unit ![768, 0] ![640, 1024] inb_S1408x1024_S640x1024_768_0))) (View.ld (Val := Elt Ideal) (S := S1x688x1408) (e' := .bf16) s1 (Rect.unit ![0, 0, 768] ![1, 688, 640] inb_S1x688x1408_S1x688x640_0_0_768)) (View.ld (Val := Elt Ideal) (S := S1x688x1408) (e' := .bf16) s2 (Rect.unit ![0, 0, 768] ![1, 688, 640] inb_S1x688x1408_S1x688x640_0_0_768))⟩,
      ⟨Rect.unit ![1, 0, 0] ![1, 688, 768] inb_S2x688x1408_S1x688x768_1_0_0, k0_pay12 (F := Ideal) (k0_pay11 (F := Ideal) s0 (View.ld (Val := Elt Ideal) (S := S1408x1024) (e' := .bf16) s3 (Rect.unit ![0, 0] ![768, 1024] inb_S1408x1024_S768x1024_0_0)) (View.ld (Val := Elt Ideal) (S := S1x688x1408) (e' := .bf16) s1 (Rect.unit ![0, 0, 0] ![1, 688, 768] inb_S1x688x1408_S1x688x768_0_0_0)))⟩,
      ⟨Rect.unit ![0, 0, 0] ![1, 688, 768] inb_S2x688x1408_S1x688x768_0_0_0, k0_pay10 (F := Ideal) s0 (View.ld (Val := Elt Ideal) (S := S1408x1024) (e' := .bf16) s3 (Rect.unit ![0, 0] ![768, 1024] inb_S1408x1024_S768x1024_0_0)) (View.ld (Val := Elt Ideal) (S := S1x688x1408) (e' := .bf16) s1 (Rect.unit ![0, 0, 0] ![1, 688, 768] inb_S1x688x1408_S1x688x768_0_0_0)) (View.ld (Val := Elt Ideal) (S := S1x688x1408) (e' := .bf16) s2 (Rect.unit ![0, 0, 0] ![1, 688, 768] inb_S1x688x1408_S1x688x768_0_0_0))⟩] y = grad G W C i := by
  canon_tiles x h using (cover4 y)
  · refine Eq.trans ?_ (grad_at G W C i 1 (row t ⟨(x 1).val, x1_lt⟩) (col t ⟨768 + (x 2).val, by omega⟩) (by dsimp only [row, col]; omega) (by dsimp only [row, col]; omega) (by dsimp only [row, col]; omega)).symm
    idx_vars x
    pointwise [k0_pay3, k0_pay4, k0_pay5, k0_pay6, k0_pay7, k0_pay8, k0_pay9, k0_pay10, k0_pay11, k0_pay12, k0_pay14, k0_pay15, k0_pay16, k0_pay17, k0_pay18, k0_pay19]
    simp only [b0, b1, b2, b3]
    exact (if_neg (Nat.lt_irrefl 1)).symm
  · refine Eq.trans ?_ (grad_at G W C i 0 (row t ⟨(x 1).val, x1_lt⟩) (col t ⟨768 + (x 2).val, by omega⟩) (by dsimp only [row, col]; omega) (by dsimp only [row, col]; omega) (by dsimp only [row, col]; omega)).symm
    idx_vars x
    pointwise [k0_pay3, k0_pay4, k0_pay5, k0_pay6, k0_pay7, k0_pay8, k0_pay9, k0_pay10, k0_pay11, k0_pay12, k0_pay14, k0_pay15, k0_pay16, k0_pay17, k0_pay18, k0_pay19]
    simp only [b0, b1, b2, b3]
    exact (if_pos Nat.zero_lt_one).symm
  · refine Eq.trans ?_ (grad_at G W C i 1 (row t ⟨(x 1).val, x1_lt⟩) (col t ⟨(x 2).val, by omega⟩) (by dsimp only [row, col]; omega) (by dsimp only [row, col]; omega) (by dsimp only [row, col]; omega)).symm
    idx_vars x
    pointwise [k0_pay3, k0_pay4, k0_pay5, k0_pay6, k0_pay7, k0_pay8, k0_pay9, k0_pay10, k0_pay11, k0_pay12, k0_pay14, k0_pay15, k0_pay16, k0_pay17, k0_pay18, k0_pay19]
    simp only [b0, b1, b2, b3]
    exact (if_neg (Nat.lt_irrefl 1)).symm
  · refine Eq.trans ?_ (grad_at G W C i 0 (row t ⟨(x 1).val, x1_lt⟩) (col t ⟨(x 2).val, by omega⟩) (by dsimp only [row, col]; omega) (by dsimp only [row, col]; omega) (by dsimp only [row, col]; omega)).symm
    idx_vars x
    pointwise [k0_pay3, k0_pay4, k0_pay5, k0_pay6, k0_pay7, k0_pay8, k0_pay9, k0_pay10, k0_pay11, k0_pay12, k0_pay14, k0_pay15, k0_pay16, k0_pay17, k0_pay18, k0_pay19]
    simp only [b0, b1, b2, b3]
    exact (if_pos Nat.zero_lt_one).symm

end Blocks

theorem final4 (c : Dev nD) : (dats m 0 c).arrAt 4 cfg0.N = grad (m (c.tc.loc main_arg0)) (m (c.tc.loc main_arg1)) (m (c.tc.loc main_arg2)) := by
  refine (dats m 0 c).arrAt_eq_of_covers 4 _ (by decide +kernel) fun t hf y => ?_
  blk_simp [idx]
  rw [after0_4]
  have e0 : (((View.whole main_v5_0).slice (win0_4.rect t)).emb y 0).val = (y 0).val := by blk_simp [idx]; try omega
  have e1 : (((View.whole main_v5_0).slice (win0_4.rect t)).emb y 1).val = t.val % 12 * 688 + (y 1).val := by blk_simp [idx]; try omega
  have e2 : (((View.whole main_v5_0).slice (win0_4.rect t)).emb y 2).val = t.val / 12 * 1408 + (y 2).val := by blk_simp [idx]; try omega
  by_cases hc : t.val % 12 = 0
  · rw [outsAt0_A m c t hc]
    frame_out
    exact tiles4 (blk0 m c t) (blk1 m c t) (blk2 m c t) (blk3 m c t) y _ e0 e1 e2
  · rw [outsAt0_B m c t hc]
    frame_out
    exact tiles4 (blk0 m c t) (blk1 m c t) (blk2 m c t) (blk3 m c t) y _ e0 e1 e2

theorem final5 (c : Dev nD) : (dats m 0 c).arrAt 5 cfg0.N = gradW (m (c.tc.loc main_arg0)) (m (c.tc.loc main_arg2)) := by
  refine (dats m 0 c).arrAt_eq_of_covers 5 _ (by decide +kernel) fun t hf j => ?_
  blk_simp [idx]
  rw [after0_5]
  have ht := tlt t
  have e0 : ((win0_5.blk t).view.emb j 0).val = t.val / 12 * 1408 + (j 0).val := by blk_simp [idx]; try omega
  have e1 : ((win0_5.blk t).view.emb j 1).val = (j 1).val := by blk_simp [idx]; try omega
  rw [Pipeline.eq_sum_fin_of_reset_step_apply_of_flush (fun n h => (outsAt0 m c n h).2) 12 (fun _ => 0)
    (fun t j => part (m (c.tc.loc main_arg0)) (m (c.tc.loc main_arg2)) t (j 0) (j 1)) ?_ ?_ t ?_ j]
  · exact (zero_add (M := EReal) _).trans (sum_parts _ _ t j _ e0 e1)
  · intro t h j
    have b0 := blk0 m c t; have b1 := blk1 m c t; have b2 := blk2 m c t
    rw [outsAt0_A m c t h]
    frame_out
    refine (canon5 _ _ _ j).trans ?_
    canon_tiles x h using (cover5 j)
    · idx_vars x
      exact (add_right b0 b1 b2 _ x0 x1).trans (congrArg₂ (fun a b : EReal => a + b) ((congrFun (skip_left _ _ _) _).trans (zeros _ _ _))
        (congrArg₂ (part _ _ t) (Fin.ext h0.symm) (Fin.ext h1.symm)))
    · idx_vars x
      exact (add_left b0 b1 b2 _ x0 x1).trans (congrArg₂ (fun a b : EReal => a + b) (zeros _ _ _) (congrArg₂ (part _ _ t) (Fin.ext h0.symm) (Fin.ext h1.symm)))
  · intro t h j
    have b0 := blk0 m c t; have b1 := blk1 m c t; have b2 := blk2 m c t
    rw [outsAt0_B m c t h]
    frame_out
    canon_tiles x h using (cover5 j)
    · idx_vars x
      exact (add_right b0 b1 b2 _ x0 x1).trans (congrArg₂ (fun a b : EReal => a + b) (ld_right _ _ _ j h0 h1)
        (congrArg₂ (part _ _ t) (Fin.ext h0.symm) (Fin.ext h1.symm)))
    · idx_vars x
      exact (add_left b0 b1 b2 _ x0 x1).trans (congrArg₂ (fun a b : EReal => a + b) (ld_left _ _ _ j h0 h1)
        (congrArg₂ (part _ _ t) (Fin.ext h0.symm) (Fin.ext h1.symm)))
  · exact (flush0_5 t).mp hf

end Cert.FfnActIdeal.Hand
-- ==== Proof.FfnActClaims.lean ====
module

public import proofs.«01_k».proof.Defs
public import proofs.«01_k».proof.Proof.Gen.FfnAct
public import proofs.«01_k».proof.Proof.Gen.FfnAct.Frame
public import proofs.«01_k».proof.Proof.Gen.FfnActIdeal
public import proofs.«01_k».proof.Proof.Gen.FfnActRefIdeal
public import proofs.«01_k».proof.Proof.ActValue
public import Idealize.ShloMosaic.Lib.Claim

@[expose] public section

set_option maxRecDepth 16384

noncomputable section

namespace Cert.Proof

open Idealize.ShloMosaic Pointwise Idealize.SL.Sem

instance act_pre_facts : Cert.Pre_act_finite.Facts := ⟨by decide, by decide, by decide⟩

theorem act_frame : Cert.quiescent_FfnAct := fun m ρ _ => Cert.FfnAct.Gen.frame m ρ
theorem act_frame_ideal : Cert.quiescent_FfnActIdeal := fun m ρ _ => Cert.FfnActIdeal.Gen.frame m ρ
theorem act_frame_ideal_pre : Cert.quiescent_FfnActIdeal_pre_act_finite := fun m ρ _ => Cert.FfnActIdeal.Gen.frame m ρ
theorem act_frame_ref : Cert.quiescent_FfnActRefIdeal := by
  intro m ρ _
  hlo_run
  · exact fun _ => ⟨trivial, trivial, trivial⟩
  · exact sem_eq_zero_of_no_sems (sig := Cert.FfnActRefIdeal.sig) (by decide) _
theorem act_frame_ref_pre : Cert.quiescent_FfnActRefIdeal_pre_act_finite := fun m ρ _ => act_frame_ref m ρ trivial
theorem act_preserves : Cert.preserves_FfnAct_FfnActIdeal := trivial

open Cert.FfnActRefIdeal.Read in
/-- The reference's gradient of gate and up columns, at arguments that pass the test of finiteness. -/
theorem act_ref (G : Cert.FfnActIdeal.S8256x5632.Idx → EReal) (W : Cert.FfnActIdeal.S2816x1024.Idx → EReal) (C : Cert.FfnActIdeal.S8256x1024.Idx → EReal)
    (hG : ∀ i, G i ≠ ⊤ ∧ G i ≠ ⊥) (hW : ∀ i, W i ≠ ⊤ ∧ W i ≠ ⊥) (hC : ∀ i, C i ≠ ⊤ ∧ C i ≠ ⊥) (i : Cert.FfnActIdeal.S2x8256x2816.Idx) :
    val_main_v17 (F := Ideal) G W C i = Cert.FfnActIdeal.Hand.grad G W C i := by
  rw [Cert.Common.real_of_finite G hG, Cert.Common.real_of_finite W hW, Cert.Common.real_of_finite C hC]
  exact Cert.FfnActIdeal.Hand.ref17 _ _ _ i

theorem act_value : Cert.algebraic_FfnActIdeal_FfnActRefIdeal_pre_act_finite := by
  pair_intro
  · run_from Cert.FfnActIdeal.Value.run_blocks m g
  · run_from Cert.FfnActRefIdeal.Value.run m' g'
    · rw [Cert.FfnActRefIdeal.Read.val_main_v17_eq, Cert.FfnActIdeal.Hand.final4 m, (hagree c).1, (hagree c).2.1, (hagree c).2.2]
      exact funext fun i => act_ref _ _ _ (fun i => Cert.Common.finite_of_test (congrFun (hpre c).1 i)) (fun i => Cert.Common.finite_of_test (congrFun (hpre c).2.1 i))
        (fun i => Cert.Common.finite_of_test (congrFun (hpre c).2.2 i)) i
    · rw [Cert.FfnActRefIdeal.Read.val_main_v6_eq, Cert.FfnActIdeal.Hand.final5 m]
      exact funext fun i => Cert.FfnActIdeal.Hand.ref6 _ _ i

end Cert.Proof

end
-- ==== Proof.RmsMath.lean ====
module

public import proofs.«01_k».proof.Proof.Common
public import Idealize.ShloMosaic.Lib.Claim

@[expose] public section

noncomputable section

open Idealize.ShloMosaic

/-! The gradient of the root mean square norm of one row of 1024, as the kernel and as the reference write it. -/

namespace Cert.Rms

theorem coe_sum' {ι : Type} (s : Finset ι) (u : ι → ℝ) : ∑ i ∈ s, ((u i : ℝ) : EReal) = ((∑ i ∈ s, u i : ℝ) : EReal) := by
  classical
  induction s using Finset.induction_on with
  | empty => rfl
  | insert a s ha ih => rw [Finset.sum_insert ha, Finset.sum_insert ha, ih, EReal.coe_add]

theorem div_real (a c : ℝ) (hc : c ≠ 0) : Ideal.div (a : EReal) (c : EReal) = ((a / c : ℝ) : EReal) := by
  rw [Ideal.div_coe hc, ← EReal.coe_mul, mul_one_div]

theorem word_width : Ideal.ofBits .f32 1149239296#32 = ((1024 : ℝ) : EReal) := by
  norm_num [Ideal.ofBits, Ideal.ieee, show 1149239296 >>> 23 % 256 = 137 from rfl, show BitVec.extractLsb' 31 1 1149239296#32 = 0#1 by decide]

theorem word_half : Ideal.ofBits .f32 3204448256#32 = ((-(1 / 2) : ℝ) : EReal) := by
  norm_num [Ideal.ofBits, Ideal.ieee, show 3204448256 >>> 23 % 256 = 126 from rfl, show BitVec.extractLsb' 31 1 3204448256#32 = 1#1 by decide]

/-- The small number under the root is a positive real. -/
theorem word_eps : ∃ e : ℝ, 0 < e ∧ Ideal.ofBits .f32 897988541#32 = (e : EReal) := by
  refine ⟨_, ?_, by norm_num [Ideal.ofBits, Ideal.ieee, show 897988541 >>> 23 % 256 = 107 from rfl, show BitVec.extractLsb' 31 1 897988541#32 = 0#1 by decide]; rfl⟩
  norm_num

/-- The mean of the squares of a row, plus the small number. -/
def var (h : Fin 1024 → EReal) : EReal := Ideal.div (∑ k, h k * h k) (Ideal.ofBits .f32 1149239296#32) + Ideal.ofBits .f32 897988541#32

/-- The gradient with respect to the row, as the kernel writes it. -/
def grad (d h g : Fin 1024 → EReal) (res : EReal) (k : Fin 1024) : EReal :=
  res + Ideal.rsqrt (var h) * (d k * g k - h k * Ideal.rsqrt (var h) * Ideal.div (∑ j, d j * g j * (h j * Ideal.rsqrt (var h))) (Ideal.ofBits .f32 1149239296#32))

/-- The mean square is a positive real. -/
theorem var_real (h : Fin 1024 → ℝ) : ∃ v : ℝ, 0 < v ∧ var (fun k => (h k : EReal)) = (v : EReal) := by
  obtain ⟨e, he, hw⟩ := word_eps
  refine ⟨(∑ k, h k * h k) / 1024 + e, ?_, ?_⟩
  · have : 0 ≤ ∑ k, h k * h k := Finset.sum_nonneg fun k _ => mul_self_nonneg _
    positivity
  · simp only [var, ← EReal.coe_mul]
    rw [coe_sum', word_width, hw, div_real _ _ (by norm_num), ← EReal.coe_add]

/-- The reference's three terms of the row's gradient. -/
theorem grad_real (d h g : Fin 1024 → ℝ) (res : EReal) (k : Fin 1024) (v s : EReal) (hv : v = var (fun k => (h k : EReal)))
    (hs : s = Ideal.div ((∑ j, (h j : EReal) * (d j * g j)) * (Ideal.ofBits .f32 3204448256#32 * Ideal.div (Ideal.rsqrt v) v)) (Ideal.ofBits .f32 1149239296#32)) :
    res + (d k : EReal) * g k * Ideal.rsqrt v + h k * s + s * h k = grad (fun j => (d j : EReal)) (fun j => (h j : EReal)) (fun j => (g j : EReal)) res k := by
  obtain ⟨w, hw, e⟩ := var_real h
  have hr : Ideal.rsqrt (w : EReal) = (((Real.sqrt w)⁻¹ : ℝ) : EReal) := by rw [Ideal.rsqrt_coe, if_neg (not_lt.mpr hw.le), if_neg hw.ne']
  have hq : (Real.sqrt w)⁻¹ / w = (Real.sqrt w)⁻¹ * ((Real.sqrt w)⁻¹ * (Real.sqrt w)⁻¹) := by
    rw [← mul_inv, Real.mul_self_sqrt hw.le, div_eq_mul_inv]
  rw [grad, ← hv]
  rw [← hv] at e
  generalize hR : (Real.sqrt w)⁻¹ = R at hr hq
  rw [e, hr, div_real _ _ hw.ne', hq, word_half, word_width] at hs
  simp only [← EReal.coe_mul] at hs
  rw [coe_sum', ← EReal.coe_mul, div_real _ _ (by norm_num)] at hs
  rw [hs, e, hr, word_width]
  simp only [← EReal.coe_mul]
  rw [coe_sum', div_real _ _ (by norm_num)]
  rw [← EReal.coe_mul, ← EReal.coe_sub, ← EReal.coe_mul, add_assoc, add_assoc, ← EReal.coe_add, ← EReal.coe_add]
  have hsum : ∑ j, d j * g j * (h j * R) = (∑ j, h j * (d j * g j)) * R := by
    rw [Finset.sum_mul]
    exact Finset.sum_congr rfl fun j _ => by ring
  rw [hsum]
  congr 2
  ring

end Cert.Rms
-- ==== Proof.InValue.lean ====
module

public import proofs.«01_k».proof.Proof.Gen.FfnInIdeal.Value
public import proofs.«01_k».proof.Proof.Gen.FfnInRefIdeal.Run
public import proofs.«01_k».proof.Proof.Gen.FfnInRefIdeal.Read
public import proofs.«01_k».proof.Proof.RmsMath
public import Idealize.ShloMosaic.Lib.Pipeline.ReadBack

@[expose] public section

set_option maxRecDepth 16384

noncomputable section

open Idealize.ShloMosaic TcCoe Idealize.SL.Sem
open Idealize.ShloMosaic.Pipeline (Dat)

namespace Cert.FfnInIdeal.Hand

open Cert.FfnInIdeal Cert.FfnInIdeal.Gen

variable (m : (ℓ : Loc nD τ sig) → Buf (Elt Ideal) ℓ) (ρ : Dev nD → PrngReg)

theorem idx : ∀ t : Fin cfg0.N, win0_0.index t = ![0, t.val / 2, t.val % 2] ∧ win0_1.index t = ![t.val / 2, 0]
   ∧ win0_2.index t = ![0, 0] ∧ win0_3.index t = ![t.val / 2, 0] ∧ win0_4.index t = ![t.val / 2, 0]
   ∧ win0_5.index t = ![t.val / 2, 0] ∧ win0_6.index t = ![0, 0] :=
  (by decide +kernel)

theorem tlt (t : Fin cfg0.N) : t.val < 24 := by have := t.isLt; have h : cfg0.N = 24 := N_0; omega

/-- The row of the whole array that row `r` of a grid point's block is. -/
def row (t : Fin cfg0.N) (r : Fin 688) : Fin 8256 := ⟨t.val / 2 * 688 + r.val, by have := tlt t; omega⟩

/-- The hidden column that column `f` of part `a` of a grid point's block is. -/
def col (t : Fin cfg0.N) (a : Fin 2) (f : Fin 1408) : Fin 5632 := ⟨a.val * 2816 + t.val % 2 * 1408 + f.val, by omega⟩

theorem blk0 (c : Dev nD) (t : Fin cfg0.N) (a : Fin 2) (r : Fin 688) (f : Fin 1408) :
    iblk m c 0 t (ix3 a r f) = m (c.tc.loc main_arg4) (ix2 (row t r) (col t a f)) := by
  have := tlt t
  blk_simp [iblk, idx t]
  simp only [V, hostOps0]
  entry_read; pointwise; blk_ext [idx t, row, col]

theorem blk1 (c : Dev nD) (t : Fin cfg0.N) (r : Fin 688) (d : Fin 1024) :
    iblk m c 1 t (ix2 r d) = m (c.tc.loc main_arg0) (ix2 (row t r) d) := by
  have := tlt t
  blk_ext [iblk, V, idx t, row]

theorem blk2 (c : Dev nD) (t : Fin cfg0.N) (d : Fin 1024) :
    iblk m c 2 t (ix2 0 d) = m (c.tc.loc main_arg1) (ix2 0 d) := by
  have := tlt t
  blk_ext [iblk, V, idx t]

theorem blk3 (c : Dev nD) (t : Fin cfg0.N) (r : Fin 688) (d : Fin 1024) :
    iblk m c 3 t (ix2 r d) = m (c.tc.loc main_arg3) (ix2 (row t r) d) := by
  have := tlt t
  blk_ext [iblk, V, idx t, row]

/-- The weights the kernel copies into its scratch. -/
theorem weights (c : Dev nD) (q : Fin 4) (d : Fin 1024) (f : Fin 1408) :
    V m c main_v5 (ix3 q d f) = m (c.tc.loc main_arg2) (ix2 d ⟨q.val * 1408 + f.val, by omega⟩) := by
  simp only [V, hostOps0]
  entry_read; pointwise; blk_ext []

/-! ## What the programs compute -/

/-- The cotangent of the normed row: the product with the transposed weights. -/
def dn (X : S8256x5632.Idx → EReal) (W : S1024x5632.Idx → EReal) (r : Fin 8256) (d : Fin 1024) : EReal := ∑ f : Fin 5632, X (ix2 r f) * W (ix2 d f)

/-- What a grid point adds to one entry of it. -/
def part (X : S8256x5632.Idx → EReal) (W : S1024x5632.Idx → EReal) (t : Fin cfg0.N) (r : Fin 688) (d : Fin 1024) : EReal :=
  ∑ f : Fin 1408, X (ix2 (row t r) (col t 0 f)) * W (ix2 d (col t 0 f)) + ∑ f : Fin 1408, X (ix2 (row t r) (col t 1 f)) * W (ix2 d (col t 1 f))

/-- The gradient with respect to the rows. -/
def dh (H : S8256x1024.Idx → EReal) (G : S1x1024.Idx → EReal) (W : S1024x5632.Idx → EReal) (D : S8256x1024.Idx → EReal) (X : S8256x5632.Idx → EReal) : S8256x1024.Idx → EReal := fun i =>
  Rms.grad (dn X W (i 0)) (fun j => H (ix2 (i 0) j)) (fun j => G (ix2 0 j)) (D (ix2 (i 0) (i 1))) (i 1)

/-- The gradient with respect to the norm's weights. -/
def dg (H : S8256x1024.Idx → EReal) (W : S1024x5632.Idx → EReal) (X : S8256x5632.Idx → EReal) : S1x1024.Idx → EReal := fun i =>
  ∑ r : Fin 8256, dn X W r (i 1) * (H (ix2 r (i 1)) * Ideal.rsqrt (Rms.var fun j => H (ix2 r j)))

/-- Two points of a row tile make up the product. -/
theorem two_parts (X : S8256x5632.Idx → EReal) (W : S1024x5632.Idx → EReal) (s t : Fin cfg0.N) (h : ¬ t.val % 2 = 0) (hs : s.val = t.val - 1) (r : Fin 688) (d : Fin 1024) :
    part X W s r d + part X W t r d = dn X W (row t r) d := by
  have e : ∀ (q : Fin 4) (u : Fin cfg0.N) (a : Fin 2), u.val / 2 = t.val / 2 → q.val = 2 * a.val + u.val % 2 →
      ∑ f : Fin 1408, X (ix2 (row u r) (col u a f)) * W (ix2 d (col u a f))
        = ∑ f : Fin 1408, X (ix2 (row t r) ⟨q.val * 1408 + f.val, by omega⟩) * W (ix2 d ⟨q.val * 1408 + f.val, by omega⟩) := by
    intro q u a hu hq
    refine Finset.sum_congr rfl fun f _ => ?_
    have e1 : row u r = row t r := Fin.ext (by dsimp only [row]; omega)
    have e2 : col u a f = ⟨q.val * 1408 + f.val, by omega⟩ := Fin.ext (by dsimp only [col]; omega)
    rw [e1, e2]
  have hsum := Fin.sum_mul_add_fin (L := 5632) 4 1408 (fun f => X (ix2 (row t r) f) * W (ix2 d f)) (by decide)
  rw [Fin.sum_univ_four] at hsum
  rw [dn, part, part, e 0 s 0 (by omega) (by simp; omega), e 2 s 1 (by omega) (by simp; omega), e 1 t 0 rfl (by simp; omega), e 3 t 1 rfl (by simp; omega)]
  refine Eq.trans ?_ hsum
  exact (add_add_add_comm _ _ _ _).trans ((congrArg₂ (fun a b : EReal => a + b) rfl rfl).trans (add_assoc _ _ _).symm)

open Cert.FfnInRefIdeal.Read in
theorem ref39 (h : S8256x1024.Idx → ℝ) (g : S1x1024.Idx → ℝ) (w : S1024x5632.Idx → ℝ) (D : S8256x1024.Idx → EReal) (x : S8256x5632.Idx → ℝ) (i : S8256x1024.Idx) :
    val_main_v39 (F := Ideal) (fun i => (h i : EReal)) (fun i => (g i : EReal)) (fun i => (w i : EReal)) D (fun i => (x i : EReal)) i
      = dh (fun i => (h i : EReal)) (fun i => (g i : EReal)) (fun i => (w i : EReal)) D (fun i => (x i : EReal)) i := by
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst, val_main_cst_0, val_main_cst_1, val_main_cst_2, val_main_cst_3, val_main_cst_4, val_main_cst_5, val_main_cst_6, val_main_cst_7]
  have hd : ∀ j : Fin 1024, ∑ f : Fin 5632, (x (ix2 i0 f) : EReal) * w (ix2 j f) = ((∑ f : Fin 5632, x (ix2 i0 f) * w (ix2 j f) : ℝ) : EReal) := fun j => by
    simp only [← EReal.coe_mul]
    exact Rms.coe_sum' _ _
  simp only [hd]
  refine (Rms.grad_real (fun j => ∑ f : Fin 5632, x (ix2 i0 f) * w (ix2 j f)) (fun j => h (ix2 i0 j)) (fun j => g (ix2 0 j)) _ i1 _ _ rfl (Fin.sum_univ_one _)).trans ?_
  exact congrArg (fun u => Rms.grad u (fun j => (h (ix2 i0 j) : EReal)) (fun j => (g (ix2 0 j) : EReal)) (D (ix2 i0 i1)) i1) (funext fun j => (hd j).symm)

open Cert.FfnInRefIdeal.Read in
theorem ref40 (H : S8256x1024.Idx → EReal) (W : S1024x5632.Idx → EReal) (X : S8256x5632.Idx → EReal) (i : S1x1024.Idx) :
    val_main_v40 (F := Ideal) H W X i = dg H W X i := by
  idx_vars i
  pointwise [val_main_v0, val_main_v1, val_main_v2, val_main_v3, val_main_v4, val_main_v5, val_main_v6, val_main_v7, val_main_v8, val_main_v9, val_main_v10, val_main_v11, val_main_v12, val_main_v13, val_main_v18, val_main_v19, val_main_v20, val_main_v21, val_main_v24, val_main_v40, val_main_cst, val_main_cst_0, val_main_cst_1, val_main_cst_2, val_main_cst_3, val_main_cst_4, val_main_cst_5, val_main_cst_6, val_main_cst_7]
  refine (Fin.sum_univ_one _).trans ?_
  exact Finset.sum_congr rfl fun r _ => mul_comm _ _

/-! ## The tiles a point writes -/

theorem off1 : ∀ t : Fin cfg0.N, k0_off1 (grid0.coords t) = ![t.val % 2, 0, 0] := by decide +kernel
theorem off2 : ∀ t : Fin cfg0.N, k0_off2 (grid0.coords t) = ![2 + t.val % 2, 0, 0] := by decide +kernel
theorem off3 : ∀ t : Fin cfg0.N, k0_off3 (grid0.coords t) = ![t.val % 2, 0, 0] := by decide +kernel
theorem off4 : ∀ t : Fin cfg0.N, k0_off4 (grid0.coords t) = ![2 + t.val % 2, 0, 0] := by decide +kernel

/-- A block of weights read out of the scratch. -/
theorem ld_weights (Z : S4x1024x1408.Idx → EReal) (off : Fin 3 → ℕ) (inb) (q : Fin 4) (e : off = ![q.val, 0, 0]) (d : Fin 1024) (f : Fin 1408) :
    View.ld (Val := Elt Ideal) (S := S4x1024x1408) (e' := .bf16) Z (Rect.unit off ![1, 1024, 1408] inb) (ix3 0 d f) = Z (ix3 q d f) := by
  subst e
  pointwise []

theorem dh_at (H : S8256x1024.Idx → EReal) (G : S1x1024.Idx → EReal) (W : S1024x5632.Idx → EReal) (D : S8256x1024.Idx → EReal) (X : S8256x5632.Idx → EReal) (i : S8256x1024.Idx)
    (r : Fin 8256) (d : Fin 1024) (h0 : (i 0).val = r.val) (h1 : (i 1).val = d.val) : dh H G W D X i = dh H G W D X (ix2 r d) := by
  congr 1
  funext k
  fin_cases k
  · exact Fin.ext h0
  · exact Fin.ext h1

theorem cover4 {e : EltTy} {p1 : S336x1024.Idx → Elt Ideal e} {p2 : S352x1024.Idx → Elt Ideal e} (y : S688x1024.Idx) :
    ∃ p ∈ ([⟨Rect.unit ![352, 0] ![336, 1024] inb_S688x1024_S336x1024_352_0, p1⟩, ⟨Rect.unit ![0, 0] ![352, 1024] inb_S688x1024_S352x1024_0_0, p2⟩] : List (View.Piece (Elt Ideal) S688x1024 e)), y ∈ p.1.set :=
  View.cover_of_tiledBy _ ![16, 1024] (by sl_kernel_rfl) y

section Blocks

variable {H : S8256x1024.Idx → EReal} {G : S1x1024.Idx → EReal} {W : S1024x5632.Idx → EReal} {D : S8256x1024.Idx → EReal} {X : S8256x5632.Idx → EReal} {t : Fin cfg0.N}
  {s0 : S2x688x1408.Idx → EReal} {s1 : S688x1024.Idx → EReal} {s2 : S1x1024.Idx → EReal} {s3 acc : S688x1024.Idx → EReal} {w1 w2 : S1x1024x1408.Idx → EReal}
  (b0 : ∀ a r f, s0 (ix3 a r f) = X (ix2 (row t r) (col t a f))) (b1 : ∀ r d, s1 (ix2 r d) = H (ix2 (row t r) d)) (b2 : ∀ d, s2 (ix2 0 d) = G (ix2 0 d))
  (b3 : ∀ r d, s3 (ix2 r d) = D (ix2 (row t r) d)) (hw1 : ∀ d f, w1 (ix3 0 d f) = W (ix2 d (col t 0 f))) (hw2 : ∀ d f, w2 (ix3 0 d f) = W (ix2 d (col t 1 f)))
  (ha : ∀ r d, acc (ix2 r d) + part X W t r d = dn X W (row t r) d)

include b0 hw1 hw2 in
theorem first_part (r : Fin 688) (d : Fin 1024) :
    k0_pay3 (F := Ideal) (View.ld (Val := Elt Ideal) (S := S2x688x1408) (e' := .bf16) s0 (Rect.unit ![0, 0, 0] ![1, 688, 1408] inb_S2x688x1408_S1x688x1408_0_0_0)) w1 (View.ld (Val := Elt Ideal) (S := S2x688x1408) (e' := .bf16) s0 (Rect.unit ![1, 0, 0] ![1, 688, 1408] inb_S2x688x1408_S1x688x1408_1_0_0)) w2 (ix2 r d) = part X W t r d := by
  pointwise [k0_pay2, k0_pay3, k0_pay6, k0_pay7, k0_pay8, k0_pay9, k0_pay10, k0_pay11, k0_pay12, k0_pay13, k0_pay14, k0_pay15, k0_pay16, k0_pay17, k0_pay18]
  simp only [b0, hw1, hw2]
  rfl

include b0 b1 b2 b3 hw1 hw2 ha in
theorem tiles4 (y : S688x1024.Idx) (i : S8256x1024.Idx) (e0 : (i 0).val = t.val / 2 * 688 + (y 0).val) (e1 : (i 1).val = (y 1).val) :
    View.canon (Val := Elt Ideal) (s := S688x1024) (e := .f32) [⟨Rect.unit ![352, 0] ![336, 1024] inb_S688x1024_S336x1024_352_0, k0_pay17 (F := Ideal) (k0_pay7 (F := Ideal) (View.ld (Val := Elt Ideal) (S := S2x688x1408) (e' := .bf16) s0 (Rect.unit ![0, 352, 0] ![1, 336, 1408] inb_S2x688x1408_S1x336x1408_0_352_0)) w1 (View.ld (Val := Elt Ideal) (S := S2x688x1408) (e' := .bf16) s0 (Rect.unit ![1, 352, 0] ![1, 336, 1408] inb_S2x688x1408_S1x336x1408_1_352_0)) w2) (View.ld (Val := Elt Ideal) (S := S688x1024) (e' := .f32) acc (Rect.unit ![352, 0] ![336, 1024] inb_S688x1024_S336x1024_352_0)) (View.ld (Val := Elt Ideal) (S := S688x1024) (e' := .f32) s1 (Rect.unit ![352, 0] ![336, 1024] inb_S688x1024_S336x1024_352_0)) s2 (View.ld (Val := Elt Ideal) (S := S688x1024) (e' := .f32) s3 (Rect.unit ![352, 0] ![336, 1024] inb_S688x1024_S336x1024_352_0))⟩, ⟨Rect.unit ![0, 0] ![352, 1024] inb_S688x1024_S352x1024_0_0, k0_pay10 (F := Ideal) (k0_pay6 (F := Ideal) (View.ld (Val := Elt Ideal) (S := S2x688x1408) (e' := .bf16) s0 (Rect.unit ![0, 0, 0] ![1, 352, 1408] inb_S2x688x1408_S1x352x1408_0_0_0)) w1 (View.ld (Val := Elt Ideal) (S := S2x688x1408) (e' := .bf16) s0 (Rect.unit ![1, 0, 0] ![1, 352, 1408] inb_S2x688x1408_S1x352x1408_1_0_0)) w2 (View.ld (Val := Elt Ideal) (S := S688x1024) (e' := .f32) acc (Rect.unit ![0, 0] ![352, 1024] inb_S688x1024_S352x1024_0_0))) (View.ld (Val := Elt Ideal) (S := S688x1024) (e' := .f32) s1 (Rect.unit ![0, 0] ![352, 1024] inb_S688x1024_S352x1024_0_0)) s2 (View.ld (Val := Elt Ideal) (S := S688x1024) (e' := .f32) s3 (Rect.unit ![0, 0] ![352, 1024] inb_S688x1024_S352x1024_0_0))⟩] y = dh H G W D X i := by
  canon_tiles x h using (cover4 y)
  · refine Eq.trans ?_ (dh_at H G W D X i (row t ⟨352 + (x 0).val, by omega⟩) ⟨(x 1).val, x1_lt⟩ (by dsimp only [row]; omega) (by dsimp only; omega)).symm
    idx_vars x
    pointwise [k0_pay2, k0_pay3, k0_pay6, k0_pay7, k0_pay8, k0_pay9, k0_pay10, k0_pay11, k0_pay12, k0_pay13, k0_pay14, k0_pay15, k0_pay16, k0_pay17, k0_pay18]
    simp only [b0, b1, b2, b3, hw1, hw2]
    simp only [part] at ha
    simp only [ha]
    rfl
  · refine Eq.trans ?_ (dh_at H G W D X i (row t ⟨(x 0).val, by omega⟩) ⟨(x 1).val, x1_lt⟩ (by dsimp only [row]; omega) (by dsimp only; omega)).symm
    idx_vars x
    pointwise [k0_pay2, k0_pay3, k0_pay6, k0_pay7, k0_pay8, k0_pay9, k0_pay10, k0_pay11, k0_pay12, k0_pay13, k0_pay14, k0_pay15, k0_pay16, k0_pay17, k0_pay18]
    simp only [b0, b1, b2, b3, hw1, hw2]
    simp only [part] at ha
    simp only [ha]
    rfl

include b0 b1 b2 b3 hw1 hw2 ha in
theorem tiles5 (y : S688x1024.Idx) (i : S8256x1024.Idx) (e0 : (i 0).val = t.val / 2 * 688 + (y 0).val) (e1 : (i 1).val = (y 1).val) :
    View.canon (Val := Elt Ideal) (s := S688x1024) (e := .bf16) [⟨Rect.unit ![352, 0] ![336, 1024] inb_S688x1024_S336x1024_352_0, k0_pay18 (F := Ideal) (k0_pay7 (F := Ideal) (View.ld (Val := Elt Ideal) (S := S2x688x1408) (e' := .bf16) s0 (Rect.unit ![0, 352, 0] ![1, 336, 1408] inb_S2x688x1408_S1x336x1408_0_352_0)) w1 (View.ld (Val := Elt Ideal) (S := S2x688x1408) (e' := .bf16) s0 (Rect.unit ![1, 352, 0] ![1, 336, 1408] inb_S2x688x1408_S1x336x1408_1_352_0)) w2) (View.ld (Val := Elt Ideal) (S := S688x1024) (e' := .f32) acc (Rect.unit ![352, 0] ![336, 1024] inb_S688x1024_S336x1024_352_0)) (View.ld (Val := Elt Ideal) (S := S688x1024) (e' := .f32) s1 (Rect.unit ![352, 0] ![336, 1024] inb_S688x1024_S336x1024_352_0)) s2 (View.ld (Val := Elt Ideal) (S := S688x1024) (e' := .f32) s3 (Rect.unit ![352, 0] ![336, 1024] inb_S688x1024_S336x1024_352_0))⟩, ⟨Rect.unit ![0, 0] ![352, 1024] inb_S688x1024_S352x1024_0_0, k0_pay11 (F := Ideal) (k0_pay6 (F := Ideal) (View.ld (Val := Elt Ideal) (S := S2x688x1408) (e' := .bf16) s0 (Rect.unit ![0, 0, 0] ![1, 352, 1408] inb_S2x688x1408_S1x352x1408_0_0_0)) w1 (View.ld (Val := Elt Ideal) (S := S2x688x1408) (e' := .bf16) s0 (Rect.unit ![1, 0, 0] ![1, 352, 1408] inb_S2x688x1408_S1x352x1408_1_0_0)) w2 (View.ld (Val := Elt Ideal) (S := S688x1024) (e' := .f32) acc (Rect.unit ![0, 0] ![352, 1024] inb_S688x1024_S352x1024_0_0))) (View.ld (Val := Elt Ideal) (S := S688x1024) (e' := .f32) s1 (Rect.unit ![0, 0] ![352, 1024] inb_S688x1024_S352x1024_0_0)) s2 (View.ld (Val := Elt Ideal) (S := S688x1024) (e' := .f32) s3 (Rect.unit ![0, 0] ![352, 1024] inb_S688x1024_S352x1024_0_0))⟩] y = dh H G W D X i := by
  canon_tiles x h using (cover4 y)
  · refine Eq.trans ?_ (dh_at H G W D X i (row t ⟨352 + (x 0).val, by omega⟩) ⟨(x 1).val, x1_lt⟩ (by dsimp only [row]; omega) (by dsimp only; omega)).symm
    idx_vars x
    pointwise [k0_pay2, k0_pay3, k0_pay6, k0_pay7, k0_pay8, k0_pay9, k0_pay10, k0_pay11, k0_pay12, k0_pay13, k0_pay14, k0_pay15, k0_pay16, k0_pay17, k0_pay18]
    simp only [b0, b1, b2, b3, hw1, hw2]
    simp only [part] at ha
    simp only [ha]
    rfl
  · refine Eq.trans ?_ (dh_at H G W D X i (row t ⟨(x 0).val, by omega⟩) ⟨(x 1).val, x1_lt⟩ (by dsimp only [row]; omega) (by dsimp only; omega)).symm
    idx_vars x
    pointwise [k0_pay2, k0_pay3, k0_pay6, k0_pay7, k0_pay8, k0_pay9, k0_pay10, k0_pay11, k0_pay12, k0_pay13, k0_pay14, k0_pay15, k0_pay16, k0_pay17, k0_pay18]
    simp only [b0, b1, b2, b3, hw1, hw2]
    simp only [part] at ha
    simp only [ha]
    rfl

/-- What a row tile adds to the gradient of the norm's weights. -/
def band (H : S8256x1024.Idx → EReal) (W : S1024x5632.Idx → EReal) (X : S8256x5632.Idx → EReal) (t : Fin cfg0.N) (d : Fin 1024) : EReal :=
  ∑ r : Fin 688, dn X W (row t r) d * (H (ix2 (row t r) d) * Ideal.rsqrt (Rms.var fun j => H (ix2 (row t r) j)))

include b0 b1 hw1 hw2 ha in
theorem add_band (z : S1x1024.Idx → EReal) (d : Fin 1024) : k0_pay5 (F := Ideal) (k0_pay16 (F := Ideal) (k0_pay7 (F := Ideal) (View.ld (Val := Elt Ideal) (S := S2x688x1408) (e' := .bf16) s0 (Rect.unit ![0, 352, 0] ![1, 336, 1408] inb_S2x688x1408_S1x336x1408_0_352_0)) w1 (View.ld (Val := Elt Ideal) (S := S2x688x1408) (e' := .bf16) s0 (Rect.unit ![1, 352, 0] ![1, 336, 1408] inb_S2x688x1408_S1x336x1408_1_352_0)) w2) (View.ld (Val := Elt Ideal) (S := S688x1024) (e' := .f32) acc (Rect.unit ![352, 0] ![336, 1024] inb_S688x1024_S336x1024_352_0)) (View.ld (Val := Elt Ideal) (S := S688x1024) (e' := .f32) s1 (Rect.unit ![352, 0] ![336, 1024] inb_S688x1024_S336x1024_352_0))) (k0_pay12 (F := Ideal) (k0_pay6 (F := Ideal) (View.ld (Val := Elt Ideal) (S := S2x688x1408) (e' := .bf16) s0 (Rect.unit ![0, 0, 0] ![1, 352, 1408] inb_S2x688x1408_S1x352x1408_0_0_0)) w1 (View.ld (Val := Elt Ideal) (S := S2x688x1408) (e' := .bf16) s0 (Rect.unit ![1, 0, 0] ![1, 352, 1408] inb_S2x688x1408_S1x352x1408_1_0_0)) w2 (View.ld (Val := Elt Ideal) (S := S688x1024) (e' := .f32) acc (Rect.unit ![0, 0] ![352, 1024] inb_S688x1024_S352x1024_0_0))) (View.ld (Val := Elt Ideal) (S := S688x1024) (e' := .f32) s1 (Rect.unit ![0, 0] ![352, 1024] inb_S688x1024_S352x1024_0_0)) z) (ix2 0 d) = z (ix2 0 d) + band H W X t d := by
  pointwise [k0_pay2, k0_pay3, k0_pay6, k0_pay7, k0_pay8, k0_pay9, k0_pay10, k0_pay11, k0_pay12, k0_pay13, k0_pay14, k0_pay15, k0_pay16, k0_pay17, k0_pay18, k0_pay5]
  simp only [b0, b1, hw1, hw2]
  simp only [part] at ha
  simp only [ha]
  refine (add_assoc (G := EReal) _ _ _).trans (congrArg (fun u : EReal => z (ix2 0 d) + u) ?_)
  exact (Fin.sum_univ_add (M := EReal) (a := 352) (b := 336) fun r : Fin 688 => dn X W (row t r) d * (H (ix2 (row t r) d) * Ideal.rsqrt (Rms.var fun j => H (ix2 (row t r) j)))).symm

end Blocks

theorem prev_lt (t : Fin cfg0.N) : t.val - 1 < cfg0.N := Nat.lt_of_le_of_lt (Nat.sub_le _ _) t.isLt

theorem whole_piece (Z : S4x1024x1408.Idx → EReal) :
    View.canon (Val := Elt Ideal) (s := S4x1024x1408) (e := .bf16) [⟨Rect.whole S4x1024x1408, Z⟩] = Z := by
  funext y
  have e : (Rect.whole S4x1024x1408).emb y = y := funext fun a => Fin.ext (by show 0 + 1 * (y a).val = _; omega)
  exact (congrArg _ e.symm).trans (View.canon_cons_emb (Val := Elt Ideal) (e := .bf16) (Rect.whole S4x1024x1408) Z [] y)

/-- The scratch keeps the weights. -/
theorem kept (c : Dev nD) : ∀ n h, (outsAt0 m c n h).2.2.2.1 = V m c main_v5 := by
  intro n
  induction n using Nat.strong_induction_on with
  | _ n ih =>
    intro h
    by_cases h0 : n % 24 = 0
    · rw [outsAt0_A m c ⟨n, h⟩ h0 (by dsimp only; omega) (by dsimp only; omega) (by dsimp only; omega) (by dsimp only; omega)]
      frame_out
      exact whole_piece _
    by_cases h1 : n % 2 = 0
    · rw [outsAt0_C m c ⟨n, h⟩ h0 h1 h1 (by dsimp only; omega) (by dsimp only; omega)]
      dsimp only [sout0_C_0]
      exact ih (n - 1) (by omega) _
    · rw [outsAt0_B m c ⟨n, h⟩ h0 h1 (by dsimp only; omega)]
      dsimp only [sout0_B_0]
      exact ih (n - 1) (by omega) _

theorem w_low (c : Dev nD) (t : Fin cfg0.N) (Z : S4x1024x1408.Idx → EReal) (hZ : Z = V m c main_v5) (off : Fin 3 → ℕ) (inb) (e : off = ![t.val % 2, 0, 0]) (d : Fin 1024) (f : Fin 1408) :
    View.ld (Val := Elt Ideal) (S := S4x1024x1408) (e' := .bf16) Z (Rect.unit off ![1, 1024, 1408] inb) (ix3 0 d f) = m (c.tc.loc main_arg2) (ix2 d (col t 0 f)) := by
  subst hZ
  refine (ld_weights _ off inb ⟨t.val % 2, by omega⟩ e d f).trans ((weights m c _ d f).trans (congrArg (fun q => m (c.tc.loc main_arg2) (ix2 d q)) (Fin.ext ?_)))
  simp [col]

theorem w_high (c : Dev nD) (t : Fin cfg0.N) (Z : S4x1024x1408.Idx → EReal) (hZ : Z = V m c main_v5) (off : Fin 3 → ℕ) (inb) (e : off = ![2 + t.val % 2, 0, 0]) (d : Fin 1024) (f : Fin 1408) :
    View.ld (Val := Elt Ideal) (S := S4x1024x1408) (e' := .bf16) Z (Rect.unit off ![1, 1024, 1408] inb) (ix3 0 d f) = m (c.tc.loc main_arg2) (ix2 d (col t 1 f)) := by
  subst hZ
  refine (ld_weights _ off inb ⟨2 + t.val % 2, by omega⟩ e d f).trans ((weights m c _ d f).trans (congrArg (fun q => m (c.tc.loc main_arg2) (ix2 d q)) (Fin.ext ?_)))
  simp [col]; omega

theorem read_whole0 (h : (Memref.whole cc0_scratch0).IsWhole) (X : S4x1024x1408.Idx → EReal) : View.read (Elt Ideal) (View.whole cc0_scratch0) (h.unread (Val := Elt Ideal) X) = X :=
  h.read_unread (Val := Elt Ideal) X

theorem read_whole1 (h : (Memref.whole cc0_scratch1).IsWhole) (X : S688x1024.Idx → EReal) : View.read (Elt Ideal) (View.whole cc0_scratch1) (h.unread (Val := Elt Ideal) X) = X :=
  h.read_unread (Val := Elt Ideal) X

/-- What a row tile's first point leaves in the accumulator. -/
theorem acc_first (c : Dev nD) (t : Fin cfg0.N) (h : t.val % 2 = 0) (r : Fin 688) (d : Fin 1024) :
    (outsAt0 m c t.val t.isLt).2.2.2.2 (ix2 r d) = part (m (c.tc.loc main_arg4)) (m (c.tc.loc main_arg2)) t r d := by
  by_cases h0 : t.val % 24 = 0
  · rw [outsAt0_A m c t h0 h h (by omega) (by omega)]
    frame_out
    exact first_part (blk0 m c t) (w_low m c t _ (whole_piece _) _ _ (off1 t)) (w_high m c t _ (whole_piece _) _ _ (off2 t)) r d
  · rw [outsAt0_C m c t h0 h h (by omega) (by omega)]
    frame_out
    exact first_part (blk0 m c t) (w_low m c t _ ((read_whole0 _ _).trans (kept m c _ _)) _ _ (off1 t)) (w_high m c t _ ((read_whole0 _ _).trans (kept m c _ _)) _ _ (off2 t)) r d

theorem acc_second (c : Dev nD) (t : Fin cfg0.N) (h : ¬ t.val % 2 = 0) (hw : (Memref.whole cc0_scratch1).IsWhole) (r : Fin 688) (d : Fin 1024) :
    (show S688x1024.Idx → EReal from View.read (Elt Ideal) (View.whole cc0_scratch1) (hw.unread (Val := Elt Ideal) (outsAt0 m c (t.val - 1) (prev_lt t)).2.2.2.2)) (ix2 r d)
      + part (m (c.tc.loc main_arg4)) (m (c.tc.loc main_arg2)) t r d = dn (m (c.tc.loc main_arg4)) (m (c.tc.loc main_arg2)) (row t r) d := by
  refine (congrArg (fun Y : S688x1024.Idx → EReal => Y (ix2 r d) + part (m (c.tc.loc main_arg4)) (m (c.tc.loc main_arg2)) t r d) (read_whole1 hw _)).trans ?_
  exact (congrArg (fun u : EReal => u + _) (acc_first m c ⟨t.val - 1, prev_lt t⟩ (by dsimp only; omega) r d)).trans (two_parts _ _ _ _ h rfl r d)

theorem final4 (c : Dev nD) : (dats m 0 c).arrAt 4 cfg0.N = dh (m (c.tc.loc main_arg0)) (m (c.tc.loc main_arg1)) (m (c.tc.loc main_arg2))
    (m (c.tc.loc main_arg3)) (m (c.tc.loc main_arg4)) := by
  refine (dats m 0 c).arrAt_eq_of_covers 4 _ (by decide +kernel) fun t hf y => ?_
  have ht : t.val % 2 = 1 := (flush0_4 t).mp hf
  blk_simp [idx]
  rw [after0_4]
  have e0 : (((View.whole main_v6_0).slice (win0_4.rect t)).emb y 0).val = t.val / 2 * 688 + (y 0).val := by blk_simp [idx]; try omega
  have e1 : (((View.whole main_v6_0).slice (win0_4.rect t)).emb y 1).val = (y 1).val := by blk_simp [idx]; try omega
  rw [outsAt0_B m c t (by omega) (by omega) ht]
  frame_out
  exact tiles4 (blk0 m c t) (blk1 m c t) (blk2 m c t) (blk3 m c t) (w_low m c t _ ((read_whole0 _ _).trans (kept m c _ _)) _ _ (off3 t))
    (w_high m c t _ ((read_whole0 _ _).trans (kept m c _ _)) _ _ (off4 t)) (acc_second m c t (by omega) _) y _ e0 e1

theorem final5 (c : Dev nD) : (dats m 0 c).arrAt 5 cfg0.N = dh (m (c.tc.loc main_arg0)) (m (c.tc.loc main_arg1)) (m (c.tc.loc main_arg2))
    (m (c.tc.loc main_arg3)) (m (c.tc.loc main_arg4)) := by
  refine (dats m 0 c).arrAt_eq_of_covers 5 _ (by decide +kernel) fun t hf y => ?_
  have ht : t.val % 2 = 1 := (flush0_5 t).mp hf
  blk_simp [idx]
  rw [after0_5]
  have e0 : (((View.whole main_v6_1).slice (win0_5.rect t)).emb y 0).val = t.val / 2 * 688 + (y 0).val := by blk_simp [idx]; try omega
  have e1 : (((View.whole main_v6_1).slice (win0_5.rect t)).emb y 1).val = (y 1).val := by blk_simp [idx]; try omega
  rw [outsAt0_B m c t (by omega) (by omega) ht]
  frame_out
  exact tiles5 (blk0 m c t) (blk1 m c t) (blk2 m c t) (blk3 m c t) (w_low m c t _ ((read_whole0 _ _).trans (kept m c _ _)) _ _ (off3 t))
    (w_high m c t _ ((read_whole0 _ _).trans (kept m c _ _)) _ _ (off4 t)) (acc_second m c t (by omega) _) y _ e0 e1

/-- The gradient of the norm's weights after a point: the row tiles finished so far. -/
theorem bands (c : Dev nD) : ∀ (n : ℕ) (h : n < cfg0.N) (d : Fin 1024), (outsAt0 m c n h).2.2.1 (ix2 0 d)
    = ∑ s ∈ Finset.range ((n + 1) / 2), (if hs : 2 * s < cfg0.N then band (m (c.tc.loc main_arg0)) (m (c.tc.loc main_arg2)) (m (c.tc.loc main_arg4)) ⟨2 * s, hs⟩ d else 0) := by
  intro n
  induction n using Nat.strong_induction_on with
  | _ n ih =>
    intro h d
    by_cases h0 : n % 24 = 0
    · have hn : n = 0 := by have := tlt ⟨n, h⟩; dsimp only at this; omega
      subst hn
      rw [outsAt0_A m c ⟨0, h⟩ h0 (by dsimp only) (by dsimp only) (by dsimp only; omega) (by dsimp only; omega)]
      frame_out
      pointwise [k0_pay1]
      rfl
    by_cases h1 : n % 2 = 0
    · rw [outsAt0_C m c ⟨n, h⟩ h0 h1 h1 (by dsimp only; omega) (by dsimp only; omega)]
      dsimp only [out0_C_6]
      refine (ih (n - 1) (by omega) _ d).trans ?_
      rw [show (n - 1 + 1) / 2 = (n + 1) / 2 by omega]
    · have e : (n + 1) / 2 = (n - 1 + 1) / 2 + 1 := by omega
      rw [outsAt0_B m c ⟨n, h⟩ h0 h1 (by dsimp only; omega)]
      frame_out
      refine (add_band (blk0 m c ⟨n, h⟩) (blk1 m c ⟨n, h⟩) (w_low m c ⟨n, h⟩ _ ((read_whole0 _ _).trans (kept m c _ _)) _ _ (off3 ⟨n, h⟩))
        (w_high m c ⟨n, h⟩ _ ((read_whole0 _ _).trans (kept m c _ _)) _ _ (off4 ⟨n, h⟩)) (acc_second m c ⟨n, h⟩ h1 _) _ d).trans ?_
      rw [e, Finset.sum_range_succ]
      refine congrArg₂ (fun a b : EReal => a + b) (ih (n - 1) (by omega) _ d) ?_
      have hs : 2 * ((n - 1 + 1) / 2) < cfg0.N := by omega
      rw [dif_pos hs]
      refine Finset.sum_congr rfl fun r _ => ?_
      have er : row ⟨n, h⟩ r = row ⟨2 * ((n - 1 + 1) / 2), hs⟩ r := Fin.ext (by dsimp only [row]; omega)
      rw [er]

theorem sum_bands (H : S8256x1024.Idx → EReal) (W : S1024x5632.Idx → EReal) (X : S8256x5632.Idx → EReal) (d : Fin 1024) :
    ∑ s ∈ Finset.range ((23 + 1) / 2), (if hs : 2 * s < cfg0.N then band H W X ⟨2 * s, hs⟩ d else 0)
      = ∑ r : Fin 8256, dn X W r d * (H (ix2 r d) * Ideal.rsqrt (Rms.var fun j => H (ix2 r j))) := by
  rw [Finset.sum_range]
  refine Eq.trans (Finset.sum_congr rfl fun s _ => dif_pos (by have := s.isLt; show 2 * s.val < 24; omega)) ?_
  refine Eq.trans ?_ (Fin.sum_mul_add_fin (L := 8256) 12 688 (fun r => dn X W r d * (H (ix2 r d) * Ideal.rsqrt (Rms.var fun j => H (ix2 r j)))) (by decide))
  refine Finset.sum_congr rfl fun s _ => Finset.sum_congr rfl fun r _ => ?_
  have er : ∀ q : Fin cfg0.N, q.val = 2 * s.val → row q r = ⟨s.val * 688 + r.val, by have := s.isLt; have := r.isLt; omega⟩ :=
    fun q hq => Fin.ext (by dsimp only [row]; omega)
  rw [er _ rfl]

theorem final6 (c : Dev nD) : (dats m 0 c).arrAt 6 cfg0.N = dg (m (c.tc.loc main_arg0)) (m (c.tc.loc main_arg2)) (m (c.tc.loc main_arg4)) := by
  refine (dats m 0 c).arrAt_eq_of_covers 6 _ (by decide +kernel) fun t hf y => ?_
  have ht : t.val = 23 := by have := (flush0_6 t).mp hf; have := tlt t; omega
  blk_simp [idx]
  rw [after0_6]
  have e1 : (((View.whole main_v6_2).slice (win0_6.rect t)).emb y 1).val = (y 1).val := by blk_simp [idx]; try omega
  refine Eq.trans (congrArg _ (funext fun a => Fin.ext ?_)) ((bands m c _ _ (y 1)).trans ?_)
  · match a with
    | 0 => exact Nat.lt_one_iff.mp (y 0).isLt
    | 1 => rfl
  have e : ((View.whole main_v6_2).slice (win0_6.rect t)).emb y 1 = y 1 := Fin.ext e1
  unfold dg
  rw [e, ht]
  exact sum_bands _ _ _ _

end Cert.FfnInIdeal.Hand
-- ==== Proof.FfnInClaims.lean ====
module

public import proofs.«01_k».proof.Defs
public import proofs.«01_k».proof.Proof.Gen.FfnIn
public import proofs.«01_k».proof.Proof.Gen.FfnIn.Frame
public import proofs.«01_k».proof.Proof.Gen.FfnInIdeal
public import proofs.«01_k».proof.Proof.Gen.FfnInRefIdeal
public import proofs.«01_k».proof.Proof.InValue
public import Idealize.ShloMosaic.Lib.Claim

@[expose] public section

set_option maxRecDepth 16384

noncomputable section

namespace Cert.Proof

open Idealize.ShloMosaic Pointwise Idealize.SL.Sem

instance ffnin_pre_facts : Cert.Pre_ffn_in_finite.Facts := ⟨by decide, by decide, by decide, by decide⟩

theorem ffnin_frame : Cert.quiescent_FfnIn := fun m ρ _ => Cert.FfnIn.Gen.frame m ρ
theorem ffnin_frame_ideal : Cert.quiescent_FfnInIdeal := fun m ρ _ => Cert.FfnInIdeal.Gen.frame m ρ
theorem ffnin_frame_ideal_pre : Cert.quiescent_FfnInIdeal_pre_ffn_in_finite := fun m ρ _ => Cert.FfnInIdeal.Gen.frame m ρ
theorem ffnin_frame_ref : Cert.quiescent_FfnInRefIdeal := by
  intro m ρ _
  hlo_run
  · exact fun _ => ⟨trivial, trivial, trivial, trivial, trivial⟩
  · exact sem_eq_zero_of_no_sems (sig := Cert.FfnInRefIdeal.sig) (by decide) _
theorem ffnin_frame_ref_pre : Cert.quiescent_FfnInRefIdeal_pre_ffn_in_finite := fun m ρ _ => ffnin_frame_ref m ρ trivial
theorem ffnin_preserves : Cert.preserves_FfnIn_FfnInIdeal := trivial

open Cert.FfnInRefIdeal.Read in
/-- The reference's gradient of the stream, at arguments that pass the test of finiteness. -/
theorem ffnin_ref (H : Cert.FfnInIdeal.S8256x1024.Idx → EReal) (G : Cert.FfnInIdeal.S1x1024.Idx → EReal) (W : Cert.FfnInIdeal.S1024x5632.Idx → EReal)
    (D : Cert.FfnInIdeal.S8256x1024.Idx → EReal) (X : Cert.FfnInIdeal.S8256x5632.Idx → EReal)
    (hH : ∀ i, H i ≠ ⊤ ∧ H i ≠ ⊥) (hG : ∀ i, G i ≠ ⊤ ∧ G i ≠ ⊥) (hW : ∀ i, W i ≠ ⊤ ∧ W i ≠ ⊥) (hX : ∀ i, X i ≠ ⊤ ∧ X i ≠ ⊥) (i : Cert.FfnInIdeal.S8256x1024.Idx) :
    val_main_v39 (F := Ideal) H G W D X i = Cert.FfnInIdeal.Hand.dh H G W D X i := by
  rw [Cert.Common.real_of_finite H hH, Cert.Common.real_of_finite G hG, Cert.Common.real_of_finite W hW, Cert.Common.real_of_finite X hX]
  exact Cert.FfnInIdeal.Hand.ref39 _ _ _ _ _ i

theorem ffnin_value : Cert.algebraic_FfnInIdeal_FfnInRefIdeal_pre_ffn_in_finite := by
  pair_intro
  · run_from Cert.FfnInIdeal.Value.run_blocks m g
  · run_from Cert.FfnInRefIdeal.Value.run m' g'
    · rw [Cert.FfnInRefIdeal.Read.val_main_v39_eq, Cert.FfnInIdeal.Hand.final4 m, (hagree c).1, (hagree c).2.1, (hagree c).2.2.1, (hagree c).2.2.2.1, (hagree c).2.2.2.2]
      exact funext fun i => ffnin_ref _ _ _ _ _ (fun i => Cert.Common.finite_of_test (congrFun (hpre c).1 i)) (fun i => Cert.Common.finite_of_test (congrFun (hpre c).2.1 i))
        (fun i => Cert.Common.finite_of_test (congrFun (hpre c).2.2.1 i)) (fun i => Cert.Common.finite_of_test (congrFun (hpre c).2.2.2 i)) i
    · rw [Cert.FfnInRefIdeal.Read.val_main_v41_eq, Cert.FfnInIdeal.Hand.final5 m, (hagree c).1, (hagree c).2.1, (hagree c).2.2.1, (hagree c).2.2.2.1, (hagree c).2.2.2.2]
      refine funext fun i => (Cert.FfnInRefIdeal.Read.val_main_v41_apply _ _ _ _ _ i).trans ?_
      exact ffnin_ref _ _ _ _ _ (fun i => Cert.Common.finite_of_test (congrFun (hpre c).1 i)) (fun i => Cert.Common.finite_of_test (congrFun (hpre c).2.1 i))
        (fun i => Cert.Common.finite_of_test (congrFun (hpre c).2.2.1 i)) (fun i => Cert.Common.finite_of_test (congrFun (hpre c).2.2.2 i)) i
    · rw [Cert.FfnInRefIdeal.Read.val_main_v40_eq, Cert.FfnInIdeal.Hand.final6 m]
      exact funext fun i => Cert.FfnInIdeal.Hand.ref40 _ _ _ i

end Cert.Proof

end
-- ==== Proof.GroupMath.lean ====
module

public import proofs.«01_k».proof.Proof.RmsMath

@[expose] public section

noncomputable section

open Idealize.ShloMosaic

/-! The gradient of the root mean square norm over groups of 64 channels, as the kernel and as the reference write it. -/

namespace Cert.Grp

open Cert.Rms

/-- Channel `q` of the group that channel `k` lies in. -/
def mate (k : Fin 512) (q : Fin 64) : Fin 512 := ⟨k.val / 64 * 64 + q.val, by omega⟩

theorem word_group : Ideal.ofBits .f32 1115684864#32 = ((64 : ℝ) : EReal) := by
  norm_num [Ideal.ofBits, Ideal.ieee, show 1115684864 >>> 23 % 256 = 133 from rfl, show BitVec.extractLsb' 31 1 1115684864#32 = 0#1 by decide]

theorem word_part : Ideal.ofBits .f32 1015021568#32 = ((1 / 64 : ℝ) : EReal) := by
  norm_num [Ideal.ofBits, Ideal.ieee, show 1015021568 >>> 23 % 256 = 121 from rfl, show BitVec.extractLsb' 31 1 1015021568#32 = 0#1 by decide]

/-- The mean over a channel's group. -/
def mean (v : Fin 512 → EReal) (k : Fin 512) : EReal := Ideal.div (∑ q, v (mate k q)) (Ideal.ofBits .f32 1115684864#32)

/-- The mean of the squares, plus the small number. -/
def var (h : Fin 512 → EReal) (k : Fin 512) : EReal := mean (fun j => h j * h j) k + Ideal.ofBits .f32 897988541#32

/-- The normed channel. -/
def nrm (h : Fin 512 → EReal) (k : Fin 512) : EReal := h k * Ideal.rsqrt (var h k)

/-- The gradient with respect to the channels, as the kernel writes it. -/
def grad (d h : Fin 512 → EReal) (k : Fin 512) : EReal :=
  Ideal.rsqrt (var h k) * (d k - nrm h k * mean (fun j => d j * nrm h j) k)

/-- The mean as the kernel writes it: a product with a matrix, of a leading part and of what it leaves. -/
def two (P : Fin 512 → Fin 512 → EReal) (v : Fin 512 → EReal) (k : Fin 512) : EReal := ∑ j, v j * P j k + ∑ j, (v j - v j) * P j k

theorem mate_group (k : Fin 512) (q : Fin 64) : (mate k q).val / 64 = k.val / 64 := by
  simp only [mate]; omega

theorem mate_mate (k : Fin 512) (q p : Fin 64) : mate (mate k q) p = mate k p :=
  Fin.ext (congrArg (fun g => g * 64 + p.val) (mate_group k q))

theorem mean_mate (v : Fin 512 → EReal) (k : Fin 512) (q : Fin 64) : mean v (mate k q) = mean v k := by
  simp only [mean, mate_mate]

theorem mean_real (v : Fin 512 → ℝ) (k : Fin 512) : mean (fun j => (v j : EReal)) k = (((∑ q, v (mate k q)) / 64 : ℝ) : EReal) := by
  rw [mean, coe_sum', word_group, div_real _ _ (by norm_num)]

theorem two_real (P : Fin 512 → Fin 512 → EReal) (hP : ∀ j k, P j k = if j.val / 64 = k.val / 64 then Ideal.ofBits .f32 1015021568#32 else 0)
    (v : Fin 512 → ℝ) (k : Fin 512) : two P (fun j => (v j : EReal)) k = mean (fun j => (v j : EReal)) k := by
  have e : ∀ j, (v j : EReal) * P j k = ((if j.val / 64 = k.val / 64 then v j / 64 else 0 : ℝ) : EReal) := fun j => by
    rw [hP]
    by_cases h : j.val / 64 = k.val / 64
    · rw [if_pos h, if_pos h, word_part, ← EReal.coe_mul, mul_one_div]
    · rw [if_neg h, if_neg h, mul_zero, EReal.coe_zero]
  have z : ∑ j, ((v j : EReal) - (v j : EReal)) * P j k = 0 := Finset.sum_eq_zero fun j _ => by
    rw [← EReal.coe_sub, sub_self, EReal.coe_zero, zero_mul]
  rw [two, z, add_zero, Finset.sum_congr rfl fun j _ => e j, coe_sum', mean_real, Finset.sum_div]
  refine congrArg _ (Finset.sum_of_injOn (mate k) (fun a _ b _ h => Fin.ext ?_) (fun _ _ => Finset.mem_coe.mpr (Finset.mem_univ _)) (fun j _ h => ?_) fun q _ => ?_).symm
  · have := congrArg Fin.val h
    simp only [mate] at this
    omega
  · refine if_neg fun e => h ⟨⟨j.val % 64, by omega⟩, Finset.mem_coe.mpr (Finset.mem_univ _), Fin.ext ?_⟩
    simp only [mate]
    omega
  · rw [if_pos (mate_group k q)]

theorem var_mate (h : Fin 512 → EReal) (k : Fin 512) (q : Fin 64) : var h (mate k q) = var h k := by
  rw [var, var, mean_mate]

/-- The mean square is a positive real. -/
theorem var_real (h : Fin 512 → ℝ) (k : Fin 512) : ∃ v : ℝ, 0 < v ∧ var (fun k => (h k : EReal)) k = (v : EReal) := by
  obtain ⟨e, he, hw⟩ := word_eps
  refine ⟨(∑ q, h (mate k q) * h (mate k q)) / 64 + e, ?_, ?_⟩
  · have : 0 ≤ ∑ q, h (mate k q) * h (mate k q) := Finset.sum_nonneg fun q _ => mul_self_nonneg _
    positivity
  · simp only [var, ← EReal.coe_mul]
    rw [mean_real (fun j => h j * h j), hw, ← EReal.coe_add]

theorem root_real (h : Fin 512 → ℝ) (k : Fin 512) : ∃ w : ℝ, 0 < w ∧ var (fun k => (h k : EReal)) k = (w : EReal) ∧ Ideal.rsqrt (w : EReal) = (((Real.sqrt w)⁻¹ : ℝ) : EReal) := by
  obtain ⟨w, hw, e⟩ := var_real h k
  exact ⟨w, hw, e, by rw [Ideal.rsqrt_coe, if_neg (not_lt.mpr hw.le), if_neg hw.ne']⟩

theorem nrm_real (h : Fin 512 → ℝ) : ∃ y : Fin 512 → ℝ, ∀ k, nrm (fun k => (h k : EReal)) k = (y k : EReal) := by
  choose w _ e hr using root_real h
  exact ⟨fun k => h k * (Real.sqrt (w k))⁻¹, fun k => by rw [nrm, e, hr, ← EReal.coe_mul]⟩

variable (P : Fin 512 → Fin 512 → EReal) (hP : ∀ j k, P j k = if j.val / 64 = k.val / 64 then Ideal.ofBits .f32 1015021568#32 else 0)

include hP in
/-- The kernel's mean square. -/
theorem two_var (h : Fin 512 → ℝ) (k : Fin 512) : two P (fun j => (h j : EReal) * h j) k + Ideal.ofBits .f32 897988541#32 = var (fun k => (h k : EReal)) k := by
  simp only [var, ← EReal.coe_mul]
  rw [two_real P hP fun j => h j * h j]

include hP in
/-- The kernel's mean of the cotangent times the normed channel. -/
theorem two_cross (d h : Fin 512 → ℝ) (k : Fin 512) : two P (fun j => (d j : EReal) * nrm (fun k => (h k : EReal)) j) k
    = mean (fun j => (d j : EReal) * nrm (fun k => (h k : EReal)) j) k := by
  obtain ⟨y, hy⟩ := nrm_real h
  simp only [hy, ← EReal.coe_mul]
  exact two_real P hP (fun j => d j * y j) k

/-- The reference's three terms of the gradient. -/
theorem grad_real (d h : Fin 512 → ℝ) (k : Fin 512) (v s : EReal) (hv : v = var (fun k => (h k : EReal)) k)
    (hs : s = Ideal.div ((∑ q, (h (mate k q) : EReal) * d (mate k q)) * (Ideal.ofBits .f32 3204448256#32 * Ideal.div (Ideal.rsqrt v) v)) (Ideal.ofBits .f32 1115684864#32)) :
    (d k : EReal) * Ideal.rsqrt v + h k * s + s * h k = grad (fun j => (d j : EReal)) (fun j => (h j : EReal)) k := by
  obtain ⟨w, hw, e, hr⟩ := root_real h k
  have hq : (Real.sqrt w)⁻¹ / w = (Real.sqrt w)⁻¹ * ((Real.sqrt w)⁻¹ * (Real.sqrt w)⁻¹) := by
    rw [← mul_inv, Real.mul_self_sqrt hw.le, div_eq_mul_inv]
  simp only [grad, mean, nrm, var_mate]
  rw [e] at hv ⊢
  subst hv
  generalize hR : (Real.sqrt w)⁻¹ = R at hr hq
  rw [hr, div_real _ _ hw.ne', hq, word_half, word_group] at hs
  simp only [← EReal.coe_mul] at hs
  rw [coe_sum', ← EReal.coe_mul, div_real _ _ (by norm_num)] at hs
  rw [hs, hr, word_group]
  simp only [← EReal.coe_mul]
  rw [coe_sum', div_real _ _ (by norm_num)]
  rw [← EReal.coe_mul, ← EReal.coe_sub, ← EReal.coe_mul, ← EReal.coe_add, ← EReal.coe_add]
  have hsum : ∑ q, d (mate k q) * (h (mate k q) * R) = (∑ q, h (mate k q) * d (mate k q)) * R := by
    rw [Finset.sum_mul]
    exact Finset.sum_congr rfl fun j _ => by ring
  rw [hsum]
  congr 1
  ring

end Cert.Grp

end
-- ==== Proof.MixOutSpec.lean ====
module

public import proofs.«01_k».proof.Proof.Gen.MixOutIdeal.Value
public import proofs.«01_k».proof.Proof.Gen.MixOutRefIdeal.Run
public import proofs.«01_k».proof.Proof.Gen.MixOutRefIdeal.Read
public import proofs.«01_k».proof.Proof.GroupMath
public import Idealize.ShloMosaic.Lib.Pipeline.ReadBack

@[expose] public section

set_option maxRecDepth 16384

noncomputable section

open Idealize.ShloMosaic TcCoe Pointwise Idealize.SL.Sem
open Idealize.ShloMosaic.Pipeline (Dat)

namespace Cert.MixOutIdeal.Hand

open Cert.MixOutIdeal Cert.MixOutIdeal.Gen

variable (m : (ℓ : Loc nD τ sig) → Buf (Elt Ideal) ℓ) (ρ : Dev nD → PrngReg)

theorem idx : ∀ t : Fin cfg0.N, win0_0.index t = ![t.val / 3, t.val % 3, 0] ∧ win0_1.index t = ![t.val / 3, t.val % 3, 0] ∧ win0_2.index t = ![t.val / 3, t.val % 3, 1]
   ∧ win0_3.index t = ![t.val / 3, t.val % 3, 2] ∧ win0_4.index t = ![t.val / 3, t.val % 3 * 43 - 1, 1] ∧ win0_5.index t = ![t.val / 3, t.val % 3 * 43 - 1, 2]
   ∧ win0_6.index t = ![t.val / 3, t.val % 3, 0] ∧ win0_7.index t = ![0, 0] ∧ win0_8.index t = ![0, 0] ∧ win0_9.index t = ![0, 0] ∧ win0_10.index t = ![0, 0] ∧ win0_11.index t = ![0, 0]
   ∧ win0_12.index t = ![t.val / 3, t.val % 3, 0] ∧ win0_13.index t = ![t.val / 3, t.val % 3, 0] ∧ win0_14.index t = ![t.val / 3, t.val % 3, 0]
   ∧ win0_15.index t = ![0, 0] ∧ win0_16.index t = ![0, 0] ∧ win0_17.index t = ![0, 0] ∧ ((grid0.coords t) 1).val = t.val % 3 :=
  (by decide +kernel)

theorem tlt (t : Fin cfg0.N) : t.val < 12 := by have := t.isLt; have h : cfg0.N = 12 := N_0; omega

/-- The sequence a grid point works on. -/
def seq (t : Fin cfg0.N) : Fin 4 := ⟨t.val / 3, by have := tlt t; omega⟩

/-- The position that row `r` of a grid point's block is. -/
def pos (t : Fin cfg0.N) (r : Fin 688) : Fin 2064 := ⟨t.val % 3 * 688 + r.val, by have := tlt t; omega⟩

/-! ## What the programs compute -/

/-- The product that feeds the short convolution, behind two rows of zeros. -/
def up (X : S4x2064x3080.Idx → EReal) (b : Fin 4) (k : Fin 512) (l : ℕ) : EReal :=
  if h : 2 ≤ l ∧ l - 2 < 2064 then X (ix3 b ⟨l - 2, h.2⟩ ⟨512 + k.val, by omega⟩) * X (ix3 b ⟨l - 2, h.2⟩ ⟨1024 + k.val, by omega⟩) else 0

/-- The short convolution. -/
def cv (X : S4x2064x3080.Idx → EReal) (W : S1x3x512.Idx → EReal) (b : Fin 4) (l : Fin 2064) (k : Fin 512) : EReal :=
  W (ix3 0 2 k) * up X b k (l.val + 2) + W (ix3 0 1 k) * up X b k (l.val + 1) + W (ix3 0 0 k) * up X b k l.val

/-- The gated convolution. -/
def yc (X : S4x2064x3080.Idx → EReal) (W : S1x3x512.Idx → EReal) (b : Fin 4) (l : Fin 2064) (k : Fin 512) : EReal := X (ix3 b l ⟨k.val, by omega⟩) * cv X W b l k

/-- The cotangent of the two normed halves. -/
def cot (V : S1x1024x1024.Idx → EReal) (Y : S4x2064x1024.Idx → EReal) (b : Fin 4) (l : Fin 2064) (k : Fin 1024) : EReal := ∑ d : Fin 1024, Y (ix3 b l d) * V (ix3 0 k d)

/-- The cotangent of the first half, before its norm's weights. -/
def dc (G : S1x512.Idx → EReal) (V : S1x1024x1024.Idx → EReal) (Y : S4x2064x1024.Idx → EReal) (b : Fin 4) (l : Fin 2064) (k : Fin 512) : EReal := cot V Y b l ⟨k.val, by omega⟩ * G (ix2 0 k)

/-- The cotangent of the second half, before its norm's weights. -/
def da (G : S1x512.Idx → EReal) (V : S1x1024x1024.Idx → EReal) (Y : S4x2064x1024.Idx → EReal) (b : Fin 4) (l : Fin 2064) (k : Fin 512) : EReal := cot V Y b l ⟨512 + k.val, by omega⟩ * G (ix2 0 k)

/-- The gradient with respect to the gated convolution. -/
def dy (X : S4x2064x3080.Idx → EReal) (W : S1x3x512.Idx → EReal) (G : S1x512.Idx → EReal) (V : S1x1024x1024.Idx → EReal) (Y : S4x2064x1024.Idx → EReal) (b : Fin 4) (l : Fin 2064) (k : Fin 512) : EReal :=
  Grp.grad (dc G V Y b l) (yc X W b l) k

/-- The gradient with respect to the gate's product with the convolution. -/
def dcv (X : S4x2064x3080.Idx → EReal) (W : S1x3x512.Idx → EReal) (G : S1x512.Idx → EReal) (V : S1x1024x1024.Idx → EReal) (Y : S4x2064x1024.Idx → EReal) (b : Fin 4) (l : Fin 2064) (k : Fin 512) : EReal :=
  dy X W G V Y b l k * X (ix3 b l ⟨k.val, by omega⟩)

/-- The gradient with respect to the convolution's weights: three rows, padded to eight. -/
def dw (X : S4x2064x3080.Idx → EReal) (W : S1x3x512.Idx → EReal) (G : S1x512.Idx → EReal) (V : S1x1024x1024.Idx → EReal) (Y : S4x2064x1024.Idx → EReal) (s : ℕ) (k : Fin 512) : EReal :=
  if s < 3 then ∑ b, ∑ l : Fin 2064, dcv X W G V Y b l k * up X b k (l.val + s) else 0

/-! ## The blocks a grid point reads -/

variable (c : Dev nD) (t : Fin cfg0.N)

theorem blk0 (r : Fin 688) (d : Fin 1024) : iblk m c 0 t (ix3 0 r d) = m (c.tc.loc main_arg6) (ix3 (seq t) (pos t r) d) := by
  have := tlt t
  blk_simp [iblk, idx t]
  simp only [V, hostOps0, hostOps0_1, hostOps0_2, flatten_cons, flatten_nil, append_nil, cons_append, nil_append]
  entry_read; pointwise; blk_ext [idx t, seq, pos]

theorem blk1 (r : Fin 688) (k : Fin 512) : iblk m c 1 t (ix3 0 r k) = m (c.tc.loc main_arg0) (ix3 (seq t) (pos t r) ⟨k.val, by omega⟩) := by
  have := tlt t
  blk_simp [iblk, idx t]
  simp only [V, hostOps0, hostOps0_1, hostOps0_2, flatten_cons, flatten_nil, append_nil, cons_append, nil_append]
  entry_read; pointwise; blk_ext [idx t, seq, pos]

theorem blk2 (r : Fin 688) (k : Fin 512) : iblk m c 2 t (ix3 0 r k) = m (c.tc.loc main_arg0) (ix3 (seq t) (pos t r) ⟨512 + k.val, by omega⟩) := by
  have := tlt t
  blk_simp [iblk, idx t]
  simp only [V, hostOps0, hostOps0_1, hostOps0_2, flatten_cons, flatten_nil, append_nil, cons_append, nil_append]
  entry_read; pointwise; blk_ext [idx t, seq, pos]

theorem blk3 (r : Fin 688) (k : Fin 512) : iblk m c 3 t (ix3 0 r k) = m (c.tc.loc main_arg0) (ix3 (seq t) (pos t r) ⟨1024 + k.val, by omega⟩) := by
  have := tlt t
  blk_simp [iblk, idx t]
  simp only [V, hostOps0, hostOps0_1, hostOps0_2, flatten_cons, flatten_nil, append_nil, cons_append, nil_append]
  entry_read; pointwise; blk_ext [idx t, seq, pos]

theorem blk4 (r : Fin 16) (k : Fin 512) (h : 0 < t.val % 3) : iblk m c 4 t (ix3 0 r k)
    = m (c.tc.loc main_arg0) (ix3 (seq t) ⟨t.val % 3 * 688 - 16 + r.val, by have := tlt t; omega⟩ ⟨512 + k.val, by omega⟩) := by
  have := tlt t
  blk_simp [iblk, idx t]
  simp only [V, hostOps0, hostOps0_1, hostOps0_2, flatten_cons, flatten_nil, append_nil, cons_append, nil_append]
  entry_read; pointwise; blk_ext [idx t, seq]

theorem blk5 (r : Fin 16) (k : Fin 512) (h : 0 < t.val % 3) : iblk m c 5 t (ix3 0 r k)
    = m (c.tc.loc main_arg0) (ix3 (seq t) ⟨t.val % 3 * 688 - 16 + r.val, by have := tlt t; omega⟩ ⟨1024 + k.val, by omega⟩) := by
  have := tlt t
  blk_simp [iblk, idx t]
  simp only [V, hostOps0, hostOps0_1, hostOps0_2, flatten_cons, flatten_nil, append_nil, cons_append, nil_append]
  entry_read; pointwise; blk_ext [idx t, seq]

theorem blk6 (r : Fin 688) (k : Fin 512) : iblk m c 6 t (ix3 0 r k) = m (c.tc.loc main_arg1) (ix3 (seq t) (pos t r) k) := by
  have := tlt t
  blk_ext [iblk, V, idx t, seq, pos]

theorem blk7 (r : Fin 8) (k : Fin 512) (hr : r.val < 3) : iblk m c 7 t (ix2 r k) = m (c.tc.loc main_arg2) (ix3 0 ⟨r.val, hr⟩ k) := by
  have := tlt t
  blk_simp [iblk, idx t]
  simp only [V, hostOps0, hostOps0_1, hostOps0_2, flatten_cons, flatten_nil, append_nil, cons_append, nil_append]
  entry_read; simp -implicitDefEqProofs only [StableHlo.TRef.toBuf, StableHlo.TRef.ofBuf, cast_eq]; pointwise
  refine (dif_pos (by blk_simp [idx t]; exact hr)).trans ?_
  blk_ext [idx t]

/-- A channel's group, as the host counts it. -/
def group (n : ℕ) : BitVec 32 :=
  Scalar.select (IntOp.andi (IntOp.cmpi (w := 32) .ne (if BitVec.ofNat 32 n = 0 then 0 else if (BitVec.ofNat 32 n).msb = true then -1 else 1) (if 64#32 = 0 then 0 else if (64#32).msb = true then -1 else 1))
    (IntOp.cmpi .ne (IntOp.remsi ArithUnit.host (BitVec.ofNat 32 n) 64#32) 0#32)) (IntOp.subi (IntOp.divsi ArithUnit.host (BitVec.ofNat 32 n) 64#32) 1#32)
    (IntOp.divsi ArithUnit.host (BitVec.ofNat 32 n) 64#32)

theorem group_eq : ∀ n : Fin 512, group n.val = BitVec.ofNat 32 (n.val / 64) := by decide +kernel

theorem mat (i : S512x512.Idx) : V m c main_v12 i = Scalar.select (IntOp.cmpi .eq (group (i 0).val) (group (i 1).val)) (Ideal.ofBits .f32 1015021568#32) (0 : EReal) := by
  simp only [V, hostOps0, hostOps0_1, hostOps0_2, flatten_cons, flatten_nil, append_nil, cons_append, nil_append]
  entry_read; simp -implicitDefEqProofs only [StableHlo.TRef.toBuf, StableHlo.TRef.ofBuf, cast_eq]; pointwise
  unfold group
  rfl

theorem blk8 (j k : Fin 512) : iblk m c 8 t (ix2 j k) = if j.val / 64 = k.val / 64 then Ideal.ofBits .f32 1015021568#32 else 0 := by
  have := tlt t
  have e : ((View.whole main_v12).slice (win0_8.rect t)).emb (ix2 j k) = ix2 j k := by blk_ext [idx t]
  blk_simp [iblk, idx t]
  refine (mat m c _).trans ?_
  rw [e]
  refine Eq.trans (congrArg₂ (fun a b => Scalar.select (IntOp.cmpi .eq a b) (Ideal.ofBits .f32 1015021568#32) (0 : EReal)) (group_eq j) (group_eq k)) ?_
  exact Cert.Common.sel_eq (by omega) (by omega) _ _

theorem blk9 (k : Fin 512) : iblk m c 9 t (ix2 0 k) = m (c.tc.loc main_arg3) (ix2 0 k) := by
  have := tlt t
  blk_ext [iblk, V, idx t]

theorem blk10 (k : Fin 512) : iblk m c 10 t (ix2 0 k) = m (c.tc.loc main_arg4) (ix2 0 k) := by
  have := tlt t
  blk_ext [iblk, V, idx t]

theorem blk11 (k d : Fin 1024) : iblk m c 11 t (ix2 k d) = m (c.tc.loc main_arg5) (ix3 0 k d) := by
  have := tlt t
  blk_simp [iblk, idx t]
  simp only [V, hostOps0, hostOps0_1, hostOps0_2, flatten_cons, flatten_nil, append_nil, cons_append, nil_append]
  entry_read; pointwise; blk_ext [idx t]

end Cert.MixOutIdeal.Hand
-- ==== Proof.MixOutPoint.lean ====
module

public import proofs.«01_k».proof.Proof.MixOutSpec

@[expose] public section

set_option maxRecDepth 16384

noncomputable section

open Idealize.ShloMosaic TcCoe Pointwise Idealize.SL.Sem
open Idealize.ShloMosaic.Pipeline (Dat)

namespace Cert.MixOutIdeal.Hand

open Cert.MixOutIdeal Cert.MixOutIdeal.Gen

variable (m : (ℓ : Loc nD τ sig) → Buf (Elt Ideal) ℓ) (c : Dev nD) (t : Fin cfg0.N)

/-! The arguments, by name. -/

abbrev aX : S4x2064x3080.Idx → EReal := m (c.tc.loc main_arg0)
abbrev aO : S4x2064x512.Idx → EReal := m (c.tc.loc main_arg1)
abbrev aW : S1x3x512.Idx → EReal := m (c.tc.loc main_arg2)
abbrev aC : S1x512.Idx → EReal := m (c.tc.loc main_arg3)
abbrev aA : S1x512.Idx → EReal := m (c.tc.loc main_arg4)
abbrev aV : S1x1024x1024.Idx → EReal := m (c.tc.loc main_arg5)
abbrev aY : S4x2064x1024.Idx → EReal := m (c.tc.loc main_arg6)

/-! ## What a grid point computes, step by step -/

def p7 : FVec Ideal S688x512 .f32 := k0_pay7 (F := Ideal) (iblk m c 1 t)
def p14 : FVec Ideal S688x512 .f32 := k0_pay8 (F := Ideal) (iblk m c 2 t) (iblk m c 3 t)
def p23 : FVec Ideal S16x512 .f32 := k0_pay9 (F := Ideal) (grid0.coords t) (iblk m c 4 t) (iblk m c 5 t)
def p25 : FVec Ideal S8x512 .f32 := k0_pay10 (F := Ideal) (iblk m c 7 t)
abbrev p26 : IVec S688x512 32 := iota .tc S688x512 32 [0] iota_S688x512_d0_w32
def p32 : FVec Ideal S512 .f32 := k0_pay11 (F := Ideal) (grid0.coords t) (iblk m c 4 t) (iblk m c 5 t)
def p46 : FVec Ideal S688x512 .f32 := k0_pay13 (F := Ideal) (p14 m c t) p26 (p32 m c t)
def p57 : FVec Ideal S688x512 .f32 := k0_pay14 (F := Ideal) (p14 m c t) (p23 m c t) p26 (p32 m c t)
def p68 : FVec Ideal S688x512 .f32 := k0_pay15 (F := Ideal) (p14 m c t) (p23 m c t) (p25 m c t) p26 (p32 m c t)
def p69 : FVec Ideal S688x512 .f32 := k0_pay16 (F := Ideal) (p7 m c t) (p14 m c t) (p23 m c t) (p25 m c t) p26 (p32 m c t)
def p79 : FVec Ideal S688x512 .f32 := k0_pay18 (F := Ideal) (p7 m c t) (p14 m c t) (p23 m c t) (p25 m c t) p26 (p32 m c t) (iblk m c 8 t)
def p82 : FVec Ideal S688x512 .f32 := k0_pay19 (F := Ideal) (p79 m c t) (FloatOps.ofBits FTy.f32 897988541#32)
def p95 : FVec Ideal S688x512 .f32 := k0_pay21 (F := Ideal) (k0_pay17 (F := Ideal) (iblk m c 8 t)) (iblk m c 6 t)
def p96 : FVec Ideal S688x512 .f32 := k0_pay22 (F := Ideal) (p69 m c t) (p79 m c t) (FloatOps.ofBits FTy.f32 897988541#32)
def p97 : FVec Ideal S688x512 .f32 := k0_pay23 (F := Ideal) (k0_pay17 (F := Ideal) (iblk m c 8 t)) (iblk m c 6 t)
def p99 : FVec Ideal S512x512 .bf16 := k0_pay24 (F := Ideal) (iblk m c 8 t)
def p104 : FVec Ideal S688x512 .f32 := k0_pay26 (F := Ideal) (iblk m c 0 t) (View.ld (iblk m c 11 t) (Rect.unit ![0, 0] ![512, 1024] inb_S1024x1024_S512x1024_0_0))
def p107 : FVec Ideal S688x512 .f32 := k0_pay27 (F := Ideal) (iblk m c 0 t) (View.ld (iblk m c 11 t) (Rect.unit ![512, 0] ![512, 1024] inb_S1024x1024_S512x1024_512_0))
def p134 : FVec Ideal S688x512 .f32 := k0_pay31 (F := Ideal) (p7 m c t) (p82 m c t) (p96 m c t) (p99 m c t) (p104 m c t) (iblk m c 9 t)

theorem p7_at (r : Fin 688) (k : Fin 512) : p7 m c t (ix2 r k) = aX m c (ix3 (seq t) (pos t r) ⟨k.val, by omega⟩) := by
  have h := blk1 m c t
  unfold p7
  generalize iblk m c 1 t = x at *
  pointwise [k0_pay7]
  exact h r k

theorem p14_at (r : Fin 688) (k : Fin 512) : p14 m c t (ix2 r k) = up (aX m c) (seq t) k ((pos t r).val + 2) := by
  have h := blk2 m c t
  have g := blk3 m c t
  unfold p14
  generalize iblk m c 2 t = x at *
  generalize iblk m c 3 t = y at *
  pointwise [k0_pay8]
  rw [h, g, up, dif_pos ⟨by omega, by omega⟩]
  congr 2

theorem p23_at (r : Fin 16) (k : Fin 512) (hr : 14 ≤ r.val) : p23 m c t (ix2 r k) = up (aX m c) (seq t) k (t.val % 3 * 688 + r.val - 14) := by
  have ht := tlt t
  have eg : (grid0.coords t 1).val = t.val % 3 := (idx t).2.2.2.2.2.2.2.2.2.2.2.2.2.2.2.2.2.2
  have h := blk4 m c t
  have g := blk5 m c t
  unfold p23
  generalize iblk m c 4 t = x at *
  generalize iblk m c 5 t = y at *
  pointwise [k0_pay9]
  simp only [eg, Scalar.cmpi]
  simp (disch := omega) only [Common.sel_eq]
  split_ifs with h0
  · rw [up, dif_neg (by omega)]
  · rw [h _ _ (by omega), g _ _ (by omega), up, dif_pos ⟨by omega, by omega⟩]
    have e : t.val % 3 * 688 - 16 + r.val = t.val % 3 * 688 + r.val - 14 - 2 := by omega
    simp only [e]

theorem p32_at (k : Fin 512) : p32 m c t (ix1 k) = up (aX m c) (seq t) k (t.val % 3 * 688 + 1) := by
  have h := p23_at m c t 15 k (by decide)
  unfold p23 at h
  unfold p32
  pointwise [k0_pay11]
  have s := Cert.Common.sum_one (n := 16) 15 (by decide)
  refine (s _).trans (h.trans ?_)
  rfl

theorem p46_at (r : Fin 688) (k : Fin 512) : p46 m c t (ix2 r k) = up (aX m c) (seq t) k ((pos t r).val + 1) := by
  have h := p14_at m c t
  have g := p32_at m c t
  unfold p46
  generalize p14 m c t = x at *
  generalize p32 m c t = y at *
  pointwise [k0_pay13, k0_pay12]
  simp (disch := omega) only [Common.sel_eq]
  simp only [h, g]
  split_ifs with h0
  · congr 1; simp only [pos]; omega
  · congr 1; simp only [pos]; omega

theorem p57_at (r : Fin 688) (k : Fin 512) : p57 m c t (ix2 r k) = up (aX m c) (seq t) k (pos t r).val := by
  have h := p14_at m c t
  have g := p32_at m c t
  have f := p23_at m c t 14 k (by decide)
  unfold p57
  generalize p14 m c t = x at *
  generalize p32 m c t = y at *
  generalize p23 m c t = z at *
  pointwise [k0_pay14, k0_pay12]
  have s := Cert.Common.sum_one (n := 16) 14 (by decide)
  change ∀ f : Fin 16 → EReal, ∑ x : Fin 16, Scalar.select (IntOp.cmpi .eq (BitVec.ofNat 32 x.val) 14#32) (f x) 0 = f 14 at s
  simp only [s]
  simp (disch := omega) only [Common.sel_eq]
  simp only [h, g, f]
  split_ifs with h0 h1
  · congr 1; simp only [pos]; rw [h0]; rfl
  · congr 1; simp only [pos]; omega
  · congr 1; simp only [pos]; omega

theorem p25_at (r : Fin 8) (k : Fin 512) (hr : r.val < 3) : p25 m c t (ix2 r k) = aW m c (ix3 0 ⟨r.val, hr⟩ k) := by
  have h := blk7 m c t
  unfold p25
  generalize iblk m c 7 t = x at *
  pointwise [k0_pay10]
  exact h r k hr

theorem p68_at (r : Fin 688) (k : Fin 512) : p68 m c t (ix2 r k) = cv (aX m c) (aW m c) (seq t) (pos t r) k := by
  have h := p14_at m c t
  have g := p46_at m c t
  have f := p57_at m c t
  have e := p25_at m c t
  unfold p46 at g
  unfold p57 at f
  unfold p68
  generalize p14 m c t = x at *
  generalize p25 m c t = y at *
  pointwise [k0_pay15]
  rw [g, f, h, e 2 k (by decide), e 1 k (by decide), e 0 k (by decide)]
  rfl

theorem p69_at (r : Fin 688) (k : Fin 512) : p69 m c t (ix2 r k) = yc (aX m c) (aW m c) (seq t) (pos t r) k := by
  have h := p68_at m c t
  unfold p68 at h
  unfold p69
  pointwise [k0_pay16]
  rw [h, p7_at]
  rfl

/-- The rows whose norm is taken, and their cotangents, are rows of reals. -/
def Reals : Prop := ∀ b l, (∃ y : Fin 512 → ℝ, yc (aX m c) (aW m c) b l = fun k => (y k : EReal)) ∧ (∃ y : Fin 512 → ℝ, dc (aC m c) (aV m c) (aY m c) b l = fun k => (y k : EReal))
  ∧ (∃ y : Fin 512 → ℝ, (fun k => aO m c (ix3 b l k)) = fun k => (y k : EReal)) ∧ ∃ y : Fin 512 → ℝ, da (aA m c) (aV m c) (aY m c) b l = fun k => (y k : EReal)

theorem two_var {P : Fin 512 → Fin 512 → EReal} (hP : ∀ j k, P j k = if j.val / 64 = k.val / 64 then Ideal.ofBits .f32 1015021568#32 else 0) {h : Fin 512 → EReal}
    (hh : ∃ y : Fin 512 → ℝ, h = fun k => (y k : EReal)) (k : Fin 512) : Grp.two P (fun j => h j * h j) k + Ideal.ofBits .f32 897988541#32 = Grp.var h k := by
  obtain ⟨y, rfl⟩ := hh
  exact Grp.two_var P hP y k

theorem two_cross {P : Fin 512 → Fin 512 → EReal} (hP : ∀ j k, P j k = if j.val / 64 = k.val / 64 then Ideal.ofBits .f32 1015021568#32 else 0) {h d : Fin 512 → EReal}
    (hh : ∃ y : Fin 512 → ℝ, h = fun k => (y k : EReal)) (hd : ∃ y : Fin 512 → ℝ, d = fun k => (y k : EReal)) (k : Fin 512) :
    Grp.two P (fun j => d j * Grp.nrm h j) k = Grp.mean (fun j => d j * Grp.nrm h j) k := by
  obtain ⟨y, rfl⟩ := hh
  obtain ⟨z, rfl⟩ := hd
  exact Grp.two_cross P hP z y k

variable (hR : Reals m c)

include hR in
theorem p82_at (r : Fin 688) (k : Fin 512) : p82 m c t (ix2 r k) = Ideal.rsqrt (Grp.var (yc (aX m c) (aW m c) (seq t) (pos t r)) k) := by
  have h := p69_at m c t
  have g := blk8 m c t
  unfold p69 at h
  unfold p82 p79
  generalize iblk m c 8 t = x at *
  pointwise [k0_pay19, k0_pay18, k0_pay17]
  simp only [h]
  exact congrArg Ideal.rsqrt (two_var g (hR _ _).1 k)

include hR in
theorem p96_at (r : Fin 688) (k : Fin 512) : p96 m c t (ix2 r k) = Grp.nrm (yc (aX m c) (aW m c) (seq t) (pos t r)) k := by
  have h := p82_at m c t hR
  unfold p82 at h
  unfold p96
  pointwise [k0_pay22]
  rw [p69_at]
  exact congrArg (fun u : EReal => _ * u) (h r k)

include hR in
theorem p95_at (r : Fin 688) (k : Fin 512) : p95 m c t (ix2 r k) = Ideal.rsqrt (Grp.var (fun k => aO m c (ix3 (seq t) (pos t r) k)) k) := by
  have h := blk6 m c t
  have g := blk8 m c t
  unfold p95
  generalize iblk m c 8 t = x at *
  generalize iblk m c 6 t = y at *
  pointwise [k0_pay21, k0_pay20, k0_pay17]
  simp only [h]
  exact congrArg Ideal.rsqrt (two_var g (hR _ _).2.2.1 k)

include hR in
theorem p97_at (r : Fin 688) (k : Fin 512) : p97 m c t (ix2 r k) = Grp.nrm (fun k => aO m c (ix3 (seq t) (pos t r) k)) k := by
  have h := p95_at m c t hR
  have g := blk6 m c t
  unfold p95 at h
  unfold p97
  generalize iblk m c 6 t = y at *
  pointwise [k0_pay23, k0_pay20]
  rw [h, g]
  rfl

theorem p104_at (r : Fin 688) (k : Fin 512) : p104 m c t (ix2 r k) = cot (aV m c) (aY m c) (seq t) (pos t r) ⟨k.val, by omega⟩ := by
  have h := blk0 m c t
  have g := blk11 m c t
  unfold p104
  generalize iblk m c 0 t = x at *
  generalize iblk m c 11 t = y at *
  pointwise [k0_pay26, k0_pay25]
  simp only [h, g]
  rfl

theorem p107_at (r : Fin 688) (k : Fin 512) : p107 m c t (ix2 r k) = cot (aV m c) (aY m c) (seq t) (pos t r) ⟨512 + k.val, by omega⟩ := by
  have h := blk0 m c t
  have g := blk11 m c t
  unfold p107
  generalize iblk m c 0 t = x at *
  generalize iblk m c 11 t = y at *
  pointwise [k0_pay27, k0_pay25]
  simp only [h, g]
  rfl

theorem p99_at (j k : Fin 512) : p99 m c t (ix2 j k) = if j.val / 64 = k.val / 64 then Ideal.ofBits .f32 1015021568#32 else 0 := by
  have g := blk8 m c t
  unfold p99
  generalize iblk m c 8 t = x at *
  pointwise [k0_pay24]
  exact g j k

include hR in
theorem pay29_at (r : Fin 688) (k : Fin 512) : k0_pay29 (F := Ideal) (p82 m c t) (p96 m c t) (p99 m c t) (p104 m c t) (iblk m c 9 t) (ix2 r k)
    = dy (aX m c) (aW m c) (aC m c) (aV m c) (aY m c) (seq t) (pos t r) k := by
  have h := p82_at m c t hR
  have g := p96_at m c t hR
  have f := p104_at m c t
  have e := p99_at m c t
  have d := blk9 m c t
  generalize p82 m c t = x at *
  generalize p96 m c t = y at *
  generalize p104 m c t = z at *
  generalize p99 m c t = w at *
  generalize iblk m c 9 t = v at *
  pointwise [k0_pay29]
  simp only [h, g, f, d]
  exact congrArg (fun u : EReal => _ * (_ - _ * u)) (two_cross e (hR _ _).1 (hR _ _).2.1 k)

include hR in
theorem p134_at (r : Fin 688) (k : Fin 512) : p134 m c t (ix2 r k) = dy (aX m c) (aW m c) (aC m c) (aV m c) (aY m c) (seq t) (pos t r) k * aX m c (ix3 (seq t) (pos t r) ⟨k.val, by omega⟩) := by
  have h := pay29_at m c t hR
  unfold p134
  pointwise [k0_pay31]
  rw [h, p7_at]

include hR in
theorem pay3_at (r : Fin 688) (k : Fin 512) : k0_pay3 (F := Ideal) (p95 m c t) (p97 m c t) (p99 m c t) (p107 m c t) (iblk m c 10 t) (ix3 0 r k)
    = Grp.grad (da (aA m c) (aV m c) (aY m c) (seq t) (pos t r)) (fun k => aO m c (ix3 (seq t) (pos t r) k)) k := by
  have h := p95_at m c t hR
  have g := p97_at m c t hR
  have f := p107_at m c t
  have e := p99_at m c t
  have d := blk10 m c t
  generalize p95 m c t = x at *
  generalize p97 m c t = y at *
  generalize p107 m c t = z at *
  generalize p99 m c t = w at *
  generalize iblk m c 10 t = v at *
  pointwise [k0_pay3]
  simp only [h, g, f, d]
  exact congrArg (fun u : EReal => _ * (_ - _ * u)) (two_cross e (hR _ _).2.2.1 (hR _ _).2.2.2 k)

end Cert.MixOutIdeal.Hand
-- ==== Proof.MixOutRef.lean ====
module

public import proofs.«01_k».proof.Proof.MixOutSpec

@[expose] public section

set_option maxRecDepth 16384

noncomputable section

open Idealize.ShloMosaic TcCoe Pointwise Idealize.SL.Sem

namespace Cert.MixOutIdeal.Hand

open Cert.MixOutIdeal Cert.MixOutRefIdeal.Read

variable (X : S4x2064x3080.Idx → EReal) (W : S1x3x512.Idx → EReal) (O : S4x2064x512.Idx → EReal) (C A : S1x512.Idx → EReal) (V : S1x1024x1024.Idx → EReal)
  (Y : S4x2064x1024.Idx → EReal) (b : Fin 4) (l : Fin 2064) (k : Fin 512)

theorem r6 (l : Fin 2066) : val_main_v6 (F := Ideal) X (ix3 b l k) = up X b k l.val := by
  pointwise [val_main_v6, val_main_v5, val_main_v4, val_main_v1, val_main_v2, val_main_cst]
  unfold up
  by_cases h : l.val < 2
  · rw [dif_pos h, dif_neg (by omega)]
  · rw [dif_neg h, dif_pos (by omega)]

theorem r26 : val_main_v26 (F := Ideal) X W (ix3 b l k) = cv X W b l k := by
  have h := r6 X b k
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v3]
  simp only [h]
  rw [add_comm (G := EReal), add_comm (G := EReal) (W (ix3 0 0 k) * _), ← add_assoc (G := EReal), add_comm 1 l.val, add_comm 2 l.val]
  rfl

theorem r30 : val_main_v30 (F := Ideal) X W (ix3 b l k) = yc X W b l k := by
  have h := r26 X W b l k
  pointwise [val_main_v30, val_main_v0]
  rw [h]
  rfl

theorem r38 : val_main_v38 (F := Ideal) X W (ix4 b l ⟨k.val / 64, by omega⟩ 0) = Grp.var (yc X W b l) k := by
  have h := r30 X W b l
  pointwise [val_main_v38, val_main_v37, val_main_v36, val_main_v35, val_main_v34, val_main_v33, val_main_v32, val_main_v31, val_main_cst_0, val_main_cst_1, val_main_cst_2]
  simp only [h]
  rfl

theorem r45 : val_main_v45 (F := Ideal) X W (ix3 b l k) = Grp.nrm (yc X W b l) k := by
  have h := r30 X W b l
  have g := r38 X W b l
  pointwise [val_main_v45, val_main_v44, val_main_v43, val_main_v39, val_main_v31]
  rw [h, g]
  rfl

theorem r56 : val_main_v56 (F := Ideal) O (ix4 b l ⟨k.val / 64, by omega⟩ 0) = Grp.var (fun k => O (ix3 b l k)) k := by
  pointwise [val_main_v56, val_main_v55, val_main_v54, val_main_v53, val_main_v52, val_main_v51, val_main_v50, val_main_v49, val_main_cst_4, val_main_cst_5, val_main_cst_6]
  rfl

theorem r63 : val_main_v63 (F := Ideal) O (ix3 b l k) = Grp.nrm (fun k => O (ix3 b l k)) k := by
  have g := r56 O b l
  pointwise [val_main_v63, val_main_v62, val_main_v61, val_main_v57, val_main_v49]
  rw [g]
  rfl

theorem r69 (d : Fin 1024) : val_main_v69 (F := Ideal) V Y (ix3 b l d) = cot V Y b l d := by
  pointwise [val_main_v69, val_main_v68, val_main_v29]
  rfl

theorem r115 (hy : ∃ y : Fin 512 → ℝ, yc X W b l = fun k => (y k : EReal)) (hd : ∃ y : Fin 512 → ℝ, dc C V Y b l = fun k => (y k : EReal)) :
    val_main_v115 (F := Ideal) X W C V Y (ix3 b l k) = dy X W C V Y b l k := by
  have h := r30 X W b l
  have g := r38 X W b l
  have f := r69 V Y b l
  obtain ⟨y, hy⟩ := hy
  obtain ⟨d, hd⟩ := hd
  have hd' : ∀ j : Fin 512, cot V Y b l ⟨j.val, by omega⟩ * C (ix2 0 j) = (d j : EReal) := congrFun hd
  have hn : ∀ (n : ℕ) (h : n < 512), cot V Y b l ⟨n, by omega⟩ * C (ix2 0 ⟨n, h⟩) = (d ⟨n, h⟩ : EReal) := fun n h => hd' ⟨n, h⟩
  pointwise [val_main_v115, val_main_v114, val_main_v113, val_main_v112, val_main_v111, val_main_v110, val_main_v109, val_main_v108, val_main_v107, val_main_v106, val_main_v105, val_main_v104, val_main_v103, val_main_v102, val_main_v101, val_main_v100, val_main_v98, val_main_v97, val_main_v70, val_main_v46, val_main_v43, val_main_v42, val_main_v41, val_main_v40, val_main_v39, val_main_v31, val_main_v27, val_main_cst_3, val_main_cst_15, val_main_cst_16, val_main_cst_17]
  simp only [h, f, hd', hn, hy]
  refine Eq.trans (Grp.grad_real d y k _ _ ?_ ?_) ?_
  · exact (g k).trans (by rw [hy])
  · exact Fin.sum_univ_one (M := EReal) _
  rw [dy, hy, hd]

theorem r93 (hy : ∃ y : Fin 512 → ℝ, (fun k => O (ix3 b l k)) = fun k => (y k : EReal)) (hd : ∃ y : Fin 512 → ℝ, da A V Y b l = fun k => (y k : EReal)) :
    val_main_v93 (F := Ideal) O A V Y (ix3 b l k) = Grp.grad (da A V Y b l) (fun k => O (ix3 b l k)) k := by
  have g := r56 O b l
  have f := r69 V Y b l
  obtain ⟨y, hy⟩ := hy
  obtain ⟨d, hd⟩ := hd
  have hy' : ∀ j : Fin 512, O (ix3 b l j) = (y j : EReal) := congrFun hy
  have hd' : ∀ j : Fin 512, cot V Y b l ⟨512 + j.val, by omega⟩ * A (ix2 0 j) = (d j : EReal) := congrFun hd
  have hn : ∀ (n : ℕ) (h : n < 512), cot V Y b l ⟨512 + n, by omega⟩ * A (ix2 0 ⟨n, h⟩) = (d ⟨n, h⟩ : EReal) := fun n h => hd' ⟨n, h⟩
  pointwise [val_main_v93, val_main_v92, val_main_v91, val_main_v90, val_main_v89, val_main_v88, val_main_v87, val_main_v86, val_main_v85, val_main_v84, val_main_v83, val_main_v82, val_main_v81, val_main_v80, val_main_v79, val_main_v78, val_main_v76, val_main_v75, val_main_v71, val_main_v64, val_main_v61, val_main_v60, val_main_v59, val_main_v58, val_main_v57, val_main_v49, val_main_v28, val_main_cst_7, val_main_cst_10, val_main_cst_11, val_main_cst_12]
  simp only [f, hd', hn, hy']
  refine Eq.trans (Grp.grad_real d y k _ _ ?_ ?_) ?_
  · exact (g k).trans (by rw [hy])
  · exact Fin.sum_univ_one (M := EReal) _
  simp only [hd]

theorem r119 : val_main_v119 (F := Ideal) X W V Y (ix2 0 k) = ∑ b, ∑ l, Grp.nrm (yc X W b l) k * cot V Y b l ⟨k.val, by omega⟩ := by
  have h := r45 X W
  have f := r69 V Y
  pointwise [val_main_v119, val_main_v99, val_main_v96, val_main_v95, val_main_v94, val_main_v70, val_main_cst_13, val_main_cst_14]
  simp only [h, f]
  exact (Fin.sum_univ_one _).trans (Fin.sum_univ_one _)

theorem r118 : val_main_v118 (F := Ideal) O V Y (ix2 0 k) = ∑ b, ∑ l, Grp.nrm (fun k => O (ix3 b l k)) k * cot V Y b l ⟨512 + k.val, by omega⟩ := by
  have h := r63 O
  have f := r69 V Y
  pointwise [val_main_v118, val_main_v77, val_main_v74, val_main_v73, val_main_v72, val_main_v71, val_main_cst_8, val_main_cst_9]
  simp only [h, f]
  exact (Fin.sum_univ_one _).trans (Fin.sum_univ_one _)

variable (hR : ∀ b l, (∃ y : Fin 512 → ℝ, yc X W b l = fun k => (y k : EReal)) ∧ ∃ y : Fin 512 → ℝ, dc C V Y b l = fun k => (y k : EReal))

include hR in
theorem r116 : val_main_v116 (F := Ideal) X W C V Y (ix3 b l k) = dcv X W C V Y b l k := by
  have h := r115 X W C V Y b l k (hR b l).1 (hR b l).2
  pointwise [val_main_v116, val_main_v0]
  rw [h, mul_comm]
  rfl

include hR in
theorem r143 (t : Fin 8) : val_main_v143 (F := Ideal) X W C V Y (ix2 t k) = dw X W C V Y t.val k := by
  have h := r6 X
  have g := r116 X W C V Y (hR := hR)
  pointwise [val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v22, val_main_v15, val_main_v9, val_main_call0_v0, val_main_c, val_main_cst_18, val_main_cst_19, val_main_cst_20, val_main_cst_21, val_main_cst_22, val_main_cst_23, val_main_cst_24, val_main_cst_25, val_main_cst_26]
  simp only [h, g]
  have key : ∀ s : ℕ → ℕ, (∀ l, s l = l + t.val) → (∑ _x : Fin 1, ∑ _x : Fin 1, ∑ b, ∑ l : Fin 2064, dcv X W C V Y b l k * up X b k (s l.val)) = ∑ b, ∑ l : Fin 2064, dcv X W C V Y b l k * up X b k (l.val + t.val) :=
    fun s hs => (Fin.sum_univ_one _).trans ((Fin.sum_univ_one _).trans (by simp only [hs]))
  unfold dw
  split_ifs
  all_goals first
    | (exfalso; omega)
    | exact (add_zero (M := EReal) _).trans ((add_zero (M := EReal) _).trans (key (fun l => 2 + l) fun l => by omega))
    | exact (add_zero (M := EReal) _).trans ((zero_add (M := EReal) _).trans (key (fun l => 1 + l) fun l => by omega))
    | exact (congrArg (fun u : EReal => u + _) (zero_add (M := EReal) 0)).trans ((zero_add (M := EReal) _).trans (key (fun l => l) fun l => by omega))
    | (show (((0#32 : BitVec 32).toInt : ℝ) : EReal) = 0; simp)

end Cert.MixOutIdeal.Hand
-- ==== Proof.MixOutValue.lean ====
module

public import proofs.«01_k».proof.Proof.MixOutPoint
public import proofs.«01_k».proof.Proof.MixOutRef

@[expose] public section

set_option maxRecDepth 16384

noncomputable section

open Idealize.ShloMosaic TcCoe Pointwise Idealize.SL.Sem
open Idealize.ShloMosaic.Pipeline (Dat)

namespace Cert.MixOutIdeal.Hand

open Cert.MixOutIdeal Cert.MixOutIdeal.Gen

/-! ## One-row strips of a block of eight rows -/

theorem strip_idx (o : ℕ) (inb : ∀ a, (![o, 0] : Fin S8x512.rank → ℕ) a + (![1, 512] : Fin S8x512.rank → ℕ) a ≤ S8x512.size a) (k : Fin 512) (r : Fin 8) (hr : r.val = o) :
    (Rect.unit (s := S8x512) ![o, 0] ![1, 512] inb).emb (ix2 0 k) = ix2 r k := by
  subst hr
  refine (Rect.unit (s := S8x512) ![r.val, 0] ![1, 512] inb).emb_eq_of_coords (ix2 0 k) (ix2 r k) fun a => ?_
  match a with
  | 0 => simp [Rect.unit, ix2]
  | 1 => simp [Rect.unit, ix2]

theorem strip_canon (o : ℕ) (inb : ∀ a, (![o, 0] : Fin S8x512.rank → ℕ) a + (![1, 512] : Fin S8x512.rank → ℕ) a ≤ S8x512.size a) (w : S1x512.Idx → EReal) (L : List (View.Piece (Elt Ideal) S8x512 .f32))
    (r : Fin 8) (k : Fin 512) : View.canon (Val := Elt Ideal) (⟨Rect.unit (s := S8x512) ![o, 0] ![1, 512] inb, w⟩ :: L) (ix2 r k) = if r.val = o then w (ix2 0 k) else View.canon (Val := Elt Ideal) L (ix2 r k) := by
  split_ifs with h
  · rw [← strip_idx o inb k r h]
    exact View.canon_cons_emb _ _ _ _
  · refine View.canon_cons_of_not_mem _ _ (Rect.not_mem_set_of_axis _ _ 0 o 1 rfl rfl rfl ?_)
    simp only [ix2]
    change r.val < o ∨ o + 1 ≤ r.val
    omega

theorem strip_read {sp : Space} (v : View sig .tc sp S8x512 .f32) (f : v.ty.Contents (Elt Ideal)) (o : ℕ) (inb : ∀ a, (![o, 0] : Fin S8x512.rank → ℕ) a + (![1, 512] : Fin S8x512.rank → ℕ) a ≤ S8x512.size a)
    (w : S1x512.Idx → EReal) (L : List (View.Piece (Elt Ideal) S8x512 .f32)) (r : Fin 8) (k : Fin 512) :
    v.read (Elt Ideal) (v.writes (Elt Ideal) f (⟨Rect.unit (s := S8x512) ![o, 0] ![1, 512] inb, w⟩ :: L)) (ix2 r k)
      = if r.val = o then w (ix2 0 k) else v.read (Elt Ideal) (v.writes (Elt Ideal) f L) (ix2 r k) := by
  split_ifs with h
  · exact View.read_writes_cons_hit v f _ _ _ _ _ (strip_idx o inb k r h)
  · refine View.read_writes_cons_miss_of_axis v f _ _ _ 0 o 1 rfl rfl rfl ?_
    simp only [ix2]
    change r.val < o ∨ o + 1 ≤ r.val
    omega

section Strips

variable {f0 f1 f2 : (S1x512.Idx → EReal) → S1x512.Idx → EReal} {g : ℕ → Fin 512 → EReal} (h0 : ∀ z k, f0 z (ix2 0 k) = z (ix2 0 k) + g 0 k) (h1 : ∀ z k, f1 z (ix2 0 k) = z (ix2 0 k) + g 1 k)
  (h2 : ∀ z k, f2 z (ix2 0 k) = z (ix2 0 k) + g 2 k) (r : Fin 8) (k : Fin 512)

abbrev row0 : Rect S8x512 := Rect.unit ![0, 0] ![1, 512] inb_S8x512_S1x512_0_0
abbrev row1 : Rect S8x512 := Rect.unit ![1, 0] ![1, 512] inb_S8x512_S1x512_1_0
abbrev row2 : Rect S8x512 := Rect.unit ![2, 0] ![1, 512] inb_S8x512_S1x512_2_0
abbrev L0 : List (View.Piece (Elt Ideal) S8x512 .f32) := [⟨Rect.unit ![0, 0] ![8, 512] inb_S8x512_S8x512_0_0, k0_pay6 (F := Ideal)⟩]
abbrev L1 (f0 : (S1x512.Idx → EReal) → S1x512.Idx → EReal) : List (View.Piece (Elt Ideal) S8x512 .f32) :=
  ⟨row0, f0 fun j => View.canon (Val := Elt Ideal) L0 (row0.idx j)⟩ :: L0
abbrev L2 (f0 f1 : (S1x512.Idx → EReal) → S1x512.Idx → EReal) : List (View.Piece (Elt Ideal) S8x512 .f32) :=
  ⟨row1, f1 fun j => View.canon (Val := Elt Ideal) (L1 f0) (row1.idx j)⟩ :: L1 f0
abbrev L3 (f0 f1 f2 : (S1x512.Idx → EReal) → S1x512.Idx → EReal) : List (View.Piece (Elt Ideal) S8x512 .f32) :=
  ⟨row2, f2 fun j => View.canon (Val := Elt Ideal) (L2 f0 f1) (row2.idx j)⟩ :: L2 f0 f1

theorem zero_rows (y : S8x512.Idx) : View.canon (Val := Elt Ideal) L0 y = (0 : EReal) := by
  refine (congrFun (View.canon_cons_unit_lit _ _ _ (by decide)) y).trans ?_
  pointwise [k0_pay6]

include h0 h1 h2 in
/-- At the first point the three strips add to zeros. -/
theorem strips_first : View.canon (Val := Elt Ideal) (L3 f0 f1 f2) (ix2 r k) = if r.val < 3 then g r.val k else 0 := by
  have e0 : View.canon (Val := Elt Ideal) L0 (row0.idx (ix2 (n0 := 1) 0 k)) = (0 : EReal) := zero_rows _
  have e1 : View.canon (Val := Elt Ideal) (L1 f0) (row1.idx (ix2 (n0 := 1) 0 k)) = (0 : EReal) := by
    refine (congrArg (View.canon (Val := Elt Ideal) (L1 f0)) (strip_idx 1 inb_S8x512_S1x512_1_0 k 1 rfl)).trans ?_
    rw [strip_canon, if_neg (by decide), zero_rows]
  have e2 : View.canon (Val := Elt Ideal) (L2 f0 f1) (row2.idx (ix2 (n0 := 1) 0 k)) = (0 : EReal) := by
    refine (congrArg (View.canon (Val := Elt Ideal) (L2 f0 f1)) (strip_idx 2 inb_S8x512_S1x512_2_0 k 2 rfl)).trans ?_
    rw [strip_canon, if_neg (by decide), strip_canon, if_neg (by decide), zero_rows]
  rw [strip_canon, strip_canon, strip_canon, zero_rows]
  by_cases a : r.val = 2
  · rw [if_pos a, if_pos (by omega), h2, e2, zero_add (M := EReal), a]
  rw [if_neg a]
  by_cases b : r.val = 1
  · rw [if_pos b, if_pos (by omega), h1, e1, zero_add (M := EReal), b]
  rw [if_neg b]
  by_cases d : r.val = 0
  · rw [if_pos d, if_pos (by omega), h0, e0, zero_add (M := EReal), d]
  rw [if_neg d, if_neg (by omega)]

include h0 h1 h2 in
/-- At a later point they add to what the point before left. -/
theorem strips_later {sp : Space} (v : View sig .tc sp S8x512 .f32) (f : v.ty.Contents (Elt Ideal)) (Z : S8x512.Idx → EReal) (hf : v.read (Elt Ideal) f = Z) :
    v.read (Elt Ideal) (v.writes (Elt Ideal) f
      [⟨row2, f2 (View.ld (Val := Elt Ideal) (e' := .f32) Z row2)⟩, ⟨row1, f1 (View.ld (Val := Elt Ideal) (e' := .f32) Z row1)⟩,
       ⟨row0, f0 (View.ld (Val := Elt Ideal) (e' := .f32) Z row0)⟩]) (ix2 r k)
      = Z (ix2 r k) + if r.val < 3 then g r.val k else 0 := by
  have e : ∀ (o : ℕ) (inb : ∀ a, (![o, 0] : Fin S8x512.rank → ℕ) a + (![1, 512] : Fin S8x512.rank → ℕ) a ≤ S8x512.size a), r.val = o →
      View.ld (Val := Elt Ideal) (e' := .f32) Z (Rect.unit ![o, 0] ![1, 512] inb) (ix2 (n0 := 1) 0 k) = Z (ix2 r k) := fun o inb h => congrArg Z (strip_idx o inb k r h)
  rw [strip_read, strip_read, strip_read]
  by_cases a : r.val = 2
  · rw [if_pos a, if_pos (by omega), h2, e 2 _ a, a]
  rw [if_neg a]
  by_cases b : r.val = 1
  · rw [if_pos b, if_pos (by omega), h1, e 1 _ b, b]
  rw [if_neg b]
  by_cases d : r.val = 0
  · rw [if_pos d, if_pos (by omega), h0, e 0 _ d, d]
  rw [if_neg d, if_neg (by omega)]
  exact (congrFun hf _).trans (add_zero (M := EReal) _).symm

end Strips

/-! ## Sums that the grid runs over -/

theorem running {o : ∀ n, n < cfg0.N → EReal} {tile : Fin cfg0.N → EReal} (first : ∀ h, o 0 h = tile ⟨0, h⟩) (later : ∀ n (h : n + 1 < cfg0.N), o (n + 1) h = o n (by omega) + tile ⟨n + 1, h⟩) :
    ∀ n h, o n h = ∑ s ∈ Finset.range (n + 1), if hs : s < cfg0.N then tile ⟨s, hs⟩ else 0
  | 0, h => by rw [first, Finset.sum_range_one, dif_pos h]
  | n + 1, h => by rw [later, running first later n, Finset.sum_range_succ _ (n + 1), dif_pos h]

theorem all_tiles (f : Fin 4 → Fin 2064 → EReal) : (∑ s ∈ Finset.range (11 + 1), if hs : s < cfg0.N then ∑ r, f (seq ⟨s, hs⟩) (pos ⟨s, hs⟩ r) else 0) = ∑ b, ∑ l, f b l := by
  rw [Finset.sum_range]
  refine Eq.trans (Finset.sum_congr rfl fun s _ => dif_pos s.isLt) ?_
  refine (Fin.sum_mul_add_fin (L := 12) 4 3 (fun s => ∑ r : Fin 688, f (seq s) (pos s r)) (by decide)).symm.trans ?_
  refine Finset.sum_congr rfl fun b _ => ?_
  refine Eq.trans ?_ (Fin.sum_mul_add_fin (L := 2064) 3 688 (f b) (by decide))
  refine Finset.sum_congr rfl fun i _ => Finset.sum_congr rfl fun r _ => congrArg₂ f (Fin.ext ?_) (Fin.ext ?_)
  · simp only [seq]; omega
  · simp only [pos]; omega

/-! ## What each store adds -/

variable (m : (ℓ : Loc nD τ sig) → Buf (Elt Ideal) ℓ) (c : Dev nD) (t : Fin cfg0.N)

section Adds

variable (hR : Reals m c) (z : S1x512.Idx → EReal) (k : Fin 512)

/-- A row tile's part of the gradient with respect to row `s` of the convolution's weights. -/
def tap (s : ℕ) : EReal := ∑ r : Fin 688, dcv (aX m c) (aW m c) (aC m c) (aV m c) (aY m c) (seq t) (pos t r) k * up (aX m c) (seq t) k ((pos t r).val + s)

/-- A row tile's part of the gradients with respect to the norms' weights. -/
def wc : EReal := ∑ r : Fin 688, Grp.nrm (yc (aX m c) (aW m c) (seq t) (pos t r)) k * cot (aV m c) (aY m c) (seq t) (pos t r) ⟨k.val, by omega⟩
def wa : EReal := ∑ r : Fin 688, Grp.nrm (fun k => aO m c (ix3 (seq t) (pos t r) k)) k * cot (aV m c) (aY m c) (seq t) (pos t r) ⟨512 + k.val, by omega⟩

include hR

theorem pay28_at : k0_pay28 (F := Ideal) (p69 m c t) (p79 m c t) (FloatOps.ofBits FTy.f32 897988541#32) (iblk m c 0 t) (View.ld (iblk m c 11 t) (Rect.unit ![0, 0] ![512, 1024] inb_S1024x1024_S512x1024_0_0)) z (ix2 0 k)
    = z (ix2 0 k) + wc m c t k := by
  pointwise [k0_pay28]
  exact congrArg (fun u : EReal => _ + u) (Finset.sum_congr rfl fun r _ => (congrArg₂ (fun a b : EReal => a * b) (p104_at m c t r k) (p96_at m c t hR r k)).trans (mul_comm _ _))

theorem pay2_at : k0_pay2 (F := Ideal) (p97 m c t) (p107 m c t) z (ix2 0 k) = z (ix2 0 k) + wa m c t k := by
  pointwise [k0_pay2]
  exact congrArg (fun u : EReal => _ + u) (Finset.sum_congr rfl fun r _ => (congrArg₂ (fun a b : EReal => a * b) (p107_at m c t r k) (p97_at m c t hR r k)).trans (mul_comm _ _))

theorem pay33_at : k0_pay33 (F := Ideal) (p7 m c t) (p57 m c t) (p82 m c t) (p96 m c t) (p99 m c t) (p104 m c t) (iblk m c 9 t) z (ix2 0 k) = z (ix2 0 k) + tap m c t k 0 := by
  pointwise [k0_pay33]
  exact congrArg (fun u : EReal => _ + u) (Finset.sum_congr rfl fun r _ => congrArg₂ (fun a b : EReal => a * b) (p134_at m c t hR r k) (p57_at m c t r k))

theorem pay34_at : k0_pay34 (F := Ideal) (p7 m c t) (p46 m c t) (p82 m c t) (p96 m c t) (p99 m c t) (p104 m c t) (iblk m c 9 t) z (ix2 0 k) = z (ix2 0 k) + tap m c t k 1 := by
  pointwise [k0_pay34]
  exact congrArg (fun u : EReal => _ + u) (Finset.sum_congr rfl fun r _ => congrArg₂ (fun a b : EReal => a * b) (p134_at m c t hR r k) (p46_at m c t r k))

theorem pay1_at : k0_pay1 (F := Ideal) (p14 m c t) (p134 m c t) z (ix2 0 k) = z (ix2 0 k) + tap m c t k 2 := by
  pointwise [k0_pay1]
  exact congrArg (fun u : EReal => _ + u) (Finset.sum_congr rfl fun r _ => congrArg₂ (fun a b : EReal => a * b) (p134_at m c t hR r k) (p14_at m c t r k))

omit z in
theorem pay30_at (r : Fin 688) : k0_pay30 (F := Ideal) (p68 m c t) (p82 m c t) (p96 m c t) (p99 m c t) (p104 m c t) (iblk m c 9 t) (ix3 0 r k)
    = cv (aX m c) (aW m c) (seq t) (pos t r) k * dy (aX m c) (aW m c) (aC m c) (aV m c) (aY m c) (seq t) (pos t r) k := by
  pointwise [k0_pay30]
  rw [pay29_at m c t hR, p68_at, mul_comm]

omit z in
theorem pay32_at (r : Fin 688) : k0_pay32 (F := Ideal) (p7 m c t) (p82 m c t) (p96 m c t) (p99 m c t) (p104 m c t) (iblk m c 9 t) (ix3 0 r k)
    = dcv (aX m c) (aW m c) (aC m c) (aV m c) (aY m c) (seq t) (pos t r) k := by
  have h := p134_at m c t hR r k
  unfold p134 at h
  pointwise [k0_pay32]
  exact h

end Adds

/-! ## What the call leaves -/

variable (hR : Reals m c)

/-- The gradients with respect to the norms' weights. -/
def dgc (X : S4x2064x3080.Idx → EReal) (W : S1x3x512.Idx → EReal) (V : S1x1024x1024.Idx → EReal) (Y : S4x2064x1024.Idx → EReal) (k : Fin 512) : EReal :=
  ∑ b, ∑ l, Grp.nrm (yc X W b l) k * cot V Y b l ⟨k.val, by omega⟩
def dga (O : S4x2064x512.Idx → EReal) (V : S1x1024x1024.Idx → EReal) (Y : S4x2064x1024.Idx → EReal) (k : Fin 512) : EReal :=
  ∑ b, ∑ l, Grp.nrm (fun k => O (ix3 b l k)) k * cot V Y b l ⟨512 + k.val, by omega⟩

theorem block_idx (y : S1x688x512.Idx) : y = ix3 0 (y 1) (y 2) := funext fun a => Fin.ext (by
  match a with
  | 0 => exact Nat.lt_one_iff.mp (y 0).isLt
  | 1 => rfl
  | 2 => rfl)

theorem row_idx (y : S1x512.Idx) : y = ix2 0 (y 1) := funext fun a => Fin.ext (by
  match a with
  | 0 => exact Nat.lt_one_iff.mp (y 0).isLt
  | 1 => rfl)

include hR

theorem final12 : (dats m 0 c).arrAt 12 cfg0.N = fun i => cv (aX m c) (aW m c) (i 0) (i 1) (i 2) * dy (aX m c) (aW m c) (aC m c) (aV m c) (aY m c) (i 0) (i 1) (i 2) := by
  refine (dats m 0 c).arrAt_eq_of_covers 12 _ (by decide +kernel) fun t hf y => ?_
  have := tlt t
  blk_simp [idx]
  rw [after0_12]
  have e0 : ((View.whole main_v16_0).slice (win0_12.rect t)).emb y 0 = seq t := Fin.ext (by have : (y 0).val < 1 := (y 0).isLt; blk_simp [idx, seq]; try omega)
  have e1 : ((View.whole main_v16_0).slice (win0_12.rect t)).emb y 1 = pos t (y 1) := Fin.ext (by blk_simp [idx, pos]; try omega)
  have e2 : ((View.whole main_v16_0).slice (win0_12.rect t)).emb y 2 = y 2 := Fin.ext (by blk_simp [idx]; try omega)
  rw [e0, e1, e2]
  refine Eq.trans ?_ (pay30_at m c t hR (y 2) (y 1))
  by_cases h : t.val % 12 = 0
  · rw [outsAt0_A m c t h]
    frame_out
    exact congrArg _ (block_idx y)
  · rw [outsAt0_B m c t h]
    frame_out
    exact congrArg _ (block_idx y)

theorem final13 : (dats m 0 c).arrAt 13 cfg0.N = fun i => dcv (aX m c) (aW m c) (aC m c) (aV m c) (aY m c) (i 0) (i 1) (i 2) := by
  refine (dats m 0 c).arrAt_eq_of_covers 13 _ (by decide +kernel) fun t hf y => ?_
  have := tlt t
  blk_simp [idx]
  rw [after0_13]
  have e0 : ((View.whole main_v16_1).slice (win0_13.rect t)).emb y 0 = seq t := Fin.ext (by have : (y 0).val < 1 := (y 0).isLt; blk_simp [idx, seq]; try omega)
  have e1 : ((View.whole main_v16_1).slice (win0_13.rect t)).emb y 1 = pos t (y 1) := Fin.ext (by blk_simp [idx, pos]; try omega)
  have e2 : ((View.whole main_v16_1).slice (win0_13.rect t)).emb y 2 = y 2 := Fin.ext (by blk_simp [idx]; try omega)
  rw [e0, e1, e2]
  refine Eq.trans ?_ (pay32_at m c t hR (y 2) (y 1))
  by_cases h : t.val % 12 = 0
  · rw [outsAt0_A m c t h]
    frame_out
    exact congrArg _ (block_idx y)
  · rw [outsAt0_B m c t h]
    frame_out
    exact congrArg _ (block_idx y)

theorem final14 : (dats m 0 c).arrAt 14 cfg0.N = fun i => Grp.grad (da (aA m c) (aV m c) (aY m c) (i 0) (i 1)) (fun k => aO m c (ix3 (i 0) (i 1) k)) (i 2) := by
  refine (dats m 0 c).arrAt_eq_of_covers 14 _ (by decide +kernel) fun t hf y => ?_
  have := tlt t
  blk_simp [idx]
  rw [after0_14]
  have e0 : ((View.whole main_v16_2).slice (win0_14.rect t)).emb y 0 = seq t := Fin.ext (by have : (y 0).val < 1 := (y 0).isLt; blk_simp [idx, seq]; try omega)
  have e1 : ((View.whole main_v16_2).slice (win0_14.rect t)).emb y 1 = pos t (y 1) := Fin.ext (by blk_simp [idx, pos]; try omega)
  have e2 : ((View.whole main_v16_2).slice (win0_14.rect t)).emb y 2 = y 2 := Fin.ext (by blk_simp [idx]; try omega)
  rw [e0, e1, e2]
  refine Eq.trans ?_ (pay3_at m c t hR (y 1) (y 2))
  by_cases h : t.val % 12 = 0
  · rw [outsAt0_A m c t h]
    frame_out
    exact congrArg _ (block_idx y)
  · rw [outsAt0_B m c t h]
    frame_out
    exact congrArg _ (block_idx y)

theorem carried15 (k : Fin 512) : ∀ n (h : n < cfg0.N), (outsAt0 m c n h).2.2.2.1 (ix2 0 k) = ∑ s ∈ Finset.range (n + 1), if hs : s < cfg0.N then wc m c ⟨s, hs⟩ k else 0 := by
  refine running (o := fun n h => (outsAt0 m c n h).2.2.2.1 (ix2 0 k)) (tile := fun t => wc m c t k) (fun h => ?_) fun n h => ?_
  · rw [outsAt0_A m c ⟨0, h⟩ rfl]
    frame_out
    refine (pay28_at m c ⟨0, h⟩ hR _ k).trans ?_
    pointwise [k0_pay4]
  · rw [outsAt0_B m c ⟨n + 1, h⟩ (by have := tlt ⟨n + 1, h⟩; dsimp only at this ⊢; omega)]
    frame_out
    exact pay28_at m c ⟨n + 1, h⟩ hR _ k

theorem final15 : (dats m 0 c).arrAt 15 cfg0.N = fun i => dgc (aX m c) (aW m c) (aV m c) (aY m c) (i 1) := by
  refine (dats m 0 c).arrAt_eq_of_covers 15 _ (by decide +kernel) fun t hf y => ?_
  have ht : t.val = 11 := by have := (flush0_15 t).mp hf; have := tlt t; omega
  blk_simp [idx]
  rw [after0_15]
  have e : ((View.whole main_v16_3).slice (win0_15.rect t)).emb y 1 = y 1 := Fin.ext (by blk_simp [idx]; try omega)
  refine Eq.trans (congrArg _ (row_idx y)) ((carried15 m c hR (y 1) _ _).trans ?_)
  rw [e, ht]
  exact all_tiles fun b l => Grp.nrm (yc (aX m c) (aW m c) b l) (y 1) * cot (aV m c) (aY m c) b l ⟨(y 1).val, by have : (y 1).val < 512 := (y 1).isLt; omega⟩

theorem carried16 (k : Fin 512) : ∀ n (h : n < cfg0.N), (outsAt0 m c n h).2.2.2.2.1 (ix2 0 k) = ∑ s ∈ Finset.range (n + 1), if hs : s < cfg0.N then wa m c ⟨s, hs⟩ k else 0 := by
  refine running (o := fun n h => (outsAt0 m c n h).2.2.2.2.1 (ix2 0 k)) (tile := fun t => wa m c t k) (fun h => ?_) fun n h => ?_
  · rw [outsAt0_A m c ⟨0, h⟩ rfl]
    frame_out
    refine (pay2_at m c ⟨0, h⟩ hR _ k).trans ?_
    pointwise [k0_pay5]
  · rw [outsAt0_B m c ⟨n + 1, h⟩ (by have := tlt ⟨n + 1, h⟩; dsimp only at this ⊢; omega)]
    frame_out
    exact pay2_at m c ⟨n + 1, h⟩ hR _ k

theorem final16 : (dats m 0 c).arrAt 16 cfg0.N = fun i => dga (aO m c) (aV m c) (aY m c) (i 1) := by
  refine (dats m 0 c).arrAt_eq_of_covers 16 _ (by decide +kernel) fun t hf y => ?_
  have ht : t.val = 11 := by have := (flush0_16 t).mp hf; have := tlt t; omega
  blk_simp [idx]
  rw [after0_16]
  have e : ((View.whole main_v16_4).slice (win0_16.rect t)).emb y 1 = y 1 := Fin.ext (by blk_simp [idx]; try omega)
  refine Eq.trans (congrArg _ (row_idx y)) ((carried16 m c hR (y 1) _ _).trans ?_)
  rw [e, ht]
  exact all_tiles fun b l => Grp.nrm (fun k => aO m c (ix3 b l k)) (y 1) * cot (aV m c) (aY m c) b l ⟨512 + (y 1).val, by have : (y 1).val < 512 := (y 1).isLt; omega⟩

theorem carried17 (r : Fin 8) (k : Fin 512) : ∀ n (h : n < cfg0.N), (outsAt0 m c n h).2.2.2.2.2 (ix2 r k)
    = ∑ s ∈ Finset.range (n + 1), if hs : s < cfg0.N then (if r.val < 3 then tap m c ⟨s, hs⟩ k r.val else 0) else 0 := by
  refine running (o := fun n h => (outsAt0 m c n h).2.2.2.2.2 (ix2 r k)) (tile := fun t => if r.val < 3 then tap m c t k r.val else 0) (fun h => ?_) fun n h => ?_
  · rw [outsAt0_A m c ⟨0, h⟩ rfl]
    frame_out
    simp only [View.readCov_eq_canon']
    exact strips_first (g := fun s k => tap m c ⟨0, h⟩ k s) (fun z k => pay33_at m c ⟨0, h⟩ hR z k) (fun z k => pay34_at m c ⟨0, h⟩ hR z k) (fun z k => pay1_at m c ⟨0, h⟩ hR z k) r k
  · rw [outsAt0_B m c ⟨n + 1, h⟩ (by have := tlt ⟨n + 1, h⟩; dsimp only at this ⊢; omega)]
    frame_out
    exact strips_later (g := fun s k => tap m c ⟨n + 1, h⟩ k s) (fun z k => pay33_at m c ⟨n + 1, h⟩ hR z k) (fun z k => pay34_at m c ⟨n + 1, h⟩ hR z k) (fun z k => pay1_at m c ⟨n + 1, h⟩ hR z k) r k
      _ _ _ (Memref.IsWhole.read_unread (Val := Elt Ideal) _ _)

theorem final17 : (dats m 0 c).arrAt 17 cfg0.N = fun i => dw (aX m c) (aW m c) (aC m c) (aV m c) (aY m c) (i 0).val (i 1) := by
  refine (dats m 0 c).arrAt_eq_of_covers 17 _ (by decide +kernel) fun t hf y => ?_
  have ht : t.val = 11 := by have := (flush0_17 t).mp hf; have := tlt t; omega
  blk_simp [idx]
  rw [after0_17]
  have e0 : ((View.whole main_v16_5).slice (win0_17.rect t)).emb y 0 = y 0 := Fin.ext (by blk_simp [idx]; try omega)
  have e1 : ((View.whole main_v16_5).slice (win0_17.rect t)).emb y 1 = y 1 := Fin.ext (by blk_simp [idx]; try omega)
  rw [e1]
  have ey : y = ix2 (y 0) (y 1) := funext fun a => by
    match a with
    | 0 => rfl
    | 1 => rfl
  refine Eq.trans (congrArg _ ey) ((carried17 m c hR (y 0) (y 1) _ _).trans ?_)
  rw [ht]
  unfold dw
  by_cases h3 : (y 0).val < 3
  · simp only [if_pos h3]
    exact all_tiles fun b l => dcv (aX m c) (aW m c) (aC m c) (aV m c) (aY m c) b l (y 1) * up (aX m c) b (y 1) (l.val + (y 0).val)
  · simp only [if_neg h3, dite_eq_ite, ite_self, Finset.sum_const_zero]

end Cert.MixOutIdeal.Hand
-- ==== Proof.MixOutClaims.lean ====
module

public import proofs.«01_k».proof.Defs
public import proofs.«01_k».proof.Proof.Gen.MixOut
public import proofs.«01_k».proof.Proof.Gen.MixOut.Frame
public import proofs.«01_k».proof.Proof.Gen.MixOutIdeal
public import proofs.«01_k».proof.Proof.Gen.MixOutRefIdeal
public import proofs.«01_k».proof.Proof.MixOutValue
public import Idealize.ShloMosaic.Lib.Claim

@[expose] public section

set_option maxRecDepth 16384

noncomputable section

namespace Cert.MixOutIdeal.Hand

open Idealize.ShloMosaic Pointwise Idealize.SL.Sem
open Cert.MixOutIdeal

/-! ## Finite arguments give rows of reals -/

/-- A value that is a real. -/
def Real' (x : EReal) : Prop := ∃ y : ℝ, x = (y : EReal)

theorem real_of {x : EReal} (h : x ≠ ⊤ ∧ x ≠ ⊥) : Real' x := ⟨x.toReal, (EReal.coe_toReal h.1 h.2).symm⟩

theorem real_mul {x y : EReal} : Real' x → Real' y → Real' (x * y)
  | ⟨a, ha⟩, ⟨b, hb⟩ => ⟨a * b, by rw [ha, hb, EReal.coe_mul]⟩

theorem real_add {x y : EReal} : Real' x → Real' y → Real' (x + y)
  | ⟨a, ha⟩, ⟨b, hb⟩ => ⟨a + b, by rw [ha, hb, EReal.coe_add]⟩

theorem real_sum {n : ℕ} {f : Fin n → EReal} (h : ∀ k, Real' (f k)) : Real' (∑ k, f k) := by
  choose y hy using h
  exact ⟨∑ k, y k, by rw [← Rms.coe_sum']; exact Finset.sum_congr rfl fun k _ => hy k⟩

theorem real_row {f : Fin 512 → EReal} (h : ∀ k, Real' (f k)) : ∃ y : Fin 512 → ℝ, f = fun k => (y k : EReal) := by
  choose y hy using h
  exact ⟨y, funext hy⟩

theorem reals (X : S4x2064x3080.Idx → EReal) (W : S1x3x512.Idx → EReal) (O : S4x2064x512.Idx → EReal) (C A : S1x512.Idx → EReal) (V : S1x1024x1024.Idx → EReal) (Y : S4x2064x1024.Idx → EReal)
    (hX : ∀ b l (k : Fin 1536), Real' (X (ix3 b l ⟨k.val, by omega⟩))) (hW : ∀ i, Real' (W i)) (hO : ∀ i, Real' (O i)) (hC : ∀ i, Real' (C i)) (hA : ∀ i, Real' (A i))
    (hV : ∀ i, Real' (V i)) (hY : ∀ i, Real' (Y i)) (b : Fin 4) (l : Fin 2064) :
    (∃ y : Fin 512 → ℝ, yc X W b l = fun k => (y k : EReal)) ∧ (∃ y : Fin 512 → ℝ, dc C V Y b l = fun k => (y k : EReal))
      ∧ (∃ y : Fin 512 → ℝ, (fun k => O (ix3 b l k)) = fun k => (y k : EReal)) ∧ ∃ y : Fin 512 → ℝ, da A V Y b l = fun k => (y k : EReal) := by
  have hu : ∀ k n, Real' (up X b k n) := fun k n => by
    unfold up
    split
    · exact real_mul (hX b _ ⟨512 + k.val, by omega⟩) (hX b _ ⟨1024 + k.val, by omega⟩)
    · exact ⟨0, rfl⟩
  have hc : ∀ k, Real' (cot V Y b l k) := fun k => real_sum fun d => real_mul (hY _) (hV _)
  exact ⟨real_row fun k => real_mul (hX b l ⟨k.val, by omega⟩) (real_add (real_add (real_mul (hW _) (hu _ _)) (real_mul (hW _) (hu _ _))) (real_mul (hW _) (hu _ _))),
    real_row fun k => real_mul (hc _) (hC _), real_row fun k => hO _, real_row fun k => real_mul (hc _) (hA _)⟩

end Cert.MixOutIdeal.Hand

namespace Cert.Proof

open Idealize.ShloMosaic Pointwise Idealize.SL.Sem

instance mixout_pre_facts : Cert.Pre_mix_out_finite.Facts := ⟨by decide, by decide, by decide, by decide, by decide, by decide, by decide, by decide⟩

theorem mixout_frame : Cert.quiescent_MixOut := fun m ρ _ => Cert.MixOut.Gen.frame m ρ
theorem mixout_frame_ideal : Cert.quiescent_MixOutIdeal := fun m ρ _ => Cert.MixOutIdeal.Gen.frame m ρ
theorem mixout_frame_ideal_pre : Cert.quiescent_MixOutIdeal_pre_mix_out_finite := fun m ρ _ => Cert.MixOutIdeal.Gen.frame m ρ
theorem mixout_frame_ref : Cert.quiescent_MixOutRefIdeal := by
  intro m ρ _
  hlo_run
  · exact fun _ => ⟨trivial, trivial, trivial, trivial, trivial, trivial, trivial⟩
  · exact sem_eq_zero_of_no_sems (sig := Cert.MixOutRefIdeal.sig) (by decide) _
theorem mixout_frame_ref_pre : Cert.quiescent_MixOutRefIdeal_pre_mix_out_finite := fun m ρ _ => mixout_frame_ref m ρ trivial
theorem mixout_preserves : Cert.preserves_MixOut_MixOutIdeal := trivial

open Cert.MixOutIdeal.Hand in
theorem mixout_reals (m : (ℓ : Loc Cert.MixOutIdeal.nD Cert.MixOutIdeal.τ Cert.MixOutIdeal.sig) → Buf (Elt Ideal) ℓ) (hpre : Cert.Pre_MixOutIdeal_mix_out_finite m) (c : Dev Cert.MixOutIdeal.nD) : Reals m c :=
  reals _ _ _ _ _ _ _
    (fun b l k => real_of (by
      have h := congrFun (hpre c).1 (ix3 b l k)
      have e := Cert.Common.finite_of_test h
      pointwise at e
      exact e))
    (fun i => real_of (Cert.Common.finite_of_test (congrFun (hpre c).2.2.1 i))) (fun i => real_of (Cert.Common.finite_of_test (congrFun (hpre c).2.1 i)))
    (fun i => real_of (Cert.Common.finite_of_test (congrFun (hpre c).2.2.2.1 i))) (fun i => real_of (Cert.Common.finite_of_test (congrFun (hpre c).2.2.2.2.1 i)))
    (fun i => real_of (Cert.Common.finite_of_test (congrFun (hpre c).2.2.2.2.2.1 i))) (fun i => real_of (Cert.Common.finite_of_test (congrFun (hpre c).2.2.2.2.2.2 i)))

set_option maxHeartbeats 1000000 in
open Cert.MixOutIdeal.Hand Cert.MixOutRefIdeal.Read in
theorem mixout_value : Cert.algebraic_MixOutIdeal_MixOutRefIdeal_pre_mix_out_finite := by
  pair_intro
  · run_from Cert.MixOutIdeal.Value.run_blocks m g
  · have hR := mixout_reals m hpre
    run_from Cert.MixOutRefIdeal.Value.run m' g'
    all_goals
      have e0 : StableHlo.launchContents m' c (Proc.tc.devRef Cert.MixOutRefIdeal.main_arg0) = aX m c := (hagree c).1
      have e1 : StableHlo.launchContents m' c (Proc.tc.devRef Cert.MixOutRefIdeal.main_arg1) = aO m c := (hagree c).2.1
      have e2 : StableHlo.launchContents m' c (Proc.tc.devRef Cert.MixOutRefIdeal.main_arg2) = aW m c := (hagree c).2.2.1
      have e3 : StableHlo.launchContents m' c (Proc.tc.devRef Cert.MixOutRefIdeal.main_arg3) = aC m c := (hagree c).2.2.2.1
      have e4 : StableHlo.launchContents m' c (Proc.tc.devRef Cert.MixOutRefIdeal.main_arg4) = aA m c := (hagree c).2.2.2.2.1
      have e5 : StableHlo.launchContents m' c (Proc.tc.devRef Cert.MixOutRefIdeal.main_arg5) = aV m c := (hagree c).2.2.2.2.2.1
      have e6 : StableHlo.launchContents m' c (Proc.tc.devRef Cert.MixOutRefIdeal.main_arg6) = aY m c := (hagree c).2.2.2.2.2.2
    · rw [val_main_v140_eq, final12 m c (hR c), e0, e2, e3, e5, e6]
      refine funext fun i => ?_
      idx_vars i
      exact (congrArg₂ (fun a b : EReal => a * b) (r115 _ _ _ _ _ i0 i1 i2 (hR c i0 i1).1 (hR c i0 i1).2.1) (r26 _ _ i0 i1 i2)).trans (mul_comm _ _)
    · rw [val_main_v141_eq, final13 m c (hR c), e0, e2, e3, e5, e6]
      refine funext fun i => ?_
      idx_vars i
      exact r116 _ _ _ _ _ i0 i1 i2 fun b l => ⟨(hR c b l).1, (hR c b l).2.1⟩
    · rw [val_main_v142_eq, final14 m c (hR c), e1, e4, e5, e6]
      refine funext fun i => ?_
      idx_vars i
      exact r93 _ _ _ _ i0 i1 i2 (hR c i0 i1).2.2.1 (hR c i0 i1).2.2.2
    · rw [val_main_v119_eq, final15 m c (hR c), e0, e2, e5, e6]
      refine funext fun i => ?_
      idx_vars i
      obtain rfl : i0 = 0 := Subsingleton.elim _ _
      exact r119 _ _ _ _ i1
    · rw [val_main_v118_eq, final16 m c (hR c), e1, e5, e6]
      refine funext fun i => ?_
      idx_vars i
      obtain rfl : i0 = 0 := Subsingleton.elim _ _
      exact r118 _ _ _ i1
    · rw [val_main_v143_eq, final17 m c (hR c), e0, e2, e3, e5, e6]
      refine funext fun i => ?_
      idx_vars i
      exact r143 _ _ _ _ _ i1 (fun b l => ⟨(hR c b l).1, (hR c b l).2.1⟩) i0

end Cert.Proof

end
-- ==== Proof.MixInValue.lean ====
module

public import proofs.«01_k».proof.Proof.Gen.MixInIdeal.Value
public import proofs.«01_k».proof.Proof.Gen.MixInRefIdeal.Run
public import proofs.«01_k».proof.Proof.Gen.MixInRefIdeal.Read
public import proofs.«01_k».proof.Proof.RmsMath
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixInIdeal.Hand

open Cert.MixInIdeal Cert.MixInIdeal.Gen

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0]
   ∧ win0_4.index t = ![t.val, 0] ∧ win0_5.index t = ![t.val, 0] ∧ win0_6.index t = ![0, 0] ∧ win0_7.index t = ![0, 0] ∧ win0_8.index t = ![t.val, 0]
   ∧ win0_9.index t = ![0, 0] ∧ win0_10.index t = ![t.val, 0] ∧ win0_11.index t = ![t.val, 0] ∧ win0_12.index t = ![t.val, 0] ∧ win0_13.index t = ![0, 0] ∧ win0_14.index t = ![t.val, 0] :=
  (by decide +kernel)

theorem tlt (t : Fin cfg0.N) : t.val < 12 := by have := t.isLt; have h : cfg0.N = 12 := N_0; omega

/-- The row of the whole array that row `r` of a grid point's block is. -/
def row (t : Fin cfg0.N) (r : Fin 688) : Fin 8256 := ⟨t.val * 688 + r.val, by have := tlt t; omega⟩

/-- A row of the cotangent or of the weights, continued by zeros. -/
def wide (x : Fin 3080 → EReal) (f : ℕ) : EReal := if h : f < 3080 then x ⟨f, h⟩ else 0

theorem blk0 (c : Dev nD) (t : Fin cfg0.N) (r : Fin 688) (f : Fin 512) :
    iblk m c 0 t (ix2 r f) = wide (fun q => m (c.tc.loc main_arg4) (ix2 (row t r) q)) (0 + f.val) := by
  have := tlt t
  refine Eq.trans ?_ (dif_pos (by omega)).symm
  blk_simp [iblk, idx t]
  simp only [V, hostOps0, flatten_cons, flatten_nil, append_nil, cons_append, nil_append]
  entry_read; pointwise; blk_ext [idx t, row]

theorem blk1 (c : Dev nD) (t : Fin cfg0.N) (r : Fin 688) (f : Fin 1024) :
    iblk m c 1 t (ix2 r f) = wide (fun q => m (c.tc.loc main_arg4) (ix2 (row t r) q)) (512 + f.val) := by
  have := tlt t
  refine Eq.trans ?_ (dif_pos (by omega)).symm
  blk_simp [iblk, idx t]
  simp only [V, hostOps0, flatten_cons, flatten_nil, append_nil, cons_append, nil_append]
  entry_read; pointwise; blk_ext [idx t, row]

theorem blk2 (c : Dev nD) (t : Fin cfg0.N) (r : Fin 688) (f : Fin 512) :
    iblk m c 2 t (ix2 r f) = wide (fun q => m (c.tc.loc main_arg4) (ix2 (row t r) q)) (1536 + f.val) := by
  have := tlt t
  refine Eq.trans ?_ (dif_pos (by omega)).symm
  blk_simp [iblk, idx t]
  simp only [V, hostOps0, flatten_cons, flatten_nil, append_nil, cons_append, nil_append]
  entry_read; pointwise; blk_ext [idx t, row]

theorem blk3 (c : Dev nD) (t : Fin cfg0.N) (r : Fin 688) (f : Fin 512) :
    iblk m c 3 t (ix2 r f) = wide (fun q => m (c.tc.loc main_arg4) (ix2 (row t r) q)) (2048 + f.val) := by
  have := tlt t
  refine Eq.trans ?_ (dif_pos (by omega)).symm
  blk_simp [iblk, idx t]
  simp only [V, hostOps0, flatten_cons, flatten_nil, append_nil, cons_append, nil_append]
  entry_read; pointwise; blk_ext [idx t, row]

theorem blk4 (c : Dev nD) (t : Fin cfg0.N) (r : Fin 688) (f : Fin 512) :
    iblk m c 4 t (ix2 r f) = wide (fun q => m (c.tc.loc main_arg4) (ix2 (row t r) q)) (2560 + f.val) := by
  have := tlt t
  refine Eq.trans ?_ (dif_pos (by omega)).symm
  blk_simp [iblk, idx t]
  simp only [V, hostOps0, flatten_cons, flatten_nil, append_nil, cons_append, nil_append]
  entry_read; pointwise; blk_ext [idx t, row]

theorem cot_tail (c : Dev nD) (i : S8256x128.Idx) : V m c main_v18 i = pad S8256x128 ![0, 0] ![0, 120] ![0, 0]
    (extractStridedSlice S8256x8 ![0, 3072] (m (c.tc.loc main_arg4)) slices_S8256x3080_S8256x8_0_3072)
    (sitofp (F := Ideal) .f32 (constantI S_ 32 0#32)) pads_S8256x8_S8256x128_000_01200 h_S_ i := by
  simp only [V, hostOps0, flatten_cons, flatten_nil, append_nil, cons_append, nil_append]
  entry_read; rfl

theorem weight_tail (c : Dev nD) (i : S1024x128.Idx) : V m c main_v6 i = pad S1024x128 ![0, 0] ![0, 120] ![0, 0]
    (fun i : S1024x8.Idx => m (c.tc.loc main_arg2) (ix3 0 (i 0) ⟨3072 + (i 1).val, by have := (i 1).isLt; dsimp only [S1024x8, Matrix.cons_val_one, Matrix.cons_val_zero] at this; omega⟩))
    (sitofp (F := Ideal) .bf16 (constantI S_ 32 0#32)) pads_S1024x8_S1024x128_000_01200 h_S_ i := by
  simp only [V, hostOps0, flatten_cons, flatten_nil, append_nil, cons_append, nil_append]
  entry_read
  show pad S1024x128 ![0, 0] ![0, 120] ![0, 0] (_ : S1024x8.Idx → EReal) (_ : S_.Idx → EReal) pads_S1024x8_S1024x128_000_01200 h_S_ i = _
  pointwise
  rfl

theorem int_zero (w : FTy) : FloatOps.sitofp (F := Ideal) w (0#32) = (0 : EReal) := by
  show (((0#32 : BitVec 32).toInt : ℝ) : EReal) = 0
  simp

theorem blk5 (c : Dev nD) (t : Fin cfg0.N) (r : Fin 688) (f : Fin 128) :
    iblk m c 5 t (ix2 r f) = wide (fun q => m (c.tc.loc main_arg4) (ix2 (row t r) q)) (3072 + f.val) := by
  have := tlt t
  unfold wide
  have e : ((View.whole main_v18).slice (win0_5.rect t)).emb (ix2 r f) = ix2 (row t r) f := by blk_ext [idx t, row]
  blk_simp [iblk, idx t]
  refine (cot_tail m c _).trans ?_
  rw [e]
  pointwise
  exact dite_congr (propext ⟨fun h => by omega, fun h => by omega⟩) (fun _ => rfl) fun _ => int_zero _

theorem blk6 (c : Dev nD) (t : Fin cfg0.N) (d : Fin 1024) (f : Fin 3072) :
    iblk m c 6 t (ix2 d f) = wide (fun q => m (c.tc.loc main_arg2) (ix3 0 d q)) f.val := by
  have := tlt t
  refine Eq.trans ?_ (dif_pos (by omega)).symm
  blk_simp [iblk, idx t]
  simp only [V, hostOps0, flatten_cons, flatten_nil, append_nil, cons_append, nil_append]
  entry_read; pointwise; blk_ext [idx t]

theorem blk7 (c : Dev nD) (t : Fin cfg0.N) (d : Fin 1024) (f : Fin 128) :
    iblk m c 7 t (ix2 d f) = wide (fun q => m (c.tc.loc main_arg2) (ix3 0 d q)) (3072 + f.val) := by
  have := tlt t
  unfold wide
  have e : ((View.whole main_v6).slice (win0_7.rect t)).emb (ix2 d f) = ix2 d f := by blk_ext [idx t]
  blk_simp [iblk, idx t]
  refine (weight_tail m c _).trans ?_
  rw [e]
  pointwise
  exact dite_congr (propext ⟨fun h => by omega, fun h => by omega⟩) (fun _ => rfl) fun _ => int_zero _

theorem blk8 (c : Dev nD) (t : Fin cfg0.N) (r : Fin 688) (d : Fin 1024) :
    iblk m c 8 t (ix2 r d) = m (c.tc.loc main_arg0) (ix2 (row t r) d) := by
  have := tlt t
  blk_ext [iblk, V, idx t, row]

theorem blk9 (c : Dev nD) (t : Fin cfg0.N) (d : Fin 1024) :
    iblk m c 9 t (ix2 0 d) = m (c.tc.loc main_arg1) (ix2 0 d) := by
  have := tlt t
  blk_ext [iblk, V, idx t]

theorem blk10 (c : Dev nD) (t : Fin cfg0.N) (r : Fin 688) (d : Fin 1024) :
    iblk m c 10 t (ix2 r d) = m (c.tc.loc main_arg3) (ix2 (row t r) d) := by
  have := tlt t
  blk_ext [iblk, V, idx t, row]

/-! ## What the programs compute -/

/-- The cotangent of the normed row: the product with the transposed weights. -/
def dn (X : S8256x3080.Idx → EReal) (W : S1x1024x3080.Idx → EReal) (r : Fin 8256) (d : Fin 1024) : EReal := ∑ f : Fin 3080, X (ix2 r f) * W (ix3 0 d f)

/-- The gradient with respect to the rows. -/
def dh (H : S8256x1024.Idx → EReal) (G : S1x1024.Idx → EReal) (W : S1x1024x3080.Idx → EReal) (D : S8256x1024.Idx → EReal) (X : S8256x3080.Idx → EReal) : S8256x1024.Idx → EReal := fun i =>
  Rms.grad (dn X W (i 0)) (fun j => H (ix2 (i 0) j)) (fun j => G (ix2 0 j)) (D (ix2 (i 0) (i 1))) (i 1)

/-- The gradient with respect to the norm's weights. -/
def dg (H : S8256x1024.Idx → EReal) (W : S1x1024x3080.Idx → EReal) (X : S8256x3080.Idx → EReal) : S1x1024.Idx → EReal := fun i =>
  ∑ r : Fin 8256, dn X W r (i 1) * (H (ix2 r (i 1)) * Ideal.rsqrt (Rms.var fun j => H (ix2 r j)))

/-- The word of one half. -/
def half : EReal := FloatOps.ofBits (F := Ideal) .f32 0x3F000000#32

/-- The product over the continued row is the product over the row. -/
theorem wide_sum (x w : Fin 3080 → EReal) :
    ∑ f : Fin 3072, wide x f.val * wide w f.val + ∑ f : Fin 128, wide x (3072 + f.val) * wide w (3072 + f.val) = ∑ f : Fin 3080, x f * w f := by
  have e : ∑ f : Fin 128, wide x (3072 + f.val) * wide w (3072 + f.val) = ∑ f : Fin 8, wide x (3072 + f.val) * wide w (3072 + f.val) := by
    refine (Fin.sum_univ_add (M := EReal) (a := 8) (b := 120) fun f : Fin 128 => wide x (3072 + f.val) * wide w (3072 + f.val)).trans ?_
    refine (congrArg₂ (fun a b : EReal => a + b) rfl (Finset.sum_eq_zero fun f _ => ?_)).trans (add_zero (M := EReal) _)
    unfold wide
    rw [dif_neg (by simp; omega), zero_mul]
  rw [e]
  refine ((Fin.sum_univ_add (M := EReal) (a := 3072) (b := 8) fun f : Fin 3080 => wide x f.val * wide w f.val).symm).trans ?_
  refine Finset.sum_congr rfl fun f _ => ?_
  unfold wide
  rw [dif_pos f.isLt, dif_pos f.isLt]

open Cert.MixInRefIdeal.Read in
theorem ref40 (h : S8256x1024.Idx → ℝ) (g : S1x1024.Idx → ℝ) (w : S1x1024x3080.Idx → ℝ) (D : S8256x1024.Idx → EReal) (x : S8256x3080.Idx → ℝ) (i : S8256x1024.Idx) :
    val_main_v40 (F := Ideal) (fun i => (h i : EReal)) (fun i => (g i : EReal)) (fun i => (w i : EReal)) D (fun i => (x i : EReal)) i
      = dh (fun i => (h i : EReal)) (fun i => (g i : EReal)) (fun i => (w i : EReal)) D (fun i => (x i : EReal)) i := by
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_cst, val_main_cst_0, val_main_cst_1, val_main_cst_2, val_main_cst_3, val_main_cst_4, val_main_cst_5, val_main_cst_6, val_main_cst_7]
  have hd : ∀ j : Fin 1024, ∑ f : Fin 3080, (x (ix2 i0 f) : EReal) * w (ix3 0 j f) = ((∑ f : Fin 3080, x (ix2 i0 f) * w (ix3 0 j f) : ℝ) : EReal) := fun j => by
    simp only [← EReal.coe_mul]
    exact Rms.coe_sum' _ _
  simp only [hd]
  refine (Rms.grad_real (fun j => ∑ f : Fin 3080, x (ix2 i0 f) * w (ix3 0 j f)) (fun j => h (ix2 i0 j)) (fun j => g (ix2 0 j)) _ i1 _ _ rfl (Fin.sum_univ_one _)).trans ?_
  exact congrArg (fun u => Rms.grad u (fun j => (h (ix2 i0 j) : EReal)) (fun j => (g (ix2 0 j) : EReal)) (D (ix2 i0 i1)) i1) (funext fun j => (hd j).symm)

open Cert.MixInRefIdeal.Read in
theorem ref41 (H : S8256x1024.Idx → EReal) (W : S1x1024x3080.Idx → EReal) (X : S8256x3080.Idx → EReal) (i : S1x1024.Idx) :
    val_main_v41 (F := Ideal) H W X i = dg H W X i := by
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_cst, val_main_cst_0, val_main_cst_1, val_main_cst_2, val_main_cst_3, val_main_cst_4, val_main_cst_5, val_main_cst_6, val_main_cst_7]
  refine (Fin.sum_univ_one _).trans ?_
  exact Finset.sum_congr rfl fun r _ => mul_comm _ _

open Cert.MixInRefIdeal.Read in
theorem ref44 (H : S8256x1024.Idx → EReal) (G : S1x1024.Idx → EReal) (W : S1x1024x3080.Idx → EReal) (D : S8256x1024.Idx → EReal) (X : S8256x3080.Idx → EReal) (i : S8256x1024.Idx) :
    val_main_v44 (F := Ideal) H G W D X i = half * val_main_v40 (F := Ideal) H G W D X i := by
  pointwise [val_main_v42, val_main_v43, val_main_v44, val_main_cst_8]
  rfl

open Cert.MixInRefIdeal.Read in
theorem ref46 (X : S8256x3080.Idx → EReal) (r : Fin 8256) (f : Fin 3200) :
    val_main_v46 (F := Ideal) X (ix2 r f) = wide (fun q => X (ix2 r q)) f.val := by
  pointwise [val_main_v45, val_main_v46, val_main_call0_v0, val_main_c]
  exact dite_congr (propext ⟨fun h => by omega, fun h => by omega⟩) (fun _ => rfl) fun _ => int_zero _

/-! ## The tiles a point writes -/

theorem cover2 {e : EltTy} {p1 : S336x1024.Idx → Elt Ideal e} {p2 : S352x1024.Idx → Elt Ideal e} (y : S688x1024.Idx) :
    ∃ p ∈ ([⟨Rect.unit ![352, 0] ![336, 1024] inb_S688x1024_S336x1024_352_0, p1⟩, ⟨Rect.unit ![0, 0] ![352, 1024] inb_S688x1024_S352x1024_0_0, p2⟩] : List (View.Piece (Elt Ideal) S688x1024 e)), y ∈ p.1.set :=
  View.cover_of_tiledBy _ ![16, 1024] (by sl_kernel_rfl) y

theorem at_row {α : Type} (F : S8256x1024.Idx → α) (i : S8256x1024.Idx) (r : Fin 8256) (d : Fin 1024) (h0 : (i 0).val = r.val) (h1 : (i 1).val = d.val) : F i = F (ix2 r d) :=
  congrArg F (funext fun k => match k with
    | 0 => Fin.ext h0
    | 1 => Fin.ext h1)

/-- Two row bands that each agree with a function make up its tile. -/
theorem two_tiles {e : EltTy} (p1 : S336x1024.Idx → Elt Ideal e) (p2 : S352x1024.Idx → Elt Ideal e) (F : S8256x1024.Idx → Elt Ideal e) (t : Fin cfg0.N)
    (upper : ∀ (r : Fin 336) d, p1 (ix2 r d) = F (ix2 (row t ⟨352 + r.val, by omega⟩) d)) (lower : ∀ (r : Fin 352) d, p2 (ix2 r d) = F (ix2 (row t ⟨r.val, by omega⟩) d))
    (y : S688x1024.Idx) (i : S8256x1024.Idx) (e0 : (i 0).val = t.val * 688 + (y 0).val) (e1 : (i 1).val = (y 1).val) :
    View.canon (Val := Elt Ideal) (s := S688x1024) (e := e) [⟨Rect.unit ![352, 0] ![336, 1024] inb_S688x1024_S336x1024_352_0, p1⟩, ⟨Rect.unit ![0, 0] ![352, 1024] inb_S688x1024_S352x1024_0_0, p2⟩] y = F i := by
  canon_tiles x h using (cover2 y)
  · refine Eq.trans ?_ (at_row F i (row t ⟨352 + (x 0).val, by omega⟩) ⟨(x 1).val, x1_lt⟩ (by dsimp only [row]; omega) (by dsimp only; omega)).symm
    idx_vars x
    exact upper x0 x1
  · refine Eq.trans ?_ (at_row F i (row t ⟨(x 0).val, by omega⟩) ⟨(x 1).val, x1_lt⟩ (by dsimp only [row]; omega) (by dsimp only; omega)).symm
    idx_vars x
    exact lower x0 x1

abbrev lo (s : S688x1024.Idx → EReal) : S352x1024.Idx → EReal := View.ld (Val := Elt Ideal) (S := S688x1024) (e' := .f32) s (Rect.unit ![0, 0] ![352, 1024] inb_S688x1024_S352x1024_0_0)
abbrev hi (s : S688x1024.Idx → EReal) : S336x1024.Idx → EReal := View.ld (Val := Elt Ideal) (S := S688x1024) (e' := .f32) s (Rect.unit ![352, 0] ![336, 1024] inb_S688x1024_S336x1024_352_0)
theorem lo_at (s : S688x1024.Idx → EReal) (r : Fin 352) (d : Fin 1024) : lo s (ix2 r d) = s (ix2 ⟨r.val, by omega⟩ d) := by
  unfold lo
  pointwise []
theorem hi_at (s : S688x1024.Idx → EReal) (r : Fin 336) (d : Fin 1024) : hi s (ix2 r d) = s (ix2 ⟨352 + r.val, by omega⟩ d) := by
  unfold hi
  pointwise []
abbrev dnLo (Q : S688x3200.Idx → EReal) (w6 : S1024x3072.Idx → EReal) (w7 : S1024x128.Idx → EReal) : S352x1024.Idx → EReal :=
  k0_pay14 (F := Ideal) (View.ld (Val := Elt Ideal) (S := S688x3200) (e' := .bf16) Q (Rect.unit ![0, 0] ![352, 3072] inb_S688x3200_S352x3072_0_0)) w6
    (View.ld (Val := Elt Ideal) (S := S688x3200) (e' := .bf16) Q (Rect.unit ![0, 3072] ![352, 128] inb_S688x3200_S352x128_0_3072)) w7
abbrev dnHi (Q : S688x3200.Idx → EReal) (w6 : S1024x3072.Idx → EReal) (w7 : S1024x128.Idx → EReal) : S336x1024.Idx → EReal :=
  k0_pay15 (F := Ideal) (View.ld (Val := Elt Ideal) (S := S688x3200) (e' := .bf16) Q (Rect.unit ![352, 0] ![336, 3072] inb_S688x3200_S336x3072_352_0)) w6
    (View.ld (Val := Elt Ideal) (S := S688x3200) (e' := .bf16) Q (Rect.unit ![352, 3072] ![336, 128] inb_S688x3200_S336x128_352_3072)) w7
abbrev width : EReal := FloatOps.ofBits (F := Ideal) FTy.f32 0x44800000#32

/-- What a row tile adds to the gradient of the norm's weights. -/
def band (H : S8256x1024.Idx → EReal) (W : S1x1024x3080.Idx → EReal) (X : S8256x3080.Idx → EReal) (t : Fin cfg0.N) (d : Fin 1024) : EReal :=
  ∑ r : Fin 688, dn X W (row t r) d * (H (ix2 (row t r) d) * Ideal.rsqrt (Rms.var fun j => H (ix2 (row t r) j)))

section Blocks

variable {H : S8256x1024.Idx → EReal} {G : S1x1024.Idx → EReal} {W : S1x1024x3080.Idx → EReal} {D : S8256x1024.Idx → EReal} {X : S8256x3080.Idx → EReal} {t : Fin cfg0.N}
  {Q : S688x3200.Idx → EReal} {w6 : S1024x3072.Idx → EReal} {w7 : S1024x128.Idx → EReal} {s8 s10 : S688x1024.Idx → EReal} {s9 : S1x1024.Idx → EReal}
  (hQ : ∀ r f, Q (ix2 r f) = wide (fun q => X (ix2 (row t r) q)) f.val) (b6 : ∀ d f, w6 (ix2 d f) = wide (fun q => W (ix3 0 d q)) f.val)
  (b7 : ∀ d f, w7 (ix2 d f) = wide (fun q => W (ix3 0 d q)) (3072 + f.val))
  (b8 : ∀ r d, s8 (ix2 r d) = H (ix2 (row t r) d)) (b9 : ∀ d, s9 (ix2 0 d) = G (ix2 0 d)) (b10 : ∀ r d, s10 (ix2 r d) = D (ix2 (row t r) d))

include hQ b6 b7 in
theorem dn_lo (r : Fin 352) (d : Fin 1024) : dnLo Q w6 w7 (ix2 r d) = dn X W (row t ⟨r.val, by omega⟩) d := by
  pointwise [k0_pay14]
  simp only [hQ, b6, b7]
  exact wide_sum (fun q => X (ix2 (row t ⟨r.val, by omega⟩) q)) fun q => W (ix3 0 d q)

include hQ b6 b7 in
theorem dn_hi (r : Fin 336) (d : Fin 1024) : dnHi Q w6 w7 (ix2 r d) = dn X W (row t ⟨352 + r.val, by omega⟩) d := by
  pointwise [k0_pay15]
  simp only [hQ, b6, b7]
  exact wide_sum (fun q => X (ix2 (row t ⟨352 + r.val, by omega⟩) q)) fun q => W (ix3 0 d q)

include hQ b6 b7 b8 b9 b10 in
theorem grad_lo (r : Fin 352) (d : Fin 1024) : k0_pay19 (F := Ideal) (dnLo Q w6 w7) (lo s8) s9 (lo s10) (k0_pay16 (F := Ideal) (lo s8)) width (ix2 r d)
    = dh H G W D X (ix2 (row t ⟨r.val, by omega⟩) d) := by
  have hd := dn_lo hQ b6 b7
  generalize dnLo Q w6 w7 = Y at hd ⊢
  have h8 := lo_at s8
  have h10 := lo_at s10
  generalize lo s8 = A at h8 ⊢
  generalize lo s10 = B at h10 ⊢
  pointwise [k0_pay16, k0_pay17, k0_pay18, k0_pay19]
  simp only [h8, h10, hd, b8, b9, b10]
  rfl

include hQ b6 b7 b8 b9 b10 in
theorem grad_hi (r : Fin 336) (d : Fin 1024) : k0_pay3 (F := Ideal) (dnHi Q w6 w7) (hi s8) s9 (hi s10) (k0_pay22 (F := Ideal) (hi s8)) (ix2 r d)
    = dh H G W D X (ix2 (row t ⟨352 + r.val, by omega⟩) d) := by
  have hd := dn_hi hQ b6 b7
  generalize dnHi Q w6 w7 = Y at hd ⊢
  have h8 := hi_at s8
  have h10 := hi_at s10
  generalize hi s8 = A at h8 ⊢
  generalize hi s10 = B at h10 ⊢
  pointwise [k0_pay1, k0_pay2, k0_pay3, k0_pay22]
  simp only [h8, h10, hd, b8, b9, b10]
  rfl

include hQ b6 b7 b8 b9 b10 in
theorem half_lo (r : Fin 352) (d : Fin 1024) : k0_pay20 (F := Ideal) (dnLo Q w6 w7) (lo s8) s9 (lo s10) (k0_pay16 (F := Ideal) (lo s8)) width (ix2 r d)
    = half * dh H G W D X (ix2 (row t ⟨r.val, by omega⟩) d) :=
  congrArg (fun u : EReal => half * u) (grad_lo hQ b6 b7 b8 b9 b10 r d)

include hQ b6 b7 b8 b9 b10 in
theorem half_hi (r : Fin 336) (d : Fin 1024) : k0_pay4 (F := Ideal) (dnHi Q w6 w7) (hi s8) s9 (hi s10) (k0_pay22 (F := Ideal) (hi s8)) (ix2 r d)
    = half * dh H G W D X (ix2 (row t ⟨352 + r.val, by omega⟩) d) :=
  congrArg (fun u : EReal => half * u) (grad_hi hQ b6 b7 b8 b9 b10 r d)

include hQ b6 b7 b8 in
theorem add_band (z : S1x1024.Idx → EReal) (d : Fin 1024) : k0_pay5 (F := Ideal) (dnHi Q w6 w7) (hi s8) (k0_pay22 (F := Ideal) (hi s8))
      (k0_pay21 (F := Ideal) (dnLo Q w6 w7) (lo s8) (k0_pay16 (F := Ideal) (lo s8)) width z) (ix2 0 d) = z (ix2 0 d) + band H W X t d := by
  have h1 := dn_lo hQ b6 b7
  have h2 := dn_hi hQ b6 b7
  generalize dnLo Q w6 w7 = Y at h1 ⊢
  generalize dnHi Q w6 w7 = Z at h2 ⊢
  have h3 := lo_at s8
  have h4 := hi_at s8
  generalize lo s8 = A at h3 ⊢
  generalize hi s8 = B at h4 ⊢
  pointwise [k0_pay1, k0_pay2, k0_pay5, k0_pay16, k0_pay17, k0_pay18, k0_pay21, k0_pay22]
  simp only [h1, h2, h3, h4, b8]
  refine (add_assoc (G := EReal) _ _ _).trans (congrArg (fun u : EReal => z (ix2 0 d) + u) ?_)
  exact (Fin.sum_univ_add (M := EReal) (a := 352) (b := 336) fun r : Fin 688 => dn X W (row t r) d * (H (ix2 (row t r) d) * Ideal.rsqrt (Rms.var fun j => H (ix2 (row t r) j)))).symm

end Blocks

/-- The seven column chunks a point gathers. -/
abbrev gather (s0 s2 s3 s4 : S688x512.Idx → EReal) (s1 : S688x1024.Idx → EReal) (s5 : S688x128.Idx → EReal) : S688x3200.Idx → EReal :=
  View.canon (Val := Elt Ideal) (s := S688x3200) (e := .bf16) [⟨Rect.unit ![0, 3072] ![688, 128] inb_S688x3200_S688x128_0_3072, k0_pay13 (F := Ideal) s5⟩,
    ⟨Rect.unit ![0, 2560] ![688, 512] inb_S688x3200_S688x512_0_2560, k0_pay12 (F := Ideal) s4⟩, ⟨Rect.unit ![0, 2048] ![688, 512] inb_S688x3200_S688x512_0_2048, k0_pay11 (F := Ideal) s3⟩,
    ⟨Rect.unit ![0, 1536] ![688, 512] inb_S688x3200_S688x512_0_1536, k0_pay10 (F := Ideal) s2⟩,
    ⟨Rect.unit ![0, 1024] ![688, 512] inb_S688x3200_S688x512_0_1024, k0_pay9 (F := Ideal) (View.ld (Val := Elt Ideal) (S := S688x1024) (e' := .bf16) s1 (Rect.unit ![0, 512] ![688, 512] inb_S688x1024_S688x512_0_512))⟩,
    ⟨Rect.unit ![0, 512] ![688, 512] inb_S688x3200_S688x512_0_512, k0_pay8 (F := Ideal) (View.ld (Val := Elt Ideal) (S := S688x1024) (e' := .bf16) s1 (Rect.unit ![0, 0] ![688, 512] inb_S688x1024_S688x512_0_0))⟩,
    ⟨Rect.unit ![0, 0] ![688, 512] inb_S688x3200_S688x512_0_0, k0_pay7 (F := Ideal) s0⟩]

theorem cover7 (s0 s2 s3 s4 : S688x512.Idx → EReal) (a b : S688x512.Idx → EReal) (s5 : S688x128.Idx → EReal) (y : S688x3200.Idx) :
    ∃ p ∈ ([⟨Rect.unit ![0, 3072] ![688, 128] inb_S688x3200_S688x128_0_3072, s5⟩, ⟨Rect.unit ![0, 2560] ![688, 512] inb_S688x3200_S688x512_0_2560, s4⟩,
      ⟨Rect.unit ![0, 2048] ![688, 512] inb_S688x3200_S688x512_0_2048, s3⟩, ⟨Rect.unit ![0, 1536] ![688, 512] inb_S688x3200_S688x512_0_1536, s2⟩,
      ⟨Rect.unit ![0, 1024] ![688, 512] inb_S688x3200_S688x512_0_1024, b⟩, ⟨Rect.unit ![0, 512] ![688, 512] inb_S688x3200_S688x512_0_512, a⟩,
      ⟨Rect.unit ![0, 0] ![688, 512] inb_S688x3200_S688x512_0_0, s0⟩] : List (View.Piece (Elt Ideal) S688x3200 .bf16)), y ∈ p.1.set :=
  View.cover_of_tiledBy _ ![688, 128] (by sl_kernel_rfl) y

theorem gathered (x : Fin 688 → Fin 3080 → EReal) {s0 s2 s3 s4 : S688x512.Idx → EReal} {s1 : S688x1024.Idx → EReal} {s5 : S688x128.Idx → EReal}
    (b0 : ∀ r f, s0 (ix2 r f) = wide (x r) (0 + f.val)) (b1 : ∀ r f, s1 (ix2 r f) = wide (x r) (512 + f.val)) (b2 : ∀ r f, s2 (ix2 r f) = wide (x r) (1536 + f.val))
    (b3 : ∀ r f, s3 (ix2 r f) = wide (x r) (2048 + f.val)) (b4 : ∀ r f, s4 (ix2 r f) = wide (x r) (2560 + f.val)) (b5 : ∀ r f, s5 (ix2 r f) = wide (x r) (3072 + f.val))
    (y : S688x3200.Idx) : gather s0 s2 s3 s4 s1 s5 y = wide (x (y 0)) (y 1).val := by
  have hx : ∀ (r : Fin 688) (f : ℕ), r.val = (y 0).val → f = (y 1).val → wide (x r) f = wide (x (y 0)) (y 1).val := fun r f h0 h1 => by
    rw [show r = y 0 from Fin.ext h0, h1]
  canon_tiles z h using (cover7 _ _ _ _ _ _ _ y)
  all_goals refine Eq.trans ?_ (hx ⟨(z 0).val, z0_lt⟩ _ (by dsimp only; omega) h1.symm)
  all_goals idx_vars z
  all_goals pointwise [k0_pay7, k0_pay8, k0_pay9, k0_pay10, k0_pay11, k0_pay12, k0_pay13]
  all_goals simp only [b0, b1, b2, b3, b4, b5]
  all_goals first | done | exact congrArg (wide _) (by omega) | exact congrArg (wide _) (by dsimp only; omega)

variable (c : Dev nD) (t : Fin cfg0.N)

/-- The columns a point gathers are the continued rows of the cotangent. -/
theorem point_rows (r : Fin 688) (f : Fin 3200) : gather (iblk m c 0 t) (iblk m c 2 t) (iblk m c 3 t) (iblk m c 4 t) (iblk m c 1 t) (iblk m c 5 t) (ix2 r f)
    = wide (fun q => m (c.tc.loc main_arg4) (ix2 (row t r) q)) f.val :=
  gathered (fun r q => m (c.tc.loc main_arg4) (ix2 (row t r) q)) (blk0 m c t) (blk1 m c t) (blk2 m c t) (blk3 m c t) (blk4 m c t) (blk5 m c t) (ix2 r f)

theorem final11 : (dats m 0 c).arrAt 11 cfg0.N = dh (m (c.tc.loc main_arg0)) (m (c.tc.loc main_arg1)) (m (c.tc.loc main_arg2))
    (m (c.tc.loc main_arg3)) (m (c.tc.loc main_arg4)) := by
  refine (dats m 0 c).arrAt_eq_of_covers 11 _ (by decide +kernel) fun t hf y => ?_
  blk_simp [idx]
  rw [after0_11]
  have e0 : (((View.whole main_v19_0).slice (win0_11.rect t)).emb y 0).val = t.val * 688 + (y 0).val := by blk_simp [idx]; try omega
  have e1 : (((View.whole main_v19_0).slice (win0_11.rect t)).emb y 1).val = (y 1).val := by blk_simp [idx]; try omega
  by_cases h0 : t.val % 12 = 0
  · rw [outsAt0_A m c t h0]
    frame_out
    simp only [View.readCov_eq_canon']
    exact two_tiles (e := .f32) _ _ _ t (grad_hi (point_rows m c t) (blk6 m c t) (blk7 m c t) (blk8 m c t) (blk9 m c t) (blk10 m c t))
      (grad_lo (point_rows m c t) (blk6 m c t) (blk7 m c t) (blk8 m c t) (blk9 m c t) (blk10 m c t)) y _ e0 e1
  · rw [outsAt0_B m c t h0]
    frame_out
    simp only [View.readCov_eq_canon']
    exact two_tiles (e := .f32) _ _ _ t (grad_hi (point_rows m c t) (blk6 m c t) (blk7 m c t) (blk8 m c t) (blk9 m c t) (blk10 m c t))
      (grad_lo (point_rows m c t) (blk6 m c t) (blk7 m c t) (blk8 m c t) (blk9 m c t) (blk10 m c t)) y _ e0 e1

theorem final12 : (dats m 0 c).arrAt 12 cfg0.N = fun i => half * dh (m (c.tc.loc main_arg0)) (m (c.tc.loc main_arg1)) (m (c.tc.loc main_arg2))
    (m (c.tc.loc main_arg3)) (m (c.tc.loc main_arg4)) i := by
  refine (dats m 0 c).arrAt_eq_of_covers 12 _ (by decide +kernel) fun t hf y => ?_
  blk_simp [idx]
  rw [after0_12]
  have e0 : (((View.whole main_v19_1).slice (win0_12.rect t)).emb y 0).val = t.val * 688 + (y 0).val := by blk_simp [idx]; try omega
  have e1 : (((View.whole main_v19_1).slice (win0_12.rect t)).emb y 1).val = (y 1).val := by blk_simp [idx]; try omega
  by_cases h0 : t.val % 12 = 0
  · rw [outsAt0_A m c t h0]
    frame_out
    simp only [View.readCov_eq_canon']
    exact two_tiles (e := .bf16) _ _ (fun i => half * dh _ _ _ _ _ i) t (half_hi (point_rows m c t) (blk6 m c t) (blk7 m c t) (blk8 m c t) (blk9 m c t) (blk10 m c t))
      (half_lo (point_rows m c t) (blk6 m c t) (blk7 m c t) (blk8 m c t) (blk9 m c t) (blk10 m c t)) y _ e0 e1
  · rw [outsAt0_B m c t h0]
    frame_out
    simp only [View.readCov_eq_canon']
    exact two_tiles (e := .bf16) _ _ (fun i => half * dh _ _ _ _ _ i) t (half_hi (point_rows m c t) (blk6 m c t) (blk7 m c t) (blk8 m c t) (blk9 m c t) (blk10 m c t))
      (half_lo (point_rows m c t) (blk6 m c t) (blk7 m c t) (blk8 m c t) (blk9 m c t) (blk10 m c t)) y _ e0 e1

theorem final14 : (dats m 0 c).arrAt 14 cfg0.N = fun i => wide (fun q => m (c.tc.loc main_arg4) (ix2 (i 0) q)) (i 1).val := by
  refine (dats m 0 c).arrAt_eq_of_covers 14 _ (by decide +kernel) fun t hf y => ?_
  blk_simp [idx]
  rw [after0_14]
  have e0 : ((View.whole main_v19_3).slice (win0_14.rect t)).emb y 0 = row t ⟨(y 0).val, (y 0).isLt⟩ := Fin.ext (by blk_simp [idx, row]; try omega)
  rw [e0]
  refine Eq.trans ?_ (gathered (fun r q => m (c.tc.loc main_arg4) (ix2 (row t r) q)) (blk0 m c t) (blk1 m c t) (blk2 m c t) (blk3 m c t) (blk4 m c t) (blk5 m c t) y)
  by_cases h0 : t.val % 12 = 0
  · rw [outsAt0_A m c t h0]
    frame_out
  · rw [outsAt0_B m c t h0]
    frame_out

/-- The gradient of the norm's weights after a point: the row tiles so far. -/
theorem bands : ∀ (n : ℕ) (h : n < cfg0.N) (d : Fin 1024), (outsAt0 m c n h).2.2.1 (ix2 0 d)
    = ∑ s ∈ Finset.range (n + 1), (if hs : s < cfg0.N then band (m (c.tc.loc main_arg0)) (m (c.tc.loc main_arg2)) (m (c.tc.loc main_arg4)) ⟨s, hs⟩ d else 0) := by
  intro n
  induction n with
  | zero =>
    intro h d
    rw [outsAt0_A m c ⟨0, h⟩ rfl, Finset.sum_range_one, dif_pos h]
    frame_out
    simp only [View.readCov_eq_canon']
    refine (add_band (point_rows m c ⟨0, h⟩) (blk6 m c ⟨0, h⟩) (blk7 m c ⟨0, h⟩) (blk8 m c ⟨0, h⟩) _ d).trans ?_
    pointwise [k0_pay6]
  | succ n ih =>
    intro h d
    rw [outsAt0_B m c ⟨n + 1, h⟩ (by have := tlt ⟨n + 1, h⟩; dsimp only at this ⊢; omega), Finset.sum_range_succ, dif_pos h]
    frame_out
    simp only [View.readCov_eq_canon']
    refine (add_band (point_rows m c ⟨n + 1, h⟩) (blk6 m c ⟨n + 1, h⟩) (blk7 m c ⟨n + 1, h⟩) (blk8 m c ⟨n + 1, h⟩) _ d).trans ?_
    exact congrArg (fun u : EReal => u + _) (ih _ d)

theorem sum_bands (H : S8256x1024.Idx → EReal) (W : S1x1024x3080.Idx → EReal) (X : S8256x3080.Idx → EReal) (d : Fin 1024) :
    ∑ s ∈ Finset.range (11 + 1), (if hs : s < cfg0.N then band H W X ⟨s, hs⟩ d else 0)
      = ∑ r : Fin 8256, dn X W r d * (H (ix2 r d) * Ideal.rsqrt (Rms.var fun j => H (ix2 r j))) := by
  rw [Finset.sum_range]
  refine Eq.trans (Finset.sum_congr rfl fun s _ => dif_pos s.isLt) ?_
  exact Fin.sum_mul_add_fin (L := 8256) 12 688 (fun r => dn X W r d * (H (ix2 r d) * Ideal.rsqrt (Rms.var fun j => H (ix2 r j)))) (by decide)

theorem final13 : (dats m 0 c).arrAt 13 cfg0.N = dg (m (c.tc.loc main_arg0)) (m (c.tc.loc main_arg2)) (m (c.tc.loc main_arg4)) := by
  refine (dats m 0 c).arrAt_eq_of_covers 13 _ (by decide +kernel) fun t hf y => ?_
  have ht : t.val = 11 := by have := (flush0_13 t).mp hf; have := tlt t; omega
  blk_simp [idx]
  rw [after0_13]
  have e1 : (((View.whole main_v19_2).slice (win0_13.rect t)).emb y 1).val = (y 1).val := by blk_simp [idx]; try omega
  refine Eq.trans (congrArg _ (funext fun a => Fin.ext ?_)) ((bands m c _ _ (y 1)).trans ?_)
  · match a with
    | 0 => exact Nat.lt_one_iff.mp (y 0).isLt
    | 1 => rfl
  have e : ((View.whole main_v19_2).slice (win0_13.rect t)).emb y 1 = y 1 := Fin.ext e1
  unfold dg
  rw [e, ht]
  exact sum_bands _ _ _ _

end Cert.MixInIdeal.Hand
-- ==== Proof.MixInClaims.lean ====
module

public import proofs.«01_k».proof.Defs
public import proofs.«01_k».proof.Proof.Gen.MixIn
public import proofs.«01_k».proof.Proof.Gen.MixIn.Frame
public import proofs.«01_k».proof.Proof.Gen.MixInIdeal
public import proofs.«01_k».proof.Proof.Gen.MixInRefIdeal
public import proofs.«01_k».proof.Proof.MixInValue
public import Idealize.ShloMosaic.Lib.Claim

@[expose] public section

set_option maxRecDepth 16384

noncomputable section

namespace Cert.Proof

open Idealize.ShloMosaic Pointwise Idealize.SL.Sem

instance mixin_pre_facts : Cert.Pre_mix_in_finite.Facts := ⟨by decide, by decide, by decide, by decide⟩

theorem mixin_frame : Cert.quiescent_MixIn := fun m ρ _ => Cert.MixIn.Gen.frame m ρ
theorem mixin_frame_ideal : Cert.quiescent_MixInIdeal := fun m ρ _ => Cert.MixInIdeal.Gen.frame m ρ
theorem mixin_frame_ideal_pre : Cert.quiescent_MixInIdeal_pre_mix_in_finite := fun m ρ _ => Cert.MixInIdeal.Gen.frame m ρ
theorem mixin_frame_ref : Cert.quiescent_MixInRefIdeal := by
  intro m ρ _
  hlo_run
  · exact fun _ => ⟨trivial, trivial, trivial, trivial, trivial⟩
  · exact sem_eq_zero_of_no_sems (sig := Cert.MixInRefIdeal.sig) (by decide) _
theorem mixin_frame_ref_pre : Cert.quiescent_MixInRefIdeal_pre_mix_in_finite := fun m ρ _ => mixin_frame_ref m ρ trivial
theorem mixin_preserves : Cert.preserves_MixIn_MixInIdeal := trivial

open Cert.MixInRefIdeal.Read in
/-- The reference's gradient of the stream, at arguments that pass the test of finiteness. -/
theorem mixin_ref (H : Cert.MixInIdeal.S8256x1024.Idx → EReal) (G : Cert.MixInIdeal.S1x1024.Idx → EReal) (W : Cert.MixInIdeal.S1x1024x3080.Idx → EReal)
    (D : Cert.MixInIdeal.S8256x1024.Idx → EReal) (X : Cert.MixInIdeal.S8256x3080.Idx → EReal)
    (hH : ∀ i, H i ≠ ⊤ ∧ H i ≠ ⊥) (hG : ∀ i, G i ≠ ⊤ ∧ G i ≠ ⊥) (hW : ∀ i, W i ≠ ⊤ ∧ W i ≠ ⊥) (hX : ∀ i, X i ≠ ⊤ ∧ X i ≠ ⊥) (i : Cert.MixInIdeal.S8256x1024.Idx) :
    val_main_v40 (F := Ideal) H G W D X i = Cert.MixInIdeal.Hand.dh H G W D X i := by
  rw [Cert.Common.real_of_finite H hH, Cert.Common.real_of_finite G hG, Cert.Common.real_of_finite W hW, Cert.Common.real_of_finite X hX]
  exact Cert.MixInIdeal.Hand.ref40 _ _ _ _ _ i

theorem mixin_value : Cert.algebraic_MixInIdeal_MixInRefIdeal_pre_mix_in_finite := by
  pair_intro
  · run_from Cert.MixInIdeal.Value.run_blocks m g
  · run_from Cert.MixInRefIdeal.Value.run m' g'
    · rw [Cert.MixInRefIdeal.Read.val_main_v40_eq, Cert.MixInIdeal.Hand.final11 m, (hagree c).1, (hagree c).2.1, (hagree c).2.2.1, (hagree c).2.2.2.1, (hagree c).2.2.2.2]
      exact funext fun i => mixin_ref _ _ _ _ _ (fun i => Cert.Common.finite_of_test (congrFun (hpre c).1 i)) (fun i => Cert.Common.finite_of_test (congrFun (hpre c).2.1 i))
        (fun i => Cert.Common.finite_of_test (congrFun (hpre c).2.2.1 i)) (fun i => Cert.Common.finite_of_test (congrFun (hpre c).2.2.2 i)) i
    · rw [Cert.MixInRefIdeal.Read.val_main_v44_eq, Cert.MixInIdeal.Hand.final12 m, (hagree c).1, (hagree c).2.1, (hagree c).2.2.1, (hagree c).2.2.2.1, (hagree c).2.2.2.2]
      refine funext fun i => (Cert.MixInIdeal.Hand.ref44 _ _ _ _ _ i).trans (congrArg (fun u : EReal => Cert.MixInIdeal.Hand.half * u) ?_)
      exact mixin_ref _ _ _ _ _ (fun i => Cert.Common.finite_of_test (congrFun (hpre c).1 i)) (fun i => Cert.Common.finite_of_test (congrFun (hpre c).2.1 i))
        (fun i => Cert.Common.finite_of_test (congrFun (hpre c).2.2.1 i)) (fun i => Cert.Common.finite_of_test (congrFun (hpre c).2.2.2 i)) i
    · rw [Cert.MixInRefIdeal.Read.val_main_v41_eq, Cert.MixInIdeal.Hand.final13 m]
      exact funext fun i => Cert.MixInIdeal.Hand.ref41 _ _ _ i
    · rw [Cert.MixInRefIdeal.Read.val_main_v46_eq, Cert.MixInIdeal.Hand.final14 m]
      refine funext fun i => ?_
      idx_vars i
      exact Cert.MixInIdeal.Hand.ref46 _ i0 i1

end Cert.Proof

end
-- ==== Proof.AttnRegions.lean ====
/-
  The body of the backward attention kernel as its five conditional regions, each a program of its own.
-/
module

public import proofs.«01_k».proof.Proof.Gen.AttnBwdIdeal.Frame
public import proofs.«01_k».proof.Proof.Gen.AttnBwdIdeal.Skeleton
public import Idealize.ShloMosaic.Lib.Pipeline.Frame
public import Idealize.ShloMosaic.Lib.Tactic

@[expose] public section

set_option maxRecDepth 65536

noncomputable section

namespace Cert.AttnBwdIdeal.Hand

open Cert.AttnBwdIdeal Cert.AttnBwdIdeal.Gen
open Idealize.ShloMosaic TcCoe Tactic
open Idealize.SL RA BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer in the cores' memory. -/
abbrev Vm := Memref sig .tc .vmem

/-- The first point of a batch entry clears the query gradient. -/
def zeroQ (i : grid0.Coords) {a3 : Vm S1x688x512 .bf16} (w3 : a3.IsWhole) {a4 : Vm S1x688x512 .bf16} (w4 : a4.IsWhole) {a5 : Vm S1x688x512 .bf16} (w5 : a5.IsWhole) {a6 : Vm S1x688x512 .f32} (w6 : a6.IsWhole) {a7 : Vm S1x688x512 .bf16} (w7 : a7.IsWhole) {a8 : Vm S1x688x128 .f32} (w8 : a8.IsWhole) {a9 : Vm S1x1x8x688 .f32} (w9 : a9.IsWhole) {aa : Vm S1x2064x512 .f32} (wa : aa.IsWhole) {ab : Vm S1x688x512 .bf16} (wb : ab.IsWhole) {ac : Vm S1x688x512 .bf16} (wc : ac.IsWhole) {ad : Vm S1x688x128 .f32} (wd : ad.IsWhole) {ae : Vm S1x2064x128 .f32} (we : ae.IsWhole) {af : Vm S2064x1024 .f32} (wf : af.IsWhole) {ag : Vm S688x1024 .f32} (wg : ag.IsWhole) {ah : Vm S688x512 .f32} (wh : ah.IsWhole) (a2 : BitVec 32) (k : Prog (TpuEff nD τ sig (Elt F) Λ₀ .tc) PUnit) : Prog (TpuEff nD τ sig (Elt F) Λ₀ .tc) PUnit := do
  let v18 : Vec F S2064x1024 .f32 ← Prog.lift (.load af (Rect.unit (s := S2064x1024) ![0, 0] S2064x1024.size inb_S2064x1024_S2064x1024_0_0).toLoadRect (View.loadsAt_vmem h_S2064x1024))
  Prog.lift (.store af (Rect.unit (s := S2064x1024) ![0, 0] S2064x1024.size inb_S2064x1024_S2064x1024_0_0) (k0_pay1 (F := F)) Finset.univ (View.stores_vmem_bits_univ h_S2064x1024 rfl) (.inl rfl))
  k

/-- A key tile's first point clears its two gradients. -/
def zeroK (i : grid0.Coords) {a3 : Vm S1x688x512 .bf16} (w3 : a3.IsWhole) {a4 : Vm S1x688x512 .bf16} (w4 : a4.IsWhole) {a5 : Vm S1x688x512 .bf16} (w5 : a5.IsWhole) {a6 : Vm S1x688x512 .f32} (w6 : a6.IsWhole) {a7 : Vm S1x688x512 .bf16} (w7 : a7.IsWhole) {a8 : Vm S1x688x128 .f32} (w8 : a8.IsWhole) {a9 : Vm S1x1x8x688 .f32} (w9 : a9.IsWhole) {aa : Vm S1x2064x512 .f32} (wa : aa.IsWhole) {ab : Vm S1x688x512 .bf16} (wb : ab.IsWhole) {ac : Vm S1x688x512 .bf16} (wc : ac.IsWhole) {ad : Vm S1x688x128 .f32} (wd : ad.IsWhole) {ae : Vm S1x2064x128 .f32} (we : ae.IsWhole) {af : Vm S2064x1024 .f32} (wf : af.IsWhole) {ag : Vm S688x1024 .f32} (wg : ag.IsWhole) {ah : Vm S688x512 .f32} (wh : ah.IsWhole) (a2 : BitVec 32) (k : Prog (TpuEff nD τ sig (Elt F) Λ₀ .tc) PUnit) : Prog (TpuEff nD τ sig (Elt F) Λ₀ .tc) PUnit := do
  let v18 : Vec F S688x1024 .f32 ← Prog.lift (.load ag (Rect.unit (s := S688x1024) ![0, 0] S688x1024.size inb_S688x1024_S688x1024_0_0).toLoadRect (View.loadsAt_vmem h_S688x1024))
  Prog.lift (.store ag (Rect.unit (s := S688x1024) ![0, 0] S688x1024.size inb_S688x1024_S688x1024_0_0) (k0_pay2 (F := F)) Finset.univ (View.stores_vmem_bits_univ h_S688x1024 rfl) (.inl rfl))
  let v22 : Vec F S688x512 .f32 ← Prog.lift (.load ah (Rect.unit (s := S688x512) ![0, 0] S688x512.size inb_S688x512_S688x512_0_0).toLoadRect (View.loadsAt_vmem h_S688x512))
  Prog.lift (.store ah (Rect.unit (s := S688x512) ![0, 0] S688x512.size inb_S688x512_S688x512_0_0) (k0_pay3 (F := F)) Finset.univ (View.stores_vmem_bits_univ h_S688x512 rfl) (.inl rfl))
  k

variable (i : grid0.Coords) {a3 : Vm S1x688x512 .bf16} (w3 : a3.IsWhole) {a4 : Vm S1x688x512 .bf16} (w4 : a4.IsWhole) {a5 : Vm S1x688x512 .bf16} (w5 : a5.IsWhole) {a6 : Vm S1x688x512 .f32} (w6 : a6.IsWhole) {a7 : Vm S1x688x512 .bf16} (w7 : a7.IsWhole) {a8 : Vm S1x688x128 .f32} (w8 : a8.IsWhole) {a9 : Vm S1x1x8x688 .f32} (w9 : a9.IsWhole) {aa : Vm S1x2064x512 .f32} (wa : aa.IsWhole) {ab : Vm S1x688x512 .bf16} (wb : ab.IsWhole) {ac : Vm S1x688x512 .bf16} (wc : ac.IsWhole) {ad : Vm S1x688x128 .f32} (wd : ad.IsWhole) {ae : Vm S1x2064x128 .f32} (we : ae.IsWhole) {af : Vm S2064x1024 .f32} (wf : af.IsWhole) {ag : Vm S688x1024 .f32} (wg : ag.IsWhole) {ah : Vm S688x512 .f32} (wh : ah.IsWhole)

/-- A tile below the diagonal. -/
def full (a2 : BitVec 32) (k0_h3 : k0_cond3 i = 1#1) (k : Prog (TpuEff nD τ sig (Elt F) Λ₀ .tc) PUnit) : Prog (TpuEff nD τ sig (Elt F) Λ₀ .tc) PUnit := do
  let ⟨v18, v21, v23, v27, v34, v40, v43, v45, v46⟩ : Σ' (v18 : FVec F S688x128 .f32) (v21 : BitVec 32) (v23 : FVec F S688x128 .bf16) (v27 : FVec F S688x128 .bf16) (v34 : FVec F S688x128 .bf16) (v40 : FVec F S688x688 .f32) (v43 : FVec F S688x688 .f32) (v45 : FVec F S688x128 .bf16), Vec F S1x688x128 .bf16 ← k0_part1 i a3 w3 a4 w4 a5 w5 a6 w6 a7 w7 a8 w8 a9 w9 aa wa ab wb ac wc ad wd ae we af wf ag wg ah wh a2
  let ⟨v49, v57, v64, v67, v75, v83⟩ : Σ' (v49 : FVec F S688x128 .bf16) (v57 : FVec F S688x128 .bf16) (v64 : FVec F S688x688 .f32) (v67 : FVec F S688x688 .f32) (v75 : FVec F S688x688 .f32), FVec F S688x688 .f32 ← k0_part2 i a3 w3 a4 w4 a5 w5 a6 w6 a7 w7 a8 w8 a9 w9 aa wa ab wb ac wc ad wd ae we af wf ag wg ah wh v18 v34 v40 v43 v45 v46
  let ⟨v87, v121⟩ : Σ' (v87 : FVec F S688x128 .f32), FVec F S688x128 .bf16 ← k0_part3 i a3 w3 a4 w4 a5 w5 a6 w6 a7 w7 a8 w8 a9 w9 aa wa ab wb ac wc ad wd ae we af wf ag wg ah wh k0_h3 v21 v23 v27 v34 v75 v83
  let ⟨v125, v132, v138, v141, v149, v157⟩ : Σ' (v125 : FVec F S688x128 .bf16) (v132 : FVec F S688x128 .bf16) (v138 : FVec F S688x688 .f32) (v141 : FVec F S688x688 .f32) (v149 : FVec F S688x688 .f32), FVec F S688x688 .f32 ← k0_part4 i a3 w3 a4 w4 a5 w5 a6 w6 a7 w7 a8 w8 a9 w9 aa wa ab wb ac wc ad wd ae we af wf ag wg ah wh v18 v57 v64 v67 v121
  let v161 : FVec F S688x128 .f32 ← k0_part5 i a3 w3 a4 w4 a5 w5 a6 w6 a7 w7 a8 w8 a9 w9 aa wa ab wb ac wc ad wd ae we af wf ag wg ah wh k0_h3 v21 v45 v49 v57 v149 v157
  let ⟨v203, v207, v215, v222, v225, v226⟩ : Σ' (v203 : FVec F S688x128 .bf16) (v207 : FVec F S688x128 .bf16) (v215 : FVec F S688x128 .bf16) (v222 : FVec F S688x688 .f32) (v225 : FVec F S688x688 .f32), Vec F S1x1x1x688 .f32 ← k0_part6 i a3 w3 a4 w4 a5 w5 a6 w6 a7 w7 a8 w8 a9 w9 aa wa ab wb ac wc ad wd ae we af wf ag wg ah wh v87 v161
  let ⟨v243, v245, v262, v265, v267, cst_160⟩ : Σ' (v243 : FVec F S688x688 .bf16) (v245 : FVec F S688x128 .f32) (v262 : Vec F S688x128 .f32) (v265 : IVec S688x128 1) (v267 : IVec S688x128 1), F .bf16 ← k0_part7 i a3 w3 a4 w4 a5 w5 a6 w6 a7 w7 a8 w8 a9 w9 aa wa ab wb ac wc ad wd ae we af wf ag wg ah wh k0_h3 v18 v21 v125 v132 v138 v141 v226
  let ⟨v279, v283, v290, v296, v299, v300⟩ : Σ' (v279 : FVec F S688x128 .bf16) (v283 : FVec F S688x128 .bf16) (v290 : FVec F S688x128 .bf16) (v296 : FVec F S688x688 .f32) (v299 : FVec F S688x688 .f32), Vec F S1x1x1x688 .f32 ← k0_part8 i a3 w3 a4 w4 a5 w5 a6 w6 a7 w7 a8 w8 a9 w9 aa wa ab wb ac wc ad wd ae we af wf ag wg ah wh k0_h3 v21 v121 v243 v262 v265 v267 cst_160
  let ⟨v317, v319, v337, v338, v341⟩ : Σ' (v317 : FVec F S688x688 .bf16) (v319 : FVec F S688x128 .f32) (v337 : Vec F S688x128 .f32) (v338 : IVec S688x128 32), IVec S688x128 1 ← k0_part9 i a3 w3 a4 w4 a5 w5 a6 w6 a7 w7 a8 w8 a9 w9 aa wa ab wb ac wc ad wd ae we af wf ag wg ah wh k0_h3 v18 v21 v207 v215 v222 v225 v300
  let ⟨v361, v365, v373, v376⟩ : Σ' (v361 : FVec F S688x128 .bf16) (v365 : FVec F S688x128 .bf16) (v373 : FVec F S688x128 .bf16), IVec S688x128 1 ← k0_part10 i a3 w3 a4 w4 a5 w5 a6 w6 a7 w7 a8 w8 a9 w9 aa wa ab wb ac wc ad wd ae we af wf ag wg ah wh k0_h3 v21 v203 v245 v317 v319 v337 v338 v341
  let ⟨v380, v383, v401, v403, v404, v413, cst_246⟩ : Σ' (v380 : FVec F S688x688 .f32) (v383 : FVec F S688x688 .f32) (v401 : FVec F S688x688 .bf16) (v403 : FVec F S688x128 .f32) (v404 : Vec F S688x128 .f32) (v413 : FVec F S688x128 .bf16), FVec F S688x128 .f32 ← k0_part11 i a3 w3 a4 w4 a5 w5 a6 w6 a7 w7 a8 w8 a9 w9 aa wa ab wb ac wc ad wd ae we af wf ag wg ah wh v18 v283 v290 v296 v299 v361 v365 v373 v376
  let ⟨v437, v441, v448, v449, c64_i32_268⟩ : Σ' (v437 : FVec F S688x128 .bf16) (v441 : FVec F S688x128 .bf16) (v448 : FVec F S688x128 .bf16) (v449 : IVec S688x128 32), BitVec 32 ← k0_part12 i a3 w3 a4 w4 a5 w5 a6 w6 a7 w7 a8 w8 a9 w9 aa wa ab wb ac wc ad wd ae we af wf ag wg ah wh k0_h3 v21 v279 v401 v404 v413 cst_246
  let ⟨v454, v457, v475, v477, v478, v482, v487⟩ : Σ' (v454 : FVec F S688x688 .f32) (v457 : FVec F S688x688 .f32) (v475 : FVec F S688x688 .bf16) (v477 : FVec F S688x128 .f32) (v478 : Vec F S688x128 .f32) (v482 : IVec S688x128 1), FVec F S688x128 .bf16 ← k0_part13 i a3 w3 a4 w4 a5 w5 a6 w6 a7 w7 a8 w8 a9 w9 aa wa ab wb ac wc ad wd ae we af wf ag wg ah wh v18 v373 v380 v383 v437 v441 v448 v449 c64_i32_268
  let ⟨v519, v521, v522⟩ : Σ' (v519 : FVec F S688x128 .bf16) (v521 : FVec F S688x128 .bf16), FVec F S688x128 .bf16 ← k0_part14 i a3 w3 a4 w4 a5 w5 a6 w6 a7 w7 a8 w8 a9 w9 aa wa ab wb ac wc ad wd ae we af wf ag wg ah wh k0_h3 v21 v361 v365 v403 v475 v477 v478 v482 v487
  let ⟨v523, v531, v538, v541, v559, v560⟩ : Σ' (v523 : FVec F S688x128 .bf16) (v531 : FVec F S688x128 .bf16) (v538 : FVec F S688x688 .f32) (v541 : FVec F S688x688 .f32) (v559 : FVec F S688x688 .bf16), FVec F S688x688 .bf16 ← k0_part15 i a3 w3 a4 w4 a5 w5 a6 w6 a7 w7 a8 w8 a9 w9 aa wa ab wb ac wc ad wd ae we af wf ag wg ah wh v18 v448 v454 v457 v519 v521 v522
  let ⟨v561, v597⟩ : Σ' (v561 : FVec F S688x128 .f32), FVec F S688x688 .f32 ← k0_part16 i a3 w3 a4 w4 a5 w5 a6 w6 a7 w7 a8 w8 a9 w9 aa wa ab wb ac wc ad wd ae we af wf ag wg ah wh k0_h3 v21 v437 v441 v448 v538 v559 v560
  let ⟨v611, v613, v631, v635, v637⟩ : Σ' (v611 : FVec F S688x688 .bf16) (v613 : FVec F S688x128 .f32) (v631 : Vec F S688x128 .f32) (v635 : IVec S688x128 1), IVec S688x128 1 ← k0_part17 i a3 w3 a4 w4 a5 w5 a6 w6 a7 w7 a8 w8 a9 w9 aa wa ab wb ac wc ad wd ae we af wf ag wg ah wh k0_h3 v18 v21 v523 v531 v541 v597
  let v645 : Vec F S688x128 .f32 ← Prog.lift (.load af (Rect.unit (s := S2064x1024) (k0_off8 i) S688x128.size (k0_off8_inb i k0_h3)).toLoadRect (View.loadsAt_vmem h_S688x128))
  Prog.lift (.store af (Rect.unit (s := S2064x1024) (k0_off8 i) S688x128.size (k0_off8_inb i k0_h3)) (k0_pay4 v519 v611 v631 v635 v637) Finset.univ (View.stores_vmem_bits_univ h_S688x128 rfl) (.inl rfl))
  let v648 : Vec F S688x128 .f32 ← Prog.lift (.load ah (Rect.unit (s := S688x512) ![0, 384] S688x128.size inb_S688x512_S688x128_0_384).toLoadRect (View.loadsAt_vmem h_S688x128))
  let v651 : Vec F S688x128 .f32 ← Prog.lift (.load ah (Rect.unit (s := S688x512) ![0, 384] S688x128.size inb_S688x512_S688x128_0_384).toLoadRect (View.loadsAt_vmem h_S688x128))
  Prog.lift (.store ah (Rect.unit (s := S688x512) ![0, 384] S688x128.size inb_S688x512_S688x128_0_384) (k0_pay5 v561 v613 v648) Finset.univ (View.stores_vmem_bits_univ h_S688x128 rfl) (.inl rfl))
  k

/-- A tile on the diagonal, and the query rows it completes. -/
def diag (a2 : BitVec 32) (k0_h4 : k0_cond4 i = 1#1) (k : Prog (TpuEff nD τ sig (Elt F) Λ₀ .tc) PUnit) : Prog (TpuEff nD τ sig (Elt F) Λ₀ .tc) PUnit := do
  let ⟨v1332, v1344, v1361, v1378, v1395, v1407⟩ : Σ' (v1332 : BitVec 32) (v1344 : FVec F S688x128 .f32) (v1361 : FVec F S688x128 .f32) (v1378 : FVec F S688x128 .f32) (v1395 : FVec F S688x128 .f32), FVec F S688x128 .f32 ← k0_part55 i a3 w3 a4 w4 a5 w5 a6 w6 a7 w7 a8 w8 a9 w9 aa wa ab wb ac wc ad wd ae we af wf ag wg ah wh a2 k0_h4
  let v1409 : Vec F S1x688x128 .f32 ← Prog.lift (.load aa (Rect.unit (s := S1x2064x512) (k0_off26 i) S1x688x128.size (k0_off26_inb i k0_h4)).toLoadRect (View.loadsAt_vmem h_S1x688x128))
  Prog.lift (.store aa (Rect.unit (s := S1x2064x512) (k0_off26 i) S1x688x128.size (k0_off26_inb i k0_h4)) (k0_pay6 v1344) Finset.univ (View.stores_vmem_bits_univ h_S1x688x128 rfl) (.inl rfl))
  let v1413 : Vec F S1x688x128 .f32 ← Prog.lift (.load aa (Rect.unit (s := S1x2064x512) (k0_off27 i) S1x688x128.size (k0_off27_inb i k0_h4)).toLoadRect (View.loadsAt_vmem h_S1x688x128))
  Prog.lift (.store aa (Rect.unit (s := S1x2064x512) (k0_off27 i) S1x688x128.size (k0_off27_inb i k0_h4)) (k0_pay7 v1361) Finset.univ (View.stores_vmem_bits_univ h_S1x688x128 rfl) (.inl rfl))
  let v1417 : Vec F S1x688x128 .f32 ← Prog.lift (.load aa (Rect.unit (s := S1x2064x512) (k0_off28 i) S1x688x128.size (k0_off28_inb i k0_h4)).toLoadRect (View.loadsAt_vmem h_S1x688x128))
  Prog.lift (.store aa (Rect.unit (s := S1x2064x512) (k0_off28 i) S1x688x128.size (k0_off28_inb i k0_h4)) (k0_pay8 v1378) Finset.univ (View.stores_vmem_bits_univ h_S1x688x128 rfl) (.inl rfl))
  let v1421 : Vec F S1x688x128 .f32 ← Prog.lift (.load aa (Rect.unit (s := S1x2064x512) (k0_off29 i) S1x688x128.size (k0_off29_inb i k0_h4)).toLoadRect (View.loadsAt_vmem h_S1x688x128))
  Prog.lift (.store aa (Rect.unit (s := S1x2064x512) (k0_off29 i) S1x688x128.size (k0_off29_inb i k0_h4)) (k0_pay9 v1395) Finset.univ (View.stores_vmem_bits_univ h_S1x688x128 rfl) (.inl rfl))
  let v1425 : Vec F S1x688x128 .f32 ← Prog.lift (.load ae (Rect.unit (s := S1x2064x128) (k0_off30 i) S1x688x128.size (k0_off30_inb i k0_h4)).toLoadRect (View.loadsAt_vmem h_S1x688x128))
  Prog.lift (.store ae (Rect.unit (s := S1x2064x128) (k0_off30 i) S1x688x128.size (k0_off30_inb i k0_h4)) (k0_pay10 v1407) Finset.univ (View.stores_vmem_bits_univ h_S1x688x128 rfl) (.inl rfl))
  k

/-- The last query tile: the key tile's results. -/
def last (a2 : BitVec 32) (k0_h5 : k0_cond5 i = 1#1) (k : Prog (TpuEff nD τ sig (Elt F) Λ₀ .tc) PUnit) : Prog (TpuEff nD τ sig (Elt F) Λ₀ .tc) PUnit := do
  let ⟨v17, v20, v21, v27, v44, v56, v58, v61, v63, v64⟩ : Σ' (v17 : Vec F S688x1024 .f32) (v20 : IVec S688x128 1) (v21 : IVec S688x128 32) (v27 : FVec F S688x128 .f32) (v44 : FVec F S688x128 .f32) (v56 : FVec F S688x128 .f32) (v58 : FVec F S688x128 .f32) (v61 : FVec F S688x128 .f32) (v63 : IVec S688x128 1), FVec F S688x1 .f32 ← k0_part56 i a3 w3 a4 w4 a5 w5 a6 w6 a7 w7 a8 w8 a9 w9 aa wa ab wb ac wc ad wd ae we af wf ag wg ah wh
  let ⟨v90, v103⟩ : Σ' (v90 : FVec F S688x128 .f32), FVec F S688x128 .bf16 ← k0_part57 i a3 w3 a4 w4 a5 w5 a6 w6 a7 w7 a8 w8 a9 w9 aa wa ab wb ac wc ad wd ae we af wf ag wg ah wh v17 v20 v21 v27 v44 v56 v58 v61 v63 v64
  Prog.lift (.store ab (Rect.unit (s := S1x688x512) ![0, 0, 384] S1x688x128.size inb_S1x688x512_S1x688x128_0_0_384) (k0_pay11 v103) Finset.univ (View.stores_vmem h_S1x688x128 (wb.storeExact_slice rfl _ packedbf16_S1x688x512_S1x688x128_0_0_384) (fun _ => rfl)) (.inl rfl))
  let v107 : Vec F S1x688x128 .f32 ← Prog.lift (.load ad (Rect.unit (s := S1x688x128) ![0, 0, 0] S1x688x128.size inb_S1x688x128_S1x688x128_0_0_0).toLoadRect (View.loadsAt_vmem h_S1x688x128))
  Prog.lift (.store ad (Rect.unit (s := S1x688x128) ![0, 0, 0] S1x688x128.size inb_S1x688x128_S1x688x128_0_0_0) (k0_pay12 v90) Finset.univ (View.stores_vmem_bits_univ h_S1x688x128 rfl) (.inl rfl))
  let v110 : Vec F S688x512 .f32 ← Prog.lift (.load ah (Rect.unit (s := S688x512) ![0, 0] S688x512.size inb_S688x512_S688x512_0_0).toLoadRect (View.loadsAt_vmem h_S688x512))
  let v112 : Vec F S1x688x512 .bf16 ← Prog.lift (.load ac (Rect.unit (s := S1x688x512) ![0, 0, 0] S1x688x512.size inb_S1x688x512_S1x688x512_0_0_0).toLoadRect (View.loadsAt_vmem h_S1x688x512))
  Prog.lift (.store ac (Rect.unit (s := S1x688x512) ![0, 0, 0] S1x688x512.size inb_S1x688x512_S1x688x512_0_0_0) (k0_pay13 v110) Finset.univ (View.stores_vmem h_S1x688x512 (wc.storeExact_slice rfl _ packedbf16_S1x688x512_S1x688x512_0_0_0) (fun _ => rfl)) (.inl rfl))
  k

/-- The conditions of the first two regions. -/
abbrev cond1 (i : grid0.Coords) : Prop := Scalar.cmpi .ne (Scalar.extui (Scalar.andi (Scalar.cmpi .eq (BitVec.ofNat 32 (i 1).val) 0#32) (Scalar.cmpi .eq (BitVec.ofNat 32 (i 2).val) 0#32)) : BitVec 32) 0#32 = 1#1
abbrev cond2 (i : grid0.Coords) : Prop := Scalar.cmpi .ne (Scalar.extui (Scalar.cmpi .eq (BitVec.ofNat 32 (i 2).val) (BitVec.ofNat 32 (i 1).val)) : BitVec 32) 0#32 = 1#1

/-- The body from its region 5 on. -/
def from5 : Prog (TpuEff nD τ sig (Elt F) Λ₀ .tc) PUnit :=
  if h : k0_cond5 i = 1#1 then last i w3 w4 w5 w6 w7 w8 w9 wa wb wc wd we wf wg wh (BitVec.ofNat 32 (i 2).val) h (pure ⟨⟩) else (pure ⟨⟩)

/-- The body from its region 4 on. -/
def from4 : Prog (TpuEff nD τ sig (Elt F) Λ₀ .tc) PUnit :=
  if h : k0_cond4 i = 1#1 then diag i w3 w4 w5 w6 w7 w8 w9 wa wb wc wd we wf wg wh (BitVec.ofNat 32 (i 2).val) h (from5 i w3 w4 w5 w6 w7 w8 w9 wa wb wc wd we wf wg wh) else (from5 i w3 w4 w5 w6 w7 w8 w9 wa wb wc wd we wf wg wh)

/-- The body from its region 3 on. -/
def from3 : Prog (TpuEff nD τ sig (Elt F) Λ₀ .tc) PUnit :=
  if h : k0_cond3 i = 1#1 then full i w3 w4 w5 w6 w7 w8 w9 wa wb wc wd we wf wg wh (BitVec.ofNat 32 (i 2).val) h (from4 i w3 w4 w5 w6 w7 w8 w9 wa wb wc wd we wf wg wh) else (from4 i w3 w4 w5 w6 w7 w8 w9 wa wb wc wd we wf wg wh)

/-- The body from its region 2 on. -/
def from2 : Prog (TpuEff nD τ sig (Elt F) Λ₀ .tc) PUnit :=
  if h : cond2 i then zeroK i w3 w4 w5 w6 w7 w8 w9 wa wb wc wd we wf wg wh (BitVec.ofNat 32 (i 2).val) (from3 i w3 w4 w5 w6 w7 w8 w9 wa wb wc wd we wf wg wh) else (from3 i w3 w4 w5 w6 w7 w8 w9 wa wb wc wd we wf wg wh)

/-- The body from its region 1 on. -/
def from1 : Prog (TpuEff nD τ sig (Elt F) Λ₀ .tc) PUnit :=
  if h : cond1 i then zeroQ i w3 w4 w5 w6 w7 w8 w9 wa wb wc wd we wf wg wh (BitVec.ofNat 32 (i 2).val) (from2 i w3 w4 w5 w6 w7 w8 w9 wa wb wc wd we wf wg wh) else (from2 i w3 w4 w5 w6 w7 w8 w9 wa wb wc wd we wf wg wh)

/-- The printed body is its five regions in turn. -/
theorem body_eq : cc0_attn_bwd (F := F) = from1 (F := F) := by
  rw [cc0_attn_bwd_eq_skeleton]; unfold cc0_attn_bwd_skel from1 from2 from3 from4 from5 zeroQ zeroK full diag last; rfl

end Cert.AttnBwdIdeal.Hand

end
-- ==== Proof.AttnRunZero.lean ====
/-
  The clearing regions, run.
-/
module

public import proofs.«01_k».proof.Proof.AttnRegions

@[expose] public section

set_option maxRecDepth 65536

noncomputable section

namespace Cert.AttnBwdIdeal.Hand

open Cert.AttnBwdIdeal Cert.AttnBwdIdeal.Gen
open Idealize.ShloMosaic TcCoe Tactic
open Idealize.SL RA BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- Run: the query gradient cleared. -/
noncomputable def zeroQRun (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (a2 : BitVec 32)
    (xf : Vec F S2064x1024 .f32) :
    { L15 : List (View.Piece (Elt F) S2064x1024 .f32) //
      ∀ (E : Set ℕ) (k : Prog (TpuEff nD τ sig (Elt F) Λ₀ .tc) PUnit) (K : PUnit → sProp 𝕄),
        iprop(owns c.tc af fullShare xf
            ∗ (iprop((af.view.loc c.tc ↦[af.view.set]{fullShare} af.view.writes (Elt F) (wf.unread xf) L15)) -∗ wp frame (wpE (defs₀ (F := F)) Variants.none c none) E k K))
          ⊢ wp frame (wpE (defs₀ (F := F)) Variants.none c none) E (zeroQ i w3 w4 w5 w6 w7 w8 w9 wa wb wc wd we wf wg wh a2 k) K } := by
  refine ⟨?_, fun E k K => ?run⟩
  case run =>
    unfold zeroQ
    unfold owns
    iintro ⟨⟨%f15, %hf15, H15⟩, Hk⟩
    obtain rfl := wf.eq_unread hf15
    sl_exec
    iapply Hk
    iexact H15

set_option maxHeartbeats 4000000 in
/-- Run: the key and value gradients cleared. -/
noncomputable def zeroKRun (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (a2 : BitVec 32)
    (xg : Vec F S688x1024 .f32) (xh : Vec F S688x512 .f32) :
    Σ' (L16 : List (View.Piece (Elt F) S688x1024 .f32)), { L17 : List (View.Piece (Elt F) S688x512 .f32) //
      ∀ (E : Set ℕ) (k : Prog (TpuEff nD τ sig (Elt F) Λ₀ .tc) PUnit) (K : PUnit → sProp 𝕄),
        iprop(owns c.tc ag fullShare xg ∗ owns c.tc ah fullShare xh
            ∗ (iprop((ag.view.loc c.tc ↦[ag.view.set]{fullShare} ag.view.writes (Elt F) (wg.unread xg) L16) ∗ (ah.view.loc c.tc ↦[ah.view.set]{fullShare} ah.view.writes (Elt F) (wh.unread xh) L17)) -∗ wp frame (wpE (defs₀ (F := F)) Variants.none c none) E k K))
          ⊢ wp frame (wpE (defs₀ (F := F)) Variants.none c none) E (zeroK i w3 w4 w5 w6 w7 w8 w9 wa wb wc wd we wf wg wh a2 k) K } := by
  refine ⟨?_, ?_, fun E k K => ?run⟩
  case run =>
    unfold zeroK
    unfold owns
    iintro ⟨⟨%f16, %hf16, H16⟩, ⟨%f17, %hf17, H17⟩, Hk⟩
    obtain rfl := wg.eq_unread hf16; obtain rfl := wh.eq_unread hf17
    sl_exec
    iapply Hk
    isplitl [H16]; · iexact H16
    iexact H17

end Cert.AttnBwdIdeal.Hand

end
-- ==== Proof.AttnRunFull.lean ====
/-
  A tile below the diagonal, run.
-/
module

public import proofs.«01_k».proof.Proof.AttnRegions

@[expose] public section

set_option maxRecDepth 65536

noncomputable section

namespace Cert.AttnBwdIdeal.Hand

open Cert.AttnBwdIdeal Cert.AttnBwdIdeal.Gen
open Idealize.ShloMosaic TcCoe Tactic
open Idealize.SL RA BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- Run: what a tile below the diagonal adds to the three gradients. -/
noncomputable def fullRun (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (a2 : BitVec 32) (hc : k0_cond3 i = 1#1)
    (x3 x4 x5 : Vec F S1x688x512 .bf16) (x6 : Vec F S1x688x512 .f32) (x7 : Vec F S1x688x512 .bf16) (x8 : Vec F S1x688x128 .f32) (x9 : Vec F S1x1x8x688 .f32) (xf : Vec F S2064x1024 .f32) (xg : Vec F S688x1024 .f32) (xh : Vec F S688x512 .f32) :
    Σ' (L15 : List (View.Piece (Elt F) S2064x1024 .f32)), Σ' (L16 : List (View.Piece (Elt F) S688x1024 .f32)), { L17 : List (View.Piece (Elt F) S688x512 .f32) //
      ∀ (E : Set ℕ) (k : Prog (TpuEff nD τ sig (Elt F) Λ₀ .tc) PUnit) (K : PUnit → sProp 𝕄),
        iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc af fullShare xf ∗ owns c.tc ag fullShare xg ∗ owns c.tc ah fullShare xh
            ∗ (iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ (af.view.loc c.tc ↦[af.view.set]{fullShare} af.view.writes (Elt F) (wf.unread xf) L15) ∗ (ag.view.loc c.tc ↦[ag.view.set]{fullShare} ag.view.writes (Elt F) (wg.unread xg) L16) ∗ (ah.view.loc c.tc ↦[ah.view.set]{fullShare} ah.view.writes (Elt F) (wh.unread xh) L17)) -∗ wp frame (wpE (defs₀ (F := F)) Variants.none c none) E k K))
          ⊢ wp frame (wpE (defs₀ (F := F)) Variants.none c none) E (full i w3 w4 w5 w6 w7 w8 w9 wa wb wc wd we wf wg wh a2 hc k) K } := by
  refine ⟨?_, ?_, ?_, fun E k K => ?run⟩
  case run =>
    unfold full
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f15, %hf15, H15⟩, ⟨%f16, %hf16, H16⟩, ⟨%f17, %hf17, H17⟩, Hk⟩
    obtain rfl := w3.eq_unread hf3; obtain rfl := w4.eq_unread hf4; obtain rfl := w5.eq_unread hf5; obtain rfl := w6.eq_unread hf6; obtain rfl := w7.eq_unread hf7; obtain rfl := w8.eq_unread hf8; obtain rfl := w9.eq_unread hf9; obtain rfl := wf.eq_unread hf15; obtain rfl := wg.eq_unread hf16; obtain rfl := wh.eq_unread hf17
    sl_exec
    iapply Hk
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    iframe H15 H16
    iexact H17

end Cert.AttnBwdIdeal.Hand

end
-- ==== Proof.AttnRunDiag.lean ====
/-
  A tile on the diagonal, run.
-/
module

public import proofs.«01_k».proof.Proof.AttnRegions

@[expose] public section

set_option maxRecDepth 65536

noncomputable section

namespace Cert.AttnBwdIdeal.Hand

open Cert.AttnBwdIdeal Cert.AttnBwdIdeal.Gen
open Idealize.ShloMosaic TcCoe Tactic
open Idealize.SL RA BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- Run: what a tile on the diagonal adds, and the query rows written. -/
noncomputable def diagRun (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (a2 : BitVec 32) (hc : k0_cond4 i = 1#1)
    (x3 x4 x5 : Vec F S1x688x512 .bf16) (x6 : Vec F S1x688x512 .f32) (x7 : Vec F S1x688x512 .bf16) (x8 : Vec F S1x688x128 .f32) (x9 : Vec F S1x1x8x688 .f32) (xa : Vec F S1x2064x512 .f32) (xe : Vec F S1x2064x128 .f32) (xf : Vec F S2064x1024 .f32) (xg : Vec F S688x1024 .f32) (xh : Vec F S688x512 .f32) :
    Σ' (L10 : List (View.Piece (Elt F) S1x2064x512 .f32)), Σ' (L14 : List (View.Piece (Elt F) S1x2064x128 .f32)), Σ' (L15 : List (View.Piece (Elt F) S2064x1024 .f32)), Σ' (L16 : List (View.Piece (Elt F) S688x1024 .f32)), { L17 : List (View.Piece (Elt F) S688x512 .f32) //
      ∀ (E : Set ℕ) (k : Prog (TpuEff nD τ sig (Elt F) Λ₀ .tc) PUnit) (K : PUnit → sProp 𝕄),
        iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare xa ∗ owns c.tc ae fullShare xe ∗ owns c.tc af fullShare xf ∗ owns c.tc ag fullShare xg ∗ owns c.tc ah fullShare xh
            ∗ (iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ (aa.view.loc c.tc ↦[aa.view.set]{fullShare} aa.view.writes (Elt F) (wa.unread xa) L10) ∗ (ae.view.loc c.tc ↦[ae.view.set]{fullShare} ae.view.writes (Elt F) (we.unread xe) L14) ∗ (af.view.loc c.tc ↦[af.view.set]{fullShare} af.view.writes (Elt F) (wf.unread xf) L15) ∗ (ag.view.loc c.tc ↦[ag.view.set]{fullShare} ag.view.writes (Elt F) (wg.unread xg) L16) ∗ (ah.view.loc c.tc ↦[ah.view.set]{fullShare} ah.view.writes (Elt F) (wh.unread xh) L17)) -∗ wp frame (wpE (defs₀ (F := F)) Variants.none c none) E k K))
          ⊢ wp frame (wpE (defs₀ (F := F)) Variants.none c none) E (diag i w3 w4 w5 w6 w7 w8 w9 wa wb wc wd we wf wg wh a2 hc k) K } := by
  refine ⟨?_, ?_, ?_, ?_, ?_, fun E k K => ?run⟩
  case run =>
    unfold diag
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f14, %hf14, H14⟩, ⟨%f15, %hf15, H15⟩, ⟨%f16, %hf16, H16⟩, ⟨%f17, %hf17, H17⟩, Hk⟩
    obtain rfl := w3.eq_unread hf3; obtain rfl := w4.eq_unread hf4; obtain rfl := w5.eq_unread hf5; obtain rfl := w6.eq_unread hf6; obtain rfl := w7.eq_unread hf7; obtain rfl := w8.eq_unread hf8; obtain rfl := w9.eq_unread hf9; obtain rfl := wa.eq_unread hf10; obtain rfl := we.eq_unread hf14; obtain rfl := wf.eq_unread hf15; obtain rfl := wg.eq_unread hf16; obtain rfl := wh.eq_unread hf17
    sl_exec
    iapply Hk
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    iframe H10 H14 H15 H16
    iexact H17

end Cert.AttnBwdIdeal.Hand

end
-- ==== Proof.AttnRunLast.lean ====
/-
  The last query tile, run.
-/
module

public import proofs.«01_k».proof.Proof.AttnRegions

@[expose] public section

set_option maxRecDepth 65536

noncomputable section

namespace Cert.AttnBwdIdeal.Hand

open Cert.AttnBwdIdeal Cert.AttnBwdIdeal.Gen
open Idealize.ShloMosaic TcCoe Tactic
open Idealize.SL RA BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- Run: the key tile's results written. -/
noncomputable def lastRun (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (a2 : BitVec 32) (hc : k0_cond5 i = 1#1)
    (xb xc : Vec F S1x688x512 .bf16) (xd : Vec F S1x688x128 .f32) (xg : Vec F S688x1024 .f32) (xh : Vec F S688x512 .f32) :
    Σ' (L11 : List (View.Piece (Elt F) S1x688x512 .bf16)), Σ' (L12 : List (View.Piece (Elt F) S1x688x512 .bf16)), { L13 : List (View.Piece (Elt F) S1x688x128 .f32) //
      ∀ (E : Set ℕ) (k : Prog (TpuEff nD τ sig (Elt F) Λ₀ .tc) PUnit) (K : PUnit → sProp 𝕄),
        iprop(owns c.tc ab fullShare xb ∗ owns c.tc ac fullShare xc ∗ owns c.tc ad fullShare xd ∗ owns c.tc ag fullShare xg ∗ owns c.tc ah fullShare xh
            ∗ (iprop((ab.view.loc c.tc ↦[ab.view.set]{fullShare} ab.view.writes (Elt F) (wb.unread xb) L11) ∗ (ac.view.loc c.tc ↦[ac.view.set]{fullShare} ac.view.writes (Elt F) (wc.unread xc) L12) ∗ (ad.view.loc c.tc ↦[ad.view.set]{fullShare} ad.view.writes (Elt F) (wd.unread xd) L13) ∗ owns c.tc ag fullShare xg ∗ owns c.tc ah fullShare xh) -∗ wp frame (wpE (defs₀ (F := F)) Variants.none c none) E k K))
          ⊢ wp frame (wpE (defs₀ (F := F)) Variants.none c none) E (last i w3 w4 w5 w6 w7 w8 w9 wa wb wc wd we wf wg wh a2 hc k) K } := by
  refine ⟨?_, ?_, ?_, fun E k K => ?run⟩
  case run =>
    unfold last
    simp only [k0_part56_eq_skeleton, k0_part57_eq_skeleton]
    unfold owns
    iintro ⟨⟨%f11, %hf11, H11⟩, ⟨%f12, %hf12, H12⟩, ⟨%f13, %hf13, H13⟩, ⟨%f16, %hf16, H16⟩, ⟨%f17, %hf17, H17⟩, Hk⟩
    obtain rfl := wb.eq_unread hf11; obtain rfl := wc.eq_unread hf12; obtain rfl := wd.eq_unread hf13; obtain rfl := wg.eq_unread hf16; obtain rfl := wh.eq_unread hf17
    sl_exec
    iapply Hk
    iframe H11 H12 H13
    isplitl [H16]
    · iexists _; isplitr; · ipureintro; exact wg.read_unread _
      iexact H16
    iexists _; isplitr; · ipureintro; exact wh.read_unread _
    iexact H17

end Cert.AttnBwdIdeal.Hand

end
-- ==== Proof.AttnBody.lean ====
/-
  The whole body: what it leaves in every buffer, region by region.
-/
module

public import proofs.«01_k».proof.Proof.Gen.AttnBwdIdeal.Frame
public import proofs.«01_k».proof.Proof.Gen.AttnBwdIdeal.Skeleton
public import Idealize.ShloMosaic.Lib.Pipeline.Frame
public import Idealize.ShloMosaic.Lib.Tactic
public import proofs.«01_k».proof.Proof.AttnRunZero
public import proofs.«01_k».proof.Proof.AttnRunFull
public import proofs.«01_k».proof.Proof.AttnRunDiag
public import proofs.«01_k».proof.Proof.AttnRunLast

@[expose] public section

set_option maxRecDepth 65536

noncomputable section

namespace Cert.AttnBwdIdeal.Hand

open Cert.AttnBwdIdeal Cert.AttnBwdIdeal.Gen
open Idealize.ShloMosaic TcCoe Tactic
open Idealize.SL RA BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole)

/-- What region `zeroQ` leaves in buffer 15. -/
noncomputable def zeroQ15 (xf : Vec F S2064x1024 .f32) : Vec F S2064x1024 .f32 :=
  af.view.read (Elt F) (af.view.writes (Elt F) (wf.unread xf) (zeroQRun c i w3 w4 w5 w6 w7 w8 w9 wa wb wc wd we wf wg wh (BitVec.ofNat 32 (i 2).val) xf).1)

theorem zeroQ_owns (xf : Vec F S2064x1024 .f32)
    (E : Set ℕ) (k : Prog (TpuEff nD τ sig (Elt F) Λ₀ .tc) PUnit) (K : PUnit → sProp 𝕄) :
    iprop(owns c.tc af fullShare xf ∗ (iprop(owns c.tc af fullShare (zeroQ15 c i w3 w4 w5 w6 w7 w8 w9 wa wb wc wd we wf wg wh xf)) -∗ wp frame (wpE (defs₀ (F := F)) Variants.none c none) E k K))
      ⊢ wp frame (wpE (defs₀ (F := F)) Variants.none c none) E (zeroQ i w3 w4 w5 w6 w7 w8 w9 wa wb wc wd we wf wg wh (BitVec.ofNat 32 (i 2).val) k) K := by
  iintro ⟨H15, Hk⟩
  iapply ((zeroQRun c i w3 w4 w5 w6 w7 w8 w9 wa wb wc wd we wf wg wh (BitVec.ofNat 32 (i 2).val) xf).2 E k K)
  isplitl [H15]; · iexact H15
  iintro ⟨H15⟩
  iapply Hk
  unfold owns; iexists _; isplitr; swap; · iexact H15
  ipureintro; rfl

/-- What region `zeroK` leaves in buffer 16. -/
noncomputable def zeroK16 (xg : Vec F S688x1024 .f32) (xh : Vec F S688x512 .f32) : Vec F S688x1024 .f32 :=
  ag.view.read (Elt F) (ag.view.writes (Elt F) (wg.unread xg) (zeroKRun c i w3 w4 w5 w6 w7 w8 w9 wa wb wc wd we wf wg wh (BitVec.ofNat 32 (i 2).val) xg xh).1)

/-- What region `zeroK` leaves in buffer 17. -/
noncomputable def zeroK17 (xg : Vec F S688x1024 .f32) (xh : Vec F S688x512 .f32) : Vec F S688x512 .f32 :=
  ah.view.read (Elt F) (ah.view.writes (Elt F) (wh.unread xh) (zeroKRun c i w3 w4 w5 w6 w7 w8 w9 wa wb wc wd we wf wg wh (BitVec.ofNat 32 (i 2).val) xg xh).2.1)

theorem zeroK_owns (xg : Vec F S688x1024 .f32) (xh : Vec F S688x512 .f32)
    (E : Set ℕ) (k : Prog (TpuEff nD τ sig (Elt F) Λ₀ .tc) PUnit) (K : PUnit → sProp 𝕄) :
    iprop(owns c.tc ag fullShare xg ∗ owns c.tc ah fullShare xh ∗ (iprop(owns c.tc ag fullShare (zeroK16 c i w3 w4 w5 w6 w7 w8 w9 wa wb wc wd we wf wg wh xg xh) ∗ owns c.tc ah fullShare (zeroK17 c i w3 w4 w5 w6 w7 w8 w9 wa wb wc wd we wf wg wh xg xh)) -∗ wp frame (wpE (defs₀ (F := F)) Variants.none c none) E k K))
      ⊢ wp frame (wpE (defs₀ (F := F)) Variants.none c none) E (zeroK i w3 w4 w5 w6 w7 w8 w9 wa wb wc wd we wf wg wh (BitVec.ofNat 32 (i 2).val) k) K := by
  iintro ⟨H16, H17, Hk⟩
  iapply ((zeroKRun c i w3 w4 w5 w6 w7 w8 w9 wa wb wc wd we wf wg wh (BitVec.ofNat 32 (i 2).val) xg xh).2.2 E k K)
  iframe H16 H17
  iintro ⟨H16, H17⟩
  iapply Hk
  isplitl [H16]
  · unfold owns; iexists _; isplitr; swap; · iexact H16
    ipureintro; rfl
  unfold owns; iexists _; isplitr; swap; · iexact H17
  ipureintro; rfl

section

variable (hc : k0_cond3 i = 1#1) (x3 x4 x5 : Vec F S1x688x512 .bf16) (x6 : Vec F S1x688x512 .f32) (x7 : Vec F S1x688x512 .bf16) (x8 : Vec F S1x688x128 .f32) (x9 : Vec F S1x1x8x688 .f32) (xf : Vec F S2064x1024 .f32) (xg : Vec F S688x1024 .f32) (xh : Vec F S688x512 .f32)

/-- What region `full` leaves in buffer 15. -/
noncomputable def full15 : Vec F S2064x1024 .f32 :=
  af.view.read (Elt F) (af.view.writes (Elt F) (wf.unread xf) (fullRun c i w3 w4 w5 w6 w7 w8 w9 wa wb wc wd we wf wg wh (BitVec.ofNat 32 (i 2).val) hc x3 x4 x5 x6 x7 x8 x9 xf xg xh).1)

/-- What region `full` leaves in buffer 16. -/
noncomputable def full16 : Vec F S688x1024 .f32 :=
  ag.view.read (Elt F) (ag.view.writes (Elt F) (wg.unread xg) (fullRun c i w3 w4 w5 w6 w7 w8 w9 wa wb wc wd we wf wg wh (BitVec.ofNat 32 (i 2).val) hc x3 x4 x5 x6 x7 x8 x9 xf xg xh).2.1)

/-- What region `full` leaves in buffer 17. -/
noncomputable def full17 : Vec F S688x512 .f32 :=
  ah.view.read (Elt F) (ah.view.writes (Elt F) (wh.unread xh) (fullRun c i w3 w4 w5 w6 w7 w8 w9 wa wb wc wd we wf wg wh (BitVec.ofNat 32 (i 2).val) hc x3 x4 x5 x6 x7 x8 x9 xf xg xh).2.2.1)

theorem full_owns
    (E : Set ℕ) (k : Prog (TpuEff nD τ sig (Elt F) Λ₀ .tc) PUnit) (K : PUnit → sProp 𝕄) :
    iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc af fullShare xf ∗ owns c.tc ag fullShare xg ∗ owns c.tc ah fullShare xh ∗ (iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc af fullShare (full15 c i w3 w4 w5 w6 w7 w8 w9 wa wb wc wd we wf wg wh hc x3 x4 x5 x6 x7 x8 x9 xf xg xh) ∗ owns c.tc ag fullShare (full16 c i w3 w4 w5 w6 w7 w8 w9 wa wb wc wd we wf wg wh hc x3 x4 x5 x6 x7 x8 x9 xf xg xh) ∗ owns c.tc ah fullShare (full17 c i w3 w4 w5 w6 w7 w8 w9 wa wb wc wd we wf wg wh hc x3 x4 x5 x6 x7 x8 x9 xf xg xh)) -∗ wp frame (wpE (defs₀ (F := F)) Variants.none c none) E k K))
      ⊢ wp frame (wpE (defs₀ (F := F)) Variants.none c none) E (full i w3 w4 w5 w6 w7 w8 w9 wa wb wc wd we wf wg wh (BitVec.ofNat 32 (i 2).val) hc k) K := by
  iintro ⟨H3, H4, H5, H6, H7, H8, H9, H15, H16, H17, Hk⟩
  iapply ((fullRun c i w3 w4 w5 w6 w7 w8 w9 wa wb wc wd we wf wg wh (BitVec.ofNat 32 (i 2).val) hc x3 x4 x5 x6 x7 x8 x9 xf xg xh).2.2.2 E k K)
  iframe H3 H4 H5 H6 H7 H8 H9 H15 H16 H17
  iintro ⟨H3, H4, H5, H6, H7, H8, H9, H15, H16, H17⟩
  iapply Hk
  iframe H3 H4 H5 H6 H7 H8 H9
  isplitl [H15]
  · unfold owns; iexists _; isplitr; swap; · iexact H15
    ipureintro; rfl
  isplitl [H16]
  · unfold owns; iexists _; isplitr; swap; · iexact H16
    ipureintro; rfl
  unfold owns; iexists _; isplitr; swap; · iexact H17
  ipureintro; rfl

end

section

variable (hc : k0_cond4 i = 1#1) (x3 x4 x5 : Vec F S1x688x512 .bf16) (x6 : Vec F S1x688x512 .f32) (x7 : Vec F S1x688x512 .bf16) (x8 : Vec F S1x688x128 .f32) (x9 : Vec F S1x1x8x688 .f32) (xa : Vec F S1x2064x512 .f32) (xe : Vec F S1x2064x128 .f32) (xf : Vec F S2064x1024 .f32) (xg : Vec F S688x1024 .f32) (xh : Vec F S688x512 .f32)

/-- What region `diag` leaves in buffer 10. -/
noncomputable def diag10 : Vec F S1x2064x512 .f32 :=
  aa.view.read (Elt F) (aa.view.writes (Elt F) (wa.unread xa) (diagRun c i w3 w4 w5 w6 w7 w8 w9 wa wb wc wd we wf wg wh (BitVec.ofNat 32 (i 2).val) hc x3 x4 x5 x6 x7 x8 x9 xa xe xf xg xh).1)

/-- What region `diag` leaves in buffer 14. -/
noncomputable def diag14 : Vec F S1x2064x128 .f32 :=
  ae.view.read (Elt F) (ae.view.writes (Elt F) (we.unread xe) (diagRun c i w3 w4 w5 w6 w7 w8 w9 wa wb wc wd we wf wg wh (BitVec.ofNat 32 (i 2).val) hc x3 x4 x5 x6 x7 x8 x9 xa xe xf xg xh).2.1)

/-- What region `diag` leaves in buffer 15. -/
noncomputable def diag15 : Vec F S2064x1024 .f32 :=
  af.view.read (Elt F) (af.view.writes (Elt F) (wf.unread xf) (diagRun c i w3 w4 w5 w6 w7 w8 w9 wa wb wc wd we wf wg wh (BitVec.ofNat 32 (i 2).val) hc x3 x4 x5 x6 x7 x8 x9 xa xe xf xg xh).2.2.1)

/-- What region `diag` leaves in buffer 16. -/
noncomputable def diag16 : Vec F S688x1024 .f32 :=
  ag.view.read (Elt F) (ag.view.writes (Elt F) (wg.unread xg) (diagRun c i w3 w4 w5 w6 w7 w8 w9 wa wb wc wd we wf wg wh (BitVec.ofNat 32 (i 2).val) hc x3 x4 x5 x6 x7 x8 x9 xa xe xf xg xh).2.2.2.1)

/-- What region `diag` leaves in buffer 17. -/
noncomputable def diag17 : Vec F S688x512 .f32 :=
  ah.view.read (Elt F) (ah.view.writes (Elt F) (wh.unread xh) (diagRun c i w3 w4 w5 w6 w7 w8 w9 wa wb wc wd we wf wg wh (BitVec.ofNat 32 (i 2).val) hc x3 x4 x5 x6 x7 x8 x9 xa xe xf xg xh).2.2.2.2.1)

theorem diag_owns
    (E : Set ℕ) (k : Prog (TpuEff nD τ sig (Elt F) Λ₀ .tc) PUnit) (K : PUnit → sProp 𝕄) :
    iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare xa ∗ owns c.tc ae fullShare xe ∗ owns c.tc af fullShare xf ∗ owns c.tc ag fullShare xg ∗ owns c.tc ah fullShare xh ∗ (iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare (diag10 c i w3 w4 w5 w6 w7 w8 w9 wa wb wc wd we wf wg wh hc x3 x4 x5 x6 x7 x8 x9 xa xe xf xg xh) ∗ owns c.tc ae fullShare (diag14 c i w3 w4 w5 w6 w7 w8 w9 wa wb wc wd we wf wg wh hc x3 x4 x5 x6 x7 x8 x9 xa xe xf xg xh) ∗ owns c.tc af fullShare (diag15 c i w3 w4 w5 w6 w7 w8 w9 wa wb wc wd we wf wg wh hc x3 x4 x5 x6 x7 x8 x9 xa xe xf xg xh) ∗ owns c.tc ag fullShare (diag16 c i w3 w4 w5 w6 w7 w8 w9 wa wb wc wd we wf wg wh hc x3 x4 x5 x6 x7 x8 x9 xa xe xf xg xh) ∗ owns c.tc ah fullShare (diag17 c i w3 w4 w5 w6 w7 w8 w9 wa wb wc wd we wf wg wh hc x3 x4 x5 x6 x7 x8 x9 xa xe xf xg xh)) -∗ wp frame (wpE (defs₀ (F := F)) Variants.none c none) E k K))
      ⊢ wp frame (wpE (defs₀ (F := F)) Variants.none c none) E (diag i w3 w4 w5 w6 w7 w8 w9 wa wb wc wd we wf wg wh (BitVec.ofNat 32 (i 2).val) hc k) K := by
  iintro ⟨H3, H4, H5, H6, H7, H8, H9, H10, H14, H15, H16, H17, Hk⟩
  iapply ((diagRun c i w3 w4 w5 w6 w7 w8 w9 wa wb wc wd we wf wg wh (BitVec.ofNat 32 (i 2).val) hc x3 x4 x5 x6 x7 x8 x9 xa xe xf xg xh).2.2.2.2.2 E k K)
  iframe H3 H4 H5 H6 H7 H8 H9 H10 H14 H15 H16 H17
  iintro ⟨H3, H4, H5, H6, H7, H8, H9, H10, H14, H15, H16, H17⟩
  iapply Hk
  iframe H3 H4 H5 H6 H7 H8 H9
  isplitl [H10]
  · unfold owns; iexists _; isplitr; swap; · iexact H10
    ipureintro; rfl
  isplitl [H14]
  · unfold owns; iexists _; isplitr; swap; · iexact H14
    ipureintro; rfl
  isplitl [H15]
  · unfold owns; iexists _; isplitr; swap; · iexact H15
    ipureintro; rfl
  isplitl [H16]
  · unfold owns; iexists _; isplitr; swap; · iexact H16
    ipureintro; rfl
  unfold owns; iexists _; isplitr; swap; · iexact H17
  ipureintro; rfl

end

section

variable (hc : k0_cond5 i = 1#1) (xb xc : Vec F S1x688x512 .bf16) (xd : Vec F S1x688x128 .f32) (xg : Vec F S688x1024 .f32) (xh : Vec F S688x512 .f32)

/-- What region `last` leaves in buffer 11. -/
noncomputable def last11 : Vec F S1x688x512 .bf16 :=
  ab.view.read (Elt F) (ab.view.writes (Elt F) (wb.unread xb) (lastRun c i w3 w4 w5 w6 w7 w8 w9 wa wb wc wd we wf wg wh (BitVec.ofNat 32 (i 2).val) hc xb xc xd xg xh).1)

/-- What region `last` leaves in buffer 12. -/
noncomputable def last12 : Vec F S1x688x512 .bf16 :=
  ac.view.read (Elt F) (ac.view.writes (Elt F) (wc.unread xc) (lastRun c i w3 w4 w5 w6 w7 w8 w9 wa wb wc wd we wf wg wh (BitVec.ofNat 32 (i 2).val) hc xb xc xd xg xh).2.1)

/-- What region `last` leaves in buffer 13. -/
noncomputable def last13 : Vec F S1x688x128 .f32 :=
  ad.view.read (Elt F) (ad.view.writes (Elt F) (wd.unread xd) (lastRun c i w3 w4 w5 w6 w7 w8 w9 wa wb wc wd we wf wg wh (BitVec.ofNat 32 (i 2).val) hc xb xc xd xg xh).2.2.1)

theorem last_owns
    (E : Set ℕ) (k : Prog (TpuEff nD τ sig (Elt F) Λ₀ .tc) PUnit) (K : PUnit → sProp 𝕄) :
    iprop(owns c.tc ab fullShare xb ∗ owns c.tc ac fullShare xc ∗ owns c.tc ad fullShare xd ∗ owns c.tc ag fullShare xg ∗ owns c.tc ah fullShare xh ∗ (iprop(owns c.tc ab fullShare (last11 c i w3 w4 w5 w6 w7 w8 w9 wa wb wc wd we wf wg wh hc xb xc xd xg xh) ∗ owns c.tc ac fullShare (last12 c i w3 w4 w5 w6 w7 w8 w9 wa wb wc wd we wf wg wh hc xb xc xd xg xh) ∗ owns c.tc ad fullShare (last13 c i w3 w4 w5 w6 w7 w8 w9 wa wb wc wd we wf wg wh hc xb xc xd xg xh) ∗ owns c.tc ag fullShare xg ∗ owns c.tc ah fullShare xh) -∗ wp frame (wpE (defs₀ (F := F)) Variants.none c none) E k K))
      ⊢ wp frame (wpE (defs₀ (F := F)) Variants.none c none) E (last i w3 w4 w5 w6 w7 w8 w9 wa wb wc wd we wf wg wh (BitVec.ofNat 32 (i 2).val) hc k) K := by
  iintro ⟨H11, H12, H13, H16, H17, Hk⟩
  iapply ((lastRun c i w3 w4 w5 w6 w7 w8 w9 wa wb wc wd we wf wg wh (BitVec.ofNat 32 (i 2).val) hc xb xc xd xg xh).2.2.2 E k K)
  iframe H11 H12 H13 H16 H17
  iintro ⟨H11, H12, H13, H16, H17⟩
  iapply Hk
  isplitl [H11]
  · unfold owns; iexists _; isplitr; swap; · iexact H11
    ipureintro; rfl
  isplitl [H12]
  · unfold owns; iexists _; isplitr; swap; · iexact H12
    ipureintro; rfl
  isplitl [H13]
  · unfold owns; iexists _; isplitr; swap; · iexact H13
    ipureintro; rfl
  isplitl [H16]; · iexact H16
  iexact H17

end

/-- Buffer 15 after region 1. -/
noncomputable def after1_15 (x3 x4 x5 : Vec F S1x688x512 .bf16) (x6 : Vec F S1x688x512 .f32) (x7 : Vec F S1x688x512 .bf16) (x8 : Vec F S1x688x128 .f32) (x9 : Vec F S1x1x8x688 .f32) (xa : Vec F S1x2064x512 .f32) (xb xc : Vec F S1x688x512 .bf16) (xd : Vec F S1x688x128 .f32) (xe : Vec F S1x2064x128 .f32) (xf : Vec F S2064x1024 .f32) (xg : Vec F S688x1024 .f32) (xh : Vec F S688x512 .f32) : Vec F S2064x1024 .f32 :=
  if cond1 i then zeroQ15 c i w3 w4 w5 w6 w7 w8 w9 wa wb wc wd we wf wg wh xf else xf

/-- Buffer 16 after region 2. -/
noncomputable def after2_16 (x3 x4 x5 : Vec F S1x688x512 .bf16) (x6 : Vec F S1x688x512 .f32) (x7 : Vec F S1x688x512 .bf16) (x8 : Vec F S1x688x128 .f32) (x9 : Vec F S1x1x8x688 .f32) (xa : Vec F S1x2064x512 .f32) (xb xc : Vec F S1x688x512 .bf16) (xd : Vec F S1x688x128 .f32) (xe : Vec F S1x2064x128 .f32) (xf : Vec F S2064x1024 .f32) (xg : Vec F S688x1024 .f32) (xh : Vec F S688x512 .f32) : Vec F S688x1024 .f32 :=
  if cond2 i then zeroK16 c i w3 w4 w5 w6 w7 w8 w9 wa wb wc wd we wf wg wh xg xh else xg

/-- Buffer 17 after region 2. -/
noncomputable def after2_17 (x3 x4 x5 : Vec F S1x688x512 .bf16) (x6 : Vec F S1x688x512 .f32) (x7 : Vec F S1x688x512 .bf16) (x8 : Vec F S1x688x128 .f32) (x9 : Vec F S1x1x8x688 .f32) (xa : Vec F S1x2064x512 .f32) (xb xc : Vec F S1x688x512 .bf16) (xd : Vec F S1x688x128 .f32) (xe : Vec F S1x2064x128 .f32) (xf : Vec F S2064x1024 .f32) (xg : Vec F S688x1024 .f32) (xh : Vec F S688x512 .f32) : Vec F S688x512 .f32 :=
  if cond2 i then zeroK17 c i w3 w4 w5 w6 w7 w8 w9 wa wb wc wd we wf wg wh xg xh else xh

variable (x3 x4 x5 : Vec F S1x688x512 .bf16) (x6 : Vec F S1x688x512 .f32) (x7 : Vec F S1x688x512 .bf16) (x8 : Vec F S1x688x128 .f32) (x9 : Vec F S1x1x8x688 .f32) (xa : Vec F S1x2064x512 .f32) (xb xc : Vec F S1x688x512 .bf16) (xd : Vec F S1x688x128 .f32) (xe : Vec F S1x2064x128 .f32) (xf : Vec F S2064x1024 .f32) (xg : Vec F S688x1024 .f32) (xh : Vec F S688x512 .f32)

/-- Buffer 15 after region 3. -/
noncomputable def after3_15 : Vec F S2064x1024 .f32 :=
  if h : k0_cond3 i = 1#1 then full15 c i w3 w4 w5 w6 w7 w8 w9 wa wb wc wd we wf wg wh h x3 x4 x5 x6 x7 x8 x9 (after1_15 c i w3 w4 w5 w6 w7 w8 w9 wa wb wc wd we wf wg wh x3 x4 x5 x6 x7 x8 x9 xa xb xc xd xe xf xg xh) (after2_16 c i w3 w4 w5 w6 w7 w8 w9 wa wb wc wd we wf wg wh x3 x4 x5 x6 x7 x8 x9 xa xb xc xd xe xf xg xh) (after2_17 c i w3 w4 w5 w6 w7 w8 w9 wa wb wc wd we wf wg wh x3 x4 x5 x6 x7 x8 x9 xa xb xc xd xe xf xg xh) else after1_15 c i w3 w4 w5 w6 w7 w8 w9 wa wb wc wd we wf wg wh x3 x4 x5 x6 x7 x8 x9 xa xb xc xd xe xf xg xh

/-- Buffer 16 after region 3. -/
noncomputable def after3_16 : Vec F S688x1024 .f32 :=
  if h : k0_cond3 i = 1#1 then full16 c i w3 w4 w5 w6 w7 w8 w9 wa wb wc wd we wf wg wh h x3 x4 x5 x6 x7 x8 x9 (after1_15 c i w3 w4 w5 w6 w7 w8 w9 wa wb wc wd we wf wg wh x3 x4 x5 x6 x7 x8 x9 xa xb xc xd xe xf xg xh) (after2_16 c i w3 w4 w5 w6 w7 w8 w9 wa wb wc wd we wf wg wh x3 x4 x5 x6 x7 x8 x9 xa xb xc xd xe xf xg xh) (after2_17 c i w3 w4 w5 w6 w7 w8 w9 wa wb wc wd we wf wg wh x3 x4 x5 x6 x7 x8 x9 xa xb xc xd xe xf xg xh) else after2_16 c i w3 w4 w5 w6 w7 w8 w9 wa wb wc wd we wf wg wh x3 x4 x5 x6 x7 x8 x9 xa xb xc xd xe xf xg xh

/-- Buffer 17 after region 3. -/
noncomputable def after3_17 : Vec F S688x512 .f32 :=
  if h : k0_cond3 i = 1#1 then full17 c i w3 w4 w5 w6 w7 w8 w9 wa wb wc wd we wf wg wh h x3 x4 x5 x6 x7 x8 x9 (after1_15 c i w3 w4 w5 w6 w7 w8 w9 wa wb wc wd we wf wg wh x3 x4 x5 x6 x7 x8 x9 xa xb xc xd xe xf xg xh) (after2_16 c i w3 w4 w5 w6 w7 w8 w9 wa wb wc wd we wf wg wh x3 x4 x5 x6 x7 x8 x9 xa xb xc xd xe xf xg xh) (after2_17 c i w3 w4 w5 w6 w7 w8 w9 wa wb wc wd we wf wg wh x3 x4 x5 x6 x7 x8 x9 xa xb xc xd xe xf xg xh) else after2_17 c i w3 w4 w5 w6 w7 w8 w9 wa wb wc wd we wf wg wh x3 x4 x5 x6 x7 x8 x9 xa xb xc xd xe xf xg xh

/-- Buffer 10 after region 4. -/
noncomputable def after4_10 : Vec F S1x2064x512 .f32 :=
  if h : k0_cond4 i = 1#1 then diag10 c i w3 w4 w5 w6 w7 w8 w9 wa wb wc wd we wf wg wh h x3 x4 x5 x6 x7 x8 x9 xa xe (after3_15 c i w3 w4 w5 w6 w7 w8 w9 wa wb wc wd we wf wg wh x3 x4 x5 x6 x7 x8 x9 xa xb xc xd xe xf xg xh) (after3_16 c i w3 w4 w5 w6 w7 w8 w9 wa wb wc wd we wf wg wh x3 x4 x5 x6 x7 x8 x9 xa xb xc xd xe xf xg xh) (after3_17 c i w3 w4 w5 w6 w7 w8 w9 wa wb wc wd we wf wg wh x3 x4 x5 x6 x7 x8 x9 xa xb xc xd xe xf xg xh) else xa

/-- Buffer 14 after region 4. -/
noncomputable def after4_14 : Vec F S1x2064x128 .f32 :=
  if h : k0_cond4 i = 1#1 then diag14 c i w3 w4 w5 w6 w7 w8 w9 wa wb wc wd we wf wg wh h x3 x4 x5 x6 x7 x8 x9 xa xe (after3_15 c i w3 w4 w5 w6 w7 w8 w9 wa wb wc wd we wf wg wh x3 x4 x5 x6 x7 x8 x9 xa xb xc xd xe xf xg xh) (after3_16 c i w3 w4 w5 w6 w7 w8 w9 wa wb wc wd we wf wg wh x3 x4 x5 x6 x7 x8 x9 xa xb xc xd xe xf xg xh) (after3_17 c i w3 w4 w5 w6 w7 w8 w9 wa wb wc wd we wf wg wh x3 x4 x5 x6 x7 x8 x9 xa xb xc xd xe xf xg xh) else xe

/-- Buffer 15 after region 4. -/
noncomputable def after4_15 : Vec F S2064x1024 .f32 :=
  if h : k0_cond4 i = 1#1 then diag15 c i w3 w4 w5 w6 w7 w8 w9 wa wb wc wd we wf wg wh h x3 x4 x5 x6 x7 x8 x9 xa xe (after3_15 c i w3 w4 w5 w6 w7 w8 w9 wa wb wc wd we wf wg wh x3 x4 x5 x6 x7 x8 x9 xa xb xc xd xe xf xg xh) (after3_16 c i w3 w4 w5 w6 w7 w8 w9 wa wb wc wd we wf wg wh x3 x4 x5 x6 x7 x8 x9 xa xb xc xd xe xf xg xh) (after3_17 c i w3 w4 w5 w6 w7 w8 w9 wa wb wc wd we wf wg wh x3 x4 x5 x6 x7 x8 x9 xa xb xc xd xe xf xg xh) else after3_15 c i w3 w4 w5 w6 w7 w8 w9 wa wb wc wd we wf wg wh x3 x4 x5 x6 x7 x8 x9 xa xb xc xd xe xf xg xh

/-- Buffer 16 after region 4. -/
noncomputable def after4_16 : Vec F S688x1024 .f32 :=
  if h : k0_cond4 i = 1#1 then diag16 c i w3 w4 w5 w6 w7 w8 w9 wa wb wc wd we wf wg wh h x3 x4 x5 x6 x7 x8 x9 xa xe (after3_15 c i w3 w4 w5 w6 w7 w8 w9 wa wb wc wd we wf wg wh x3 x4 x5 x6 x7 x8 x9 xa xb xc xd xe xf xg xh) (after3_16 c i w3 w4 w5 w6 w7 w8 w9 wa wb wc wd we wf wg wh x3 x4 x5 x6 x7 x8 x9 xa xb xc xd xe xf xg xh) (after3_17 c i w3 w4 w5 w6 w7 w8 w9 wa wb wc wd we wf wg wh x3 x4 x5 x6 x7 x8 x9 xa xb xc xd xe xf xg xh) else after3_16 c i w3 w4 w5 w6 w7 w8 w9 wa wb wc wd we wf wg wh x3 x4 x5 x6 x7 x8 x9 xa xb xc xd xe xf xg xh

/-- Buffer 17 after region 4. -/
noncomputable def after4_17 : Vec F S688x512 .f32 :=
  if h : k0_cond4 i = 1#1 then diag17 c i w3 w4 w5 w6 w7 w8 w9 wa wb wc wd we wf wg wh h x3 x4 x5 x6 x7 x8 x9 xa xe (after3_15 c i w3 w4 w5 w6 w7 w8 w9 wa wb wc wd we wf wg wh x3 x4 x5 x6 x7 x8 x9 xa xb xc xd xe xf xg xh) (after3_16 c i w3 w4 w5 w6 w7 w8 w9 wa wb wc wd we wf wg wh x3 x4 x5 x6 x7 x8 x9 xa xb xc xd xe xf xg xh) (after3_17 c i w3 w4 w5 w6 w7 w8 w9 wa wb wc wd we wf wg wh x3 x4 x5 x6 x7 x8 x9 xa xb xc xd xe xf xg xh) else after3_17 c i w3 w4 w5 w6 w7 w8 w9 wa wb wc wd we wf wg wh x3 x4 x5 x6 x7 x8 x9 xa xb xc xd xe xf xg xh

/-- Buffer 11 after region 5. -/
noncomputable def after5_11 : Vec F S1x688x512 .bf16 :=
  if h : k0_cond5 i = 1#1 then last11 c i w3 w4 w5 w6 w7 w8 w9 wa wb wc wd we wf wg wh h xb xc xd (after4_16 c i w3 w4 w5 w6 w7 w8 w9 wa wb wc wd we wf wg wh x3 x4 x5 x6 x7 x8 x9 xa xb xc xd xe xf xg xh) (after4_17 c i w3 w4 w5 w6 w7 w8 w9 wa wb wc wd we wf wg wh x3 x4 x5 x6 x7 x8 x9 xa xb xc xd xe xf xg xh) else xb

/-- Buffer 12 after region 5. -/
noncomputable def after5_12 : Vec F S1x688x512 .bf16 :=
  if h : k0_cond5 i = 1#1 then last12 c i w3 w4 w5 w6 w7 w8 w9 wa wb wc wd we wf wg wh h xb xc xd (after4_16 c i w3 w4 w5 w6 w7 w8 w9 wa wb wc wd we wf wg wh x3 x4 x5 x6 x7 x8 x9 xa xb xc xd xe xf xg xh) (after4_17 c i w3 w4 w5 w6 w7 w8 w9 wa wb wc wd we wf wg wh x3 x4 x5 x6 x7 x8 x9 xa xb xc xd xe xf xg xh) else xc

/-- Buffer 13 after region 5. -/
noncomputable def after5_13 : Vec F S1x688x128 .f32 :=
  if h : k0_cond5 i = 1#1 then last13 c i w3 w4 w5 w6 w7 w8 w9 wa wb wc wd we wf wg wh h xb xc xd (after4_16 c i w3 w4 w5 w6 w7 w8 w9 wa wb wc wd we wf wg wh x3 x4 x5 x6 x7 x8 x9 xa xb xc xd xe xf xg xh) (after4_17 c i w3 w4 w5 w6 w7 w8 w9 wa wb wc wd we wf wg wh x3 x4 x5 x6 x7 x8 x9 xa xb xc xd xe xf xg xh) else xd

/-- What is owned after region 5. -/
local notation "ended" => iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare (after4_10 c i w3 w4 w5 w6 w7 w8 w9 wa wb wc wd we wf wg wh x3 x4 x5 x6 x7 x8 x9 xa xb xc xd xe xf xg xh) ∗ owns c.tc ab fullShare (after5_11 c i w3 w4 w5 w6 w7 w8 w9 wa wb wc wd we wf wg wh x3 x4 x5 x6 x7 x8 x9 xa xb xc xd xe xf xg xh) ∗ owns c.tc ac fullShare (after5_12 c i w3 w4 w5 w6 w7 w8 w9 wa wb wc wd we wf wg wh x3 x4 x5 x6 x7 x8 x9 xa xb xc xd xe xf xg xh) ∗ owns c.tc ad fullShare (after5_13 c i w3 w4 w5 w6 w7 w8 w9 wa wb wc wd we wf wg wh x3 x4 x5 x6 x7 x8 x9 xa xb xc xd xe xf xg xh) ∗ owns c.tc ae fullShare (after4_14 c i w3 w4 w5 w6 w7 w8 w9 wa wb wc wd we wf wg wh x3 x4 x5 x6 x7 x8 x9 xa xb xc xd xe xf xg xh) ∗ owns c.tc af fullShare (after4_15 c i w3 w4 w5 w6 w7 w8 w9 wa wb wc wd we wf wg wh x3 x4 x5 x6 x7 x8 x9 xa xb xc xd xe xf xg xh) ∗ owns c.tc ag fullShare (after4_16 c i w3 w4 w5 w6 w7 w8 w9 wa wb wc wd we wf wg wh x3 x4 x5 x6 x7 x8 x9 xa xb xc xd xe xf xg xh) ∗ owns c.tc ah fullShare (after4_17 c i w3 w4 w5 w6 w7 w8 w9 wa wb wc wd we wf wg wh x3 x4 x5 x6 x7 x8 x9 xa xb xc xd xe xf xg xh))

theorem from5_run (E : Set ℕ) (K : PUnit → sProp 𝕄) :
    iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare (after4_10 c i w3 w4 w5 w6 w7 w8 w9 wa wb wc wd we wf wg wh x3 x4 x5 x6 x7 x8 x9 xa xb xc xd xe xf xg xh) ∗ owns c.tc ab fullShare xb ∗ owns c.tc ac fullShare xc ∗ owns c.tc ad fullShare xd ∗ owns c.tc ae fullShare (after4_14 c i w3 w4 w5 w6 w7 w8 w9 wa wb wc wd we wf wg wh x3 x4 x5 x6 x7 x8 x9 xa xb xc xd xe xf xg xh) ∗ owns c.tc af fullShare (after4_15 c i w3 w4 w5 w6 w7 w8 w9 wa wb wc wd we wf wg wh x3 x4 x5 x6 x7 x8 x9 xa xb xc xd xe xf xg xh) ∗ owns c.tc ag fullShare (after4_16 c i w3 w4 w5 w6 w7 w8 w9 wa wb wc wd we wf wg wh x3 x4 x5 x6 x7 x8 x9 xa xb xc xd xe xf xg xh) ∗ owns c.tc ah fullShare (after4_17 c i w3 w4 w5 w6 w7 w8 w9 wa wb wc wd we wf wg wh x3 x4 x5 x6 x7 x8 x9 xa xb xc xd xe xf xg xh) ∗ (ended -∗ K ⟨⟩))
      ⊢ wp frame (wpE (defs₀ (F := F)) Variants.none c none) E (from5 i w3 w4 w5 w6 w7 w8 w9 wa wb wc wd we wf wg wh) K := by
  iintro ⟨H3, H4, H5, H6, H7, H8, H9, H10, H11, H12, H13, H14, H15, H16, H17, Hk⟩
  unfold from5
  by_cases h : k0_cond5 i = 1#1
  · rw [dif_pos h]
    iapply (last_owns c i w3 w4 w5 w6 w7 w8 w9 wa wb wc wd we wf wg wh h xb xc xd (after4_16 c i w3 w4 w5 w6 w7 w8 w9 wa wb wc wd we wf wg wh x3 x4 x5 x6 x7 x8 x9 xa xb xc xd xe xf xg xh) (after4_17 c i w3 w4 w5 w6 w7 w8 w9 wa wb wc wd we wf wg wh x3 x4 x5 x6 x7 x8 x9 xa xb xc xd xe xf xg xh) E _ K)
    iframe H11 H12 H13 H16 H17
    iintro ⟨H11, H12, H13, H16, H17⟩
    sl_step
    iapply Hk
    iframe H3 H4 H5 H6 H7 H8 H9 H10
    isplitl [H11]; · rw [after5_11, dif_pos h]; iexact H11
    isplitl [H12]; · rw [after5_12, dif_pos h]; iexact H12
    isplitl [H13]; · rw [after5_13, dif_pos h]; iexact H13
    iframe H14 H15 H16
    iexact H17
  · rw [dif_neg h]
    sl_step
    iapply Hk
    iframe H3 H4 H5 H6 H7 H8 H9 H10
    isplitl [H11]; · rw [after5_11, dif_neg h]; iexact H11
    isplitl [H12]; · rw [after5_12, dif_neg h]; iexact H12
    isplitl [H13]; · rw [after5_13, dif_neg h]; iexact H13
    iframe H14 H15 H16
    iexact H17

theorem from4_run (E : Set ℕ) (K : PUnit → sProp 𝕄) :
    iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare xa ∗ owns c.tc ab fullShare xb ∗ owns c.tc ac fullShare xc ∗ owns c.tc ad fullShare xd ∗ owns c.tc ae fullShare xe ∗ owns c.tc af fullShare (after3_15 c i w3 w4 w5 w6 w7 w8 w9 wa wb wc wd we wf wg wh x3 x4 x5 x6 x7 x8 x9 xa xb xc xd xe xf xg xh) ∗ owns c.tc ag fullShare (after3_16 c i w3 w4 w5 w6 w7 w8 w9 wa wb wc wd we wf wg wh x3 x4 x5 x6 x7 x8 x9 xa xb xc xd xe xf xg xh) ∗ owns c.tc ah fullShare (after3_17 c i w3 w4 w5 w6 w7 w8 w9 wa wb wc wd we wf wg wh x3 x4 x5 x6 x7 x8 x9 xa xb xc xd xe xf xg xh) ∗ (ended -∗ K ⟨⟩))
      ⊢ wp frame (wpE (defs₀ (F := F)) Variants.none c none) E (from4 i w3 w4 w5 w6 w7 w8 w9 wa wb wc wd we wf wg wh) K := by
  iintro ⟨H3, H4, H5, H6, H7, H8, H9, H10, H11, H12, H13, H14, H15, H16, H17, Hk⟩
  unfold from4
  by_cases h : k0_cond4 i = 1#1
  · rw [dif_pos h]
    iapply (diag_owns c i w3 w4 w5 w6 w7 w8 w9 wa wb wc wd we wf wg wh h x3 x4 x5 x6 x7 x8 x9 xa xe (after3_15 c i w3 w4 w5 w6 w7 w8 w9 wa wb wc wd we wf wg wh x3 x4 x5 x6 x7 x8 x9 xa xb xc xd xe xf xg xh) (after3_16 c i w3 w4 w5 w6 w7 w8 w9 wa wb wc wd we wf wg wh x3 x4 x5 x6 x7 x8 x9 xa xb xc xd xe xf xg xh) (after3_17 c i w3 w4 w5 w6 w7 w8 w9 wa wb wc wd we wf wg wh x3 x4 x5 x6 x7 x8 x9 xa xb xc xd xe xf xg xh) E _ K)
    iframe H3 H4 H5 H6 H7 H8 H9 H10 H14 H15 H16 H17
    iintro ⟨H3, H4, H5, H6, H7, H8, H9, H10, H14, H15, H16, H17⟩
    iapply (from5_run c i w3 w4 w5 w6 w7 w8 w9 wa wb wc wd we wf wg wh x3 x4 x5 x6 x7 x8 x9 xa xb xc xd xe xf xg xh E K)
    iframe H3 H4 H5 H6 H7 H8 H9
    isplitl [H10]; · rw [after4_10, dif_pos h]; iexact H10
    iframe H11 H12 H13
    isplitl [H14]; · rw [after4_14, dif_pos h]; iexact H14
    isplitl [H15]; · rw [after4_15, dif_pos h]; iexact H15
    isplitl [H16]; · rw [after4_16, dif_pos h]; iexact H16
    isplitl [H17]; · rw [after4_17, dif_pos h]; iexact H17
    iexact Hk
  · rw [dif_neg h]
    iapply (from5_run c i w3 w4 w5 w6 w7 w8 w9 wa wb wc wd we wf wg wh x3 x4 x5 x6 x7 x8 x9 xa xb xc xd xe xf xg xh E K)
    iframe H3 H4 H5 H6 H7 H8 H9
    isplitl [H10]; · rw [after4_10, dif_neg h]; iexact H10
    iframe H11 H12 H13
    isplitl [H14]; · rw [after4_14, dif_neg h]; iexact H14
    isplitl [H15]; · rw [after4_15, dif_neg h]; iexact H15
    isplitl [H16]; · rw [after4_16, dif_neg h]; iexact H16
    isplitl [H17]; · rw [after4_17, dif_neg h]; iexact H17
    iexact Hk

theorem from3_run (E : Set ℕ) (K : PUnit → sProp 𝕄) :
    iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare xa ∗ owns c.tc ab fullShare xb ∗ owns c.tc ac fullShare xc ∗ owns c.tc ad fullShare xd ∗ owns c.tc ae fullShare xe ∗ owns c.tc af fullShare (after1_15 c i w3 w4 w5 w6 w7 w8 w9 wa wb wc wd we wf wg wh x3 x4 x5 x6 x7 x8 x9 xa xb xc xd xe xf xg xh) ∗ owns c.tc ag fullShare (after2_16 c i w3 w4 w5 w6 w7 w8 w9 wa wb wc wd we wf wg wh x3 x4 x5 x6 x7 x8 x9 xa xb xc xd xe xf xg xh) ∗ owns c.tc ah fullShare (after2_17 c i w3 w4 w5 w6 w7 w8 w9 wa wb wc wd we wf wg wh x3 x4 x5 x6 x7 x8 x9 xa xb xc xd xe xf xg xh) ∗ (ended -∗ K ⟨⟩))
      ⊢ wp frame (wpE (defs₀ (F := F)) Variants.none c none) E (from3 i w3 w4 w5 w6 w7 w8 w9 wa wb wc wd we wf wg wh) K := by
  iintro ⟨H3, H4, H5, H6, H7, H8, H9, H10, H11, H12, H13, H14, H15, H16, H17, Hk⟩
  unfold from3
  by_cases h : k0_cond3 i = 1#1
  · rw [dif_pos h]
    iapply (full_owns c i w3 w4 w5 w6 w7 w8 w9 wa wb wc wd we wf wg wh h x3 x4 x5 x6 x7 x8 x9 (after1_15 c i w3 w4 w5 w6 w7 w8 w9 wa wb wc wd we wf wg wh x3 x4 x5 x6 x7 x8 x9 xa xb xc xd xe xf xg xh) (after2_16 c i w3 w4 w5 w6 w7 w8 w9 wa wb wc wd we wf wg wh x3 x4 x5 x6 x7 x8 x9 xa xb xc xd xe xf xg xh) (after2_17 c i w3 w4 w5 w6 w7 w8 w9 wa wb wc wd we wf wg wh x3 x4 x5 x6 x7 x8 x9 xa xb xc xd xe xf xg xh) E _ K)
    iframe H3 H4 H5 H6 H7 H8 H9 H15 H16 H17
    iintro ⟨H3, H4, H5, H6, H7, H8, H9, H15, H16, H17⟩
    iapply (from4_run c i w3 w4 w5 w6 w7 w8 w9 wa wb wc wd we wf wg wh x3 x4 x5 x6 x7 x8 x9 xa xb xc xd xe xf xg xh E K)
    iframe H3 H4 H5 H6 H7 H8 H9 H10 H11 H12 H13 H14
    isplitl [H15]; · rw [after3_15, dif_pos h]; iexact H15
    isplitl [H16]; · rw [after3_16, dif_pos h]; iexact H16
    isplitl [H17]; · rw [after3_17, dif_pos h]; iexact H17
    iexact Hk
  · rw [dif_neg h]
    iapply (from4_run c i w3 w4 w5 w6 w7 w8 w9 wa wb wc wd we wf wg wh x3 x4 x5 x6 x7 x8 x9 xa xb xc xd xe xf xg xh E K)
    iframe H3 H4 H5 H6 H7 H8 H9 H10 H11 H12 H13 H14
    isplitl [H15]; · rw [after3_15, dif_neg h]; iexact H15
    isplitl [H16]; · rw [after3_16, dif_neg h]; iexact H16
    isplitl [H17]; · rw [after3_17, dif_neg h]; iexact H17
    iexact Hk

theorem from2_run (E : Set ℕ) (K : PUnit → sProp 𝕄) :
    iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare xa ∗ owns c.tc ab fullShare xb ∗ owns c.tc ac fullShare xc ∗ owns c.tc ad fullShare xd ∗ owns c.tc ae fullShare xe ∗ owns c.tc af fullShare (after1_15 c i w3 w4 w5 w6 w7 w8 w9 wa wb wc wd we wf wg wh x3 x4 x5 x6 x7 x8 x9 xa xb xc xd xe xf xg xh) ∗ owns c.tc ag fullShare xg ∗ owns c.tc ah fullShare xh ∗ (ended -∗ K ⟨⟩))
      ⊢ wp frame (wpE (defs₀ (F := F)) Variants.none c none) E (from2 i w3 w4 w5 w6 w7 w8 w9 wa wb wc wd we wf wg wh) K := by
  iintro ⟨H3, H4, H5, H6, H7, H8, H9, H10, H11, H12, H13, H14, H15, H16, H17, Hk⟩
  unfold from2
  by_cases h : cond2 i
  · rw [dif_pos h]
    iapply (zeroK_owns c i w3 w4 w5 w6 w7 w8 w9 wa wb wc wd we wf wg wh xg xh E _ K)
    iframe H16 H17
    iintro ⟨H16, H17⟩
    have e16 : after2_16 c i w3 w4 w5 w6 w7 w8 w9 wa wb wc wd we wf wg wh x3 x4 x5 x6 x7 x8 x9 xa xb xc xd xe xf xg xh = _ := if_pos h
    have e17 : after2_17 c i w3 w4 w5 w6 w7 w8 w9 wa wb wc wd we wf wg wh x3 x4 x5 x6 x7 x8 x9 xa xb xc xd xe xf xg xh = _ := if_pos h
    iapply (from3_run c i w3 w4 w5 w6 w7 w8 w9 wa wb wc wd we wf wg wh x3 x4 x5 x6 x7 x8 x9 xa xb xc xd xe xf xg xh E K)
    iframe H3 H4 H5 H6 H7 H8 H9 H10 H11 H12 H13 H14 H15
    isplitl [H16]; · rw [e16]; iexact H16
    isplitl [H17]; · rw [e17]; iexact H17
    iexact Hk
  · rw [dif_neg h]
    have e16 : after2_16 c i w3 w4 w5 w6 w7 w8 w9 wa wb wc wd we wf wg wh x3 x4 x5 x6 x7 x8 x9 xa xb xc xd xe xf xg xh = _ := if_neg h
    have e17 : after2_17 c i w3 w4 w5 w6 w7 w8 w9 wa wb wc wd we wf wg wh x3 x4 x5 x6 x7 x8 x9 xa xb xc xd xe xf xg xh = _ := if_neg h
    iapply (from3_run c i w3 w4 w5 w6 w7 w8 w9 wa wb wc wd we wf wg wh x3 x4 x5 x6 x7 x8 x9 xa xb xc xd xe xf xg xh E K)
    iframe H3 H4 H5 H6 H7 H8 H9 H10 H11 H12 H13 H14 H15
    isplitl [H16]; · rw [e16]; iexact H16
    isplitl [H17]; · rw [e17]; iexact H17
    iexact Hk

theorem from1_run (E : Set ℕ) (K : PUnit → sProp 𝕄) :
    iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare xa ∗ owns c.tc ab fullShare xb ∗ owns c.tc ac fullShare xc ∗ owns c.tc ad fullShare xd ∗ owns c.tc ae fullShare xe ∗ owns c.tc af fullShare xf ∗ owns c.tc ag fullShare xg ∗ owns c.tc ah fullShare xh ∗ (ended -∗ K ⟨⟩))
      ⊢ wp frame (wpE (defs₀ (F := F)) Variants.none c none) E (from1 i w3 w4 w5 w6 w7 w8 w9 wa wb wc wd we wf wg wh) K := by
  iintro ⟨H3, H4, H5, H6, H7, H8, H9, H10, H11, H12, H13, H14, H15, H16, H17, Hk⟩
  unfold from1
  by_cases h : cond1 i
  · rw [dif_pos h]
    iapply (zeroQ_owns c i w3 w4 w5 w6 w7 w8 w9 wa wb wc wd we wf wg wh xf E _ K)
    isplitl [H15]; · iexact H15
    iintro ⟨H15⟩
    have e15 : after1_15 c i w3 w4 w5 w6 w7 w8 w9 wa wb wc wd we wf wg wh x3 x4 x5 x6 x7 x8 x9 xa xb xc xd xe xf xg xh = _ := if_pos h
    iapply (from2_run c i w3 w4 w5 w6 w7 w8 w9 wa wb wc wd we wf wg wh x3 x4 x5 x6 x7 x8 x9 xa xb xc xd xe xf xg xh E K)
    iframe H3 H4 H5 H6 H7 H8 H9 H10 H11 H12 H13 H14
    isplitl [H15]; · rw [e15]; iexact H15
    iframe H16 H17
    iexact Hk
  · rw [dif_neg h]
    have e15 : after1_15 c i w3 w4 w5 w6 w7 w8 w9 wa wb wc wd we wf wg wh x3 x4 x5 x6 x7 x8 x9 xa xb xc xd xe xf xg xh = _ := if_neg h
    iapply (from2_run c i w3 w4 w5 w6 w7 w8 w9 wa wb wc wd we wf wg wh x3 x4 x5 x6 x7 x8 x9 xa xb xc xd xe xf xg xh E K)
    iframe H3 H4 H5 H6 H7 H8 H9 H10 H11 H12 H13 H14
    isplitl [H15]; · rw [e15]; iexact H15
    iframe H16 H17
    iexact Hk

/-- The body run whole. -/
theorem kernelRun (E : Set ℕ) (K : PUnit → sProp 𝕄) :
    iprop(owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc aa fullShare xa ∗ owns c.tc ab fullShare xb ∗ owns c.tc ac fullShare xc ∗ owns c.tc ad fullShare xd ∗ owns c.tc ae fullShare xe ∗ owns c.tc af fullShare xf ∗ owns c.tc ag fullShare xg ∗ owns c.tc ah fullShare xh ∗ (ended -∗ K ⟨⟩))
      ⊢ wp frame (wpE (defs₀ (F := F)) Variants.none c none) E (cc0_attn_bwd i a3 w3 a4 w4 a5 w5 a6 w6 a7 w7 a8 w8 a9 w9 aa wa ab wb ac wc ad wd ae we af wf ag wg ah wh) K := by
  rw [body_eq]; exact from1_run c i w3 w4 w5 w6 w7 w8 w9 wa wb wc wd we wf wg wh x3 x4 x5 x6 x7 x8 x9 xa xb xc xd xe xf xg xh E K

end Cert.AttnBwdIdeal.Hand

end
-- ==== Proof.AttnFrame.lean ====
/-
  The kernel launched: the body at a point, relational data of the pipeline, and the frame.
-/
module

public import proofs.«01_k».proof.Proof.Gen.AttnBwdIdeal.Frame
public import proofs.«01_k».proof.Proof.Gen.AttnBwdIdeal.Skeleton
public import Idealize.ShloMosaic.Lib.Pipeline.Frame
public import Idealize.ShloMosaic.Lib.Tactic
public import proofs.«01_k».proof.Proof.AttnBody

@[expose] public section

set_option maxRecDepth 65536

noncomputable section

namespace Cert.AttnBwdIdeal.Hand

open Cert.AttnBwdIdeal Cert.AttnBwdIdeal.Gen
open Idealize.ShloMosaic TcCoe Tactic
open Idealize.SL RA BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

theorem st0 (t : Fin cfg0.N) : (win0_0.stage (cfg0.slots t 0)).IsWhole := hstage0_0 ((cfg0.slots t 0).cast nbuf0_0)
theorem st1 (t : Fin cfg0.N) : (win0_1.stage (cfg0.slots t 1)).IsWhole := hstage0_1 ((cfg0.slots t 1).cast nbuf0_1)
theorem st2 (t : Fin cfg0.N) : (win0_2.stage (cfg0.slots t 2)).IsWhole := hstage0_2 ((cfg0.slots t 2).cast nbuf0_2)
theorem st3 (t : Fin cfg0.N) : (win0_3.stage (cfg0.slots t 3)).IsWhole := hstage0_3 ((cfg0.slots t 3).cast nbuf0_3)
theorem st4 (t : Fin cfg0.N) : (win0_4.stage (cfg0.slots t 4)).IsWhole := hstage0_4 ((cfg0.slots t 4).cast nbuf0_4)
theorem st5 (t : Fin cfg0.N) : (win0_5.stage (cfg0.slots t 5)).IsWhole := hstage0_5 ((cfg0.slots t 5).cast nbuf0_5)
theorem st6 (t : Fin cfg0.N) : (win0_6.stage (cfg0.slots t 6)).IsWhole := hstage0_6 ((cfg0.slots t 6).cast nbuf0_6)
theorem st7 (t : Fin cfg0.N) : (win0_7.stage (cfg0.slots t 7)).IsWhole := hstage0_7 ((cfg0.slots t 7).cast nbuf0_7)
theorem st8 (t : Fin cfg0.N) : (win0_8.stage (cfg0.slots t 8)).IsWhole := hstage0_8 ((cfg0.slots t 8).cast nbuf0_8)
theorem st9 (t : Fin cfg0.N) : (win0_9.stage (cfg0.slots t 9)).IsWhole := hstage0_9 ((cfg0.slots t 9).cast nbuf0_9)
theorem st10 (t : Fin cfg0.N) : (win0_10.stage (cfg0.slots t 10)).IsWhole := hstage0_10 ((cfg0.slots t 10).cast nbuf0_10)
theorem st11 (t : Fin cfg0.N) : (win0_11.stage (cfg0.slots t 11)).IsWhole := hstage0_11 ((cfg0.slots t 11).cast nbuf0_11)

/-- What every buffer holds when the body is handed it. -/
abbrev Held (F : FTy → Type) := (w : Fin cfg0.W) → (cfg0.win w).block.Idx → Elt F (cfg0.win w).elt

/-- What the body leaves in buffer 15 at point `t`. -/
noncomputable def left15 (c : Dev nD) (t : Fin cfg0.N) (Y : Held F) (xf : Vec F S2064x1024 .f32) (xg : Vec F S688x1024 .f32) (xh : Vec F S688x512 .f32) : Vec F S2064x1024 .f32 :=
  after4_15 c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh

/-- What the body leaves in buffer 16 at point `t`. -/
noncomputable def left16 (c : Dev nD) (t : Fin cfg0.N) (Y : Held F) (xf : Vec F S2064x1024 .f32) (xg : Vec F S688x1024 .f32) (xh : Vec F S688x512 .f32) : Vec F S688x1024 .f32 :=
  after4_16 c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh

/-- What the body leaves in buffer 17 at point `t`. -/
noncomputable def left17 (c : Dev nD) (t : Fin cfg0.N) (Y : Held F) (xf : Vec F S2064x1024 .f32) (xg : Vec F S688x1024 .f32) (xh : Vec F S688x512 .f32) : Vec F S688x512 .f32 :=
  after4_17 c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh

/-- What the body leaves in buffer 10 at point `t`. -/
noncomputable def left10 (c : Dev nD) (t : Fin cfg0.N) (Y : Held F) (xf : Vec F S2064x1024 .f32) (xg : Vec F S688x1024 .f32) (xh : Vec F S688x512 .f32) : Vec F S1x2064x512 .f32 :=
  after4_10 c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh

/-- What the body leaves in buffer 11 at point `t`. -/
noncomputable def left11 (c : Dev nD) (t : Fin cfg0.N) (Y : Held F) (xf : Vec F S2064x1024 .f32) (xg : Vec F S688x1024 .f32) (xh : Vec F S688x512 .f32) : Vec F S1x688x512 .bf16 :=
  after5_11 c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh

/-- What the body leaves in buffer 12 at point `t`. -/
noncomputable def left12 (c : Dev nD) (t : Fin cfg0.N) (Y : Held F) (xf : Vec F S2064x1024 .f32) (xg : Vec F S688x1024 .f32) (xh : Vec F S688x512 .f32) : Vec F S1x688x512 .bf16 :=
  after5_12 c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh

/-- What the body leaves in buffer 13 at point `t`. -/
noncomputable def left13 (c : Dev nD) (t : Fin cfg0.N) (Y : Held F) (xf : Vec F S2064x1024 .f32) (xg : Vec F S688x1024 .f32) (xh : Vec F S688x512 .f32) : Vec F S1x688x128 .f32 :=
  after5_13 c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh

/-- What the body leaves in buffer 14 at point `t`. -/
noncomputable def left14 (c : Dev nD) (t : Fin cfg0.N) (Y : Held F) (xf : Vec F S2064x1024 .f32) (xg : Vec F S688x1024 .f32) (xh : Vec F S688x512 .f32) : Vec F S1x2064x128 .f32 :=
  after4_14 c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh

/-- What the body leaves in a window's buffer: an input as it was. -/
noncomputable def left (c : Dev nD) (t : Fin cfg0.N) (Y : Held F) (xf : Vec F S2064x1024 .f32) (xg : Vec F S688x1024 .f32) (xh : Vec F S688x512 .f32) : Held F
  | 7 => left10 c t Y xf xg xh
  | 8 => left11 c t Y xf xg xh
  | 9 => left12 c t Y xf xg xh
  | 10 => left13 c t Y xf xg xh
  | 11 => left14 c t Y xf xg xh
  | w => Y w

/-- A relation between what a window's buffer held and what it is left at, point by point. -/
abbrev Rel (F : FTy → Type) := (w : Fin cfg0.W) → Fin cfg0.N → ((cfg0.win w).block.Idx → Elt F (cfg0.win w).elt) → ((cfg0.win w).block.Idx → Elt F (cfg0.win w).elt) → Prop

/-- A statement of the three running sums, point by point. -/
abbrev Inv (F : FTy → Type) := Fin (cfg0.N + 1) → Vec F S2064x1024 .f32 → Vec F S688x1024 .f32 → Vec F S688x512 .f32 → Prop

/-- The three running sums held at contents that `I` admits, and the generator register. -/
def held (I : Inv F) (c : Dev nD) (t : Fin (cfg0.N + 1)) : sProp 𝕄 :=
  iprop((∃ xf xg xh, ⌜I t xf xg xh⌝ ∗ owns c.tc (Memref.whole cc0_scratch0 : Memref sig .tc .vmem S2064x1024 .f32) fullShare xf
    ∗ owns c.tc (Memref.whole cc0_scratch1 : Memref sig .tc .vmem S688x1024 .f32) fullShare xg ∗ owns c.tc (Memref.whole cc0_scratch2 : Memref sig .tc .vmem S688x512 .f32) fullShare xh) ∗ ∃ r, prngReg c r)

/-- The proof data on one core. -/
def rdat (R : Dev nD → Rel F) (I : Dev nD → Inv F) (c : Dev nD) : Pipeline.RDat τ (Elt F) Unit ℕ (UR sig nD τ) ℕ cfg0 c where
  A w := V m c (Pipeline.arrRef spec0 w)
  after := R c
  Φ := held (I c) c
  q w := Pipeline.shareOf spec0 w
  owed _ := 0

/-- One point keeps the data: what the body leaves is in the relation, and the running sums stay admitted. -/
def Keeps (R : Dev nD → Rel F) (I : Dev nD → Inv F) : Prop :=
  ∀ c (t : Fin cfg0.N) (Y : Held F), (∀ w, (rdat m R I c).Finds w t (Y w)) → ∀ xf xg xh, I c t.castSucc xf xg xh →
    (∀ w, R c w t (Y w) (left c t Y xf xg xh w)) ∧ I c t.succ (left15 c t Y xf xg xh) (left16 c t Y xf xg xh) (left17 c t Y xf xg xh)

theorem defs₀_row (t : Fin cfg0.N) : defs₀ (F := F) .tc cfg0.body (cfg0.bodyArgs t (cfg0.slots t)) = bodyAt0 t := by
  unfold defs₀; rw [Defs.onTc_tc]

theorem sound_body (R : Dev nD → Rel F) (I : Dev nD → Inv F) (hk : Keeps m R I) (c : Dev nD) (t : Fin cfg0.N) (Y : Held F) (hY : ∀ w, (rdat m R I c).Finds w t (Y w)) :
    iprop((rdat m R I c).Φ t.castSucc ∗ (rdat m R I c).owesAt () t.castSucc
      ∗ owns c.tc (win0_0.stage (cfg0.slots t 0)) fullShare (Y 0) ∗ owns c.tc (win0_1.stage (cfg0.slots t 1)) fullShare (Y 1) ∗ owns c.tc (win0_2.stage (cfg0.slots t 2)) fullShare (Y 2) ∗ owns c.tc (win0_3.stage (cfg0.slots t 3)) fullShare (Y 3) ∗ owns c.tc (win0_4.stage (cfg0.slots t 4)) fullShare (Y 4) ∗ owns c.tc (win0_5.stage (cfg0.slots t 5)) fullShare (Y 5) ∗ owns c.tc (win0_6.stage (cfg0.slots t 6)) fullShare (Y 6) ∗ owns c.tc (win0_7.stage (cfg0.slots t 7)) fullShare (Y 7) ∗ owns c.tc (win0_8.stage (cfg0.slots t 8)) fullShare (Y 8) ∗ owns c.tc (win0_9.stage (cfg0.slots t 9)) fullShare (Y 9) ∗ owns c.tc (win0_10.stage (cfg0.slots t 10)) fullShare (Y 10) ∗ owns c.tc (win0_11.stage (cfg0.slots t 11)) fullShare (Y 11))
    ⊢ wp frame (wpE (defs₀ (F := F)) Variants.none c none) Set.univ (bodyAt0 t) (fun _ => iprop((rdat m R I c).Φ t.succ ∗ (rdat m R I c).owesAt () t.succ
      ∗ (∃ X, ⌜R c 0 t (Y 0) X⌝ ∗ owns c.tc (win0_0.stage (cfg0.slots t 0)) fullShare X) ∗ (∃ X, ⌜R c 1 t (Y 1) X⌝ ∗ owns c.tc (win0_1.stage (cfg0.slots t 1)) fullShare X) ∗ (∃ X, ⌜R c 2 t (Y 2) X⌝ ∗ owns c.tc (win0_2.stage (cfg0.slots t 2)) fullShare X) ∗ (∃ X, ⌜R c 3 t (Y 3) X⌝ ∗ owns c.tc (win0_3.stage (cfg0.slots t 3)) fullShare X) ∗ (∃ X, ⌜R c 4 t (Y 4) X⌝ ∗ owns c.tc (win0_4.stage (cfg0.slots t 4)) fullShare X) ∗ (∃ X, ⌜R c 5 t (Y 5) X⌝ ∗ owns c.tc (win0_5.stage (cfg0.slots t 5)) fullShare X) ∗ (∃ X, ⌜R c 6 t (Y 6) X⌝ ∗ owns c.tc (win0_6.stage (cfg0.slots t 6)) fullShare X) ∗ (∃ X, ⌜R c 7 t (Y 7) X⌝ ∗ owns c.tc (win0_7.stage (cfg0.slots t 7)) fullShare X) ∗ (∃ X, ⌜R c 8 t (Y 8) X⌝ ∗ owns c.tc (win0_8.stage (cfg0.slots t 8)) fullShare X) ∗ (∃ X, ⌜R c 9 t (Y 9) X⌝ ∗ owns c.tc (win0_9.stage (cfg0.slots t 9)) fullShare X) ∗ (∃ X, ⌜R c 10 t (Y 10) X⌝ ∗ owns c.tc (win0_10.stage (cfg0.slots t 10)) fullShare X) ∗ (∃ X, ⌜R c 11 t (Y 11) X⌝ ∗ owns c.tc (win0_11.stage (cfg0.slots t 11)) fullShare X))) := by
  rw [show (rdat m R I c).owesAt () t.succ = (rdat m R I c).owesAt () t.castSucc from rfl,
    show (rdat m R I c).Φ t.castSucc = held (I c) c t.castSucc from rfl, show (rdat m R I c).Φ t.succ = held (I c) c t.succ from rfl]
  unfold held
  iintro ⟨⟨⟨%xf, %xg, %xh, %hI, H15, H16, H17⟩, Hg⟩, HO, H3, H4, H5, H6, H7, H8, H9, H10, H11, H12, H13, H14⟩
  have hkk := hk c t Y hY xf xg xh hI
  iapply (kernelRun c (grid0.coords t) (st0 t) (st1 t) (st2 t) (st3 t) (st4 t) (st5 t) (st6 t) (st7 t) (st8 t) (st9 t) (st10 t) (st11 t) (Memref.isWhole_whole cc0_scratch0) (Memref.isWhole_whole cc0_scratch1) (Memref.isWhole_whole cc0_scratch2) (Y 0) (Y 1) (Y 2) (Y 3) (Y 4) (Y 5) (Y 6) (Y 7) (Y 8) (Y 9) (Y 10) (Y 11) xf xg xh Set.univ _)
  iframe H3 H4 H5 H6 H7 H8 H9 H10 H11 H12 H13 H14 H15 H16 H17
  iintro ⟨H3, H4, H5, H6, H7, H8, H9, H10, H11, H12, H13, H14, H15, H16, H17⟩
  isplitl [H15 H16 H17 Hg]
  · isplitl [H15 H16 H17]
    · iexists left15 c t Y xf xg xh, left16 c t Y xf xg xh, left17 c t Y xf xg xh
      isplitr; · ipureintro; exact hkk.2
      iframe H15 H16
      iexact H17
    iexact Hg
  isplitl [HO]; · iexact HO
  isplitl [H3]
  · iexists left c t Y xf xg xh 0; isplitr; · ipureintro; exact hkk.1 0
    iexact H3
  isplitl [H4]
  · iexists left c t Y xf xg xh 1; isplitr; · ipureintro; exact hkk.1 1
    iexact H4
  isplitl [H5]
  · iexists left c t Y xf xg xh 2; isplitr; · ipureintro; exact hkk.1 2
    iexact H5
  isplitl [H6]
  · iexists left c t Y xf xg xh 3; isplitr; · ipureintro; exact hkk.1 3
    iexact H6
  isplitl [H7]
  · iexists left c t Y xf xg xh 4; isplitr; · ipureintro; exact hkk.1 4
    iexact H7
  isplitl [H8]
  · iexists left c t Y xf xg xh 5; isplitr; · ipureintro; exact hkk.1 5
    iexact H8
  isplitl [H9]
  · iexists left c t Y xf xg xh 6; isplitr; · ipureintro; exact hkk.1 6
    iexact H9
  isplitl [H10]
  · iexists left c t Y xf xg xh 7; isplitr; · ipureintro; exact hkk.1 7
    iexact H10
  isplitl [H11]
  · iexists left c t Y xf xg xh 8; isplitr; · ipureintro; exact hkk.1 8
    iexact H11
  isplitl [H12]
  · iexists left c t Y xf xg xh 9; isplitr; · ipureintro; exact hkk.1 9
    iexact H12
  isplitl [H13]
  · iexists left c t Y xf xg xh 10; isplitr; · ipureintro; exact hkk.1 10
    iexact H13
  iexists left c t Y xf xg xh 11; isplitr; · ipureintro; exact hkk.1 11
  iexact H14

theorem body_obligation (R : Dev nD → Rel F) (I : Dev nD → Inv F) (hk : Keeps m R I) (c : Dev nD) :
    (rdat m R I c).BodyObligation (defs₀ (F := F)) Variants.none () Set.univ := fun t Y hY => by
  rw [bigSep_W0, bigSep_W0, defs₀_row]
  exact triple_restated (sound_body m R I hk c t Y hY) rfl .rfl fun _ => .rfl

theorem held_in (I : Inv F) (h0 : ∀ xf xg xh, I 0 xf xg xh) (c : Dev nD) :
    (Pipeline.ΦA spec0 c : sProp 𝕄) ⊢ held I c 0 := by
  unfold Pipeline.ΦA held
  rw [scopedRest0_eq]
  simp only [owns_whole]
  iintro ⟨⟨⟨%f0, H0⟩, ⟨%f1, H1⟩, ⟨%f2, H2⟩⟩, Hg⟩
  isplitl [H0 H1 H2]
  · iexists f0, f1, f2
    isplitr; · ipureintro; exact h0 _ _ _
    iframe H0 H1
    iexact H2
  iexact Hg

theorem held_out (I : Inv F) (c : Dev nD) (t : Fin (cfg0.N + 1)) :
    held I c t ⊢ (Pipeline.ΦA spec0 c : sProp 𝕄) := by
  unfold Pipeline.ΦA held
  rw [scopedRest0_eq]
  simp only [owns_whole]
  iintro ⟨⟨%f0, %f1, %f2, -, H0, H1, H2⟩, Hg⟩
  isplitl [H0 H1 H2]
  · isplitl [H0]; · iexists f0; iexact H0
    isplitl [H1]; · iexists f1; iexact H1
    iexists f2; iexact H2
  iexact Hg

set_option backward.isDefEq.respectTransparency.types false in
/-- The program runs to its end, its arrays in the relation, every other buffer as at entry, every semaphore at zero. -/
theorem run_rel (R : Dev nD → Rel F) (I : Dev nD → Inv F) (h0 : ∀ c xf xg xh, I c 0 xf xg xh) (hk : Keeps m R I) :
    θ_run defs (onTc (τ := τ) (main (F := F))) (s₀ m ρ)
      (fun r => Pipeline.RDat.FramePost (cfgs 0) (rdat m R I) (V m) r ∧ r.2.sem = fun _ => 0) :=
  Pipeline.RDat.θ_run_frame_track_shared (Q' := _) cfgs (0 : Fin 1) launch₀0 defs₀ Variants.none (rdat m R I) m ρ main
    (hbody := fun c => body_obligation m R I hk c) (hq := fun _ _ _ => rfl) (howed := fun _ _ => rfl) (V := V m)
    (hmain := hmain m Variants.none) (hA := fun _ _ => rfl) (hin := fun c => held_in (I c) (h0 c) c) (hout := fun c => held_out (I c) c _)

/-- The frame: from a relation that says nothing. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_rel m ρ (fun _ _ _ _ _ => True) (fun _ _ _ _ _ => True) (fun _ _ _ _ => trivial) (fun _ _ _ _ _ _ _ _ => ⟨fun _ => trivial, trivial⟩))

end Cert.AttnBwdIdeal.Hand

end
-- ==== Proof.AttnKernelFrame.lean ====
/-
  The compiled kernel's frame from the run of the idealized text: at words the named constant is its bit pattern,
  and the two programs are one.
-/
module

public import proofs.«01_k».proof.Defs
public import proofs.«01_k».proof.Proof.AttnFrame
public import proofs.«01_k».proof.Proof.Gen.AttnBwd
public import Idealize.ShloMosaic.Lib.Tactic

@[expose] public section

set_option maxRecDepth 65536

noncomputable section

namespace Cert.AttnBwd.Hand

open Idealize.ShloMosaic TcCoe Idealize.SL.Sem

/-- At at words a named constant is its pattern. -/
abbrev bitsNamed : Named Bits := ⟨fun _ _ {φ} bits => FloatOps.ofBits φ bits⟩

theorem frame_same : Cert.quiescent_AttnBwd = (letI := bitsNamed; ∀ (m : (ℓ : Loc Cert.AttnBwdIdeal.nD Cert.AttnBwdIdeal.τ Cert.AttnBwdIdeal.sig) → Buf (Elt Bits) ℓ) (g : Dev Cert.AttnBwdIdeal.nD → PrngReg), True →
    θ_run (Cert.AttnBwdIdeal.defs (F := Bits)) (onTc (τ := Cert.AttnBwdIdeal.τ) (Cert.AttnBwdIdeal.main (F := Bits))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)) := by
  sl_kernel_rfl

theorem frame : Cert.quiescent_AttnBwd := frame_same ▸ fun m g _ => by
  letI := bitsNamed
  exact Cert.AttnBwdIdeal.Hand.frame (F := Bits) m g

end Cert.AttnBwd.Hand

end
-- ==== Proof.AttnSpec.lean ====
/-
  What one tile of the backward attention kernel adds, head by head, over the blocks the body is handed.
-/
module

public import proofs.«01_k».proof.Proof.AttnBody
public import proofs.«01_k».proof.Proof.Common
public import Idealize.ShloMosaic.Lib.Pointwise
public import Idealize.ShloMosaic.Lib.Pipeline.ValueKit
public import Idealize.ShloMosaic.Lib.WritesUnit
public import Mathlib.Tactic.IntervalCases

@[expose] public section

set_option maxRecDepth 65536

noncomputable section

namespace Cert.AttnBwdIdeal.Hand

open Cert.AttnBwdIdeal Cert.AttnBwdIdeal.Gen
open Idealize.ShloMosaic TcCoe Tactic Pointwise

/-- The newest write's rectangle misses a place that one axis tells apart from it. -/
theorem skip {sg : RefSig} {κ : Kind} {sp : Space} {s : Shape} {e : EltTy} {Val : EltTy → Type} {v : View sg κ sp s e} {f : v.ty.Contents Val} {p : View.Piece Val s e}
    {L : List (View.Piece Val s e)} {y : s.Idx} (a : Fin s.rank) (o n : ℕ) (ho : p.1.off a = o := by rfl)
    (h : (y a).val < o ∨ o + n ≤ (y a).val := by change (_ : ℕ) < _ ∨ (_ : ℕ) ≤ _; first | dsimp only [ix2]; omega | dsimp only [ix3]; omega)
    (hst : p.1.stride a = 1 := by rfl) (hn : p.1.size a = n := by rfl) : v.read Val (v.writes Val f (p :: L)) y = v.read Val (v.writes Val f L) y :=
  View.read_writes_cons_miss_of_axis v f p L y a o n ho hst hn h

/-- The newest write's rectangle holds the place. -/
theorem hit {sg : RefSig} {κ : Kind} {sp : Space} {s : Shape} {e : EltTy} {Val : EltTy → Type} {v : View sg κ sp s e} {f : v.ty.Contents Val} {p : View.Piece Val s e}
    {L : List (View.Piece Val s e)} {y : s.Idx} (x : p.1.shape.Idx) (hx : ∀ a, (y a).val = p.1.off a + p.1.stride a * (x a).val := by intro a; fin_cases a <;> simp [Rect.unit, ix2, ix3, *]) :
    v.read Val (v.writes Val f (p :: L)) y = p.2 x :=
  View.read_writes_cons_hit_of_coords v f p.1 p.2 L x y hx

/-- Lane `l` of head `H`'s pair of heads, as a column. -/
def col (H : Fin 8) (l : Fin 128) : Fin 512 :=
  if h : H.val / 2 = 0 then ⟨l.val, by omega⟩ else ⟨128 * (H.val / 2) + l.val, by omega⟩

theorem col_val (H : Fin 8) (l : Fin 128) : (col H l).val = 128 * (H.val / 2) + l.val := by
  unfold col; split <;> simp_all

/-- A value on head `H`'s own half of the lanes, another on the other half. -/
def half {α : Type} (H : Fin 8) (l : Fin 128) (a b : α) : α :=
  bif H.val % 2 == 0 then (if l.val < 64 then a else b) else (if l.val < 64 then b else a)

/-- One in the lane that carries head `H`'s sum. -/
def ones (H : Fin 8) (l : Fin 128) : EReal :=
  bif H.val % 2 == 0 then (if l.val = 64 then 1 else 0) else (if l.val = 0 then 1 else 0)

theorem sel_low {α : Type} (l : Fin 128) (a b : α) :
    Scalar.select (IntOp.cmpi .slt (BitVec.ofNat 32 l.val) 64#32) a b = if l.val < 64 then a else b :=
  Cert.Common.sel_lt (by omega) (by omega) a b

theorem sel_high {α : Type} (l : Fin 128) (a b : α) :
    Scalar.select (IntOp.xori (IntOp.cmpi .slt (BitVec.ofNat 32 l.val) 64#32) 1#1) a b = if l.val < 64 then b else a := by
  by_cases h : l.val < 64
  · rw [if_pos h, (Idealize.ShloMosaic.WordCmp.cmpi_slt_ofNat_eq_one_iff (by omega) (by omega)).mpr h]; rfl
  · rw [if_neg h, (Idealize.ShloMosaic.WordCmp.cmpi_slt_ofNat_eq_zero_iff (by omega) (by omega)).mpr (by omega)]; rfl

theorem sel_lane {α : Type} (l : Fin 128) (k : ℕ) (hk : k < 2 ^ 32) (a b : α) :
    Scalar.select (IntOp.cmpi .eq (BitVec.ofNat 32 l.val) (BitVec.ofNat 32 k)) a b = if l.val = k then a else b :=
  Cert.Common.sel_eq (by omega) hk a b

theorem sel_lane64 {α : Type} (l : Fin 128) (a b : α) :
    Scalar.select (IntOp.cmpi .eq (BitVec.ofNat 32 l.val) 64#32) a b = if l.val = 64 then a else b := sel_lane l 64 (by omega) a b

theorem sel_lane0 {α : Type} (l : Fin 128) (a b : α) :
    Scalar.select (IntOp.cmpi .eq (BitVec.ofNat 32 l.val) 0#32) a b = if l.val = 0 then a else b := sel_lane l 0 (by omega) a b

section Tile
variable (x3 x4 x5 : Vec Ideal S1x688x512 .bf16) (x6 : Vec Ideal S1x688x512 .f32) (x7 : Vec Ideal S1x688x512 .bf16)
  (x8 : Vec Ideal S1x688x128 .f32) (x9 : Vec Ideal S1x1x8x688 .f32)

/-- The scaled query. -/
def qs (q : Fin 688) (j : Fin 512) : EReal := x3 (ix3 0 q j) * Ideal.ofBits .bf16 15872#16

/-- The probability of a score. -/
def prob (H : Fin 8) (q k : Fin 688) : EReal :=
  Ideal.exp ((∑ l : Fin 128, half H l (qs x3 q (col H l) * x4 (ix3 0 k (col H l))) 0) - x9 (ix4 0 0 H k) - x8 (ix3 0 q ⟨H.val, by omega⟩))

/-- The gradient of a score. -/
def dsc (H : Fin 8) (q k : Fin 688) : EReal :=
  prob x3 x4 x8 x9 H q k * ((∑ l : Fin 128, half H l (x7 (ix3 0 q (col H l)) * x5 (ix3 0 k (col H l))) 0)
    - ∑ l : Fin 128, half H l (x7 (ix3 0 q (col H l)) * x6 (ix3 0 q (col H l))) 0)

/-- What a query adds to a key's gradient, and in the sum's lane to the key's sum. -/
def addK (H : Fin 8) (q k : Fin 688) (l : Fin 128) : EReal :=
  dsc x3 x4 x5 x6 x7 x8 x9 H q k * half H l (qs x3 q (col H l)) (ones H l)

/-- What a key adds to a query's gradient, and in the sum's lane to the query's sum. -/
def addQ (H : Fin 8) (q k : Fin 688) (l : Fin 128) : EReal :=
  dsc x3 x4 x5 x6 x7 x8 x9 H q k * half H l (x4 (ix3 0 k (col H l))) (ones H l)

/-- What a query adds to a value's gradient. -/
def addV (H : Fin 8) (q k : Fin 688) (l : Fin 128) : EReal :=
  half H l (prob x3 x4 x8 x9 H q k * x7 (ix3 0 q (col H l))) 0

/-- The same on the diagonal: a later key adds nothing. -/
def maskK (H : Fin 8) (q k : Fin 688) (l : Fin 128) : EReal := if k.val ≤ q.val then addK x3 x4 x5 x6 x7 x8 x9 H q k l else 0

def maskQ (H : Fin 8) (q k : Fin 688) (l : Fin 128) : EReal := if k.val ≤ q.val then addQ x3 x4 x5 x6 x7 x8 x9 H q k l else 0

def maskV (H : Fin 8) (q k : Fin 688) (l : Fin 128) : EReal :=
  half H l (if k.val ≤ q.val then prob x3 x4 x8 x9 H q k * x7 (ix3 0 q (col H l)) else 0) 0

theorem maskK_later (H : Fin 8) (q k : Fin 688) (l : Fin 128) (h : q.val < k.val) : maskK x3 x4 x5 x6 x7 x8 x9 H q k l = 0 := if_neg (by omega)

theorem maskQ_later (H : Fin 8) (q k : Fin 688) (l : Fin 128) (h : q.val < k.val) : maskQ x3 x4 x5 x6 x7 x8 x9 H q k l = 0 := if_neg (by omega)

theorem maskV_later (H : Fin 8) (q k : Fin 688) (l : Fin 128) (h : q.val < k.val) : maskV x3 x4 x7 x8 x9 H q k l = 0 := by
  unfold maskV
  rw [if_neg (by omega)]
  unfold half
  cases (H.val % 2 == 0) <;> simp

end Tile

theorem sel_mask {α : Type} {k q a : ℕ} (hk : k < 688) (hq : a + q < 688) (x y : α) :
    Scalar.select (IntOp.cmpi .sle (BitVec.ofNat 32 k) (IntOp.addi (BitVec.ofNat 32 a) (BitVec.ofNat 32 q))) x y = if k ≤ a + q then x else y := by
  rw [show IntOp.addi (BitVec.ofNat 32 a) (BitVec.ofNat 32 q) = BitVec.ofNat 32 (a + q) from (BitVec.ofNat_add _ _).symm]
  exact Cert.Common.sel_le (by omega) (by omega) x y

theorem sel_mask0 {α : Type} {k q : ℕ} (hk : k < 688) (hq : q < 688) (x y : α) :
    Scalar.select (IntOp.cmpi .sle (BitVec.ofNat 32 k) (IntOp.addi 0#32 (BitVec.ofNat 32 q))) x y = if k ≤ q then x else y := by
  have h := sel_mask (a := 0) hk (by omega : 0 + q < 688) x y
  rwa [Nat.zero_add] at h

theorem mask_bot : (Named.named (F := Ideal) (φ := .f32) κ "mask" 4048155338#32 : EReal) = ⊥ := rfl

theorem exp_mask (p : Prop) [Decidable p] (s e : EReal) : Ideal.exp ((if p then s else ⊥) - e) = if p then Ideal.exp (s - e) else 0 := by
  split
  · rfl
  · rw [EReal.bot_sub]; exact Ideal.exp_bot

/-- A tile's queries (or keys) as the two bands of the diagonal. -/
theorem sum_bands (f : Fin 688 → EReal) :
    ∑ q, f q = (∑ q : Fin 352, f ⟨q.val, by omega⟩) + ∑ q : Fin 336, f ⟨352 + q.val, by omega⟩ :=
  Fin.sum_univ_add (a := 352) (b := 336) (f : Fin (352 + 336) → EReal)

theorem sum_first_zero {f : Fin 688 → EReal} (h : ∀ q, q.val < 352 → f q = 0) : ∑ q : Fin 352, f ⟨q.val, by omega⟩ = 0 :=
  Finset.sum_eq_zero fun q _ => h _ q.isLt

theorem sum_second_zero {f : Fin 688 → EReal} (h : ∀ q, 352 ≤ q.val → f q = 0) : ∑ q : Fin 336, f ⟨352 + q.val, by omega⟩ = 0 :=
  Finset.sum_eq_zero fun q _ => h _ (Nat.le_add_right _ _)

/-- A lane of 8 tiles of 128. -/
theorem cases_lane8 {P : Fin 1024 → Prop} (h0 : ∀ l : Fin 128, P ⟨l.val, by omega⟩) (h1 : ∀ l : Fin 128, P ⟨128 + l.val, by omega⟩) (h2 : ∀ l : Fin 128, P ⟨256 + l.val, by omega⟩) (h3 : ∀ l : Fin 128, P ⟨384 + l.val, by omega⟩) (h4 : ∀ l : Fin 128, P ⟨512 + l.val, by omega⟩) (h5 : ∀ l : Fin 128, P ⟨640 + l.val, by omega⟩) (h6 : ∀ l : Fin 128, P ⟨768 + l.val, by omega⟩) (h7 : ∀ l : Fin 128, P ⟨896 + l.val, by omega⟩) (m : Fin 1024) : P m := by
  by_cases c0 : m.val < 128
  · exact h0 ⟨m.val, c0⟩
  by_cases c1 : m.val < 256
  · have h := h1 ⟨m.val - 128, by omega⟩
    rwa [show (⟨128 + (m.val - 128), by omega⟩ : Fin 1024) = m from Fin.ext (by dsimp only; omega)] at h
  by_cases c2 : m.val < 384
  · have h := h2 ⟨m.val - 256, by omega⟩
    rwa [show (⟨256 + (m.val - 256), by omega⟩ : Fin 1024) = m from Fin.ext (by dsimp only; omega)] at h
  by_cases c3 : m.val < 512
  · have h := h3 ⟨m.val - 384, by omega⟩
    rwa [show (⟨384 + (m.val - 384), by omega⟩ : Fin 1024) = m from Fin.ext (by dsimp only; omega)] at h
  by_cases c4 : m.val < 640
  · have h := h4 ⟨m.val - 512, by omega⟩
    rwa [show (⟨512 + (m.val - 512), by omega⟩ : Fin 1024) = m from Fin.ext (by dsimp only; omega)] at h
  by_cases c5 : m.val < 768
  · have h := h5 ⟨m.val - 640, by omega⟩
    rwa [show (⟨640 + (m.val - 640), by omega⟩ : Fin 1024) = m from Fin.ext (by dsimp only; omega)] at h
  by_cases c6 : m.val < 896
  · have h := h6 ⟨m.val - 768, by omega⟩
    rwa [show (⟨768 + (m.val - 768), by omega⟩ : Fin 1024) = m from Fin.ext (by dsimp only; omega)] at h
  by_cases c7 : m.val < 1024
  · have h := h7 ⟨m.val - 896, by omega⟩
    rwa [show (⟨896 + (m.val - 896), by omega⟩ : Fin 1024) = m from Fin.ext (by dsimp only; omega)] at h
  omega

/-- A lane of 4 tiles of 128. -/
theorem cases_lane4 {P : Fin 512 → Prop} (h0 : ∀ l : Fin 128, P ⟨l.val, by omega⟩) (h1 : ∀ l : Fin 128, P ⟨128 + l.val, by omega⟩) (h2 : ∀ l : Fin 128, P ⟨256 + l.val, by omega⟩) (h3 : ∀ l : Fin 128, P ⟨384 + l.val, by omega⟩) (m : Fin 512) : P m := by
  by_cases c0 : m.val < 128
  · exact h0 ⟨m.val, c0⟩
  by_cases c1 : m.val < 256
  · have h := h1 ⟨m.val - 128, by omega⟩
    rwa [show (⟨128 + (m.val - 128), by omega⟩ : Fin 512) = m from Fin.ext (by dsimp only; omega)] at h
  by_cases c2 : m.val < 384
  · have h := h2 ⟨m.val - 256, by omega⟩
    rwa [show (⟨256 + (m.val - 256), by omega⟩ : Fin 512) = m from Fin.ext (by dsimp only; omega)] at h
  by_cases c3 : m.val < 512
  · have h := h3 ⟨m.val - 384, by omega⟩
    rwa [show (⟨384 + (m.val - 384), by omega⟩ : Fin 512) = m from Fin.ext (by dsimp only; omega)] at h
  omega

/-- The lane that carries head `H`'s sum. -/
def sumLane (H : Fin 8) : Fin 1024 := ⟨128 * H.val + (if H.val % 2 = 0 then 64 else 0), by split <;> omega⟩

/-- The heads' sums, one per lane. -/
def sums (f : Fin 1024 → EReal) (l : Fin 128) : EReal := if h : l.val < 8 then f (sumLane ⟨l.val, h⟩) else 0

theorem sums_eq (f : Fin 1024 → EReal) (l : Fin 128) : (Scalar.select (IntOp.cmpi .eq (BitVec.ofNat 32 l.val) 6#32) (f 832) (Scalar.select (IntOp.cmpi .eq (BitVec.ofNat 32 l.val) 7#32) (f 896) (Scalar.select (IntOp.cmpi .eq (BitVec.ofNat 32 l.val) 4#32) (f 576) (Scalar.select (IntOp.cmpi .eq (BitVec.ofNat 32 l.val) 5#32) (f 640) (Scalar.select (IntOp.cmpi .eq (BitVec.ofNat 32 l.val) 2#32) (f 320) (Scalar.select (IntOp.cmpi .eq (BitVec.ofNat 32 l.val) 3#32) (f 384) (Scalar.select (IntOp.cmpi .eq (BitVec.ofNat 32 l.val) 0#32) (f 64) (Scalar.select (IntOp.cmpi .eq (BitVec.ofNat 32 l.val) 1#32) (f 128) (0 : EReal))))))))) = sums f l := by
  rw [sel_lane l 6 (by omega), sel_lane l 7 (by omega), sel_lane l 4 (by omega), sel_lane l 5 (by omega), sel_lane l 2 (by omega), sel_lane l 3 (by omega), sel_lane l 0 (by omega), sel_lane l 1 (by omega)]
  obtain ⟨n, hn⟩ := l
  unfold sums
  dsimp only
  by_cases h : n < 8
  · rw [dif_pos h]
    interval_cases n <;> (norm_num [sumLane]; try rfl)
  · rw [dif_neg h, if_neg (by omega), if_neg (by omega), if_neg (by omega), if_neg (by omega), if_neg (by omega), if_neg (by omega), if_neg (by omega), if_neg (by omega)]

/-- The head of a lane of 1024, and its place in that head's tile. -/
def hd (m : Fin 1024) : Fin 8 := ⟨m.val / 128, by omega⟩
def ln (m : Fin 1024) : Fin 128 := ⟨m.val % 128, by omega⟩
theorem hd_eq {m : Fin 1024} {H : Fin 8} (h : m.val / 128 = H.val) : hd m = H := Fin.ext h
theorem ln_eq {m : Fin 1024} {l : Fin 128} (h : m.val % 128 = l.val) : ln m = l := Fin.ext h

/-- The two heads of a column of 512, its place in their tile, and the two lanes it is made from. -/
def ev (m : Fin 512) : Fin 8 := ⟨2 * (m.val / 128), by omega⟩
def od (m : Fin 512) : Fin 8 := ⟨2 * (m.val / 128) + 1, by omega⟩
def lh (m : Fin 512) : Fin 128 := ⟨m.val % 128, by omega⟩
def lo (m : Fin 512) : Fin 1024 := ⟨256 * (m.val / 128) + m.val % 128, by omega⟩
def hi (m : Fin 512) : Fin 1024 := ⟨256 * (m.val / 128) + 128 + m.val % 128, by omega⟩
theorem ev_eq {m : Fin 512} {H : Fin 8} (h : 2 * (m.val / 128) = H.val) : ev m = H := Fin.ext h
theorem od_eq {m : Fin 512} {H : Fin 8} (h : 2 * (m.val / 128) + 1 = H.val) : od m = H := Fin.ext h
theorem lh_eq {m : Fin 512} {l : Fin 128} (h : m.val % 128 = l.val) : lh m = l := Fin.ext h
theorem lo_eq {m : Fin 512} {n : Fin 1024} (h : 256 * (m.val / 128) + m.val % 128 = n.val) : lo m = n := Fin.ext h
theorem hi_eq {m : Fin 512} {n : Fin 1024} (h : 256 * (m.val / 128) + 128 + m.val % 128 = n.val) : hi m = n := Fin.ext h

/-- One column from its two lanes. -/
def merge (f : Fin 1024 → EReal) (m : Fin 512) : EReal := if (lh m).val < 64 then f (lo m) else f (hi m)

/-- Row `r` of tile `u`. -/
def row (u : Fin 3) (r : Fin 688) : Fin 2064 := ⟨688 * u.val + r.val, by omega⟩

end Cert.AttnBwdIdeal.Hand

end
-- ==== Proof.AttnDiagQ.lean ====
module

public import proofs.«01_k».proof.Proof.AttnSpec
public import Idealize.ShloMosaic.Lib.WritesUnit

@[expose] public section

set_option maxRecDepth 65536

noncomputable section

namespace Cert.AttnBwdIdeal.Hand

open diagRun

open Cert.AttnBwdIdeal Cert.AttnBwdIdeal.Gen
open Idealize.ShloMosaic TcCoe Tactic Pointwise
open Idealize.SL RA BI Sem
open Cert.Common

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (x3 x4 x5 : Vec Ideal S1x688x512 .bf16) (x6 : Vec Ideal S1x688x512 .f32) (x7 : Vec Ideal S1x688x512 .bf16) (x8 : Vec Ideal S1x688x128 .f32) (x9 : Vec Ideal S1x1x8x688 .f32) (xa : Vec Ideal S1x2064x512 .f32) (xb xc : Vec Ideal S1x688x512 .bf16) (xd : Vec Ideal S1x688x128 .f32) (xe : Vec Ideal S1x2064x128 .f32) (xf : Vec Ideal S2064x1024 .f32) (xg : Vec Ideal S688x1024 .f32) (xh : Vec Ideal S688x512 .f32)
local notation:max "leftQ" b:max hc:max => af.view.read (Elt Ideal) (af.view.writes (Elt Ideal) b (sl.H15_16 (F := Ideal) c i w3 w4 w5 w6 w7 w8 w9 wf hc x3 x4 x5 x6 x7 x8 x9 xf))
local notation:max "addQ" => maskQ x3 x4 x5 x6 x7 x8 x9

attribute [local pointwise] k0_pay6 k0_pay7 k0_pay8 k0_pay9 k0_pay10 k0_pay119 k0_pay120 k0_pay121 k0_pay122 k0_pay123 k0_pay124 k0_pay125 k0_pay130 k0_pay131 k0_pay132 k0_pay133 k0_pay134 k0_pay135 k0_pay136 k0_pay150 k0_pay151 k0_pay152 k0_pay153 k0_pay154 k0_pay162 k0_pay163 k0_pay164 k0_pay165 k0_pay166 k0_pay167 k0_pay17._proof_1 k0_pay173 k0_pay174 k0_pay175 k0_pay176 k0_pay177 k0_pay183 k0_pay184 k0_pay185 k0_pay186 k0_pay187 k0_pay188 k0_pay199 k0_pay200 k0_pay201 k0_pay202 k0_pay203 k0_pay204 k0_pay205 k0_pay206 k0_pay207 k0_pay208 k0_pay221 k0_pay222 k0_pay223 k0_pay224 k0_pay225 k0_pay226 k0_pay232 k0_pay233 k0_pay234 k0_pay235 k0_pay236 k0_pay237 k0_pay249 k0_pay250 k0_pay251 k0_pay252 k0_pay259 k0_pay260 k0_pay261 k0_pay262 k0_pay263 k0_pay270 k0_pay271 k0_pay272 k0_pay273 k0_pay274 k0_pay275 k0_pay280 k0_pay281 k0_pay282 k0_pay283 k0_pay284 k0_pay285 k0_pay289 k0_pay290 k0_pay291 k0_pay292 k0_pay293 k0_pay294 k0_pay295 k0_pay296 k0_pay303 k0_pay304 k0_pay305 k0_pay306 k0_pay307 k0_pay323 k0_pay324 k0_pay325 k0_pay326

attribute [local simp] k0_off9_eq k0_off10_eq k0_off11_eq k0_off12_eq k0_off13_eq k0_off14_eq k0_off15_eq k0_off16_eq k0_off17_eq k0_off18_eq k0_off19_eq k0_off20_eq k0_off21_eq k0_off22_eq k0_off23_eq k0_off24_eq

theorem diag15_low_0 (b : af.view.ty.Contents (Elt Ideal)) (hc : k0_cond4 i = 1#1) (r : Fin 352) (l : Fin 128) (s : Fin 2064) (hs : s.val = 688 * (i 2).val + r.val) :
    leftQ b hc (ix2 s ⟨l.val, by omega⟩) = xf (ix2 s ⟨l.val, by omega⟩) + ∑ q : Fin 352, addQ 0 ⟨r.val, by omega⟩ ⟨q.val, by omega⟩ l := by
  unfold sl.H15_16
  frame_open
  iterate 8 refine (skip 0 (688 * (i 2).val + 352) 336 (by simp [Rect.unit])).trans ?_
  iterate 7 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off9_eq i) 0)).trans hs.symm
  · exact (congrArg (· + l.val) (congrFun (k0_off9_eq i) 1)).trans (Nat.zero_add _)
  · rw [mask_bot, sel_mask0 (by omega) (by omega), exp_mask, ite_mul, ite_mul, zero_mul, zero_mul]
    rfl

theorem diag15_high_0 (b : af.view.ty.Contents (Elt Ideal)) (hc : k0_cond4 i = 1#1) (r : Fin 336) (l : Fin 128) (s : Fin 2064) (hs : s.val = 688 * (i 2).val + 352 + r.val) :
    leftQ b hc (ix2 s ⟨l.val, by omega⟩) = xf (ix2 s ⟨l.val, by omega⟩) + ∑ q : Fin 688, addQ 0 ⟨352 + r.val, by omega⟩ q l := by
  unfold sl.H15_16
  frame_open
  iterate 7 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off17_eq i) 0)).trans hs.symm
  · exact (congrArg (· + l.val) (congrFun (k0_off17_eq i) 1)).trans (Nat.zero_add _)
  · rw [mask_bot, sel_mask (a := 352) (by omega) (by omega), exp_mask, ite_mul, ite_mul, zero_mul, zero_mul]
    rfl

theorem diag15_low_1 (b : af.view.ty.Contents (Elt Ideal)) (hc : k0_cond4 i = 1#1) (r : Fin 352) (l : Fin 128) (s : Fin 2064) (hs : s.val = 688 * (i 2).val + r.val) :
    leftQ b hc (ix2 s ⟨128 + l.val, by omega⟩) = xf (ix2 s ⟨128 + l.val, by omega⟩) + ∑ q : Fin 352, addQ 1 ⟨r.val, by omega⟩ ⟨q.val, by omega⟩ l := by
  unfold sl.H15_16
  frame_open
  iterate 8 refine (skip 0 (688 * (i 2).val + 352) 336 (by simp [Rect.unit])).trans ?_
  iterate 6 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off10_eq i) 0)).trans hs.symm
  · exact (congrArg (· + l.val) (congrFun (k0_off10_eq i) 1))
  · rw [mask_bot, sel_mask0 (by omega) (by omega), exp_mask, ite_mul, ite_mul, zero_mul, zero_mul]
    rfl

theorem diag15_high_1 (b : af.view.ty.Contents (Elt Ideal)) (hc : k0_cond4 i = 1#1) (r : Fin 336) (l : Fin 128) (s : Fin 2064) (hs : s.val = 688 * (i 2).val + 352 + r.val) :
    leftQ b hc (ix2 s ⟨128 + l.val, by omega⟩) = xf (ix2 s ⟨128 + l.val, by omega⟩) + ∑ q : Fin 688, addQ 1 ⟨352 + r.val, by omega⟩ q l := by
  unfold sl.H15_16
  frame_open
  iterate 6 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off18_eq i) 0)).trans hs.symm
  · exact (congrArg (· + l.val) (congrFun (k0_off18_eq i) 1))
  · rw [mask_bot, sel_mask (a := 352) (by omega) (by omega), exp_mask, ite_mul, ite_mul, zero_mul, zero_mul]
    rfl

theorem diag15_low_2 (b : af.view.ty.Contents (Elt Ideal)) (hc : k0_cond4 i = 1#1) (r : Fin 352) (l : Fin 128) (s : Fin 2064) (hs : s.val = 688 * (i 2).val + r.val) :
    leftQ b hc (ix2 s ⟨256 + l.val, by omega⟩) = xf (ix2 s ⟨256 + l.val, by omega⟩) + ∑ q : Fin 352, addQ 2 ⟨r.val, by omega⟩ ⟨q.val, by omega⟩ l := by
  unfold sl.H15_16
  frame_open
  iterate 8 refine (skip 0 (688 * (i 2).val + 352) 336 (by simp [Rect.unit])).trans ?_
  iterate 5 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off11_eq i) 0)).trans hs.symm
  · exact (congrArg (· + l.val) (congrFun (k0_off11_eq i) 1))
  · rw [mask_bot, sel_mask0 (by omega) (by omega), exp_mask, ite_mul, ite_mul, zero_mul, zero_mul]
    rfl

theorem diag15_high_2 (b : af.view.ty.Contents (Elt Ideal)) (hc : k0_cond4 i = 1#1) (r : Fin 336) (l : Fin 128) (s : Fin 2064) (hs : s.val = 688 * (i 2).val + 352 + r.val) :
    leftQ b hc (ix2 s ⟨256 + l.val, by omega⟩) = xf (ix2 s ⟨256 + l.val, by omega⟩) + ∑ q : Fin 688, addQ 2 ⟨352 + r.val, by omega⟩ q l := by
  unfold sl.H15_16
  frame_open
  iterate 5 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off19_eq i) 0)).trans hs.symm
  · exact (congrArg (· + l.val) (congrFun (k0_off19_eq i) 1))
  · rw [mask_bot, sel_mask (a := 352) (by omega) (by omega), exp_mask, ite_mul, ite_mul, zero_mul, zero_mul]
    rfl

theorem diag15_low_3 (b : af.view.ty.Contents (Elt Ideal)) (hc : k0_cond4 i = 1#1) (r : Fin 352) (l : Fin 128) (s : Fin 2064) (hs : s.val = 688 * (i 2).val + r.val) :
    leftQ b hc (ix2 s ⟨384 + l.val, by omega⟩) = xf (ix2 s ⟨384 + l.val, by omega⟩) + ∑ q : Fin 352, addQ 3 ⟨r.val, by omega⟩ ⟨q.val, by omega⟩ l := by
  unfold sl.H15_16
  frame_open
  iterate 8 refine (skip 0 (688 * (i 2).val + 352) 336 (by simp [Rect.unit])).trans ?_
  iterate 4 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off12_eq i) 0)).trans hs.symm
  · exact (congrArg (· + l.val) (congrFun (k0_off12_eq i) 1))
  · rw [mask_bot, sel_mask0 (by omega) (by omega), exp_mask, ite_mul, ite_mul, zero_mul, zero_mul]
    rfl

theorem diag15_high_3 (b : af.view.ty.Contents (Elt Ideal)) (hc : k0_cond4 i = 1#1) (r : Fin 336) (l : Fin 128) (s : Fin 2064) (hs : s.val = 688 * (i 2).val + 352 + r.val) :
    leftQ b hc (ix2 s ⟨384 + l.val, by omega⟩) = xf (ix2 s ⟨384 + l.val, by omega⟩) + ∑ q : Fin 688, addQ 3 ⟨352 + r.val, by omega⟩ q l := by
  unfold sl.H15_16
  frame_open
  iterate 4 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off20_eq i) 0)).trans hs.symm
  · exact (congrArg (· + l.val) (congrFun (k0_off20_eq i) 1))
  · rw [mask_bot, sel_mask (a := 352) (by omega) (by omega), exp_mask, ite_mul, ite_mul, zero_mul, zero_mul]
    rfl

theorem diag15_low_4 (b : af.view.ty.Contents (Elt Ideal)) (hc : k0_cond4 i = 1#1) (r : Fin 352) (l : Fin 128) (s : Fin 2064) (hs : s.val = 688 * (i 2).val + r.val) :
    leftQ b hc (ix2 s ⟨512 + l.val, by omega⟩) = xf (ix2 s ⟨512 + l.val, by omega⟩) + ∑ q : Fin 352, addQ 4 ⟨r.val, by omega⟩ ⟨q.val, by omega⟩ l := by
  unfold sl.H15_16
  frame_open
  iterate 8 refine (skip 0 (688 * (i 2).val + 352) 336 (by simp [Rect.unit])).trans ?_
  iterate 3 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off13_eq i) 0)).trans hs.symm
  · exact (congrArg (· + l.val) (congrFun (k0_off13_eq i) 1))
  · rw [mask_bot, sel_mask0 (by omega) (by omega), exp_mask, ite_mul, ite_mul, zero_mul, zero_mul]
    rfl

theorem diag15_high_4 (b : af.view.ty.Contents (Elt Ideal)) (hc : k0_cond4 i = 1#1) (r : Fin 336) (l : Fin 128) (s : Fin 2064) (hs : s.val = 688 * (i 2).val + 352 + r.val) :
    leftQ b hc (ix2 s ⟨512 + l.val, by omega⟩) = xf (ix2 s ⟨512 + l.val, by omega⟩) + ∑ q : Fin 688, addQ 4 ⟨352 + r.val, by omega⟩ q l := by
  unfold sl.H15_16
  frame_open
  iterate 3 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off21_eq i) 0)).trans hs.symm
  · exact (congrArg (· + l.val) (congrFun (k0_off21_eq i) 1))
  · rw [mask_bot, sel_mask (a := 352) (by omega) (by omega), exp_mask, ite_mul, ite_mul, zero_mul, zero_mul]
    rfl

theorem diag15_low_5 (b : af.view.ty.Contents (Elt Ideal)) (hc : k0_cond4 i = 1#1) (r : Fin 352) (l : Fin 128) (s : Fin 2064) (hs : s.val = 688 * (i 2).val + r.val) :
    leftQ b hc (ix2 s ⟨640 + l.val, by omega⟩) = xf (ix2 s ⟨640 + l.val, by omega⟩) + ∑ q : Fin 352, addQ 5 ⟨r.val, by omega⟩ ⟨q.val, by omega⟩ l := by
  unfold sl.H15_16
  frame_open
  iterate 8 refine (skip 0 (688 * (i 2).val + 352) 336 (by simp [Rect.unit])).trans ?_
  iterate 2 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off14_eq i) 0)).trans hs.symm
  · exact (congrArg (· + l.val) (congrFun (k0_off14_eq i) 1))
  · rw [mask_bot, sel_mask0 (by omega) (by omega), exp_mask, ite_mul, ite_mul, zero_mul, zero_mul]
    rfl

theorem diag15_high_5 (b : af.view.ty.Contents (Elt Ideal)) (hc : k0_cond4 i = 1#1) (r : Fin 336) (l : Fin 128) (s : Fin 2064) (hs : s.val = 688 * (i 2).val + 352 + r.val) :
    leftQ b hc (ix2 s ⟨640 + l.val, by omega⟩) = xf (ix2 s ⟨640 + l.val, by omega⟩) + ∑ q : Fin 688, addQ 5 ⟨352 + r.val, by omega⟩ q l := by
  unfold sl.H15_16
  frame_open
  iterate 2 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off22_eq i) 0)).trans hs.symm
  · exact (congrArg (· + l.val) (congrFun (k0_off22_eq i) 1))
  · rw [mask_bot, sel_mask (a := 352) (by omega) (by omega), exp_mask, ite_mul, ite_mul, zero_mul, zero_mul]
    rfl

theorem diag15_low_6 (b : af.view.ty.Contents (Elt Ideal)) (hc : k0_cond4 i = 1#1) (r : Fin 352) (l : Fin 128) (s : Fin 2064) (hs : s.val = 688 * (i 2).val + r.val) :
    leftQ b hc (ix2 s ⟨768 + l.val, by omega⟩) = xf (ix2 s ⟨768 + l.val, by omega⟩) + ∑ q : Fin 352, addQ 6 ⟨r.val, by omega⟩ ⟨q.val, by omega⟩ l := by
  unfold sl.H15_16
  frame_open
  iterate 8 refine (skip 0 (688 * (i 2).val + 352) 336 (by simp [Rect.unit])).trans ?_
  refine (skip 1 896 128 (congrFun (k0_off16_eq i) 1)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off15_eq i) 0)).trans hs.symm
  · exact (congrArg (· + l.val) (congrFun (k0_off15_eq i) 1))
  · rw [mask_bot, sel_mask0 (by omega) (by omega), exp_mask, ite_mul, ite_mul, zero_mul, zero_mul]
    rfl

theorem diag15_high_6 (b : af.view.ty.Contents (Elt Ideal)) (hc : k0_cond4 i = 1#1) (r : Fin 336) (l : Fin 128) (s : Fin 2064) (hs : s.val = 688 * (i 2).val + 352 + r.val) :
    leftQ b hc (ix2 s ⟨768 + l.val, by omega⟩) = xf (ix2 s ⟨768 + l.val, by omega⟩) + ∑ q : Fin 688, addQ 6 ⟨352 + r.val, by omega⟩ q l := by
  unfold sl.H15_16
  frame_open
  refine (skip 1 896 128 (congrFun (k0_off24_eq i) 1)).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off23_eq i) 0)).trans hs.symm
  · exact (congrArg (· + l.val) (congrFun (k0_off23_eq i) 1))
  · rw [mask_bot, sel_mask (a := 352) (by omega) (by omega), exp_mask, ite_mul, ite_mul, zero_mul, zero_mul]
    rfl

theorem diag15_low_7 (b : af.view.ty.Contents (Elt Ideal)) (hc : k0_cond4 i = 1#1) (r : Fin 352) (l : Fin 128) (s : Fin 2064) (hs : s.val = 688 * (i 2).val + r.val) :
    leftQ b hc (ix2 s ⟨896 + l.val, by omega⟩) = xf (ix2 s ⟨896 + l.val, by omega⟩) + ∑ q : Fin 352, addQ 7 ⟨r.val, by omega⟩ ⟨q.val, by omega⟩ l := by
  unfold sl.H15_16
  frame_open
  iterate 8 refine (skip 0 (688 * (i 2).val + 352) 336 (by simp [Rect.unit])).trans ?_
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off16_eq i) 0)).trans hs.symm
  · exact (congrArg (· + l.val) (congrFun (k0_off16_eq i) 1))
  · rw [mask_bot, sel_mask0 (by omega) (by omega), exp_mask, ite_mul, ite_mul, zero_mul, zero_mul]
    rfl

theorem diag15_high_7 (b : af.view.ty.Contents (Elt Ideal)) (hc : k0_cond4 i = 1#1) (r : Fin 336) (l : Fin 128) (s : Fin 2064) (hs : s.val = 688 * (i 2).val + 352 + r.val) :
    leftQ b hc (ix2 s ⟨896 + l.val, by omega⟩) = xf (ix2 s ⟨896 + l.val, by omega⟩) + ∑ q : Fin 688, addQ 7 ⟨352 + r.val, by omega⟩ q l := by
  unfold sl.H15_16
  frame_open
  refine (hit (ix2 r l)).trans ?_
  simp only [readAt_eq_ld, read_unread]
  pointwise []
  simp only [sel_low, sel_high, sel_lane64, sel_lane0]
  refine add2 (congrArg xf (ix2_ext ?_ ?_)) (Finset.sum_congr rfl fun q _ => ?_)
  · exact (congrArg (· + r.val) (congrFun (k0_off24_eq i) 0)).trans hs.symm
  · exact (congrArg (· + l.val) (congrFun (k0_off24_eq i) 1))
  · rw [mask_bot, sel_mask (a := 352) (by omega) (by omega), exp_mask, ite_mul, ite_mul, zero_mul, zero_mul]
    rfl

theorem diag15_any_0 (b : af.view.ty.Contents (Elt Ideal)) (hc : k0_cond4 i = 1#1) (r : Fin 688) (l : Fin 128) (s : Fin 2064) (hs : s.val = 688 * (i 2).val + r.val) :
    leftQ b hc (ix2 s ⟨l.val, by omega⟩) = xf (ix2 s ⟨l.val, by omega⟩) + ∑ k : Fin 688, addQ 0 r k l := by
  by_cases hr : r.val < 352
  · refine (diag15_low_0 (r := ⟨r.val, hr⟩) (hs := hs) ..).trans ?_
    rw [sum_bands, sum_second_zero (f := fun q => addQ 0 r q l) fun q h => maskQ_later (h := by omega) .., add_zero]
  · refine (diag15_high_0 (r := ⟨r.val - 352, by omega⟩) (hs := by dsimp only; omega) ..).trans ?_
    rw [show (⟨352 + (r.val - 352), by omega⟩ : Fin 688) = r from Fin.ext (by dsimp only; omega)]

theorem diag15_any_1 (b : af.view.ty.Contents (Elt Ideal)) (hc : k0_cond4 i = 1#1) (r : Fin 688) (l : Fin 128) (s : Fin 2064) (hs : s.val = 688 * (i 2).val + r.val) :
    leftQ b hc (ix2 s ⟨128 + l.val, by omega⟩) = xf (ix2 s ⟨128 + l.val, by omega⟩) + ∑ k : Fin 688, addQ 1 r k l := by
  by_cases hr : r.val < 352
  · refine (diag15_low_1 (r := ⟨r.val, hr⟩) (hs := hs) ..).trans ?_
    rw [sum_bands, sum_second_zero (f := fun q => addQ 1 r q l) fun q h => maskQ_later (h := by omega) .., add_zero]
  · refine (diag15_high_1 (r := ⟨r.val - 352, by omega⟩) (hs := by dsimp only; omega) ..).trans ?_
    rw [show (⟨352 + (r.val - 352), by omega⟩ : Fin 688) = r from Fin.ext (by dsimp only; omega)]

theorem diag15_any_2 (b : af.view.ty.Contents (Elt Ideal)) (hc : k0_cond4 i = 1#1) (r : Fin 688) (l : Fin 128) (s : Fin 2064) (hs : s.val = 688 * (i 2).val + r.val) :
    leftQ b hc (ix2 s ⟨256 + l.val, by omega⟩) = xf (ix2 s ⟨256 + l.val, by omega⟩) + ∑ k : Fin 688, addQ 2 r k l := by
  by_cases hr : r.val < 352
  · refine (diag15_low_2 (r := ⟨r.val, hr⟩) (hs := hs) ..).trans ?_
    rw [sum_bands, sum_second_zero (f := fun q => addQ 2 r q l) fun q h => maskQ_later (h := by omega) .., add_zero]
  · refine (diag15_high_2 (r := ⟨r.val - 352, by omega⟩) (hs := by dsimp only; omega) ..).trans ?_
    rw [show (⟨352 + (r.val - 352), by omega⟩ : Fin 688) = r from Fin.ext (by dsimp only; omega)]

theorem diag15_any_3 (b : af.view.ty.Contents (Elt Ideal)) (hc : k0_cond4 i = 1#1) (r : Fin 688) (l : Fin 128) (s : Fin 2064) (hs : s.val = 688 * (i 2).val + r.val) :
    leftQ b hc (ix2 s ⟨384 + l.val, by omega⟩) = xf (ix2 s ⟨384 + l.val, by omega⟩) + ∑ k : Fin 688, addQ 3 r k l := by
  by_cases hr : r.val < 352
  · refine (diag15_low_3 (r := ⟨r.val, hr⟩) (hs := hs) ..).trans ?_
    rw [sum_bands, sum_second_zero (f := fun q => addQ 3 r q l) fun q h => maskQ_later (h := by omega) .., add_zero]
  · refine (diag15_high_3 (r := ⟨r.val - 352, by omega⟩) (hs := by dsimp only; omega) ..).trans ?_
    rw [show (⟨352 + (r.val - 352), by omega⟩ : Fin 688) = r from Fin.ext (by dsimp only; omega)]

theorem diag15_any_4 (b : af.view.ty.Contents (Elt Ideal)) (hc : k0_cond4 i = 1#1) (r : Fin 688) (l : Fin 128) (s : Fin 2064) (hs : s.val = 688 * (i 2).val + r.val) :
    leftQ b hc (ix2 s ⟨512 + l.val, by omega⟩) = xf (ix2 s ⟨512 + l.val, by omega⟩) + ∑ k : Fin 688, addQ 4 r k l := by
  by_cases hr : r.val < 352
  · refine (diag15_low_4 (r := ⟨r.val, hr⟩) (hs := hs) ..).trans ?_
    rw [sum_bands, sum_second_zero (f := fun q => addQ 4 r q l) fun q h => maskQ_later (h := by omega) .., add_zero]
  · refine (diag15_high_4 (r := ⟨r.val - 352, by omega⟩) (hs := by dsimp only; omega) ..).trans ?_
    rw [show (⟨352 + (r.val - 352), by omega⟩ : Fin 688) = r from Fin.ext (by dsimp only; omega)]

theorem diag15_any_5 (b : af.view.ty.Contents (Elt Ideal)) (hc : k0_cond4 i = 1#1) (r : Fin 688) (l : Fin 128) (s : Fin 2064) (hs : s.val = 688 * (i 2).val + r.val) :
    leftQ b hc (ix2 s ⟨640 + l.val, by omega⟩) = xf (ix2 s ⟨640 + l.val, by omega⟩) + ∑ k : Fin 688, addQ 5 r k l := by
  by_cases hr : r.val < 352
  · refine (diag15_low_5 (r := ⟨r.val, hr⟩) (hs := hs) ..).trans ?_
    rw [sum_bands, sum_second_zero (f := fun q => addQ 5 r q l) fun q h => maskQ_later (h := by omega) .., add_zero]
  · refine (diag15_high_5 (r := ⟨r.val - 352, by omega⟩) (hs := by dsimp only; omega) ..).trans ?_
    rw [show (⟨352 + (r.val - 352), by omega⟩ : Fin 688) = r from Fin.ext (by dsimp only; omega)]

theorem diag15_any_6 (b : af.view.ty.Contents (Elt Ideal)) (hc : k0_cond4 i = 1#1) (r : Fin 688) (l : Fin 128) (s : Fin 2064) (hs : s.val = 688 * (i 2).val + r.val) :
    leftQ b hc (ix2 s ⟨768 + l.val, by omega⟩) = xf (ix2 s ⟨768 + l.val, by omega⟩) + ∑ k : Fin 688, addQ 6 r k l := by
  by_cases hr : r.val < 352
  · refine (diag15_low_6 (r := ⟨r.val, hr⟩) (hs := hs) ..).trans ?_
    rw [sum_bands, sum_second_zero (f := fun q => addQ 6 r q l) fun q h => maskQ_later (h := by omega) .., add_zero]
  · refine (diag15_high_6 (r := ⟨r.val - 352, by omega⟩) (hs := by dsimp only; omega) ..).trans ?_
    rw [show (⟨352 + (r.val - 352), by omega⟩ : Fin 688) = r from Fin.ext (by dsimp only; omega)]

theorem diag15_any_7 (b : af.view.ty.Contents (Elt Ideal)) (hc : k0_cond4 i = 1#1) (r : Fin 688) (l : Fin 128) (s : Fin 2064) (hs : s.val = 688 * (i 2).val + r.val) :
    leftQ b hc (ix2 s ⟨896 + l.val, by omega⟩) = xf (ix2 s ⟨896 + l.val, by omega⟩) + ∑ k : Fin 688, addQ 7 r k l := by
  by_cases hr : r.val < 352
  · refine (diag15_low_7 (r := ⟨r.val, hr⟩) (hs := hs) ..).trans ?_
    rw [sum_bands, sum_second_zero (f := fun q => addQ 7 r q l) fun q h => maskQ_later (h := by omega) .., add_zero]
  · refine (diag15_high_7 (r := ⟨r.val - 352, by omega⟩) (hs := by dsimp only; omega) ..).trans ?_
    rw [show (⟨352 + (r.val - 352), by omega⟩ : Fin 688) = r from Fin.ext (by dsimp only; omega)]

/-- The block of queries read back at the end of the region: what the region leaves in those rows. -/
theorem back_eq (hc : k0_cond4 i = 1#1) (r : Fin 688) (m : Fin 1024) (s : Fin 2064) (hs : s.val = 688 * (i 2).val + r.val) :
    (sl.v1334 (F := Ideal) c i w3 w4 w5 w6 w7 w8 w9 wf hc x3 x4 x5 x6 x7 x8 x9 xf) (ix2 r m) = diag15 c i w3 w4 w5 w6 w7 w8 w9 wa wb wc wd we wf wg wh hc x3 x4 x5 x6 x7 x8 x9 xa xe xf xg xh (ix2 s m) := by
  have hj : (Rect.unit (s := S2064x1024) (k0_off25 i) S688x1024.size (k0_off25_inb i hc)).toLoadRect.idx (ix2 r m) = ix2 s m := by
    funext a; fin_cases a <;> apply Fin.ext <;> simp [LoadRect.idx, Rect.unit, ix2, k0_off25_eq, hs]
  refine (congrArg (af.view.read (Elt Ideal) (af.view.writes (Elt Ideal) af.view.junk (sl.H15_16 (F := Ideal) c i w3 w4 w5 w6 w7 w8 w9 wf hc x3 x4 x5 x6 x7 x8 x9 xf))) hj).trans ?_
  clear hj
  revert m
  refine cases_lane8 ?_ ?_ ?_ ?_ ?_ ?_ ?_ ?_ <;> intro l
  · exact (diag15_any_0 (l := l) (hs := hs) ..).trans (diag15_any_0 (l := l) (hs := hs) ..).symm
  · exact (diag15_any_1 (l := l) (hs := hs) ..).trans (diag15_any_1 (l := l) (hs := hs) ..).symm
  · exact (diag15_any_2 (l := l) (hs := hs) ..).trans (diag15_any_2 (l := l) (hs := hs) ..).symm
  · exact (diag15_any_3 (l := l) (hs := hs) ..).trans (diag15_any_3 (l := l) (hs := hs) ..).symm
  · exact (diag15_any_4 (l := l) (hs := hs) ..).trans (diag15_any_4 (l := l) (hs := hs) ..).symm
  · exact (diag15_any_5 (l := l) (hs := hs) ..).trans (diag15_any_5 (l := l) (hs := hs) ..).symm
  · exact (diag15_any_6 (l := l) (hs := hs) ..).trans (diag15_any_6 (l := l) (hs := hs) ..).symm
  · exact (diag15_any_7 (l := l) (hs := hs) ..).trans (diag15_any_7 (l := l) (hs := hs) ..).symm

theorem diag15_0 (hc : k0_cond4 i = 1#1) (r : Fin 688) (l : Fin 128) (s : Fin 2064) (hs : s.val = 688 * (i 2).val + r.val) :
    diag15 c i w3 w4 w5 w6 w7 w8 w9 wa wb wc wd we wf wg wh hc x3 x4 x5 x6 x7 x8 x9 xa xe xf xg xh (ix2 s ⟨l.val, by omega⟩) = xf (ix2 s ⟨l.val, by omega⟩) + ∑ k : Fin 688, addQ 0 r k l :=
  diag15_any_0 (hs := hs) ..

theorem diag15_1 (hc : k0_cond4 i = 1#1) (r : Fin 688) (l : Fin 128) (s : Fin 2064) (hs : s.val = 688 * (i 2).val + r.val) :
    diag15 c i w3 w4 w5 w6 w7 w8 w9 wa wb wc wd we wf wg wh hc x3 x4 x5 x6 x7 x8 x9 xa xe xf xg xh (ix2 s ⟨128 + l.val, by omega⟩) = xf (ix2 s ⟨128 + l.val, by omega⟩) + ∑ k : Fin 688, addQ 1 r k l :=
  diag15_any_1 (hs := hs) ..

theorem diag15_2 (hc : k0_cond4 i = 1#1) (r : Fin 688) (l : Fin 128) (s : Fin 2064) (hs : s.val = 688 * (i 2).val + r.val) :
    diag15 c i w3 w4 w5 w6 w7 w8 w9 wa wb wc wd we wf wg wh hc x3 x4 x5 x6 x7 x8 x9 xa xe xf xg xh (ix2 s ⟨256 + l.val, by omega⟩) = xf (ix2 s ⟨256 + l.val, by omega⟩) + ∑ k : Fin 688, addQ 2 r k l :=
  diag15_any_2 (hs := hs) ..

theorem diag15_3 (hc : k0_cond4 i = 1#1) (r : Fin 688) (l : Fin 128) (s : Fin 2064) (hs : s.val = 688 * (i 2).val + r.val) :
    diag15 c i w3 w4 w5 w6 w7 w8 w9 wa wb wc wd we wf wg wh hc x3 x4 x5 x6 x7 x8 x9 xa xe xf xg xh (ix2 s ⟨384 + l.val, by omega⟩) = xf (ix2 s ⟨384 + l.val, by omega⟩) + ∑ k : Fin 688, addQ 3 r k l :=
  diag15_any_3 (hs := hs) ..

theorem diag15_4 (hc : k0_cond4 i = 1#1) (r : Fin 688) (l : Fin 128) (s : Fin 2064) (hs : s.val = 688 * (i 2).val + r.val) :
    diag15 c i w3 w4 w5 w6 w7 w8 w9 wa wb wc wd we wf wg wh hc x3 x4 x5 x6 x7 x8 x9 xa xe xf xg xh (ix2 s ⟨512 + l.val, by omega⟩) = xf (ix2 s ⟨512 + l.val, by omega⟩) + ∑ k : Fin 688, addQ 4 r k l :=
  diag15_any_4 (hs := hs) ..

theorem diag15_5 (hc : k0_cond4 i = 1#1) (r : Fin 688) (l : Fin 128) (s : Fin 2064) (hs : s.val = 688 * (i 2).val + r.val) :
    diag15 c i w3 w4 w5 w6 w7 w8 w9 wa wb wc wd we wf wg wh hc x3 x4 x5 x6 x7 x8 x9 xa xe xf xg xh (ix2 s ⟨640 + l.val, by omega⟩) = xf (ix2 s ⟨640 + l.val, by omega⟩) + ∑ k : Fin 688, addQ 5 r k l :=
  diag15_any_5 (hs := hs) ..

theorem diag15_6 (hc : k0_cond4 i = 1#1) (r : Fin 688) (l : Fin 128) (s : Fin 2064) (hs : s.val = 688 * (i 2).val + r.val) :
    diag15 c i w3 w4 w5 w6 w7 w8 w9 wa wb wc wd we wf wg wh hc x3 x4 x5 x6 x7 x8 x9 xa xe xf xg xh (ix2 s ⟨768 + l.val, by omega⟩) = xf (ix2 s ⟨768 + l.val, by omega⟩) + ∑ k : Fin 688, addQ 6 r k l :=
  diag15_any_6 (hs := hs) ..

theorem diag15_7 (hc : k0_cond4 i = 1#1) (r : Fin 688) (l : Fin 128) (s : Fin 2064) (hs : s.val = 688 * (i 2).val + r.val) :
    diag15 c i w3 w4 w5 w6 w7 w8 w9 wa wb wc wd we wf wg wh hc x3 x4 x5 x6 x7 x8 x9 xa xe xf xg xh (ix2 s ⟨896 + l.val, by omega⟩) = xf (ix2 s ⟨896 + l.val, by omega⟩) + ∑ k : Fin 688, addQ 7 r k l :=
  diag15_any_7 (hs := hs) ..

end Cert.AttnBwdIdeal.Hand

end
-- ==== Proof.AttnOut.lean ====
module

public import proofs.«01_k».proof.Proof.AttnDiagQ
public import Idealize.ShloMosaic.Lib.WritesUnit

@[expose] public section

set_option maxRecDepth 65536

noncomputable section

namespace Cert.AttnBwdIdeal.Hand

open diagRun

open Cert.AttnBwdIdeal Cert.AttnBwdIdeal.Gen
open Idealize.ShloMosaic TcCoe Tactic Pointwise
open Idealize.SL RA BI Sem
open Cert.Common

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (x3 x4 x5 : Vec Ideal S1x688x512 .bf16) (x6 : Vec Ideal S1x688x512 .f32) (x7 : Vec Ideal S1x688x512 .bf16) (x8 : Vec Ideal S1x688x128 .f32) (x9 : Vec Ideal S1x1x8x688 .f32) (xa : Vec Ideal S1x2064x512 .f32) (xb xc : Vec Ideal S1x688x512 .bf16) (xd : Vec Ideal S1x688x128 .f32) (xe : Vec Ideal S1x2064x128 .f32) (xf : Vec Ideal S2064x1024 .f32) (xg : Vec Ideal S688x1024 .f32) (xh : Vec Ideal S688x512 .f32)
attribute [local simp] k0_off26_eq k0_off27_eq k0_off28_eq k0_off29_eq k0_off30_eq
attribute [local pointwise] k0_pay1 k0_pay2 k0_pay3 k0_pay6 k0_pay7 k0_pay8 k0_pay9 k0_pay10 k0_pay11 k0_pay12 k0_pay13 k0_pay119 k0_pay120 k0_pay121 k0_pay122 k0_pay123 k0_pay124 k0_pay125 k0_pay130 k0_pay131 k0_pay132 k0_pay133 k0_pay134 k0_pay135 k0_pay136 k0_pay150 k0_pay151 k0_pay152 k0_pay153 k0_pay154 k0_pay162 k0_pay163 k0_pay164 k0_pay165 k0_pay166 k0_pay167 k0_pay17._proof_1 k0_pay173 k0_pay174 k0_pay175 k0_pay176 k0_pay177 k0_pay183 k0_pay184 k0_pay185 k0_pay186 k0_pay187 k0_pay188 k0_pay199 k0_pay200 k0_pay201 k0_pay202 k0_pay203 k0_pay204 k0_pay205 k0_pay206 k0_pay207 k0_pay208 k0_pay221 k0_pay222 k0_pay223 k0_pay224 k0_pay225 k0_pay226 k0_pay232 k0_pay233 k0_pay234 k0_pay235 k0_pay236 k0_pay237 k0_pay249 k0_pay250 k0_pay251 k0_pay252 k0_pay259 k0_pay260 k0_pay261 k0_pay262 k0_pay263 k0_pay270 k0_pay271 k0_pay272 k0_pay273 k0_pay274 k0_pay275 k0_pay280 k0_pay281 k0_pay282 k0_pay283 k0_pay284 k0_pay285 k0_pay289 k0_pay290 k0_pay291 k0_pay292 k0_pay293 k0_pay294 k0_pay295 k0_pay296 k0_pay303 k0_pay304 k0_pay305 k0_pay306 k0_pay307 k0_pay323 k0_pay324 k0_pay325 k0_pay326 k0_pay327 k0_pay328 k0_pay329 k0_pay330 k0_pay331 k0_pay332 k0_pay333 k0_pay334 k0_pay335 k0_pay336 k0_pay337 k0_pay338 k0_pay339 k0_pay340 k0_pay341 k0_pay342 k0_pay343 k0_pay344 k0_pay345 k0_pay346

attribute [local pointwise] sl.r_75 sl.v1390 sl.v1387 sl.v1373 sl.v1370 sl.v1356 sl.v1353 sl.v1339 sl.cst_782 sl.v1352 sl.v1351 sl.v1350 sl.v1341 sl.v1348 sl.v768 sl.v1355 sl.v1354 sl.v1347 sl.v1340 sl.v849 sl.v1369 sl.v1368 sl.v1367 sl.v1358 sl.v1365 sl.v1372 sl.v1371 sl.v1364 sl.v1357 sl.v1362 sl.v1386 sl.v1385 sl.v1384 sl.v1375 sl.v1382 sl.v1389 sl.v1388 sl.v1381 sl.v1374 sl.v1379 sl.v1344 sl.v1343 sl.cst_783 sl.v1342 sl.v769 sl.v1361 sl.v1359 sl.v1378 sl.v1376 sl.r_74

theorem diag10_0 (hc : k0_cond4 i = 1#1) (r : Fin 688) (l : Fin 128) (s : Fin 2064) (hs : s.val = 688 * (i 2).val + r.val) :
    diag10 c i w3 w4 w5 w6 w7 w8 w9 wa wb wc wd we wf wg wh hc x3 x4 x5 x6 x7 x8 x9 xa xe xf xg xh (ix3 0 s ⟨l.val, by omega⟩) =
      (if l.val < 64 then diag15 c i w3 w4 w5 w6 w7 w8 w9 wa wb wc wd we wf wg wh hc x3 x4 x5 x6 x7 x8 x9 xa xe xf xg xh (ix2 s ⟨l.val, by omega⟩) else diag15 c i w3 w4 w5 w6 w7 w8 w9 wa wb wc wd we wf wg wh hc x3 x4 x5 x6 x7 x8 x9 xa xe xf xg xh (ix2 s ⟨128 + l.val, by omega⟩)) * Ideal.ofBits .f32 1040187392#32 := by
  have hb : ∀ m, (sl.v1334 (F := Ideal) c i w3 w4 w5 w6 w7 w8 w9 wf hc x3 x4 x5 x6 x7 x8 x9 xf) (ix2 r m) = diag15 c i w3 w4 w5 w6 w7 w8 w9 wa wb wc wd we wf wg wh hc x3 x4 x5 x6 x7 x8 x9 xa xe xf xg xh (ix2 s m) := fun m => back_eq (hs := hs) ..
  unfold diag10 diagRun
  dsimp only
  refine (skip 2 384 128 (congrFun (k0_off29_eq i) 2)).trans ?_
  refine (skip 2 256 128 (congrFun (k0_off28_eq i) 2)).trans ?_
  refine (skip 2 128 128 (congrFun (k0_off27_eq i) 2)).trans ?_
  refine (hit (ix3 0 r l)).trans ?_
  pointwise []
  simp only [hb, sel_low]

theorem diag10_1 (hc : k0_cond4 i = 1#1) (r : Fin 688) (l : Fin 128) (s : Fin 2064) (hs : s.val = 688 * (i 2).val + r.val) :
    diag10 c i w3 w4 w5 w6 w7 w8 w9 wa wb wc wd we wf wg wh hc x3 x4 x5 x6 x7 x8 x9 xa xe xf xg xh (ix3 0 s ⟨128 + l.val, by omega⟩) =
      (if l.val < 64 then diag15 c i w3 w4 w5 w6 w7 w8 w9 wa wb wc wd we wf wg wh hc x3 x4 x5 x6 x7 x8 x9 xa xe xf xg xh (ix2 s ⟨256 + l.val, by omega⟩) else diag15 c i w3 w4 w5 w6 w7 w8 w9 wa wb wc wd we wf wg wh hc x3 x4 x5 x6 x7 x8 x9 xa xe xf xg xh (ix2 s ⟨384 + l.val, by omega⟩)) * Ideal.ofBits .f32 1040187392#32 := by
  have hb : ∀ m, (sl.v1334 (F := Ideal) c i w3 w4 w5 w6 w7 w8 w9 wf hc x3 x4 x5 x6 x7 x8 x9 xf) (ix2 r m) = diag15 c i w3 w4 w5 w6 w7 w8 w9 wa wb wc wd we wf wg wh hc x3 x4 x5 x6 x7 x8 x9 xa xe xf xg xh (ix2 s m) := fun m => back_eq (hs := hs) ..
  unfold diag10 diagRun
  dsimp only
  refine (skip 2 384 128 (congrFun (k0_off29_eq i) 2)).trans ?_
  refine (skip 2 256 128 (congrFun (k0_off28_eq i) 2)).trans ?_
  refine (hit (ix3 0 r l)).trans ?_
  pointwise []
  simp only [hb, sel_low]

theorem diag10_2 (hc : k0_cond4 i = 1#1) (r : Fin 688) (l : Fin 128) (s : Fin 2064) (hs : s.val = 688 * (i 2).val + r.val) :
    diag10 c i w3 w4 w5 w6 w7 w8 w9 wa wb wc wd we wf wg wh hc x3 x4 x5 x6 x7 x8 x9 xa xe xf xg xh (ix3 0 s ⟨256 + l.val, by omega⟩) =
      (if l.val < 64 then diag15 c i w3 w4 w5 w6 w7 w8 w9 wa wb wc wd we wf wg wh hc x3 x4 x5 x6 x7 x8 x9 xa xe xf xg xh (ix2 s ⟨512 + l.val, by omega⟩) else diag15 c i w3 w4 w5 w6 w7 w8 w9 wa wb wc wd we wf wg wh hc x3 x4 x5 x6 x7 x8 x9 xa xe xf xg xh (ix2 s ⟨640 + l.val, by omega⟩)) * Ideal.ofBits .f32 1040187392#32 := by
  have hb : ∀ m, (sl.v1334 (F := Ideal) c i w3 w4 w5 w6 w7 w8 w9 wf hc x3 x4 x5 x6 x7 x8 x9 xf) (ix2 r m) = diag15 c i w3 w4 w5 w6 w7 w8 w9 wa wb wc wd we wf wg wh hc x3 x4 x5 x6 x7 x8 x9 xa xe xf xg xh (ix2 s m) := fun m => back_eq (hs := hs) ..
  unfold diag10 diagRun
  dsimp only
  refine (skip 2 384 128 (congrFun (k0_off29_eq i) 2)).trans ?_
  refine (hit (ix3 0 r l)).trans ?_
  pointwise []
  simp only [hb, sel_low]

theorem diag10_3 (hc : k0_cond4 i = 1#1) (r : Fin 688) (l : Fin 128) (s : Fin 2064) (hs : s.val = 688 * (i 2).val + r.val) :
    diag10 c i w3 w4 w5 w6 w7 w8 w9 wa wb wc wd we wf wg wh hc x3 x4 x5 x6 x7 x8 x9 xa xe xf xg xh (ix3 0 s ⟨384 + l.val, by omega⟩) =
      (if l.val < 64 then diag15 c i w3 w4 w5 w6 w7 w8 w9 wa wb wc wd we wf wg wh hc x3 x4 x5 x6 x7 x8 x9 xa xe xf xg xh (ix2 s ⟨768 + l.val, by omega⟩) else diag15 c i w3 w4 w5 w6 w7 w8 w9 wa wb wc wd we wf wg wh hc x3 x4 x5 x6 x7 x8 x9 xa xe xf xg xh (ix2 s ⟨896 + l.val, by omega⟩)) * Ideal.ofBits .f32 1040187392#32 := by
  have hb : ∀ m, (sl.v1334 (F := Ideal) c i w3 w4 w5 w6 w7 w8 w9 wf hc x3 x4 x5 x6 x7 x8 x9 xf) (ix2 r m) = diag15 c i w3 w4 w5 w6 w7 w8 w9 wa wb wc wd we wf wg wh hc x3 x4 x5 x6 x7 x8 x9 xa xe xf xg xh (ix2 s m) := fun m => back_eq (hs := hs) ..
  unfold diag10 diagRun
  dsimp only
  refine (hit (ix3 0 r l)).trans ?_
  pointwise []
  simp only [hb, sel_low]

theorem diag14_eq (hc : k0_cond4 i = 1#1) (r : Fin 688) (l : Fin 128) (s : Fin 2064) (hs : s.val = 688 * (i 2).val + r.val) :
    diag14 c i w3 w4 w5 w6 w7 w8 w9 wa wb wc wd we wf wg wh hc x3 x4 x5 x6 x7 x8 x9 xa xe xf xg xh (ix3 0 s l) = sums (fun m => diag15 c i w3 w4 w5 w6 w7 w8 w9 wa wb wc wd we wf wg wh hc x3 x4 x5 x6 x7 x8 x9 xa xe xf xg xh (ix2 s m)) l := by
  have hb : ∀ m, (sl.v1334 (F := Ideal) c i w3 w4 w5 w6 w7 w8 w9 wf hc x3 x4 x5 x6 x7 x8 x9 xf) (ix2 r m) = diag15 c i w3 w4 w5 w6 w7 w8 w9 wa wb wc wd we wf wg wh hc x3 x4 x5 x6 x7 x8 x9 xa xe xf xg xh (ix2 s m) := fun m => back_eq (hs := hs) ..
  unfold diag14 diagRun
  dsimp only
  refine (hit (ix3 0 r l)).trans ?_
  pointwise []
  simp only [hb]
  exact sums_eq (fun m => diag15 c i w3 w4 w5 w6 w7 w8 w9 wa wb wc wd we wf wg wh hc x3 x4 x5 x6 x7 x8 x9 xa xe xf xg xh (ix2 s m)) l

/-- A row of 2064 outside the tile keeps what it held. -/
theorem diag10_skip (hc : k0_cond4 i = 1#1) (s : Fin 2064) (m : Fin 512) (hs : s.val < 688 * (i 2).val ∨ 688 * (i 2).val + 688 ≤ s.val) :
    diag10 c i w3 w4 w5 w6 w7 w8 w9 wa wb wc wd we wf wg wh hc x3 x4 x5 x6 x7 x8 x9 xa xe xf xg xh (ix3 0 s m) = xa (ix3 0 s m) := by
  unfold diag10 diagRun
  dsimp only
  refine (View.read_writes_cons_miss_of_axis _ _ _ _ _ 1 (688 * (i 2).val) 688 (congrFun (k0_off29_eq i) 1) rfl rfl hs).trans ?_
  refine (View.read_writes_cons_miss_of_axis _ _ _ _ _ 1 (688 * (i 2).val) 688 (congrFun (k0_off28_eq i) 1) rfl rfl hs).trans ?_
  refine (View.read_writes_cons_miss_of_axis _ _ _ _ _ 1 (688 * (i 2).val) 688 (congrFun (k0_off27_eq i) 1) rfl rfl hs).trans ?_
  refine (View.read_writes_cons_miss_of_axis _ _ _ _ _ 1 (688 * (i 2).val) 688 (congrFun (k0_off26_eq i) 1) rfl rfl hs).trans ?_
  exact congrFun (wa.read_unread xa) _

theorem diag14_skip (hc : k0_cond4 i = 1#1) (s : Fin 2064) (m : Fin 128) (hs : s.val < 688 * (i 2).val ∨ 688 * (i 2).val + 688 ≤ s.val) :
    diag14 c i w3 w4 w5 w6 w7 w8 w9 wa wb wc wd we wf wg wh hc x3 x4 x5 x6 x7 x8 x9 xa xe xf xg xh (ix3 0 s m) = xe (ix3 0 s m) := by
  unfold diag14 diagRun
  dsimp only
  refine (View.read_writes_cons_miss_of_axis _ _ _ _ _ 1 (688 * (i 2).val) 688 (congrFun (k0_off30_eq i) 1) rfl rfl hs).trans ?_
  exact congrFun (we.read_unread xe) _

theorem last11_0 (hc : k0_cond5 i = 1#1) (r : Fin 688) (l : Fin 128) :
    last11 c i w3 w4 w5 w6 w7 w8 w9 wa wb wc wd we wf wg wh hc xb xc xd xg xh (ix3 0 r ⟨l.val, by omega⟩) = if l.val < 64 then xg (ix2 r ⟨l.val, by omega⟩) else xg (ix2 r ⟨128 + l.val, by omega⟩) := by
  unfold last11
  frame_open
  refine (skip 2 384 128).trans ?_
  refine (skip 2 256 128).trans ?_
  refine (skip 2 128 128).trans ?_
  refine (hit (ix3 0 r l)).trans ?_
  simp only [readAt_eq_ld, read_unread]
  pointwise []
  simp only [sel_low]

theorem last11_1 (hc : k0_cond5 i = 1#1) (r : Fin 688) (l : Fin 128) :
    last11 c i w3 w4 w5 w6 w7 w8 w9 wa wb wc wd we wf wg wh hc xb xc xd xg xh (ix3 0 r ⟨128 + l.val, by omega⟩) = if l.val < 64 then xg (ix2 r ⟨256 + l.val, by omega⟩) else xg (ix2 r ⟨384 + l.val, by omega⟩) := by
  unfold last11
  frame_open
  refine (skip 2 384 128).trans ?_
  refine (skip 2 256 128).trans ?_
  refine (hit (ix3 0 r l)).trans ?_
  simp only [readAt_eq_ld, read_unread]
  pointwise []
  simp only [sel_low]

theorem last11_2 (hc : k0_cond5 i = 1#1) (r : Fin 688) (l : Fin 128) :
    last11 c i w3 w4 w5 w6 w7 w8 w9 wa wb wc wd we wf wg wh hc xb xc xd xg xh (ix3 0 r ⟨256 + l.val, by omega⟩) = if l.val < 64 then xg (ix2 r ⟨512 + l.val, by omega⟩) else xg (ix2 r ⟨640 + l.val, by omega⟩) := by
  unfold last11
  frame_open
  refine (skip 2 384 128).trans ?_
  refine (hit (ix3 0 r l)).trans ?_
  simp only [readAt_eq_ld, read_unread]
  pointwise []
  simp only [sel_low]

theorem last11_3 (hc : k0_cond5 i = 1#1) (r : Fin 688) (l : Fin 128) :
    last11 c i w3 w4 w5 w6 w7 w8 w9 wa wb wc wd we wf wg wh hc xb xc xd xg xh (ix3 0 r ⟨384 + l.val, by omega⟩) = if l.val < 64 then xg (ix2 r ⟨768 + l.val, by omega⟩) else xg (ix2 r ⟨896 + l.val, by omega⟩) := by
  unfold last11
  frame_open
  refine (hit (ix3 0 r l)).trans ?_
  simp only [readAt_eq_ld, read_unread]
  pointwise []
  simp only [sel_low]

theorem last12_eq (hc : k0_cond5 i = 1#1) (r : Fin 688) (l : Fin 512) :
    last12 c i w3 w4 w5 w6 w7 w8 w9 wa wb wc wd we wf wg wh hc xb xc xd xg xh (ix3 0 r l) = xh (ix2 r l) := by
  unfold last12
  frame_open
  refine (hit (ix3 0 r l)).trans ?_
  simp only [readAt_eq_ld, read_unread]
  pointwise []

theorem last13_eq (hc : k0_cond5 i = 1#1) (r : Fin 688) (l : Fin 128) :
    last13 c i w3 w4 w5 w6 w7 w8 w9 wa wb wc wd we wf wg wh hc xb xc xd xg xh (ix3 0 r l) = sums (fun m => xg (ix2 r m)) l := by
  unfold last13
  frame_open
  refine (hit (ix3 0 r l)).trans ?_
  simp only [readAt_eq_ld, read_unread]
  pointwise []
  exact sums_eq (fun m => xg (ix2 r m)) l

theorem zeroQ15_eq (r : Fin 2064) (l : Fin 1024) : zeroQ15 c i w3 w4 w5 w6 w7 w8 w9 wa wb wc wd we wf wg wh xf (ix2 r l) = 0 := by
  unfold zeroQ15
  frame_open
  refine (hit (ix2 r l)).trans ?_
  pointwise []

theorem zeroK16_eq (r : Fin 688) (l : Fin 1024) : zeroK16 c i w3 w4 w5 w6 w7 w8 w9 wa wb wc wd we wf wg wh xg xh (ix2 r l) = 0 := by
  unfold zeroK16
  frame_open
  refine (hit (ix2 r l)).trans ?_
  pointwise []

theorem zeroK17_eq (r : Fin 688) (l : Fin 512) : zeroK17 c i w3 w4 w5 w6 w7 w8 w9 wa wb wc wd we wf wg wh xg xh (ix2 r l) = 0 := by
  unfold zeroK17
  frame_open
  refine (hit (ix2 r l)).trans ?_
  pointwise []

end Cert.AttnBwdIdeal.Hand

end
-- ==== Proof.AttnFullK.lean ====
module

public import proofs.«01_k».proof.Proof.AttnSpec
public import Idealize.ShloMosaic.Lib.WritesUnit

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem
open Cert.Common

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (x3 x4 x5 : Vec Ideal S1x688x512 .bf16) (x6 : Vec Ideal S1x688x512 .f32) (x7 : Vec Ideal S1x688x512 .bf16) (x8 : Vec Ideal S1x688x128 .f32) (x9 : Vec Ideal S1x1x8x688 .f32) (xa : Vec Ideal S1x2064x512 .f32) (xb xc : Vec Ideal S1x688x512 .bf16) (xd : Vec Ideal S1x688x128 .f32) (xe : Vec Ideal S1x2064x128 .f32) (xf : Vec Ideal S2064x1024 .f32) (xg : Vec Ideal S688x1024 .f32) (xh : Vec Ideal S688x512 .f32)
attribute [local pointwise] k0_pay4 k0_pay5 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay17._proof_1

theorem full16_0 (hc : k0_cond3 i = 1#1) (r : Fin 688) (l : Fin 128) :
    full16 c i w3 w4 w5 w6 w7 w8 w9 wa wb wc wd we wf wg wh hc x3 x4 x5 x6 x7 x8 x9 xf xg xh (ix2 r ⟨l.val, by omega⟩) = xg (ix2 r ⟨l.val, by omega⟩) + ∑ q : Fin 688, addK x3 x4 x5 x6 x7 x8 x9 0 q r l := by
  unfold full16
  frame_open
  iterate 7 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  rfl

theorem full16_1 (hc : k0_cond3 i = 1#1) (r : Fin 688) (l : Fin 128) :
    full16 c i w3 w4 w5 w6 w7 w8 w9 wa wb wc wd we wf wg wh hc x3 x4 x5 x6 x7 x8 x9 xf xg xh (ix2 r ⟨128 + l.val, by omega⟩) = xg (ix2 r ⟨128 + l.val, by omega⟩) + ∑ q : Fin 688, addK x3 x4 x5 x6 x7 x8 x9 1 q r l := by
  unfold full16
  frame_open
  iterate 6 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  rfl

theorem full16_2 (hc : k0_cond3 i = 1#1) (r : Fin 688) (l : Fin 128) :
    full16 c i w3 w4 w5 w6 w7 w8 w9 wa wb wc wd we wf wg wh hc x3 x4 x5 x6 x7 x8 x9 xf xg xh (ix2 r ⟨256 + l.val, by omega⟩) = xg (ix2 r ⟨256 + l.val, by omega⟩) + ∑ q : Fin 688, addK x3 x4 x5 x6 x7 x8 x9 2 q r l := by
  unfold full16
  frame_open
  iterate 5 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  rfl

theorem full16_3 (hc : k0_cond3 i = 1#1) (r : Fin 688) (l : Fin 128) :
    full16 c i w3 w4 w5 w6 w7 w8 w9 wa wb wc wd we wf wg wh hc x3 x4 x5 x6 x7 x8 x9 xf xg xh (ix2 r ⟨384 + l.val, by omega⟩) = xg (ix2 r ⟨384 + l.val, by omega⟩) + ∑ q : Fin 688, addK x3 x4 x5 x6 x7 x8 x9 3 q r l := by
  unfold full16
  frame_open
  iterate 4 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  rfl

theorem full16_4 (hc : k0_cond3 i = 1#1) (r : Fin 688) (l : Fin 128) :
    full16 c i w3 w4 w5 w6 w7 w8 w9 wa wb wc wd we wf wg wh hc x3 x4 x5 x6 x7 x8 x9 xf xg xh (ix2 r ⟨512 + l.val, by omega⟩) = xg (ix2 r ⟨512 + l.val, by omega⟩) + ∑ q : Fin 688, addK x3 x4 x5 x6 x7 x8 x9 4 q r l := by
  unfold full16
  frame_open
  iterate 3 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  rfl

theorem full16_5 (hc : k0_cond3 i = 1#1) (r : Fin 688) (l : Fin 128) :
    full16 c i w3 w4 w5 w6 w7 w8 w9 wa wb wc wd we wf wg wh hc x3 x4 x5 x6 x7 x8 x9 xf xg xh (ix2 r ⟨640 + l.val, by omega⟩) = xg (ix2 r ⟨640 + l.val, by omega⟩) + ∑ q : Fin 688, addK x3 x4 x5 x6 x7 x8 x9 5 q r l := by
  unfold full16
  frame_open
  iterate 2 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  rfl

theorem full16_6 (hc : k0_cond3 i = 1#1) (r : Fin 688) (l : Fin 128) :
    full16 c i w3 w4 w5 w6 w7 w8 w9 wa wb wc wd we wf wg wh hc x3 x4 x5 x6 x7 x8 x9 xf xg xh (ix2 r ⟨768 + l.val, by omega⟩) = xg (ix2 r ⟨768 + l.val, by omega⟩) + ∑ q : Fin 688, addK x3 x4 x5 x6 x7 x8 x9 6 q r l := by
  unfold full16
  frame_open
  refine (skip 1 896 128).trans ?_
  refine (hit (ix2 r l)).trans ?_
  simp only [readAt_eq_ld, read_unread]
  pointwise []
  simp only [sel_low, sel_high, sel_lane64, sel_lane0]
  rfl

theorem full16_7 (hc : k0_cond3 i = 1#1) (r : Fin 688) (l : Fin 128) :
    full16 c i w3 w4 w5 w6 w7 w8 w9 wa wb wc wd we wf wg wh hc x3 x4 x5 x6 x7 x8 x9 xf xg xh (ix2 r ⟨896 + l.val, by omega⟩) = xg (ix2 r ⟨896 + l.val, by omega⟩) + ∑ q : Fin 688, addK x3 x4 x5 x6 x7 x8 x9 7 q r l := by
  unfold full16
  frame_open
  refine (hit (ix2 r l)).trans ?_
  simp only [readAt_eq_ld, read_unread]
  pointwise []
  simp only [sel_low, sel_high, sel_lane64, sel_lane0]
  rfl

theorem full17_0 (hc : k0_cond3 i = 1#1) (r : Fin 688) (l : Fin 128) :
    full17 c i w3 w4 w5 w6 w7 w8 w9 wa wb wc wd we wf wg wh hc x3 x4 x5 x6 x7 x8 x9 xf xg xh (ix2 r ⟨l.val, by omega⟩) = xh (ix2 r ⟨l.val, by omega⟩) + (∑ q : Fin 688, addV x3 x4 x7 x8 x9 0 q r l + ∑ q : Fin 688, addV x3 x4 x7 x8 x9 1 q r l) := by
  unfold full17
  frame_open
  iterate 3 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  rfl

theorem full17_1 (hc : k0_cond3 i = 1#1) (r : Fin 688) (l : Fin 128) :
    full17 c i w3 w4 w5 w6 w7 w8 w9 wa wb wc wd we wf wg wh hc x3 x4 x5 x6 x7 x8 x9 xf xg xh (ix2 r ⟨128 + l.val, by omega⟩) = xh (ix2 r ⟨128 + l.val, by omega⟩) + (∑ q : Fin 688, addV x3 x4 x7 x8 x9 2 q r l + ∑ q : Fin 688, addV x3 x4 x7 x8 x9 3 q r l) := by
  unfold full17
  frame_open
  iterate 2 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  rfl

theorem full17_2 (hc : k0_cond3 i = 1#1) (r : Fin 688) (l : Fin 128) :
    full17 c i w3 w4 w5 w6 w7 w8 w9 wa wb wc wd we wf wg wh hc x3 x4 x5 x6 x7 x8 x9 xf xg xh (ix2 r ⟨256 + l.val, by omega⟩) = xh (ix2 r ⟨256 + l.val, by omega⟩) + (∑ q : Fin 688, addV x3 x4 x7 x8 x9 4 q r l + ∑ q : Fin 688, addV x3 x4 x7 x8 x9 5 q r l) := by
  unfold full17
  frame_open
  refine (skip 1 384 128).trans ?_
  refine (hit (ix2 r l)).trans ?_
  simp only [readAt_eq_ld, read_unread]
  pointwise []
  simp only [sel_low, sel_high, sel_lane64, sel_lane0]
  rfl

theorem full17_3 (hc : k0_cond3 i = 1#1) (r : Fin 688) (l : Fin 128) :
    full17 c i w3 w4 w5 w6 w7 w8 w9 wa wb wc wd we wf wg wh hc x3 x4 x5 x6 x7 x8 x9 xf xg xh (ix2 r ⟨384 + l.val, by omega⟩) = xh (ix2 r ⟨384 + l.val, by omega⟩) + (∑ q : Fin 688, addV x3 x4 x7 x8 x9 6 q r l + ∑ q : Fin 688, addV x3 x4 x7 x8 x9 7 q r l) := by
  unfold full17
  frame_open
  refine (hit (ix2 r l)).trans ?_
  simp only [readAt_eq_ld, read_unread]
  pointwise []
  simp only [sel_low, sel_high, sel_lane64, sel_lane0]
  rfl

end Cert.AttnBwdIdeal.Hand

end
-- ==== Proof.AttnFullQ.lean ====
module

public import proofs.«01_k».proof.Proof.AttnSpec
public import Idealize.ShloMosaic.Lib.WritesUnit

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem
open Cert.Common

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (x3 x4 x5 : Vec Ideal S1x688x512 .bf16) (x6 : Vec Ideal S1x688x512 .f32) (x7 : Vec Ideal S1x688x512 .bf16) (x8 : Vec Ideal S1x688x128 .f32) (x9 : Vec Ideal S1x1x8x688 .f32) (xa : Vec Ideal S1x2064x512 .f32) (xb xc : Vec Ideal S1x688x512 .bf16) (xd : Vec Ideal S1x688x128 .f32) (xe : Vec Ideal S1x2064x128 .f32) (xf : Vec Ideal S2064x1024 .f32) (xg : Vec Ideal S688x1024 .f32) (xh : Vec Ideal S688x512 .f32)
attribute [local simp] k0_off1_eq k0_off2_eq k0_off3_eq k0_off4_eq k0_off5_eq k0_off6_eq k0_off7_eq k0_off8_eq
attribute [local pointwise] k0_pay4 k0_pay5 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay17._proof_1

theorem full15_0 (hc : k0_cond3 i = 1#1) (r : Fin 688) (l : Fin 128) (s : Fin 2064) (hs : s.val = 688 * (i 2).val + r.val) :
    full15 c i w3 w4 w5 w6 w7 w8 w9 wa wb wc wd we wf wg wh hc x3 x4 x5 x6 x7 x8 x9 xf xg xh (ix2 s ⟨l.val, by omega⟩) = xf (ix2 s ⟨l.val, by omega⟩) + ∑ k : Fin 688, addQ x3 x4 x5 x6 x7 x8 x9 0 r k l := by
  unfold full15
  frame_open
  iterate 7 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) rfl
  · exact (congrArg (· + r.val) (congrFun (k0_off1_eq i) 0)).trans hs.symm
  · exact (congrArg (· + l.val) (congrFun (k0_off1_eq i) 1)).trans (Nat.zero_add _)

theorem full15_1 (hc : k0_cond3 i = 1#1) (r : Fin 688) (l : Fin 128) (s : Fin 2064) (hs : s.val = 688 * (i 2).val + r.val) :
    full15 c i w3 w4 w5 w6 w7 w8 w9 wa wb wc wd we wf wg wh hc x3 x4 x5 x6 x7 x8 x9 xf xg xh (ix2 s ⟨128 + l.val, by omega⟩) = xf (ix2 s ⟨128 + l.val, by omega⟩) + ∑ k : Fin 688, addQ x3 x4 x5 x6 x7 x8 x9 1 r k l := by
  unfold full15
  frame_open
  iterate 6 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) rfl
  · exact (congrArg (· + r.val) (congrFun (k0_off2_eq i) 0)).trans hs.symm
  · exact (congrArg (· + l.val) (congrFun (k0_off2_eq i) 1))

theorem full15_2 (hc : k0_cond3 i = 1#1) (r : Fin 688) (l : Fin 128) (s : Fin 2064) (hs : s.val = 688 * (i 2).val + r.val) :
    full15 c i w3 w4 w5 w6 w7 w8 w9 wa wb wc wd we wf wg wh hc x3 x4 x5 x6 x7 x8 x9 xf xg xh (ix2 s ⟨256 + l.val, by omega⟩) = xf (ix2 s ⟨256 + l.val, by omega⟩) + ∑ k : Fin 688, addQ x3 x4 x5 x6 x7 x8 x9 2 r k l := by
  unfold full15
  frame_open
  iterate 5 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) rfl
  · exact (congrArg (· + r.val) (congrFun (k0_off3_eq i) 0)).trans hs.symm
  · exact (congrArg (· + l.val) (congrFun (k0_off3_eq i) 1))

theorem full15_3 (hc : k0_cond3 i = 1#1) (r : Fin 688) (l : Fin 128) (s : Fin 2064) (hs : s.val = 688 * (i 2).val + r.val) :
    full15 c i w3 w4 w5 w6 w7 w8 w9 wa wb wc wd we wf wg wh hc x3 x4 x5 x6 x7 x8 x9 xf xg xh (ix2 s ⟨384 + l.val, by omega⟩) = xf (ix2 s ⟨384 + l.val, by omega⟩) + ∑ k : Fin 688, addQ x3 x4 x5 x6 x7 x8 x9 3 r k l := by
  unfold full15
  frame_open
  iterate 4 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) rfl
  · exact (congrArg (· + r.val) (congrFun (k0_off4_eq i) 0)).trans hs.symm
  · exact (congrArg (· + l.val) (congrFun (k0_off4_eq i) 1))

theorem full15_4 (hc : k0_cond3 i = 1#1) (r : Fin 688) (l : Fin 128) (s : Fin 2064) (hs : s.val = 688 * (i 2).val + r.val) :
    full15 c i w3 w4 w5 w6 w7 w8 w9 wa wb wc wd we wf wg wh hc x3 x4 x5 x6 x7 x8 x9 xf xg xh (ix2 s ⟨512 + l.val, by omega⟩) = xf (ix2 s ⟨512 + l.val, by omega⟩) + ∑ k : Fin 688, addQ x3 x4 x5 x6 x7 x8 x9 4 r k l := by
  unfold full15
  frame_open
  iterate 3 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) rfl
  · exact (congrArg (· + r.val) (congrFun (k0_off5_eq i) 0)).trans hs.symm
  · exact (congrArg (· + l.val) (congrFun (k0_off5_eq i) 1))

theorem full15_5 (hc : k0_cond3 i = 1#1) (r : Fin 688) (l : Fin 128) (s : Fin 2064) (hs : s.val = 688 * (i 2).val + r.val) :
    full15 c i w3 w4 w5 w6 w7 w8 w9 wa wb wc wd we wf wg wh hc x3 x4 x5 x6 x7 x8 x9 xf xg xh (ix2 s ⟨640 + l.val, by omega⟩) = xf (ix2 s ⟨640 + l.val, by omega⟩) + ∑ k : Fin 688, addQ x3 x4 x5 x6 x7 x8 x9 5 r k l := by
  unfold full15
  frame_open
  iterate 2 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 (congrArg xf (ix2_ext ?_ ?_)) rfl
  · exact (congrArg (· + r.val) (congrFun (k0_off6_eq i) 0)).trans hs.symm
  · exact (congrArg (· + l.val) (congrFun (k0_off6_eq i) 1))

theorem full15_6 (hc : k0_cond3 i = 1#1) (r : Fin 688) (l : Fin 128) (s : Fin 2064) (hs : s.val = 688 * (i 2).val + r.val) :
    full15 c i w3 w4 w5 w6 w7 w8 w9 wa wb wc wd we wf wg wh hc x3 x4 x5 x6 x7 x8 x9 xf xg xh (ix2 s ⟨768 + l.val, by omega⟩) = xf (ix2 s ⟨768 + l.val, by omega⟩) + ∑ k : Fin 688, addQ x3 x4 x5 x6 x7 x8 x9 6 r k l := by
  unfold full15
  frame_open
  refine (skip 1 896 128 (congrFun (k0_off8_eq i) 1)).trans ?_
  refine (hit (ix2 r l)).trans ?_
  simp only [readAt_eq_ld, read_unread]
  pointwise []
  simp only [sel_low, sel_high, sel_lane64, sel_lane0]
  refine add2 (congrArg xf (ix2_ext ?_ ?_)) rfl
  · exact (congrArg (· + r.val) (congrFun (k0_off7_eq i) 0)).trans hs.symm
  · exact (congrArg (· + l.val) (congrFun (k0_off7_eq i) 1))

theorem full15_7 (hc : k0_cond3 i = 1#1) (r : Fin 688) (l : Fin 128) (s : Fin 2064) (hs : s.val = 688 * (i 2).val + r.val) :
    full15 c i w3 w4 w5 w6 w7 w8 w9 wa wb wc wd we wf wg wh hc x3 x4 x5 x6 x7 x8 x9 xf xg xh (ix2 s ⟨896 + l.val, by omega⟩) = xf (ix2 s ⟨896 + l.val, by omega⟩) + ∑ k : Fin 688, addQ x3 x4 x5 x6 x7 x8 x9 7 r k l := by
  unfold full15
  frame_open
  refine (hit (ix2 r l)).trans ?_
  simp only [readAt_eq_ld, read_unread]
  pointwise []
  simp only [sel_low, sel_high, sel_lane64, sel_lane0]
  refine add2 (congrArg xf (ix2_ext ?_ ?_)) rfl
  · exact (congrArg (· + r.val) (congrFun (k0_off8_eq i) 0)).trans hs.symm
  · exact (congrArg (· + l.val) (congrFun (k0_off8_eq i) 1))

end Cert.AttnBwdIdeal.Hand

end
-- ==== Proof.AttnDiagK.lean ====
module

public import proofs.«01_k».proof.Proof.AttnSpec
public import Idealize.ShloMosaic.Lib.WritesUnit

@[expose] public section

set_option maxRecDepth 65536

noncomputable section

namespace Cert.AttnBwdIdeal.Hand

open diagRun

open Cert.AttnBwdIdeal Cert.AttnBwdIdeal.Gen
open Idealize.ShloMosaic TcCoe Tactic Pointwise
open Idealize.SL RA BI Sem
open Cert.Common

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (x3 x4 x5 : Vec Ideal S1x688x512 .bf16) (x6 : Vec Ideal S1x688x512 .f32) (x7 : Vec Ideal S1x688x512 .bf16) (x8 : Vec Ideal S1x688x128 .f32) (x9 : Vec Ideal S1x1x8x688 .f32) (xa : Vec Ideal S1x2064x512 .f32) (xb xc : Vec Ideal S1x688x512 .bf16) (xd : Vec Ideal S1x688x128 .f32) (xe : Vec Ideal S1x2064x128 .f32) (xf : Vec Ideal S2064x1024 .f32) (xg : Vec Ideal S688x1024 .f32) (xh : Vec Ideal S688x512 .f32)
local notation:max "leftK" => ag.view.read (Elt Ideal) (ag.view.writes (Elt Ideal) (wg.unread xg) (sl.H16_8 (F := Ideal) c w3 w4 w5 w6 w7 w8 w9 wg x3 x4 x5 x6 x7 x8 x9 xg))
local notation:max "addK" => maskK x3 x4 x5 x6 x7 x8 x9

attribute [local pointwise] k0_pay6 k0_pay7 k0_pay8 k0_pay9 k0_pay10 k0_pay119 k0_pay120 k0_pay121 k0_pay122 k0_pay123 k0_pay124 k0_pay125 k0_pay130 k0_pay131 k0_pay132 k0_pay133 k0_pay134 k0_pay135 k0_pay136 k0_pay150 k0_pay151 k0_pay152 k0_pay153 k0_pay154 k0_pay162 k0_pay163 k0_pay164 k0_pay165 k0_pay166 k0_pay167 k0_pay17._proof_1 k0_pay173 k0_pay174 k0_pay175 k0_pay176 k0_pay177 k0_pay183 k0_pay184 k0_pay185 k0_pay186 k0_pay187 k0_pay188 k0_pay199 k0_pay200 k0_pay201 k0_pay202 k0_pay203 k0_pay204 k0_pay205 k0_pay206 k0_pay207 k0_pay208 k0_pay221 k0_pay222 k0_pay223 k0_pay224 k0_pay225 k0_pay226 k0_pay232 k0_pay233 k0_pay234 k0_pay235 k0_pay236 k0_pay237 k0_pay249 k0_pay250 k0_pay251 k0_pay252 k0_pay259 k0_pay260 k0_pay261 k0_pay262 k0_pay263 k0_pay270 k0_pay271 k0_pay272 k0_pay273 k0_pay274 k0_pay275 k0_pay280 k0_pay281 k0_pay282 k0_pay283 k0_pay284 k0_pay285 k0_pay289 k0_pay290 k0_pay291 k0_pay292 k0_pay293 k0_pay294 k0_pay295 k0_pay296 k0_pay303 k0_pay304 k0_pay305 k0_pay306 k0_pay307 k0_pay323 k0_pay324 k0_pay325 k0_pay326

theorem diag16_low_0 (r : Fin 352) (l : Fin 128) (s : Fin 688) (hs : s.val = r.val) :
    leftK (ix2 s ⟨l.val, by omega⟩) = xg (ix2 s ⟨l.val, by omega⟩) + ∑ q : Fin 352, addK 0 ⟨q.val, by omega⟩ s l := by
  obtain rfl : s = ⟨r.val, Nat.lt_of_lt_of_le r.isLt (by decide)⟩ := Fin.ext hs
  unfold sl.H16_8
  frame_open
  iterate 7 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 rfl (Finset.sum_congr rfl fun q _ => ?_)
  rw [mask_bot, sel_mask0 (by omega) (by omega), exp_mask, ite_mul, ite_mul, zero_mul, zero_mul]
  rfl

theorem diag16_low_1 (r : Fin 352) (l : Fin 128) (s : Fin 688) (hs : s.val = r.val) :
    leftK (ix2 s ⟨128 + l.val, by omega⟩) = xg (ix2 s ⟨128 + l.val, by omega⟩) + ∑ q : Fin 352, addK 1 ⟨q.val, by omega⟩ s l := by
  obtain rfl : s = ⟨r.val, Nat.lt_of_lt_of_le r.isLt (by decide)⟩ := Fin.ext hs
  unfold sl.H16_8
  frame_open
  iterate 6 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 rfl (Finset.sum_congr rfl fun q _ => ?_)
  rw [mask_bot, sel_mask0 (by omega) (by omega), exp_mask, ite_mul, ite_mul, zero_mul, zero_mul]
  rfl

theorem diag16_low_2 (r : Fin 352) (l : Fin 128) (s : Fin 688) (hs : s.val = r.val) :
    leftK (ix2 s ⟨256 + l.val, by omega⟩) = xg (ix2 s ⟨256 + l.val, by omega⟩) + ∑ q : Fin 352, addK 2 ⟨q.val, by omega⟩ s l := by
  obtain rfl : s = ⟨r.val, Nat.lt_of_lt_of_le r.isLt (by decide)⟩ := Fin.ext hs
  unfold sl.H16_8
  frame_open
  iterate 5 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 rfl (Finset.sum_congr rfl fun q _ => ?_)
  rw [mask_bot, sel_mask0 (by omega) (by omega), exp_mask, ite_mul, ite_mul, zero_mul, zero_mul]
  rfl

theorem diag16_low_3 (r : Fin 352) (l : Fin 128) (s : Fin 688) (hs : s.val = r.val) :
    leftK (ix2 s ⟨384 + l.val, by omega⟩) = xg (ix2 s ⟨384 + l.val, by omega⟩) + ∑ q : Fin 352, addK 3 ⟨q.val, by omega⟩ s l := by
  obtain rfl : s = ⟨r.val, Nat.lt_of_lt_of_le r.isLt (by decide)⟩ := Fin.ext hs
  unfold sl.H16_8
  frame_open
  iterate 4 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 rfl (Finset.sum_congr rfl fun q _ => ?_)
  rw [mask_bot, sel_mask0 (by omega) (by omega), exp_mask, ite_mul, ite_mul, zero_mul, zero_mul]
  rfl

theorem diag16_low_4 (r : Fin 352) (l : Fin 128) (s : Fin 688) (hs : s.val = r.val) :
    leftK (ix2 s ⟨512 + l.val, by omega⟩) = xg (ix2 s ⟨512 + l.val, by omega⟩) + ∑ q : Fin 352, addK 4 ⟨q.val, by omega⟩ s l := by
  obtain rfl : s = ⟨r.val, Nat.lt_of_lt_of_le r.isLt (by decide)⟩ := Fin.ext hs
  unfold sl.H16_8
  frame_open
  iterate 3 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 rfl (Finset.sum_congr rfl fun q _ => ?_)
  rw [mask_bot, sel_mask0 (by omega) (by omega), exp_mask, ite_mul, ite_mul, zero_mul, zero_mul]
  rfl

theorem diag16_low_5 (r : Fin 352) (l : Fin 128) (s : Fin 688) (hs : s.val = r.val) :
    leftK (ix2 s ⟨640 + l.val, by omega⟩) = xg (ix2 s ⟨640 + l.val, by omega⟩) + ∑ q : Fin 352, addK 5 ⟨q.val, by omega⟩ s l := by
  obtain rfl : s = ⟨r.val, Nat.lt_of_lt_of_le r.isLt (by decide)⟩ := Fin.ext hs
  unfold sl.H16_8
  frame_open
  iterate 2 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 rfl (Finset.sum_congr rfl fun q _ => ?_)
  rw [mask_bot, sel_mask0 (by omega) (by omega), exp_mask, ite_mul, ite_mul, zero_mul, zero_mul]
  rfl

theorem diag16_low_6 (r : Fin 352) (l : Fin 128) (s : Fin 688) (hs : s.val = r.val) :
    leftK (ix2 s ⟨768 + l.val, by omega⟩) = xg (ix2 s ⟨768 + l.val, by omega⟩) + ∑ q : Fin 352, addK 6 ⟨q.val, by omega⟩ s l := by
  obtain rfl : s = ⟨r.val, Nat.lt_of_lt_of_le r.isLt (by decide)⟩ := Fin.ext hs
  unfold sl.H16_8
  frame_open
  refine (skip 1 896 128).trans ?_
  refine (hit (ix2 r l)).trans ?_
  simp only [readAt_eq_ld, read_unread]
  pointwise []
  simp only [sel_low, sel_high, sel_lane64, sel_lane0]
  refine add2 rfl (Finset.sum_congr rfl fun q _ => ?_)
  rw [mask_bot, sel_mask0 (by omega) (by omega), exp_mask, ite_mul, ite_mul, zero_mul, zero_mul]
  rfl

theorem diag16_low_7 (r : Fin 352) (l : Fin 128) (s : Fin 688) (hs : s.val = r.val) :
    leftK (ix2 s ⟨896 + l.val, by omega⟩) = xg (ix2 s ⟨896 + l.val, by omega⟩) + ∑ q : Fin 352, addK 7 ⟨q.val, by omega⟩ s l := by
  obtain rfl : s = ⟨r.val, Nat.lt_of_lt_of_le r.isLt (by decide)⟩ := Fin.ext hs
  unfold sl.H16_8
  frame_open
  refine (hit (ix2 r l)).trans ?_
  simp only [readAt_eq_ld, read_unread]
  pointwise []
  simp only [sel_low, sel_high, sel_lane64, sel_lane0]
  refine add2 rfl (Finset.sum_congr rfl fun q _ => ?_)
  rw [mask_bot, sel_mask0 (by omega) (by omega), exp_mask, ite_mul, ite_mul, zero_mul, zero_mul]
  rfl

theorem diag16_high_0 (r : Fin 688) (l : Fin 128) :
    ag.view.read (Elt Ideal) (ag.view.writes (Elt Ideal) (wg.unread xg) (sl.H16_9 (F := Ideal) c w3 w4 w5 w6 w7 w8 w9 wg x3 x4 x5 x6 x7 x8 x9 xg)) (ix2 r ⟨l.val, by omega⟩) = leftK (ix2 r ⟨l.val, by omega⟩) + ∑ q : Fin 336, addK 0 ⟨352 + q.val, by omega⟩ r l := by
  unfold sl.H16_9
  dsimp only
  refine (hit (ix2 r l)).trans ?_
  simp only [sl.v765, sl.v762, sl.v761, sl.cst_436, sl.v760, sl.v759, sl.v694, sl.cst_19, sl.v757, sl.cst_62, sl.v692, sl.v691, sl.v688, sl.v687, sl.cst, sl.v686, sl.v748, sl.v747, sl.r_42, sl.v704, sl.cst_401, sl.v703, sl.v695, sl.v690, sl.r_41, sl.v701, sl.v684, sl.v700, sl.v682, sl.v679, sl.v680, sl.v678, sl.v18, sl.v751]
  simp only [readAt_eq_ld, read_unread]
  pointwise []
  simp only [sel_low, sel_high, sel_lane64, sel_lane0]
  refine add2 rfl (Finset.sum_congr rfl fun q _ => ?_)
  rw [mask_bot, sel_mask (a := 352) (by omega) (by omega), exp_mask, ite_mul, ite_mul, zero_mul, zero_mul]
  rfl

theorem diag16_high_1 (r : Fin 688) (l : Fin 128) :
    ag.view.read (Elt Ideal) (ag.view.writes (Elt Ideal) (wg.unread xg) (sl.H16_10 (F := Ideal) c w3 w4 w5 w6 w7 w8 w9 wg x3 x4 x5 x6 x7 x8 x9 xg)) (ix2 r ⟨128 + l.val, by omega⟩) = ag.view.read (Elt Ideal) (ag.view.writes (Elt Ideal) (wg.unread xg) (sl.H16_9 (F := Ideal) c w3 w4 w5 w6 w7 w8 w9 wg x3 x4 x5 x6 x7 x8 x9 xg)) (ix2 r ⟨128 + l.val, by omega⟩) + ∑ q : Fin 336, addK 1 ⟨352 + q.val, by omega⟩ r l := by
  unfold sl.H16_10
  dsimp only
  refine (hit (ix2 r l)).trans ?_
  simp only [sl.v842, sl.v839, sl.v838, sl.cst_436, sl.v837, sl.v836, sl.v694, sl.cst_19, sl.v757, sl.cst_62, sl.v832, sl.v691, sl.r_37, sl.v687, sl.cst, sl.v686, sl.v831, sl.cst_485, sl.v692, sl.v824, sl.v823, sl.v822, sl.v821, sl.v820, sl.r_48, sl.r_38, sl.r_40, sl.r_47, sl.r_39, sl.v684, sl.v682, sl.v679, sl.v680, sl.v678, sl.v18, sl.v827]
  simp only [readAt_eq_ld, read_unread]
  pointwise []
  simp only [sel_low, sel_high, sel_lane64, sel_lane0]
  refine add2 rfl (Finset.sum_congr rfl fun q _ => ?_)
  rw [mask_bot, sel_mask (a := 352) (by omega) (by omega), exp_mask, ite_mul, ite_mul, zero_mul, zero_mul]
  rfl

theorem diag16_high_2 (r : Fin 688) (l : Fin 128) :
    ag.view.read (Elt Ideal) (ag.view.writes (Elt Ideal) (wg.unread xg) (sl.H16_11 (F := Ideal) c w3 w4 w5 w6 w7 w8 w9 wg x3 x4 x5 x6 x7 x8 x9 xg)) (ix2 r ⟨256 + l.val, by omega⟩) = ag.view.read (Elt Ideal) (ag.view.writes (Elt Ideal) (wg.unread xg) (sl.H16_10 (F := Ideal) c w3 w4 w5 w6 w7 w8 w9 wg x3 x4 x5 x6 x7 x8 x9 xg)) (ix2 r ⟨256 + l.val, by omega⟩) + ∑ q : Fin 336, addK 2 ⟨352 + q.val, by omega⟩ r l := by
  unfold sl.H16_11
  dsimp only
  refine (hit (ix2 r l)).trans ?_
  simp only [sl.v913, sl.r_46, sl.r_45, sl.v784, sl.r_44, sl.r_43, sl.v682, sl.v679, sl.v680, sl.v678, sl.v18]
  simp only [readAt_eq_ld, read_unread]
  pointwise []
  simp only [sel_low, sel_high, sel_lane64, sel_lane0]
  refine add2 rfl (Finset.sum_congr rfl fun q _ => ?_)
  rw [mask_bot, sel_mask (a := 352) (by omega) (by omega), exp_mask, ite_mul, ite_mul, zero_mul, zero_mul]
  rfl

theorem diag16_high_3 (r : Fin 688) (l : Fin 128) :
    ag.view.read (Elt Ideal) (ag.view.writes (Elt Ideal) (wg.unread xg) (sl.H16_12 (F := Ideal) c w3 w4 w5 w6 w7 w8 w9 wg x3 x4 x5 x6 x7 x8 x9 xg)) (ix2 r ⟨384 + l.val, by omega⟩) = ag.view.read (Elt Ideal) (ag.view.writes (Elt Ideal) (wg.unread xg) (sl.H16_11 (F := Ideal) c w3 w4 w5 w6 w7 w8 w9 wg x3 x4 x5 x6 x7 x8 x9 xg)) (ix2 r ⟨384 + l.val, by omega⟩) + ∑ q : Fin 336, addK 3 ⟨352 + q.val, by omega⟩ r l := by
  unfold sl.H16_12
  dsimp only
  refine (hit (ix2 r l)).trans ?_
  simp only [sl.v989, sl.v890, sl.cst_401, sl.v889, sl.v880, sl.v694, sl.cst_19, sl.v874, sl.v831, sl.cst_485, sl.v692, sl.v691, sl.v887, sl.v784, sl.v886, sl.v872, sl.v687, sl.cst, sl.v870, sl.v682, sl.v679, sl.v680, sl.v678, sl.v18]
  simp only [readAt_eq_ld, read_unread]
  pointwise []
  simp only [sel_low, sel_high, sel_lane64, sel_lane0]
  refine add2 rfl (Finset.sum_congr rfl fun q _ => ?_)
  rw [mask_bot, sel_mask (a := 352) (by omega) (by omega), exp_mask, ite_mul, ite_mul, zero_mul, zero_mul]
  rfl

theorem diag16_high_4 (r : Fin 688) (l : Fin 128) :
    ag.view.read (Elt Ideal) (ag.view.writes (Elt Ideal) (wg.unread xg) (sl.H16_13 (F := Ideal) c w3 w4 w5 w6 w7 w8 w9 wg x3 x4 x5 x6 x7 x8 x9 xg)) (ix2 r ⟨512 + l.val, by omega⟩) = ag.view.read (Elt Ideal) (ag.view.writes (Elt Ideal) (wg.unread xg) (sl.H16_12 (F := Ideal) c w3 w4 w5 w6 w7 w8 w9 wg x3 x4 x5 x6 x7 x8 x9 xg)) (ix2 r ⟨512 + l.val, by omega⟩) + ∑ q : Fin 336, addK 4 ⟨352 + q.val, by omega⟩ r l := by
  unfold sl.H16_13
  dsimp only
  refine (hit (ix2 r l)).trans ?_
  simp only [sl.v1089, sl.v1086, sl.v1085, sl.cst_436, sl.v1084, sl.v1083, sl.v694, sl.cst_19, sl.v757, sl.cst_62, sl.v692, sl.v1076, sl.v950, sl.v687, sl.cst, sl.v948, sl.r_57, sl.r_51, sl.cst_401, sl.v965, sl.v957, sl.v952, sl.v691, sl.v963, sl.v946, sl.v962, sl.v682, sl.v679, sl.v680, sl.v678, sl.v18, sl.v1075]
  simp only [readAt_eq_ld, read_unread]
  pointwise []
  simp only [sel_low, sel_high, sel_lane64, sel_lane0]
  refine add2 rfl (Finset.sum_congr rfl fun q _ => ?_)
  rw [mask_bot, sel_mask (a := 352) (by omega) (by omega), exp_mask, ite_mul, ite_mul, zero_mul, zero_mul]
  rfl

theorem diag16_high_5 (r : Fin 688) (l : Fin 128) :
    ag.view.read (Elt Ideal) (ag.view.writes (Elt Ideal) (wg.unread xg) (sl.H16_14 (F := Ideal) c w3 w4 w5 w6 w7 w8 w9 wg x3 x4 x5 x6 x7 x8 x9 xg)) (ix2 r ⟨640 + l.val, by omega⟩) = ag.view.read (Elt Ideal) (ag.view.writes (Elt Ideal) (wg.unread xg) (sl.H16_13 (F := Ideal) c w3 w4 w5 w6 w7 w8 w9 wg x3 x4 x5 x6 x7 x8 x9 xg)) (ix2 r ⟨640 + l.val, by omega⟩) + ∑ q : Fin 336, addK 5 ⟨352 + q.val, by omega⟩ r l := by
  unfold sl.H16_14
  dsimp only
  refine (hit (ix2 r l)).trans ?_
  simp only [sl.v1166, sl.v1163, sl.v1162, sl.cst_436, sl.v1161, sl.v836, sl.v694, sl.cst_19, sl.v757, sl.cst_62, sl.v832, sl.v691, sl.v950, sl.v687, sl.cst, sl.v948, sl.v831, sl.cst_485, sl.v692, sl.r_62, sl.r_56, sl.v952, sl.r_55, sl.v946, sl.r_54, sl.v682, sl.v679, sl.v680, sl.v678, sl.v18, sl.v1151]
  simp only [readAt_eq_ld, read_unread]
  pointwise []
  simp only [sel_low, sel_high, sel_lane64, sel_lane0]
  refine add2 rfl (Finset.sum_congr rfl fun q _ => ?_)
  rw [mask_bot, sel_mask (a := 352) (by omega) (by omega), exp_mask, ite_mul, ite_mul, zero_mul, zero_mul]
  rfl

theorem diag16_high_6 (r : Fin 688) (l : Fin 128) :
    ag.view.read (Elt Ideal) (ag.view.writes (Elt Ideal) (wg.unread xg) (sl.H16_15 (F := Ideal) c w3 w4 w5 w6 w7 w8 w9 wg x3 x4 x5 x6 x7 x8 x9 xg)) (ix2 r ⟨768 + l.val, by omega⟩) = ag.view.read (Elt Ideal) (ag.view.writes (Elt Ideal) (wg.unread xg) (sl.H16_14 (F := Ideal) c w3 w4 w5 w6 w7 w8 w9 wg x3 x4 x5 x6 x7 x8 x9 xg)) (ix2 r ⟨768 + l.val, by omega⟩) + ∑ q : Fin 336, addK 6 ⟨352 + q.val, by omega⟩ r l := by
  unfold sl.H16_15
  dsimp only
  refine (hit (ix2 r l)).trans ?_
  simp only [sl.v1251, sl.v1248, sl.v1247, sl.cst_436, sl.v1246, sl.v759, sl.v694, sl.cst_19, sl.v757, sl.cst_62, sl.v692, sl.v691, sl.v1112, sl.v687, sl.cst, sl.v1110, sl.v1234, sl.v1233, sl.v1232, sl.v1231, sl.v1230, sl.v1229, sl.v1228, sl.v1227, sl.v1225, sl.r_59, sl.r_61, sl.v1224, sl.v1223, sl.v1222, sl.r_70, sl.v18, sl.r_69, sl.r_60, sl.v1108, sl.v682, sl.v679, sl.v680, sl.v678, sl.v1237]
  simp only [readAt_eq_ld, read_unread]
  pointwise []
  simp only [sel_low, sel_high, sel_lane64, sel_lane0]
  refine add2 rfl (Finset.sum_congr rfl fun q _ => ?_)
  rw [mask_bot, sel_mask (a := 352) (by omega) (by omega), exp_mask, ite_mul, ite_mul, zero_mul, zero_mul]
  rfl

theorem diag16_high_7 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨896 + l.val, by omega⟩) = ag.view.read (Elt Ideal) (ag.view.writes (Elt Ideal) (wg.unread xg) (sl.H16_15 (F := Ideal) c w3 w4 w5 w6 w7 w8 w9 wg x3 x4 x5 x6 x7 x8 x9 xg)) (ix2 r ⟨896 + l.val, by omega⟩) + ∑ q : Fin 336, addK 7 ⟨352 + q.val, by omega⟩ r l := by
  unfold diag16 diagRun
  dsimp only
  refine (hit (ix2 r l)).trans ?_
  simp only [sl.v1306, sl.v1303, sl.v1302, sl.cst_436, sl.r_73, sl.r_65, sl.r_71, sl.r_68, sl.r_67, sl.r_66, sl.v682, sl.v679, sl.v680, sl.v678, sl.v18, sl.v1291]
  simp only [readAt_eq_ld, read_unread]
  pointwise []
  simp only [sel_low, sel_high, sel_lane64, sel_lane0]
  refine add2 rfl (Finset.sum_congr rfl fun q _ => ?_)
  rw [mask_bot, sel_mask (a := 352) (by omega) (by omega), exp_mask, ite_mul, ite_mul, zero_mul, zero_mul]
  rfl

theorem diag16_skip_0 (r : Fin 688) (m : Fin 1024) (h : m.val < 0 ∨ 0 + 128 ≤ m.val) :
    ag.view.read (Elt Ideal) (ag.view.writes (Elt Ideal) (wg.unread xg) (sl.H16_9 (F := Ideal) c w3 w4 w5 w6 w7 w8 w9 wg x3 x4 x5 x6 x7 x8 x9 xg)) (ix2 r m) = leftK (ix2 r m) := by
  unfold sl.H16_9
  dsimp only
  exact View.read_writes_cons_miss_of_axis _ _ _ _ _ 1 0 128 rfl rfl rfl h

theorem diag16_skip_1 (r : Fin 688) (m : Fin 1024) (h : m.val < 128 ∨ 128 + 128 ≤ m.val) :
    ag.view.read (Elt Ideal) (ag.view.writes (Elt Ideal) (wg.unread xg) (sl.H16_10 (F := Ideal) c w3 w4 w5 w6 w7 w8 w9 wg x3 x4 x5 x6 x7 x8 x9 xg)) (ix2 r m) = ag.view.read (Elt Ideal) (ag.view.writes (Elt Ideal) (wg.unread xg) (sl.H16_9 (F := Ideal) c w3 w4 w5 w6 w7 w8 w9 wg x3 x4 x5 x6 x7 x8 x9 xg)) (ix2 r m) := by
  unfold sl.H16_10
  dsimp only
  exact View.read_writes_cons_miss_of_axis _ _ _ _ _ 1 128 128 rfl rfl rfl h

theorem diag16_skip_2 (r : Fin 688) (m : Fin 1024) (h : m.val < 256 ∨ 256 + 128 ≤ m.val) :
    ag.view.read (Elt Ideal) (ag.view.writes (Elt Ideal) (wg.unread xg) (sl.H16_11 (F := Ideal) c w3 w4 w5 w6 w7 w8 w9 wg x3 x4 x5 x6 x7 x8 x9 xg)) (ix2 r m) = ag.view.read (Elt Ideal) (ag.view.writes (Elt Ideal) (wg.unread xg) (sl.H16_10 (F := Ideal) c w3 w4 w5 w6 w7 w8 w9 wg x3 x4 x5 x6 x7 x8 x9 xg)) (ix2 r m) := by
  unfold sl.H16_11
  dsimp only
  exact View.read_writes_cons_miss_of_axis _ _ _ _ _ 1 256 128 rfl rfl rfl h

theorem diag16_skip_3 (r : Fin 688) (m : Fin 1024) (h : m.val < 384 ∨ 384 + 128 ≤ m.val) :
    ag.view.read (Elt Ideal) (ag.view.writes (Elt Ideal) (wg.unread xg) (sl.H16_12 (F := Ideal) c w3 w4 w5 w6 w7 w8 w9 wg x3 x4 x5 x6 x7 x8 x9 xg)) (ix2 r m) = ag.view.read (Elt Ideal) (ag.view.writes (Elt Ideal) (wg.unread xg) (sl.H16_11 (F := Ideal) c w3 w4 w5 w6 w7 w8 w9 wg x3 x4 x5 x6 x7 x8 x9 xg)) (ix2 r m) := by
  unfold sl.H16_12
  dsimp only
  exact View.read_writes_cons_miss_of_axis _ _ _ _ _ 1 384 128 rfl rfl rfl h

theorem diag16_skip_4 (r : Fin 688) (m : Fin 1024) (h : m.val < 512 ∨ 512 + 128 ≤ m.val) :
    ag.view.read (Elt Ideal) (ag.view.writes (Elt Ideal) (wg.unread xg) (sl.H16_13 (F := Ideal) c w3 w4 w5 w6 w7 w8 w9 wg x3 x4 x5 x6 x7 x8 x9 xg)) (ix2 r m) = ag.view.read (Elt Ideal) (ag.view.writes (Elt Ideal) (wg.unread xg) (sl.H16_12 (F := Ideal) c w3 w4 w5 w6 w7 w8 w9 wg x3 x4 x5 x6 x7 x8 x9 xg)) (ix2 r m) := by
  unfold sl.H16_13
  dsimp only
  exact View.read_writes_cons_miss_of_axis _ _ _ _ _ 1 512 128 rfl rfl rfl h

theorem diag16_skip_5 (r : Fin 688) (m : Fin 1024) (h : m.val < 640 ∨ 640 + 128 ≤ m.val) :
    ag.view.read (Elt Ideal) (ag.view.writes (Elt Ideal) (wg.unread xg) (sl.H16_14 (F := Ideal) c w3 w4 w5 w6 w7 w8 w9 wg x3 x4 x5 x6 x7 x8 x9 xg)) (ix2 r m) = ag.view.read (Elt Ideal) (ag.view.writes (Elt Ideal) (wg.unread xg) (sl.H16_13 (F := Ideal) c w3 w4 w5 w6 w7 w8 w9 wg x3 x4 x5 x6 x7 x8 x9 xg)) (ix2 r m) := by
  unfold sl.H16_14
  dsimp only
  exact View.read_writes_cons_miss_of_axis _ _ _ _ _ 1 640 128 rfl rfl rfl h

theorem diag16_skip_6 (r : Fin 688) (m : Fin 1024) (h : m.val < 768 ∨ 768 + 128 ≤ m.val) :
    ag.view.read (Elt Ideal) (ag.view.writes (Elt Ideal) (wg.unread xg) (sl.H16_15 (F := Ideal) c w3 w4 w5 w6 w7 w8 w9 wg x3 x4 x5 x6 x7 x8 x9 xg)) (ix2 r m) = ag.view.read (Elt Ideal) (ag.view.writes (Elt Ideal) (wg.unread xg) (sl.H16_14 (F := Ideal) c w3 w4 w5 w6 w7 w8 w9 wg x3 x4 x5 x6 x7 x8 x9 xg)) (ix2 r m) := by
  unfold sl.H16_15
  dsimp only
  exact View.read_writes_cons_miss_of_axis _ _ _ _ _ 1 768 128 rfl rfl rfl h

theorem diag16_skip_7 (hc : k0_cond4 i = 1#1) (r : Fin 688) (m : Fin 1024) (h : m.val < 896 ∨ 896 + 128 ≤ m.val) :
    diag16 c i w3 w4 w5 w6 w7 w8 w9 wa wb wc wd we wf wg wh hc x3 x4 x5 x6 x7 x8 x9 xa xe xf xg xh (ix2 r m) = ag.view.read (Elt Ideal) (ag.view.writes (Elt Ideal) (wg.unread xg) (sl.H16_15 (F := Ideal) c w3 w4 w5 w6 w7 w8 w9 wg x3 x4 x5 x6 x7 x8 x9 xg)) (ix2 r m) := by
  unfold diag16 diagRun
  dsimp only
  exact View.read_writes_cons_miss_of_axis _ _ _ _ _ 1 896 128 rfl rfl rfl h

theorem diag16_upper (r : Fin 688) (m : Fin 1024) (h : 352 ≤ r.val) : leftK (ix2 r m) = xg (ix2 r m) := by
  unfold sl.H16_8
  refine (View.read_writes_cons_miss_of_axis _ _ _ _ _ 0 0 352 rfl rfl rfl (.inr h)).trans ?_
  refine (View.read_writes_cons_miss_of_axis _ _ _ _ _ 0 0 352 rfl rfl rfl (.inr h)).trans ?_
  refine (View.read_writes_cons_miss_of_axis _ _ _ _ _ 0 0 352 rfl rfl rfl (.inr h)).trans ?_
  refine (View.read_writes_cons_miss_of_axis _ _ _ _ _ 0 0 352 rfl rfl rfl (.inr h)).trans ?_
  refine (View.read_writes_cons_miss_of_axis _ _ _ _ _ 0 0 352 rfl rfl rfl (.inr h)).trans ?_
  refine (View.read_writes_cons_miss_of_axis _ _ _ _ _ 0 0 352 rfl rfl rfl (.inr h)).trans ?_
  refine (View.read_writes_cons_miss_of_axis _ _ _ _ _ 0 0 352 rfl rfl rfl (.inr h)).trans ?_
  refine (View.read_writes_cons_miss_of_axis _ _ _ _ _ 0 0 352 rfl rfl rfl (.inr h)).trans ?_
  exact congrFun (wg.read_unread xg) _

theorem diag16_0 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨l.val, by omega⟩) = xg (ix2 r ⟨l.val, by omega⟩) + ∑ q : Fin 688, addK 0 q r l := by
  refine (diag16_skip_7 (h := .inl (by first | omega | (dsimp only; omega))) ..).trans ?_
  refine (diag16_skip_6 (h := .inl (by first | omega | (dsimp only; omega))) ..).trans ?_
  refine (diag16_skip_5 (h := .inl (by first | omega | (dsimp only; omega))) ..).trans ?_
  refine (diag16_skip_4 (h := .inl (by first | omega | (dsimp only; omega))) ..).trans ?_
  refine (diag16_skip_3 (h := .inl (by first | omega | (dsimp only; omega))) ..).trans ?_
  refine (diag16_skip_2 (h := .inl (by first | omega | (dsimp only; omega))) ..).trans ?_
  refine (diag16_skip_1 (h := .inl (by first | omega | (dsimp only; omega))) ..).trans ?_
  refine (diag16_high_0 ..).trans ?_
  rw [sum_bands, ← add_assoc]
  refine congrArg (fun z : EReal => z + _) ?_
  by_cases hr : r.val < 352
  · exact diag16_low_0 (r := ⟨r.val, hr⟩) (hs := rfl) ..
  · rw [sum_first_zero (f := fun q => addK 0 q r l) fun q h => maskK_later (h := by omega) ..]
    exact (diag16_upper (h := by omega) ..).trans (add_zero (M := EReal) _).symm

theorem diag16_1 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨128 + l.val, by omega⟩) = xg (ix2 r ⟨128 + l.val, by omega⟩) + ∑ q : Fin 688, addK 1 q r l := by
  refine (diag16_skip_7 (h := .inl (by first | omega | (dsimp only; omega))) ..).trans ?_
  refine (diag16_skip_6 (h := .inl (by first | omega | (dsimp only; omega))) ..).trans ?_
  refine (diag16_skip_5 (h := .inl (by first | omega | (dsimp only; omega))) ..).trans ?_
  refine (diag16_skip_4 (h := .inl (by first | omega | (dsimp only; omega))) ..).trans ?_
  refine (diag16_skip_3 (h := .inl (by first | omega | (dsimp only; omega))) ..).trans ?_
  refine (diag16_skip_2 (h := .inl (by first | omega | (dsimp only; omega))) ..).trans ?_
  refine (diag16_high_1 ..).trans ?_
  rw [sum_bands, ← add_assoc]
  refine congrArg (fun z : EReal => z + _) ?_
  refine (diag16_skip_0 (h := .inr (by first | omega | (dsimp only; omega))) ..).trans ?_
  by_cases hr : r.val < 352
  · exact diag16_low_1 (r := ⟨r.val, hr⟩) (hs := rfl) ..
  · rw [sum_first_zero (f := fun q => addK 1 q r l) fun q h => maskK_later (h := by omega) ..]
    exact (diag16_upper (h := by omega) ..).trans (add_zero (M := EReal) _).symm

theorem diag16_2 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨256 + l.val, by omega⟩) = xg (ix2 r ⟨256 + l.val, by omega⟩) + ∑ q : Fin 688, addK 2 q r l := by
  refine (diag16_skip_7 (h := .inl (by first | omega | (dsimp only; omega))) ..).trans ?_
  refine (diag16_skip_6 (h := .inl (by first | omega | (dsimp only; omega))) ..).trans ?_
  refine (diag16_skip_5 (h := .inl (by first | omega | (dsimp only; omega))) ..).trans ?_
  refine (diag16_skip_4 (h := .inl (by first | omega | (dsimp only; omega))) ..).trans ?_
  refine (diag16_skip_3 (h := .inl (by first | omega | (dsimp only; omega))) ..).trans ?_
  refine (diag16_high_2 ..).trans ?_
  rw [sum_bands, ← add_assoc]
  refine congrArg (fun z : EReal => z + _) ?_
  refine (diag16_skip_1 (h := .inr (by first | omega | (dsimp only; omega))) ..).trans ?_
  refine (diag16_skip_0 (h := .inr (by first | omega | (dsimp only; omega))) ..).trans ?_
  by_cases hr : r.val < 352
  · exact diag16_low_2 (r := ⟨r.val, hr⟩) (hs := rfl) ..
  · rw [sum_first_zero (f := fun q => addK 2 q r l) fun q h => maskK_later (h := by omega) ..]
    exact (diag16_upper (h := by omega) ..).trans (add_zero (M := EReal) _).symm

theorem diag16_3 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨384 + l.val, by omega⟩) = xg (ix2 r ⟨384 + l.val, by omega⟩) + ∑ q : Fin 688, addK 3 q r l := by
  refine (diag16_skip_7 (h := .inl (by first | omega | (dsimp only; omega))) ..).trans ?_
  refine (diag16_skip_6 (h := .inl (by first | omega | (dsimp only; omega))) ..).trans ?_
  refine (diag16_skip_5 (h := .inl (by first | omega | (dsimp only; omega))) ..).trans ?_
  refine (diag16_skip_4 (h := .inl (by first | omega | (dsimp only; omega))) ..).trans ?_
  refine (diag16_high_3 ..).trans ?_
  rw [sum_bands, ← add_assoc]
  refine congrArg (fun z : EReal => z + _) ?_
  refine (diag16_skip_2 (h := .inr (by first | omega | (dsimp only; omega))) ..).trans ?_
  refine (diag16_skip_1 (h := .inr (by first | omega | (dsimp only; omega))) ..).trans ?_
  refine (diag16_skip_0 (h := .inr (by first | omega | (dsimp only; omega))) ..).trans ?_
  by_cases hr : r.val < 352
  · exact diag16_low_3 (r := ⟨r.val, hr⟩) (hs := rfl) ..
  · rw [sum_first_zero (f := fun q => addK 3 q r l) fun q h => maskK_later (h := by omega) ..]
    exact (diag16_upper (h := by omega) ..).trans (add_zero (M := EReal) _).symm

theorem diag16_4 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨512 + l.val, by omega⟩) = xg (ix2 r ⟨512 + l.val, by omega⟩) + ∑ q : Fin 688, addK 4 q r l := by
  refine (diag16_skip_7 (h := .inl (by first | omega | (dsimp only; omega))) ..).trans ?_
  refine (diag16_skip_6 (h := .inl (by first | omega | (dsimp only; omega))) ..).trans ?_
  refine (diag16_skip_5 (h := .inl (by first | omega | (dsimp only; omega))) ..).trans ?_
  refine (diag16_high_4 ..).trans ?_
  rw [sum_bands, ← add_assoc]
  refine congrArg (fun z : EReal => z + _) ?_
  refine (diag16_skip_3 (h := .inr (by first | omega | (dsimp only; omega))) ..).trans ?_
  refine (diag16_skip_2 (h := .inr (by first | omega | (dsimp only; omega))) ..).trans ?_
  refine (diag16_skip_1 (h := .inr (by first | omega | (dsimp only; omega))) ..).trans ?_
  refine (diag16_skip_0 (h := .inr (by first | omega | (dsimp only; omega))) ..).trans ?_
  by_cases hr : r.val < 352
  · exact diag16_low_4 (r := ⟨r.val, hr⟩) (hs := rfl) ..
  · rw [sum_first_zero (f := fun q => addK 4 q r l) fun q h => maskK_later (h := by omega) ..]
    exact (diag16_upper (h := by omega) ..).trans (add_zero (M := EReal) _).symm

theorem diag16_5 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨640 + l.val, by omega⟩) = xg (ix2 r ⟨640 + l.val, by omega⟩) + ∑ q : Fin 688, addK 5 q r l := by
  refine (diag16_skip_7 (h := .inl (by first | omega | (dsimp only; omega))) ..).trans ?_
  refine (diag16_skip_6 (h := .inl (by first | omega | (dsimp only; omega))) ..).trans ?_
  refine (diag16_high_5 ..).trans ?_
  rw [sum_bands, ← add_assoc]
  refine congrArg (fun z : EReal => z + _) ?_
  refine (diag16_skip_4 (h := .inr (by first | omega | (dsimp only; omega))) ..).trans ?_
  refine (diag16_skip_3 (h := .inr (by first | omega | (dsimp only; omega))) ..).trans ?_
  refine (diag16_skip_2 (h := .inr (by first | omega | (dsimp only; omega))) ..).trans ?_
  refine (diag16_skip_1 (h := .inr (by first | omega | (dsimp only; omega))) ..).trans ?_
  refine (diag16_skip_0 (h := .inr (by first | omega | (dsimp only; omega))) ..).trans ?_
  by_cases hr : r.val < 352
  · exact diag16_low_5 (r := ⟨r.val, hr⟩) (hs := rfl) ..
  · rw [sum_first_zero (f := fun q => addK 5 q r l) fun q h => maskK_later (h := by omega) ..]
    exact (diag16_upper (h := by omega) ..).trans (add_zero (M := EReal) _).symm

theorem diag16_6 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨768 + l.val, by omega⟩) = xg (ix2 r ⟨768 + l.val, by omega⟩) + ∑ q : Fin 688, addK 6 q r l := by
  refine (diag16_skip_7 (h := .inl (by first | omega | (dsimp only; omega))) ..).trans ?_
  refine (diag16_high_6 ..).trans ?_
  rw [sum_bands, ← add_assoc]
  refine congrArg (fun z : EReal => z + _) ?_
  refine (diag16_skip_5 (h := .inr (by first | omega | (dsimp only; omega))) ..).trans ?_
  refine (diag16_skip_4 (h := .inr (by first | omega | (dsimp only; omega))) ..).trans ?_
  refine (diag16_skip_3 (h := .inr (by first | omega | (dsimp only; omega))) ..).trans ?_
  refine (diag16_skip_2 (h := .inr (by first | omega | (dsimp only; omega))) ..).trans ?_
  refine (diag16_skip_1 (h := .inr (by first | omega | (dsimp only; omega))) ..).trans ?_
  refine (diag16_skip_0 (h := .inr (by first | omega | (dsimp only; omega))) ..).trans ?_
  by_cases hr : r.val < 352
  · exact diag16_low_6 (r := ⟨r.val, hr⟩) (hs := rfl) ..
  · rw [sum_first_zero (f := fun q => addK 6 q r l) fun q h => maskK_later (h := by omega) ..]
    exact (diag16_upper (h := by omega) ..).trans (add_zero (M := EReal) _).symm

theorem diag16_7 (hc : k0_cond4 i = 1#1) (r : Fin 688) (l : Fin 128) :
    diag16 c i w3 w4 w5 w6 w7 w8 w9 wa wb wc wd we wf wg wh hc x3 x4 x5 x6 x7 x8 x9 xa xe xf xg xh (ix2 r ⟨896 + l.val, by omega⟩) = xg (ix2 r ⟨896 + l.val, by omega⟩) + ∑ q : Fin 688, addK 7 q r l := by
  refine (diag16_high_7 ..).trans ?_
  rw [sum_bands, ← add_assoc]
  refine congrArg (fun z : EReal => z + _) ?_
  refine (diag16_skip_6 (h := .inr (by first | omega | (dsimp only; omega))) ..).trans ?_
  refine (diag16_skip_5 (h := .inr (by first | omega | (dsimp only; omega))) ..).trans ?_
  refine (diag16_skip_4 (h := .inr (by first | omega | (dsimp only; omega))) ..).trans ?_
  refine (diag16_skip_3 (h := .inr (by first | omega | (dsimp only; omega))) ..).trans ?_
  refine (diag16_skip_2 (h := .inr (by first | omega | (dsimp only; omega))) ..).trans ?_
  refine (diag16_skip_1 (h := .inr (by first | omega | (dsimp only; omega))) ..).trans ?_
  refine (diag16_skip_0 (h := .inr (by first | omega | (dsimp only; omega))) ..).trans ?_
  by_cases hr : r.val < 352
  · exact diag16_low_7 (r := ⟨r.val, hr⟩) (hs := rfl) ..
  · rw [sum_first_zero (f := fun q => addK 7 q r l) fun q h => maskK_later (h := by omega) ..]
    exact (diag16_upper (h := by omega) ..).trans (add_zero (M := EReal) _).symm

end Cert.AttnBwdIdeal.Hand

end
-- ==== Proof.AttnDiagV.lean ====
module

public import proofs.«01_k».proof.Proof.AttnSpec
public import Idealize.ShloMosaic.Lib.WritesUnit

@[expose] public section

set_option maxRecDepth 65536

noncomputable section

namespace Cert.AttnBwdIdeal.Hand

open diagRun

open Cert.AttnBwdIdeal Cert.AttnBwdIdeal.Gen
open Idealize.ShloMosaic TcCoe Tactic Pointwise
open Idealize.SL RA BI Sem
open Cert.Common

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (x3 x4 x5 : Vec Ideal S1x688x512 .bf16) (x6 : Vec Ideal S1x688x512 .f32) (x7 : Vec Ideal S1x688x512 .bf16) (x8 : Vec Ideal S1x688x128 .f32) (x9 : Vec Ideal S1x1x8x688 .f32) (xa : Vec Ideal S1x2064x512 .f32) (xb xc : Vec Ideal S1x688x512 .bf16) (xd : Vec Ideal S1x688x128 .f32) (xe : Vec Ideal S1x2064x128 .f32) (xf : Vec Ideal S2064x1024 .f32) (xg : Vec Ideal S688x1024 .f32) (xh : Vec Ideal S688x512 .f32)
attribute [local pointwise] k0_pay6 k0_pay7 k0_pay8 k0_pay9 k0_pay10 k0_pay119 k0_pay120 k0_pay121 k0_pay122 k0_pay123 k0_pay124 k0_pay125 k0_pay130 k0_pay131 k0_pay132 k0_pay133 k0_pay134 k0_pay135 k0_pay136 k0_pay150 k0_pay151 k0_pay152 k0_pay153 k0_pay154 k0_pay162 k0_pay163 k0_pay164 k0_pay165 k0_pay166 k0_pay167 k0_pay17._proof_1 k0_pay173 k0_pay174 k0_pay175 k0_pay176 k0_pay177 k0_pay183 k0_pay184 k0_pay185 k0_pay186 k0_pay187 k0_pay188 k0_pay199 k0_pay200 k0_pay201 k0_pay202 k0_pay203 k0_pay204 k0_pay205 k0_pay206 k0_pay207 k0_pay208 k0_pay221 k0_pay222 k0_pay223 k0_pay224 k0_pay225 k0_pay226 k0_pay232 k0_pay233 k0_pay234 k0_pay235 k0_pay236 k0_pay237 k0_pay249 k0_pay250 k0_pay251 k0_pay252 k0_pay259 k0_pay260 k0_pay261 k0_pay262 k0_pay263 k0_pay270 k0_pay271 k0_pay272 k0_pay273 k0_pay274 k0_pay275 k0_pay280 k0_pay281 k0_pay282 k0_pay283 k0_pay284 k0_pay285 k0_pay289 k0_pay290 k0_pay291 k0_pay292 k0_pay293 k0_pay294 k0_pay295 k0_pay296 k0_pay303 k0_pay304 k0_pay305 k0_pay306 k0_pay307 k0_pay323 k0_pay324 k0_pay325 k0_pay326

theorem diag17_low_0 (r : Fin 352) (l : Fin 128) (s : Fin 688) (hs : s.val = r.val) :
    ah.view.read (Elt Ideal) (ah.view.writes (Elt Ideal) (wh.unread xh) (sl.H17_4 (F := Ideal) c w3 w4 w7 w8 w9 wh x3 x4 x7 x8 x9 xh)) (ix2 s ⟨l.val, by omega⟩) = xh (ix2 s ⟨l.val, by omega⟩) + (∑ q : Fin 352, maskV x3 x4 x7 x8 x9 0 ⟨q.val, by omega⟩ s l + ∑ q : Fin 352, maskV x3 x4 x7 x8 x9 1 ⟨q.val, by omega⟩ s l) := by
  obtain rfl : s = ⟨r.val, Nat.lt_of_lt_of_le r.isLt (by decide)⟩ := Fin.ext hs
  unfold sl.H17_4
  frame_open
  iterate 3 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 rfl (add2 (Finset.sum_congr rfl fun q _ => ?_) (Finset.sum_congr rfl fun q _ => ?_))
  all_goals
    rw [mask_bot, sel_mask0 (by omega) (by omega), exp_mask, ite_mul, zero_mul]
    rfl

theorem diag17_low_1 (r : Fin 352) (l : Fin 128) (s : Fin 688) (hs : s.val = r.val) :
    ah.view.read (Elt Ideal) (ah.view.writes (Elt Ideal) (wh.unread xh) (sl.H17_4 (F := Ideal) c w3 w4 w7 w8 w9 wh x3 x4 x7 x8 x9 xh)) (ix2 s ⟨128 + l.val, by omega⟩) = xh (ix2 s ⟨128 + l.val, by omega⟩) + (∑ q : Fin 352, maskV x3 x4 x7 x8 x9 2 ⟨q.val, by omega⟩ s l + ∑ q : Fin 352, maskV x3 x4 x7 x8 x9 3 ⟨q.val, by omega⟩ s l) := by
  obtain rfl : s = ⟨r.val, Nat.lt_of_lt_of_le r.isLt (by decide)⟩ := Fin.ext hs
  unfold sl.H17_4
  frame_open
  iterate 2 refine (skip 1 _ 128 rfl (by left; simp [Rect.unit, ix2] <;> omega)).trans ?_
  refine (hit (ix2 r l)).trans ?_
  simp only [readAt_eq_ld, read_unread]
  pointwise []
  simp only [sel_low, sel_high, sel_lane64, sel_lane0]
  refine add2 rfl (add2 (Finset.sum_congr rfl fun q _ => ?_) (Finset.sum_congr rfl fun q _ => ?_))
  all_goals
    rw [mask_bot, sel_mask0 (by omega) (by omega), exp_mask, ite_mul, zero_mul]
    rfl

theorem diag17_low_2 (r : Fin 352) (l : Fin 128) (s : Fin 688) (hs : s.val = r.val) :
    ah.view.read (Elt Ideal) (ah.view.writes (Elt Ideal) (wh.unread xh) (sl.H17_4 (F := Ideal) c w3 w4 w7 w8 w9 wh x3 x4 x7 x8 x9 xh)) (ix2 s ⟨256 + l.val, by omega⟩) = xh (ix2 s ⟨256 + l.val, by omega⟩) + (∑ q : Fin 352, maskV x3 x4 x7 x8 x9 4 ⟨q.val, by omega⟩ s l + ∑ q : Fin 352, maskV x3 x4 x7 x8 x9 5 ⟨q.val, by omega⟩ s l) := by
  obtain rfl : s = ⟨r.val, Nat.lt_of_lt_of_le r.isLt (by decide)⟩ := Fin.ext hs
  unfold sl.H17_4
  frame_open
  refine (skip 1 384 128).trans ?_
  refine (hit (ix2 r l)).trans ?_
  simp only [readAt_eq_ld, read_unread]
  pointwise []
  simp only [sel_low, sel_high, sel_lane64, sel_lane0]
  refine add2 rfl (add2 (Finset.sum_congr rfl fun q _ => ?_) (Finset.sum_congr rfl fun q _ => ?_))
  all_goals
    rw [mask_bot, sel_mask0 (by omega) (by omega), exp_mask, ite_mul, zero_mul]
    rfl

theorem diag17_low_3 (r : Fin 352) (l : Fin 128) (s : Fin 688) (hs : s.val = r.val) :
    ah.view.read (Elt Ideal) (ah.view.writes (Elt Ideal) (wh.unread xh) (sl.H17_4 (F := Ideal) c w3 w4 w7 w8 w9 wh x3 x4 x7 x8 x9 xh)) (ix2 s ⟨384 + l.val, by omega⟩) = xh (ix2 s ⟨384 + l.val, by omega⟩) + (∑ q : Fin 352, maskV x3 x4 x7 x8 x9 6 ⟨q.val, by omega⟩ s l + ∑ q : Fin 352, maskV x3 x4 x7 x8 x9 7 ⟨q.val, by omega⟩ s l) := by
  obtain rfl : s = ⟨r.val, Nat.lt_of_lt_of_le r.isLt (by decide)⟩ := Fin.ext hs
  unfold sl.H17_4
  frame_open
  refine (hit (ix2 r l)).trans ?_
  simp only [readAt_eq_ld, read_unread]
  pointwise []
  simp only [sel_low, sel_high, sel_lane64, sel_lane0]
  refine add2 rfl (add2 (Finset.sum_congr rfl fun q _ => ?_) (Finset.sum_congr rfl fun q _ => ?_))
  all_goals
    rw [mask_bot, sel_mask0 (by omega) (by omega), exp_mask, ite_mul, zero_mul]
    rfl

theorem diag17_high_0 (r : Fin 688) (l : Fin 128) :
    ah.view.read (Elt Ideal) (ah.view.writes (Elt Ideal) (wh.unread xh) (sl.H17_5 (F := Ideal) c w3 w4 w7 w8 w9 wh x3 x4 x7 x8 x9 xh)) (ix2 r ⟨l.val, by omega⟩) = ah.view.read (Elt Ideal) (ah.view.writes (Elt Ideal) (wh.unread xh) (sl.H17_4 (F := Ideal) c w3 w4 w7 w8 w9 wh x3 x4 x7 x8 x9 xh)) (ix2 r ⟨l.val, by omega⟩) + (∑ q : Fin 336, maskV x3 x4 x7 x8 x9 0 ⟨352 + q.val, by omega⟩ r l + ∑ q : Fin 336, maskV x3 x4 x7 x8 x9 1 ⟨352 + q.val, by omega⟩ r l) := by
  unfold sl.H17_5
  dsimp only
  refine (hit (ix2 r l)).trans ?_
  simp only [sl.v866, sl.v863, sl.v862, sl.v826, sl.cst_436, sl.r_38, sl.v825, sl.r_47, sl.r_39, sl.v687, sl.cst, sl.v686, sl.v684, sl.v682, sl.v679, sl.v680, sl.v678, sl.v18, sl.v750, sl.v695, sl.v694, sl.cst_19, sl.v690, sl.v692, sl.v691, sl.v749, sl.r_41, sl.v701, sl.cst_401, sl.v700, sl.v688, sl.v861]
  simp only [readAt_eq_ld, read_unread]
  pointwise []
  simp only [sel_low, sel_high, sel_lane64, sel_lane0]
  refine add2 rfl (add2 (Finset.sum_congr rfl fun q _ => ?_) (Finset.sum_congr rfl fun q _ => ?_))
  all_goals
    rw [mask_bot, sel_mask (a := 352) (by omega) (by omega), exp_mask, ite_mul, zero_mul]
    rfl

theorem diag17_high_1 (r : Fin 688) (l : Fin 128) :
    ah.view.read (Elt Ideal) (ah.view.writes (Elt Ideal) (wh.unread xh) (sl.H17_6 (F := Ideal) c w3 w4 w7 w8 w9 wh x3 x4 x7 x8 x9 xh)) (ix2 r ⟨128 + l.val, by omega⟩) = ah.view.read (Elt Ideal) (ah.view.writes (Elt Ideal) (wh.unread xh) (sl.H17_5 (F := Ideal) c w3 w4 w7 w8 w9 wh x3 x4 x7 x8 x9 xh)) (ix2 r ⟨128 + l.val, by omega⟩) + (∑ q : Fin 336, maskV x3 x4 x7 x8 x9 2 ⟨352 + q.val, by omega⟩ r l + ∑ q : Fin 336, maskV x3 x4 x7 x8 x9 3 ⟨352 + q.val, by omega⟩ r l) := by
  unfold sl.H17_6
  dsimp only
  refine (hit (ix2 r l)).trans ?_
  simp only [sl.v1028, sl.v1025, sl.v1024, sl.r_53, sl.v887, sl.cst_401, sl.v784, sl.v886, sl.v694, sl.cst_19, sl.v872, sl.v687, sl.cst, sl.v870, sl.v831, sl.cst_485, sl.v692, sl.v691, sl.v880, sl.v874, sl.v682, sl.v679, sl.v680, sl.v678, sl.v18, sl.r_50, sl.r_45, sl.r_44, sl.v1023]
  simp only [readAt_eq_ld, read_unread]
  pointwise []
  simp only [sel_low, sel_high, sel_lane64, sel_lane0]
  refine add2 rfl (add2 (Finset.sum_congr rfl fun q _ => ?_) (Finset.sum_congr rfl fun q _ => ?_))
  all_goals
    rw [mask_bot, sel_mask (a := 352) (by omega) (by omega), exp_mask, ite_mul, zero_mul]
    rfl

theorem diag17_high_2 (r : Fin 688) (l : Fin 128) :
    ah.view.read (Elt Ideal) (ah.view.writes (Elt Ideal) (wh.unread xh) (sl.H17_7 (F := Ideal) c w3 w4 w7 w8 w9 wh x3 x4 x7 x8 x9 xh)) (ix2 r ⟨256 + l.val, by omega⟩) = ah.view.read (Elt Ideal) (ah.view.writes (Elt Ideal) (wh.unread xh) (sl.H17_6 (F := Ideal) c w3 w4 w7 w8 w9 wh x3 x4 x7 x8 x9 xh)) (ix2 r ⟨256 + l.val, by omega⟩) + (∑ q : Fin 336, maskV x3 x4 x7 x8 x9 4 ⟨352 + q.val, by omega⟩ r l + ∑ q : Fin 336, maskV x3 x4 x7 x8 x9 5 ⟨352 + q.val, by omega⟩ r l) := by
  unfold sl.H17_7
  dsimp only
  refine (hit (ix2 r l)).trans ?_
  simp only [sl.v1187, sl.v1186, sl.r_63, sl.r_55, sl.v950, sl.v687, sl.cst, sl.v948, sl.v946, sl.r_54, sl.v692, sl.v691, sl.v952, sl.v682, sl.v679, sl.v680, sl.v678, sl.v18, sl.r_58, sl.v963, sl.cst_401, sl.v962, sl.v694, sl.cst_19, sl.v957, sl.v1185]
  simp only [readAt_eq_ld, read_unread]
  pointwise []
  simp only [sel_low, sel_high, sel_lane64, sel_lane0]
  refine add2 rfl (add2 (Finset.sum_congr rfl fun q _ => ?_) (Finset.sum_congr rfl fun q _ => ?_))
  all_goals
    rw [mask_bot, sel_mask (a := 352) (by omega) (by omega), exp_mask, ite_mul, zero_mul]
    rfl

theorem diag17_high_3 (hc : k0_cond4 i = 1#1) (r : Fin 688) (l : Fin 128) :
    diag17 c i w3 w4 w5 w6 w7 w8 w9 wa wb wc wd we wf wg wh hc x3 x4 x5 x6 x7 x8 x9 xa xe xf xg xh (ix2 r ⟨384 + l.val, by omega⟩) = ah.view.read (Elt Ideal) (ah.view.writes (Elt Ideal) (wh.unread xh) (sl.H17_7 (F := Ideal) c w3 w4 w7 w8 w9 wh x3 x4 x7 x8 x9 xh)) (ix2 r ⟨384 + l.val, by omega⟩) + (∑ q : Fin 336, maskV x3 x4 x7 x8 x9 6 ⟨352 + q.val, by omega⟩ r l + ∑ q : Fin 336, maskV x3 x4 x7 x8 x9 7 ⟨352 + q.val, by omega⟩ r l) := by
  unfold diag17 diagRun
  dsimp only
  refine (hit (ix2 r l)).trans ?_
  simp only [sl.v1330, sl.v1327, sl.v1326, sl.r_72, sl.r_67, sl.r_66, sl.v682, sl.v679, sl.v680, sl.v678, sl.v18, sl.v1236, sl.cst_436, sl.r_59, sl.v1235, sl.v1224, sl.v1223, sl.v1222, sl.r_70, sl.r_69, sl.r_60, sl.v1112, sl.v687, sl.cst, sl.v1110, sl.v1108, sl.v1325]
  simp only [readAt_eq_ld, read_unread]
  pointwise []
  simp only [sel_low, sel_high, sel_lane64, sel_lane0]
  refine add2 rfl (add2 (Finset.sum_congr rfl fun q _ => ?_) (Finset.sum_congr rfl fun q _ => ?_))
  all_goals
    rw [mask_bot, sel_mask (a := 352) (by omega) (by omega), exp_mask, ite_mul, zero_mul]
    rfl

theorem diag17_skip_0 (r : Fin 688) (m : Fin 512) (h : m.val < 0 ∨ 0 + 128 ≤ m.val) :
    ah.view.read (Elt Ideal) (ah.view.writes (Elt Ideal) (wh.unread xh) (sl.H17_5 (F := Ideal) c w3 w4 w7 w8 w9 wh x3 x4 x7 x8 x9 xh)) (ix2 r m) = ah.view.read (Elt Ideal) (ah.view.writes (Elt Ideal) (wh.unread xh) (sl.H17_4 (F := Ideal) c w3 w4 w7 w8 w9 wh x3 x4 x7 x8 x9 xh)) (ix2 r m) := by
  unfold sl.H17_5
  dsimp only
  exact View.read_writes_cons_miss_of_axis _ _ _ _ _ 1 0 128 rfl rfl rfl h

theorem diag17_skip_1 (r : Fin 688) (m : Fin 512) (h : m.val < 128 ∨ 128 + 128 ≤ m.val) :
    ah.view.read (Elt Ideal) (ah.view.writes (Elt Ideal) (wh.unread xh) (sl.H17_6 (F := Ideal) c w3 w4 w7 w8 w9 wh x3 x4 x7 x8 x9 xh)) (ix2 r m) = ah.view.read (Elt Ideal) (ah.view.writes (Elt Ideal) (wh.unread xh) (sl.H17_5 (F := Ideal) c w3 w4 w7 w8 w9 wh x3 x4 x7 x8 x9 xh)) (ix2 r m) := by
  unfold sl.H17_6
  dsimp only
  exact View.read_writes_cons_miss_of_axis _ _ _ _ _ 1 128 128 rfl rfl rfl h

theorem diag17_skip_2 (r : Fin 688) (m : Fin 512) (h : m.val < 256 ∨ 256 + 128 ≤ m.val) :
    ah.view.read (Elt Ideal) (ah.view.writes (Elt Ideal) (wh.unread xh) (sl.H17_7 (F := Ideal) c w3 w4 w7 w8 w9 wh x3 x4 x7 x8 x9 xh)) (ix2 r m) = ah.view.read (Elt Ideal) (ah.view.writes (Elt Ideal) (wh.unread xh) (sl.H17_6 (F := Ideal) c w3 w4 w7 w8 w9 wh x3 x4 x7 x8 x9 xh)) (ix2 r m) := by
  unfold sl.H17_7
  dsimp only
  exact View.read_writes_cons_miss_of_axis _ _ _ _ _ 1 256 128 rfl rfl rfl h

theorem diag17_skip_3 (hc : k0_cond4 i = 1#1) (r : Fin 688) (m : Fin 512) (h : m.val < 384 ∨ 384 + 128 ≤ m.val) :
    diag17 c i w3 w4 w5 w6 w7 w8 w9 wa wb wc wd we wf wg wh hc x3 x4 x5 x6 x7 x8 x9 xa xe xf xg xh (ix2 r m) = ah.view.read (Elt Ideal) (ah.view.writes (Elt Ideal) (wh.unread xh) (sl.H17_7 (F := Ideal) c w3 w4 w7 w8 w9 wh x3 x4 x7 x8 x9 xh)) (ix2 r m) := by
  unfold diag17 diagRun
  dsimp only
  exact View.read_writes_cons_miss_of_axis _ _ _ _ _ 1 384 128 rfl rfl rfl h

theorem diag17_upper (r : Fin 688) (m : Fin 512) (h : 352 ≤ r.val) : ah.view.read (Elt Ideal) (ah.view.writes (Elt Ideal) (wh.unread xh) (sl.H17_4 (F := Ideal) c w3 w4 w7 w8 w9 wh x3 x4 x7 x8 x9 xh)) (ix2 r m) = xh (ix2 r m) := by
  unfold sl.H17_4
  refine (View.read_writes_cons_miss_of_axis _ _ _ _ _ 0 0 352 rfl rfl rfl (.inr h)).trans ?_
  refine (View.read_writes_cons_miss_of_axis _ _ _ _ _ 0 0 352 rfl rfl rfl (.inr h)).trans ?_
  refine (View.read_writes_cons_miss_of_axis _ _ _ _ _ 0 0 352 rfl rfl rfl (.inr h)).trans ?_
  refine (View.read_writes_cons_miss_of_axis _ _ _ _ _ 0 0 352 rfl rfl rfl (.inr h)).trans ?_
  exact congrFun (wh.read_unread xh) _

theorem diag17_0 (hc : k0_cond4 i = 1#1) (r : Fin 688) (l : Fin 128) :
    diag17 c i w3 w4 w5 w6 w7 w8 w9 wa wb wc wd we wf wg wh hc x3 x4 x5 x6 x7 x8 x9 xa xe xf xg xh (ix2 r ⟨l.val, by omega⟩) = xh (ix2 r ⟨l.val, by omega⟩) + (∑ q : Fin 688, maskV x3 x4 x7 x8 x9 0 q r l + ∑ q : Fin 688, maskV x3 x4 x7 x8 x9 1 q r l) := by
  refine (diag17_skip_3 (h := .inl (by first | omega | (dsimp only; omega))) ..).trans ?_
  refine (diag17_skip_2 (h := .inl (by first | omega | (dsimp only; omega))) ..).trans ?_
  refine (diag17_skip_1 (h := .inl (by first | omega | (dsimp only; omega))) ..).trans ?_
  refine (diag17_high_0 ..).trans ?_
  rw [sum_bands, sum_bands (fun q => maskV x3 x4 x7 x8 x9 1 q r l), add_add_add_comm]
  refine Eq.trans ?_ (add_assoc (G := EReal) _ _ _)
  refine congrArg (fun z : EReal => z + _) ?_
  by_cases hr : r.val < 352
  · exact diag17_low_0 (r := ⟨r.val, hr⟩) (hs := rfl) ..
  · have hz : ∀ H : Fin 8, ∑ q : Fin 352, maskV x3 x4 x7 x8 x9 H ⟨q.val, by omega⟩ r l = 0 := fun H =>
      sum_first_zero (f := fun q => maskV x3 x4 x7 x8 x9 H q r l) fun q h => maskV_later (h := by omega) ..
    rw [hz, hz, add_zero]
    exact (diag17_upper (h := by omega) ..).trans (add_zero (M := EReal) _).symm

theorem diag17_1 (hc : k0_cond4 i = 1#1) (r : Fin 688) (l : Fin 128) :
    diag17 c i w3 w4 w5 w6 w7 w8 w9 wa wb wc wd we wf wg wh hc x3 x4 x5 x6 x7 x8 x9 xa xe xf xg xh (ix2 r ⟨128 + l.val, by omega⟩) = xh (ix2 r ⟨128 + l.val, by omega⟩) + (∑ q : Fin 688, maskV x3 x4 x7 x8 x9 2 q r l + ∑ q : Fin 688, maskV x3 x4 x7 x8 x9 3 q r l) := by
  refine (diag17_skip_3 (h := .inl (by first | omega | (dsimp only; omega))) ..).trans ?_
  refine (diag17_skip_2 (h := .inl (by first | omega | (dsimp only; omega))) ..).trans ?_
  refine (diag17_high_1 ..).trans ?_
  rw [sum_bands, sum_bands (fun q => maskV x3 x4 x7 x8 x9 3 q r l), add_add_add_comm]
  refine Eq.trans ?_ (add_assoc (G := EReal) _ _ _)
  refine congrArg (fun z : EReal => z + _) ?_
  refine (diag17_skip_0 (h := .inr (by first | omega | (dsimp only; omega))) ..).trans ?_
  by_cases hr : r.val < 352
  · exact diag17_low_1 (r := ⟨r.val, hr⟩) (hs := rfl) ..
  · have hz : ∀ H : Fin 8, ∑ q : Fin 352, maskV x3 x4 x7 x8 x9 H ⟨q.val, by omega⟩ r l = 0 := fun H =>
      sum_first_zero (f := fun q => maskV x3 x4 x7 x8 x9 H q r l) fun q h => maskV_later (h := by omega) ..
    rw [hz, hz, add_zero]
    exact (diag17_upper (h := by omega) ..).trans (add_zero (M := EReal) _).symm

theorem diag17_2 (hc : k0_cond4 i = 1#1) (r : Fin 688) (l : Fin 128) :
    diag17 c i w3 w4 w5 w6 w7 w8 w9 wa wb wc wd we wf wg wh hc x3 x4 x5 x6 x7 x8 x9 xa xe xf xg xh (ix2 r ⟨256 + l.val, by omega⟩) = xh (ix2 r ⟨256 + l.val, by omega⟩) + (∑ q : Fin 688, maskV x3 x4 x7 x8 x9 4 q r l + ∑ q : Fin 688, maskV x3 x4 x7 x8 x9 5 q r l) := by
  refine (diag17_skip_3 (h := .inl (by first | omega | (dsimp only; omega))) ..).trans ?_
  refine (diag17_high_2 ..).trans ?_
  rw [sum_bands, sum_bands (fun q => maskV x3 x4 x7 x8 x9 5 q r l), add_add_add_comm]
  refine Eq.trans ?_ (add_assoc (G := EReal) _ _ _)
  refine congrArg (fun z : EReal => z + _) ?_
  refine (diag17_skip_1 (h := .inr (by first | omega | (dsimp only; omega))) ..).trans ?_
  refine (diag17_skip_0 (h := .inr (by first | omega | (dsimp only; omega))) ..).trans ?_
  by_cases hr : r.val < 352
  · exact diag17_low_2 (r := ⟨r.val, hr⟩) (hs := rfl) ..
  · have hz : ∀ H : Fin 8, ∑ q : Fin 352, maskV x3 x4 x7 x8 x9 H ⟨q.val, by omega⟩ r l = 0 := fun H =>
      sum_first_zero (f := fun q => maskV x3 x4 x7 x8 x9 H q r l) fun q h => maskV_later (h := by omega) ..
    rw [hz, hz, add_zero]
    exact (diag17_upper (h := by omega) ..).trans (add_zero (M := EReal) _).symm

theorem diag17_3 (hc : k0_cond4 i = 1#1) (r : Fin 688) (l : Fin 128) :
    diag17 c i w3 w4 w5 w6 w7 w8 w9 wa wb wc wd we wf wg wh hc x3 x4 x5 x6 x7 x8 x9 xa xe xf xg xh (ix2 r ⟨384 + l.val, by omega⟩) = xh (ix2 r ⟨384 + l.val, by omega⟩) + (∑ q : Fin 688, maskV x3 x4 x7 x8 x9 6 q r l + ∑ q : Fin 688, maskV x3 x4 x7 x8 x9 7 q r l) := by
  refine (diag17_high_3 ..).trans ?_
  rw [sum_bands, sum_bands (fun q => maskV x3 x4 x7 x8 x9 7 q r l), add_add_add_comm]
  refine Eq.trans ?_ (add_assoc (G := EReal) _ _ _)
  refine congrArg (fun z : EReal => z + _) ?_
  refine (diag17_skip_2 (h := .inr (by first | omega | (dsimp only; omega))) ..).trans ?_
  refine (diag17_skip_1 (h := .inr (by first | omega | (dsimp only; omega))) ..).trans ?_
  refine (diag17_skip_0 (h := .inr (by first | omega | (dsimp only; omega))) ..).trans ?_
  by_cases hr : r.val < 352
  · exact diag17_low_3 (r := ⟨r.val, hr⟩) (hs := rfl) ..
  · have hz : ∀ H : Fin 8, ∑ q : Fin 352, maskV x3 x4 x7 x8 x9 H ⟨q.val, by omega⟩ r l = 0 := fun H =>
      sum_first_zero (f := fun q => maskV x3 x4 x7 x8 x9 H q r l) fun q h => maskV_later (h := by omega) ..
    rw [hz, hz, add_zero]
    exact (diag17_upper (h := by omega) ..).trans (add_zero (M := EReal) _).symm

end Cert.AttnBwdIdeal.Hand

end
-- ==== Proof.AttnUni.lean ====
module

public import proofs.«01_k».proof.Proof.AttnOut
public import proofs.«01_k».proof.Proof.AttnFullK
public import proofs.«01_k».proof.Proof.AttnFullQ
public import proofs.«01_k».proof.Proof.AttnDiagK
public import proofs.«01_k».proof.Proof.AttnDiagV
public import Idealize.ShloMosaic.Lib.WritesUnit

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem
open Cert.Common

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (x3 x4 x5 : Vec Ideal S1x688x512 .bf16) (x6 : Vec Ideal S1x688x512 .f32) (x7 : Vec Ideal S1x688x512 .bf16) (x8 : Vec Ideal S1x688x128 .f32) (x9 : Vec Ideal S1x1x8x688 .f32) (xa : Vec Ideal S1x2064x512 .f32) (xb xc : Vec Ideal S1x688x512 .bf16) (xd : Vec Ideal S1x688x128 .f32) (xe : Vec Ideal S1x2064x128 .f32) (xf : Vec Ideal S2064x1024 .f32) (xg : Vec Ideal S688x1024 .f32) (xh : Vec Ideal S688x512 .f32)

attribute [local simp] k0_off10_eq k0_off11_eq k0_off12_eq k0_off13_eq k0_off14_eq k0_off15_eq k0_off16_eq k0_off17_eq k0_off18_eq k0_off19_eq k0_off1_eq k0_off20_eq k0_off21_eq k0_off22_eq k0_off23_eq k0_off24_eq k0_off2_eq k0_off3_eq k0_off4_eq k0_off5_eq k0_off6_eq k0_off7_eq k0_off8_eq k0_off9_eq

theorem full15_all (hc : k0_cond3 i = 1#1) (r : Fin 688) (s : Fin 2064) (hs : s.val = 688 * (i 2).val + r.val) (m : Fin 1024) :
    full15 c i w3 w4 w5 w6 w7 w8 w9 wa wb wc wd we wf wg wh hc x3 x4 x5 x6 x7 x8 x9 xf xg xh (ix2 s m) = xf (ix2 s m) + ∑ k : Fin 688, addQ x3 x4 x5 x6 x7 x8 x9 (hd m) r k (ln m) := by
  revert m
  refine cases_lane8 ?_ ?_ ?_ ?_ ?_ ?_ ?_ ?_ <;> intro l
  · rw [hd_eq (m := ⟨l.val, by omega⟩) (H := 0) (show (l.val) / 128 = 0 by omega), ln_eq (m := ⟨l.val, by omega⟩) (l := l) (show (l.val) % 128 = l.val by omega)]; exact full15_0 (hs := hs) ..
  · rw [hd_eq (m := ⟨128 + l.val, by omega⟩) (H := 1) (show (128 + l.val) / 128 = 1 by omega), ln_eq (m := ⟨128 + l.val, by omega⟩) (l := l) (show (128 + l.val) % 128 = l.val by omega)]; exact full15_1 (hs := hs) ..
  · rw [hd_eq (m := ⟨256 + l.val, by omega⟩) (H := 2) (show (256 + l.val) / 128 = 2 by omega), ln_eq (m := ⟨256 + l.val, by omega⟩) (l := l) (show (256 + l.val) % 128 = l.val by omega)]; exact full15_2 (hs := hs) ..
  · rw [hd_eq (m := ⟨384 + l.val, by omega⟩) (H := 3) (show (384 + l.val) / 128 = 3 by omega), ln_eq (m := ⟨384 + l.val, by omega⟩) (l := l) (show (384 + l.val) % 128 = l.val by omega)]; exact full15_3 (hs := hs) ..
  · rw [hd_eq (m := ⟨512 + l.val, by omega⟩) (H := 4) (show (512 + l.val) / 128 = 4 by omega), ln_eq (m := ⟨512 + l.val, by omega⟩) (l := l) (show (512 + l.val) % 128 = l.val by omega)]; exact full15_4 (hs := hs) ..
  · rw [hd_eq (m := ⟨640 + l.val, by omega⟩) (H := 5) (show (640 + l.val) / 128 = 5 by omega), ln_eq (m := ⟨640 + l.val, by omega⟩) (l := l) (show (640 + l.val) % 128 = l.val by omega)]; exact full15_5 (hs := hs) ..
  · rw [hd_eq (m := ⟨768 + l.val, by omega⟩) (H := 6) (show (768 + l.val) / 128 = 6 by omega), ln_eq (m := ⟨768 + l.val, by omega⟩) (l := l) (show (768 + l.val) % 128 = l.val by omega)]; exact full15_6 (hs := hs) ..
  · rw [hd_eq (m := ⟨896 + l.val, by omega⟩) (H := 7) (show (896 + l.val) / 128 = 7 by omega), ln_eq (m := ⟨896 + l.val, by omega⟩) (l := l) (show (896 + l.val) % 128 = l.val by omega)]; exact full15_7 (hs := hs) ..

theorem full16_all (hc : k0_cond3 i = 1#1) (r : Fin 688) (m : Fin 1024) :
    full16 c i w3 w4 w5 w6 w7 w8 w9 wa wb wc wd we wf wg wh hc x3 x4 x5 x6 x7 x8 x9 xf xg xh (ix2 r m) = xg (ix2 r m) + ∑ q : Fin 688, addK x3 x4 x5 x6 x7 x8 x9 (hd m) q r (ln m) := by
  revert m
  refine cases_lane8 ?_ ?_ ?_ ?_ ?_ ?_ ?_ ?_ <;> intro l
  · rw [hd_eq (m := ⟨l.val, by omega⟩) (H := 0) (show (l.val) / 128 = 0 by omega), ln_eq (m := ⟨l.val, by omega⟩) (l := l) (show (l.val) % 128 = l.val by omega)]; exact full16_0 ..
  · rw [hd_eq (m := ⟨128 + l.val, by omega⟩) (H := 1) (show (128 + l.val) / 128 = 1 by omega), ln_eq (m := ⟨128 + l.val, by omega⟩) (l := l) (show (128 + l.val) % 128 = l.val by omega)]; exact full16_1 ..
  · rw [hd_eq (m := ⟨256 + l.val, by omega⟩) (H := 2) (show (256 + l.val) / 128 = 2 by omega), ln_eq (m := ⟨256 + l.val, by omega⟩) (l := l) (show (256 + l.val) % 128 = l.val by omega)]; exact full16_2 ..
  · rw [hd_eq (m := ⟨384 + l.val, by omega⟩) (H := 3) (show (384 + l.val) / 128 = 3 by omega), ln_eq (m := ⟨384 + l.val, by omega⟩) (l := l) (show (384 + l.val) % 128 = l.val by omega)]; exact full16_3 ..
  · rw [hd_eq (m := ⟨512 + l.val, by omega⟩) (H := 4) (show (512 + l.val) / 128 = 4 by omega), ln_eq (m := ⟨512 + l.val, by omega⟩) (l := l) (show (512 + l.val) % 128 = l.val by omega)]; exact full16_4 ..
  · rw [hd_eq (m := ⟨640 + l.val, by omega⟩) (H := 5) (show (640 + l.val) / 128 = 5 by omega), ln_eq (m := ⟨640 + l.val, by omega⟩) (l := l) (show (640 + l.val) % 128 = l.val by omega)]; exact full16_5 ..
  · rw [hd_eq (m := ⟨768 + l.val, by omega⟩) (H := 6) (show (768 + l.val) / 128 = 6 by omega), ln_eq (m := ⟨768 + l.val, by omega⟩) (l := l) (show (768 + l.val) % 128 = l.val by omega)]; exact full16_6 ..
  · rw [hd_eq (m := ⟨896 + l.val, by omega⟩) (H := 7) (show (896 + l.val) / 128 = 7 by omega), ln_eq (m := ⟨896 + l.val, by omega⟩) (l := l) (show (896 + l.val) % 128 = l.val by omega)]; exact full16_7 ..

theorem full17_all (hc : k0_cond3 i = 1#1) (r : Fin 688) (m : Fin 512) :
    full17 c i w3 w4 w5 w6 w7 w8 w9 wa wb wc wd we wf wg wh hc x3 x4 x5 x6 x7 x8 x9 xf xg xh (ix2 r m) = xh (ix2 r m) + (∑ q : Fin 688, addV x3 x4 x7 x8 x9 (ev m) q r (lh m) + ∑ q : Fin 688, addV x3 x4 x7 x8 x9 (od m) q r (lh m)) := by
  revert m
  refine cases_lane4 ?_ ?_ ?_ ?_ <;> intro l
  · rw [ev_eq (m := ⟨l.val, by omega⟩) (H := 0) (show 2 * ((l.val) / 128) = 0 by omega), od_eq (m := ⟨l.val, by omega⟩) (H := 1) (show 2 * ((l.val) / 128) + 1 = 1 by omega), lh_eq (m := ⟨l.val, by omega⟩) (l := l) (show (l.val) % 128 = l.val by omega)]; exact full17_0 ..
  · rw [ev_eq (m := ⟨128 + l.val, by omega⟩) (H := 2) (show 2 * ((128 + l.val) / 128) = 2 by omega), od_eq (m := ⟨128 + l.val, by omega⟩) (H := 3) (show 2 * ((128 + l.val) / 128) + 1 = 3 by omega), lh_eq (m := ⟨128 + l.val, by omega⟩) (l := l) (show (128 + l.val) % 128 = l.val by omega)]; exact full17_1 ..
  · rw [ev_eq (m := ⟨256 + l.val, by omega⟩) (H := 4) (show 2 * ((256 + l.val) / 128) = 4 by omega), od_eq (m := ⟨256 + l.val, by omega⟩) (H := 5) (show 2 * ((256 + l.val) / 128) + 1 = 5 by omega), lh_eq (m := ⟨256 + l.val, by omega⟩) (l := l) (show (256 + l.val) % 128 = l.val by omega)]; exact full17_2 ..
  · rw [ev_eq (m := ⟨384 + l.val, by omega⟩) (H := 6) (show 2 * ((384 + l.val) / 128) = 6 by omega), od_eq (m := ⟨384 + l.val, by omega⟩) (H := 7) (show 2 * ((384 + l.val) / 128) + 1 = 7 by omega), lh_eq (m := ⟨384 + l.val, by omega⟩) (l := l) (show (384 + l.val) % 128 = l.val by omega)]; exact full17_3 ..

theorem diag15_all (hc : k0_cond4 i = 1#1) (r : Fin 688) (s : Fin 2064) (hs : s.val = 688 * (i 2).val + r.val) (m : Fin 1024) :
    diag15 c i w3 w4 w5 w6 w7 w8 w9 wa wb wc wd we wf wg wh hc x3 x4 x5 x6 x7 x8 x9 xa xe xf xg xh (ix2 s m) = xf (ix2 s m) + ∑ k : Fin 688, maskQ x3 x4 x5 x6 x7 x8 x9 (hd m) r k (ln m) := by
  revert m
  refine cases_lane8 ?_ ?_ ?_ ?_ ?_ ?_ ?_ ?_ <;> intro l
  · rw [hd_eq (m := ⟨l.val, by omega⟩) (H := 0) (show (l.val) / 128 = 0 by omega), ln_eq (m := ⟨l.val, by omega⟩) (l := l) (show (l.val) % 128 = l.val by omega)]; exact diag15_0 (hs := hs) ..
  · rw [hd_eq (m := ⟨128 + l.val, by omega⟩) (H := 1) (show (128 + l.val) / 128 = 1 by omega), ln_eq (m := ⟨128 + l.val, by omega⟩) (l := l) (show (128 + l.val) % 128 = l.val by omega)]; exact diag15_1 (hs := hs) ..
  · rw [hd_eq (m := ⟨256 + l.val, by omega⟩) (H := 2) (show (256 + l.val) / 128 = 2 by omega), ln_eq (m := ⟨256 + l.val, by omega⟩) (l := l) (show (256 + l.val) % 128 = l.val by omega)]; exact diag15_2 (hs := hs) ..
  · rw [hd_eq (m := ⟨384 + l.val, by omega⟩) (H := 3) (show (384 + l.val) / 128 = 3 by omega), ln_eq (m := ⟨384 + l.val, by omega⟩) (l := l) (show (384 + l.val) % 128 = l.val by omega)]; exact diag15_3 (hs := hs) ..
  · rw [hd_eq (m := ⟨512 + l.val, by omega⟩) (H := 4) (show (512 + l.val) / 128 = 4 by omega), ln_eq (m := ⟨512 + l.val, by omega⟩) (l := l) (show (512 + l.val) % 128 = l.val by omega)]; exact diag15_4 (hs := hs) ..
  · rw [hd_eq (m := ⟨640 + l.val, by omega⟩) (H := 5) (show (640 + l.val) / 128 = 5 by omega), ln_eq (m := ⟨640 + l.val, by omega⟩) (l := l) (show (640 + l.val) % 128 = l.val by omega)]; exact diag15_5 (hs := hs) ..
  · rw [hd_eq (m := ⟨768 + l.val, by omega⟩) (H := 6) (show (768 + l.val) / 128 = 6 by omega), ln_eq (m := ⟨768 + l.val, by omega⟩) (l := l) (show (768 + l.val) % 128 = l.val by omega)]; exact diag15_6 (hs := hs) ..
  · rw [hd_eq (m := ⟨896 + l.val, by omega⟩) (H := 7) (show (896 + l.val) / 128 = 7 by omega), ln_eq (m := ⟨896 + l.val, by omega⟩) (l := l) (show (896 + l.val) % 128 = l.val by omega)]; exact diag15_7 (hs := hs) ..

theorem diag16_all (hc : k0_cond4 i = 1#1) (r : Fin 688) (m : Fin 1024) :
    diag16 c i w3 w4 w5 w6 w7 w8 w9 wa wb wc wd we wf wg wh hc x3 x4 x5 x6 x7 x8 x9 xa xe xf xg xh (ix2 r m) = xg (ix2 r m) + ∑ q : Fin 688, maskK x3 x4 x5 x6 x7 x8 x9 (hd m) q r (ln m) := by
  revert m
  refine cases_lane8 ?_ ?_ ?_ ?_ ?_ ?_ ?_ ?_ <;> intro l
  · rw [hd_eq (m := ⟨l.val, by omega⟩) (H := 0) (show (l.val) / 128 = 0 by omega), ln_eq (m := ⟨l.val, by omega⟩) (l := l) (show (l.val) % 128 = l.val by omega)]; exact diag16_0 ..
  · rw [hd_eq (m := ⟨128 + l.val, by omega⟩) (H := 1) (show (128 + l.val) / 128 = 1 by omega), ln_eq (m := ⟨128 + l.val, by omega⟩) (l := l) (show (128 + l.val) % 128 = l.val by omega)]; exact diag16_1 ..
  · rw [hd_eq (m := ⟨256 + l.val, by omega⟩) (H := 2) (show (256 + l.val) / 128 = 2 by omega), ln_eq (m := ⟨256 + l.val, by omega⟩) (l := l) (show (256 + l.val) % 128 = l.val by omega)]; exact diag16_2 ..
  · rw [hd_eq (m := ⟨384 + l.val, by omega⟩) (H := 3) (show (384 + l.val) / 128 = 3 by omega), ln_eq (m := ⟨384 + l.val, by omega⟩) (l := l) (show (384 + l.val) % 128 = l.val by omega)]; exact diag16_3 ..
  · rw [hd_eq (m := ⟨512 + l.val, by omega⟩) (H := 4) (show (512 + l.val) / 128 = 4 by omega), ln_eq (m := ⟨512 + l.val, by omega⟩) (l := l) (show (512 + l.val) % 128 = l.val by omega)]; exact diag16_4 ..
  · rw [hd_eq (m := ⟨640 + l.val, by omega⟩) (H := 5) (show (640 + l.val) / 128 = 5 by omega), ln_eq (m := ⟨640 + l.val, by omega⟩) (l := l) (show (640 + l.val) % 128 = l.val by omega)]; exact diag16_5 ..
  · rw [hd_eq (m := ⟨768 + l.val, by omega⟩) (H := 6) (show (768 + l.val) / 128 = 6 by omega), ln_eq (m := ⟨768 + l.val, by omega⟩) (l := l) (show (768 + l.val) % 128 = l.val by omega)]; exact diag16_6 ..
  · rw [hd_eq (m := ⟨896 + l.val, by omega⟩) (H := 7) (show (896 + l.val) / 128 = 7 by omega), ln_eq (m := ⟨896 + l.val, by omega⟩) (l := l) (show (896 + l.val) % 128 = l.val by omega)]; exact diag16_7 ..

theorem diag17_all (hc : k0_cond4 i = 1#1) (r : Fin 688) (m : Fin 512) :
    diag17 c i w3 w4 w5 w6 w7 w8 w9 wa wb wc wd we wf wg wh hc x3 x4 x5 x6 x7 x8 x9 xa xe xf xg xh (ix2 r m) = xh (ix2 r m) + (∑ q : Fin 688, maskV x3 x4 x7 x8 x9 (ev m) q r (lh m) + ∑ q : Fin 688, maskV x3 x4 x7 x8 x9 (od m) q r (lh m)) := by
  revert m
  refine cases_lane4 ?_ ?_ ?_ ?_ <;> intro l
  · rw [ev_eq (m := ⟨l.val, by omega⟩) (H := 0) (show 2 * ((l.val) / 128) = 0 by omega), od_eq (m := ⟨l.val, by omega⟩) (H := 1) (show 2 * ((l.val) / 128) + 1 = 1 by omega), lh_eq (m := ⟨l.val, by omega⟩) (l := l) (show (l.val) % 128 = l.val by omega)]; exact diag17_0 ..
  · rw [ev_eq (m := ⟨128 + l.val, by omega⟩) (H := 2) (show 2 * ((128 + l.val) / 128) = 2 by omega), od_eq (m := ⟨128 + l.val, by omega⟩) (H := 3) (show 2 * ((128 + l.val) / 128) + 1 = 3 by omega), lh_eq (m := ⟨128 + l.val, by omega⟩) (l := l) (show (128 + l.val) % 128 = l.val by omega)]; exact diag17_1 ..
  · rw [ev_eq (m := ⟨256 + l.val, by omega⟩) (H := 4) (show 2 * ((256 + l.val) / 128) = 4 by omega), od_eq (m := ⟨256 + l.val, by omega⟩) (H := 5) (show 2 * ((256 + l.val) / 128) + 1 = 5 by omega), lh_eq (m := ⟨256 + l.val, by omega⟩) (l := l) (show (256 + l.val) % 128 = l.val by omega)]; exact diag17_2 ..
  · rw [ev_eq (m := ⟨384 + l.val, by omega⟩) (H := 6) (show 2 * ((384 + l.val) / 128) = 6 by omega), od_eq (m := ⟨384 + l.val, by omega⟩) (H := 7) (show 2 * ((384 + l.val) / 128) + 1 = 7 by omega), lh_eq (m := ⟨384 + l.val, by omega⟩) (l := l) (show (384 + l.val) % 128 = l.val by omega)]; exact diag17_3 ..

theorem diag10_all (hc : k0_cond4 i = 1#1) (r : Fin 688) (s : Fin 2064) (hs : s.val = 688 * (i 2).val + r.val) (m : Fin 512) :
    diag10 c i w3 w4 w5 w6 w7 w8 w9 wa wb wc wd we wf wg wh hc x3 x4 x5 x6 x7 x8 x9 xa xe xf xg xh (ix3 0 s m) = merge (fun n => diag15 c i w3 w4 w5 w6 w7 w8 w9 wa wb wc wd we wf wg wh hc x3 x4 x5 x6 x7 x8 x9 xa xe xf xg xh (ix2 s n)) m * Ideal.ofBits .f32 1040187392#32 := by
  unfold merge
  revert m
  refine cases_lane4 ?_ ?_ ?_ ?_ <;> intro l
  · rw [lh_eq (m := ⟨l.val, by omega⟩) (l := l) (show (l.val) % 128 = l.val by omega), lo_eq (m := ⟨l.val, by omega⟩) (n := ⟨l.val, by omega⟩) (show 256 * ((l.val) / 128) + (l.val) % 128 = l.val by omega), hi_eq (m := ⟨l.val, by omega⟩) (n := ⟨128 + l.val, by omega⟩) (show 256 * ((l.val) / 128) + 128 + (l.val) % 128 = 128 + l.val by omega)]; exact diag10_0 (hs := hs) ..
  · rw [lh_eq (m := ⟨128 + l.val, by omega⟩) (l := l) (show (128 + l.val) % 128 = l.val by omega), lo_eq (m := ⟨128 + l.val, by omega⟩) (n := ⟨256 + l.val, by omega⟩) (show 256 * ((128 + l.val) / 128) + (128 + l.val) % 128 = 256 + l.val by omega), hi_eq (m := ⟨128 + l.val, by omega⟩) (n := ⟨384 + l.val, by omega⟩) (show 256 * ((128 + l.val) / 128) + 128 + (128 + l.val) % 128 = 384 + l.val by omega)]; exact diag10_1 (hs := hs) ..
  · rw [lh_eq (m := ⟨256 + l.val, by omega⟩) (l := l) (show (256 + l.val) % 128 = l.val by omega), lo_eq (m := ⟨256 + l.val, by omega⟩) (n := ⟨512 + l.val, by omega⟩) (show 256 * ((256 + l.val) / 128) + (256 + l.val) % 128 = 512 + l.val by omega), hi_eq (m := ⟨256 + l.val, by omega⟩) (n := ⟨640 + l.val, by omega⟩) (show 256 * ((256 + l.val) / 128) + 128 + (256 + l.val) % 128 = 640 + l.val by omega)]; exact diag10_2 (hs := hs) ..
  · rw [lh_eq (m := ⟨384 + l.val, by omega⟩) (l := l) (show (384 + l.val) % 128 = l.val by omega), lo_eq (m := ⟨384 + l.val, by omega⟩) (n := ⟨768 + l.val, by omega⟩) (show 256 * ((384 + l.val) / 128) + (384 + l.val) % 128 = 768 + l.val by omega), hi_eq (m := ⟨384 + l.val, by omega⟩) (n := ⟨896 + l.val, by omega⟩) (show 256 * ((384 + l.val) / 128) + 128 + (384 + l.val) % 128 = 896 + l.val by omega)]; exact diag10_3 (hs := hs) ..

theorem last11_all (hc : k0_cond5 i = 1#1) (r : Fin 688) (m : Fin 512) :
    last11 c i w3 w4 w5 w6 w7 w8 w9 wa wb wc wd we wf wg wh hc xb xc xd xg xh (ix3 0 r m) = merge (fun n => xg (ix2 r n)) m := by
  unfold merge
  revert m
  refine cases_lane4 ?_ ?_ ?_ ?_ <;> intro l
  · rw [lh_eq (m := ⟨l.val, by omega⟩) (l := l) (show (l.val) % 128 = l.val by omega), lo_eq (m := ⟨l.val, by omega⟩) (n := ⟨l.val, by omega⟩) (show 256 * ((l.val) / 128) + (l.val) % 128 = l.val by omega), hi_eq (m := ⟨l.val, by omega⟩) (n := ⟨128 + l.val, by omega⟩) (show 256 * ((l.val) / 128) + 128 + (l.val) % 128 = 128 + l.val by omega)]; exact last11_0 ..
  · rw [lh_eq (m := ⟨128 + l.val, by omega⟩) (l := l) (show (128 + l.val) % 128 = l.val by omega), lo_eq (m := ⟨128 + l.val, by omega⟩) (n := ⟨256 + l.val, by omega⟩) (show 256 * ((128 + l.val) / 128) + (128 + l.val) % 128 = 256 + l.val by omega), hi_eq (m := ⟨128 + l.val, by omega⟩) (n := ⟨384 + l.val, by omega⟩) (show 256 * ((128 + l.val) / 128) + 128 + (128 + l.val) % 128 = 384 + l.val by omega)]; exact last11_1 ..
  · rw [lh_eq (m := ⟨256 + l.val, by omega⟩) (l := l) (show (256 + l.val) % 128 = l.val by omega), lo_eq (m := ⟨256 + l.val, by omega⟩) (n := ⟨512 + l.val, by omega⟩) (show 256 * ((256 + l.val) / 128) + (256 + l.val) % 128 = 512 + l.val by omega), hi_eq (m := ⟨256 + l.val, by omega⟩) (n := ⟨640 + l.val, by omega⟩) (show 256 * ((256 + l.val) / 128) + 128 + (256 + l.val) % 128 = 640 + l.val by omega)]; exact last11_2 ..
  · rw [lh_eq (m := ⟨384 + l.val, by omega⟩) (l := l) (show (384 + l.val) % 128 = l.val by omega), lo_eq (m := ⟨384 + l.val, by omega⟩) (n := ⟨768 + l.val, by omega⟩) (show 256 * ((384 + l.val) / 128) + (384 + l.val) % 128 = 768 + l.val by omega), hi_eq (m := ⟨384 + l.val, by omega⟩) (n := ⟨896 + l.val, by omega⟩) (show 256 * ((384 + l.val) / 128) + 128 + (384 + l.val) % 128 = 896 + l.val by omega)]; exact last11_3 ..

theorem full15_skip (hc : k0_cond3 i = 1#1) (s : Fin 2064) (m : Fin 1024) (hs : s.val < 688 * (i 2).val ∨ 688 * (i 2).val + 688 ≤ s.val) :
    full15 c i w3 w4 w5 w6 w7 w8 w9 wa wb wc wd we wf wg wh hc x3 x4 x5 x6 x7 x8 x9 xf xg xh (ix2 s m) = xf (ix2 s m) := by
  unfold full15
  frame_open
  iterate 8 refine (skip 0 (688 * (i 2).val) 688 (by simp [Rect.unit])).trans ?_
  exact congrFun (wf.read_unread xf) _

theorem diag15_skip (hc : k0_cond4 i = 1#1) (s : Fin 2064) (m : Fin 1024) (hs : s.val < 688 * (i 2).val ∨ 688 * (i 2).val + 688 ≤ s.val) :
    diag15 c i w3 w4 w5 w6 w7 w8 w9 wa wb wc wd we wf wg wh hc x3 x4 x5 x6 x7 x8 x9 xa xe xf xg xh (ix2 s m) = xf (ix2 s m) := by
  unfold diag15 diagRun
  unfold diagRun.sl.H15_16
  frame_open
  iterate 8 refine (skip 0 (688 * (i 2).val + 352) 336 (by simp [Rect.unit])).trans ?_
  iterate 8 refine (skip 0 (688 * (i 2).val) 352 (by simp [Rect.unit])).trans ?_
  exact congrFun (wf.read_unread xf) _

end Cert.AttnBwdIdeal.Hand

end
-- ==== Proof.AttnStep.lean ====
module

public import proofs.«01_k».proof.Proof.AttnUni
public import Idealize.ShloMosaic.Lib.WritesUnit

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem
open Cert.Common

theorem cond1_iff : ∀ i : grid0.Coords, cond1 i ↔ (i 1).val = 0 ∧ (i 2).val = 0 := by decide +kernel
theorem cond2_iff : ∀ i : grid0.Coords, cond2 i ↔ (i 1).val = (i 2).val := by decide +kernel
theorem cond3_iff : ∀ i : grid0.Coords, k0_cond3 i = 1#1 ↔ (i 1).val < (i 2).val := by decide +kernel
theorem cond4_iff : ∀ i : grid0.Coords, k0_cond4 i = 1#1 ↔ (i 1).val = (i 2).val := by decide +kernel
theorem cond5_iff : ∀ i : grid0.Coords, k0_cond5 i = 1#1 ↔ (i 2).val = 2 := by decide +kernel

theorem lt_three (i : grid0.Coords) : (i 2).val < 3 := (i 2).isLt

section Tile
variable (i : grid0.Coords) (x3 x4 x5 : Vec Ideal S1x688x512 .bf16) (x6 : Vec Ideal S1x688x512 .f32) (x7 : Vec Ideal S1x688x512 .bf16)
  (x8 : Vec Ideal S1x688x128 .f32) (x9 : Vec Ideal S1x1x8x688 .f32)

/-- What a tile adds, on the diagonal or below it. -/
def tileQ (H : Fin 8) (q k : Fin 688) (l : Fin 128) : EReal := if (i 1).val = (i 2).val then maskQ x3 x4 x5 x6 x7 x8 x9 H q k l else addQ x3 x4 x5 x6 x7 x8 x9 H q k l
def tileK (H : Fin 8) (q k : Fin 688) (l : Fin 128) : EReal := if (i 1).val = (i 2).val then maskK x3 x4 x5 x6 x7 x8 x9 H q k l else addK x3 x4 x5 x6 x7 x8 x9 H q k l
def tileV (H : Fin 8) (q k : Fin 688) (l : Fin 128) : EReal := if (i 1).val = (i 2).val then maskV x3 x4 x7 x8 x9 H q k l else addV x3 x4 x7 x8 x9 H q k l
end Tile

variable (c : Dev nD) (i : grid0.Coords) {a3 a4 a5 a7 ab ac : Vm S1x688x512 .bf16} {a6 : Vm S1x688x512 .f32} {a8 ad : Vm S1x688x128 .f32} {a9 : Vm S1x1x8x688 .f32} {aa : Vm S1x2064x512 .f32} {ae : Vm S1x2064x128 .f32} {af : Vm S2064x1024 .f32} {ag : Vm S688x1024 .f32} {ah : Vm S688x512 .f32} (w3 : a3.IsWhole) (w4 : a4.IsWhole) (w5 : a5.IsWhole) (w6 : a6.IsWhole) (w7 : a7.IsWhole) (w8 : a8.IsWhole) (w9 : a9.IsWhole) (wa : aa.IsWhole) (wb : ab.IsWhole) (wc : ac.IsWhole) (wd : ad.IsWhole) (we : ae.IsWhole) (wf : af.IsWhole) (wg : ag.IsWhole) (wh : ah.IsWhole) (x3 x4 x5 : Vec Ideal S1x688x512 .bf16) (x6 : Vec Ideal S1x688x512 .f32) (x7 : Vec Ideal S1x688x512 .bf16) (x8 : Vec Ideal S1x688x128 .f32) (x9 : Vec Ideal S1x1x8x688 .f32) (xa : Vec Ideal S1x2064x512 .f32) (xb xc : Vec Ideal S1x688x512 .bf16) (xd : Vec Ideal S1x688x128 .f32) (xe : Vec Ideal S1x2064x128 .f32) (xf : Vec Ideal S2064x1024 .f32) (xg : Vec Ideal S688x1024 .f32) (xh : Vec Ideal S688x512 .f32)

theorem after1_15_eq (s : Fin 2064) (m : Fin 1024) : after1_15 c i w3 w4 w5 w6 w7 w8 w9 wa wb wc wd we wf wg wh x3 x4 x5 x6 x7 x8 x9 xa xb xc xd xe xf xg xh (ix2 s m) = if (i 1).val = 0 ∧ (i 2).val = 0 then 0 else xf (ix2 s m) := by
  unfold after1_15
  by_cases h : cond1 i
  · rw [if_pos h, if_pos ((cond1_iff i).mp h)]; exact zeroQ15_eq ..
  · rw [if_neg h, if_neg (mt (cond1_iff i).mpr h)]

theorem after2_16_eq (r : Fin 688) (m : Fin 1024) : after2_16 c i w3 w4 w5 w6 w7 w8 w9 wa wb wc wd we wf wg wh x3 x4 x5 x6 x7 x8 x9 xa xb xc xd xe xf xg xh (ix2 r m) = if (i 1).val = (i 2).val then 0 else xg (ix2 r m) := by
  unfold after2_16
  by_cases h : cond2 i
  · rw [if_pos h, if_pos ((cond2_iff i).mp h)]; exact zeroK16_eq ..
  · rw [if_neg h, if_neg (mt (cond2_iff i).mpr h)]

theorem after2_17_eq (r : Fin 688) (m : Fin 512) : after2_17 c i w3 w4 w5 w6 w7 w8 w9 wa wb wc wd we wf wg wh x3 x4 x5 x6 x7 x8 x9 xa xb xc xd xe xf xg xh (ix2 r m) = if (i 1).val = (i 2).val then 0 else xh (ix2 r m) := by
  unfold after2_17
  by_cases h : cond2 i
  · rw [if_pos h, if_pos ((cond2_iff i).mp h)]; exact zeroK17_eq ..
  · rw [if_neg h, if_neg (mt (cond2_iff i).mpr h)]

theorem after4_15_eq (u : Fin 3) (r : Fin 688) (m : Fin 1024) :
    after4_15 c i w3 w4 w5 w6 w7 w8 w9 wa wb wc wd we wf wg wh x3 x4 x5 x6 x7 x8 x9 xa xb xc xd xe xf xg xh (ix2 (row u r) m) = (if (i 1).val = 0 ∧ (i 2).val = 0 then 0 else xf (ix2 (row u r) m))
      + if (i 2).val = u.val ∧ (i 1).val ≤ u.val then ∑ k : Fin 688, tileQ i x3 x4 x5 x6 x7 x8 x9 (hd m) r k (ln m) else 0 := by
  rw [← after1_15_eq c i w3 w4 w5 w6 w7 w8 w9 wa wb wc wd we wf wg wh x3 x4 x5 x6 x7 x8 x9 xa xb xc xd xe xf xg xh (row u r) m]
  unfold after4_15 tileQ
  have hrow : (row u r).val = 688 * u.val + r.val := rfl
  have hr := r.isLt
  by_cases h4 : k0_cond4 i = 1#1
  · have e4 := (cond4_iff i).mp h4
    have h3 : ¬ k0_cond3 i = 1#1 := fun h => absurd ((cond3_iff i).mp h) (by omega)
    simp only [h4, e4, dite_true, if_true]
    have e3 : after3_15 c i w3 w4 w5 w6 w7 w8 w9 wa wb wc wd we wf wg wh x3 x4 x5 x6 x7 x8 x9 xa xb xc xd xe xf xg xh = after1_15 c i w3 w4 w5 w6 w7 w8 w9 wa wb wc wd we wf wg wh x3 x4 x5 x6 x7 x8 x9 xa xb xc xd xe xf xg xh := by unfold after3_15; rw [dif_neg h3]
    by_cases hu : (i 2).val = u.val
    · rw [if_pos ⟨hu, by omega⟩, ← e3]
      exact diag15_all (hs := by rw [hrow, hu]) ..
    · rw [if_neg (fun h => hu h.1), ← e3]
      exact (diag15_skip (hs := by omega) ..).trans (add_zero (M := EReal) _).symm
  · have e4 := mt (cond4_iff i).mpr h4
    rw [dif_neg h4]
    simp only [e4, if_false]
    unfold after3_15
    by_cases h3 : k0_cond3 i = 1#1
    · have e3 := (cond3_iff i).mp h3
      rw [dif_pos h3]
      by_cases hu : (i 2).val = u.val
      · rw [if_pos ⟨hu, by omega⟩]
        exact full15_all (hs := by rw [hrow, hu]) ..
      · rw [if_neg (fun h => hu h.1)]
        exact (full15_skip (hs := by omega) ..).trans (add_zero (M := EReal) _).symm
    · have e3 := mt (cond3_iff i).mpr h3
      rw [dif_neg h3, if_neg (by omega)]
      exact (add_zero (M := EReal) _).symm

theorem after4_16_eq (r : Fin 688) (m : Fin 1024) :
    after4_16 c i w3 w4 w5 w6 w7 w8 w9 wa wb wc wd we wf wg wh x3 x4 x5 x6 x7 x8 x9 xa xb xc xd xe xf xg xh (ix2 r m) = (if (i 1).val = (i 2).val then 0 else xg (ix2 r m)) + if (i 1).val ≤ (i 2).val then ∑ q : Fin 688, tileK i x3 x4 x5 x6 x7 x8 x9 (hd m) q r (ln m) else 0 := by
  rw [← after2_16_eq c i w3 w4 w5 w6 w7 w8 w9 wa wb wc wd we wf wg wh x3 x4 x5 x6 x7 x8 x9 xa xb xc xd xe xf xg xh r m]
  unfold after4_16 tileK
  by_cases h4 : k0_cond4 i = 1#1
  · have e4 := (cond4_iff i).mp h4
    have h3 : ¬ k0_cond3 i = 1#1 := fun h => absurd ((cond3_iff i).mp h) (by omega)
    simp only [h4, e4, dite_true, if_true, le_refl]
    have e3 : after3_16 c i w3 w4 w5 w6 w7 w8 w9 wa wb wc wd we wf wg wh x3 x4 x5 x6 x7 x8 x9 xa xb xc xd xe xf xg xh = after2_16 c i w3 w4 w5 w6 w7 w8 w9 wa wb wc wd we wf wg wh x3 x4 x5 x6 x7 x8 x9 xa xb xc xd xe xf xg xh := by unfold after3_16; rw [dif_neg h3]
    rw [← e3]
    exact diag16_all ..
  · have e4 := mt (cond4_iff i).mpr h4
    rw [dif_neg h4]
    simp only [e4, if_false]
    unfold after3_16
    by_cases h3 : k0_cond3 i = 1#1
    · have e3 := (cond3_iff i).mp h3
      rw [dif_pos h3, if_pos e3.le]
      exact full16_all ..
    · have e3 := mt (cond3_iff i).mpr h3
      rw [dif_neg h3, if_neg (by omega)]
      exact (add_zero (M := EReal) _).symm

theorem after4_17_eq (r : Fin 688) (m : Fin 512) :
    after4_17 c i w3 w4 w5 w6 w7 w8 w9 wa wb wc wd we wf wg wh x3 x4 x5 x6 x7 x8 x9 xa xb xc xd xe xf xg xh (ix2 r m) = (if (i 1).val = (i 2).val then 0 else xh (ix2 r m)) + if (i 1).val ≤ (i 2).val then (∑ q : Fin 688, tileV i x3 x4 x7 x8 x9 (ev m) q r (lh m) + ∑ q : Fin 688, tileV i x3 x4 x7 x8 x9 (od m) q r (lh m)) else 0 := by
  rw [← after2_17_eq c i w3 w4 w5 w6 w7 w8 w9 wa wb wc wd we wf wg wh x3 x4 x5 x6 x7 x8 x9 xa xb xc xd xe xf xg xh r m]
  unfold after4_17 tileV
  by_cases h4 : k0_cond4 i = 1#1
  · have e4 := (cond4_iff i).mp h4
    have h3 : ¬ k0_cond3 i = 1#1 := fun h => absurd ((cond3_iff i).mp h) (by omega)
    simp only [h4, e4, dite_true, if_true, le_refl]
    have e3 : after3_17 c i w3 w4 w5 w6 w7 w8 w9 wa wb wc wd we wf wg wh x3 x4 x5 x6 x7 x8 x9 xa xb xc xd xe xf xg xh = after2_17 c i w3 w4 w5 w6 w7 w8 w9 wa wb wc wd we wf wg wh x3 x4 x5 x6 x7 x8 x9 xa xb xc xd xe xf xg xh := by unfold after3_17; rw [dif_neg h3]
    rw [← e3]
    exact diag17_all ..
  · have e4 := mt (cond4_iff i).mpr h4
    rw [dif_neg h4]
    simp only [e4, if_false]
    unfold after3_17
    by_cases h3 : k0_cond3 i = 1#1
    · have e3 := (cond3_iff i).mp h3
      rw [dif_pos h3, if_pos e3.le]
      exact full17_all ..
    · have e3 := mt (cond3_iff i).mpr h3
      rw [dif_neg h3, if_neg (by omega)]
      exact (add_zero (M := EReal) _).symm

theorem after4_10_eq (u : Fin 3) (r : Fin 688) (m : Fin 512) :
    after4_10 c i w3 w4 w5 w6 w7 w8 w9 wa wb wc wd we wf wg wh x3 x4 x5 x6 x7 x8 x9 xa xb xc xd xe xf xg xh (ix3 0 (row u r) m) = if (i 1).val = u.val ∧ (i 2).val = u.val then merge (fun n => after4_15 c i w3 w4 w5 w6 w7 w8 w9 wa wb wc wd we wf wg wh x3 x4 x5 x6 x7 x8 x9 xa xb xc xd xe xf xg xh (ix2 (row u r) n)) m * Ideal.ofBits .f32 1040187392#32 else xa (ix3 0 (row u r) m) := by
  have hrow : (row u r).val = 688 * u.val + r.val := rfl
  have hr := r.isLt
  unfold after4_10 after4_15
  by_cases h4 : k0_cond4 i = 1#1
  · have e4 := (cond4_iff i).mp h4
    simp only [h4, dite_true]
    by_cases hu : (i 2).val = u.val
    · rw [if_pos ⟨by omega, hu⟩]
      exact diag10_all (hs := by rw [hrow, hu]) ..
    · rw [if_neg (fun h => hu h.2)]
      exact diag10_skip (hs := by omega) ..
  · have e4 := mt (cond4_iff i).mpr h4
    rw [dif_neg h4, if_neg (by omega)]

theorem after4_14_eq (u : Fin 3) (r : Fin 688) (m : Fin 128) :
    after4_14 c i w3 w4 w5 w6 w7 w8 w9 wa wb wc wd we wf wg wh x3 x4 x5 x6 x7 x8 x9 xa xb xc xd xe xf xg xh (ix3 0 (row u r) m) = if (i 1).val = u.val ∧ (i 2).val = u.val then sums (fun n => after4_15 c i w3 w4 w5 w6 w7 w8 w9 wa wb wc wd we wf wg wh x3 x4 x5 x6 x7 x8 x9 xa xb xc xd xe xf xg xh (ix2 (row u r) n)) m else xe (ix3 0 (row u r) m) := by
  have hrow : (row u r).val = 688 * u.val + r.val := rfl
  have hr := r.isLt
  unfold after4_14 after4_15
  by_cases h4 : k0_cond4 i = 1#1
  · have e4 := (cond4_iff i).mp h4
    simp only [h4, dite_true]
    by_cases hu : (i 2).val = u.val
    · rw [if_pos ⟨by omega, hu⟩]
      exact diag14_eq (hs := by rw [hrow, hu]) ..
    · rw [if_neg (fun h => hu h.2)]
      exact diag14_skip (hs := by omega) ..
  · have e4 := mt (cond4_iff i).mpr h4
    rw [dif_neg h4, if_neg (by omega)]

theorem after5_11_eq (h5 : (i 2).val = 2) (r : Fin 688) (m : Fin 512) : after5_11 c i w3 w4 w5 w6 w7 w8 w9 wa wb wc wd we wf wg wh x3 x4 x5 x6 x7 x8 x9 xa xb xc xd xe xf xg xh (ix3 0 r m) = merge (fun n => after4_16 c i w3 w4 w5 w6 w7 w8 w9 wa wb wc wd we wf wg wh x3 x4 x5 x6 x7 x8 x9 xa xb xc xd xe xf xg xh (ix2 r n)) m := by
  unfold after5_11
  rw [dif_pos ((cond5_iff i).mpr h5)]
  exact last11_all ..

theorem after5_12_eq (h5 : (i 2).val = 2) (r : Fin 688) (m : Fin 512) : after5_12 c i w3 w4 w5 w6 w7 w8 w9 wa wb wc wd we wf wg wh x3 x4 x5 x6 x7 x8 x9 xa xb xc xd xe xf xg xh (ix3 0 r m) = after4_17 c i w3 w4 w5 w6 w7 w8 w9 wa wb wc wd we wf wg wh x3 x4 x5 x6 x7 x8 x9 xa xb xc xd xe xf xg xh (ix2 r m) := by
  unfold after5_12
  rw [dif_pos ((cond5_iff i).mpr h5)]
  exact last12_eq ..

theorem after5_13_eq (h5 : (i 2).val = 2) (r : Fin 688) (m : Fin 128) : after5_13 c i w3 w4 w5 w6 w7 w8 w9 wa wb wc wd we wf wg wh x3 x4 x5 x6 x7 x8 x9 xa xb xc xd xe xf xg xh (ix3 0 r m) = sums (fun n => after4_16 c i w3 w4 w5 w6 w7 w8 w9 wa wb wc wd we wf wg wh x3 x4 x5 x6 x7 x8 x9 xa xb xc xd xe xf xg xh (ix2 r n)) m := by
  unfold after5_13
  rw [dif_pos ((cond5_iff i).mpr h5)]
  exact last13_eq ..

end Cert.AttnBwdIdeal.Hand

end
-- ==== Proof.AttnState.lean ====
/-
  The running sums of the backward attention kernel as functions of the point, and the proof that every point keeps them.
-/
module

public import proofs.«01_k».proof.Proof.AttnStep
public import proofs.«01_k».proof.Proof.AttnFrame

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem

theorem coords_0 : ∀ t : Fin cfg0.N, (grid0.coords t 0).val = t.val / 9 := by decide +kernel
theorem coords_1 : ∀ t : Fin cfg0.N, (grid0.coords t 1).val = t.val / 3 % 3 := by decide +kernel
theorem coords_2 : ∀ t : Fin cfg0.N, (grid0.coords t 2).val = t.val % 3 := by decide +kernel

theorem lt36 (t : Fin cfg0.N) : t.val < 36 := t.isLt
theorem points : cfg0.N = 36 := N_0
theorem diag_iff : ∀ (t : Fin cfg0.N) (u : Fin 3), t.val / 3 % 3 = u.val ∧ t.val % 3 = u.val ↔ t.val % 9 = 4 * u.val := by decide +kernel

/-- Point `n` of the 36. -/
def pt (n : ℕ) : Fin cfg0.N := ⟨n % 36, by rw [points]; omega⟩
theorem pt_val (t : Fin cfg0.N) : pt t.val = t := Fin.ext (Nat.mod_eq_of_lt (lt36 t))

variable (m : (ℓ : Loc nD τ sig) → Buf (Elt Ideal) ℓ) (c : Dev nD)

/-- What the point's tile adds. -/
def TQ (t : Fin cfg0.N) (H : Fin 8) (q k : Fin 688) (l : Fin 128) : EReal :=
  tileQ (grid0.coords t) (iblk m c 0 t) (iblk m c 1 t) (iblk m c 2 t) (iblk m c 3 t) (iblk m c 4 t) (iblk m c 5 t) (iblk m c 6 t) H q k l
def TK (t : Fin cfg0.N) (H : Fin 8) (q k : Fin 688) (l : Fin 128) : EReal :=
  tileK (grid0.coords t) (iblk m c 0 t) (iblk m c 1 t) (iblk m c 2 t) (iblk m c 3 t) (iblk m c 4 t) (iblk m c 5 t) (iblk m c 6 t) H q k l
def TV (t : Fin cfg0.N) (H : Fin 8) (q k : Fin 688) (l : Fin 128) : EReal :=
  tileV (grid0.coords t) (iblk m c 0 t) (iblk m c 1 t) (iblk m c 4 t) (iblk m c 5 t) (iblk m c 6 t) H q k l

/-- The queries' running sum before point `n`. -/
def A15 : ℕ → Fin 3 → Fin 688 → Fin 1024 → EReal
  | 0 => fun _ _ _ => 0
  | n + 1 => fun u r j => (if n % 9 = 0 then 0 else A15 n u r j)
      + if n % 3 = u.val ∧ n / 3 % 3 ≤ u.val then ∑ k : Fin 688, TQ m c (pt n) (hd j) r k (ln j) else 0

/-- The keys' running sum before point `n`. -/
def A16 : ℕ → Fin 688 → Fin 1024 → EReal
  | 0 => fun _ _ => 0
  | n + 1 => fun r j => (if n / 3 % 3 = n % 3 then 0 else A16 n r j)
      + if n / 3 % 3 ≤ n % 3 then ∑ q : Fin 688, TK m c (pt n) (hd j) q r (ln j) else 0

/-- The values' running sum before point `n`. -/
def A17 : ℕ → Fin 688 → Fin 512 → EReal
  | 0 => fun _ _ => 0
  | n + 1 => fun r j => (if n / 3 % 3 = n % 3 then 0 else A17 n r j)
      + if n / 3 % 3 ≤ n % 3 then (∑ q : Fin 688, TV m c (pt n) (ev j) q r (lh j) + ∑ q : Fin 688, TV m c (pt n) (od j) q r (lh j)) else 0

/-- The running sums before a point; before the first they may hold anything. -/
def Sums : Inv Ideal := fun t xf xg xh => t.val ≠ 0 →
  (∀ u r j, xf (ix2 (row u r) j) = A15 m c t.val u r j) ∧ (∀ r j, xg (ix2 r j) = A16 m c t.val r j) ∧ ∀ r j, xh (ix2 r j) = A17 m c t.val r j

/-- What an output's buffer holds after a point. -/
def out10 (n : ℕ) (u : Fin 3) (r : Fin 688) (j : Fin 512) : EReal :=
  merge (fun k => A15 m c (n / 9 * 9 + 4 * u.val + 1) u r k) j * Ideal.ofBits .f32 1040187392#32
def out14 (n : ℕ) (u : Fin 3) (r : Fin 688) (l : Fin 128) : EReal := sums (fun k => A15 m c (n / 9 * 9 + 4 * u.val + 1) u r k) l

/-- What the body may leave in each window's buffer. -/
def Outs : Rel Ideal
  | 7, t, _, X => ∀ (u : Fin 3) r j, 4 * u.val ≤ t.val % 9 → (X : Vec Ideal S1x2064x512 .f32) (ix3 0 (row u r) j) = out10 m c t.val u r j
  | 8, t, _, X => t.val % 3 = 2 → ∀ r j, (X : Vec Ideal S1x688x512 .bf16) (ix3 0 r j) = merge (fun k => A16 m c (t.val + 1) r k) j
  | 9, t, _, X => t.val % 3 = 2 → ∀ r j, (X : Vec Ideal S1x688x512 .bf16) (ix3 0 r j) = A17 m c (t.val + 1) r j
  | 10, t, _, X => t.val % 3 = 2 → ∀ r l, (X : Vec Ideal S1x688x128 .f32) (ix3 0 r l) = sums (fun k => A16 m c (t.val + 1) r k) l
  | 11, t, _, X => ∀ (u : Fin 3) r l, 4 * u.val ≤ t.val % 9 → (X : Vec Ideal S1x2064x128 .f32) (ix3 0 (row u r) l) = out14 m c t.val u r l
  | w, _, Y, X => X = Y

abbrev data := rdat m (Outs m) (Sums m) c

/-- An input's buffer holds its block. -/
theorem in0 (t : Fin cfg0.N) (Y) (h : (data m c).Finds 0 t Y) : Y = iblk m c 0 t := by
  obtain ⟨d, e⟩ := (data m c).finds_in_eq_fetched 0 rfl (fun _ _ _ => rfl) (fun _ _ _ h => h) t Y h
  exact e
theorem in1 (t : Fin cfg0.N) (Y) (h : (data m c).Finds 1 t Y) : Y = iblk m c 1 t := by
  obtain ⟨d, e⟩ := (data m c).finds_in_eq_fetched 1 rfl (fun _ _ _ => rfl) (fun _ _ _ h => h) t Y h
  exact e
theorem in2 (t : Fin cfg0.N) (Y) (h : (data m c).Finds 2 t Y) : Y = iblk m c 2 t := by
  obtain ⟨d, e⟩ := (data m c).finds_in_eq_fetched 2 rfl (fun _ _ _ => rfl) (fun _ _ _ h => h) t Y h
  exact e
theorem in3 (t : Fin cfg0.N) (Y) (h : (data m c).Finds 3 t Y) : Y = iblk m c 3 t := by
  obtain ⟨d, e⟩ := (data m c).finds_in_eq_fetched 3 rfl (fun _ _ _ => rfl) (fun _ _ _ h => h) t Y h
  exact e
theorem in4 (t : Fin cfg0.N) (Y) (h : (data m c).Finds 4 t Y) : Y = iblk m c 4 t := by
  obtain ⟨d, e⟩ := (data m c).finds_in_eq_fetched 4 rfl (fun _ _ _ => rfl) (fun _ _ _ h => h) t Y h
  exact e
theorem in5 (t : Fin cfg0.N) (Y) (h : (data m c).Finds 5 t Y) : Y = iblk m c 5 t := by
  obtain ⟨d, e⟩ := (data m c).finds_in_eq_fetched 5 rfl (fun _ _ _ => rfl) (fun _ _ _ h => h) t Y h
  exact e
theorem in6 (t : Fin cfg0.N) (Y) (h : (data m c).Finds 6 t Y) : Y = iblk m c 6 t := by
  obtain ⟨d, e⟩ := (data m c).finds_in_eq_fetched 6 rfl (fun _ _ _ => rfl) (fun _ _ _ h => h) t Y h
  exact e

section Left
variable (t : Fin cfg0.N) (Y : Held Ideal) (hY : ∀ w, (data m c).Finds w t (Y w)) (xf : Vec Ideal S2064x1024 .f32) (xg : Vec Ideal S688x1024 .f32) (xh : Vec Ideal S688x512 .f32)
include hY

theorem left15_sum (hI : Sums m c t.castSucc xf xg xh) (u : Fin 3) (r : Fin 688) (j : Fin 1024) :
    left15 c t Y xf xg xh (ix2 (row u r) j) = A15 m c (t.val + 1) u r j := by
  unfold left15
  rw [in0 m c t _ (hY 0), in1 m c t _ (hY 1), in2 m c t _ (hY 2), in3 m c t _ (hY 3), in4 m c t _ (hY 4), in5 m c t _ (hY 5), in6 m c t _ (hY 6)]
  refine (after4_15_eq ..).trans ?_
  rw [coords_1, coords_2]
  unfold A15
  rw [pt_val]
  refine congrArg₂ (fun a b : EReal => a + b) ?_ rfl
  by_cases h : t.val % 9 = 0
  · rw [if_pos h, if_pos (by omega)]
  · rw [if_neg h, if_neg (by omega)]
    exact (hI (by intro e; apply h; rw [show t.val = 0 from e])).1 u r j

theorem left16_sum (hI : Sums m c t.castSucc xf xg xh) (r : Fin 688) (j : Fin 1024) :
    left16 c t Y xf xg xh (ix2 r j) = A16 m c (t.val + 1) r j := by
  unfold left16
  rw [in0 m c t _ (hY 0), in1 m c t _ (hY 1), in2 m c t _ (hY 2), in3 m c t _ (hY 3), in4 m c t _ (hY 4), in5 m c t _ (hY 5), in6 m c t _ (hY 6)]
  refine (after4_16_eq ..).trans ?_
  rw [coords_1, coords_2]
  unfold A16
  rw [pt_val]
  refine congrArg₂ (fun a b : EReal => a + b) ?_ rfl
  by_cases h : t.val / 3 % 3 = t.val % 3
  · rw [if_pos h, if_pos h]
  · rw [if_neg h, if_neg h]
    exact (hI (by intro e; apply h; rw [show t.val = 0 from e])).2.1 r j

theorem left17_sum (hI : Sums m c t.castSucc xf xg xh) (r : Fin 688) (j : Fin 512) :
    left17 c t Y xf xg xh (ix2 r j) = A17 m c (t.val + 1) r j := by
  unfold left17
  rw [in0 m c t _ (hY 0), in1 m c t _ (hY 1), in2 m c t _ (hY 2), in3 m c t _ (hY 3), in4 m c t _ (hY 4), in5 m c t _ (hY 5), in6 m c t _ (hY 6)]
  refine (after4_17_eq ..).trans ?_
  rw [coords_1, coords_2]
  unfold A17
  rw [pt_val]
  refine congrArg₂ (fun a b : EReal => a + b) ?_ rfl
  by_cases h : t.val / 3 % 3 = t.val % 3
  · rw [if_pos h, if_pos h]
  · rw [if_neg h, if_neg h]
    exact (hI (by intro e; apply h; rw [show t.val = 0 from e])).2.2 r j

end Left

/-- Every point keeps the running sums and leaves what it should. -/
theorem keeps : Keeps m (Outs m) (Sums m) := by
  intro c t Y hY xf xg xh hI
  have h15 := left15_sum m c t Y hY xf xg xh hI
  have h16 := left16_sum m c t Y hY xf xg xh hI
  have h17 := left17_sum m c t Y hY xf xg xh hI
  have hN : t.val < 36 := lt36 t
  refine ⟨fun w => ?_, fun _ => ⟨h15, h16, h17⟩⟩
  match w with
  | 0 | 1 | 2 | 3 | 4 | 5 | 6 => rfl
  | 7 =>
    intro u r j hu
    change left10 c t Y xf xg xh (ix3 0 (row u r) j) = _
    refine (after4_10_eq ..).trans ?_
    rw [coords_1, coords_2]
    by_cases h : t.val % 9 = 4 * u.val
    · rw [if_pos ((diag_iff t u).mpr h)]
      unfold out10
      rw [show t.val / 9 * 9 + 4 * u.val + 1 = t.val + 1 by omega]
      exact congrArg (fun f => merge f j * Ideal.ofBits .f32 1040187392#32) (funext fun k => h15 u r k)
    · rw [if_neg (fun e => h ((diag_iff t u).mp e))]
      have hf := hY 7
      rw [(data m c).finds_of_pos rfl (by omega)] at hf
      rcases hf with hf | ⟨Y', -, hX⟩
      · exact absurd ((flush0_7 _).mp hf) (by dsimp only; omega)
      · refine (hX u r j (by dsimp only; omega)).trans ?_
        unfold out10
        dsimp only
        rw [show (t.val - 1) / 9 = t.val / 9 by omega]
  | 8 =>
    intro h2 r j
    change left11 c t Y xf xg xh (ix3 0 r j) = _
    refine (after5_11_eq (h5 := by rw [coords_2]; exact h2) ..).trans ?_
    exact congrArg (fun f => merge f j) (funext fun k => h16 r k)
  | 9 =>
    intro h2 r j
    change left12 c t Y xf xg xh (ix3 0 r j) = _
    refine (after5_12_eq (h5 := by rw [coords_2]; exact h2) ..).trans ?_
    exact h17 r j
  | 10 =>
    intro h2 r l
    change left13 c t Y xf xg xh (ix3 0 r l) = _
    refine (after5_13_eq (h5 := by rw [coords_2]; exact h2) ..).trans ?_
    exact congrArg (fun f => sums f l) (funext fun k => h16 r k)
  | 11 =>
    intro u r l hu
    change left14 c t Y xf xg xh (ix3 0 (row u r) l) = _
    refine (after4_14_eq ..).trans ?_
    rw [coords_1, coords_2]
    by_cases h : t.val % 9 = 4 * u.val
    · rw [if_pos ((diag_iff t u).mpr h)]
      unfold out14
      rw [show t.val / 9 * 9 + 4 * u.val + 1 = t.val + 1 by omega]
      exact congrArg (fun f => sums f l) (funext fun k => h15 u r k)
    · rw [if_neg (fun e => h ((diag_iff t u).mp e))]
      have hf := hY 11
      rw [(data m c).finds_of_pos rfl (by omega)] at hf
      rcases hf with hf | ⟨Y', -, hX⟩
      · exact absurd ((flush0_11 _).mp hf) (by dsimp only; omega)
      · refine (hX u r l (by dsimp only; omega)).trans ?_
        unfold out14
        dsimp only
        rw [show (t.val - 1) / 9 = t.val / 9 by omega]

end Cert.AttnBwdIdeal.Hand

end
-- ==== Proof.AttnMath.lean ====
/-
  The attention block's gradients over the reals: the definitions both programs are compared with, and the laws of their sums.
-/
module

public import proofs.«01_k».proof.Proof.Common
public import proofs.«01_k».proof.Proof.AttnSpec
public import Idealize.ShloMosaic.Lib.Pointwise

@[expose] public section

noncomputable section

namespace Cert.AttnBwdIdeal.Hand

open Idealize.ShloMosaic Pointwise

/-- Column `d` of head `h`, and a column's head. -/
def hc (h : Fin 8) (d : Fin 64) : Fin 512 := ⟨h.val * 64 + d.val, by omega⟩
def hj (j : Fin 512) : Fin 8 := ⟨j.val / 64, by omega⟩

section Reals
variable (x : (⟨3, ![4, 2064, 3080]⟩ : Shape).Idx → ℝ) (f : (⟨3, ![4, 2064, 8]⟩ : Shape).Idx → ℝ) (g : (⟨3, ![4, 2064, 512]⟩ : Shape).Idx → ℝ)
  (b : Fin 4) (h : Fin 8) (q k : Fin 2064)

/-- The queries, keys and values in the projected activations. -/
def Qr (q : Fin 2064) (j : Fin 512) : ℝ := x (ix3 b q ⟨1536 + j.val, by omega⟩)
def Kr (k : Fin 2064) (j : Fin 512) : ℝ := x (ix3 b k ⟨1536 + (512 + j.val), by omega⟩)
def Vr (k : Fin 2064) (j : Fin 512) : ℝ := x (ix3 b k ⟨1536 + (1024 + j.val), by omega⟩)

/-- A score without the query's own forget sum, which a softmax does not see. -/
def sc : ℝ := (∑ d : Fin 64, Qr x b q (hc h d) * Kr x b k (hc h d)) * (1 / 8) - f (ix3 b k h)
/-- Its weight: nothing for a later key. -/
def wt : ℝ := if k.val ≤ q.val then Real.exp (sc x f b h q k) else 0
def tot : ℝ := ∑ k, wt x f b h q k
def pr : ℝ := wt x f b h q k / tot x f b h q
def dp : ℝ := ∑ d : Fin 64, g (ix3 b q (hc h d)) * Vr x b k (hc h d)
def dt : ℝ := ∑ k, pr x f b h q k * dp x g b h q k
def dS : ℝ := pr x f b h q k * (dp x g b h q k - dt x f g b h q)

/-- The five results. -/
def outQ (q : Fin 2064) (j : Fin 512) : ℝ := ∑ k, dS x f g b (hj j) q k * (1 / 8) * Kr x b k j
def outK (k : Fin 2064) (j : Fin 512) : ℝ := ∑ q, dS x f g b (hj j) q k * (1 / 8) * Qr x b q j
def outV (k : Fin 2064) (j : Fin 512) : ℝ := ∑ q, g (ix3 b q j) * pr x f b (hj j) q k
def outFK (k : Fin 2064) (l : Fin 128) : ℝ := if h : l.val < 8 then ∑ q, dS x f g b ⟨l.val, h⟩ q k else 0
def outFQ (q : Fin 2064) (l : Fin 128) : ℝ := if h : l.val < 8 then ∑ k, dS x f g b ⟨l.val, h⟩ q k else 0
/-- The attention's output. -/
def oR (q : Fin 2064) (j : Fin 512) : ℝ := ∑ k, pr x f b (hj j) q k * Vr x b k j

theorem wt_nonneg : 0 ≤ wt x f b h q k := by
  unfold wt; split
  · exact (Real.exp_pos _).le
  · exact le_refl _

theorem tot_pos : 0 < tot x f b h q :=
  Finset.sum_pos' (fun k _ => wt_nonneg x f b h q k) ⟨q, Finset.mem_univ _, by unfold wt; rw [if_pos (le_refl _)]; exact Real.exp_pos _⟩

theorem pr_later (hk : q.val < k.val) : pr x f b h q k = 0 := by unfold pr wt; rw [if_neg (by omega), zero_div]
theorem dS_later (hk : q.val < k.val) : dS x f g b h q k = 0 := by unfold dS; rw [pr_later x f b h q k hk, zero_mul]

/-- The probability from the logarithm of the weights' sum. -/
theorem pr_log (hk : k.val ≤ q.val) : Real.exp (sc x f b h q k - Real.log (tot x f b h q)) = pr x f b h q k := by
  unfold pr wt; rw [if_pos hk, Real.exp_sub, Real.exp_log (tot_pos x f b h q)]

/-- The sum the backward pass subtracts, from the attention's output. -/
theorem dt_eq : ∑ d : Fin 64, g (ix3 b q (hc h d)) * oR x f b q (hc h d) = dt x f g b h q := by
  have e (d : Fin 64) : hj (hc h d) = h := Fin.ext (by unfold hj hc; dsimp only; omega)
  unfold dt dp oR
  simp only [e, Finset.mul_sum]
  rw [Finset.sum_comm]
  exact Finset.sum_congr rfl fun k _ => Finset.sum_congr rfl fun d _ => by ring

/-- The gradient of a score as the transposed softmax writes it, with the weights scaled by any positive number. -/
theorem dS_soft (e : ℝ) (he : 0 < e) :
    (dp x g b h q k / (tot x f b h q * e) + -∑ k, dp x g b h q k * (1 / (tot x f b h q * e * (tot x f b h q * e))) * (wt x f b h q k * e)) * (wt x f b h q k * e) = dS x f g b h q k := by
  have ht := (tot_pos x f b h q).ne'
  have hs : ∑ k, dp x g b h q k * (1 / (tot x f b h q * e * (tot x f b h q * e))) * (wt x f b h q k * e) = dt x f g b h q / (tot x f b h q * e) := by
    unfold dt pr
    rw [Finset.sum_div]
    exact Finset.sum_congr rfl fun k _ => by field_simp
  rw [hs]
  unfold dS pr
  field_simp
  ring

end Reals

/-- Sums of reals among the extended reals. -/
theorem coe_sum' {ι : Type} (s : Finset ι) (u : ι → ℝ) : ∑ i ∈ s, ((u i : ℝ) : EReal) = ((∑ i ∈ s, u i : ℝ) : EReal) := by
  classical
  induction s using Finset.induction_on with
  | empty => rfl
  | insert a s ha ih => rw [Finset.sum_insert ha, Finset.sum_insert ha, ih, EReal.coe_add]

theorem div_real (a c : ℝ) (hc : c ≠ 0) : Ideal.div (a : EReal) (c : EReal) = ((a / c : ℝ) : EReal) := by
  rw [Ideal.div_coe hc, ← EReal.coe_mul, mul_one_div]

theorem eighth : Ideal.ofBits .f32 1040187392#32 = ((1 / 8 : ℝ) : EReal) := by
  norm_num [Ideal.ofBits, Ideal.ieee, show 1040187392 >>> 23 % 256 = 124 from rfl, show BitVec.extractLsb' 31 1 1040187392#32 = 0#1 by decide]
theorem eighth16 : Ideal.ofBits .bf16 15872#16 = ((1 / 8 : ℝ) : EReal) := by
  norm_num [Ideal.ofBits, Ideal.ieee, show 15872 >>> 7 % 256 = 124 from rfl, show BitVec.extractLsb' 15 1 15872#16 = 0#1 by decide]
theorem word_bot : Ideal.ofBits .f32 4286578688#32 = ⊥ := by simp [Ideal.ofBits, Ideal.ieee]

/-- A fold of maxima from below over a row that holds a number, and no infinity above, is a number. -/
theorem max_real {n : ℕ} (s : Fin n → EReal) (k0 : Fin n) (h0 : s k0 ≠ ⊥) (ht : ∀ k, s k ≠ ⊤) : ∃ μ : ℝ, Finset.univ.fold max ⊥ s = (μ : EReal) := by
  classical
  have hb : Finset.univ.fold max ⊥ s ≠ ⊥ := by
    intro e
    have : s k0 ≤ Finset.univ.fold max ⊥ s := (Finset.le_fold_max _).mpr (Or.inr ⟨k0, Finset.mem_univ _, le_refl _⟩)
    rw [e] at this
    exact h0 (le_bot_iff.mp this)
  have hT : Finset.univ.fold max ⊥ s ≠ ⊤ := by
    have : Finset.univ.fold max ⊥ s < ⊤ := (Finset.fold_max_lt _).mpr ⟨bot_lt_top, fun k _ => lt_top_iff_ne_top.mpr (ht k)⟩
    exact this.ne
  exact ⟨_, (EReal.coe_toReal hT hb).symm⟩

/-- A row's maximum as the host writes it. -/
theorem row_max {n0 n1 n2 n3 : ℕ} (v : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (r : Fin n2) :
    Host.reduce FloatOps.maximumf v c h hu (ix3 a b r) = Finset.univ.fold max (c (Shape.Idx.first hu)) fun k : Fin n3 => v (ix4 a b r k) := by
  simp only [pointwise]

/-- A sum over the lanes of a head's own half. -/
theorem sum_half (H : Fin 8) (u : Fin 512 → EReal) : ∑ l : Fin 128, half H l (u (col H l)) 0 = ∑ d : Fin 64, u (hc H d) := by
  rw [show (∑ l : Fin 128, half H l (u (col H l)) 0) = _ from Fin.sum_univ_add (a := 64) (b := 64) (fun l : Fin (64 + 64) => half H l (u (col H l)) 0)]
  have hlo (d : Fin 64) : ((Fin.castAdd 64 d : Fin 128)).val = d.val := rfl
  have hhi (d : Fin 64) : ((Fin.natAdd 64 d : Fin 128)).val = 64 + d.val := rfl
  rcases Nat.mod_two_eq_zero_or_one H.val with e | e
  · have ha : ∀ d : Fin 64, half H (Fin.castAdd 64 d : Fin 128) (u (col H (Fin.castAdd 64 d : Fin 128))) 0 = u (hc H d) := fun d => by
      unfold half; rw [e]
      refine (if_pos d.isLt).trans (congrArg u (Fin.ext ?_))
      rw [col_val, hlo]; show _ = H.val * 64 + d.val; omega
    have hb : ∀ d : Fin 64, half H (Fin.natAdd 64 d : Fin 128) (u (col H (Fin.natAdd 64 d : Fin 128))) 0 = 0 := fun d => by
      unfold half; rw [e]
      exact if_neg (by rw [hhi]; omega)
    rw [Finset.sum_congr rfl fun d _ => ha d, Finset.sum_congr rfl fun d _ => hb d, Finset.sum_const_zero, add_zero]
  · have ha : ∀ d : Fin 64, half H (Fin.natAdd 64 d : Fin 128) (u (col H (Fin.natAdd 64 d : Fin 128))) 0 = u (hc H d) := fun d => by
      unfold half; rw [e]
      refine (if_neg (by rw [hhi]; omega)).trans (congrArg u (Fin.ext ?_))
      rw [col_val, hhi]; show _ = H.val * 64 + d.val; omega
    have hb : ∀ d : Fin 64, half H (Fin.castAdd 64 d : Fin 128) (u (col H (Fin.castAdd 64 d : Fin 128))) 0 = 0 := fun d => by
      unfold half; rw [e]
      exact if_pos d.isLt
    rw [Finset.sum_congr rfl fun d _ => ha d, Finset.sum_congr rfl fun d _ => hb d, Finset.sum_const_zero, zero_add]

/-- A sum over all rows as the three tiles' sums. -/
theorem sum_rows (u : Fin 2064 → ℝ) : ∑ k, u k = ∑ r : Fin 688, u (row 0 r) + ∑ r : Fin 688, u (row 1 r) + ∑ r : Fin 688, u (row 2 r) := by
  have e1 := Fin.sum_univ_add (a := 688 + 688) (b := 688) (fun k : Fin (688 + 688 + 688) => u k)
  have e2 := Fin.sum_univ_add (a := 688) (b := 688) (fun k : Fin (688 + 688) => u (Fin.castAdd 688 k : Fin (688 + 688 + 688)))
  rw [e2] at e1
  refine e1.trans ?_
  refine congrArg₂ _ (congrArg₂ _ ?_ ?_) ?_ <;> refine Finset.sum_congr rfl fun r _ => congrArg u (Fin.ext ?_)
  · show r.val = 688 * 0 + r.val; omega
  · show 688 + r.val = 688 * 1 + r.val; omega
  · show 688 + 688 + r.val = 688 * 2 + r.val; omega

end Cert.AttnBwdIdeal.Hand

end
-- ==== Proof.AttnHost.lean ====
/-
  The arrays the host prepares for the backward attention kernel, over real arguments.
-/
module

public import proofs.«01_k».proof.Proof.AttnState
public import proofs.«01_k».proof.Proof.AttnMath

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem

/-- The host's forward lines, one value at a time. -/
def hPart (o : ℕ) (X : FVec Ideal S4x2064x3080 .f32) (hs : S4x2064x1536.Slices ![0, 0, o] S4x2064x512) : FVec Ideal S4x8x2064x64 .f32 :=
  transpose S4x8x2064x64 [0, 2, 1, 3]
    (shapeCast S4x2064x8x64 (extractStridedSlice S4x2064x512 ![0, 0, o] (extractStridedSlice S4x2064x1536 ![0, 0, 1536] X slices_S4x2064x3080_S4x2064x1536_0_0_1536) hs) shapeCasts_S4x2064x512_S4x2064x8x64)
    transposes_S4x2064x8x64_S4x8x2064x64_0_2_1_3
def hScore (X : FVec Ideal S4x2064x3080 .f32) (G : FVec Ideal S4x2064x8 .f32) : FVec Ideal S4x8x2064x2064 .f32 :=
  select
    (broadcastInDim S4x8x2064x2064 ![2, 3] bcast_S2064x2064_S4x8x2064x2064_2_3
      (cmpi CmpIPredicate.sle
        (broadcastInDim S2064x2064 ![0, 1] bcast_S1x2064_S2064x2064_0_1 (broadcastInDim S1x2064 ![1] bcast_S2064_S1x2064_1 (iotaInDim S2064 32 0)))
        (broadcastInDim S2064x2064 ![0, 1] bcast_S2064x1_S2064x2064_0_1 (broadcastInDim S2064x1 ![0] bcast_S2064_S2064x1_0 (iotaInDim S2064 32 0)))))
    (subf
      (mulf
        (Host.dotGeneral dot_S4x8x2064x64_S4x8x2064x64_S4x8x2064x2064_3_3_2_2_01_01 none (hPart 0 X slices_S4x2064x1536_S4x2064x512_0_0_0) (hPart 512 X slices_S4x2064x1536_S4x2064x512_0_0_512))
        (broadcastInDim S4x8x2064x2064 ![] bcast_S_S4x8x2064x2064 (constant S_ FTy.f32 1040187392#32)))
      (broadcastInDim S4x8x2064x2064 ![0, 1, 2, 3] bcast_S4x8x1x2064_S4x8x2064x2064_0_1_2_3
        (broadcastInDim S4x8x1x2064 ![0, 1, 3] bcast_S4x8x2064_S4x8x1x2064_0_1_3 (transpose S4x8x2064 [0, 2, 1] G transposes_S4x2064x8_S4x8x2064_0_2_1))))
    (broadcastInDim S4x8x2064x2064 ![] bcast_S_S4x8x2064x2064 (constant S_ FTy.f32 4286578688#32))
def hMax (X : FVec Ideal S4x2064x3080 .f32) (G : FVec Ideal S4x2064x8 .f32) : FVec Ideal S4x8x2064x1 .f32 :=
  broadcastInDim S4x8x2064x1 ![0, 1, 2] bcast_S4x8x2064_S4x8x2064x1_0_1_2
    (Host.reduce FloatOps.maximumf (hScore X G) (constant S_ FTy.f32 4286578688#32) reducesTo_S4x8x2064x2064_S4x8x2064_d3 h_S_)
def hExp (X : FVec Ideal S4x2064x3080 .f32) (G : FVec Ideal S4x2064x8 .f32) : FVec Ideal S4x8x2064x2064 .f32 :=
  Host.exp (subf (hScore X G) (broadcastInDim S4x8x2064x2064 ![0, 1, 2, 3] bcast_S4x8x2064x1_S4x8x2064x2064_0_1_2_3 (hMax X G)))
def hTot (X : FVec Ideal S4x2064x3080 .f32) (G : FVec Ideal S4x2064x8 .f32) : FVec Ideal S4x8x2064x1 .f32 :=
  broadcastInDim S4x8x2064x1 ![0, 1, 2] bcast_S4x8x2064_S4x8x2064x1_0_1_2
    (Host.reduceAdd (hExp X G) (constant S_ FTy.f32 0#32) reducesTo_S4x8x2064x2064_S4x8x2064_d3 h_S_)
def hOut (X : FVec Ideal S4x2064x3080 .f32) (G : FVec Ideal S4x2064x8 .f32) : FVec Ideal S4x2064x512 .f32 :=
  shapeCast S4x2064x512
    (transpose S4x2064x8x64 [0, 2, 1, 3]
      (Host.divf (Host.dotGeneral dot_S4x8x2064x2064_S4x8x2064x64_S4x8x2064x64_3_2_2_3_01_01 none (hExp X G) (hPart 1024 X slices_S4x2064x1536_S4x2064x512_0_0_1024))
        (broadcastInDim S4x8x2064x64 ![0, 1, 2, 3] bcast_S4x8x2064x1_S4x8x2064x64_0_1_2_3 (hTot X G)))
      transposes_S4x8x2064x64_S4x2064x8x64_0_2_1_3)
    shapeCasts_S4x2064x8x64_S4x2064x512
def hLse (X : FVec Ideal S4x2064x3080 .f32) (G : FVec Ideal S4x2064x8 .f32) : FVec Ideal S4x2064x128 .f32 :=
  pad S4x2064x128 ![0, 0, 0] ![0, 0, 120] ![0, 0, 0]
    (transpose S4x2064x8 [0, 2, 1] (shapeCast S4x8x2064 (addf (hMax X G) (Host.log (hTot X G))) shapeCasts_S4x8x2064x1_S4x8x2064) transposes_S4x8x2064_S4x2064x8_0_2_1)
    (sitofp .f32 (constantI S_ 32 0#32)) pads_S4x2064x8_S4x2064x128_000_000_01200 h_S_

section Entry
variable (m : (ℓ : Loc nD τ sig) → Buf (Elt Ideal) ℓ) (c : Dev nD)

theorem entry_out : V m c main_v39 = hOut (m (c.tc.loc main_arg0)) (m (c.tc.loc main_arg1)) := by
  simp only [V, hostOps0, hostOps0_1, hostOps0_2, hostOps0_3, hostOps0_4, flatten_cons, flatten_nil, append_nil, cons_append, nil_append]
  entry_read
  simp -implicitDefEqProofs only [StableHlo.TRef.toBuf, StableHlo.TRef.ofBuf, cast_eq]
  rfl

theorem entry_lse : V m c main_v44 = hLse (m (c.tc.loc main_arg0)) (m (c.tc.loc main_arg1)) := by
  simp only [V, hostOps0, hostOps0_1, hostOps0_2, hostOps0_3, hostOps0_4, flatten_cons, flatten_nil, append_nil, cons_append, nil_append]
  entry_read
  simp -implicitDefEqProofs only [StableHlo.TRef.toBuf, StableHlo.TRef.ofBuf, cast_eq]
  rfl
end Entry

section Reals
variable (x : S4x2064x3080.Idx → ℝ) (f : S4x2064x8.Idx → ℝ)

local notation "X" => (fun i => ((x i : ℝ) : EReal) : S4x2064x3080.Idx → EReal)
local notation "G" => (fun i => ((f i : ℝ) : EReal) : S4x2064x8.Idx → EReal)

theorem hScore_eq (b : Fin 4) (h : Fin 8) (q k : Fin 2064) : hScore X G (ix4 b h q k) = if k.val ≤ q.val then ((sc x f b h q k : ℝ) : EReal) else ⊥ := by
  pointwise [hScore, hPart]
  rw [Cert.Common.sel_le (by omega) (by omega)]
  refine if_congr Iff.rfl ?_ word_bot
  rw [eighth]
  simp only [← EReal.coe_mul, coe_sum', ← EReal.coe_add, ← EReal.coe_sub]
  rfl

theorem hMax_eq (b : Fin 4) (h : Fin 8) (q : Fin 2064) : ∃ μ : ℝ, hMax X G (ix4 b h q 0) = (μ : EReal) := by
  have e : hMax X G (ix4 b h q 0) = Host.reduce FloatOps.maximumf (hScore X G) (constant S_ FTy.f32 4286578688#32) reducesTo_S4x8x2064x2064_S4x8x2064_d3 h_S_ (ix3 b h q) := by
    unfold hMax
    generalize Host.reduce FloatOps.maximumf (hScore X G) (constant S_ FTy.f32 4286578688#32) reducesTo_S4x8x2064x2064_S4x8x2064_d3 h_S_ = y
    pointwise
  have e1 : constant (F := Ideal) S_ FTy.f32 4286578688#32 (Shape.Idx.first h_S_) = ⊥ := by pointwise; exact word_bot
  rw [e, row_max, e1]
  refine max_real _ q ?_ fun k => ?_
  · rw [hScore_eq, if_pos (le_refl _)]; exact EReal.coe_ne_bot _
  · rw [hScore_eq]; split
    · exact EReal.coe_ne_top _
    · exact bot_ne_top

/-- A weight, scaled by the row's maximum. -/
theorem hExp_eq (b : Fin 4) (h : Fin 8) (q : Fin 2064) {μ : ℝ} (hμ : hMax X G (ix4 b h q 0) = (μ : EReal)) (k : Fin 2064) :
    hExp X G (ix4 b h q k) = ((wt x f b h q k * Real.exp (-μ) : ℝ) : EReal) := by
  pointwise [hExp]
  rw [hμ, hScore_eq]
  unfold wt
  split
  · rw [← EReal.coe_sub, Ideal.exp_coe, ← Real.exp_add, sub_eq_add_neg]
  · rw [EReal.bot_sub, Ideal.exp_bot, zero_mul]; rfl

theorem hTot_eq (b : Fin 4) (h : Fin 8) (q : Fin 2064) {μ : ℝ} (hμ : hMax X G (ix4 b h q 0) = (μ : EReal)) :
    hTot X G (ix4 b h q 0) = ((tot x f b h q * Real.exp (-μ) : ℝ) : EReal) := by
  pointwise [hTot]
  simp only [hExp_eq x f b h q hμ, coe_sum']
  unfold tot
  rw [Finset.sum_mul]

theorem hOut_eq (b : Fin 4) (q : Fin 2064) (j : Fin 512) : hOut X G (ix3 b q j) = ((oR x f b q j : ℝ) : EReal) := by
  obtain ⟨μ, hμ⟩ := hMax_eq x f b (hj j) q
  have hp := mul_pos (tot_pos x f b (hj j) q) (Real.exp_pos (-μ))
  have hT := hTot_eq x f b (hj j) q hμ
  have hE := hExp_eq x f b (hj j) q hμ
  unfold hj at hT hE
  pointwise [hOut, hPart]
  simp only [hT, hE, ← EReal.coe_mul, coe_sum']
  refine (div_real _ _ hp.ne').trans (congrArg _ ?_)
  unfold oR pr
  rw [Finset.sum_div]
  refine Finset.sum_congr rfl fun k _ => ?_
  have := (tot_pos x f b (hj j) q).ne'
  have := (Real.exp_pos (-μ)).ne'
  unfold Vr
  field_simp
  exact mul_comm _ _

theorem lse_read (M T : FVec Ideal S4x8x2064x1 .f32) (b : Fin 4) (q : Fin 2064) (h : Fin 8) :
    pad S4x2064x128 ![0, 0, 0] ![0, 0, 120] ![0, 0, 0]
      (transpose S4x2064x8 [0, 2, 1] (shapeCast S4x8x2064 (addf M (Host.log T)) shapeCasts_S4x8x2064x1_S4x8x2064) transposes_S4x8x2064_S4x2064x8_0_2_1)
      (sitofp .f32 (constantI S_ 32 0#32)) pads_S4x2064x8_S4x2064x128_000_000_01200 h_S_ (ix3 b q ⟨h.val, by omega⟩)
    = M (ix4 b h q 0) + Ideal.log (T (ix4 b h q 0)) := by
  pointwise

theorem log_real (T μ : ℝ) (hT : 0 < T) : (μ : EReal) + Ideal.log ((T * Real.exp (-μ) : ℝ) : EReal) = ((Real.log T : ℝ) : EReal) := by
  rw [Ideal.log_coe, if_neg (not_le.mpr (mul_pos hT (Real.exp_pos _))), ← EReal.coe_add, Real.log_mul hT.ne' (Real.exp_pos _).ne', Real.log_exp]
  refine congrArg _ ?_
  ring

theorem hLse_eq (b : Fin 4) (q : Fin 2064) (h : Fin 8) : hLse X G (ix3 b q ⟨h.val, by omega⟩) = ((Real.log (tot x f b h q) : ℝ) : EReal) := by
  obtain ⟨μ, hμ⟩ := hMax_eq x f b h q
  unfold hLse
  refine (lse_read _ _ b q h).trans ?_
  exact (congrArg₂ (fun u v : EReal => u + Ideal.log v) hμ (hTot_eq x f b h q hμ)).trans (log_real _ μ (tot_pos x f b h q))

end Reals

end Cert.AttnBwdIdeal.Hand

end
-- ==== Proof.AttnTile.lean ====
/-
  What a tile adds, over real arguments, and the running sums at the points where they are read.
-/
module

public import proofs.«01_k».proof.Proof.AttnHost

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem

theorem idx : ∀ t : Fin cfg0.N, win0_0.index t = ![t.val / 9, max (t.val % 3) (t.val / 3 % 3), 3] ∧ win0_1.index t = ![t.val / 9, t.val / 3 % 3, 4]
    ∧ win0_2.index t = ![t.val / 9, t.val / 3 % 3, 5] ∧ win0_3.index t = ![t.val / 9, max (t.val % 3) (t.val / 3 % 3), 0]
    ∧ win0_4.index t = ![t.val / 9, max (t.val % 3) (t.val / 3 % 3), 0] ∧ win0_5.index t = ![t.val / 9, max (t.val % 3) (t.val / 3 % 3), 0]
    ∧ win0_6.index t = ![t.val / 9, t.val / 3 % 3, 0, 0] ∧ win0_7.index t = ![t.val / 9, 0, 0] ∧ win0_8.index t = ![t.val / 9, t.val / 3 % 3, 0]
    ∧ win0_9.index t = ![t.val / 9, t.val / 3 % 3, 0] ∧ win0_10.index t = ![t.val / 9, t.val / 3 % 3, 0] ∧ win0_11.index t = ![t.val / 9, 0, 0] := by
  decide +kernel

variable (m : (ℓ : Loc nD τ sig) → Buf (Elt Ideal) ℓ) (c : Dev nD)

/-- The arguments are these reals. -/
structure Real3 (x : S4x2064x3080.Idx → ℝ) (f : S4x2064x8.Idx → ℝ) (g : S4x2064x512.Idx → ℝ) : Prop where
  h0 : m (c.tc.loc main_arg0) = fun i => ((x i : ℝ) : EReal)
  h1 : m (c.tc.loc main_arg1) = fun i => ((f i : ℝ) : EReal)
  h2 : m (c.tc.loc main_arg2) = fun i => ((g i : ℝ) : EReal)

/-- Point `t` is the tile of batch `b`, queries `u` and keys `v`. -/
structure At (t : Fin cfg0.N) (b : Fin 4) (v u : Fin 3) : Prop where
  hb : t.val / 9 = b.val
  hv : t.val / 3 % 3 = v.val
  hu : t.val % 3 = u.val
  le : v.val ≤ u.val

section Blocks
variable {x : S4x2064x3080.Idx → ℝ} {f : S4x2064x8.Idx → ℝ} {g : S4x2064x512.Idx → ℝ} (hR : Real3 m c x f g) {t : Fin cfg0.N} {b : Fin 4} {v u : Fin 3} (hT : At t b v u)
include hR hT

theorem blk0 (r : Fin 688) (j : Fin 512) : iblk m c 0 t (ix3 0 r j) = ((Qr x b (row u r) j : ℝ) : EReal) := by
  obtain ⟨hb, hv, hu, le⟩ := hT
  have hm : max (t.val % 3) (t.val / 3 % 3) = u.val := by omega
  refine Eq.trans ?_ (congrFun hR.h0 (ix3 b (row u r) ⟨1536 + j.val, by omega⟩))
  blk_simp [iblk, idx t]
  simp only [V, hostOps0, hostOps0_1, hostOps0_2, hostOps0_3, hostOps0_4, flatten_cons, flatten_nil, append_nil, cons_append, nil_append]
  entry_read; pointwise; blk_ext [idx t, row]

theorem blk1 (r : Fin 688) (j : Fin 512) : iblk m c 1 t (ix3 0 r j) = ((Kr x b (row v r) j : ℝ) : EReal) := by
  obtain ⟨hb, hv, hu, le⟩ := hT
  refine Eq.trans ?_ (congrFun hR.h0 (ix3 b (row v r) ⟨1536 + (512 + j.val), by omega⟩))
  blk_simp [iblk, idx t]
  simp only [V, hostOps0, hostOps0_1, hostOps0_2, hostOps0_3, hostOps0_4, flatten_cons, flatten_nil, append_nil, cons_append, nil_append]
  entry_read; pointwise; blk_ext [idx t, row]

theorem blk2 (r : Fin 688) (j : Fin 512) : iblk m c 2 t (ix3 0 r j) = ((Vr x b (row v r) j : ℝ) : EReal) := by
  obtain ⟨hb, hv, hu, le⟩ := hT
  refine Eq.trans ?_ (congrFun hR.h0 (ix3 b (row v r) ⟨1536 + (1024 + j.val), by omega⟩))
  blk_simp [iblk, idx t]
  simp only [V, hostOps0, hostOps0_1, hostOps0_2, hostOps0_3, hostOps0_4, flatten_cons, flatten_nil, append_nil, cons_append, nil_append]
  entry_read; pointwise; blk_ext [idx t, row]

theorem blk3 (r : Fin 688) (j : Fin 512) : iblk m c 3 t (ix3 0 r j) = ((oR x f b (row u r) j : ℝ) : EReal) := by
  have ho := hOut_eq x f b (row u r) j
  rw [← hR.h0, ← hR.h1] at ho
  obtain ⟨hb, hv, hu, le⟩ := hT
  have hm : max (t.val % 3) (t.val / 3 % 3) = u.val := by omega
  refine Eq.trans ?_ ho
  blk_simp [iblk, idx t]
  change V m c main_v39 _ = _
  rw [entry_out]
  generalize hOut _ _ = y
  blk_ext [idx t, row]

theorem blk4 (r : Fin 688) (j : Fin 512) : iblk m c 4 t (ix3 0 r j) = ((g (ix3 b (row u r) j) : ℝ) : EReal) := by
  obtain ⟨hb, hv, hu, le⟩ := hT
  have hm : max (t.val % 3) (t.val / 3 % 3) = u.val := by omega
  refine Eq.trans ?_ (congrFun hR.h2 (ix3 b (row u r) j))
  blk_simp [iblk, idx t]
  simp only [V, hostOps0, hostOps0_1, hostOps0_2, hostOps0_3, hostOps0_4, flatten_cons, flatten_nil, append_nil, cons_append, nil_append]
  entry_read; pointwise; blk_ext [idx t, row]

theorem blk5 (r : Fin 688) (H : Fin 8) : iblk m c 5 t (ix3 0 r ⟨H.val, by omega⟩) = ((Real.log (tot x f b H (row u r)) : ℝ) : EReal) := by
  have ho := hLse_eq x f b (row u r) H
  rw [← hR.h0, ← hR.h1] at ho
  obtain ⟨hb, hv, hu, le⟩ := hT
  have hm : max (t.val % 3) (t.val / 3 % 3) = u.val := by omega
  refine Eq.trans ?_ ho
  blk_simp [iblk, idx t]
  change V m c main_v44 _ = _
  rw [entry_lse]
  generalize hLse _ _ = y
  blk_ext [idx t, row]

theorem blk6 (H : Fin 8) (r : Fin 688) : iblk m c 6 t (ix4 0 0 H r) = ((f (ix3 b (row v r) H) : ℝ) : EReal) := by
  obtain ⟨hb, hv, hu, le⟩ := hT
  refine Eq.trans ?_ (congrFun hR.h1 (ix3 b (row v r) H))
  blk_simp [iblk, idx t]
  simp only [V, hostOps0, hostOps0_1, hostOps0_2, hostOps0_3, hostOps0_4, flatten_cons, flatten_nil, append_nil, cons_append, nil_append]
  entry_read; pointwise; blk_ext [idx t, row]

end Blocks

end Cert.AttnBwdIdeal.Hand

end
-- ==== Proof.AttnSum.lean ====
/-
  A tile's additions and the running sums where they are read, over real arguments.
-/
module

public import proofs.«01_k».proof.Proof.AttnTile

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem

/-- The lane of a head's tile: the vector's entry on its own half, one in the sum's lane, nothing elsewhere. -/
def one (H : Fin 8) (l : Fin 128) : ℝ := bif H.val % 2 == 0 then (if l.val = 64 then 1 else 0) else (if l.val = 0 then 1 else 0)
def lane (H : Fin 8) (l : Fin 128) (w : Fin 512 → ℝ) : ℝ := half H l (w (col H l)) (one H l)

theorem half_coe (H : Fin 8) (l : Fin 128) (a b : ℝ) : half H l (a : EReal) (b : EReal) = ((half H l a b : ℝ) : EReal) := by
  unfold half; cases (H.val % 2 == 0) <;> dsimp only [cond_true, cond_false] <;> split <;> rfl
theorem ones_coe (H : Fin 8) (l : Fin 128) : ones H l = ((one H l : ℝ) : EReal) := by
  unfold ones one; cases (H.val % 2 == 0) <;> dsimp only [cond_true, cond_false] <;> split <;> rfl
theorem lane_coe (H : Fin 8) (l : Fin 128) (w : Fin 512 → ℝ) : half H l ((w (col H l) : ℝ) : EReal) (ones H l) = ((lane H l w : ℝ) : EReal) := by
  rw [ones_coe, half_coe]; rfl

section Tile
variable (x : S4x2064x3080.Idx → ℝ) (f : S4x2064x8.Idx → ℝ) (g : S4x2064x512.Idx → ℝ) (b : Fin 4) (v u : Fin 3)
variable (x3 x4 x5 : Vec Ideal S1x688x512 .bf16) (x6 : Vec Ideal S1x688x512 .f32) (x7 : Vec Ideal S1x688x512 .bf16)
  (x8 : Vec Ideal S1x688x128 .f32) (x9 : Vec Ideal S1x1x8x688 .f32)

/-- The blocks of a tile hold these reals. -/
structure Blk : Prop where
  eq : ∀ r j, x3 (ix3 0 r j) = ((Qr x b (row u r) j : ℝ) : EReal)
  ek : ∀ r j, x4 (ix3 0 r j) = ((Kr x b (row v r) j : ℝ) : EReal)
  ev : ∀ r j, x5 (ix3 0 r j) = ((Vr x b (row v r) j : ℝ) : EReal)
  eo : ∀ r j, x6 (ix3 0 r j) = ((oR x f b (row u r) j : ℝ) : EReal)
  eg : ∀ r j, x7 (ix3 0 r j) = ((g (ix3 b (row u r) j) : ℝ) : EReal)
  ee : ∀ r (H : Fin 8), x8 (ix3 0 r ⟨H.val, by omega⟩) = ((Real.log (tot x f b H (row u r)) : ℝ) : EReal)
  ef : ∀ (H : Fin 8) r, x9 (ix4 0 0 H r) = ((f (ix3 b (row v r) H) : ℝ) : EReal)

variable {x f g b v u x3 x4 x5 x6 x7 x8 x9} (hB : Blk x f g b v u x3 x4 x5 x6 x7 x8 x9) (H : Fin 8) (q k : Fin 688) (l : Fin 128)
include hB

theorem qs_real (j : Fin 512) : qs x3 q j = ((Qr x b (row u q) j * (1 / 8) : ℝ) : EReal) := by
  unfold qs; rw [hB.eq, eighth16, ← EReal.coe_mul]

theorem prob_real (h : (row v k).val ≤ (row u q).val) : prob x3 x4 x8 x9 H q k = ((pr x f b H (row u q) (row v k) : ℝ) : EReal) := by
  unfold prob
  rw [sum_half H fun j => qs x3 q j * x4 (ix3 0 k j), hB.ee, hB.ef]
  simp only [qs_real hB, hB.ek, ← EReal.coe_mul, coe_sum']
  rw [← EReal.coe_sub, ← EReal.coe_sub, Ideal.exp_coe, ← pr_log x f b H _ _ h]
  refine congrArg (fun z : ℝ => ((Real.exp z : ℝ) : EReal)) ?_
  unfold sc
  rw [Finset.sum_mul]
  exact congrArg (fun z : ℝ => z - f (ix3 b (row v k) H) - Real.log (tot x f b H (row u q))) (Finset.sum_congr rfl fun d _ => by ring)

theorem dsc_real (h : (row v k).val ≤ (row u q).val) : dsc x3 x4 x5 x6 x7 x8 x9 H q k = ((dS x f g b H (row u q) (row v k) : ℝ) : EReal) := by
  unfold dsc
  rw [sum_half H fun j => x7 (ix3 0 q j) * x5 (ix3 0 k j), sum_half H fun j => x7 (ix3 0 q j) * x6 (ix3 0 q j), prob_real hB H q k h]
  simp only [hB.eg, hB.ev, hB.eo, ← EReal.coe_mul, coe_sum']
  rw [dt_eq, ← EReal.coe_sub, ← EReal.coe_mul]
  rfl

theorem addQ_real (h : (row v k).val ≤ (row u q).val) :
    addQ x3 x4 x5 x6 x7 x8 x9 H q k l = ((dS x f g b H (row u q) (row v k) * lane H l (fun j => Kr x b (row v k) j) : ℝ) : EReal) := by
  unfold addQ
  rw [dsc_real hB H q k h, hB.ek, lane_coe H l fun j => Kr x b (row v k) j, ← EReal.coe_mul]

theorem addK_real (h : (row v k).val ≤ (row u q).val) :
    addK x3 x4 x5 x6 x7 x8 x9 H q k l = ((dS x f g b H (row u q) (row v k) * lane H l (fun j => Qr x b (row u q) j * (1 / 8)) : ℝ) : EReal) := by
  unfold addK
  rw [dsc_real hB H q k h, qs_real hB, lane_coe H l fun j => Qr x b (row u q) j * (1 / 8), ← EReal.coe_mul]

theorem probV_real (h : (row v k).val ≤ (row u q).val) (j : Fin 512) :
    prob x3 x4 x8 x9 H q k * x7 (ix3 0 q j) = ((g (ix3 b (row u q) j) * pr x f b H (row u q) (row v k) : ℝ) : EReal) := by
  rw [prob_real hB H q k h, hB.eg, ← EReal.coe_mul, mul_comm]

variable {i : grid0.Coords} (hi : (i 1).val = (i 2).val ↔ v = u) (le : v.val ≤ u.val)
include hi le

theorem tile_le (h : ¬(i 1).val = (i 2).val) : (row v k).val ≤ (row u q).val := by
  have hn : v ≠ u := fun e => h (hi.mpr e)
  have : v.val < u.val := lt_of_le_of_ne le fun e => hn (Fin.ext e)
  unfold row; dsimp only; omega

omit hB le in
theorem tile_le_iff (h : (i 1).val = (i 2).val) : (row v k).val ≤ (row u q).val ↔ k.val ≤ q.val := by
  rw [hi.mp h]; unfold row; dsimp only; omega

theorem tileQ_real : tileQ i x3 x4 x5 x6 x7 x8 x9 H q k l = ((dS x f g b H (row u q) (row v k) * lane H l (fun j => Kr x b (row v k) j) : ℝ) : EReal) := by
  unfold tileQ
  by_cases h : (i 1).val = (i 2).val
  · rw [if_pos h]
    have e := tile_le_iff q k hi h
    unfold maskQ
    by_cases hk : k.val ≤ q.val
    · rw [if_pos hk]; exact addQ_real hB H q k l (e.mpr hk)
    · rw [if_neg hk, dS_later x f g b H _ _ (by omega), zero_mul]; rfl
  · rw [if_neg h]; exact addQ_real hB H q k l (tile_le hB q k hi le h)

theorem tileK_real : tileK i x3 x4 x5 x6 x7 x8 x9 H q k l = ((dS x f g b H (row u q) (row v k) * lane H l (fun j => Qr x b (row u q) j * (1 / 8)) : ℝ) : EReal) := by
  unfold tileK
  by_cases h : (i 1).val = (i 2).val
  · rw [if_pos h]
    have e := tile_le_iff q k hi h
    unfold maskK
    by_cases hk : k.val ≤ q.val
    · rw [if_pos hk]; exact addK_real hB H q k l (e.mpr hk)
    · rw [if_neg hk, dS_later x f g b H _ _ (by omega), zero_mul]; rfl
  · rw [if_neg h]; exact addK_real hB H q k l (tile_le hB q k hi le h)

theorem tileV_real : tileV i x3 x4 x7 x8 x9 H q k l = ((half H l (g (ix3 b (row u q) (col H l)) * pr x f b H (row u q) (row v k)) 0 : ℝ) : EReal) := by
  unfold tileV
  rw [← half_coe]
  by_cases h : (i 1).val = (i 2).val
  · rw [if_pos h]
    have e := tile_le_iff q k hi h
    unfold maskV
    by_cases hk : k.val ≤ q.val
    · rw [if_pos hk, probV_real hB H q k (e.mpr hk)]; rfl
    · rw [if_neg hk, pr_later x f b H _ _ (by omega), mul_zero]; rfl
  · rw [if_neg h]; unfold addV; rw [probV_real hB H q k (tile_le hB q k hi le h)]; rfl

end Tile

/-- A running sum over the keys' tiles, at the point after the queries' own. -/
theorem queries_end {A : ℕ → EReal} {S : Fin 3 → ℝ} {b : ℕ} {u : Fin 3} (hz : ∀ v, u.val < v.val → S v = 0)
    (step : ∀ n (w v : Fin 3), n = 9 * b + 3 * v.val + w.val → A (n + 1) = (if n % 9 = 0 then 0 else A n) + if w.val = u.val ∧ v.val ≤ u.val then ((S v : ℝ) : EReal) else 0) :
    A (9 * b + 4 * u.val + 1) = ((S 0 + S 1 + S 2 : ℝ) : EReal) := by
  have s0 := step (9 * b) 0 0 (by simp)
  have s1 := step (9 * b + 1) 1 0 (by simp)
  have s2 := step (9 * b + 2) 2 0 (by simp)
  have s3 := step (9 * b + 3) 0 1 (by simp)
  have s4 := step (9 * b + 4) 1 1 (by simp)
  have s5 := step (9 * b + 5) 2 1 (by simp)
  have s6 := step (9 * b + 6) 0 2 (by simp)
  have s7 := step (9 * b + 7) 1 2 (by simp)
  have s8 := step (9 * b + 8) 2 2 (by simp)
  rw [if_pos (by omega)] at s0
  rw [if_neg (by omega)] at s1 s2 s3 s4 s5 s6 s7 s8
  fin_cases u
  · have z1 := hz 1 (by simp); have z2 := hz 2 (by simp)
    simp at s0
    simp [s0, z1, z2]
  · have z2 := hz 2 (by simp)
    simp at s0 s1 s2 s3 s4
    simp [s4, s3, s2, s1, s0, z2]
  · simp at s0 s1 s2 s3 s4 s5 s6 s7 s8
    simp [s8, s7, s6, s5, s4, s3, s2, s1, s0]

/-- A running sum over the queries' tiles, after the last of them. -/
theorem keys_end {A : ℕ → EReal} {S : Fin 3 → ℝ} {b : ℕ} {v : Fin 3} (hz : ∀ u, u.val < v.val → S u = 0)
    (step : ∀ n (u : Fin 3), n = 9 * b + 3 * v.val + u.val → v.val ≤ u.val → A (n + 1) = (if v.val = u.val then 0 else A n) + ((S u : ℝ) : EReal)) :
    A (9 * b + 3 * v.val + 2 + 1) = ((S 0 + S 1 + S 2 : ℝ) : EReal) := by
  have s2 := step (9 * b + 3 * v.val + 2) 2 (by simp) (by simp; omega)
  fin_cases v
  · have s0 := step (9 * b) 0 (by simp) (by simp)
    have s1 := step (9 * b + 1) 1 (by simp) (by simp)
    simp at s0 s1 s2
    simp [s2, s1, s0]
  · have s1 := step (9 * b + 3 + 1) 1 (by simp) (by simp)
    have z0 := hz 0 (by simp)
    simp at s1 s2
    simp [s2, s1, z0]
  · have z0 := hz 0 (by simp); have z1 := hz 1 (by simp)
    simp at s2
    simp [s2, z0, z1]

/-- The lane a column is taken from lies on its head's own half. -/
theorem merge_at (j : Fin 512) : ∃ a : Fin 1024, (∀ p : Fin 1024 → EReal, merge p j = p a) ∧ hd a = hj j
    ∧ (∀ w : Fin 512 → ℝ, lane (hd a) (ln a) w = w j) := by
  have hc' : ∀ (H : Fin 8) (l : Fin 128), 128 * (H.val / 2) + l.val = j.val → col H l = j := fun H l e => Fin.ext ((col_val H l).trans e)
  by_cases h : (lh j).val < 64
  · have hl : j.val % 128 < 64 := h
    refine ⟨lo j, fun p => if_pos h, Fin.ext (by unfold hd lo hj; dsimp only; omega), fun w => ?_⟩
    unfold lane half
    rw [hc' _ _ (by unfold hd ln lo; dsimp only; omega), show (hd (lo j)).val % 2 = 0 by unfold hd lo; dsimp only; omega]
    exact if_pos (by unfold ln lo; dsimp only; omega)
  · have hl : ¬ j.val % 128 < 64 := h
    refine ⟨hi j, fun p => if_neg h, Fin.ext (by unfold hd hi hj; dsimp only; omega), fun w => ?_⟩
    unfold lane half
    rw [hc' _ _ (by unfold hd ln hi; dsimp only; omega), show (hd (hi j)).val % 2 = 1 by unfold hd hi; dsimp only; omega]
    exact if_neg (by unfold ln hi; dsimp only; omega)

theorem sum_at (H : Fin 8) : hd (sumLane H) = H ∧ ∀ w : Fin 512 → ℝ, lane (hd (sumLane H)) (ln (sumLane H)) w = 1 := by
  have e : hd (sumLane H) = H := Fin.ext (by unfold hd sumLane; dsimp only; split <;> omega)
  refine ⟨e, fun w => ?_⟩
  rw [e]
  unfold lane half one
  rcases Nat.mod_two_eq_zero_or_one H.val with h | h
  · have hl : (ln (sumLane H)).val = 64 := by unfold ln sumLane; dsimp only; rw [if_pos h]; omega
    rw [h, hl]; simp
  · have hl : (ln (sumLane H)).val = 0 := by unfold ln sumLane; dsimp only; rw [if_neg (by omega)]; omega
    rw [h, hl]; simp

theorem pair_at (P : Fin 8 → Fin 512 → ℝ) (j : Fin 512) :
    half (ev j) (lh j) (P (ev j) (col (ev j) (lh j))) 0 + half (od j) (lh j) (P (od j) (col (od j) (lh j))) 0 = P (hj j) j := by
  rw [show col (ev j) (lh j) = j from Fin.ext ((col_val _ _).trans (by unfold ev lh; dsimp only; omega)),
    show col (od j) (lh j) = j from Fin.ext ((col_val _ _).trans (by unfold od lh; dsimp only; omega))]
  unfold half
  rw [show (ev j).val % 2 = 0 by unfold ev; dsimp only; omega, show (od j).val % 2 = 1 by unfold od; dsimp only; omega]
  by_cases h : (lh j).val < 64
  · have hl : j.val % 128 < 64 := h
    rw [show ev j = hj j from Fin.ext (by unfold ev hj; dsimp only; omega)]
    simp [h]
  · have hl : ¬ j.val % 128 < 64 := h
    rw [show od j = hj j from Fin.ext (by unfold od hj; dsimp only; omega)]
    simp [h]

end Cert.AttnBwdIdeal.Hand

end
-- ==== Proof.AttnResult.lean ====
/-
  The five results of the backward attention kernel, over real arguments.
-/
module

public import proofs.«01_k».proof.Proof.AttnSum

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem

variable (m : (ℓ : Loc nD τ sig) → Buf (Elt Ideal) ℓ) (c : Dev nD)

section Point
variable {x : S4x2064x3080.Idx → ℝ} {f : S4x2064x8.Idx → ℝ} {g : S4x2064x512.Idx → ℝ} (hR : Real3 m c x f g)
include hR

theorem blks {t : Fin cfg0.N} {b : Fin 4} {v u : Fin 3} (hT : At t b v u) :
    Blk x f g b v u (iblk m c 0 t) (iblk m c 1 t) (iblk m c 2 t) (iblk m c 3 t) (iblk m c 4 t) (iblk m c 5 t) (iblk m c 6 t) :=
  ⟨blk0 m c hR hT, blk1 m c hR hT, blk2 m c hR hT, blk3 m c hR hT, blk4 m c hR hT, blk5 m c hR hT, blk6 m c hR hT⟩

omit hR in
theorem on_diag {t : Fin cfg0.N} {b : Fin 4} {v u : Fin 3} (hT : At t b v u) : (grid0.coords t 1).val = (grid0.coords t 2).val ↔ v = u := by
  rw [coords_1, coords_2, hT.hv, hT.hu]; exact ⟨fun e => Fin.ext e, fun e => congrArg _ e⟩

omit hR in
theorem at_pt {n : ℕ} {b : Fin 4} {v u : Fin 3} (hn : n = 9 * b.val + 3 * v.val + u.val) (le : v.val ≤ u.val) : At (pt n) b v u := by
  have e : (pt n).val = n := Nat.mod_eq_of_lt (by omega)
  exact ⟨by rw [e]; omega, by rw [e]; omega, by rw [e]; omega, le⟩

/-- The queries' running sum once its last key is in. -/
theorem A15_end (b : Fin 4) (u : Fin 3) (r : Fin 688) (j : Fin 1024) : A15 m c (9 * b.val + 4 * u.val + 1) u r j
    = ((∑ k, dS x f g b (hd j) (row u r) k * lane (hd j) (ln j) (fun i => Kr x b k i) : ℝ) : EReal) := by
  rw [sum_rows]
  refine queries_end (A := fun n => A15 m c n u r j) (S := fun v => ∑ k : Fin 688, dS x f g b (hd j) (row u r) (row v k) * lane (hd j) (ln j) (fun i => Kr x b (row v k) i)) ?_ ?_
  · intro v hv
    refine Finset.sum_eq_zero fun k _ => ?_
    rw [dS_later x f g b _ _ _ (by unfold row; dsimp only; omega), zero_mul]
  · intro n w v hn
    rw [A15]
    refine congrArg₂ (fun a d : EReal => a + d) rfl ?_
    by_cases h : w.val = u.val ∧ v.val ≤ u.val
    · rw [if_pos h, if_pos (by omega)]
      obtain rfl : w = u := Fin.ext h.1
      have hT := at_pt hn h.2
      unfold TQ
      simp only [tileQ_real (blks m c hR hT) _ _ _ _ (on_diag hT) h.2, coe_sum']
    · rw [if_neg h, if_neg (by omega)]

theorem A16_end (b : Fin 4) (v : Fin 3) (r : Fin 688) (j : Fin 1024) : A16 m c (9 * b.val + 3 * v.val + 2 + 1) r j
    = ((∑ q, dS x f g b (hd j) q (row v r) * lane (hd j) (ln j) (fun i => Qr x b q i * (1 / 8)) : ℝ) : EReal) := by
  rw [sum_rows]
  refine keys_end (A := fun n => A16 m c n r j) (S := fun u => ∑ q : Fin 688, dS x f g b (hd j) (row u q) (row v r) * lane (hd j) (ln j) (fun i => Qr x b (row u q) i * (1 / 8))) ?_ ?_
  · intro u hu
    refine Finset.sum_eq_zero fun q _ => ?_
    rw [dS_later x f g b _ _ _ (by unfold row; dsimp only; omega), zero_mul]
  · intro n u hn le
    rw [A16, show n / 3 % 3 = v.val by omega, show n % 3 = u.val by omega]
    dsimp only
    rw [if_pos le]
    have hT := at_pt hn le
    unfold TK
    simp only [tileK_real (blks m c hR hT) _ _ _ _ (on_diag hT) le, coe_sum']

theorem A17_end (b : Fin 4) (v : Fin 3) (r : Fin 688) (j : Fin 512) : A17 m c (9 * b.val + 3 * v.val + 2 + 1) r j = ((outV x f g b (row v r) j : ℝ) : EReal) := by
  unfold outV
  rw [sum_rows]
  refine keys_end (A := fun n => A17 m c n r j) (S := fun u => ∑ q : Fin 688, g (ix3 b (row u q) j) * pr x f b (hj j) (row u q) (row v r)) ?_ ?_
  · intro u hu
    refine Finset.sum_eq_zero fun q _ => ?_
    rw [pr_later x f b _ _ _ (by unfold row; dsimp only; omega), mul_zero]
  · intro n u hn le
    rw [A17, show n / 3 % 3 = v.val by omega, show n % 3 = u.val by omega]
    dsimp only
    rw [if_pos le]
    have hT := at_pt hn le
    unfold TV
    simp only [tileV_real (blks m c hR hT) _ _ _ _ (on_diag hT) le, coe_sum']
    rw [← EReal.coe_add, ← Finset.sum_add_distrib]
    exact congrArg (fun z : ℝ => (if v.val = u.val then 0 else A17 m c n r j) + (z : EReal))
      (Finset.sum_congr rfl fun q _ => pair_at (fun H i => g (ix3 b (row u q) i) * pr x f b H (row u q) (row v r)) j)

/-- The five outputs at the points where they are written back. -/
theorem out7_real {n : ℕ} {b : Fin 4} (hn : n / 9 = b.val) (u : Fin 3) (r : Fin 688) (j : Fin 512) : out10 m c n u r j = ((outQ x f g b (row u r) j : ℝ) : EReal) := by
  obtain ⟨a, ha, hh, hw⟩ := merge_at j
  unfold out10
  rw [ha, hn, Nat.mul_comm b.val 9, A15_end m c hR, hh, eighth, ← EReal.coe_mul]
  refine congrArg _ ?_
  unfold outQ
  rw [Finset.sum_mul]
  refine Finset.sum_congr rfl fun k _ => ?_
  rw [← hh, hw]; ring

theorem out8_real (b : Fin 4) (v : Fin 3) (r : Fin 688) (j : Fin 512) :
    merge (fun k => A16 m c (9 * b.val + 3 * v.val + 2 + 1) r k) j = ((outK x f g b (row v r) j : ℝ) : EReal) := by
  obtain ⟨a, ha, hh, hw⟩ := merge_at j
  rw [ha, A16_end m c hR]
  refine congrArg _ ?_
  unfold outK
  refine Finset.sum_congr rfl fun q _ => ?_
  rw [hw, hh]; ring

theorem out10_real (b : Fin 4) (v : Fin 3) (r : Fin 688) (l : Fin 128) :
    sums (fun k => A16 m c (9 * b.val + 3 * v.val + 2 + 1) r k) l = ((outFK x f g b (row v r) l : ℝ) : EReal) := by
  unfold sums outFK
  by_cases h : l.val < 8
  · rw [dif_pos h, dif_pos h]
    refine (A16_end m c hR b v r _).trans ?_
    refine congrArg _ (Finset.sum_congr rfl fun q _ => ?_)
    rw [(sum_at ⟨l.val, h⟩).2, (sum_at ⟨l.val, h⟩).1, mul_one]
  · rw [dif_neg h, dif_neg h]; rfl

theorem out11_real {n : ℕ} {b : Fin 4} (hn : n / 9 = b.val) (u : Fin 3) (r : Fin 688) (l : Fin 128) : out14 m c n u r l = ((outFQ x f g b (row u r) l : ℝ) : EReal) := by
  unfold out14 sums outFQ
  by_cases h : l.val < 8
  · rw [dif_pos h, dif_pos h, hn, Nat.mul_comm b.val 9]
    refine (A15_end m c hR b u r _).trans ?_
    refine congrArg _ (Finset.sum_congr rfl fun k _ => ?_)
    rw [(sum_at ⟨l.val, h⟩).2, (sum_at ⟨l.val, h⟩).1, mul_one]
  · rw [dif_neg h, dif_neg h]; rfl

end Point

end Cert.AttnBwdIdeal.Hand

end
-- ==== Proof.AttnFinal.lean ====
/-
  The arrays the backward attention kernel leaves, over real arguments.
-/
module

public import proofs.«01_k».proof.Proof.AttnResult
public import Idealize.ShloMosaic.Lib.Pipeline.ArrRel

@[expose] public section

set_option maxRecDepth 65536

noncomputable section

namespace Cert.AttnBwdIdeal.Hand

open Cert.AttnBwdIdeal Cert.AttnBwdIdeal.Gen
open Idealize.ShloMosaic TcCoe Tactic Pointwise
open Idealize.SL RA BI Sem

variable (m : (ℓ : Loc nD τ sig) → Buf (Elt Ideal) ℓ) (c : Dev nD)

/-- An entry named by coordinates with the given values. -/
theorem read3 {α : Type} {n k : ℕ} (X : (⟨3, ![1, n, k]⟩ : Shape).Idx → α) (y : (⟨3, ![1, n, k]⟩ : Shape).Idx) (r : Fin n) (j : Fin k)
    (h1 : (y 1).val = r.val) (h2 : (y 2).val = j.val) : X y = X (ix3 0 r j) := by
  refine congrArg X (funext fun a => Fin.ext ?_)
  match a with
  | 0 => have := (y 0).isLt; change (y 0).val < 1 at this; change (y 0).val = 0; omega
  | 1 => exact h1
  | 2 => exact h2
theorem at3 {n k : ℕ} (P : Fin 4 → Fin n → Fin k → ℝ) {i0 b : Fin 4} {i1 r : Fin n} {i2 j : Fin k} (h0 : i0.val = b.val) (h1 : i1.val = r.val) (h2 : i2.val = j.val) :
    P i0 i1 i2 = P b r j := by
  rw [Fin.ext h0, Fin.ext h1, Fin.ext h2]

theorem flush7 : ∀ t : Fin cfg0.N, (cfg0.win 7).flush t = true → t.val % 9 = 8 := by decide +kernel
theorem flush8 : ∀ t : Fin cfg0.N, (cfg0.win 8).flush t = true → t.val % 3 = 2 := by decide +kernel
theorem flush9 : ∀ t : Fin cfg0.N, (cfg0.win 9).flush t = true → t.val % 3 = 2 := by decide +kernel
theorem flush10 : ∀ t : Fin cfg0.N, (cfg0.win 10).flush t = true → t.val % 3 = 2 := by decide +kernel
theorem flush11 : ∀ t : Fin cfg0.N, (cfg0.win 11).flush t = true → t.val % 9 = 8 := by decide +kernel

section Arrays
variable {x : S4x2064x3080.Idx → ℝ} {f : S4x2064x8.Idx → ℝ} {g : S4x2064x512.Idx → ℝ} (hR : Real3 m c x f g)
  (after : (w : Fin cfg0.W) → Fin cfg0.N → (cfg0.win w).block.Idx → Elt Ideal (cfg0.win w).elt)
  (hL : ∀ w u, (cfg0.win w).flush u = true → (data m c).Leaves w u (after w u))
include hR hL

theorem final7 : ((data m c).withAfter after).arrAt 7 cfg0.N = fun i : S4x2064x512.Idx => ((outQ x f g (i 0) (i 1) (i 2) : ℝ) : EReal) := by
  refine ((data m c).withAfter after).arrAt_eq_of_covers 7 _ (by decide +kernel) fun t hf y => ?_
  obtain ⟨Y, -, h⟩ := hL 7 t hf
  have e8 := flush7 t hf
  have ht := lt36 t
  rw [Pipeline.RDat.withAfter_after]
  generalize after 7 t = X at h ⊢
  replace h : ∀ (u : Fin 3) r j, 4 * u.val ≤ t.val % 9 → (X : Vec Ideal S1x2064x512 .f32) (ix3 0 (row u r) j) = out10 m c t.val u r j := h
  blk_simp [idx t]
  have l1 : (y 1).val < 2064 := (y 1).isLt
  have l2 : (y 2).val < 512 := (y 2).isLt
  have e0 : ((win0_7.blk t).view.emb y 0).val = t.val / 9 := by blk_simp [idx t]; try omega
  have e1 : ((win0_7.blk t).view.emb y 1).val = (y 1).val := by blk_simp [idx t]; try omega
  have e2 : ((win0_7.blk t).view.emb y 2).val = (y 2).val := by blk_simp [idx t]; try omega
  have hr : (y 1).val = (row ⟨(y 1).val / 688, by omega⟩ ⟨(y 1).val % 688, by omega⟩).val := by unfold row; dsimp only; omega
  refine (read3 X y _ ⟨(y 2).val, l2⟩ hr rfl).trans ((h _ _ _ (by dsimp only; omega)).trans ((out7_real m c hR (b := ⟨t.val / 9, by omega⟩) rfl _ _ _).trans ?_))
  exact congrArg _ (at3 (outQ x f g) e0 (e1.trans hr) e2).symm

theorem final8 : ((data m c).withAfter after).arrAt 8 cfg0.N = fun i : S4x2064x512.Idx => ((outK x f g (i 0) (i 1) (i 2) : ℝ) : EReal) := by
  refine ((data m c).withAfter after).arrAt_eq_of_covers 8 _ (by decide +kernel) fun t hf y => ?_
  obtain ⟨Y, -, h⟩ := hL 8 t hf
  have e8 := flush8 t hf
  have ht := lt36 t
  rw [Pipeline.RDat.withAfter_after]
  generalize after 8 t = X at h ⊢
  replace h : t.val % 3 = 2 → ∀ r j, (X : Vec Ideal S1x688x512 .bf16) (ix3 0 r j) = merge (fun k => A16 m c (t.val + 1) r k) j := h
  blk_simp [idx t]
  have l1 : (y 1).val < 688 := (y 1).isLt
  have l2 : (y 2).val < 512 := (y 2).isLt
  have e0 : ((win0_8.blk t).view.emb y 0).val = t.val / 9 := by blk_simp [idx t]; try omega
  have e1 : ((win0_8.blk t).view.emb y 1).val = (row ⟨t.val / 3 % 3, by omega⟩ ⟨(y 1).val, l1⟩).val := by unfold row; blk_simp [idx t]; dsimp only; omega
  have e2 : ((win0_8.blk t).view.emb y 2).val = (y 2).val := by blk_simp [idx t]; try omega
  have hn : t.val + 1 = 9 * (t.val / 9) + 3 * (t.val / 3 % 3) + 2 + 1 := by omega
  rw [hn] at h
  refine (read3 X y ⟨(y 1).val, l1⟩ ⟨(y 2).val, l2⟩ rfl rfl).trans ((h e8 _ _).trans ((out8_real m c hR ⟨t.val / 9, by omega⟩ ⟨t.val / 3 % 3, by omega⟩ _ _).trans ?_))
  exact congrArg _ (at3 (outK x f g) e0 e1 e2).symm

theorem final9 : ((data m c).withAfter after).arrAt 9 cfg0.N = fun i : S4x2064x512.Idx => ((outV x f g (i 0) (i 1) (i 2) : ℝ) : EReal) := by
  refine ((data m c).withAfter after).arrAt_eq_of_covers 9 _ (by decide +kernel) fun t hf y => ?_
  obtain ⟨Y, -, h⟩ := hL 9 t hf
  have e8 := flush9 t hf
  have ht := lt36 t
  rw [Pipeline.RDat.withAfter_after]
  generalize after 9 t = X at h ⊢
  replace h : t.val % 3 = 2 → ∀ r j, (X : Vec Ideal S1x688x512 .bf16) (ix3 0 r j) = A17 m c (t.val + 1) r j := h
  blk_simp [idx t]
  have l1 : (y 1).val < 688 := (y 1).isLt
  have l2 : (y 2).val < 512 := (y 2).isLt
  have e0 : ((win0_9.blk t).view.emb y 0).val = t.val / 9 := by blk_simp [idx t]; try omega
  have e1 : ((win0_9.blk t).view.emb y 1).val = (row ⟨t.val / 3 % 3, by omega⟩ ⟨(y 1).val, l1⟩).val := by unfold row; blk_simp [idx t]; dsimp only; omega
  have e2 : ((win0_9.blk t).view.emb y 2).val = (y 2).val := by blk_simp [idx t]; try omega
  have hn : t.val + 1 = 9 * (t.val / 9) + 3 * (t.val / 3 % 3) + 2 + 1 := by omega
  rw [hn] at h
  refine (read3 X y ⟨(y 1).val, l1⟩ ⟨(y 2).val, l2⟩ rfl rfl).trans ((h e8 _ _).trans ((A17_end m c hR ⟨t.val / 9, by omega⟩ ⟨t.val / 3 % 3, by omega⟩ _ _).trans ?_))
  exact congrArg _ (at3 (outV x f g) e0 e1 e2).symm

theorem final10 : ((data m c).withAfter after).arrAt 10 cfg0.N = fun i : S4x2064x128.Idx => ((outFK x f g (i 0) (i 1) (i 2) : ℝ) : EReal) := by
  refine ((data m c).withAfter after).arrAt_eq_of_covers 10 _ (by decide +kernel) fun t hf y => ?_
  obtain ⟨Y, -, h⟩ := hL 10 t hf
  have e8 := flush10 t hf
  have ht := lt36 t
  rw [Pipeline.RDat.withAfter_after]
  generalize after 10 t = X at h ⊢
  replace h : t.val % 3 = 2 → ∀ r j, (X : Vec Ideal S1x688x128 .f32) (ix3 0 r j) = sums (fun k => A16 m c (t.val + 1) r k) j := h
  blk_simp [idx t]
  have l1 : (y 1).val < 688 := (y 1).isLt
  have l2 : (y 2).val < 128 := (y 2).isLt
  have e0 : ((win0_10.blk t).view.emb y 0).val = t.val / 9 := by blk_simp [idx t]; try omega
  have e1 : ((win0_10.blk t).view.emb y 1).val = (row ⟨t.val / 3 % 3, by omega⟩ ⟨(y 1).val, l1⟩).val := by unfold row; blk_simp [idx t]; dsimp only; omega
  have e2 : ((win0_10.blk t).view.emb y 2).val = (y 2).val := by blk_simp [idx t]; try omega
  have hn : t.val + 1 = 9 * (t.val / 9) + 3 * (t.val / 3 % 3) + 2 + 1 := by omega
  rw [hn] at h
  refine (read3 X y ⟨(y 1).val, l1⟩ ⟨(y 2).val, l2⟩ rfl rfl).trans ((h e8 _ _).trans ((out10_real m c hR ⟨t.val / 9, by omega⟩ ⟨t.val / 3 % 3, by omega⟩ _ _).trans ?_))
  exact congrArg _ (at3 (outFK x f g) e0 e1 e2).symm

theorem final11 : ((data m c).withAfter after).arrAt 11 cfg0.N = fun i : S4x2064x128.Idx => ((outFQ x f g (i 0) (i 1) (i 2) : ℝ) : EReal) := by
  refine ((data m c).withAfter after).arrAt_eq_of_covers 11 _ (by decide +kernel) fun t hf y => ?_
  obtain ⟨Y, -, h⟩ := hL 11 t hf
  have e8 := flush11 t hf
  have ht := lt36 t
  rw [Pipeline.RDat.withAfter_after]
  generalize after 11 t = X at h ⊢
  replace h : ∀ (u : Fin 3) r j, 4 * u.val ≤ t.val % 9 → (X : Vec Ideal S1x2064x128 .f32) (ix3 0 (row u r) j) = out14 m c t.val u r j := h
  blk_simp [idx t]
  have l1 : (y 1).val < 2064 := (y 1).isLt
  have l2 : (y 2).val < 128 := (y 2).isLt
  have e0 : ((win0_11.blk t).view.emb y 0).val = t.val / 9 := by blk_simp [idx t]; try omega
  have e1 : ((win0_11.blk t).view.emb y 1).val = (y 1).val := by blk_simp [idx t]; try omega
  have e2 : ((win0_11.blk t).view.emb y 2).val = (y 2).val := by blk_simp [idx t]; try omega
  have hr : (y 1).val = (row ⟨(y 1).val / 688, by omega⟩ ⟨(y 1).val % 688, by omega⟩).val := by unfold row; dsimp only; omega
  refine (read3 X y _ ⟨(y 2).val, l2⟩ hr rfl).trans ((h _ _ _ (by dsimp only; omega)).trans ((out11_real m c hR (b := ⟨t.val / 9, by omega⟩) rfl _ _ _).trans ?_))
  exact congrArg _ (at3 (outFQ x f g) e0 (e1.trans hr) e2).symm

end Arrays

/-- The program's run: its five results over real arguments, its arguments as at entry. -/
theorem run_real (ρ : Dev nD → PrngReg) {x : Dev nD → S4x2064x3080.Idx → ℝ} {f : Dev nD → S4x2064x8.Idx → ℝ} {g : Dev nD → S4x2064x512.Idx → ℝ} (hR : ∀ c, Real3 m c (x c) (f c) (g c)) :
    θ_run defs (onTc (τ := τ) (main (F := Ideal))) ⟨m, fun _ => 0, ρ⟩ (fun r => ∀ c : Dev nD,
      r.2.mem ((c.tc : Thread nD τ).loc main_v46_0) = (fun i : S4x2064x512.Idx => ((outQ (x c) (f c) (g c) (i 0) (i 1) (i 2) : ℝ) : EReal))
      ∧ r.2.mem ((c.tc : Thread nD τ).loc main_v46_1) = (fun i : S4x2064x512.Idx => ((outK (x c) (f c) (g c) (i 0) (i 1) (i 2) : ℝ) : EReal))
      ∧ r.2.mem ((c.tc : Thread nD τ).loc main_v46_2) = (fun i : S4x2064x512.Idx => ((outV (x c) (f c) (g c) (i 0) (i 1) (i 2) : ℝ) : EReal))
      ∧ r.2.mem ((c.tc : Thread nD τ).loc main_v46_3) = (fun i : S4x2064x128.Idx => ((outFK (x c) (f c) (g c) (i 0) (i 1) (i 2) : ℝ) : EReal))
      ∧ r.2.mem ((c.tc : Thread nD τ).loc main_v46_4) = (fun i : S4x2064x128.Idx => ((outFQ (x c) (f c) (g c) (i 0) (i 1) (i 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_rel m ρ (Outs m) (Sums m) (fun c _ _ _ h => absurd rfl h) (keeps m))
  obtain ⟨after, hL, hA⟩ := h.1.exists_exact c
  exact ⟨(hA 7).trans (final7 m c (hR c) after hL), (hA 8).trans (final8 m c (hR c) after hL), (hA 9).trans (final9 m c (hR c) after hL),
    (hA 10).trans (final10 m c (hR c) after hL), (hA 11).trans (final11 m c (hR c) after hL),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩

end Cert.AttnBwdIdeal.Hand

end
-- ==== Proof.AttnRef.lean ====
/-
  The reference's five results over real arguments.
-/
module

public import proofs.«01_k».proof.Proof.Gen.AttnBwdRefIdeal.Run
public import proofs.«01_k».proof.Proof.Gen.AttnBwdRefIdeal.Read
public import proofs.«01_k».proof.Proof.AttnMath

@[expose] public section

set_option maxRecDepth 65536

noncomputable section

namespace Cert.AttnBwdRefIdeal.Hand

open Cert.AttnBwdRefIdeal Cert.AttnBwdRefIdeal.Read Cert.AttnBwdIdeal.Hand
open Idealize.ShloMosaic TcCoe Tactic Pointwise

variable (x : S4x2064x3080.Idx → ℝ) (f : S4x2064x8.Idx → ℝ) (g : S4x2064x512.Idx → ℝ)

local notation "X" => (fun i => ((x i : ℝ) : EReal) : S4x2064x3080.Idx → EReal)
local notation "G" => (fun i => ((f i : ℝ) : EReal) : S4x2064x8.Idx → EReal)
local notation "C" => (fun i => ((g i : ℝ) : EReal) : S4x2064x512.Idx → EReal)

theorem score (b : Fin 4) (h : Fin 8) (q k : Fin 2064) :
    val_main_v26_0 (F := Ideal) X G (ix4 b h q k) = if k.val ≤ q.val then ((sc x f b h q k + f (ix3 b q h) : ℝ) : EReal) else ⊥ := by
  pointwise [val_main_v0,val_main_v1,val_main_v2,val_main_v4,val_main_v5,val_main_v6,val_main_v7,val_main_v10,val_main_v11,val_main_v12,val_main_cst,val_main_v13,val_main_v14,val_main_v15,val_main_v16,val_main_v17,val_main_v18,val_main_v19,val_main_v20,val_main_v21,val_main_v22,val_main_v23,val_main_v24,val_main_v25,val_main_cst_0,val_main_call0_v0,val_main_v26_1,val_main_call0_v2,val_main_v26_0]
  rw [Cert.Common.sel_le (by omega) (by omega)]
  refine if_congr Iff.rfl ?_ word_bot
  rw [eighth]
  simp only [← EReal.coe_mul, coe_sum', ← EReal.coe_add, ← EReal.coe_sub]
  refine congrArg _ ?_
  unfold sc Qr Kr hc
  ring

theorem top_score (b : Fin 4) (h : Fin 8) (q : Fin 2064) : ∃ μ : ℝ, val_main_v34 (F := Ideal) X G (ix3 b h q) = (μ : EReal) := by
  have e33 : val_main_v33 (F := Ideal) (ix3 b h q) = ⊥ := by pointwise [val_main_v33, val_main_cst_3]; exact word_bot
  have e1 : val_main_cst_1 (F := Ideal) (Shape.Idx.first Gen.h_S_) = ⊥ := by pointwise [val_main_cst_1]; exact word_bot
  rw [val_main_v34_apply, Ideal.maximumf_def, e33, max_eq_right bot_le]
  unfold val_main_v27
  rw [row_max, e1]
  refine max_real _ q ?_ fun k => ?_
  · rw [score, if_pos (le_refl _)]; exact EReal.coe_ne_bot _
  · rw [score]; split
    · exact EReal.coe_ne_top _
    · exact bot_ne_top

/-- A weight, scaled. -/
theorem weight (b : Fin 4) (h : Fin 8) (q : Fin 2064) : ∃ e : ℝ, 0 < e ∧ ∀ k, val_main_v47 (F := Ideal) X G (ix4 b h q k) = ((wt x f b h q k * e : ℝ) : EReal) := by
  obtain ⟨μ, hμ⟩ := top_score x f b h q
  refine ⟨Real.exp (f (ix3 b q h) - μ), Real.exp_pos _, fun k => ?_⟩
  pointwise [val_main_v44,val_main_v45,val_main_v46,val_main_v47]
  rw [hμ, score]
  unfold wt
  split
  · rw [← EReal.coe_sub, Ideal.exp_coe, ← Real.exp_add, add_sub_assoc]
  · rw [EReal.bot_sub, Ideal.exp_bot, zero_mul]; rfl

theorem weights {b : Fin 4} {h : Fin 8} {q : Fin 2064} {e : ℝ} (he : ∀ k, val_main_v47 (F := Ideal) X G (ix4 b h q k) = ((wt x f b h q k * e : ℝ) : EReal)) :
    ∑ k, val_main_v47 (F := Ideal) X G (ix4 b h q k) = ((tot x f b h q * e : ℝ) : EReal) := by
  rw [Finset.sum_congr rfl fun k _ => he k, coe_sum']
  unfold tot
  rw [Finset.sum_mul]

theorem grad (b : Fin 4) (h : Fin 8) (q k : Fin 2064) : val_main_v73 (F := Ideal) X G C (ix4 b h q k) = ((dS x f g b h q k : ℝ) : EReal) := by
  obtain ⟨e, he, hw⟩ := weight x f b h q
  have hs : ∑ k, wt x f b h q k * e = tot x f b h q * e := (Finset.sum_mul ..).symm
  have hp := mul_pos (tot_pos x f b h q) he
  pointwise [val_main_cst_9,val_main_v48,val_main_v49,val_main_v52,val_main_cst_10,val_main_v53,val_main_v54,val_main_v60,val_main_v61,val_main_v62,val_main_v63,val_main_cst_11,val_main_cst_12,val_main_v64,val_main_v65,val_main_v66,val_main_v67,val_main_v68,val_main_v69,val_main_v70,val_main_v71,val_main_v72,val_main_call1_cst,val_main_call1_v0,val_main_v73,val_main_v26_1,val_main_v25,val_main_v24,val_main_v23,val_main_v22,val_main_v21,val_main_v11,val_main_v3,val_main_v8,val_main_v9,val_main_v56,val_main_v57,val_main_v0]
  rw [Cert.Common.sel_le (by omega) (by omega)]
  by_cases hk : k.val ≤ q.val
  · rw [if_pos hk]
    simp only [hw]
    rw [show (1 : EReal) = ((1 : ℝ) : EReal) from rfl]
    simp only [← EReal.coe_mul, coe_sum', hs, div_real _ _ hp.ne', div_real _ _ (mul_pos hp hp).ne', ← EReal.coe_add, ← EReal.coe_neg, Fin.sum_univ_one]
    refine congrArg _ ?_
    rw [← dS_soft x f g b h q k e he]
    rfl
  · rw [if_neg hk, dS_later x f g b h q k (by omega)]; rfl

theorem probs (b : Fin 4) (h : Fin 8) (q k : Fin 2064) : val_main_v51 (F := Ideal) X G (ix4 b h q k) = ((pr x f b h q k : ℝ) : EReal) := by
  obtain ⟨e, he, hw⟩ := weight x f b h q
  have ht := weights x f hw
  pointwise [val_main_cst_9,val_main_v48,val_main_v49,val_main_v50,val_main_v51]
  rw [ht, hw, div_real _ _ (mul_pos (tot_pos x f b h q) he).ne']
  unfold pr
  rw [mul_div_mul_right _ _ he.ne']

theorem ref_q (b : Fin 4) (q : Fin 2064) (j : Fin 512) : val_main_v86 (F := Ideal) X G C (ix3 b q j) = ((outQ x f g b q j : ℝ) : EReal) := by
  pointwise [val_main_cst_17,val_main_v84,val_main_v85,val_main_v86,val_main_v82,val_main_v81,val_main_v7,val_main_v6,val_main_v2,val_main_v0]
  simp only [grad, eighth, ← EReal.coe_mul, coe_sum']
  rfl

theorem ref_k (b : Fin 4) (k : Fin 2064) (j : Fin 512) : val_main_v89 (F := Ideal) X G C (ix3 b k j) = ((outK x f g b k j : ℝ) : EReal) := by
  pointwise [val_main_cst_17,val_main_v83,val_main_v87,val_main_v88,val_main_v89,val_main_v82,val_main_v81,val_main_v5,val_main_v4,val_main_v1,val_main_v0]
  simp only [grad, eighth, ← EReal.coe_mul, coe_sum']
  rfl

theorem ref_v (b : Fin 4) (k : Fin 2064) (j : Fin 512) : val_main_v92 (F := Ideal) X G C (ix3 b k j) = ((outV x f g b k j : ℝ) : EReal) := by
  pointwise [val_main_v58,val_main_v59,val_main_v90,val_main_v91,val_main_v92,val_main_v56,val_main_v57]
  simp only [probs, ← EReal.coe_mul, coe_sum']
  unfold outV
  refine congrArg _ (Finset.sum_congr rfl fun q _ => congrArg₂ _ (congrArg g ?_) rfl)
  blk_ext

theorem ref_fk (b : Fin 4) (k : Fin 2064) (l : Fin 128) : val_main_v95 (F := Ideal) X G C (ix3 b k l) = ((outFK x f g b k l : ℝ) : EReal) := by
  pointwise [val_main_v95,val_main_v94,val_main_v93,val_main_v77,val_main_v76,val_main_v75,val_main_v74,val_main_cst_13,val_main_cst_14,val_main_c,val_main_call2_v0]
  unfold outFK
  split
  · simp only [grad, ← EReal.coe_neg, coe_sum', Fin.sum_univ_one, zero_add, Finset.sum_neg_distrib, neg_neg]
  · simp [FloatOps.sitofp]

theorem ref_fq (b : Fin 4) (q : Fin 2064) (l : Fin 128) : val_main_v97 (F := Ideal) X G C (ix3 b q l) = ((outFQ x f g b q l : ℝ) : EReal) := by
  pointwise [val_main_v97,val_main_v96,val_main_v80,val_main_v79,val_main_v78,val_main_cst_15,val_main_cst_16,val_main_c_18,val_main_call3_v0]
  unfold outFQ
  split
  · simp only [grad, coe_sum', Fin.sum_univ_one, zero_add]
  · simp [FloatOps.sitofp]

end Cert.AttnBwdRefIdeal.Hand

end
-- ==== Proof.AttnBwdClaims.lean ====
module

public import proofs.«01_k».proof.Defs
public import proofs.«01_k».proof.Proof.Gen.AttnBwd
public import proofs.«01_k».proof.Proof.Gen.AttnBwdIdeal
public import proofs.«01_k».proof.Proof.Gen.AttnBwdRefIdeal
public import proofs.«01_k».proof.Proof.AttnKernelFrame
public import proofs.«01_k».proof.Proof.AttnFinal
public import proofs.«01_k».proof.Proof.AttnRef
public import Idealize.ShloMosaic.Lib.Claim

@[expose] public section

set_option maxRecDepth 16384

noncomputable section

namespace Cert.Proof

open Idealize.ShloMosaic Pointwise Idealize.SL.Sem

instance attn_pre_facts : Cert.Pre_attn_finite.Facts := ⟨by decide, by decide, by decide⟩

theorem attn_frame : Cert.quiescent_AttnBwd := Cert.AttnBwd.Hand.frame
theorem attn_frame_ideal : Cert.quiescent_AttnBwdIdeal := fun m ρ _ => Cert.AttnBwdIdeal.Hand.frame m ρ
theorem attn_frame_ideal_pre : Cert.quiescent_AttnBwdIdeal_pre_attn_finite := fun m ρ _ => Cert.AttnBwdIdeal.Hand.frame m ρ
theorem attn_frame_ref : Cert.quiescent_AttnBwdRefIdeal := by
  intro m ρ _
  hlo_run
  · exact fun _ => ⟨trivial, trivial, trivial⟩
  · exact sem_eq_zero_of_no_sems (sig := Cert.AttnBwdRefIdeal.sig) (by decide) _
theorem attn_frame_ref_pre : Cert.quiescent_AttnBwdRefIdeal_pre_attn_finite := fun m ρ _ => attn_frame_ref m ρ trivial
theorem attn_preserves : Cert.preserves_AttnBwd_AttnBwdIdeal :=
  IdealRules.named_const.statement Cert.AttnBwdIdeal.κ "mask" .f32 0xF149F2CA#32 ⊥ rfl

/-- An array whose entries pass the test of finiteness holds reals. -/
theorem attn_real {S : Shape} (y : S.Idx → EReal) (h : ∀ i, y i ≠ ⊤ ∧ y i ≠ ⊥) : y = fun i => (((y i).toReal : ℝ) : EReal) :=
  funext fun i => (EReal.coe_toReal (h i).1 (h i).2).symm

theorem attn_reals (m : (ℓ : Loc Cert.AttnBwdIdeal.nD Cert.AttnBwdIdeal.τ Cert.AttnBwdIdeal.sig) → Buf (Elt Ideal) ℓ) (hpre : Cert.Pre_AttnBwdIdeal_attn_finite m) (c : Dev Cert.AttnBwdIdeal.nD) :
    Cert.AttnBwdIdeal.Hand.Real3 m c
      (fun i => EReal.toReal (m ((c.tc : Thread Cert.AttnBwdIdeal.nD Cert.AttnBwdIdeal.τ).loc Cert.AttnBwdIdeal.main_arg0) i))
      (fun i => EReal.toReal (m ((c.tc : Thread Cert.AttnBwdIdeal.nD Cert.AttnBwdIdeal.τ).loc Cert.AttnBwdIdeal.main_arg1) i))
      (fun i => EReal.toReal (m ((c.tc : Thread Cert.AttnBwdIdeal.nD Cert.AttnBwdIdeal.τ).loc Cert.AttnBwdIdeal.main_arg2) i)) :=
  ⟨attn_real _ fun i => Cert.Common.finite_of_test (congrFun (hpre c).1 i), attn_real _ fun i => Cert.Common.finite_of_test (congrFun (hpre c).2.1 i),
    attn_real _ fun i => Cert.Common.finite_of_test (congrFun (hpre c).2.2 i)⟩

theorem attn_value : Cert.algebraic_AttnBwdIdeal_AttnBwdRefIdeal_pre_attn_finite := by
  pair_intro
  · run_from Cert.AttnBwdIdeal.Hand.run_real m g (attn_reals m hpre)
  · run_from Cert.AttnBwdRefIdeal.Value.run m' g'
    · rw [Cert.AttnBwdRefIdeal.Read.val_main_v86_eq, (hagree c).1, (hagree c).2.1, (hagree c).2.2, (attn_reals m hpre c).h0, (attn_reals m hpre c).h1, (attn_reals m hpre c).h2]
      refine funext fun i => ?_
      idx_vars i
      exact Cert.AttnBwdRefIdeal.Hand.ref_q _ _ _ _ _ _
    · rw [Cert.AttnBwdRefIdeal.Read.val_main_v89_eq, (hagree c).1, (hagree c).2.1, (hagree c).2.2, (attn_reals m hpre c).h0, (attn_reals m hpre c).h1, (attn_reals m hpre c).h2]
      refine funext fun i => ?_
      idx_vars i
      exact Cert.AttnBwdRefIdeal.Hand.ref_k _ _ _ _ _ _
    · rw [Cert.AttnBwdRefIdeal.Read.val_main_v92_eq, (hagree c).1, (hagree c).2.1, (hagree c).2.2, (attn_reals m hpre c).h0, (attn_reals m hpre c).h1, (attn_reals m hpre c).h2]
      refine funext fun i => ?_
      idx_vars i
      exact Cert.AttnBwdRefIdeal.Hand.ref_v _ _ _ _ _ _
    · rw [Cert.AttnBwdRefIdeal.Read.val_main_v95_eq, (hagree c).1, (hagree c).2.1, (hagree c).2.2, (attn_reals m hpre c).h0, (attn_reals m hpre c).h1, (attn_reals m hpre c).h2]
      refine funext fun i => ?_
      idx_vars i
      exact Cert.AttnBwdRefIdeal.Hand.ref_fk _ _ _ _ _ _
    · rw [Cert.AttnBwdRefIdeal.Read.val_main_v97_eq, (hagree c).1, (hagree c).2.1, (hagree c).2.2, (attn_reals m hpre c).h0, (attn_reals m hpre c).h1, (attn_reals m hpre c).h2]
      refine funext fun i => ?_
      idx_vars i
      exact Cert.AttnBwdRefIdeal.Hand.ref_fq _ _ _ _ _ _

end Cert.Proof

end
-- ==== Proof.SumValue.lean ====
/-
  The forget gate's running sum: the kernel's sums chunk by chunk and the reference's window sum.
-/
module

public import proofs.«01_k».proof.Proof.Gen.ForgetSumIdeal.Value
public import proofs.«01_k».proof.Proof.Gen.ForgetSumRefIdeal.Run
public import proofs.«01_k».proof.Proof.Gen.ForgetSumRefIdeal.Read
public import proofs.«01_k».proof.Proof.Common

@[expose] public section

set_option maxRecDepth 16384

noncomputable section

open Idealize.ShloMosaic TcCoe Idealize.SL.Sem
open Idealize.ShloMosaic.Pipeline (Dat)

namespace Cert.ForgetSumIdeal.Hand

open Cert.ForgetSumIdeal Cert.ForgetSumIdeal.Gen

/-! ## The log of the logistic -/

/-- The log of the logistic value, as the kernel spells it. -/
def ls (x : EReal) : EReal := min x 0 - Ideal.log (1 + Ideal.exp (0 - max x (-x)))

theorem ls_coe (r : ℝ) : ls r = ((min r 0 - Real.log (1 + Real.exp (-(max r (-r)))) : ℝ) : EReal) := by
  have hp : (0 : ℝ) < 1 + Real.exp (-(max r (-r))) := by positivity
  have e1 : max (r : EReal) (-(r : EReal)) = ((max r (-r) : ℝ) : EReal) := by rw [← EReal.coe_neg, EReal.coe_strictMono.monotone.map_max]
  have e2 : min (r : EReal) 0 = ((min r 0 : ℝ) : EReal) := by rw [EReal.coe_strictMono.monotone.map_min]; rfl
  rw [ls, zero_sub, e1, e2, ← EReal.coe_neg, Ideal.exp_coe, ← EReal.coe_one, ← EReal.coe_add, Ideal.log_coe, if_neg (not_le.mpr hp), ← EReal.coe_sub]

theorem log_one : Ideal.log (1 : EReal) = 0 := by
  rw [← EReal.coe_one, Ideal.log_coe]; simp

theorem ls_bot : ls ⊥ = ⊥ := by
  simp [ls, log_one]

theorem ls_top : ls ⊤ = 0 := by
  simp [ls, log_one]

theorem ls_ne_top (x : EReal) : ls x ≠ ⊤ := by
  induction x with
  | bot => rw [ls_bot]; exact bot_ne_top
  | top => rw [ls_top]; exact EReal.zero_ne_top
  | coe r => rw [ls_coe]; exact EReal.coe_ne_top _

/-- The same as the reference spells it. -/
theorem ls_ref (x : EReal) : -(max (-x) 0 + Ideal.log1p (Ideal.exp (-max (-x) (- -x)))) = ls x := by
  induction x with
  | bot => rw [ls_bot]; simp [Ideal.log1p, log_one]
  | top => rw [ls_top]; simp [Ideal.log1p, log_one]
  | coe r =>
    have hp : (0 : ℝ) < 1 + Real.exp (-(max (-r) (- -r))) := by positivity
    have e1 : max (-(r : EReal)) (- -(r : EReal)) = ((max (-r) (- -r) : ℝ) : EReal) := by rw [← EReal.coe_neg, ← EReal.coe_neg, EReal.coe_strictMono.monotone.map_max]
    have e2 : max (-(r : EReal)) 0 = ((max (-r) 0 : ℝ) : EReal) := by rw [← EReal.coe_neg, EReal.coe_strictMono.monotone.map_max]; rfl
    rw [e1, e2, ← EReal.coe_neg, Ideal.exp_coe, Ideal.log1p, ← EReal.coe_one, ← EReal.coe_add, Ideal.log_coe, if_neg (not_le.mpr hp), ← EReal.coe_add, ← EReal.coe_neg, ls_coe]
    congr 1
    rw [neg_neg, max_comm (-r) r]
    have h : max (-r) 0 = -min r 0 := by
      rcases le_total r 0 with hr | hr
      · rw [min_eq_left hr, max_eq_left (by linarith)]
      · rw [min_eq_right hr, max_eq_right (by linarith), neg_zero]
    rw [h]
    ring

/-! ## Sums -/

/-- A sum of entries below the top taken in three parts, the second and the third what the first leaves of each entry. -/
theorem split_sum {n : ℕ} (p : Fin n → Prop) [DecidablePred p] (f : Fin n → EReal) (hf : ∀ k, f k ≠ ⊤) :
    ∑ k, (if p k then f k else 0) + ∑ k, (if p k then f k - f k else 0) + ∑ k, (if p k then f k - f k - (f k - f k) else 0)
      = ∑ k, (if p k then f k else 0) := by
  by_cases h : ∃ k, p k ∧ f k = ⊥
  · obtain ⟨k, hk, hb⟩ := h
    have e : ∑ k, (if p k then f k else 0) = ⊥ := by
      rw [← Finset.add_sum_erase _ _ (Finset.mem_univ k), if_pos hk, hb, EReal.bot_add]
    rw [e, EReal.bot_add, EReal.bot_add]
  · have z (k : Fin n) (hk : p k) : f k - f k = 0 := EReal.sub_self (hf k) fun hb => h ⟨k, hk, hb⟩
    have z1 (k : Fin n) : (if p k then f k - f k else 0) = 0 := by
      split_ifs with hk
      · exact z k hk
      · rfl
    have z2 (k : Fin n) : (if p k then f k - f k - (f k - f k) else 0) = 0 := by
      split_ifs with hk
      · rw [z k hk, sub_zero]
      · rfl
    simp only [z1, z2, Finset.sum_const_zero, add_zero]

/-- The first rows of a chunk after the rows before it. -/
theorem chunk_sum (d : ℕ → EReal) (o r : ℕ) (hr : r < 688) :
    ∑ k : Fin 688, (if k.val ≤ r then d (o + k.val) else 0) + ∑ j ∈ Finset.range o, d j = ∑ j ∈ Finset.range (o + r + 1), d j := by
  rw [Fin.sum_univ_eq_sum_range (fun k => if k ≤ r then d (o + k) else 0) 688, ← Finset.sum_filter]
  have e : (Finset.range 688).filter (fun k => k ≤ r) = Finset.range (r + 1) := by
    ext k; simp only [Finset.mem_filter, Finset.mem_range]; omega
  rw [e, add_comm, add_assoc o r 1]
  exact (Finset.sum_range_add d o (r + 1)).symm

theorem chunk_all (d : ℕ → EReal) (o : ℕ) : ∑ j ∈ Finset.range o, d j + ∑ k : Fin 688, d (o + k.val) = ∑ j ∈ Finset.range (o + 688), d j := by
  rw [Fin.sum_univ_eq_sum_range (fun k => d (o + k)) 688, Finset.sum_range_add]

theorem low_sum (d : ℕ → EReal) (N r : ℕ) (hr : r < N + 1) :
    ∑ k ∈ Finset.range (N + 1), (if N ≤ r + k then d (r + k - N) else 0) = ∑ j ∈ Finset.range (r + 1), d j := by
  rw [show N + 1 = (N - r) + (r + 1) by omega, Finset.sum_range_add,
    Finset.sum_eq_zero (fun k hk => if_neg (by have := Finset.mem_range.mp hk; omega)), zero_add]
  refine Finset.sum_congr rfl fun k _ => ?_
  rw [if_pos (by omega)]
  congr 1
  omega

/-- The sum of the entries up to row `r`, as the host's window sum over the middle axis spells it. -/
theorem window_low (x : S4x2064x128.Idx → EReal) (init : (⟨0, ![]⟩ : Shape).Idx → EReal) (h : S4x2064x128.ReduceWindows ![1, 2064, 1] ![1, 1, 1] ![0, 2063, 0] ![0, 0, 0] S4x2064x128)
    (hu : 0 < (⟨0, ![]⟩ : Shape).numel) (h0 : ∀ i, init i = 0) (b : Fin 4) (r : Fin 2064) (l : Fin 128) (d : ℕ → EReal) (hd : ∀ j : Fin 2064, x (ix3 b j l) = d j.val) :
    Host.reduceWindowAdd (F := Ideal) (φ := .f32) (s := S4x2064x128) (t := S4x2064x128) ![1, 2064, 1] ![1, 1, 1] ![0, 2063, 0] ![0, 0, 0] x init h hu (ix3 b r l) =
      ∑ j ∈ Finset.range (r.val + 1), d j := by
  have key : Host.reduceWindowAdd (F := Ideal) (φ := .f32) (s := S4x2064x128) (t := S4x2064x128) ![1, 2064, 1] ![1, 1, 1] ![0, 2063, 0] ![0, 0, 0] x init h hu (ix3 b r l) =
      ∑ k : Fin 2064, if 2063 ≤ r.val + k.val then d (r.val + k.val - 2063) else 0 := by
    unfold Host.reduceWindowAdd
    rw [Ideal.hostReduceWindowAdd_def]
    unfold Ideal.hostReduceWindowAdd Host.reduceWindow
    rw [Common.foldl_add_finRange, h0, zero_add]
    refine ((Equiv.sum_comp (⟨3, ![1, 2064, 1]⟩ : Shape).rowMajor _).symm).trans ?_
    rw [sum_idx3, Fin.sum_univ_one]
    refine Finset.sum_congr rfl fun k _ => ?_
    rw [Fin.sum_univ_one]
    have e (a : Fin 3) : ((⟨3, ![1, 2064, 1]⟩ : Shape).rowMajor.symm ((⟨3, ![1, 2064, 1]⟩ : Shape).rowMajor (ix3 0 k 0)) a) = (ix3 (0 : Fin 1) k (0 : Fin 1) : (⟨3, ![1, 2064, 1]⟩ : Shape).Idx) a := by
      rw [Equiv.symm_apply_apply]
    by_cases hk : 2063 ≤ r.val + k.val
    · rw [if_pos hk]
      refine (dif_pos ?hin).trans ?_
      case hin =>
        intro a
        dsimp only
        erw [e a]
        fin_cases a <;> simp [ix3, S4x2064x128] <;> omega
      · refine Eq.trans (congrArg x ?_) (hd ⟨r.val + k.val - 2063, by omega⟩)
        funext a
        refine Fin.ext ?_
        dsimp only
        erw [e a]
        fin_cases a <;> simp [ix3]
    · rw [if_neg hk, dif_neg (fun hh => hk ?_)]
      have := (hh 1).1
      dsimp only at this
      erw [e 1] at this
      simp only [Matrix.cons_val_one, Matrix.cons_val_zero, mul_one] at this
      exact this
  rw [key, Fin.sum_univ_eq_sum_range (fun k => if 2063 ≤ r.val + k then d (r.val + k - 2063) else 0) 2064]
  exact low_sum d 2063 r.val (by omega)

/-! ## The blocks -/

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel)

theorem tlt (t : Fin cfg0.N) : t.val < 4 := by have := t.isLt; have h : cfg0.N = 4 := N_0; omega

/-- The batch element a grid point works on. -/
def bat (t : Fin cfg0.N) : Fin 4 := ⟨t.val, tlt t⟩

/-- The gate's array with zeros in the further lanes and below its end. -/
def wide (A : S4x2064x8.Idx → EReal) (b : Fin 4) (l : Fin 128) (r : ℕ) : EReal :=
  if h : r < 2064 ∧ l.val < 8 then A (ix3 b ⟨r, h.1⟩ ⟨l.val, h.2⟩) else 0

/-- The bias row with zeros in the further lanes. -/
def wideRow (B : S1x8.Idx → EReal) (l : Fin 128) : EReal := if h : l.val < 8 then B (ix2 0 ⟨l.val, h⟩) else 0

theorem zero_int : FloatOps.sitofp (F := Ideal) .f32 0#32 = 0 := by
  show (((0#32 : BitVec 32).toInt : ℝ) : EReal) = 0
  simp

theorem blk0 (c : Dev nD) (t : Fin cfg0.N) (r : Fin 2064) (l : Fin 128) :
    iblk m c 0 t (ix3 0 r l) = wide (m (c.tc.loc main_arg0)) (bat t) l r.val := by
  have := tlt t
  blk_simp [iblk, idx t]
  simp only [V, hostOps0, hostOps0_1, hostOps0_2, hostOps0_3, flatten_cons, flatten_nil, append_nil, cons_append, nil_append]
  entry_read; simp -implicitDefEqProofs only [StableHlo.TRef.toBuf, StableHlo.TRef.ofBuf, cast_eq]; pointwise
  rw [zero_int]
  unfold wide
  by_cases hl : l.val < 8
  · refine (dif_pos (by blk_simp [idx t]; exact hl)).trans ?_
    rw [dif_pos ⟨r.isLt, hl⟩, bat]
    blk_ext [idx t]
  · rw [dif_neg (show ¬(r.val < 2064 ∧ l.val < 8) from fun h => hl h.2)]
    exact dif_neg (by blk_simp [idx t]; omega)

theorem blk1 (c : Dev nD) (t : Fin cfg0.N) (l : Fin 128) :
    iblk m c 1 t (ix2 0 l) = wideRow (m (c.tc.loc main_arg1)) l := by
  have := tlt t
  blk_simp [iblk, idx t]
  simp only [V, hostOps0, hostOps0_1, hostOps0_2, hostOps0_3, flatten_cons, flatten_nil, append_nil, cons_append, nil_append]
  entry_read; simp -implicitDefEqProofs only [StableHlo.TRef.toBuf, StableHlo.TRef.ofBuf, cast_eq]; pointwise
  rw [zero_int]
  unfold wideRow
  by_cases hl : l.val < 8
  · refine (dif_pos (by blk_simp [idx t]; exact hl)).trans ?_
    rw [dif_pos hl]
    blk_ext [idx t]
  · rw [dif_neg hl]
    exact dif_neg (by blk_simp [idx t]; omega)

/-! ## The chunks -/

theorem pay4 (u : S1x688x128.Idx → EReal) (v : S1x128.Idx → EReal) (r : Fin 688) (l : Fin 128) :
    k0_pay4 (F := Ideal) u v (ix2 r l) = ls (u (ix3 0 r l) + v (ix2 0 l)) := by
  pointwise [k0_pay4]
  rfl

theorem pay1 (z : S1x128.Idx → EReal) (u : S1x688x128.Idx → EReal) (v : S1x128.Idx → EReal) (r : Fin 688) (l : Fin 128) :
    k0_pay1 (F := Ideal) (k0_pay2 (F := Ideal)) z u v (ix3 0 r l) =
      ∑ k : Fin 688, (if k.val ≤ r.val then ls (u (ix3 0 k l) + v (ix2 0 l)) else 0) + z (ix2 0 l) := by
  have e : k0_pay1 (F := Ideal) (k0_pay2 (F := Ideal)) z u v (ix3 0 r l) =
      ∑ k : Fin 688, (if k.val ≤ r.val then k0_pay4 (F := Ideal) u v (ix2 k l) else 0)
        + ∑ k : Fin 688, (if k.val ≤ r.val then k0_pay4 (F := Ideal) u v (ix2 k l) - k0_pay4 (F := Ideal) u v (ix2 k l) else 0)
        + ∑ k : Fin 688, (if k.val ≤ r.val then k0_pay4 (F := Ideal) u v (ix2 k l) - k0_pay4 (F := Ideal) u v (ix2 k l)
            - (k0_pay4 (F := Ideal) u v (ix2 k l) - k0_pay4 (F := Ideal) u v (ix2 k l)) else 0) + z (ix2 0 l) := by
    pointwise [k0_pay1, k0_pay2, k0_pay4]
    simp (disch := omega) only [Common.sel_ge]
    try rfl
  rw [e, split_sum (fun k : Fin 688 => k.val ≤ r.val) _ fun k => by rw [pay4]; exact ls_ne_top _]
  simp only [pay4]

/-- What the running sum adds up. -/
def lsRow (G : S4x2064x8.Idx → EReal) (B : S1x8.Idx → EReal) (b : Fin 4) (l : Fin 128) (j : ℕ) : EReal := ls (wide G b l j + wideRow B l)

/-- The array of running sums. -/
def whole (G : S4x2064x8.Idx → EReal) (B : S1x8.Idx → EReal) : S4x2064x128.Idx → EReal :=
  fun i => ∑ j ∈ Finset.range ((i 1).val + 1), lsRow G B (i 0) (i 2) j

theorem whole_at (G : S4x2064x8.Idx → EReal) (B : S1x8.Idx → EReal) (i : S4x2064x128.Idx) (b : Fin 4) (l : Fin 128) (r : ℕ)
    (h0 : (i 0).val = b.val) (h1 : (i 1).val = r) (h2 : (i 2).val = l.val) : whole G B i = ∑ j ∈ Finset.range (r + 1), lsRow G B b l j := by
  have e0 : i 0 = b := Fin.ext h0
  have e2 : i 2 = l := Fin.ext h2
  rw [whole, e0, e2, h1]

section Chunks

variable {G : S4x2064x8.Idx → EReal} {B : S1x8.Idx → EReal} {b : Fin 4} {x : S1x2064x128.Idx → EReal} {v : S1x128.Idx → EReal}
  (hx : ∀ r l, x (ix3 0 r l) = wide G b l r.val) (hv : ∀ l, v (ix2 0 l) = wideRow B l)

/-- The log gates of one chunk. -/
def Gates (u : S1x688x128.Idx → EReal) (v : S1x128.Idx → EReal) (G : S4x2064x8.Idx → EReal) (B : S1x8.Idx → EReal) (b : Fin 4) (o : ℕ) : Prop :=
  ∀ (k : Fin 688) (l : Fin 128), ls (u (ix3 0 k l) + v (ix2 0 l)) = lsRow G B b l (o + k.val)

/-- The sum of the rows before row `o`. -/
def Before (z : S1x128.Idx → EReal) (G : S4x2064x8.Idx → EReal) (B : S1x8.Idx → EReal) (b : Fin 4) (o : ℕ) : Prop :=
  ∀ l : Fin 128, z (ix2 0 l) = ∑ j ∈ Finset.range o, lsRow G B b l j

theorem store_at {z : S1x128.Idx → EReal} {u : S1x688x128.Idx → EReal} {o : ℕ} (hu : Gates u v G B b o) (hz : Before z G B b o) (r : Fin 688) (l : Fin 128) :
    k0_pay1 (F := Ideal) (k0_pay2 (F := Ideal)) z u v (ix3 0 r l) = ∑ j ∈ Finset.range (o + r.val + 1), lsRow G B b l j := by
  rw [pay1, hz l]
  simp only [hu _ _]
  exact chunk_sum _ o r.val r.isLt

theorem carry_at {z : S1x128.Idx → EReal} {u : S1x688x128.Idx → EReal} {o : ℕ} (hu : Gates u v G B b o) (hz : Before z G B b o) :
    Before (k0_pay6 (F := Ideal) z (k0_pay4 (F := Ideal) u v)) G B b (o + 688) := by
  intro l
  rw [← chunk_all, ← hz l]
  pointwise [k0_pay6]
  simp only [pay4, hu _ _]

theorem first_at : Before (k0_pay3 (F := Ideal)) G B b 0 := by
  intro l
  pointwise [k0_pay3]
  simp

include hx hv in
theorem gates0 : Gates (View.ld (Val := Elt Ideal) (S := S1x2064x128) (e' := .f32) x r0_0) v G B b 0 := by
  intro k l
  pointwise [r0_0]
  rw [hx, hv]
  rfl

include hx hv in
theorem gates1 : Gates (View.ld (Val := Elt Ideal) (S := S1x2064x128) (e' := .f32) x r0_2) v G B b 688 := by
  intro k l
  pointwise [r0_2]
  rw [hx, hv]
  rfl

include hx hv in
theorem gates2 : Gates (View.ld (Val := Elt Ideal) (S := S1x2064x128) (e' := .f32) x r0_3) v G B b 1376 := by
  intro k l
  pointwise [r0_3]
  rw [hx, hv]
  rfl

end Chunks

theorem pay9_eq (z : S1x128.Idx → EReal) (g : S688x128.Idx → EReal) (u : S1x688x128.Idx → EReal) (v : S1x128.Idx → EReal) :
    k0_pay9 (F := Ideal) z g u v = k0_pay6 (F := Ideal) (k0_pay6 (F := Ideal) z g) (k0_pay4 (F := Ideal) u v) := rfl

theorem pay8_eq (w : S688x688.Idx → EReal) (z : S1x128.Idx → EReal) (g : S688x128.Idx → EReal) (u : S1x688x128.Idx → EReal) (v : S1x128.Idx → EReal) :
    k0_pay8 (F := Ideal) w z g u v = k0_pay1 (F := Ideal) w (k0_pay6 (F := Ideal) z g) u v := rfl

theorem pay5_eq (u : S1x688x128.Idx → EReal) (v : S1x128.Idx → EReal) :
    k0_pay5 (F := Ideal) u v = k0_pay1 (F := Ideal) (k0_pay2 (F := Ideal)) (k0_pay3 (F := Ideal)) u v := rfl

theorem pay12_eq (x : S1x2064x128.Idx → EReal) (v : S1x128.Idx → EReal) :
    k0_pay12 (F := Ideal) x v = k0_pay4 (F := Ideal) (View.ld (Val := Elt Ideal) (S := S1x2064x128) (e' := .f32) x r0_0) v := by
  funext i
  idx_vars i
  rw [k0_pay12, pay4, pay4]
  congr 2
  pointwise [r0_1]

theorem final2 (c : Dev nD) : (dats m 0 c).arrAt 2 cfg0.N = whole (m (c.tc.loc main_arg0)) (m (c.tc.loc main_arg1)) := by
  refine (dats m 0 c).arrAt_eq_of_covers 2 _ (by decide +kernel) fun t hf y => ?_
  blk_simp [idx]
  rw [after0_2]
  have ht := tlt t
  have e0 : (((View.whole main_v2).slice (win0_2.rect t)).emb y 0).val = t.val + (y 0).val := by blk_simp [idx]; try omega
  have e1 : (((View.whole main_v2).slice (win0_2.rect t)).emb y 1).val = (y 1).val := by blk_simp [idx]; try omega
  have e2 : (((View.whole main_v2).slice (win0_2.rect t)).emb y 2).val = (y 2).val := by blk_simp [idx]; try omega
  have g0 := gates0 (blk0 m c t) (blk1 m c t)
  have g1 := gates1 (blk0 m c t) (blk1 m c t)
  have g2 := gates2 (blk0 m c t) (blk1 m c t)
  generalize hi0 : iblk m c 0 t = s0 at *
  generalize hi1 : iblk m c 1 t = s1 at *
  have p12 := pay12_eq s0 s1
  frame_out
  canon_tiles x h
  · refine Eq.trans ?_ (whole_at _ _ _ (bat t) ⟨(x 2).val, x2_lt⟩ (1376 + (x 1).val) (by rw [e0]; dsimp only [bat]; omega) (by rw [e1]; omega) (by rw [e2]; omega)).symm
    idx_vars x
    obtain rfl : x0 = 0 := Subsingleton.elim _ _
    rw [pay9_eq, p12]
    exact store_at g2 (carry_at g1 (carry_at g0 first_at)) x1 x2
  · refine Eq.trans ?_ (whole_at _ _ _ (bat t) ⟨(x 2).val, x2_lt⟩ (688 + (x 1).val) (by rw [e0]; dsimp only [bat]; omega) (by rw [e1]; omega) (by rw [e2]; omega)).symm
    idx_vars x
    obtain rfl : x0 = 0 := Subsingleton.elim _ _
    rw [pay8_eq, p12]
    exact store_at g1 (carry_at g0 first_at) x1 x2
  · refine Eq.trans ?_ (whole_at _ _ _ (bat t) ⟨(x 2).val, x2_lt⟩ (0 + (x 1).val) (by rw [e0]; dsimp only [bat]; omega) (by rw [e1]; omega) (by rw [e2]; omega)).symm
    idx_vars x
    obtain rfl : x0 = 0 := Subsingleton.elim _ _
    rw [pay5_eq]
    exact store_at g0 first_at x1 x2

open Cert.ForgetSumRefIdeal.Read in
theorem refRow (G : S4x2064x8.Idx → EReal) (B : S1x8.Idx → EReal) (b : Fin 4) (r : Fin 2064) (l : Fin 128) :
    val_main_v6 (F := Ideal) G B (ix3 b r l) = lsRow G B b l r.val := by
  have e5 : val_main_v5 (F := Ideal) G B (ix3 b r l) = wide G b l r.val + wideRow B l := by
    pointwise [val_main_v5, val_main_v4, val_main_v3, val_main_v2, val_main_v1, val_main_v0, val_main_call0_v0, val_main_call1_v0, val_main_c, val_main_c_0]
    rw [zero_int, wide, wideRow]
    by_cases hl : l.val < 8
    · rw [dif_pos hl, dif_pos hl, dif_pos ⟨r.isLt, hl⟩]
      try rfl
    · rw [dif_neg hl, dif_neg hl, dif_neg (fun h => hl h.2)]
  rw [lsRow, ← ls_ref, ← e5]
  pointwise [val_main_v6, val_main_call2_v1, val_main_call2_call0_v11, val_main_call2_call0_v10, val_main_call2_call0_v9, val_main_call2_call0_v8, val_main_call2_call0_v7, val_main_call2_call0_v6,
    val_main_call2_call0_v5, val_main_call2_call0_v4, val_main_call2_call0_v3, val_main_call2_call0_v2, val_main_call2_call0_v1, val_main_call2_call0_v0, val_main_call2_call0_cst, val_main_call2_v0]
  rw [if_neg (fun h => h rfl)]
  rfl

open Cert.ForgetSumRefIdeal.Read in
theorem refWhole (G : S4x2064x8.Idx → EReal) (B : S1x8.Idx → EReal) (i : S4x2064x128.Idx) : val_main_v7 (F := Ideal) G B i = whole G B i := by
  idx_vars i
  unfold val_main_v7
  refine window_low _ _ _ _ (fun k => ?_) i0 i1 i2 (lsRow G B i0 i2) fun j => refRow G B i0 j i2
  pointwise [val_main_call3_call0_v0, val_main_call3_call0_cst]

end Cert.ForgetSumIdeal.Hand
-- ==== Proof.SumClaims.lean ====
module

public import proofs.«01_k».proof.Defs
public import proofs.«01_k».proof.Proof.Gen.ForgetSum
public import proofs.«01_k».proof.Proof.Gen.ForgetSum.Frame
public import proofs.«01_k».proof.Proof.Gen.ForgetSumIdeal
public import proofs.«01_k».proof.Proof.Gen.ForgetSumRefIdeal
public import proofs.«01_k».proof.Proof.SumValue
public import Idealize.ShloMosaic.Lib.Claim

@[expose] public section

set_option maxRecDepth 16384

noncomputable section

namespace Cert.Proof

open Idealize.ShloMosaic Idealize.SL.Sem

theorem sum_frame : Cert.quiescent_ForgetSum := fun m ρ _ => Cert.ForgetSum.Gen.frame m ρ
theorem sum_frame_ideal : Cert.quiescent_ForgetSumIdeal := fun m ρ _ => Cert.ForgetSumIdeal.Gen.frame m ρ
theorem sum_frame_ref : Cert.quiescent_ForgetSumRefIdeal := by
  intro m ρ _
  hlo_run
  · exact fun _ => ⟨trivial, trivial⟩
  · exact sem_eq_zero_of_no_sems (sig := Cert.ForgetSumRefIdeal.sig) (by decide) _

theorem sum_value : Cert.algebraic_ForgetSumIdeal_ForgetSumRefIdeal := by
  pair_intro
  · run_from Cert.ForgetSumIdeal.Value.run_blocks m g
  · refine θ_run_mono (Cert.ForgetSumRefIdeal.Value.run m' g') ?_
    intro r hr c
    obtain ⟨h0, h1⟩ := hr c
    rw [Cert.ForgetSumRefIdeal.Read.val_main_v7_eq, (hagree c).1, (hagree c).2] at h0
    refine ⟨h0.trans ?_, h1⟩
    rw [Cert.ForgetSumIdeal.Hand.final2 m]
    exact funext fun i => Cert.ForgetSumIdeal.Hand.refWhole _ _ i

end Cert.Proof

end
-- ==== Proof.AdamWValue.lean ====
/-
  The optimiser's step: the kernel's row tiles and the reference's whole arrays are the same expression entry by entry.
-/
module

public import proofs.«01_k».proof.Proof.Gen.AdamWIdeal.Value
public import proofs.«01_k».proof.Proof.Gen.AdamWRefIdeal.Run
public import proofs.«01_k».proof.Proof.Gen.AdamWRefIdeal.Read
public import proofs.«01_k».proof.Proof.Common

@[expose] public section

set_option maxRecDepth 16384

noncomputable section

open Idealize.ShloMosaic TcCoe Idealize.SL.Sem
open Idealize.ShloMosaic.Pipeline (Dat)

namespace Cert.AdamWIdeal.Hand

open Cert.AdamWIdeal Cert.AdamWIdeal.Gen Cert.AdamWRefIdeal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

theorem tlt (t : Fin cfg0.N) : t.val < 8 := by have := t.isLt; have h : cfg0.N = 8 := N_0; omega

/-- Row `r` of point `t`'s tile. -/
def row (t : Fin cfg0.N) (r : Fin 128) : Fin 1024 := ⟨t.val * 128 + r.val, by have := tlt t; omega⟩

theorem blk0 (t : Fin cfg0.N) (r : Fin 128) (l : Fin 1408) : iblk m c 0 t (ix2 r l) = m (c.tc.loc main_arg0) (ix3 0 (row t r) l) := by
  blk_simp [iblk, idx t]
  simp only [V, hostOps0]
  entry_read
  pointwise
  exact congrArg _ (congrArg₂ (ix3 0) (Fin.ext (by blk_simp [idx]; rfl)) (Fin.ext (by blk_simp [idx])))

theorem blk1 (t : Fin cfg0.N) (r : Fin 128) (l : Fin 1408) : iblk m c 1 t (ix2 r l) = m (c.tc.loc main_arg1) (ix3 0 (row t r) l) := by
  blk_simp [iblk, idx t]
  simp only [V, hostOps0]
  entry_read
  pointwise
  exact congrArg _ (congrArg₂ (ix3 0) (Fin.ext (by blk_simp [idx]; rfl)) (Fin.ext (by blk_simp [idx])))

theorem blk2 (t : Fin cfg0.N) (r : Fin 128) (l : Fin 1408) : iblk m c 2 t (ix2 r l) = m (c.tc.loc main_arg2) (ix3 0 (row t r) l) := by
  blk_simp [iblk, idx t]
  simp only [V, hostOps0]
  entry_read
  pointwise
  exact congrArg _ (congrArg₂ (ix3 0) (Fin.ext (by blk_simp [idx]; rfl)) (Fin.ext (by blk_simp [idx])))

theorem blk3 (t : Fin cfg0.N) (r : Fin 128) (l : Fin 1408) : iblk m c 3 t (ix2 r l) = m (c.tc.loc main_arg3) (ix3 0 (row t r) l) := by
  blk_simp [iblk, idx t]
  simp only [V, hostOps0]
  entry_read
  pointwise
  exact congrArg _ (congrArg₂ (ix3 0) (Fin.ext (by blk_simp [idx]; rfl)) (Fin.ext (by blk_simp [idx])))

section
variable {W G M U : S1x1024x1408.Idx → EReal} {w g u v : S128x1408.Idx → EReal} {t : Fin cfg0.N}
  (hw : ∀ r l, w (ix2 r l) = W (ix3 0 (row t r) l)) (hg : ∀ r l, g (ix2 r l) = G (ix3 0 (row t r) l))
  (hu : ∀ r l, u (ix2 r l) = M (ix3 0 (row t r) l)) (hv : ∀ r l, v (ix2 r l) = U (ix3 0 (row t r) l)) (r : Fin 128) (l : Fin 1408)

include hg in
theorem grad_at : k0_pay1 (F := Ideal) g (ix2 r l) = val_main_v1 (F := Ideal) G (ix2 (row t r) l) := by
  pointwise [k0_pay1, val_main_v1]
  exact hg r l

include hg hu in
theorem first_at : k0_pay2 (F := Ideal) g u (ix2 r l) = val_main_v8 (F := Ideal) G M (ix2 (row t r) l) := by
  pointwise [k0_pay1, k0_pay2, val_main_v8, val_main_v1, val_main_v2, val_main_v3, val_main_v4, val_main_v5, val_main_v6, val_main_v7, val_main_cst, val_main_cst_0]
  rw [hg r l, hu r l]

include hg hv in
theorem second_at : k0_pay3 (F := Ideal) g v (ix2 r l) = val_main_v14 (F := Ideal) G U (ix2 (row t r) l) := by
  pointwise [k0_pay1, k0_pay3, val_main_v14, val_main_v1, val_main_v3, val_main_v9, val_main_v10, val_main_v11, val_main_v12, val_main_v13, val_main_cst_1, val_main_cst_2]
  rw [hg r l, hv r l]

include hw hg hu hv in
theorem step_at : k0_pay4 (F := Ideal) g u v w (ix2 r l) = val_main_v27 (F := Ideal) W G M U (ix2 (row t r) l) := by
  have e1 := first_at hg hu r l
  have e2 := second_at hg hv r l
  pointwise [k0_pay4, val_main_v27, val_main_v26, val_main_v25, val_main_v24, val_main_v23, val_main_v22, val_main_v21, val_main_v20, val_main_v19, val_main_v18, val_main_v17, val_main_v16, val_main_v15, val_main_v0, val_main_cst_3, val_main_cst_4, val_main_cst_5, val_main_cst_6, val_main_cst_7]
  rw [e1, e2, hw r l]
end

theorem final4 : (dats m 0 c).arrAt 4 cfg0.N = val_main_v1 (F := Ideal) (m (c.tc.loc main_arg1)) := by
  refine (dats m 0 c).arrAt_eq_of_covers 4 _ (by decide +kernel) fun t hf y => ?_
  blk_simp [idx]
  rw [after0_4]
  have e : (((View.whole main_v4_0).slice (win0_4.rect t)).emb y) = ix2 (row t (y 0)) (y 1) := by
    funext a; refine Fin.ext ?_; fin_cases a <;> (blk_simp [idx]; rfl)
  have g := grad_at (blk1 m c t)
  generalize iblk m c 0 t = s0, iblk m c 1 t = s1, iblk m c 2 t = s2, iblk m c 3 t = s3 at *
  frame_out
  rw [e]
  idx_vars y
  exact g y0 y1

theorem final5 : (dats m 0 c).arrAt 5 cfg0.N = val_main_v27 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp [idx]
  rw [after0_5]
  have e : (((View.whole main_v4_1).slice (win0_5.rect t)).emb y) = ix2 (row t (y 0)) (y 1) := by
    funext a; refine Fin.ext ?_; fin_cases a <;> (blk_simp [idx]; rfl)
  have g := step_at (blk0 m c t) (blk1 m c t) (blk2 m c t) (blk3 m c t)
  generalize iblk m c 0 t = s0, iblk m c 1 t = s1, iblk m c 2 t = s2, iblk m c 3 t = s3 at *
  frame_out
  rw [e]
  idx_vars y
  exact g y0 y1

theorem final6 : (dats m 0 c).arrAt 6 cfg0.N = val_main_v8 (F := Ideal) (m (c.tc.loc main_arg1)) (m (c.tc.loc main_arg2)) := by
  refine (dats m 0 c).arrAt_eq_of_covers 6 _ (by decide +kernel) fun t hf y => ?_
  blk_simp [idx]
  rw [after0_6]
  have e : (((View.whole main_v4_2).slice (win0_6.rect t)).emb y) = ix2 (row t (y 0)) (y 1) := by
    funext a; refine Fin.ext ?_; fin_cases a <;> (blk_simp [idx]; rfl)
  have g := first_at (blk1 m c t) (blk2 m c t)
  generalize iblk m c 0 t = s0, iblk m c 1 t = s1, iblk m c 2 t = s2, iblk m c 3 t = s3 at *
  frame_out
  rw [e]
  idx_vars y
  exact g y0 y1

theorem final7 : (dats m 0 c).arrAt 7 cfg0.N = val_main_v14 (F := Ideal) (m (c.tc.loc main_arg1)) (m (c.tc.loc main_arg3)) := by
  refine (dats m 0 c).arrAt_eq_of_covers 7 _ (by decide +kernel) fun t hf y => ?_
  blk_simp [idx]
  rw [after0_7]
  have e : (((View.whole main_v4_3).slice (win0_7.rect t)).emb y) = ix2 (row t (y 0)) (y 1) := by
    funext a; refine Fin.ext ?_; fin_cases a <;> (blk_simp [idx]; rfl)
  have g := second_at (blk1 m c t) (blk3 m c t)
  generalize iblk m c 0 t = s0, iblk m c 1 t = s1, iblk m c 2 t = s2, iblk m c 3 t = s3 at *
  frame_out
  rw [e]
  idx_vars y
  exact g y0 y1

end Cert.AdamWIdeal.Hand
-- ==== Proof.AdamWClaims.lean ====
module

public import proofs.«01_k».proof.Defs
public import proofs.«01_k».proof.Proof.Gen.AdamW
public import proofs.«01_k».proof.Proof.Gen.AdamW.Frame
public import proofs.«01_k».proof.Proof.Gen.AdamWIdeal
public import proofs.«01_k».proof.Proof.Gen.AdamWRefIdeal
public import proofs.«01_k».proof.Proof.AdamWValue
public import Idealize.ShloMosaic.Lib.Claim

@[expose] public section

set_option maxRecDepth 16384

noncomputable section

namespace Cert.Proof

open Idealize.ShloMosaic Idealize.SL.Sem

theorem adamw_frame : Cert.quiescent_AdamW := fun m ρ _ => Cert.AdamW.Gen.frame m ρ
theorem adamw_frame_ideal : Cert.quiescent_AdamWIdeal := fun m ρ _ => Cert.AdamWIdeal.Gen.frame m ρ
theorem adamw_frame_ref : Cert.quiescent_AdamWRefIdeal := by
  intro m ρ _
  hlo_run
  · exact fun _ => ⟨trivial, trivial, trivial, trivial⟩
  · exact sem_eq_zero_of_no_sems (sig := Cert.AdamWRefIdeal.sig) (by decide) _

theorem adamw_value : Cert.algebraic_AdamWIdeal_AdamWRefIdeal := by
  pair_intro
  · run_from Cert.AdamWIdeal.Value.run_blocks m g
  · refine θ_run_mono (Cert.AdamWRefIdeal.Value.run m' g') ?_
    intro r hr c
    obtain ⟨h0, h1, h2, h3, hs⟩ := hr c
    rw [Cert.AdamWRefIdeal.Read.val_main_v1_eq, (hagree c).2.1] at h0
    rw [Cert.AdamWRefIdeal.Read.val_main_v27_eq, (hagree c).1, (hagree c).2.1, (hagree c).2.2.1, (hagree c).2.2.2] at h1
    rw [Cert.AdamWRefIdeal.Read.val_main_v8_eq, (hagree c).2.1, (hagree c).2.2.1] at h2
    rw [Cert.AdamWRefIdeal.Read.val_main_v14_eq, (hagree c).2.1, (hagree c).2.2.2] at h3
    exact ⟨h0.trans (Cert.AdamWIdeal.Hand.final4 m c).symm, h1.trans (Cert.AdamWIdeal.Hand.final5 m c).symm, h2.trans (Cert.AdamWIdeal.Hand.final6 m c).symm, h3.trans (Cert.AdamWIdeal.Hand.final7 m c).symm, hs⟩

end Cert.Proof

end
-- ==== Proof.MixFwdValue.lean ====
module

public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.MixOutPoint
public import proofs.«01_k».proof.Proof.MixOutRef
public import proofs.«01_k».proof.Proof.RmsMath

@[expose] public section

set_option maxRecDepth 16384

noncomputable section

open Idealize.ShloMosaic TcCoe Pointwise Idealize.SL.Sem
open Idealize.ShloMosaic.Pipeline (Dat)

namespace Cert.MixFwdIdeal.Hand

open Cert.MixFwdIdeal Cert.MixFwdIdeal.Gen Cert.MixFwdRefIdeal.Read Cert.MixOutIdeal.Hand

/-! A memory of the backward call that holds the forward call's arguments, and zero as the cotangent: what the two bodies share is proved there. -/

abbrev Mem := (ℓ : Loc MixOutIdeal.nD MixOutIdeal.τ MixOutIdeal.sig) → Buf (Elt Ideal) ℓ

def Twin (m : (ℓ : Loc nD τ sig) → Buf (Elt Ideal) ℓ) (c : Dev nD) (n : Mem) : Prop :=
  aX n c = m (c.tc.loc main_arg0) ∧ aO n c = m (c.tc.loc main_arg1) ∧ aW n c = m (c.tc.loc main_arg2)
    ∧ aC n c = m (c.tc.loc main_arg3) ∧ aA n c = m (c.tc.loc main_arg4) ∧ aV n c = m (c.tc.loc main_arg5) ∧ aY n c = fun _ => 0

theorem put (n : Mem) (ℓ : Loc MixOutIdeal.nD MixOutIdeal.τ MixOutIdeal.sig) (v : Buf (Elt Ideal) ℓ) : ∃ n' : Mem, n' ℓ = v ∧ ∀ ℓ', ℓ' ≠ ℓ → n' ℓ' = n ℓ' := by
  classical
  exact ⟨Function.update n ℓ v, Function.update_self .., fun ℓ' h => Function.update_of_ne h ..⟩

theorem apart {r r' : Ref MixOutIdeal.sig .tc} (h : r ≠ r') (c : Dev nD) : (c : Thread MixOutIdeal.nD MixOutIdeal.τ).loc r ≠ (c : Thread MixOutIdeal.nD MixOutIdeal.τ).loc r' := by
  exact fun e => h (Proc.devRef_injective _ (congrArg Prod.snd e))

theorem twin (m : (ℓ : Loc nD τ sig) → Buf (Elt Ideal) ℓ) (c : Dev nD) : ∃ n, Twin m c n := by
  obtain ⟨n0, h0, -⟩ := put (fun ℓ => Classical.arbitrary _) ((c : Thread MixOutIdeal.nD MixOutIdeal.τ).loc MixOutIdeal.main_arg0) (m (c.tc.loc main_arg0))
  obtain ⟨n1, h1, k1⟩ := put n0 ((c : Thread MixOutIdeal.nD MixOutIdeal.τ).loc MixOutIdeal.main_arg1) (m (c.tc.loc main_arg1))
  obtain ⟨n2, h2, k2⟩ := put n1 ((c : Thread MixOutIdeal.nD MixOutIdeal.τ).loc MixOutIdeal.main_arg2) (m (c.tc.loc main_arg2))
  obtain ⟨n3, h3, k3⟩ := put n2 ((c : Thread MixOutIdeal.nD MixOutIdeal.τ).loc MixOutIdeal.main_arg3) (m (c.tc.loc main_arg3))
  obtain ⟨n4, h4, k4⟩ := put n3 ((c : Thread MixOutIdeal.nD MixOutIdeal.τ).loc MixOutIdeal.main_arg4) (m (c.tc.loc main_arg4))
  obtain ⟨n5, h5, k5⟩ := put n4 ((c : Thread MixOutIdeal.nD MixOutIdeal.τ).loc MixOutIdeal.main_arg5) (m (c.tc.loc main_arg5))
  obtain ⟨n6, h6, k6⟩ := put n5 ((c : Thread MixOutIdeal.nD MixOutIdeal.τ).loc MixOutIdeal.main_arg6) (fun _ => (0 : EReal))
  have d : ∀ {r r' : Ref MixOutIdeal.sig .tc}, r ≠ r' → (c : Thread MixOutIdeal.nD MixOutIdeal.τ).loc r ≠ (c : Thread MixOutIdeal.nD MixOutIdeal.τ).loc r' := fun h => apart h c
  refine ⟨n6, ?_, ?_, ?_, ?_, ?_, ?_, h6⟩
  · exact (k6 _ (d (by decide))).trans <| (k5 _ (d (by decide))).trans <| (k4 _ (d (by decide))).trans <| (k3 _ (d (by decide))).trans <| (k2 _ (d (by decide))).trans <| (k1 _ (d (by decide))).trans h0
  · exact (k6 _ (d (by decide))).trans <| (k5 _ (d (by decide))).trans <| (k4 _ (d (by decide))).trans <| (k3 _ (d (by decide))).trans <| (k2 _ (d (by decide))).trans h1
  · exact (k6 _ (d (by decide))).trans <| (k5 _ (d (by decide))).trans <| (k4 _ (d (by decide))).trans <| (k3 _ (d (by decide))).trans h2
  · exact (k6 _ (d (by decide))).trans <| (k5 _ (d (by decide))).trans <| (k4 _ (d (by decide))).trans h3
  · exact (k6 _ (d (by decide))).trans <| (k5 _ (d (by decide))).trans h4
  · exact (k6 _ (d (by decide))).trans h5

theorem idx' : ∀ t : Fin cfg0.N, win0_11.index t = ![t.val / 3, t.val % 3, 0] ∧ win0_12.index t = ![0, 0] ∧ win0_13.index t = ![t.val / 3, t.val % 3, 0]
    ∧ win0_14.index t = ![t.val / 3, t.val % 3, 0] ∧ win0_15.index t = ![t.val / 3, t.val % 3, 0] :=
  (by decide +kernel)

variable {m : (ℓ : Loc nD τ sig) → Buf (Elt Ideal) ℓ} {c : Dev nD} {n : Mem} (hn : Twin m c n) (t : Fin cfg0.N)

include hn

theorem host1 : V m c main_v1 = MixOutIdeal.Gen.V n c MixOutIdeal.main_v1 ∧ V m c main_v3 = MixOutIdeal.Gen.V n c MixOutIdeal.main_v3
    ∧ V m c main_v12 = MixOutIdeal.Gen.V n c MixOutIdeal.main_v12 ∧ V m c main_v14 = MixOutIdeal.Gen.V n c MixOutIdeal.main_v15 := by
  obtain ⟨hX, hO, hW, hC, hA, hV, -⟩ := hn
  refine ⟨?_, ?_, ?_, ?_⟩ <;>
  simp only [V, hostOps0, hostOps0_1, hostOps0_2, MixOutIdeal.Gen.V, MixOutIdeal.Gen.hostOps0, MixOutIdeal.Gen.hostOps0_1, MixOutIdeal.Gen.hostOps0_2, flatten_cons, flatten_nil, append_nil, cons_append, nil_append] <;>
  entry_read
  · rw [show n (c, Proc.tc.devRef MixOutIdeal.main_arg0) = _ from hX]
    try rfl
  · rw [show n (c, Proc.tc.devRef MixOutIdeal.main_arg2) = _ from hW]
    try rfl
  · rfl
  · rw [show n (c, Proc.tc.devRef MixOutIdeal.main_arg5) = _ from hV]
    try rfl

theorem b0 : iblk m c 0 t = MixOutIdeal.Gen.iblk n c 1 t := congrArg (fun f => ((cfg0.win 0).blk t).view.read (Elt Ideal) f) (host1 hn).1
theorem b1 : iblk m c 1 t = MixOutIdeal.Gen.iblk n c 2 t := congrArg (fun f => ((cfg0.win 1).blk t).view.read (Elt Ideal) f) (host1 hn).1
theorem b2 : iblk m c 2 t = MixOutIdeal.Gen.iblk n c 3 t := congrArg (fun f => ((cfg0.win 2).blk t).view.read (Elt Ideal) f) (host1 hn).1
theorem b3 : iblk m c 3 t = MixOutIdeal.Gen.iblk n c 4 t := congrArg (fun f => ((cfg0.win 3).blk t).view.read (Elt Ideal) f) (host1 hn).1
theorem b4 : iblk m c 4 t = MixOutIdeal.Gen.iblk n c 5 t := congrArg (fun f => ((cfg0.win 4).blk t).view.read (Elt Ideal) f) (host1 hn).1
theorem b6 : iblk m c 6 t = MixOutIdeal.Gen.iblk n c 7 t := congrArg (fun f => ((cfg0.win 6).blk t).view.read (Elt Ideal) f) (host1 hn).2.1
theorem b7 : iblk m c 7 t = MixOutIdeal.Gen.iblk n c 8 t := congrArg (fun f => ((cfg0.win 7).blk t).view.read (Elt Ideal) f) (host1 hn).2.2.1
theorem b10 : iblk m c 10 t = MixOutIdeal.Gen.iblk n c 11 t := congrArg (fun f => ((cfg0.win 10).blk t).view.read (Elt Ideal) f) (host1 hn).2.2.2
theorem b5 : iblk m c 5 t = MixOutIdeal.Gen.iblk n c 6 t := congrArg (fun f => ((cfg0.win 5).blk t).view.read (Elt Ideal) f) hn.2.1.symm
theorem b8 : iblk m c 8 t = MixOutIdeal.Gen.iblk n c 9 t := congrArg (fun f => ((cfg0.win 8).blk t).view.read (Elt Ideal) f) hn.2.2.2.1.symm
theorem b9 : iblk m c 9 t = MixOutIdeal.Gen.iblk n c 10 t := congrArg (fun f => ((cfg0.win 9).blk t).view.read (Elt Ideal) f) hn.2.2.2.2.1.symm

omit hn

variable (m c)

def q28 : FVec Ideal S688x512 .f32 := k0_pay28 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
def q30 : FVec Ideal S688x512 .f32 := k0_pay30 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
def q31 : FVec Ideal S688x1024 .f32 := k0_pay31 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
def q32 : FVec Ideal S688x512 .bf16 := k0_pay32 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
def q33 : FVec Ideal S688x1024 .f32 := k0_pay33 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
def q34 : FVec Ideal S512x1024 .bf16 := k0_pay34 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

variable {m c}

include hn

theorem q28_at (r : Fin 688) (k : Fin 512) : q28 m c t (ix2 r k) = yc (aX n c) (aW n c) (seq t) (pos t r) k := by
  refine Eq.trans ?_ (p69_at n c t r k)
  unfold q28 p69 p7 p14 p23 p25 p32
  rw [b0 hn, b1 hn, b2 hn, b3 hn, b4 hn, b6 hn]
  pointwise [k0_pay28, k0_pay11, k0_pay20, k0_pay21, k0_pay22, k0_pay23, k0_pay24, k0_pay25, k0_pay26, k0_pay27, k0_pay4, k0_pay5, k0_pay6, k0_pay7, k0_pay8, k0_pay9, k0_pay10, MixOutIdeal.Gen.k0_pay16, MixOutIdeal.Gen.k0_pay15, MixOutIdeal.Gen.k0_pay14, MixOutIdeal.Gen.k0_pay13, MixOutIdeal.Gen.k0_pay12, MixOutIdeal.Gen.k0_pay11, MixOutIdeal.Gen.k0_pay10, MixOutIdeal.Gen.k0_pay9, MixOutIdeal.Gen.k0_pay8, MixOutIdeal.Gen.k0_pay7]

variable (hR : Reals n c)
include hR

theorem q30_at (r : Fin 688) (k : Fin 512) : q30 m c t (ix2 r k) = Ideal.rsqrt (Grp.var (yc (aX n c) (aW n c) (seq t) (pos t r)) k) := by
  have h := q28_at hn t
  have g := blk8 n c t
  rw [← b7 hn] at g
  unfold q28 k0_pay28 at h
  unfold q30
  pointwise [k0_pay30, k0_pay13, k0_pay12]
  simp only [h]
  exact congrArg Ideal.rsqrt (two_var g (hR _ _).1 k)

theorem q32_at (r : Fin 688) (k : Fin 512) : q32 m c t (ix2 r k) = Grp.nrm (fun k => aO n c (ix3 (seq t) (pos t r) k)) k * aA n c (ix2 0 k) := by
  have h := blk6 n c t
  have g := blk8 n c t
  have f := blk10 n c t
  rw [← b5 hn] at h
  rw [← b7 hn] at g
  rw [← b9 hn] at f
  unfold q32
  pointwise [k0_pay32, k0_pay15, k0_pay29, k0_pay12]
  simp only [h, f]
  exact congrArg (fun u : EReal => _ * Ideal.rsqrt u * _) (two_var g (hR _ _).2.2.1 k)

theorem y14_at (r : Fin 688) (k : Fin 512) : k0_pay14 (F := Ideal) (q28 m c t) (q30 m c t) (View.ld (iblk m c 8 t) r0_4) (ix2 r k) = Grp.nrm (yc (aX n c) (aW n c) (seq t) (pos t r)) k * aC n c (ix2 0 k) := by
  have h := q28_at hn t
  have g := q30_at hn t hR
  have f := blk9 n c t
  rw [← b8 hn] at f
  generalize q28 m c t = x at *
  generalize q30 m c t = z at *
  pointwise [k0_pay14]
  rw [h, g, f]
  rfl

omit hn hR in
theorem wide_idx (y : S1x688x1024.Idx) : y = ix3 0 (y 1) (y 2) := funext fun a => Fin.ext (by
  match a with
  | 0 => exact Nat.lt_one_iff.mp (y 0).isLt
  | 1 => rfl
  | 2 => rfl)

/-- The two normed halves, scaled, one behind the other. -/
def yv (X : S4x2064x3080.Idx → EReal) (W : S1x3x512.Idx → EReal) (O : S4x2064x512.Idx → EReal) (C A : S1x512.Idx → EReal) (b : Fin 4) (l : Fin 2064) (k : Fin 1024) : EReal :=
  if h : k.val < 512 then Grp.nrm (yc X W b l) ⟨k.val, h⟩ * C (ix2 0 ⟨k.val, h⟩) else Grp.nrm (fun k => O (ix3 b l k)) ⟨k.val - 512, by omega⟩ * A (ix2 0 ⟨k.val - 512, by omega⟩)

omit hn hR in
theorem yv_lo (X : S4x2064x3080.Idx → EReal) (W : S1x3x512.Idx → EReal) (O : S4x2064x512.Idx → EReal) (C A : S1x512.Idx → EReal) (b : Fin 4) (l : Fin 2064) (j : Fin 1024) (k : Fin 512) (h : j.val = k.val) :
    yv X W O C A b l j = Grp.nrm (yc X W b l) k * C (ix2 0 k) := by
  obtain ⟨j, hj⟩ := j
  subst h
  unfold yv
  exact dif_pos k.isLt

omit hn hR in
theorem yv_hi (X : S4x2064x3080.Idx → EReal) (W : S1x3x512.Idx → EReal) (O : S4x2064x512.Idx → EReal) (C A : S1x512.Idx → EReal) (b : Fin 4) (l : Fin 2064) (j : Fin 1024) (k : Fin 512) (h : j.val = 512 + k.val) :
    yv X W O C A b l j = Grp.nrm (fun k => O (ix3 b l k)) k * A (ix2 0 k) := by
  have e : k = ⟨j.val - 512, by omega⟩ := Fin.ext (by dsimp only; omega)
  unfold yv
  rw [dif_neg (by omega), ← e]

/-- The residual stream behind the mixing. -/
def ov (X : S4x2064x3080.Idx → EReal) (W : S1x3x512.Idx → EReal) (O : S4x2064x512.Idx → EReal) (C A : S1x512.Idx → EReal) (V : S1x1024x1024.Idx → EReal) (H : S4x2064x1024.Idx → EReal)
    (b : Fin 4) (l : Fin 2064) (d : Fin 1024) : EReal := H (ix3 b l d) + ∑ j, yv X W O C A b l j * V (ix3 0 j d)

/-- Its root mean square norm. -/
def nv (o : Fin 1024 → EReal) (N : S1x1024.Idx → EReal) (d : Fin 1024) : EReal := o d * Ideal.rsqrt (Rms.var o) * N (ix2 0 d)

omit hn hR in
theorem blk11' (r : Fin 688) (d : Fin 1024) : iblk m c 11 t (ix3 0 r d) = m (c.tc.loc main_arg6) (ix3 (seq t) (pos t r) d) := by
  have := tlt t
  blk_simp [iblk, idx' t]
  blk_ext [idx' t, seq, pos]

omit hn hR in
theorem blk12' (d : Fin 1024) : iblk m c 12 t (ix2 0 d) = m (c.tc.loc main_arg7) (ix2 0 d) := by
  have := tlt t
  blk_simp [iblk, idx' t]
  blk_ext [idx' t]

theorem out_at (r : Fin 688) (d : Fin 1024) : k0_pay1 (F := Ideal) (q32 m c t) (q33 m c t) (q34 m c t) (q31 m c t) (ix2 r d)
    = ov (aX n c) (aW n c) (aO n c) (aC n c) (aA n c) (aV n c) (m (c.tc.loc main_arg6)) (seq t) (pos t r) d := by
  have h := y14_at hn t hR
  have g := q32_at hn t hR
  have f := blk11 n c t
  have e := blk11' (m := m) (c := c) t r d
  rw [← b10 hn] at f
  unfold q28 q30 at h
  generalize q32 m c t = x at *
  unfold q33 q34 q31
  pointwise [k0_pay1, k0_pay33, k0_pay34, k0_pay31, k0_pay18, k0_pay19]
  simp only [h, g, f, e]
  unfold ov
  rw [Fin.sum_univ_add (a := 512) (b := 512) (fun j : Fin (512 + 512) => yv _ _ _ _ _ _ _ j * aV n c (ix3 0 j d)), ← add_assoc]
  refine congrArg₂ (fun a b : EReal => a + b) (congrArg (fun a : EReal => _ + a) (Finset.sum_congr rfl fun j _ => congrArg (fun a : EReal => a * _) ?_)) (Finset.sum_congr rfl fun j _ => congrArg (fun a : EReal => a * _) ?_)
  · exact (h r j).trans (yv_lo _ _ _ _ _ _ _ _ j rfl).symm
  · exact (yv_hi _ _ _ _ _ _ _ _ j rfl).symm

theorem norm_at (r : Fin 688) (d : Fin 1024) : k0_pay3 (F := Ideal) (q32 m c t) (q33 m c t) (q34 m c t) (q31 m c t) (iblk m c 12 t) (ix3 0 r d)
    = nv (ov (aX n c) (aW n c) (aO n c) (aC n c) (aA n c) (aV n c) (m (c.tc.loc main_arg6)) (seq t) (pos t r)) (m (c.tc.loc main_arg7)) d := by
  have h := out_at hn t hR
  have e := blk12' (m := m) (c := c) t d
  generalize q32 m c t = x at *
  generalize q33 m c t = y at *
  generalize q34 m c t = z at *
  generalize q31 m c t = w at *
  pointwise [k0_pay3]
  simp only [h, e]
  rfl

theorem final13 : (dats m 0 c).arrAt 13 cfg0.N = fun i => ov (aX n c) (aW n c) (aO n c) (aC n c) (aA n c) (aV n c) (m (c.tc.loc main_arg6)) (i 0) (i 1) (i 2) := by
  refine (dats m 0 c).arrAt_eq_of_covers 13 _ (by decide +kernel) fun t hf y => ?_
  have := tlt t
  blk_simp [idx']
  rw [after0_13]
  have e0 : ((View.whole main_v15_0).slice (win0_13.rect t)).emb y 0 = seq t := Fin.ext (by have : (y 0).val < 1 := (y 0).isLt; blk_simp [idx', seq]; try omega)
  have e1 : ((View.whole main_v15_0).slice (win0_13.rect t)).emb y 1 = pos t (y 1) := Fin.ext (by blk_simp [idx', pos]; try omega)
  have e2 : ((View.whole main_v15_0).slice (win0_13.rect t)).emb y 2 = y 2 := Fin.ext (by blk_simp [idx']; try omega)
  rw [e0, e1, e2]
  refine Eq.trans ?_ (out_at hn t hR (y 1) (y 2))
  frame_out
  refine (congrArg _ (wide_idx y)).trans ?_
  unfold q32 q33 q34 q31
  pointwise [k0_pay2]

theorem final15 : (dats m 0 c).arrAt 15 cfg0.N = fun i => nv (ov (aX n c) (aW n c) (aO n c) (aC n c) (aA n c) (aV n c) (m (c.tc.loc main_arg6)) (i 0) (i 1)) (m (c.tc.loc main_arg7)) (i 2) := by
  refine (dats m 0 c).arrAt_eq_of_covers 15 _ (by decide +kernel) fun t hf y => ?_
  have := tlt t
  blk_simp [idx']
  rw [after0_15]
  have e0 : ((View.whole main_v15_2).slice (win0_15.rect t)).emb y 0 = seq t := Fin.ext (by have : (y 0).val < 1 := (y 0).isLt; blk_simp [idx', seq]; try omega)
  have e1 : ((View.whole main_v15_2).slice (win0_15.rect t)).emb y 1 = pos t (y 1) := Fin.ext (by blk_simp [idx', pos]; try omega)
  have e2 : ((View.whole main_v15_2).slice (win0_15.rect t)).emb y 2 = y 2 := Fin.ext (by blk_simp [idx']; try omega)
  rw [e0, e1, e2]
  have h := norm_at hn t hR (y 1) (y 2)
  unfold q32 q33 q34 q31 at h
  refine Eq.trans ?_ h
  frame_out
  exact congrArg _ (wide_idx y)

theorem final14 : (dats m 0 c).arrAt 14 cfg0.N = fun i => yv (aX n c) (aW n c) (aO n c) (aC n c) (aA n c) (i 0) (i 1) (i 2) := by
  refine (dats m 0 c).arrAt_eq_of_covers 14 _ (by decide +kernel) fun t hf y => ?_
  have := tlt t
  blk_simp [idx']
  rw [after0_14]
  have e0 : ((View.whole main_v15_1).slice (win0_14.rect t)).emb y 0 = seq t := Fin.ext (by have : (y 0).val < 1 := (y 0).isLt; blk_simp [idx', seq]; try omega)
  have e1 : ((View.whole main_v15_1).slice (win0_14.rect t)).emb y 1 = pos t (y 1) := Fin.ext (by blk_simp [idx', pos]; try omega)
  have e2 : ((View.whole main_v15_1).slice (win0_14.rect t)).emb y 2 = y 2 := Fin.ext (by blk_simp [idx']; try omega)
  rw [e0, e1, e2]
  unfold out0_14
  canon_tiles x h
  · have h := q32_at hn t hR (x 1) (x 2)
    unfold q32 k0_pay32 at h
    have p : pos t (y 1) = pos t (x 1) := Fin.ext (by simp only [pos, h1])
    rw [p]
    refine Eq.trans ?_ (h.trans (yv_hi _ _ _ _ _ _ _ _ (x 2) h2).symm)
    idx_vars x
    pointwise [k0_pay17]
  · have h := y14_at hn t hR (x 1) (x 2)
    unfold q28 q30 at h
    have p : pos t (y 1) = pos t (x 1) := Fin.ext (by simp only [pos, h1])
    rw [p]
    refine Eq.trans ?_ (h.trans (yv_lo _ _ _ _ _ _ _ _ (x 2) (by omega)).symm)
    idx_vars x
    pointwise [k0_pay16]
    rfl

end Cert.MixFwdIdeal.Hand
-- ==== Proof.MixFwdRef.lean ====
module

public import proofs.«01_k».proof.Proof.MixFwdValue

@[expose] public section

set_option maxRecDepth 16384

noncomputable section

open Idealize.ShloMosaic Pointwise

namespace Cert.MixFwdRefIdeal.Hand

open Cert.MixFwdRefIdeal Cert.MixFwdRefIdeal.Read Cert.MixFwdIdeal.Hand Cert.MixOutIdeal.Hand

variable (X : S4x2064x3080.Idx → EReal) (W : S1x3x512.Idx → EReal) (O : S4x2064x512.Idx → EReal) (C A : S1x512.Idx → EReal) (V : S1x1024x1024.Idx → EReal)
    (H : S4x2064x1024.Idx → EReal) (N : S1x1024.Idx → EReal) (b : Fin 4) (l : Fin 2064)

theorem r40 (X : S4x2064x3080.Idx → EReal) (W : S1x3x512.Idx → EReal) : val_main_v40 (F := Ideal) X W = Cert.MixOutRefIdeal.Read.val_main_v45 X W := rfl
theorem r56 (O : S4x2064x512.Idx → EReal) : val_main_v56 (F := Ideal) O = Cert.MixOutRefIdeal.Read.val_main_v63 O := rfl

theorem r60 (k : Fin 1024) : val_main_v60 (F := Ideal) X O W C A (ix3 b l k) = yv X W O C A b l k := by
  pointwise [val_main_v60, val_main_v43, val_main_v42, val_main_v41, val_main_v28, val_main_v59, val_main_v58, val_main_v57, val_main_v44]
  simp only [r40, r56, r45, r63]
  rfl

theorem r63' (d : Fin 1024) : val_main_v63 (F := Ideal) X O W C A V H (ix3 b l d) = ov X W O C A V H b l d := by
  have h := r60 X W O C A b l
  pointwise [val_main_v63, val_main_v62, val_main_v61]
  simp only [h]
  rfl

theorem r79 (d : Fin 1024) : val_main_v79 (F := Ideal) X O W C A V H N (ix3 b l d) = nv (ov X W O C A V H b l) N d := by
  have h := r63' X W O C A V H b l
  pointwise [val_main_v79, val_main_v78, val_main_v77, val_main_v76, val_main_v75, val_main_v74, val_main_v73, val_main_v72, val_main_v71, val_main_v70, val_main_v69, val_main_v68, val_main_v67, val_main_v66, val_main_v65, val_main_cst_6, val_main_cst_7, val_main_cst_8]
  simp only [h]
  rfl

end Cert.MixFwdRefIdeal.Hand

end
-- ==== Proof.MixFwdClaims.lean ====
module

public import proofs.«01_k».proof.Defs
public import proofs.«01_k».proof.Proof.Gen.MixFwd
public import proofs.«01_k».proof.Proof.Gen.MixFwd.Frame
public import proofs.«01_k».proof.Proof.Gen.MixFwdIdeal
public import proofs.«01_k».proof.Proof.Gen.MixFwdRefIdeal
public import proofs.«01_k».proof.Proof.MixOutClaims
public import proofs.«01_k».proof.Proof.MixFwdRef
public import Idealize.ShloMosaic.Lib.Claim

@[expose] public section

set_option maxRecDepth 16384

noncomputable section

namespace Cert.Proof

open Idealize.ShloMosaic Pointwise Idealize.SL.Sem

instance mixfwd_pre_facts : Cert.Pre_mix_fwd_finite.Facts := by constructor <;> decide

theorem mixfwd_frame : Cert.quiescent_MixFwd := fun m ρ _ => Cert.MixFwd.Gen.frame m ρ
theorem mixfwd_frame_ideal : Cert.quiescent_MixFwdIdeal := fun m ρ _ => Cert.MixFwdIdeal.Gen.frame m ρ
theorem mixfwd_frame_ideal_pre : Cert.quiescent_MixFwdIdeal_pre_mix_fwd_finite := fun m ρ _ => Cert.MixFwdIdeal.Gen.frame m ρ
theorem mixfwd_frame_ref : Cert.quiescent_MixFwdRefIdeal := by
  intro m ρ _
  hlo_run
  · exact fun _ => ⟨trivial, trivial, trivial, trivial, trivial, trivial, trivial, trivial⟩
  · exact sem_eq_zero_of_no_sems (sig := Cert.MixFwdRefIdeal.sig) (by decide) _
theorem mixfwd_frame_ref_pre : Cert.quiescent_MixFwdRefIdeal_pre_mix_fwd_finite := fun m ρ _ => mixfwd_frame_ref m ρ trivial
theorem mixfwd_preserves : Cert.preserves_MixFwd_MixFwdIdeal := trivial

open Cert.MixOutIdeal.Hand Cert.MixFwdIdeal.Hand in
theorem mixfwd_reals (m : (ℓ : Loc Cert.MixFwdIdeal.nD Cert.MixFwdIdeal.τ Cert.MixFwdIdeal.sig) → Buf (Elt Ideal) ℓ) (hpre : Cert.Pre_MixFwdIdeal_mix_fwd_finite m) (c : Dev Cert.MixFwdIdeal.nD) {n : Mem} (hn : Twin m c n) : Reals n c := by
  obtain ⟨hX, hO, hW, -, -, -, hY⟩ := hn
  have z : ∀ b l k, cot (aV n c) (aY n c) b l k = 0 := fun b l k => Finset.sum_eq_zero fun d _ => by rw [hY]; exact zero_mul _
  have x : ∀ b l (k : Fin 1536), Real' (aX n c (ix3 b l ⟨k.val, by omega⟩)) := fun b l k => by
    rw [hX]
    refine real_of ?_
    have h := congrFun (hpre c).1 (ix3 b l k)
    have e := Cert.Common.finite_of_test h
    pointwise at e
    exact e
  have w : ∀ i, Real' (aW n c i) := fun i => by rw [hW]; exact real_of (Cert.Common.finite_of_test (congrFun (hpre c).2.2 i))
  have o : ∀ i, Real' (aO n c i) := fun i => by rw [hO]; exact real_of (Cert.Common.finite_of_test (congrFun (hpre c).2.1 i))
  have hu : ∀ b k l, Real' (up (aX n c) b k l) := fun b k l => by
    unfold up
    split
    · exact real_mul (x b _ ⟨512 + k.val, by omega⟩) (x b _ ⟨1024 + k.val, by omega⟩)
    · exact ⟨0, rfl⟩
  intro b l
  exact ⟨real_row fun k => real_mul (x b l ⟨k.val, by omega⟩) (real_add (real_add (real_mul (w _) (hu _ _ _)) (real_mul (w _) (hu _ _ _))) (real_mul (w _) (hu _ _ _))),
    real_row fun k => ⟨0, by unfold dc; rw [z]; exact zero_mul _⟩, real_row fun k => o _, real_row fun k => ⟨0, by unfold da; rw [z]; exact zero_mul _⟩⟩

set_option maxHeartbeats 1000000 in
open Cert.MixFwdIdeal.Hand Cert.MixFwdRefIdeal.Hand Cert.MixFwdRefIdeal.Read in
theorem mixfwd_value : Cert.algebraic_MixFwdIdeal_MixFwdRefIdeal_pre_mix_fwd_finite := by
  pair_intro
  · run_from Cert.MixFwdIdeal.Value.run_blocks m g
  · run_from Cert.MixFwdRefIdeal.Value.run m' g'
    all_goals
      obtain ⟨n, hn⟩ := twin m c
      have hR := mixfwd_reals m hpre c hn
      obtain ⟨e0, e1, e2, e3, e4, e5, e6, e7⟩ := hagree c
      obtain ⟨f0, f1, f2, f3, f4, f5, -⟩ := id hn
    · rw [val_main_v63_eq, final13 hn hR, f0, f1, f2, f3, f4, f5, ← e0, ← e1, ← e2, ← e3, ← e4, ← e5, ← e6]
      refine funext fun i => ?_
      idx_vars i
      exact r63' _ _ _ _ _ _ _ i0 i1 i2
    · rw [val_main_v64_eq, final14 hn hR, f0, f1, f2, f3, f4, ← e0, ← e1, ← e2, ← e3, ← e4]
      refine funext fun i => ?_
      idx_vars i
      exact r60 _ _ _ _ _ i0 i1 i2
    · rw [val_main_v79_eq, final15 hn hR, f0, f1, f2, f3, f4, f5, ← e0, ← e1, ← e2, ← e3, ← e4, ← e5, ← e6, ← e7]
      refine funext fun i => ?_
      idx_vars i
      exact r79 _ _ _ _ _ _ _ _ i0 i1 i2

end Cert.Proof

end
-- ==== Proof.UpValue.lean ====
/-
  The product with the gate and up weights: every point writes one tile of rows and of one quarter of the columns.
-/
module

public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Common

@[expose] public section

set_option maxRecDepth 16384

noncomputable section

open Idealize.ShloMosaic Idealize.ShloMosaic.TcCoe Idealize.ShloMosaic.Pointwise Idealize.SL.Sem

namespace Cert.FfnUpIdeal.Hand

open Cert.FfnUpIdeal Cert.FfnUpIdeal.Gen Cert.FfnUpRefIdeal.Read

variable (m : (ℓ : Loc nD τ sig) → Buf (Elt Ideal) ℓ) (c : Dev nD)

theorem idx : ∀ t : Fin cfg0.N, win0_0.index t = ![t.val % 6, 0] ∧ win0_1.index t = ![t.val / 6, 0, 0] ∧ win0_2.index t = ![t.val / 12, t.val % 6, t.val / 6 % 2] := by decide +kernel

theorem tlt (t : Fin cfg0.N) : t.val < 24 := by have := t.isLt; have h : cfg0.N = 24 := N_0; omega

theorem blk0 (t : Fin cfg0.N) (r : Fin 1376) (d : Fin 1024) : iblk m c 0 t (ix2 r d) = m (c.tc.loc main_arg0) (ix2 ⟨t.val % 6 * 1376 + r.val, by omega⟩ d) := by
  blk_simp [iblk, idx t]
  simp only [V, hostOps0]
  entry_read; pointwise; blk_ext [idx t]

theorem blk1 (t : Fin cfg0.N) (d : Fin 1024) (f : Fin 1408) : iblk m c 1 t (ix3 0 d f) = m (c.tc.loc main_arg1) (ix2 d ⟨t.val / 6 * 1408 + f.val, by have := tlt t; omega⟩) := by
  have := tlt t
  blk_simp [iblk, idx t]
  simp only [V, hostOps0]
  entry_read; pointwise; blk_ext [idx t]

/-- An entry of the product: the columns of the gate come first, then those of the up projection. -/
theorem ref (X : S8256x1024.Idx → EReal) (W : S1024x5632.Idx → EReal) (a : Fin 2) (r : Fin 8256) (f : Fin 2816) :
    val_main_v6 (F := Ideal) X W (ix3 a r f) = ∑ d : Fin 1024, X (ix2 r d) * W (ix2 d ⟨a.val * 2816 + f.val, by omega⟩) := by
  pointwise [val_main_v0, val_main_v1, val_main_v2, val_main_v3, val_main_v4, val_main_v5, val_main_v6]
  split <;> refine Finset.sum_congr rfl fun d _ => congrArg _ (congrArg W (congrArg (ix2 d) (Fin.ext ?_))) <;> (dsimp only; omega)

theorem final : (dats m 0 c).arrAt 2 cfg0.N = val_main_v6 (F := Ideal) (m (c.tc.loc main_arg0)) (m (c.tc.loc main_arg1)) := by
  refine (dats m 0 c).arrAt_eq_of_covers 2 _ (by decide +kernel) fun t hf y => ?_
  have := tlt t
  blk_simp [idx]
  rw [after0_2]
  have e : (((View.whole main_v4).slice (win0_2.rect t)).emb y) = ix3 ⟨t.val / 12, by omega⟩ ⟨t.val % 6 * 1376 + (y 1).val, by have : (y 1).val < 1376 := (y 1).isLt; omega⟩ ⟨t.val / 6 % 2 * 1408 + (y 2).val, by have : (y 2).val < 1408 := (y 2).isLt; omega⟩ := by
    funext a; refine Fin.ext ?_; fin_cases a <;> (blk_simp [idx]; rfl)
  have h0 := blk0 m c t
  have h1 := blk1 m c t
  generalize iblk m c 0 t = s0, iblk m c 1 t = s1 at *
  frame_out
  rw [e, ref]
  idx_vars y
  pointwise [k0_pay1]
  exact Finset.sum_congr (M := EReal) rfl fun d _ => by
    rw [h0, h1]
    exact congrArg _ (congrArg _ (congrArg (ix2 d) (Fin.ext (by dsimp only; omega))))

end Cert.FfnUpIdeal.Hand
-- ==== Proof.UpClaims.lean ====
module

public import proofs.«01_k».proof.Defs
public import proofs.«01_k».proof.Proof.Gen.FfnUp
public import proofs.«01_k».proof.Proof.Gen.FfnUp.Frame
public import proofs.«01_k».proof.Proof.Gen.FfnUpIdeal
public import proofs.«01_k».proof.Proof.Gen.FfnUpRefIdeal
public import proofs.«01_k».proof.Proof.UpValue
public import Idealize.ShloMosaic.Lib.Claim

@[expose] public section

noncomputable section

namespace Cert.Proof

open Idealize.ShloMosaic Idealize.SL.Sem

theorem up_frame : Cert.quiescent_FfnUp := fun m ρ _ => Cert.FfnUp.Gen.frame m ρ
theorem up_frame_ideal : Cert.quiescent_FfnUpIdeal := fun m ρ _ => Cert.FfnUpIdeal.Gen.frame m ρ
theorem up_frame_ref : Cert.quiescent_FfnUpRefIdeal := by
  intro m ρ _
  hlo_run
  · exact fun _ => ⟨trivial, trivial⟩
  · exact sem_eq_zero_of_no_sems (sig := Cert.FfnUpRefIdeal.sig) (by decide) _
theorem up_preserves : Cert.preserves_FfnUp_FfnUpIdeal := trivial

theorem up_value : Cert.algebraic_FfnUpIdeal_FfnUpRefIdeal := by
  pair_intro
  · run_from Cert.FfnUpIdeal.Value.run_blocks m g
  · run_from Cert.FfnUpRefIdeal.Value.run m' g'
    rw [Cert.FfnUpRefIdeal.Read.val_main_v6_eq, Cert.FfnUpIdeal.Hand.final m]

end Cert.Proof

end
-- ==== Proof.DwValue.lean ====
/-
  The gradient of the gate and up weights: four row tiles are added up, the rows of the gradient in two halves.
-/
module

public import proofs.«01_k».proof.Proof.Gen.DwUpIdeal.Value
public import proofs.«01_k».proof.Proof.Gen.DwUpRefIdeal.Run
public import proofs.«01_k».proof.Proof.Gen.DwUpRefIdeal.Read
public import proofs.«01_k».proof.Proof.ActValue

@[expose] public section

set_option maxRecDepth 16384

noncomputable section

open Idealize.ShloMosaic TcCoe Pointwise Idealize.SL.Sem
open Idealize.ShloMosaic.Pipeline (Dat)

namespace Cert.DwUpIdeal.Hand

open Cert.Common Cert.DwUpIdeal Cert.DwUpIdeal.Gen Cert.DwUpRefIdeal.Read

variable (m : (ℓ : Loc nD τ sig) → Buf (Elt Ideal) ℓ) (c : Dev nD)

theorem idx : ∀ t : Fin cfg0.N, win0_0.index t = ![t.val % 4, 0] ∧ win0_1.index t = ![t.val / 8, t.val % 4, t.val / 4 % 2] ∧ win0_2.index t = ![t.val / 4, 0, 0] := by decide +kernel

theorem tlt (t : Fin cfg0.N) : t.val < 16 := by have := t.isLt; have h : cfg0.N = 16 := N_0; omega

/-- The row of the whole arrays that row `r` of a point's blocks is. -/
def row (t : Fin cfg0.N) (r : Fin 2064) : Fin 8256 := ⟨t.val % 4 * 2064 + r.val, by omega⟩

/-- The column of the gradient that column `f` of a point's block is. -/
def col (t : Fin cfg0.N) (f : Fin 1408) : Fin 5632 := ⟨t.val / 4 * 1408 + f.val, by have := tlt t; omega⟩

theorem blk0 (t : Fin cfg0.N) (r : Fin 2064) (d : Fin 1024) : iblk m c 0 t (ix2 r d) = m (c.tc.loc main_arg0) (ix2 (row t r) d) := by
  blk_simp [iblk, idx t]
  simp only [V, hostOps0]
  entry_read; pointwise; blk_ext [idx t, row]

theorem blk1 (t : Fin cfg0.N) (r : Fin 2064) (f : Fin 1408) : iblk m c 1 t (ix3 0 r f) = m (c.tc.loc main_arg1) (ix2 (row t r) (col t f)) := by
  have := tlt t
  blk_simp [iblk, idx t]
  simp only [V, hostOps0]
  entry_read; pointwise
  split <;> rename_i h <;> blk_simp [idx t] at h <;> blk_ext [idx t, row, col] <;> omega

/-- An entry of the gradient: the rows of the two arrays multiplied and added up. -/
def grad (X : S8256x1024.Idx → EReal) (C : S8256x5632.Idx → EReal) : S4x1024x1408.Idx → EReal := fun i =>
  ∑ r : Fin 8256, X (ix2 r (i 1)) * C (ix2 r ⟨(i 0).val * 1408 + (i 2).val, by have : (i 0).val < 4 := (i 0).isLt; have : (i 2).val < 1408 := (i 2).isLt; omega⟩)

theorem ref (X : S8256x1024.Idx → EReal) (C : S8256x5632.Idx → EReal) : val_main_v5 (F := Ideal) X C = grad X C := by
  funext i
  idx_vars i
  pointwise [val_main_v2, val_main_v3, val_main_v4, val_main_v5]
  exact Finset.sum_congr rfl fun _ _ => mul_comm _ _

/-- What a row tile adds to one entry. -/
def part (X : S8256x1024.Idx → EReal) (C : S8256x5632.Idx → EReal) (t : Fin cfg0.N) (d : Fin 1024) (f : Fin 1408) : EReal :=
  ∑ r : Fin 2064, X (ix2 (row t r) d) * C (ix2 (row t r) (col t f))

/-- The four row tiles make up the product over all rows. -/
theorem sum_parts (X : S8256x1024.Idx → EReal) (C : S8256x5632.Idx → EReal) (t : Fin cfg0.N) (j : S1x1024x1408.Idx) (i : S4x1024x1408.Idx)
    (e0 : (i 0).val = t.val / 4) (e1 : (i 1).val = (j 1).val) (e2 : (i 2).val = (j 2).val) :
    ∑ s : Fin 4, part X C ⟨4 * (t.val / 4) + s.val, by have := tlt t; change _ < 16; omega⟩ (j 1) (j 2) = grad X C i := by
  refine Eq.trans ?_ (Fin.sum_mul_add_fin 4 2064 (fun r : Fin 8256 => X (ix2 r (i 1)) * C (ix2 r ⟨(i 0).val * 1408 + (i 2).val, by have : (i 0).val < 4 := (i 0).isLt; have : (i 2).val < 1408 := (i 2).isLt; omega⟩)) (by decide))
  refine Finset.sum_congr rfl fun s _ => Finset.sum_congr rfl fun r _ => ?_
  have hr : row ⟨4 * (t.val / 4) + s.val, by have := tlt t; change _ < 16; omega⟩ r = ⟨s.val * 2064 + r.val, by omega⟩ := Fin.ext (by dsimp only [row]; omega)
  rw [hr]
  exact congrArg₂ (fun a b : EReal => a * b) (congrArg X (ix2_ext rfl e1.symm)) (congrArg C (ix2_ext rfl (by dsimp only [col]; omega)))

theorem cover {p1 p2 : S1x512x1408.Idx → EReal} (y : S1x1024x1408.Idx) :
    ∃ p ∈ ([⟨Rect.unit ![0, 512, 0] ![1, 512, 1408] inb_S1x1024x1408_S1x512x1408_0_512_0, p1⟩, ⟨Rect.unit ![0, 0, 0] ![1, 512, 1408] inb_S1x1024x1408_S1x512x1408_0_0_0, p2⟩] :
        List (View.Piece (Elt Ideal) S1x1024x1408 .f32)), y ∈ p.1.set :=
  View.cover_of_tiledBy _ ![1, 512, 1408] (by sl_kernel_rfl) y

/-- The zeros a first tile starts from, read back. -/
theorem zeros (v : View sig .tc .vmem S1x1024x1408 .f32) (B : LoadRect S1x1024x1408) (j : B.shape.Idx) :
    v.readCov (Val := Elt Ideal) [⟨Rect.unit ![0, 0, 0] ![1, 1024, 1408] inb_S1x1024x1408_S1x1024x1408_0_0_0, k0_pay1 (F := Ideal)⟩] B j = (0 : EReal) := by
  rw [View.readCov_eq_canon', View.canon_cons_unit_lit (S := S1x1024x1408) _ _ _ (by decide)]
  pointwise [k0_pay1]

theorem ld_low (Z : S1x1024x1408.Idx → EReal) (x : S1x512x1408.Idx) (j : S1x1024x1408.Idx) (h1 : (j 1).val = (x 1).val) (h2 : (j 2).val = (x 2).val) :
    View.ld (Val := Elt Ideal) (S := S1x1024x1408) (e' := .f32) Z (Rect.unit ![0, 0, 0] ![1, 512, 1408] inb_S1x1024x1408_S1x512x1408_0_0_0) x = Z j := by
  idx_vars x
  refine Eq.trans (b := Z (ix3 0 ⟨x1.val, Nat.lt_of_lt_of_le x1.isLt (by decide)⟩ x2)) (by pointwise []) (congrArg Z (funext fun a => ?_))
  match a with
  | 0 => exact Subsingleton.elim (α := Fin 1) _ _
  | 1 => exact Fin.ext h1.symm
  | 2 => exact Fin.ext h2.symm

theorem ld_high (Z : S1x1024x1408.Idx → EReal) (x : S1x512x1408.Idx) (j : S1x1024x1408.Idx) (h1 : (j 1).val = 512 + (x 1).val) (h2 : (j 2).val = (x 2).val) :
    View.ld (Val := Elt Ideal) (S := S1x1024x1408) (e' := .f32) Z (Rect.unit ![0, 512, 0] ![1, 512, 1408] inb_S1x1024x1408_S1x512x1408_0_512_0) x = Z j := by
  idx_vars x
  refine Eq.trans (b := Z (ix3 0 ⟨512 + x1.val, Nat.add_lt_add_left x1.isLt 512⟩ x2)) (by pointwise []) (congrArg Z (funext fun a => ?_))
  match a with
  | 0 => exact Subsingleton.elim (α := Fin 1) _ _
  | 1 => exact Fin.ext h1.symm
  | 2 => exact Fin.ext h2.symm

section Blocks

variable {X : S8256x1024.Idx → EReal} {C : S8256x5632.Idx → EReal} {t : Fin cfg0.N} {s0 : S2064x1024.Idx → EReal} {s1 : S1x2064x1408.Idx → EReal}
  (b0 : ∀ r d, s0 (ix2 r d) = X (ix2 (row t r) d)) (b1 : ∀ r f, s1 (ix3 0 r f) = C (ix2 (row t r) (col t f))) (z : S1x512x1408.Idx → EReal)

include b0 b1

theorem add_low (x : S1x512x1408.Idx) (j : S1x1024x1408.Idx) (h1 : (j 1).val = (x 1).val) (h2 : (j 2).val = (x 2).val) {a : EReal} (hz : z x = a) :
    k0_pay3 (F := Ideal) s1 (View.ld (Val := Elt Ideal) (S := S2064x1024) (e' := .bf16) s0 (Rect.unit ![0, 0] ![2064, 512] inb_S2064x1024_S2064x512_0_0)) z x
      = a + part X C t (j 1) (j 2) := by
  rw [← hz]
  idx_vars x
  pointwise [k0_pay2, k0_pay3]
  simp only [b0, b1]
  rw [Subsingleton.elim x0 0]
  exact congrArg (fun b : EReal => z (ix3 0 x1 x2) + b) (Finset.sum_congr rfl fun r _ => congrArg₂ (fun a b : EReal => a * b)
    (congrArg X (ix2_ext rfl h1.symm)) (congrArg (fun q => C (ix2 (row t r) (col t q))) (Fin.ext h2.symm)))

theorem add_high (x : S1x512x1408.Idx) (j : S1x1024x1408.Idx) (h1 : (j 1).val = 512 + (x 1).val) (h2 : (j 2).val = (x 2).val) {a : EReal} (hz : z x = a) :
    k0_pay4 (F := Ideal) s1 (View.ld (Val := Elt Ideal) (S := S2064x1024) (e' := .bf16) s0 (Rect.unit ![0, 512] ![2064, 512] inb_S2064x1024_S2064x512_0_512)) z x
      = a + part X C t (j 1) (j 2) := by
  rw [← hz]
  idx_vars x
  pointwise [k0_pay2, k0_pay4]
  simp only [b0, b1]
  rw [Subsingleton.elim x0 0]
  exact congrArg (fun b : EReal => z (ix3 0 x1 x2) + b) (Finset.sum_congr rfl fun r _ => congrArg₂ (fun a b : EReal => a * b)
    (congrArg X (ix2_ext rfl h1.symm)) (congrArg (fun q => C (ix2 (row t r) (col t q))) (Fin.ext h2.symm)))

end Blocks

/-- The upper half's load does not meet what was written into the lower half. -/
theorem skip_low (v : View sig .tc .vmem S1x1024x1408 .f32) (p : S1x512x1408.Idx → EReal) (L : List (View.Piece (Elt Ideal) S1x1024x1408 .f32)) :
    v.readCov (Val := Elt Ideal) (⟨Rect.unit ![0, 0, 0] ![1, 512, 1408] inb_S1x1024x1408_S1x512x1408_0_0_0, p⟩ :: L) (Rect.unit ![0, 512, 0] ![1, 512, 1408] inb_S1x1024x1408_S1x512x1408_0_512_0).toLoadRect
      = v.readCov (Val := Elt Ideal) L (Rect.unit ![0, 512, 0] ![1, 512, 1408] inb_S1x1024x1408_S1x512x1408_0_512_0).toLoadRect :=
  View.readCov_skip _ _ _ _ _ (by decide)

theorem final : (dats m 0 c).arrAt 2 cfg0.N = grad (m (c.tc.loc main_arg0)) (m (c.tc.loc main_arg1)) := by
  refine (dats m 0 c).arrAt_eq_of_covers 2 _ (by decide +kernel) fun t hf j => ?_
  blk_simp [idx]
  rw [after0_2]
  have ht := tlt t
  have e0 : ((win0_2.blk t).view.emb j 0).val = t.val / 4 := by blk_simp [idx]; try omega
  have e1 : ((win0_2.blk t).view.emb j 1).val = (j 1).val := by blk_simp [idx]; try omega
  have e2 : ((win0_2.blk t).view.emb j 2).val = (j 2).val := by blk_simp [idx]; try omega
  rw [Pipeline.eq_sum_fin_of_reset_step_apply_of_flush (fun n h => outsAt0 m c n h) 4 (fun _ => 0)
    (fun t j => part (m (c.tc.loc main_arg0)) (m (c.tc.loc main_arg1)) t (j 1) (j 2)) ?_ ?_ t ?_ j]
  · exact (zero_add (M := EReal) _).trans (sum_parts _ _ t j _ e0 e1 e2)
  · intro t h j
    have b0 := blk0 m c t; have b1 := blk1 m c t
    rw [outsAt0_A m c t h]
    frame_out
    refine (Cert.FfnActIdeal.Hand.canon_two (S := S1x1024x1408) (e := .f32) _ _ _ _ _ j (cover j)).trans ?_
    canon_tiles x h using (cover j)
    · exact add_high b0 b1 _ x j h1 h2 ((congrFun (skip_low _ _ _) _).trans (zeros _ _ _))
    · exact add_low b0 b1 _ x j h1 h2 (zeros _ _ _)
  · intro t h j
    have b0 := blk0 m c t; have b1 := blk1 m c t
    rw [outsAt0_B m c t h]
    frame_out
    canon_tiles x h using (cover j)
    · exact add_high b0 b1 _ x j h1 h2 (ld_high _ x j h1 h2)
    · exact add_low b0 b1 _ x j h1 h2 (ld_low _ x j h1 h2)
  · exact (flush0_2 t).mp hf

end Cert.DwUpIdeal.Hand
-- ==== Proof.DwClaims.lean ====
module

public import proofs.«01_k».proof.Defs
public import proofs.«01_k».proof.Proof.Gen.DwUp
public import proofs.«01_k».proof.Proof.Gen.DwUp.Frame
public import proofs.«01_k».proof.Proof.Gen.DwUpIdeal
public import proofs.«01_k».proof.Proof.Gen.DwUpRefIdeal
public import proofs.«01_k».proof.Proof.DwValue
public import Idealize.ShloMosaic.Lib.Claim

@[expose] public section

set_option maxRecDepth 16384

noncomputable section

namespace Cert.Proof

open Idealize.ShloMosaic Idealize.SL.Sem

theorem dw_frame : Cert.quiescent_DwUp := fun m ρ _ => Cert.DwUp.Gen.frame m ρ
theorem dw_frame_ideal : Cert.quiescent_DwUpIdeal := fun m ρ _ => Cert.DwUpIdeal.Gen.frame m ρ
theorem dw_frame_ref : Cert.quiescent_DwUpRefIdeal := by
  intro m ρ _
  hlo_run
  · exact fun _ => ⟨trivial, trivial⟩
  · exact sem_eq_zero_of_no_sems (sig := Cert.DwUpRefIdeal.sig) (by decide) _
theorem dw_preserves : Cert.preserves_DwUp_DwUpIdeal := trivial

theorem dw_value : Cert.algebraic_DwUpIdeal_DwUpRefIdeal := by
  pair_intro
  · run_from Cert.DwUpIdeal.Value.run_blocks m g
  · run_from Cert.DwUpRefIdeal.Value.run m' g'
    rw [Cert.DwUpRefIdeal.Read.val_main_v5_eq, Cert.DwUpIdeal.Hand.ref, Cert.DwUpIdeal.Hand.final m]

end Cert.Proof

end
-- ==== Proof.lean ====
module

public import proofs.«01_k».proof.Defs
public import proofs.«01_k».proof.Proof.Gen.ConvBwd
public import proofs.«01_k».proof.Proof.Gen.ConvBwdIdeal
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.ConvBwdRefIdeal.Read
public import proofs.«01_k».proof.Proof.ConvClaims
public import proofs.«01_k».proof.Proof.Gen.ForgetBwd
public import proofs.«01_k».proof.Proof.Gen.ForgetBwdIdeal
public import proofs.«01_k».proof.Proof.Gen.ForgetBwdIdeal.Value
public import proofs.«01_k».proof.Proof.Gen.ForgetBwdRefIdeal
public import proofs.«01_k».proof.Proof.Gen.ForgetBwdRefIdeal.Run
public import proofs.«01_k».proof.Proof.Gen.ForgetBwdRefIdeal.Read
public import proofs.«01_k».proof.Proof.ForgetClaims
public import proofs.«01_k».proof.Proof.Gen.FfnAct
public import proofs.«01_k».proof.Proof.Gen.FfnActIdeal
public import proofs.«01_k».proof.Proof.Gen.FfnActIdeal.Value
public import proofs.«01_k».proof.Proof.Gen.FfnActRefIdeal
public import proofs.«01_k».proof.Proof.Gen.FfnActRefIdeal.Run
public import proofs.«01_k».proof.Proof.Gen.FfnActRefIdeal.Read
public import proofs.«01_k».proof.Proof.FfnActClaims
public import proofs.«01_k».proof.Proof.Gen.FfnIn
public import proofs.«01_k».proof.Proof.Gen.FfnInIdeal
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.FfnInClaims
public import proofs.«01_k».proof.Proof.Gen.MixOut
public import proofs.«01_k».proof.Proof.Gen.MixOutIdeal
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.MixOutClaims
public import proofs.«01_k».proof.Proof.Gen.MixIn
public import proofs.«01_k».proof.Proof.Gen.MixInIdeal
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.MixInClaims
public import proofs.«01_k».proof.Proof.Gen.AttnBwd
public import proofs.«01_k».proof.Proof.Gen.AttnBwdIdeal
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.AttnBwdClaims
public import proofs.«01_k».proof.Proof.Gen.ForgetSum
public import proofs.«01_k».proof.Proof.Gen.ForgetSumIdeal
public import proofs.«01_k».proof.Proof.Gen.ForgetSumIdeal.Value
public import proofs.«01_k».proof.Proof.Gen.ForgetSumRefIdeal
public import proofs.«01_k».proof.Proof.Gen.ForgetSumRefIdeal.Run
public import proofs.«01_k».proof.Proof.Gen.ForgetSumRefIdeal.Read
public import proofs.«01_k».proof.Proof.SumClaims
public import proofs.«01_k».proof.Proof.Gen.AdamW
public import proofs.«01_k».proof.Proof.Gen.AdamWIdeal
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.AdamWClaims
public import proofs.«01_k».proof.Proof.Gen.MixFwd
public import proofs.«01_k».proof.Proof.Gen.MixFwdIdeal
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.MixFwdClaims
public import proofs.«01_k».proof.Proof.Gen.FfnUp
public import proofs.«01_k».proof.Proof.Gen.FfnUpIdeal
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.UpClaims
public import proofs.«01_k».proof.Proof.Gen.DwUp
public import proofs.«01_k».proof.Proof.Gen.DwUpIdeal
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.DwClaims

@[expose] public section

namespace Cert.Proof

theorem claim : Cert.Claim :=
  ⟨Cert.ConvBwd.Gen.facts,
    Cert.ConvBwdIdeal.Gen.facts,
    Cert.ConvBwdRefIdeal.Gen.facts,
    Cert.ForgetBwd.Gen.facts,
    Cert.ForgetBwdIdeal.Gen.facts,
    Cert.ForgetBwdRefIdeal.Gen.facts,
    Cert.FfnAct.Gen.facts,
    Cert.FfnActIdeal.Gen.facts,
    Cert.FfnActRefIdeal.Gen.facts,
    Cert.FfnIn.Gen.facts,
    Cert.FfnInIdeal.Gen.facts,
    Cert.FfnInRefIdeal.Gen.facts,
    Cert.MixOut.Gen.facts,
    Cert.MixOutIdeal.Gen.facts,
    Cert.MixOutRefIdeal.Gen.facts,
    Cert.MixIn.Gen.facts,
    Cert.MixInIdeal.Gen.facts,
    Cert.MixInRefIdeal.Gen.facts,
    Cert.AttnBwd.Gen.facts,
    Cert.AttnBwdIdeal.Gen.facts,
    Cert.AttnBwdRefIdeal.Gen.facts,
    Cert.ForgetSum.Gen.facts,
    Cert.ForgetSumIdeal.Gen.facts,
    Cert.ForgetSumRefIdeal.Gen.facts,
    Cert.AdamW.Gen.facts,
    Cert.AdamWIdeal.Gen.facts,
    Cert.AdamWRefIdeal.Gen.facts,
    Cert.MixFwd.Gen.facts,
    Cert.MixFwdIdeal.Gen.facts,
    Cert.MixFwdRefIdeal.Gen.facts,
    Cert.FfnUp.Gen.facts,
    Cert.FfnUpIdeal.Gen.facts,
    Cert.FfnUpRefIdeal.Gen.facts,
    Cert.DwUp.Gen.facts,
    Cert.DwUpIdeal.Gen.facts,
    Cert.DwUpRefIdeal.Gen.facts,
    forget_pre_facts,
    act_pre_facts,
    ffnin_pre_facts,
    mixout_pre_facts,
    mixin_pre_facts,
    attn_pre_facts,
    mixfwd_pre_facts,
    conv_frame,
    conv_frame_ideal,
    conv_frame_ref,
    forget_frame,
    forget_frame_ideal,
    forget_frame_ideal_pre,
    forget_frame_ref,
    forget_frame_ref_pre,
    act_frame,
    act_frame_ideal,
    act_frame_ideal_pre,
    act_frame_ref,
    act_frame_ref_pre,
    ffnin_frame,
    ffnin_frame_ideal,
    ffnin_frame_ideal_pre,
    ffnin_frame_ref,
    ffnin_frame_ref_pre,
    mixout_frame,
    mixout_frame_ideal,
    mixout_frame_ideal_pre,
    mixout_frame_ref,
    mixout_frame_ref_pre,
    mixin_frame,
    mixin_frame_ideal,
    mixin_frame_ideal_pre,
    mixin_frame_ref,
    mixin_frame_ref_pre,
    attn_frame,
    attn_frame_ideal,
    attn_frame_ideal_pre,
    attn_frame_ref,
    attn_frame_ref_pre,
    sum_frame,
    sum_frame_ideal,
    sum_frame_ref,
    adamw_frame,
    adamw_frame_ideal,
    adamw_frame_ref,
    mixfwd_frame,
    mixfwd_frame_ideal,
    mixfwd_frame_ideal_pre,
    mixfwd_frame_ref,
    mixfwd_frame_ref_pre,
    up_frame,
    up_frame_ideal,
    up_frame_ref,
    dw_frame,
    dw_frame_ideal,
    dw_frame_ref,
    trivial,
    conv_value,
    trivial,
    forget_value,
    trivial,
    act_value,
    trivial,
    ffnin_value,
    trivial,
    mixout_value,
    trivial,
    mixin_value,
    attn_preserves,
    attn_value,
    trivial,
    sum_value,
    trivial,
    adamw_value,
    trivial,
    mixfwd_value,
    trivial,
    up_value,
    trivial,
    dw_value⟩

end Cert.Proof

end
